-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Even (m : (ℓ : Loc Cert.Even.nD Cert.Even.τ Cert.Even.sig) → Buf (Elt Bits) ℓ) : Prop :=
  True

def Pre_EvenIdeal (m : (ℓ : Loc Cert.EvenIdeal.nD Cert.EvenIdeal.τ Cert.EvenIdeal.sig) → Buf (Elt Ideal) ℓ) : Prop :=
  True

def Pre_EvenReferenceIdeal (m : (ℓ : Loc Cert.EvenReferenceIdeal.nD Cert.EvenReferenceIdeal.τ Cert.EvenReferenceIdeal.sig) → Buf (Elt Ideal) ℓ) : Prop :=
  True

def Pre_Middle (m : (ℓ : Loc Cert.Middle.nD Cert.Middle.τ Cert.Middle.sig) → Buf (Elt Bits) ℓ) : Prop :=
  True

def Pre_MiddleIdeal (m : (ℓ : Loc Cert.MiddleIdeal.nD Cert.MiddleIdeal.τ Cert.MiddleIdeal.sig) → Buf (Elt Ideal) ℓ) : Prop :=
  True

def Pre_MiddleReferenceIdeal (m : (ℓ : Loc Cert.MiddleReferenceIdeal.nD Cert.MiddleReferenceIdeal.τ Cert.MiddleReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_SampleEven (m : (ℓ : Loc Cert.SampleEven.nD Cert.SampleEven.τ Cert.SampleEven.sig) → Buf (Elt Bits) ℓ) : Prop :=
  True

def Pre_SampleEvenIdeal (m : (ℓ : Loc Cert.SampleEvenIdeal.nD Cert.SampleEvenIdeal.τ Cert.SampleEvenIdeal.sig) → Buf (Elt Ideal) ℓ) : Prop :=
  True

def Pre_SampleEvenReferenceIdeal (m : (ℓ : Loc Cert.SampleEvenReferenceIdeal.nD Cert.SampleEvenReferenceIdeal.τ Cert.SampleEvenReferenceIdeal.sig) → Buf (Elt Ideal) ℓ) : Prop :=
  True

def Pre_SampleMiddle (m : (ℓ : Loc Cert.SampleMiddle.nD Cert.SampleMiddle.τ Cert.SampleMiddle.sig) → Buf (Elt Bits) ℓ) : Prop :=
  True

def Pre_SampleMiddleIdeal (m : (ℓ : Loc Cert.SampleMiddleIdeal.nD Cert.SampleMiddleIdeal.τ Cert.SampleMiddleIdeal.sig) → Buf (Elt Ideal) ℓ) : Prop :=
  True

def Pre_SampleMiddleReferenceIdeal (m : (ℓ : Loc Cert.SampleMiddleReferenceIdeal.nD Cert.SampleMiddleReferenceIdeal.τ Cert.SampleMiddleReferenceIdeal.sig) → Buf (Elt Ideal) ℓ) : Prop :=
  True

def Pre_SampleFinal (m : (ℓ : Loc Cert.SampleFinal.nD Cert.SampleFinal.τ Cert.SampleFinal.sig) → Buf (Elt Bits) ℓ) : Prop :=
  True

def Pre_SampleFinalIdeal (m : (ℓ : Loc Cert.SampleFinalIdeal.nD Cert.SampleFinalIdeal.τ Cert.SampleFinalIdeal.sig) → Buf (Elt Ideal) ℓ) : Prop :=
  True

def Pre_SampleFinalReferenceIdeal (m : (ℓ : Loc Cert.SampleFinalReferenceIdeal.nD Cert.SampleFinalReferenceIdeal.τ Cert.SampleFinalReferenceIdeal.sig) → Buf (Elt Ideal) ℓ) : Prop :=
  True

def Pre_Rows (m : (ℓ : Loc Cert.Rows.nD Cert.Rows.τ Cert.Rows.sig) → Buf (Elt Bits) ℓ) : Prop :=
  True

def Pre_RowsIdeal (m : (ℓ : Loc Cert.RowsIdeal.nD Cert.RowsIdeal.τ Cert.RowsIdeal.sig) → Buf (Elt Ideal) ℓ) : Prop :=
  True

def Pre_RowsReferenceIdeal (m : (ℓ : Loc Cert.RowsReferenceIdeal.nD Cert.RowsReferenceIdeal.τ Cert.RowsReferenceIdeal.sig) → Buf (Elt Ideal) ℓ) : Prop :=
  True

def Pre_EvenRows (m : (ℓ : Loc Cert.EvenRows.nD Cert.EvenRows.τ Cert.EvenRows.sig) → Buf (Elt Bits) ℓ) : Prop :=
  True

def Pre_EvenRowsIdeal (m : (ℓ : Loc Cert.EvenRowsIdeal.nD Cert.EvenRowsIdeal.τ Cert.EvenRowsIdeal.sig) → Buf (Elt Ideal) ℓ) : Prop :=
  True

def Pre_EvenRowsReferenceIdeal (m : (ℓ : Loc Cert.EvenRowsReferenceIdeal.nD Cert.EvenRowsReferenceIdeal.τ Cert.EvenRowsReferenceIdeal.sig) → Buf (Elt Ideal) ℓ) : Prop :=
  True

def Pre_SampleBand (m : (ℓ : Loc Cert.SampleBand.nD Cert.SampleBand.τ Cert.SampleBand.sig) → Buf (Elt Bits) ℓ) : Prop :=
  True

def Pre_SampleBandIdeal (m : (ℓ : Loc Cert.SampleBandIdeal.nD Cert.SampleBandIdeal.τ Cert.SampleBandIdeal.sig) → Buf (Elt Ideal) ℓ) : Prop :=
  True

def Pre_SampleBandIdeal_band_finite [hPre_band_finite : Cert.Pre_band_finite.Facts] (m : (ℓ : Loc Cert.SampleBandIdeal.nD Cert.SampleBandIdeal.τ Cert.SampleBandIdeal.sig) → Buf (Elt Ideal) ℓ) : Prop :=
  ∀ c : Dev Cert.SampleBandIdeal.nD,
    (Cert.Pre_band_finite.fn (F := Ideal) (m ((c.tc : Thread Cert.SampleBandIdeal.nD Cert.SampleBandIdeal.τ).loc Cert.SampleBandIdeal.main_arg0)) (m ((c.tc : Thread Cert.SampleBandIdeal.nD Cert.SampleBandIdeal.τ).loc Cert.SampleBandIdeal.main_arg1)) (m ((c.tc : Thread Cert.SampleBandIdeal.nD Cert.SampleBandIdeal.τ).loc Cert.SampleBandIdeal.main_arg2)) (m ((c.tc : Thread Cert.SampleBandIdeal.nD Cert.SampleBandIdeal.τ).loc Cert.SampleBandIdeal.main_arg3))) = (fun _ => 1#1)

def Pre_SampleBandReferenceIdeal (m : (ℓ : Loc Cert.SampleBandReferenceIdeal.nD Cert.SampleBandReferenceIdeal.τ Cert.SampleBandReferenceIdeal.sig) → Buf (Elt Ideal) ℓ) : Prop :=
  True

def Pre_SampleBandReferenceIdeal_band_finite [hPre_band_finite : Cert.Pre_band_finite.Facts] (m : (ℓ : Loc Cert.SampleBandReferenceIdeal.nD Cert.SampleBandReferenceIdeal.τ Cert.SampleBandReferenceIdeal.sig) → Buf (Elt Ideal) ℓ) : Prop :=
  ∀ c : Dev Cert.SampleBandReferenceIdeal.nD,
    (Cert.Pre_band_finite.fn (F := Ideal) (m ((c.tc : Thread Cert.SampleBandReferenceIdeal.nD Cert.SampleBandReferenceIdeal.τ).loc Cert.SampleBandReferenceIdeal.main_arg0)) (m ((c.tc : Thread Cert.SampleBandReferenceIdeal.nD Cert.SampleBandReferenceIdeal.τ).loc Cert.SampleBandReferenceIdeal.main_arg1)) (m ((c.tc : Thread Cert.SampleBandReferenceIdeal.nD Cert.SampleBandReferenceIdeal.τ).loc Cert.SampleBandReferenceIdeal.main_arg2)) (m ((c.tc : Thread Cert.SampleBandReferenceIdeal.nD Cert.SampleBandReferenceIdeal.τ).loc Cert.SampleBandReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Even [hEven : Cert.Even.Facts] : Prop :=
  ∀ (m : (ℓ : Loc Cert.Even.nD Cert.Even.τ Cert.Even.sig) → Buf (Elt Bits) ℓ) (g : Dev Cert.Even.nD → PrngReg), Pre_Even m →
    θ_run (Cert.Even.defs (F := Bits)) (onTc (τ := Cert.Even.τ) (Cert.Even.main (F := Bits))) ⟨m, fun _ => 0, g⟩ (fun r => (∀ c : Dev Cert.Even.nD,
      r.2.mem ((c.tc : Thread Cert.Even.nD Cert.Even.τ).loc Cert.Even.main_arg0) = m ((c.tc : Thread Cert.Even.nD Cert.Even.τ).loc Cert.Even.main_arg0)
      ∧ r.2.mem ((c.tc : Thread Cert.Even.nD Cert.Even.τ).loc Cert.Even.main_arg1) = m ((c.tc : Thread Cert.Even.nD Cert.Even.τ).loc Cert.Even.main_arg1)
      ∧ r.2.mem ((c.tc : Thread Cert.Even.nD Cert.Even.τ).loc Cert.Even.main_arg2) = m ((c.tc : Thread Cert.Even.nD Cert.Even.τ).loc Cert.Even.main_arg2)
      ∧ r.2.mem ((c.tc : Thread Cert.Even.nD Cert.Even.τ).loc Cert.Even.main_arg3) = m ((c.tc : Thread Cert.Even.nD Cert.Even.τ).loc Cert.Even.main_arg3))
      ∧ r.2.sem = fun _ => 0)

def quiescent_EvenIdeal [hEvenIdeal : Cert.EvenIdeal.Facts] : Prop :=
  ∀ (m : (ℓ : Loc Cert.EvenIdeal.nD Cert.EvenIdeal.τ Cert.EvenIdeal.sig) → Buf (Elt Ideal) ℓ) (g : Dev Cert.EvenIdeal.nD → PrngReg), Pre_EvenIdeal m →
    θ_run (Cert.EvenIdeal.defs (F := Ideal)) (onTc (τ := Cert.EvenIdeal.τ) (Cert.EvenIdeal.main (F := Ideal))) ⟨m, fun _ => 0, g⟩ (fun r => (∀ c : Dev Cert.EvenIdeal.nD,
      r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
      ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
      ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
      ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3))
      ∧ r.2.sem = fun _ => 0)

def quiescent_EvenReferenceIdeal [hEvenReferenceIdeal : Cert.EvenReferenceIdeal.Facts] : Prop :=
  ∀ (m : (ℓ : Loc Cert.EvenReferenceIdeal.nD Cert.EvenReferenceIdeal.τ Cert.EvenReferenceIdeal.sig) → Buf (Elt Ideal) ℓ) (g : Dev Cert.EvenReferenceIdeal.nD → PrngReg), Pre_EvenReferenceIdeal m →
    θ_run (Cert.EvenReferenceIdeal.defs (F := Ideal)) (onTc (τ := Cert.EvenReferenceIdeal.τ) (Cert.EvenReferenceIdeal.main (F := Ideal))) ⟨m, fun _ => 0, g⟩ (fun r => (∀ c : Dev Cert.EvenReferenceIdeal.nD,
      r.2.mem ((c.tc : Thread Cert.EvenReferenceIdeal.nD Cert.EvenReferenceIdeal.τ).loc Cert.EvenReferenceIdeal.main_arg0) = m ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m ((c.tc : Thread Cert.EvenReferenceIdeal.nD Cert.EvenReferenceIdeal.τ).loc Cert.EvenReferenceIdeal.main_arg3))
      ∧ r.2.sem = fun _ => 0)

def quiescent_Middle [hMiddle : Cert.Middle.Facts] : Prop :=
  ∀ (m : (ℓ : Loc Cert.Middle.nD Cert.Middle.τ Cert.Middle.sig) → Buf (Elt Bits) ℓ) (g : Dev Cert.Middle.nD → PrngReg), Pre_Middle m →
    θ_run (Cert.Middle.defs (F := Bits)) (onTc (τ := Cert.Middle.τ) (Cert.Middle.main (F := Bits))) ⟨m, fun _ => 0, g⟩ (fun r => (∀ c : Dev Cert.Middle.nD,
      r.2.mem ((c.tc : Thread Cert.Middle.nD Cert.Middle.τ).loc Cert.Middle.main_arg0) = m ((c.tc : Thread Cert.Middle.nD Cert.Middle.τ).loc Cert.Middle.main_arg0)
      ∧ r.2.mem ((c.tc : Thread Cert.Middle.nD Cert.Middle.τ).loc Cert.Middle.main_arg1) = m ((c.tc : Thread Cert.Middle.nD Cert.Middle.τ).loc Cert.Middle.main_arg1)
      ∧ r.2.mem ((c.tc : Thread Cert.Middle.nD Cert.Middle.τ).loc Cert.Middle.main_arg2) = m ((c.tc : Thread Cert.Middle.nD Cert.Middle.τ).loc Cert.Middle.main_arg2)
      ∧ r.2.mem ((c.tc : Thread Cert.Middle.nD Cert.Middle.τ).loc Cert.Middle.main_arg3) = m ((c.tc : Thread Cert.Middle.nD Cert.Middle.τ).loc Cert.Middle.main_arg3)
      ∧ r.2.mem ((c.tc : Thread Cert.Middle.nD Cert.Middle.τ).loc Cert.Middle.main_arg4) = m ((c.tc : Thread Cert.Middle.nD Cert.Middle.τ).loc Cert.Middle.main_arg4)
      ∧ r.2.mem ((c.tc : Thread Cert.Middle.nD Cert.Middle.τ).loc Cert.Middle.main_arg5) = m ((c.tc : Thread Cert.Middle.nD Cert.Middle.τ).loc Cert.Middle.main_arg5))
      ∧ r.2.sem = fun _ => 0)

def quiescent_MiddleIdeal [hMiddleIdeal : Cert.MiddleIdeal.Facts] : Prop :=
  ∀ (m : (ℓ : Loc Cert.MiddleIdeal.nD Cert.MiddleIdeal.τ Cert.MiddleIdeal.sig) → Buf (Elt Ideal) ℓ) (g : Dev Cert.MiddleIdeal.nD → PrngReg), Pre_MiddleIdeal m →
    θ_run (Cert.MiddleIdeal.defs (F := Ideal)) (onTc (τ := Cert.MiddleIdeal.τ) (Cert.MiddleIdeal.main (F := Ideal))) ⟨m, fun _ => 0, g⟩ (fun r => (∀ c : Dev Cert.MiddleIdeal.nD,
      r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
      ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
      ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
      ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
      ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
      ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5))
      ∧ r.2.sem = fun _ => 0)

def quiescent_MiddleReferenceIdeal [hMiddleReferenceIdeal : Cert.MiddleReferenceIdeal.Facts] : Prop :=
  ∀ (m : (ℓ : Loc Cert.MiddleReferenceIdeal.nD Cert.MiddleReferenceIdeal.τ Cert.MiddleReferenceIdeal.sig) → Buf (Elt Ideal) ℓ) (g : Dev Cert.MiddleReferenceIdeal.nD → PrngReg), Pre_MiddleReferenceIdeal m →
    θ_run (Cert.MiddleReferenceIdeal.defs (F := Ideal)) (onTc (τ := Cert.MiddleReferenceIdeal.τ) (Cert.MiddleReferenceIdeal.main (F := Ideal))) ⟨m, fun _ => 0, g⟩ (fun r => (∀ c : Dev Cert.MiddleReferenceIdeal.nD,
      r.2.mem ((c.tc : Thread Cert.MiddleReferenceIdeal.nD Cert.MiddleReferenceIdeal.τ).loc Cert.MiddleReferenceIdeal.main_arg0) = m ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m ((c.tc : Thread Cert.MiddleReferenceIdeal.nD Cert.MiddleReferenceIdeal.τ).loc Cert.MiddleReferenceIdeal.main_arg1)
      ∧ r.2.mem ((c.tc : Thread Cert.MiddleReferenceIdeal.nD Cert.MiddleReferenceIdeal.τ).loc Cert.MiddleReferenceIdeal.main_arg2) = m ((c.tc : Thread Cert.MiddleReferenceIdeal.nD Cert.MiddleReferenceIdeal.τ).loc Cert.MiddleReferenceIdeal.main_arg2)
      ∧ r.2.mem ((c.tc : Thread Cert.MiddleReferenceIdeal.nD Cert.MiddleReferenceIdeal.τ).loc Cert.MiddleReferenceIdeal.main_arg3) = m ((c.tc : Thread Cert.MiddleReferenceIdeal.nD Cert.MiddleReferenceIdeal.τ).loc Cert.MiddleReferenceIdeal.main_arg3)
      ∧ r.2.mem ((c.tc : Thread Cert.MiddleReferenceIdeal.nD Cert.MiddleReferenceIdeal.τ).loc Cert.MiddleReferenceIdeal.main_arg4) = m ((c.tc : Thread Cert.MiddleReferenceIdeal.nD Cert.MiddleReferenceIdeal.τ).loc Cert.MiddleReferenceIdeal.main_arg4)
      ∧ r.2.mem ((c.tc : Thread Cert.MiddleReferenceIdeal.nD Cert.MiddleReferenceIdeal.τ).loc Cert.MiddleReferenceIdeal.main_arg5) = m ((c.tc : Thread Cert.MiddleReferenceIdeal.nD Cert.MiddleReferenceIdeal.τ).loc Cert.MiddleReferenceIdeal.main_arg5))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3))
      ∧ r.2.sem = fun _ => 0)

def quiescent_SampleEven [hSampleEven : Cert.SampleEven.Facts] : Prop :=
  ∀ (m : (ℓ : Loc Cert.SampleEven.nD Cert.SampleEven.τ Cert.SampleEven.sig) → Buf (Elt Bits) ℓ) (g : Dev Cert.SampleEven.nD → PrngReg), Pre_SampleEven m →
    θ_run (Cert.SampleEven.defs (F := Bits)) (onTc (τ := Cert.SampleEven.τ) (Cert.SampleEven.main (F := Bits))) ⟨m, fun _ => 0, g⟩ (fun r => (∀ c : Dev Cert.SampleEven.nD,
      r.2.mem ((c.tc : Thread Cert.SampleEven.nD Cert.SampleEven.τ).loc Cert.SampleEven.main_arg0) = m ((c.tc : Thread Cert.SampleEven.nD Cert.SampleEven.τ).loc Cert.SampleEven.main_arg0)
      ∧ r.2.mem ((c.tc : Thread Cert.SampleEven.nD Cert.SampleEven.τ).loc Cert.SampleEven.main_arg1) = m ((c.tc : Thread Cert.SampleEven.nD Cert.SampleEven.τ).loc Cert.SampleEven.main_arg1)
      ∧ r.2.mem ((c.tc : Thread Cert.SampleEven.nD Cert.SampleEven.τ).loc Cert.SampleEven.main_arg2) = m ((c.tc : Thread Cert.SampleEven.nD Cert.SampleEven.τ).loc Cert.SampleEven.main_arg2)
      ∧ r.2.mem ((c.tc : Thread Cert.SampleEven.nD Cert.SampleEven.τ).loc Cert.SampleEven.main_arg3) = m ((c.tc : Thread Cert.SampleEven.nD Cert.SampleEven.τ).loc Cert.SampleEven.main_arg3))
      ∧ r.2.sem = fun _ => 0)

def quiescent_SampleEvenIdeal [hSampleEvenIdeal : Cert.SampleEvenIdeal.Facts] : Prop :=
  ∀ (m : (ℓ : Loc Cert.SampleEvenIdeal.nD Cert.SampleEvenIdeal.τ Cert.SampleEvenIdeal.sig) → Buf (Elt Ideal) ℓ) (g : Dev Cert.SampleEvenIdeal.nD → PrngReg), Pre_SampleEvenIdeal m →
    θ_run (Cert.SampleEvenIdeal.defs (F := Ideal)) (onTc (τ := Cert.SampleEvenIdeal.τ) (Cert.SampleEvenIdeal.main (F := Ideal))) ⟨m, fun _ => 0, g⟩ (fun r => (∀ c : Dev Cert.SampleEvenIdeal.nD,
      r.2.mem ((c.tc : Thread Cert.SampleEvenIdeal.nD Cert.SampleEvenIdeal.τ).loc Cert.SampleEvenIdeal.main_arg0) = m ((c.tc : Thread Cert.SampleEvenIdeal.nD Cert.SampleEvenIdeal.τ).loc Cert.SampleEvenIdeal.main_arg0)
      ∧ r.2.mem ((c.tc : Thread Cert.SampleEvenIdeal.nD Cert.SampleEvenIdeal.τ).loc Cert.SampleEvenIdeal.main_arg1) = m ((c.tc : Thread Cert.SampleEvenIdeal.nD Cert.SampleEvenIdeal.τ).loc Cert.SampleEvenIdeal.main_arg1)
      ∧ r.2.mem ((c.tc : Thread Cert.SampleEvenIdeal.nD Cert.SampleEvenIdeal.τ).loc Cert.SampleEvenIdeal.main_arg2) = m ((c.tc : Thread Cert.SampleEvenIdeal.nD Cert.SampleEvenIdeal.τ).loc Cert.SampleEvenIdeal.main_arg2)
      ∧ r.2.mem ((c.tc : Thread Cert.SampleEvenIdeal.nD Cert.SampleEvenIdeal.τ).loc Cert.SampleEvenIdeal.main_arg3) = m ((c.tc : Thread Cert.SampleEvenIdeal.nD Cert.SampleEvenIdeal.τ).loc Cert.SampleEvenIdeal.main_arg3))
      ∧ r.2.sem = fun _ => 0)

def quiescent_SampleEvenReferenceIdeal [hSampleEvenReferenceIdeal : Cert.SampleEvenReferenceIdeal.Facts] : Prop :=
  ∀ (m : (ℓ : Loc Cert.SampleEvenReferenceIdeal.nD Cert.SampleEvenReferenceIdeal.τ Cert.SampleEvenReferenceIdeal.sig) → Buf (Elt Ideal) ℓ) (g : Dev Cert.SampleEvenReferenceIdeal.nD → PrngReg), Pre_SampleEvenReferenceIdeal m →
    θ_run (Cert.SampleEvenReferenceIdeal.defs (F := Ideal)) (onTc (τ := Cert.SampleEvenReferenceIdeal.τ) (Cert.SampleEvenReferenceIdeal.main (F := Ideal))) ⟨m, fun _ => 0, g⟩ (fun r => (∀ c : Dev Cert.SampleEvenReferenceIdeal.nD,
      r.2.mem ((c.tc : Thread Cert.SampleEvenReferenceIdeal.nD Cert.SampleEvenReferenceIdeal.τ).loc Cert.SampleEvenReferenceIdeal.main_arg0) = m ((c.tc : Thread Cert.SampleEvenReferenceIdeal.nD Cert.SampleEvenReferenceIdeal.τ).loc Cert.SampleEvenReferenceIdeal.main_arg0)
      ∧ r.2.mem ((c.tc : Thread Cert.SampleEvenReferenceIdeal.nD Cert.SampleEvenReferenceIdeal.τ).loc Cert.SampleEvenReferenceIdeal.main_arg1) = m ((c.tc : Thread Cert.SampleEvenReferenceIdeal.nD Cert.SampleEvenReferenceIdeal.τ).loc Cert.SampleEvenReferenceIdeal.main_arg1)
      ∧ r.2.mem ((c.tc : Thread Cert.SampleEvenReferenceIdeal.nD Cert.SampleEvenReferenceIdeal.τ).loc Cert.SampleEvenReferenceIdeal.main_arg2) = m ((c.tc : Thread Cert.SampleEvenReferenceIdeal.nD Cert.SampleEvenReferenceIdeal.τ).loc Cert.SampleEvenReferenceIdeal.main_arg2)
      ∧ r.2.mem ((c.tc : Thread Cert.SampleEvenReferenceIdeal.nD Cert.SampleEvenReferenceIdeal.τ).loc Cert.SampleEvenReferenceIdeal.main_arg3) = m ((c.tc : Thread Cert.SampleEvenReferenceIdeal.nD Cert.SampleEvenReferenceIdeal.τ).loc Cert.SampleEvenReferenceIdeal.main_arg3))
      ∧ r.2.sem = fun _ => 0)

def quiescent_SampleMiddle [hSampleMiddle : Cert.SampleMiddle.Facts] : Prop :=
  ∀ (m : (ℓ : Loc Cert.SampleMiddle.nD Cert.SampleMiddle.τ Cert.SampleMiddle.sig) → Buf (Elt Bits) ℓ) (g : Dev Cert.SampleMiddle.nD → PrngReg), Pre_SampleMiddle m →
    θ_run (Cert.SampleMiddle.defs (F := Bits)) (onTc (τ := Cert.SampleMiddle.τ) (Cert.SampleMiddle.main (F := Bits))) ⟨m, fun _ => 0, g⟩ (fun r => (∀ c : Dev Cert.SampleMiddle.nD,
      r.2.mem ((c.tc : Thread Cert.SampleMiddle.nD Cert.SampleMiddle.τ).loc Cert.SampleMiddle.main_arg0) = m ((c.tc : Thread Cert.SampleMiddle.nD Cert.SampleMiddle.τ).loc Cert.SampleMiddle.main_arg0)
      ∧ r.2.mem ((c.tc : Thread Cert.SampleMiddle.nD Cert.SampleMiddle.τ).loc Cert.SampleMiddle.main_arg1) = m ((c.tc : Thread Cert.SampleMiddle.nD Cert.SampleMiddle.τ).loc Cert.SampleMiddle.main_arg1)
      ∧ r.2.mem ((c.tc : Thread Cert.SampleMiddle.nD Cert.SampleMiddle.τ).loc Cert.SampleMiddle.main_arg2) = m ((c.tc : Thread Cert.SampleMiddle.nD Cert.SampleMiddle.τ).loc Cert.SampleMiddle.main_arg2)
      ∧ r.2.mem ((c.tc : Thread Cert.SampleMiddle.nD Cert.SampleMiddle.τ).loc Cert.SampleMiddle.main_arg3) = m ((c.tc : Thread Cert.SampleMiddle.nD Cert.SampleMiddle.τ).loc Cert.SampleMiddle.main_arg3)
      ∧ r.2.mem ((c.tc : Thread Cert.SampleMiddle.nD Cert.SampleMiddle.τ).loc Cert.SampleMiddle.main_arg4) = m ((c.tc : Thread Cert.SampleMiddle.nD Cert.SampleMiddle.τ).loc Cert.SampleMiddle.main_arg4)
      ∧ r.2.mem ((c.tc : Thread Cert.SampleMiddle.nD Cert.SampleMiddle.τ).loc Cert.SampleMiddle.main_arg5) = m ((c.tc : Thread Cert.SampleMiddle.nD Cert.SampleMiddle.τ).loc Cert.SampleMiddle.main_arg5))
      ∧ r.2.sem = fun _ => 0)

def quiescent_SampleMiddleIdeal [hSampleMiddleIdeal : Cert.SampleMiddleIdeal.Facts] : Prop :=
  ∀ (m : (ℓ : Loc Cert.SampleMiddleIdeal.nD Cert.SampleMiddleIdeal.τ Cert.SampleMiddleIdeal.sig) → Buf (Elt Ideal) ℓ) (g : Dev Cert.SampleMiddleIdeal.nD → PrngReg), Pre_SampleMiddleIdeal m →
    θ_run (Cert.SampleMiddleIdeal.defs (F := Ideal)) (onTc (τ := Cert.SampleMiddleIdeal.τ) (Cert.SampleMiddleIdeal.main (F := Ideal))) ⟨m, fun _ => 0, g⟩ (fun r => (∀ c : Dev Cert.SampleMiddleIdeal.nD,
      r.2.mem ((c.tc : Thread Cert.SampleMiddleIdeal.nD Cert.SampleMiddleIdeal.τ).loc Cert.SampleMiddleIdeal.main_arg0) = m ((c.tc : Thread Cert.SampleMiddleIdeal.nD Cert.SampleMiddleIdeal.τ).loc Cert.SampleMiddleIdeal.main_arg0)
      ∧ r.2.mem ((c.tc : Thread Cert.SampleMiddleIdeal.nD Cert.SampleMiddleIdeal.τ).loc Cert.SampleMiddleIdeal.main_arg1) = m ((c.tc : Thread Cert.SampleMiddleIdeal.nD Cert.SampleMiddleIdeal.τ).loc Cert.SampleMiddleIdeal.main_arg1)
      ∧ r.2.mem ((c.tc : Thread Cert.SampleMiddleIdeal.nD Cert.SampleMiddleIdeal.τ).loc Cert.SampleMiddleIdeal.main_arg2) = m ((c.tc : Thread Cert.SampleMiddleIdeal.nD Cert.SampleMiddleIdeal.τ).loc Cert.SampleMiddleIdeal.main_arg2)
      ∧ r.2.mem ((c.tc : Thread Cert.SampleMiddleIdeal.nD Cert.SampleMiddleIdeal.τ).loc Cert.SampleMiddleIdeal.main_arg3) = m ((c.tc : Thread Cert.SampleMiddleIdeal.nD Cert.SampleMiddleIdeal.τ).loc Cert.SampleMiddleIdeal.main_arg3)
      ∧ r.2.mem ((c.tc : Thread Cert.SampleMiddleIdeal.nD Cert.SampleMiddleIdeal.τ).loc Cert.SampleMiddleIdeal.main_arg4) = m ((c.tc : Thread Cert.SampleMiddleIdeal.nD Cert.SampleMiddleIdeal.τ).loc Cert.SampleMiddleIdeal.main_arg4)
      ∧ r.2.mem ((c.tc : Thread Cert.SampleMiddleIdeal.nD Cert.SampleMiddleIdeal.τ).loc Cert.SampleMiddleIdeal.main_arg5) = m ((c.tc : Thread Cert.SampleMiddleIdeal.nD Cert.SampleMiddleIdeal.τ).loc Cert.SampleMiddleIdeal.main_arg5))
      ∧ r.2.sem = fun _ => 0)

def quiescent_SampleMiddleReferenceIdeal [hSampleMiddleReferenceIdeal : Cert.SampleMiddleReferenceIdeal.Facts] : Prop :=
  ∀ (m : (ℓ : Loc Cert.SampleMiddleReferenceIdeal.nD Cert.SampleMiddleReferenceIdeal.τ Cert.SampleMiddleReferenceIdeal.sig) → Buf (Elt Ideal) ℓ) (g : Dev Cert.SampleMiddleReferenceIdeal.nD → PrngReg), Pre_SampleMiddleReferenceIdeal m →
    θ_run (Cert.SampleMiddleReferenceIdeal.defs (F := Ideal)) (onTc (τ := Cert.SampleMiddleReferenceIdeal.τ) (Cert.SampleMiddleReferenceIdeal.main (F := Ideal))) ⟨m, fun _ => 0, g⟩ (fun r => (∀ c : Dev Cert.SampleMiddleReferenceIdeal.nD,
      r.2.mem ((c.tc : Thread Cert.SampleMiddleReferenceIdeal.nD Cert.SampleMiddleReferenceIdeal.τ).loc Cert.SampleMiddleReferenceIdeal.main_arg0) = m ((c.tc : Thread Cert.SampleMiddleReferenceIdeal.nD Cert.SampleMiddleReferenceIdeal.τ).loc Cert.SampleMiddleReferenceIdeal.main_arg0)
      ∧ r.2.mem ((c.tc : Thread Cert.SampleMiddleReferenceIdeal.nD Cert.SampleMiddleReferenceIdeal.τ).loc Cert.SampleMiddleReferenceIdeal.main_arg1) = m ((c.tc : Thread Cert.SampleMiddleReferenceIdeal.nD Cert.SampleMiddleReferenceIdeal.τ).loc Cert.SampleMiddleReferenceIdeal.main_arg1)
      ∧ r.2.mem ((c.tc : Thread Cert.SampleMiddleReferenceIdeal.nD Cert.SampleMiddleReferenceIdeal.τ).loc Cert.SampleMiddleReferenceIdeal.main_arg2) = m ((c.tc : Thread Cert.SampleMiddleReferenceIdeal.nD Cert.SampleMiddleReferenceIdeal.τ).loc Cert.SampleMiddleReferenceIdeal.main_arg2)
      ∧ r.2.mem ((c.tc : Thread Cert.SampleMiddleReferenceIdeal.nD Cert.SampleMiddleReferenceIdeal.τ).loc Cert.SampleMiddleReferenceIdeal.main_arg3) = m ((c.tc : Thread Cert.SampleMiddleReferenceIdeal.nD Cert.SampleMiddleReferenceIdeal.τ).loc Cert.SampleMiddleReferenceIdeal.main_arg3)
      ∧ r.2.mem ((c.tc : Thread Cert.SampleMiddleReferenceIdeal.nD Cert.SampleMiddleReferenceIdeal.τ).loc Cert.SampleMiddleReferenceIdeal.main_arg4) = m ((c.tc : Thread Cert.SampleMiddleReferenceIdeal.nD Cert.SampleMiddleReferenceIdeal.τ).loc Cert.SampleMiddleReferenceIdeal.main_arg4)
      ∧ r.2.mem ((c.tc : Thread Cert.SampleMiddleReferenceIdeal.nD Cert.SampleMiddleReferenceIdeal.τ).loc Cert.SampleMiddleReferenceIdeal.main_arg5) = m ((c.tc : Thread Cert.SampleMiddleReferenceIdeal.nD Cert.SampleMiddleReferenceIdeal.τ).loc Cert.SampleMiddleReferenceIdeal.main_arg5))
      ∧ r.2.sem = fun _ => 0)

def quiescent_SampleFinal [hSampleFinal : Cert.SampleFinal.Facts] : Prop :=
  ∀ (m : (ℓ : Loc Cert.SampleFinal.nD Cert.SampleFinal.τ Cert.SampleFinal.sig) → Buf (Elt Bits) ℓ) (g : Dev Cert.SampleFinal.nD → PrngReg), Pre_SampleFinal m →
    θ_run (Cert.SampleFinal.defs (F := Bits)) (onTc (τ := Cert.SampleFinal.τ) (Cert.SampleFinal.main (F := Bits))) ⟨m, fun _ => 0, g⟩ (fun r => (∀ c : Dev Cert.SampleFinal.nD,
      r.2.mem ((c.tc : Thread Cert.SampleFinal.nD Cert.SampleFinal.τ).loc Cert.SampleFinal.main_arg0) = m ((c.tc : Thread Cert.SampleFinal.nD Cert.SampleFinal.τ).loc Cert.SampleFinal.main_arg0)
      ∧ r.2.mem ((c.tc : Thread Cert.SampleFinal.nD Cert.SampleFinal.τ).loc Cert.SampleFinal.main_arg1) = m ((c.tc : Thread Cert.SampleFinal.nD Cert.SampleFinal.τ).loc Cert.SampleFinal.main_arg1)
      ∧ r.2.mem ((c.tc : Thread Cert.SampleFinal.nD Cert.SampleFinal.τ).loc Cert.SampleFinal.main_arg2) = m ((c.tc : Thread Cert.SampleFinal.nD Cert.SampleFinal.τ).loc Cert.SampleFinal.main_arg2)
      ∧ r.2.mem ((c.tc : Thread Cert.SampleFinal.nD Cert.SampleFinal.τ).loc Cert.SampleFinal.main_arg3) = m ((c.tc : Thread Cert.SampleFinal.nD Cert.SampleFinal.τ).loc Cert.SampleFinal.main_arg3))
      ∧ r.2.sem = fun _ => 0)

def quiescent_SampleFinalIdeal [hSampleFinalIdeal : Cert.SampleFinalIdeal.Facts] : Prop :=
  ∀ (m : (ℓ : Loc Cert.SampleFinalIdeal.nD Cert.SampleFinalIdeal.τ Cert.SampleFinalIdeal.sig) → Buf (Elt Ideal) ℓ) (g : Dev Cert.SampleFinalIdeal.nD → PrngReg), Pre_SampleFinalIdeal m →
    θ_run (Cert.SampleFinalIdeal.defs (F := Ideal)) (onTc (τ := Cert.SampleFinalIdeal.τ) (Cert.SampleFinalIdeal.main (F := Ideal))) ⟨m, fun _ => 0, g⟩ (fun r => (∀ c : Dev Cert.SampleFinalIdeal.nD,
      r.2.mem ((c.tc : Thread Cert.SampleFinalIdeal.nD Cert.SampleFinalIdeal.τ).loc Cert.SampleFinalIdeal.main_arg0) = m ((c.tc : Thread Cert.SampleFinalIdeal.nD Cert.SampleFinalIdeal.τ).loc Cert.SampleFinalIdeal.main_arg0)
      ∧ r.2.mem ((c.tc : Thread Cert.SampleFinalIdeal.nD Cert.SampleFinalIdeal.τ).loc Cert.SampleFinalIdeal.main_arg1) = m ((c.tc : Thread Cert.SampleFinalIdeal.nD Cert.SampleFinalIdeal.τ).loc Cert.SampleFinalIdeal.main_arg1)
      ∧ r.2.mem ((c.tc : Thread Cert.SampleFinalIdeal.nD Cert.SampleFinalIdeal.τ).loc Cert.SampleFinalIdeal.main_arg2) = m ((c.tc : Thread Cert.SampleFinalIdeal.nD Cert.SampleFinalIdeal.τ).loc Cert.SampleFinalIdeal.main_arg2)
      ∧ r.2.mem ((c.tc : Thread Cert.SampleFinalIdeal.nD Cert.SampleFinalIdeal.τ).loc Cert.SampleFinalIdeal.main_arg3) = m ((c.tc : Thread Cert.SampleFinalIdeal.nD Cert.SampleFinalIdeal.τ).loc Cert.SampleFinalIdeal.main_arg3))
      ∧ r.2.sem = fun _ => 0)

def quiescent_SampleFinalReferenceIdeal [hSampleFinalReferenceIdeal : Cert.SampleFinalReferenceIdeal.Facts] : Prop :=
  ∀ (m : (ℓ : Loc Cert.SampleFinalReferenceIdeal.nD Cert.SampleFinalReferenceIdeal.τ Cert.SampleFinalReferenceIdeal.sig) → Buf (Elt Ideal) ℓ) (g : Dev Cert.SampleFinalReferenceIdeal.nD → PrngReg), Pre_SampleFinalReferenceIdeal m →
    θ_run (Cert.SampleFinalReferenceIdeal.defs (F := Ideal)) (onTc (τ := Cert.SampleFinalReferenceIdeal.τ) (Cert.SampleFinalReferenceIdeal.main (F := Ideal))) ⟨m, fun _ => 0, g⟩ (fun r => (∀ c : Dev Cert.SampleFinalReferenceIdeal.nD,
      r.2.mem ((c.tc : Thread Cert.SampleFinalReferenceIdeal.nD Cert.SampleFinalReferenceIdeal.τ).loc Cert.SampleFinalReferenceIdeal.main_arg0) = m ((c.tc : Thread Cert.SampleFinalReferenceIdeal.nD Cert.SampleFinalReferenceIdeal.τ).loc Cert.SampleFinalReferenceIdeal.main_arg0)
      ∧ r.2.mem ((c.tc : Thread Cert.SampleFinalReferenceIdeal.nD Cert.SampleFinalReferenceIdeal.τ).loc Cert.SampleFinalReferenceIdeal.main_arg1) = m ((c.tc : Thread Cert.SampleFinalReferenceIdeal.nD Cert.SampleFinalReferenceIdeal.τ).loc Cert.SampleFinalReferenceIdeal.main_arg1)
      ∧ r.2.mem ((c.tc : Thread Cert.SampleFinalReferenceIdeal.nD Cert.SampleFinalReferenceIdeal.τ).loc Cert.SampleFinalReferenceIdeal.main_arg2) = m ((c.tc : Thread Cert.SampleFinalReferenceIdeal.nD Cert.SampleFinalReferenceIdeal.τ).loc Cert.SampleFinalReferenceIdeal.main_arg2)
      ∧ r.2.mem ((c.tc : Thread Cert.SampleFinalReferenceIdeal.nD Cert.SampleFinalReferenceIdeal.τ).loc Cert.SampleFinalReferenceIdeal.main_arg3) = m ((c.tc : Thread Cert.SampleFinalReferenceIdeal.nD Cert.SampleFinalReferenceIdeal.τ).loc Cert.SampleFinalReferenceIdeal.main_arg3))
      ∧ r.2.sem = fun _ => 0)

def quiescent_Rows [hRows : Cert.Rows.Facts] : Prop :=
  ∀ (m : (ℓ : Loc Cert.Rows.nD Cert.Rows.τ Cert.Rows.sig) → Buf (Elt Bits) ℓ) (g : Dev Cert.Rows.nD → PrngReg), Pre_Rows m →
    θ_run (Cert.Rows.defs (F := Bits)) (onTc (τ := Cert.Rows.τ) (Cert.Rows.main (F := Bits))) ⟨m, fun _ => 0, g⟩ (fun r => (∀ c : Dev Cert.Rows.nD,
      r.2.mem ((c.tc : Thread Cert.Rows.nD Cert.Rows.τ).loc Cert.Rows.main_arg0) = m ((c.tc : Thread Cert.Rows.nD Cert.Rows.τ).loc Cert.Rows.main_arg0)
      ∧ r.2.mem ((c.tc : Thread Cert.Rows.nD Cert.Rows.τ).loc Cert.Rows.main_arg1) = m ((c.tc : Thread Cert.Rows.nD Cert.Rows.τ).loc Cert.Rows.main_arg1))
      ∧ r.2.sem = fun _ => 0)

def quiescent_RowsIdeal [hRowsIdeal : Cert.RowsIdeal.Facts] : Prop :=
  ∀ (m : (ℓ : Loc Cert.RowsIdeal.nD Cert.RowsIdeal.τ Cert.RowsIdeal.sig) → Buf (Elt Ideal) ℓ) (g : Dev Cert.RowsIdeal.nD → PrngReg), Pre_RowsIdeal m →
    θ_run (Cert.RowsIdeal.defs (F := Ideal)) (onTc (τ := Cert.RowsIdeal.τ) (Cert.RowsIdeal.main (F := Ideal))) ⟨m, fun _ => 0, g⟩ (fun r => (∀ c : Dev Cert.RowsIdeal.nD,
      r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
      ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ r.2.sem = fun _ => 0)

def quiescent_RowsReferenceIdeal [hRowsReferenceIdeal : Cert.RowsReferenceIdeal.Facts] : Prop :=
  ∀ (m : (ℓ : Loc Cert.RowsReferenceIdeal.nD Cert.RowsReferenceIdeal.τ Cert.RowsReferenceIdeal.sig) → Buf (Elt Ideal) ℓ) (g : Dev Cert.RowsReferenceIdeal.nD → PrngReg), Pre_RowsReferenceIdeal m →
    θ_run (Cert.RowsReferenceIdeal.defs (F := Ideal)) (onTc (τ := Cert.RowsReferenceIdeal.τ) (Cert.RowsReferenceIdeal.main (F := Ideal))) ⟨m, fun _ => 0, g⟩ (fun r => (∀ c : Dev Cert.RowsReferenceIdeal.nD,
      r.2.mem ((c.tc : Thread Cert.RowsReferenceIdeal.nD Cert.RowsReferenceIdeal.τ).loc Cert.RowsReferenceIdeal.main_arg0) = m ((c.tc : Thread Cert.RowsReferenceIdeal.nD Cert.RowsReferenceIdeal.τ).loc Cert.RowsReferenceIdeal.main_arg0)
      ∧ r.2.mem ((c.tc : Thread Cert.RowsReferenceIdeal.nD Cert.RowsReferenceIdeal.τ).loc Cert.RowsReferenceIdeal.main_arg1) = m ((c.tc : Thread Cert.RowsReferenceIdeal.nD Cert.RowsReferenceIdeal.τ).loc Cert.RowsReferenceIdeal.main_arg1))
      ∧ r.2.sem = fun _ => 0)

def quiescent_EvenRows [hEvenRows : Cert.EvenRows.Facts] : Prop :=
  ∀ (m : (ℓ : Loc Cert.EvenRows.nD Cert.EvenRows.τ Cert.EvenRows.sig) → Buf (Elt Bits) ℓ) (g : Dev Cert.EvenRows.nD → PrngReg), Pre_EvenRows m →
    θ_run (Cert.EvenRows.defs (F := Bits)) (onTc (τ := Cert.EvenRows.τ) (Cert.EvenRows.main (F := Bits))) ⟨m, fun _ => 0, g⟩ (fun r => (∀ c : Dev Cert.EvenRows.nD,
      r.2.mem ((c.tc : Thread Cert.EvenRows.nD Cert.EvenRows.τ).loc Cert.EvenRows.main_arg0) = m ((c.tc : Thread Cert.EvenRows.nD Cert.EvenRows.τ).loc Cert.EvenRows.main_arg0)
      ∧ r.2.mem ((c.tc : Thread Cert.EvenRows.nD Cert.EvenRows.τ).loc Cert.EvenRows.main_arg1) = m ((c.tc : Thread Cert.EvenRows.nD Cert.EvenRows.τ).loc Cert.EvenRows.main_arg1))
      ∧ r.2.sem = fun _ => 0)

def quiescent_EvenRowsIdeal [hEvenRowsIdeal : Cert.EvenRowsIdeal.Facts] : Prop :=
  ∀ (m : (ℓ : Loc Cert.EvenRowsIdeal.nD Cert.EvenRowsIdeal.τ Cert.EvenRowsIdeal.sig) → Buf (Elt Ideal) ℓ) (g : Dev Cert.EvenRowsIdeal.nD → PrngReg), Pre_EvenRowsIdeal m →
    θ_run (Cert.EvenRowsIdeal.defs (F := Ideal)) (onTc (τ := Cert.EvenRowsIdeal.τ) (Cert.EvenRowsIdeal.main (F := Ideal))) ⟨m, fun _ => 0, g⟩ (fun r => (∀ c : Dev Cert.EvenRowsIdeal.nD,
      r.2.mem ((c.tc : Thread Cert.EvenRowsIdeal.nD Cert.EvenRowsIdeal.τ).loc Cert.EvenRowsIdeal.main_arg0) = m ((c.tc : Thread Cert.EvenRowsIdeal.nD Cert.EvenRowsIdeal.τ).loc Cert.EvenRowsIdeal.main_arg0)
      ∧ r.2.mem ((c.tc : Thread Cert.EvenRowsIdeal.nD Cert.EvenRowsIdeal.τ).loc Cert.EvenRowsIdeal.main_arg1) = m ((c.tc : Thread Cert.EvenRowsIdeal.nD Cert.EvenRowsIdeal.τ).loc Cert.EvenRowsIdeal.main_arg1))
      ∧ r.2.sem = fun _ => 0)

def quiescent_EvenRowsReferenceIdeal [hEvenRowsReferenceIdeal : Cert.EvenRowsReferenceIdeal.Facts] : Prop :=
  ∀ (m : (ℓ : Loc Cert.EvenRowsReferenceIdeal.nD Cert.EvenRowsReferenceIdeal.τ Cert.EvenRowsReferenceIdeal.sig) → Buf (Elt Ideal) ℓ) (g : Dev Cert.EvenRowsReferenceIdeal.nD → PrngReg), Pre_EvenRowsReferenceIdeal m →
    θ_run (Cert.EvenRowsReferenceIdeal.defs (F := Ideal)) (onTc (τ := Cert.EvenRowsReferenceIdeal.τ) (Cert.EvenRowsReferenceIdeal.main (F := Ideal))) ⟨m, fun _ => 0, g⟩ (fun r => (∀ c : Dev Cert.EvenRowsReferenceIdeal.nD,
      r.2.mem ((c.tc : Thread Cert.EvenRowsReferenceIdeal.nD Cert.EvenRowsReferenceIdeal.τ).loc Cert.EvenRowsReferenceIdeal.main_arg0) = m ((c.tc : Thread Cert.EvenRowsReferenceIdeal.nD Cert.EvenRowsReferenceIdeal.τ).loc Cert.EvenRowsReferenceIdeal.main_arg0)
      ∧ r.2.mem ((c.tc : Thread Cert.EvenRowsReferenceIdeal.nD Cert.EvenRowsReferenceIdeal.τ).loc Cert.EvenRowsReferenceIdeal.main_arg1) = m ((c.tc : Thread Cert.EvenRowsReferenceIdeal.nD Cert.EvenRowsReferenceIdeal.τ).loc Cert.EvenRowsReferenceIdeal.main_arg1))
      ∧ r.2.sem = fun _ => 0)

def quiescent_SampleBand [hSampleBand : Cert.SampleBand.Facts] : Prop :=
  ∀ (m : (ℓ : Loc Cert.SampleBand.nD Cert.SampleBand.τ Cert.SampleBand.sig) → Buf (Elt Bits) ℓ) (g : Dev Cert.SampleBand.nD → PrngReg), Pre_SampleBand m →
    θ_run (Cert.SampleBand.defs (F := Bits)) (onTc (τ := Cert.SampleBand.τ) (Cert.SampleBand.main (F := Bits))) ⟨m, fun _ => 0, g⟩ (fun r => (∀ c : Dev Cert.SampleBand.nD,
      r.2.mem ((c.tc : Thread Cert.SampleBand.nD Cert.SampleBand.τ).loc Cert.SampleBand.main_arg0) = m ((c.tc : Thread Cert.SampleBand.nD Cert.SampleBand.τ).loc Cert.SampleBand.main_arg0)
      ∧ r.2.mem ((c.tc : Thread Cert.SampleBand.nD Cert.SampleBand.τ).loc Cert.SampleBand.main_arg1) = m ((c.tc : Thread Cert.SampleBand.nD Cert.SampleBand.τ).loc Cert.SampleBand.main_arg1)
      ∧ r.2.mem ((c.tc : Thread Cert.SampleBand.nD Cert.SampleBand.τ).loc Cert.SampleBand.main_arg2) = m ((c.tc : Thread Cert.SampleBand.nD Cert.SampleBand.τ).loc Cert.SampleBand.main_arg2)
      ∧ r.2.mem ((c.tc : Thread Cert.SampleBand.nD Cert.SampleBand.τ).loc Cert.SampleBand.main_arg3) = m ((c.tc : Thread Cert.SampleBand.nD Cert.SampleBand.τ).loc Cert.SampleBand.main_arg3))
      ∧ r.2.sem = fun _ => 0)

def quiescent_SampleBandIdeal [hSampleBandIdeal : Cert.SampleBandIdeal.Facts] : Prop :=
  ∀ (m : (ℓ : Loc Cert.SampleBandIdeal.nD Cert.SampleBandIdeal.τ Cert.SampleBandIdeal.sig) → Buf (Elt Ideal) ℓ) (g : Dev Cert.SampleBandIdeal.nD → PrngReg), Pre_SampleBandIdeal m →
    θ_run (Cert.SampleBandIdeal.defs (F := Ideal)) (onTc (τ := Cert.SampleBandIdeal.τ) (Cert.SampleBandIdeal.main (F := Ideal))) ⟨m, fun _ => 0, g⟩ (fun r => (∀ c : Dev Cert.SampleBandIdeal.nD,
      r.2.mem ((c.tc : Thread Cert.SampleBandIdeal.nD Cert.SampleBandIdeal.τ).loc Cert.SampleBandIdeal.main_arg0) = m ((c.tc : Thread Cert.SampleBandIdeal.nD Cert.SampleBandIdeal.τ).loc Cert.SampleBandIdeal.main_arg0)
      ∧ r.2.mem ((c.tc : Thread Cert.SampleBandIdeal.nD Cert.SampleBandIdeal.τ).loc Cert.SampleBandIdeal.main_arg1) = m ((c.tc : Thread Cert.SampleBandIdeal.nD Cert.SampleBandIdeal.τ).loc Cert.SampleBandIdeal.main_arg1)
      ∧ r.2.mem ((c.tc : Thread Cert.SampleBandIdeal.nD Cert.SampleBandIdeal.τ).loc Cert.SampleBandIdeal.main_arg2) = m ((c.tc : Thread Cert.SampleBandIdeal.nD Cert.SampleBandIdeal.τ).loc Cert.SampleBandIdeal.main_arg2)
      ∧ r.2.mem ((c.tc : Thread Cert.SampleBandIdeal.nD Cert.SampleBandIdeal.τ).loc Cert.SampleBandIdeal.main_arg3) = m ((c.tc : Thread Cert.SampleBandIdeal.nD Cert.SampleBandIdeal.τ).loc Cert.SampleBandIdeal.main_arg3))
      ∧ r.2.sem = fun _ => 0)

def quiescent_SampleBandIdeal_pre_band_finite [hSampleBandIdeal : Cert.SampleBandIdeal.Facts] [hPre_band_finite : Cert.Pre_band_finite.Facts] : Prop :=
  ∀ (m : (ℓ : Loc Cert.SampleBandIdeal.nD Cert.SampleBandIdeal.τ Cert.SampleBandIdeal.sig) → Buf (Elt Ideal) ℓ) (g : Dev Cert.SampleBandIdeal.nD → PrngReg), Pre_SampleBandIdeal_band_finite m →
    θ_run (Cert.SampleBandIdeal.defs (F := Ideal)) (onTc (τ := Cert.SampleBandIdeal.τ) (Cert.SampleBandIdeal.main (F := Ideal))) ⟨m, fun _ => 0, g⟩ (fun r => (∀ c : Dev Cert.SampleBandIdeal.nD,
      r.2.mem ((c.tc : Thread Cert.SampleBandIdeal.nD Cert.SampleBandIdeal.τ).loc Cert.SampleBandIdeal.main_arg0) = m ((c.tc : Thread Cert.SampleBandIdeal.nD Cert.SampleBandIdeal.τ).loc Cert.SampleBandIdeal.main_arg0)
      ∧ r.2.mem ((c.tc : Thread Cert.SampleBandIdeal.nD Cert.SampleBandIdeal.τ).loc Cert.SampleBandIdeal.main_arg1) = m ((c.tc : Thread Cert.SampleBandIdeal.nD Cert.SampleBandIdeal.τ).loc Cert.SampleBandIdeal.main_arg1)
      ∧ r.2.mem ((c.tc : Thread Cert.SampleBandIdeal.nD Cert.SampleBandIdeal.τ).loc Cert.SampleBandIdeal.main_arg2) = m ((c.tc : Thread Cert.SampleBandIdeal.nD Cert.SampleBandIdeal.τ).loc Cert.SampleBandIdeal.main_arg2)
      ∧ r.2.mem ((c.tc : Thread Cert.SampleBandIdeal.nD Cert.SampleBandIdeal.τ).loc Cert.SampleBandIdeal.main_arg3) = m ((c.tc : Thread Cert.SampleBandIdeal.nD Cert.SampleBandIdeal.τ).loc Cert.SampleBandIdeal.main_arg3))
      ∧ r.2.sem = fun _ => 0)

def quiescent_SampleBandReferenceIdeal [hSampleBandReferenceIdeal : Cert.SampleBandReferenceIdeal.Facts] : Prop :=
  ∀ (m : (ℓ : Loc Cert.SampleBandReferenceIdeal.nD Cert.SampleBandReferenceIdeal.τ Cert.SampleBandReferenceIdeal.sig) → Buf (Elt Ideal) ℓ) (g : Dev Cert.SampleBandReferenceIdeal.nD → PrngReg), Pre_SampleBandReferenceIdeal m →
    θ_run (Cert.SampleBandReferenceIdeal.defs (F := Ideal)) (onTc (τ := Cert.SampleBandReferenceIdeal.τ) (Cert.SampleBandReferenceIdeal.main (F := Ideal))) ⟨m, fun _ => 0, g⟩ (fun r => (∀ c : Dev Cert.SampleBandReferenceIdeal.nD,
      r.2.mem ((c.tc : Thread Cert.SampleBandReferenceIdeal.nD Cert.SampleBandReferenceIdeal.τ).loc Cert.SampleBandReferenceIdeal.main_arg0) = m ((c.tc : Thread Cert.SampleBandReferenceIdeal.nD Cert.SampleBandReferenceIdeal.τ).loc Cert.SampleBandReferenceIdeal.main_arg0)
      ∧ r.2.mem ((c.tc : Thread Cert.SampleBandReferenceIdeal.nD Cert.SampleBandReferenceIdeal.τ).loc Cert.SampleBandReferenceIdeal.main_arg1) = m ((c.tc : Thread Cert.SampleBandReferenceIdeal.nD Cert.SampleBandReferenceIdeal.τ).loc Cert.SampleBandReferenceIdeal.main_arg1)
      ∧ r.2.mem ((c.tc : Thread Cert.SampleBandReferenceIdeal.nD Cert.SampleBandReferenceIdeal.τ).loc Cert.SampleBandReferenceIdeal.main_arg2) = m ((c.tc : Thread Cert.SampleBandReferenceIdeal.nD Cert.SampleBandReferenceIdeal.τ).loc Cert.SampleBandReferenceIdeal.main_arg2)
      ∧ r.2.mem ((c.tc : Thread Cert.SampleBandReferenceIdeal.nD Cert.SampleBandReferenceIdeal.τ).loc Cert.SampleBandReferenceIdeal.main_arg3) = m ((c.tc : Thread Cert.SampleBandReferenceIdeal.nD Cert.SampleBandReferenceIdeal.τ).loc Cert.SampleBandReferenceIdeal.main_arg3))
      ∧ r.2.sem = fun _ => 0)

def quiescent_SampleBandReferenceIdeal_pre_band_finite [hSampleBandReferenceIdeal : Cert.SampleBandReferenceIdeal.Facts] [hPre_band_finite : Cert.Pre_band_finite.Facts] : Prop :=
  ∀ (m : (ℓ : Loc Cert.SampleBandReferenceIdeal.nD Cert.SampleBandReferenceIdeal.τ Cert.SampleBandReferenceIdeal.sig) → Buf (Elt Ideal) ℓ) (g : Dev Cert.SampleBandReferenceIdeal.nD → PrngReg), Pre_SampleBandReferenceIdeal_band_finite m →
    θ_run (Cert.SampleBandReferenceIdeal.defs (F := Ideal)) (onTc (τ := Cert.SampleBandReferenceIdeal.τ) (Cert.SampleBandReferenceIdeal.main (F := Ideal))) ⟨m, fun _ => 0, g⟩ (fun r => (∀ c : Dev Cert.SampleBandReferenceIdeal.nD,
      r.2.mem ((c.tc : Thread Cert.SampleBandReferenceIdeal.nD Cert.SampleBandReferenceIdeal.τ).loc Cert.SampleBandReferenceIdeal.main_arg0) = m ((c.tc : Thread Cert.SampleBandReferenceIdeal.nD Cert.SampleBandReferenceIdeal.τ).loc Cert.SampleBandReferenceIdeal.main_arg0)
      ∧ r.2.mem ((c.tc : Thread Cert.SampleBandReferenceIdeal.nD Cert.SampleBandReferenceIdeal.τ).loc Cert.SampleBandReferenceIdeal.main_arg1) = m ((c.tc : Thread Cert.SampleBandReferenceIdeal.nD Cert.SampleBandReferenceIdeal.τ).loc Cert.SampleBandReferenceIdeal.main_arg1)
      ∧ r.2.mem ((c.tc : Thread Cert.SampleBandReferenceIdeal.nD Cert.SampleBandReferenceIdeal.τ).loc Cert.SampleBandReferenceIdeal.main_arg2) = m ((c.tc : Thread Cert.SampleBandReferenceIdeal.nD Cert.SampleBandReferenceIdeal.τ).loc Cert.SampleBandReferenceIdeal.main_arg2)
      ∧ r.2.mem ((c.tc : Thread Cert.SampleBandReferenceIdeal.nD Cert.SampleBandReferenceIdeal.τ).loc Cert.SampleBandReferenceIdeal.main_arg3) = m ((c.tc : Thread Cert.SampleBandReferenceIdeal.nD Cert.SampleBandReferenceIdeal.τ).loc Cert.SampleBandReferenceIdeal.main_arg3))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v552)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v552) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Even_EvenIdeal : Prop :=
  IdealRules.named_const.Statement Cert.EvenIdeal.κ "q_scale" .f32 0x3E0293EE#32 ((((Real.sqrt 128) * (Real.log 2))⁻¹ : ℝ) : EReal)

def algebraic_EvenIdeal_EvenReferenceIdeal [hEvenIdeal : Cert.EvenIdeal.Facts] [hEvenReferenceIdeal : Cert.EvenReferenceIdeal.Facts] : Prop :=
  ∀ (m : (ℓ : Loc Cert.EvenIdeal.nD Cert.EvenIdeal.τ Cert.EvenIdeal.sig) → Buf (Elt Ideal) ℓ) (g : Dev Cert.EvenIdeal.nD → PrngReg)
    (m' : (ℓ : Loc Cert.EvenReferenceIdeal.nD Cert.EvenReferenceIdeal.τ Cert.EvenReferenceIdeal.sig) → Buf (Elt Ideal) ℓ) (g' : Dev Cert.EvenReferenceIdeal.nD → PrngReg), Pre_EvenIdeal m →
    (∀ c : Dev Cert.EvenIdeal.nD,
      m' ((c.tc : Thread Cert.EvenReferenceIdeal.nD Cert.EvenReferenceIdeal.τ).loc Cert.EvenReferenceIdeal.main_arg0) = m ((c.tc : Thread Cert.EvenIdeal.nD Cert.EvenIdeal.τ).loc Cert.EvenIdeal.main_arg0)
      ∧ m' ((c.tc : Thread Cert.EvenReferenceIdeal.nD Cert.EvenReferenceIdeal.τ).loc Cert.EvenReferenceIdeal.main_arg1) = m ((c.tc : Thread Cert.EvenIdeal.nD Cert.EvenIdeal.τ).loc Cert.EvenIdeal.main_arg1)
      ∧ m' ((c.tc : Thread Cert.EvenReferenceIdeal.nD Cert.EvenReferenceIdeal.τ).loc Cert.EvenReferenceIdeal.main_arg2) = m ((c.tc : Thread Cert.EvenIdeal.nD Cert.EvenIdeal.τ).loc Cert.EvenIdeal.main_arg2)
      ∧ m' ((c.tc : Thread Cert.EvenReferenceIdeal.nD Cert.EvenReferenceIdeal.τ).loc Cert.EvenReferenceIdeal.main_arg3) = m ((c.tc : Thread Cert.EvenIdeal.nD Cert.EvenIdeal.τ).loc Cert.EvenIdeal.main_arg3)) →
    ∃ (v0 : (c : Dev Cert.EvenIdeal.nD) → Buf (Elt Ideal) ((c.tc : Thread Cert.EvenIdeal.nD Cert.EvenIdeal.τ).loc Cert.EvenIdeal.main_v11)) (v1 : (c : Dev Cert.EvenIdeal.nD) → Buf (Elt Ideal) ((c.tc : Thread Cert.EvenIdeal.nD Cert.EvenIdeal.τ).loc Cert.EvenIdeal.main_v12_0)) (v2 : (c : Dev Cert.EvenIdeal.nD) → Buf (Elt Ideal) ((c.tc : Thread Cert.EvenIdeal.nD Cert.EvenIdeal.τ).loc Cert.EvenIdeal.main_v12_1)) (v3 : (c : Dev Cert.EvenIdeal.nD) → Buf (Elt Ideal) ((c.tc : Thread Cert.EvenIdeal.nD Cert.EvenIdeal.τ).loc Cert.EvenIdeal.main_v13)) (v4 : (c : Dev Cert.EvenIdeal.nD) → Buf (Elt Ideal) ((c.tc : Thread Cert.EvenIdeal.nD Cert.EvenIdeal.τ).loc Cert.EvenIdeal.main_v14_0)) (v5 : (c : Dev Cert.EvenIdeal.nD) → Buf (Elt Ideal) ((c.tc : Thread Cert.EvenIdeal.nD Cert.EvenIdeal.τ).loc Cert.EvenIdeal.main_v14_1)) (v6 : (c : Dev Cert.EvenIdeal.nD) → Buf (Elt Ideal) ((c.tc : Thread Cert.EvenIdeal.nD Cert.EvenIdeal.τ).loc Cert.EvenIdeal.main_v15)) (v7 : (c : Dev Cert.EvenIdeal.nD) → Buf (Elt Ideal) ((c.tc : Thread Cert.EvenIdeal.nD Cert.EvenIdeal.τ).loc Cert.EvenIdeal.main_v16_0)) (v8 : (c : Dev Cert.EvenIdeal.nD) → Buf (Elt Ideal) ((c.tc : Thread Cert.EvenIdeal.nD Cert.EvenIdeal.τ).loc Cert.EvenIdeal.main_v16_1)) (v9 : (c : Dev Cert.EvenIdeal.nD) → Buf (Elt Ideal) ((c.tc : Thread Cert.EvenIdeal.nD Cert.EvenIdeal.τ).loc Cert.EvenIdeal.main_v17)) (v10 : (c : Dev Cert.EvenIdeal.nD) → Buf (Elt Ideal) ((c.tc : Thread Cert.EvenIdeal.nD Cert.EvenIdeal.τ).loc Cert.EvenIdeal.main_v19)),
      θ_run (Cert.EvenIdeal.defs (F := Ideal)) (onTc (τ := Cert.EvenIdeal.τ) (Cert.EvenIdeal.main (F := Ideal))) ⟨m, fun _ => 0, g⟩ (fun r => ∀ c : Dev Cert.EvenIdeal.nD,
          r.2.mem ((c.tc : Thread Cert.EvenIdeal.nD Cert.EvenIdeal.τ).loc Cert.EvenIdeal.main_v11) = v0 c
          ∧ r.2.mem ((c.tc : Thread Cert.EvenIdeal.nD Cert.EvenIdeal.τ).loc Cert.EvenIdeal.main_v12_0) = v1 c
          ∧ r.2.mem ((c.tc : Thread Cert.EvenIdeal.nD Cert.EvenIdeal.τ).loc Cert.EvenIdeal.main_v12_1) = v2 c
          ∧ r.2.mem ((c.tc : Thread Cert.EvenIdeal.nD Cert.EvenIdeal.τ).loc Cert.EvenIdeal.main_v13) = v3 c
          ∧ r.2.mem ((c.tc : Thread Cert.EvenIdeal.nD Cert.EvenIdeal.τ).loc Cert.EvenIdeal.main_v14_0) = v4 c
          ∧ r.2.mem ((c.tc : Thread Cert.EvenIdeal.nD Cert.EvenIdeal.τ).loc Cert.EvenIdeal.main_v14_1) = v5 c
          ∧ r.2.mem ((c.tc : Thread Cert.EvenIdeal.nD Cert.EvenIdeal.τ).loc Cert.EvenIdeal.main_v15) = v6 c
          ∧ r.2.mem ((c.tc : Thread Cert.EvenIdeal.nD Cert.EvenIdeal.τ).loc Cert.EvenIdeal.main_v16_0) = v7 c
          ∧ r.2.mem ((c.tc : Thread Cert.EvenIdeal.nD Cert.EvenIdeal.τ).loc Cert.EvenIdeal.main_v16_1) = v8 c
          ∧ r.2.mem ((c.tc : Thread Cert.EvenIdeal.nD Cert.EvenIdeal.τ).loc Cert.EvenIdeal.main_v17) = v9 c
          ∧ r.2.mem ((c.tc : Thread Cert.EvenIdeal.nD Cert.EvenIdeal.τ).loc Cert.EvenIdeal.main_v19) = v10 c
          ∧ r.2.mem ((c.tc : Thread Cert.EvenIdeal.nD Cert.EvenIdeal.τ).loc Cert.EvenIdeal.main_arg0) = m ((c.tc : Thread Cert.EvenIdeal.nD Cert.EvenIdeal.τ).loc Cert.EvenIdeal.main_arg0)
          ∧ r.2.mem ((c.tc : Thread Cert.EvenIdeal.nD Cert.EvenIdeal.τ).loc Cert.EvenIdeal.main_arg1) = m ((c.tc : Thread Cert.EvenIdeal.nD Cert.EvenIdeal.τ).loc Cert.EvenIdeal.main_arg1)
          ∧ r.2.mem ((c.tc : Thread Cert.EvenIdeal.nD Cert.EvenIdeal.τ).loc Cert.EvenIdeal.main_arg2) = m ((c.tc : Thread Cert.EvenIdeal.nD Cert.EvenIdeal.τ).loc Cert.EvenIdeal.main_arg2)
          ∧ r.2.mem ((c.tc : Thread Cert.EvenIdeal.nD Cert.EvenIdeal.τ).loc Cert.EvenIdeal.main_arg3) = m ((c.tc : Thread Cert.EvenIdeal.nD Cert.EvenIdeal.τ).loc Cert.EvenIdeal.main_arg3))
      ∧ θ_run (Cert.EvenReferenceIdeal.defs (F := Ideal)) (onTc (τ := Cert.EvenReferenceIdeal.τ) (Cert.EvenReferenceIdeal.main (F := Ideal))) ⟨m', fun _ => 0, g'⟩ (fun r => ∀ c : Dev Cert.EvenReferenceIdeal.nD,
          r.2.mem ((c.tc : Thread Cert.EvenReferenceIdeal.nD Cert.EvenReferenceIdeal.τ).loc Cert.EvenReferenceIdeal.main_v37) = v0 c
          ∧ r.2.mem ((c.tc : Thread Cert.EvenReferenceIdeal.nD Cert.EvenReferenceIdeal.τ).loc Cert.EvenReferenceIdeal.main_v31) = v1 c
          ∧ r.2.mem ((c.tc : Thread Cert.EvenReferenceIdeal.nD Cert.EvenReferenceIdeal.τ).loc Cert.EvenReferenceIdeal.main_v38) = v2 c
          ∧ r.2.mem ((c.tc : Thread Cert.EvenReferenceIdeal.nD Cert.EvenReferenceIdeal.τ).loc Cert.EvenReferenceIdeal.main_v20) = v3 c
          ∧ r.2.mem ((c.tc : Thread Cert.EvenReferenceIdeal.nD Cert.EvenReferenceIdeal.τ).loc Cert.EvenReferenceIdeal.main_v34) = v4 c
          ∧ r.2.mem ((c.tc : Thread Cert.EvenReferenceIdeal.nD Cert.EvenReferenceIdeal.τ).loc Cert.EvenReferenceIdeal.main_v39) = v5 c
          ∧ r.2.mem ((c.tc : Thread Cert.EvenReferenceIdeal.nD Cert.EvenReferenceIdeal.τ).loc Cert.EvenReferenceIdeal.main_v42) = v6 c
          ∧ r.2.mem ((c.tc : Thread Cert.EvenReferenceIdeal.nD Cert.EvenReferenceIdeal.τ).loc Cert.EvenReferenceIdeal.main_v32) = v7 c
          ∧ r.2.mem ((c.tc : Thread Cert.EvenReferenceIdeal.nD Cert.EvenReferenceIdeal.τ).loc Cert.EvenReferenceIdeal.main_v43) = v8 c
          ∧ r.2.mem ((c.tc : Thread Cert.EvenReferenceIdeal.nD Cert.EvenReferenceIdeal.τ).loc Cert.EvenReferenceIdeal.main_v27) = v9 c
          ∧ r.2.mem ((c.tc : Thread Cert.EvenReferenceIdeal.nD Cert.EvenReferenceIdeal.τ).loc Cert.EvenReferenceIdeal.main_v57) = v10 c
          ∧ r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
          ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
          ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
          ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3))

def preserves_Middle_MiddleIdeal : Prop :=
  IdealRules.named_const.Statement Cert.MiddleIdeal.κ "q_scale" .f32 0x3E0293EE#32 ((((Real.sqrt 128) * (Real.log 2))⁻¹ : ℝ) : EReal)

def algebraic_MiddleIdeal_MiddleReferenceIdeal [hMiddleIdeal : Cert.MiddleIdeal.Facts] [hMiddleReferenceIdeal : Cert.MiddleReferenceIdeal.Facts] : Prop :=
  ∀ (m : (ℓ : Loc Cert.MiddleIdeal.nD Cert.MiddleIdeal.τ Cert.MiddleIdeal.sig) → Buf (Elt Ideal) ℓ) (g : Dev Cert.MiddleIdeal.nD → PrngReg)
    (m' : (ℓ : Loc Cert.MiddleReferenceIdeal.nD Cert.MiddleReferenceIdeal.τ Cert.MiddleReferenceIdeal.sig) → Buf (Elt Ideal) ℓ) (g' : Dev Cert.MiddleReferenceIdeal.nD → PrngReg), Pre_MiddleIdeal m →
    (∀ c : Dev Cert.MiddleIdeal.nD,
      m' ((c.tc : Thread Cert.MiddleReferenceIdeal.nD Cert.MiddleReferenceIdeal.τ).loc Cert.MiddleReferenceIdeal.main_arg0) = m ((c.tc : Thread Cert.MiddleIdeal.nD Cert.MiddleIdeal.τ).loc Cert.MiddleIdeal.main_arg0)
      ∧ m' ((c.tc : Thread Cert.MiddleReferenceIdeal.nD Cert.MiddleReferenceIdeal.τ).loc Cert.MiddleReferenceIdeal.main_arg1) = m ((c.tc : Thread Cert.MiddleIdeal.nD Cert.MiddleIdeal.τ).loc Cert.MiddleIdeal.main_arg1)
      ∧ m' ((c.tc : Thread Cert.MiddleReferenceIdeal.nD Cert.MiddleReferenceIdeal.τ).loc Cert.MiddleReferenceIdeal.main_arg2) = m ((c.tc : Thread Cert.MiddleIdeal.nD Cert.MiddleIdeal.τ).loc Cert.MiddleIdeal.main_arg2)
      ∧ m' ((c.tc : Thread Cert.MiddleReferenceIdeal.nD Cert.MiddleReferenceIdeal.τ).loc Cert.MiddleReferenceIdeal.main_arg3) = m ((c.tc : Thread Cert.MiddleIdeal.nD Cert.MiddleIdeal.τ).loc Cert.MiddleIdeal.main_arg3)
      ∧ m' ((c.tc : Thread Cert.MiddleReferenceIdeal.nD Cert.MiddleReferenceIdeal.τ).loc Cert.MiddleReferenceIdeal.main_arg4) = m ((c.tc : Thread Cert.MiddleIdeal.nD Cert.MiddleIdeal.τ).loc Cert.MiddleIdeal.main_arg4)
      ∧ m' ((c.tc : Thread Cert.MiddleReferenceIdeal.nD Cert.MiddleReferenceIdeal.τ).loc Cert.MiddleReferenceIdeal.main_arg5) = m ((c.tc : Thread Cert.MiddleIdeal.nD Cert.MiddleIdeal.τ).loc Cert.MiddleIdeal.main_arg5)) →
    ∃ (v0 : (c : Dev Cert.MiddleIdeal.nD) → Buf (Elt Ideal) ((c.tc : Thread Cert.MiddleIdeal.nD Cert.MiddleIdeal.τ).loc Cert.MiddleIdeal.main_v7)) (v1 : (c : Dev Cert.MiddleIdeal.nD) → Buf (Elt Ideal) ((c.tc : Thread Cert.MiddleIdeal.nD Cert.MiddleIdeal.τ).loc Cert.MiddleIdeal.main_v13)) (v2 : (c : Dev Cert.MiddleIdeal.nD) → Buf (Elt Ideal) ((c.tc : Thread Cert.MiddleIdeal.nD Cert.MiddleIdeal.τ).loc Cert.MiddleIdeal.main_v14_0)) (v3 : (c : Dev Cert.MiddleIdeal.nD) → Buf (Elt Ideal) ((c.tc : Thread Cert.MiddleIdeal.nD Cert.MiddleIdeal.τ).loc Cert.MiddleIdeal.main_v14_1)) (v4 : (c : Dev Cert.MiddleIdeal.nD) → Buf (Elt Ideal) ((c.tc : Thread Cert.MiddleIdeal.nD Cert.MiddleIdeal.τ).loc Cert.MiddleIdeal.main_v15)),
      θ_run (Cert.MiddleIdeal.defs (F := Ideal)) (onTc (τ := Cert.MiddleIdeal.τ) (Cert.MiddleIdeal.main (F := Ideal))) ⟨m, fun _ => 0, g⟩ (fun r => ∀ c : Dev Cert.MiddleIdeal.nD,
          r.2.mem ((c.tc : Thread Cert.MiddleIdeal.nD Cert.MiddleIdeal.τ).loc Cert.MiddleIdeal.main_v7) = v0 c
          ∧ r.2.mem ((c.tc : Thread Cert.MiddleIdeal.nD Cert.MiddleIdeal.τ).loc Cert.MiddleIdeal.main_v13) = v1 c
          ∧ r.2.mem ((c.tc : Thread Cert.MiddleIdeal.nD Cert.MiddleIdeal.τ).loc Cert.MiddleIdeal.main_v14_0) = v2 c
          ∧ r.2.mem ((c.tc : Thread Cert.MiddleIdeal.nD Cert.MiddleIdeal.τ).loc Cert.MiddleIdeal.main_v14_1) = v3 c
          ∧ r.2.mem ((c.tc : Thread Cert.MiddleIdeal.nD Cert.MiddleIdeal.τ).loc Cert.MiddleIdeal.main_v15) = v4 c
          ∧ r.2.mem ((c.tc : Thread Cert.MiddleIdeal.nD Cert.MiddleIdeal.τ).loc Cert.MiddleIdeal.main_arg0) = m ((c.tc : Thread Cert.MiddleIdeal.nD Cert.MiddleIdeal.τ).loc Cert.MiddleIdeal.main_arg0)
          ∧ r.2.mem ((c.tc : Thread Cert.MiddleIdeal.nD Cert.MiddleIdeal.τ).loc Cert.MiddleIdeal.main_arg1) = m ((c.tc : Thread Cert.MiddleIdeal.nD Cert.MiddleIdeal.τ).loc Cert.MiddleIdeal.main_arg1)
          ∧ r.2.mem ((c.tc : Thread Cert.MiddleIdeal.nD Cert.MiddleIdeal.τ).loc Cert.MiddleIdeal.main_arg2) = m ((c.tc : Thread Cert.MiddleIdeal.nD Cert.MiddleIdeal.τ).loc Cert.MiddleIdeal.main_arg2)
          ∧ r.2.mem ((c.tc : Thread Cert.MiddleIdeal.nD Cert.MiddleIdeal.τ).loc Cert.MiddleIdeal.main_arg3) = m ((c.tc : Thread Cert.MiddleIdeal.nD Cert.MiddleIdeal.τ).loc Cert.MiddleIdeal.main_arg3)
          ∧ r.2.mem ((c.tc : Thread Cert.MiddleIdeal.nD Cert.MiddleIdeal.τ).loc Cert.MiddleIdeal.main_arg4) = m ((c.tc : Thread Cert.MiddleIdeal.nD Cert.MiddleIdeal.τ).loc Cert.MiddleIdeal.main_arg4)
          ∧ r.2.mem ((c.tc : Thread Cert.MiddleIdeal.nD Cert.MiddleIdeal.τ).loc Cert.MiddleIdeal.main_arg5) = m ((c.tc : Thread Cert.MiddleIdeal.nD Cert.MiddleIdeal.τ).loc Cert.MiddleIdeal.main_arg5))
      ∧ θ_run (Cert.MiddleReferenceIdeal.defs (F := Ideal)) (onTc (τ := Cert.MiddleReferenceIdeal.τ) (Cert.MiddleReferenceIdeal.main (F := Ideal))) ⟨m', fun _ => 0, g'⟩ (fun r => ∀ c : Dev Cert.MiddleReferenceIdeal.nD,
          r.2.mem ((c.tc : Thread Cert.MiddleReferenceIdeal.nD Cert.MiddleReferenceIdeal.τ).loc Cert.MiddleReferenceIdeal.main_v4) = v0 c
          ∧ r.2.mem ((c.tc : Thread Cert.MiddleReferenceIdeal.nD Cert.MiddleReferenceIdeal.τ).loc Cert.MiddleReferenceIdeal.main_v31) = v1 c
          ∧ r.2.mem ((c.tc : Thread Cert.MiddleReferenceIdeal.nD Cert.MiddleReferenceIdeal.τ).loc Cert.MiddleReferenceIdeal.main_v25) = v2 c
          ∧ r.2.mem ((c.tc : Thread Cert.MiddleReferenceIdeal.nD Cert.MiddleReferenceIdeal.τ).loc Cert.MiddleReferenceIdeal.main_v32) = v3 c
          ∧ r.2.mem ((c.tc : Thread Cert.MiddleReferenceIdeal.nD Cert.MiddleReferenceIdeal.τ).loc Cert.MiddleReferenceIdeal.main_v24) = v4 c
          ∧ r.2.mem ((c.tc : Thread Cert.MiddleReferenceIdeal.nD Cert.MiddleReferenceIdeal.τ).loc Cert.MiddleReferenceIdeal.main_arg0) = m' ((c.tc : Thread Cert.MiddleReferenceIdeal.nD Cert.MiddleReferenceIdeal.τ).loc Cert.MiddleReferenceIdeal.main_arg0)
          ∧ r.2.mem ((c.tc : Thread Cert.MiddleReferenceIdeal.nD Cert.MiddleReferenceIdeal.τ).loc Cert.MiddleReferenceIdeal.main_arg1) = m' ((c.tc : Thread Cert.MiddleReferenceIdeal.nD Cert.MiddleReferenceIdeal.τ).loc Cert.MiddleReferenceIdeal.main_arg1)
          ∧ r.2.mem ((c.tc : Thread Cert.MiddleReferenceIdeal.nD Cert.MiddleReferenceIdeal.τ).loc Cert.MiddleReferenceIdeal.main_arg2) = m' ((c.tc : Thread Cert.MiddleReferenceIdeal.nD Cert.MiddleReferenceIdeal.τ).loc Cert.MiddleReferenceIdeal.main_arg2)
          ∧ r.2.mem ((c.tc : Thread Cert.MiddleReferenceIdeal.nD Cert.MiddleReferenceIdeal.τ).loc Cert.MiddleReferenceIdeal.main_arg3) = m' ((c.tc : Thread Cert.MiddleReferenceIdeal.nD Cert.MiddleReferenceIdeal.τ).loc Cert.MiddleReferenceIdeal.main_arg3)
          ∧ r.2.mem ((c.tc : Thread Cert.MiddleReferenceIdeal.nD Cert.MiddleReferenceIdeal.τ).loc Cert.MiddleReferenceIdeal.main_arg4) = m' ((c.tc : Thread Cert.MiddleReferenceIdeal.nD Cert.MiddleReferenceIdeal.τ).loc Cert.MiddleReferenceIdeal.main_arg4)
          ∧ r.2.mem ((c.tc : Thread Cert.MiddleReferenceIdeal.nD Cert.MiddleReferenceIdeal.τ).loc Cert.MiddleReferenceIdeal.main_arg5) = m' ((c.tc : Thread Cert.MiddleReferenceIdeal.nD Cert.MiddleReferenceIdeal.τ).loc Cert.MiddleReferenceIdeal.main_arg5))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v5)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v5) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v15) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3))

def preserves_SampleEven_SampleEvenIdeal : Prop :=
  IdealRules.named_const.Statement Cert.SampleEvenIdeal.κ "q_scale" .f32 0x3E0293EE#32 ((((Real.sqrt 128) * (Real.log 2))⁻¹ : ℝ) : EReal)

def algebraic_SampleEvenIdeal_SampleEvenReferenceIdeal [hSampleEvenIdeal : Cert.SampleEvenIdeal.Facts] [hSampleEvenReferenceIdeal : Cert.SampleEvenReferenceIdeal.Facts] : Prop :=
  ∀ (m : (ℓ : Loc Cert.SampleEvenIdeal.nD Cert.SampleEvenIdeal.τ Cert.SampleEvenIdeal.sig) → Buf (Elt Ideal) ℓ) (g : Dev Cert.SampleEvenIdeal.nD → PrngReg)
    (m' : (ℓ : Loc Cert.SampleEvenReferenceIdeal.nD Cert.SampleEvenReferenceIdeal.τ Cert.SampleEvenReferenceIdeal.sig) → Buf (Elt Ideal) ℓ) (g' : Dev Cert.SampleEvenReferenceIdeal.nD → PrngReg), Pre_SampleEvenIdeal m →
    (∀ c : Dev Cert.SampleEvenIdeal.nD,
      m' ((c.tc : Thread Cert.SampleEvenReferenceIdeal.nD Cert.SampleEvenReferenceIdeal.τ).loc Cert.SampleEvenReferenceIdeal.main_arg0) = m ((c.tc : Thread Cert.SampleEvenIdeal.nD Cert.SampleEvenIdeal.τ).loc Cert.SampleEvenIdeal.main_arg0)
      ∧ m' ((c.tc : Thread Cert.SampleEvenReferenceIdeal.nD Cert.SampleEvenReferenceIdeal.τ).loc Cert.SampleEvenReferenceIdeal.main_arg1) = m ((c.tc : Thread Cert.SampleEvenIdeal.nD Cert.SampleEvenIdeal.τ).loc Cert.SampleEvenIdeal.main_arg1)
      ∧ m' ((c.tc : Thread Cert.SampleEvenReferenceIdeal.nD Cert.SampleEvenReferenceIdeal.τ).loc Cert.SampleEvenReferenceIdeal.main_arg2) = m ((c.tc : Thread Cert.SampleEvenIdeal.nD Cert.SampleEvenIdeal.τ).loc Cert.SampleEvenIdeal.main_arg2)
      ∧ m' ((c.tc : Thread Cert.SampleEvenReferenceIdeal.nD Cert.SampleEvenReferenceIdeal.τ).loc Cert.SampleEvenReferenceIdeal.main_arg3) = m ((c.tc : Thread Cert.SampleEvenIdeal.nD Cert.SampleEvenIdeal.τ).loc Cert.SampleEvenIdeal.main_arg3)) →
    ∃ (v0 : (c : Dev Cert.SampleEvenIdeal.nD) → Buf (Elt Ideal) ((c.tc : Thread Cert.SampleEvenIdeal.nD Cert.SampleEvenIdeal.τ).loc Cert.SampleEvenIdeal.main_v11)) (v1 : (c : Dev Cert.SampleEvenIdeal.nD) → Buf (Elt Ideal) ((c.tc : Thread Cert.SampleEvenIdeal.nD Cert.SampleEvenIdeal.τ).loc Cert.SampleEvenIdeal.main_v12_0)) (v2 : (c : Dev Cert.SampleEvenIdeal.nD) → Buf (Elt Ideal) ((c.tc : Thread Cert.SampleEvenIdeal.nD Cert.SampleEvenIdeal.τ).loc Cert.SampleEvenIdeal.main_v12_1)) (v3 : (c : Dev Cert.SampleEvenIdeal.nD) → Buf (Elt Ideal) ((c.tc : Thread Cert.SampleEvenIdeal.nD Cert.SampleEvenIdeal.τ).loc Cert.SampleEvenIdeal.main_v13)) (v4 : (c : Dev Cert.SampleEvenIdeal.nD) → Buf (Elt Ideal) ((c.tc : Thread Cert.SampleEvenIdeal.nD Cert.SampleEvenIdeal.τ).loc Cert.SampleEvenIdeal.main_v14_0)) (v5 : (c : Dev Cert.SampleEvenIdeal.nD) → Buf (Elt Ideal) ((c.tc : Thread Cert.SampleEvenIdeal.nD Cert.SampleEvenIdeal.τ).loc Cert.SampleEvenIdeal.main_v14_1)) (v6 : (c : Dev Cert.SampleEvenIdeal.nD) → Buf (Elt Ideal) ((c.tc : Thread Cert.SampleEvenIdeal.nD Cert.SampleEvenIdeal.τ).loc Cert.SampleEvenIdeal.main_v15)) (v7 : (c : Dev Cert.SampleEvenIdeal.nD) → Buf (Elt Ideal) ((c.tc : Thread Cert.SampleEvenIdeal.nD Cert.SampleEvenIdeal.τ).loc Cert.SampleEvenIdeal.main_v16_0)) (v8 : (c : Dev Cert.SampleEvenIdeal.nD) → Buf (Elt Ideal) ((c.tc : Thread Cert.SampleEvenIdeal.nD Cert.SampleEvenIdeal.τ).loc Cert.SampleEvenIdeal.main_v16_1)) (v9 : (c : Dev Cert.SampleEvenIdeal.nD) → Buf (Elt Ideal) ((c.tc : Thread Cert.SampleEvenIdeal.nD Cert.SampleEvenIdeal.τ).loc Cert.SampleEvenIdeal.main_v17)) (v10 : (c : Dev Cert.SampleEvenIdeal.nD) → Buf (Elt Ideal) ((c.tc : Thread Cert.SampleEvenIdeal.nD Cert.SampleEvenIdeal.τ).loc Cert.SampleEvenIdeal.main_v19)),
      θ_run (Cert.SampleEvenIdeal.defs (F := Ideal)) (onTc (τ := Cert.SampleEvenIdeal.τ) (Cert.SampleEvenIdeal.main (F := Ideal))) ⟨m, fun _ => 0, g⟩ (fun r => ∀ c : Dev Cert.SampleEvenIdeal.nD,
          r.2.mem ((c.tc : Thread Cert.SampleEvenIdeal.nD Cert.SampleEvenIdeal.τ).loc Cert.SampleEvenIdeal.main_v11) = v0 c
          ∧ r.2.mem ((c.tc : Thread Cert.SampleEvenIdeal.nD Cert.SampleEvenIdeal.τ).loc Cert.SampleEvenIdeal.main_v12_0) = v1 c
          ∧ r.2.mem ((c.tc : Thread Cert.SampleEvenIdeal.nD Cert.SampleEvenIdeal.τ).loc Cert.SampleEvenIdeal.main_v12_1) = v2 c
          ∧ r.2.mem ((c.tc : Thread Cert.SampleEvenIdeal.nD Cert.SampleEvenIdeal.τ).loc Cert.SampleEvenIdeal.main_v13) = v3 c
          ∧ r.2.mem ((c.tc : Thread Cert.SampleEvenIdeal.nD Cert.SampleEvenIdeal.τ).loc Cert.SampleEvenIdeal.main_v14_0) = v4 c
          ∧ r.2.mem ((c.tc : Thread Cert.SampleEvenIdeal.nD Cert.SampleEvenIdeal.τ).loc Cert.SampleEvenIdeal.main_v14_1) = v5 c
          ∧ r.2.mem ((c.tc : Thread Cert.SampleEvenIdeal.nD Cert.SampleEvenIdeal.τ).loc Cert.SampleEvenIdeal.main_v15) = v6 c
          ∧ r.2.mem ((c.tc : Thread Cert.SampleEvenIdeal.nD Cert.SampleEvenIdeal.τ).loc Cert.SampleEvenIdeal.main_v16_0) = v7 c
          ∧ r.2.mem ((c.tc : Thread Cert.SampleEvenIdeal.nD Cert.SampleEvenIdeal.τ).loc Cert.SampleEvenIdeal.main_v16_1) = v8 c
          ∧ r.2.mem ((c.tc : Thread Cert.SampleEvenIdeal.nD Cert.SampleEvenIdeal.τ).loc Cert.SampleEvenIdeal.main_v17) = v9 c
          ∧ r.2.mem ((c.tc : Thread Cert.SampleEvenIdeal.nD Cert.SampleEvenIdeal.τ).loc Cert.SampleEvenIdeal.main_v19) = v10 c
          ∧ r.2.mem ((c.tc : Thread Cert.SampleEvenIdeal.nD Cert.SampleEvenIdeal.τ).loc Cert.SampleEvenIdeal.main_arg0) = m ((c.tc : Thread Cert.SampleEvenIdeal.nD Cert.SampleEvenIdeal.τ).loc Cert.SampleEvenIdeal.main_arg0)
          ∧ r.2.mem ((c.tc : Thread Cert.SampleEvenIdeal.nD Cert.SampleEvenIdeal.τ).loc Cert.SampleEvenIdeal.main_arg1) = m ((c.tc : Thread Cert.SampleEvenIdeal.nD Cert.SampleEvenIdeal.τ).loc Cert.SampleEvenIdeal.main_arg1)
          ∧ r.2.mem ((c.tc : Thread Cert.SampleEvenIdeal.nD Cert.SampleEvenIdeal.τ).loc Cert.SampleEvenIdeal.main_arg2) = m ((c.tc : Thread Cert.SampleEvenIdeal.nD Cert.SampleEvenIdeal.τ).loc Cert.SampleEvenIdeal.main_arg2)
          ∧ r.2.mem ((c.tc : Thread Cert.SampleEvenIdeal.nD Cert.SampleEvenIdeal.τ).loc Cert.SampleEvenIdeal.main_arg3) = m ((c.tc : Thread Cert.SampleEvenIdeal.nD Cert.SampleEvenIdeal.τ).loc Cert.SampleEvenIdeal.main_arg3))
      ∧ θ_run (Cert.SampleEvenReferenceIdeal.defs (F := Ideal)) (onTc (τ := Cert.SampleEvenReferenceIdeal.τ) (Cert.SampleEvenReferenceIdeal.main (F := Ideal))) ⟨m', fun _ => 0, g'⟩ (fun r => ∀ c : Dev Cert.SampleEvenReferenceIdeal.nD,
          r.2.mem ((c.tc : Thread Cert.SampleEvenReferenceIdeal.nD Cert.SampleEvenReferenceIdeal.τ).loc Cert.SampleEvenReferenceIdeal.main_v37) = v0 c
          ∧ r.2.mem ((c.tc : Thread Cert.SampleEvenReferenceIdeal.nD Cert.SampleEvenReferenceIdeal.τ).loc Cert.SampleEvenReferenceIdeal.main_v31) = v1 c
          ∧ r.2.mem ((c.tc : Thread Cert.SampleEvenReferenceIdeal.nD Cert.SampleEvenReferenceIdeal.τ).loc Cert.SampleEvenReferenceIdeal.main_v38) = v2 c
          ∧ r.2.mem ((c.tc : Thread Cert.SampleEvenReferenceIdeal.nD Cert.SampleEvenReferenceIdeal.τ).loc Cert.SampleEvenReferenceIdeal.main_v20) = v3 c
          ∧ r.2.mem ((c.tc : Thread Cert.SampleEvenReferenceIdeal.nD Cert.SampleEvenReferenceIdeal.τ).loc Cert.SampleEvenReferenceIdeal.main_v34) = v4 c
          ∧ r.2.mem ((c.tc : Thread Cert.SampleEvenReferenceIdeal.nD Cert.SampleEvenReferenceIdeal.τ).loc Cert.SampleEvenReferenceIdeal.main_v39) = v5 c
          ∧ r.2.mem ((c.tc : Thread Cert.SampleEvenReferenceIdeal.nD Cert.SampleEvenReferenceIdeal.τ).loc Cert.SampleEvenReferenceIdeal.main_v42) = v6 c
          ∧ r.2.mem ((c.tc : Thread Cert.SampleEvenReferenceIdeal.nD Cert.SampleEvenReferenceIdeal.τ).loc Cert.SampleEvenReferenceIdeal.main_v32) = v7 c
          ∧ r.2.mem ((c.tc : Thread Cert.SampleEvenReferenceIdeal.nD Cert.SampleEvenReferenceIdeal.τ).loc Cert.SampleEvenReferenceIdeal.main_v43) = v8 c
          ∧ r.2.mem ((c.tc : Thread Cert.SampleEvenReferenceIdeal.nD Cert.SampleEvenReferenceIdeal.τ).loc Cert.SampleEvenReferenceIdeal.main_v27) = v9 c
          ∧ r.2.mem ((c.tc : Thread Cert.SampleEvenReferenceIdeal.nD Cert.SampleEvenReferenceIdeal.τ).loc Cert.SampleEvenReferenceIdeal.main_v57) = v10 c
          ∧ r.2.mem ((c.tc : Thread Cert.SampleEvenReferenceIdeal.nD Cert.SampleEvenReferenceIdeal.τ).loc Cert.SampleEvenReferenceIdeal.main_arg0) = m' ((c.tc : Thread Cert.SampleEvenReferenceIdeal.nD Cert.SampleEvenReferenceIdeal.τ).loc Cert.SampleEvenReferenceIdeal.main_arg0)
          ∧ r.2.mem ((c.tc : Thread Cert.SampleEvenReferenceIdeal.nD Cert.SampleEvenReferenceIdeal.τ).loc Cert.SampleEvenReferenceIdeal.main_arg1) = m' ((c.tc : Thread Cert.SampleEvenReferenceIdeal.nD Cert.SampleEvenReferenceIdeal.τ).loc Cert.SampleEvenReferenceIdeal.main_arg1)
          ∧ r.2.mem ((c.tc : Thread Cert.SampleEvenReferenceIdeal.nD Cert.SampleEvenReferenceIdeal.τ).loc Cert.SampleEvenReferenceIdeal.main_arg2) = m' ((c.tc : Thread Cert.SampleEvenReferenceIdeal.nD Cert.SampleEvenReferenceIdeal.τ).loc Cert.SampleEvenReferenceIdeal.main_arg2)
          ∧ r.2.mem ((c.tc : Thread Cert.SampleEvenReferenceIdeal.nD Cert.SampleEvenReferenceIdeal.τ).loc Cert.SampleEvenReferenceIdeal.main_arg3) = m' ((c.tc : Thread Cert.SampleEvenReferenceIdeal.nD Cert.SampleEvenReferenceIdeal.τ).loc Cert.SampleEvenReferenceIdeal.main_arg3))

def preserves_SampleMiddle_SampleMiddleIdeal : Prop :=
  IdealRules.named_const.Statement Cert.SampleMiddleIdeal.κ "q_scale" .f32 0x3E0293EE#32 ((((Real.sqrt 128) * (Real.log 2))⁻¹ : ℝ) : EReal)

def algebraic_SampleMiddleIdeal_SampleMiddleReferenceIdeal [hSampleMiddleIdeal : Cert.SampleMiddleIdeal.Facts] [hSampleMiddleReferenceIdeal : Cert.SampleMiddleReferenceIdeal.Facts] : Prop :=
  ∀ (m : (ℓ : Loc Cert.SampleMiddleIdeal.nD Cert.SampleMiddleIdeal.τ Cert.SampleMiddleIdeal.sig) → Buf (Elt Ideal) ℓ) (g : Dev Cert.SampleMiddleIdeal.nD → PrngReg)
    (m' : (ℓ : Loc Cert.SampleMiddleReferenceIdeal.nD Cert.SampleMiddleReferenceIdeal.τ Cert.SampleMiddleReferenceIdeal.sig) → Buf (Elt Ideal) ℓ) (g' : Dev Cert.SampleMiddleReferenceIdeal.nD → PrngReg), Pre_SampleMiddleIdeal m →
    (∀ c : Dev Cert.SampleMiddleIdeal.nD,
      m' ((c.tc : Thread Cert.SampleMiddleReferenceIdeal.nD Cert.SampleMiddleReferenceIdeal.τ).loc Cert.SampleMiddleReferenceIdeal.main_arg0) = m ((c.tc : Thread Cert.SampleMiddleIdeal.nD Cert.SampleMiddleIdeal.τ).loc Cert.SampleMiddleIdeal.main_arg0)
      ∧ m' ((c.tc : Thread Cert.SampleMiddleReferenceIdeal.nD Cert.SampleMiddleReferenceIdeal.τ).loc Cert.SampleMiddleReferenceIdeal.main_arg1) = m ((c.tc : Thread Cert.SampleMiddleIdeal.nD Cert.SampleMiddleIdeal.τ).loc Cert.SampleMiddleIdeal.main_arg1)
      ∧ m' ((c.tc : Thread Cert.SampleMiddleReferenceIdeal.nD Cert.SampleMiddleReferenceIdeal.τ).loc Cert.SampleMiddleReferenceIdeal.main_arg2) = m ((c.tc : Thread Cert.SampleMiddleIdeal.nD Cert.SampleMiddleIdeal.τ).loc Cert.SampleMiddleIdeal.main_arg2)
      ∧ m' ((c.tc : Thread Cert.SampleMiddleReferenceIdeal.nD Cert.SampleMiddleReferenceIdeal.τ).loc Cert.SampleMiddleReferenceIdeal.main_arg3) = m ((c.tc : Thread Cert.SampleMiddleIdeal.nD Cert.SampleMiddleIdeal.τ).loc Cert.SampleMiddleIdeal.main_arg3)
      ∧ m' ((c.tc : Thread Cert.SampleMiddleReferenceIdeal.nD Cert.SampleMiddleReferenceIdeal.τ).loc Cert.SampleMiddleReferenceIdeal.main_arg4) = m ((c.tc : Thread Cert.SampleMiddleIdeal.nD Cert.SampleMiddleIdeal.τ).loc Cert.SampleMiddleIdeal.main_arg4)
      ∧ m' ((c.tc : Thread Cert.SampleMiddleReferenceIdeal.nD Cert.SampleMiddleReferenceIdeal.τ).loc Cert.SampleMiddleReferenceIdeal.main_arg5) = m ((c.tc : Thread Cert.SampleMiddleIdeal.nD Cert.SampleMiddleIdeal.τ).loc Cert.SampleMiddleIdeal.main_arg5)) →
    ∃ (v0 : (c : Dev Cert.SampleMiddleIdeal.nD) → Buf (Elt Ideal) ((c.tc : Thread Cert.SampleMiddleIdeal.nD Cert.SampleMiddleIdeal.τ).loc Cert.SampleMiddleIdeal.main_v7)) (v1 : (c : Dev Cert.SampleMiddleIdeal.nD) → Buf (Elt Ideal) ((c.tc : Thread Cert.SampleMiddleIdeal.nD Cert.SampleMiddleIdeal.τ).loc Cert.SampleMiddleIdeal.main_v13)) (v2 : (c : Dev Cert.SampleMiddleIdeal.nD) → Buf (Elt Ideal) ((c.tc : Thread Cert.SampleMiddleIdeal.nD Cert.SampleMiddleIdeal.τ).loc Cert.SampleMiddleIdeal.main_v14_0)) (v3 : (c : Dev Cert.SampleMiddleIdeal.nD) → Buf (Elt Ideal) ((c.tc : Thread Cert.SampleMiddleIdeal.nD Cert.SampleMiddleIdeal.τ).loc Cert.SampleMiddleIdeal.main_v14_1)) (v4 : (c : Dev Cert.SampleMiddleIdeal.nD) → Buf (Elt Ideal) ((c.tc : Thread Cert.SampleMiddleIdeal.nD Cert.SampleMiddleIdeal.τ).loc Cert.SampleMiddleIdeal.main_v15)),
      θ_run (Cert.SampleMiddleIdeal.defs (F := Ideal)) (onTc (τ := Cert.SampleMiddleIdeal.τ) (Cert.SampleMiddleIdeal.main (F := Ideal))) ⟨m, fun _ => 0, g⟩ (fun r => ∀ c : Dev Cert.SampleMiddleIdeal.nD,
          r.2.mem ((c.tc : Thread Cert.SampleMiddleIdeal.nD Cert.SampleMiddleIdeal.τ).loc Cert.SampleMiddleIdeal.main_v7) = v0 c
          ∧ r.2.mem ((c.tc : Thread Cert.SampleMiddleIdeal.nD Cert.SampleMiddleIdeal.τ).loc Cert.SampleMiddleIdeal.main_v13) = v1 c
          ∧ r.2.mem ((c.tc : Thread Cert.SampleMiddleIdeal.nD Cert.SampleMiddleIdeal.τ).loc Cert.SampleMiddleIdeal.main_v14_0) = v2 c
          ∧ r.2.mem ((c.tc : Thread Cert.SampleMiddleIdeal.nD Cert.SampleMiddleIdeal.τ).loc Cert.SampleMiddleIdeal.main_v14_1) = v3 c
          ∧ r.2.mem ((c.tc : Thread Cert.SampleMiddleIdeal.nD Cert.SampleMiddleIdeal.τ).loc Cert.SampleMiddleIdeal.main_v15) = v4 c
          ∧ r.2.mem ((c.tc : Thread Cert.SampleMiddleIdeal.nD Cert.SampleMiddleIdeal.τ).loc Cert.SampleMiddleIdeal.main_arg0) = m ((c.tc : Thread Cert.SampleMiddleIdeal.nD Cert.SampleMiddleIdeal.τ).loc Cert.SampleMiddleIdeal.main_arg0)
          ∧ r.2.mem ((c.tc : Thread Cert.SampleMiddleIdeal.nD Cert.SampleMiddleIdeal.τ).loc Cert.SampleMiddleIdeal.main_arg1) = m ((c.tc : Thread Cert.SampleMiddleIdeal.nD Cert.SampleMiddleIdeal.τ).loc Cert.SampleMiddleIdeal.main_arg1)
          ∧ r.2.mem ((c.tc : Thread Cert.SampleMiddleIdeal.nD Cert.SampleMiddleIdeal.τ).loc Cert.SampleMiddleIdeal.main_arg2) = m ((c.tc : Thread Cert.SampleMiddleIdeal.nD Cert.SampleMiddleIdeal.τ).loc Cert.SampleMiddleIdeal.main_arg2)
          ∧ r.2.mem ((c.tc : Thread Cert.SampleMiddleIdeal.nD Cert.SampleMiddleIdeal.τ).loc Cert.SampleMiddleIdeal.main_arg3) = m ((c.tc : Thread Cert.SampleMiddleIdeal.nD Cert.SampleMiddleIdeal.τ).loc Cert.SampleMiddleIdeal.main_arg3)
          ∧ r.2.mem ((c.tc : Thread Cert.SampleMiddleIdeal.nD Cert.SampleMiddleIdeal.τ).loc Cert.SampleMiddleIdeal.main_arg4) = m ((c.tc : Thread Cert.SampleMiddleIdeal.nD Cert.SampleMiddleIdeal.τ).loc Cert.SampleMiddleIdeal.main_arg4)
          ∧ r.2.mem ((c.tc : Thread Cert.SampleMiddleIdeal.nD Cert.SampleMiddleIdeal.τ).loc Cert.SampleMiddleIdeal.main_arg5) = m ((c.tc : Thread Cert.SampleMiddleIdeal.nD Cert.SampleMiddleIdeal.τ).loc Cert.SampleMiddleIdeal.main_arg5))
      ∧ θ_run (Cert.SampleMiddleReferenceIdeal.defs (F := Ideal)) (onTc (τ := Cert.SampleMiddleReferenceIdeal.τ) (Cert.SampleMiddleReferenceIdeal.main (F := Ideal))) ⟨m', fun _ => 0, g'⟩ (fun r => ∀ c : Dev Cert.SampleMiddleReferenceIdeal.nD,
          r.2.mem ((c.tc : Thread Cert.SampleMiddleReferenceIdeal.nD Cert.SampleMiddleReferenceIdeal.τ).loc Cert.SampleMiddleReferenceIdeal.main_v4) = v0 c
          ∧ r.2.mem ((c.tc : Thread Cert.SampleMiddleReferenceIdeal.nD Cert.SampleMiddleReferenceIdeal.τ).loc Cert.SampleMiddleReferenceIdeal.main_v31) = v1 c
          ∧ r.2.mem ((c.tc : Thread Cert.SampleMiddleReferenceIdeal.nD Cert.SampleMiddleReferenceIdeal.τ).loc Cert.SampleMiddleReferenceIdeal.main_v25) = v2 c
          ∧ r.2.mem ((c.tc : Thread Cert.SampleMiddleReferenceIdeal.nD Cert.SampleMiddleReferenceIdeal.τ).loc Cert.SampleMiddleReferenceIdeal.main_v32) = v3 c
          ∧ r.2.mem ((c.tc : Thread Cert.SampleMiddleReferenceIdeal.nD Cert.SampleMiddleReferenceIdeal.τ).loc Cert.SampleMiddleReferenceIdeal.main_v24) = v4 c
          ∧ r.2.mem ((c.tc : Thread Cert.SampleMiddleReferenceIdeal.nD Cert.SampleMiddleReferenceIdeal.τ).loc Cert.SampleMiddleReferenceIdeal.main_arg0) = m' ((c.tc : Thread Cert.SampleMiddleReferenceIdeal.nD Cert.SampleMiddleReferenceIdeal.τ).loc Cert.SampleMiddleReferenceIdeal.main_arg0)
          ∧ r.2.mem ((c.tc : Thread Cert.SampleMiddleReferenceIdeal.nD Cert.SampleMiddleReferenceIdeal.τ).loc Cert.SampleMiddleReferenceIdeal.main_arg1) = m' ((c.tc : Thread Cert.SampleMiddleReferenceIdeal.nD Cert.SampleMiddleReferenceIdeal.τ).loc Cert.SampleMiddleReferenceIdeal.main_arg1)
          ∧ r.2.mem ((c.tc : Thread Cert.SampleMiddleReferenceIdeal.nD Cert.SampleMiddleReferenceIdeal.τ).loc Cert.SampleMiddleReferenceIdeal.main_arg2) = m' ((c.tc : Thread Cert.SampleMiddleReferenceIdeal.nD Cert.SampleMiddleReferenceIdeal.τ).loc Cert.SampleMiddleReferenceIdeal.main_arg2)
          ∧ r.2.mem ((c.tc : Thread Cert.SampleMiddleReferenceIdeal.nD Cert.SampleMiddleReferenceIdeal.τ).loc Cert.SampleMiddleReferenceIdeal.main_arg3) = m' ((c.tc : Thread Cert.SampleMiddleReferenceIdeal.nD Cert.SampleMiddleReferenceIdeal.τ).loc Cert.SampleMiddleReferenceIdeal.main_arg3)
          ∧ r.2.mem ((c.tc : Thread Cert.SampleMiddleReferenceIdeal.nD Cert.SampleMiddleReferenceIdeal.τ).loc Cert.SampleMiddleReferenceIdeal.main_arg4) = m' ((c.tc : Thread Cert.SampleMiddleReferenceIdeal.nD Cert.SampleMiddleReferenceIdeal.τ).loc Cert.SampleMiddleReferenceIdeal.main_arg4)
          ∧ r.2.mem ((c.tc : Thread Cert.SampleMiddleReferenceIdeal.nD Cert.SampleMiddleReferenceIdeal.τ).loc Cert.SampleMiddleReferenceIdeal.main_arg5) = m' ((c.tc : Thread Cert.SampleMiddleReferenceIdeal.nD Cert.SampleMiddleReferenceIdeal.τ).loc Cert.SampleMiddleReferenceIdeal.main_arg5))

def preserves_SampleFinal_SampleFinalIdeal : Prop :=
  True

def algebraic_SampleFinalIdeal_SampleFinalReferenceIdeal [hSampleFinalIdeal : Cert.SampleFinalIdeal.Facts] [hSampleFinalReferenceIdeal : Cert.SampleFinalReferenceIdeal.Facts] : Prop :=
  ∀ (m : (ℓ : Loc Cert.SampleFinalIdeal.nD Cert.SampleFinalIdeal.τ Cert.SampleFinalIdeal.sig) → Buf (Elt Ideal) ℓ) (g : Dev Cert.SampleFinalIdeal.nD → PrngReg)
    (m' : (ℓ : Loc Cert.SampleFinalReferenceIdeal.nD Cert.SampleFinalReferenceIdeal.τ Cert.SampleFinalReferenceIdeal.sig) → Buf (Elt Ideal) ℓ) (g' : Dev Cert.SampleFinalReferenceIdeal.nD → PrngReg), Pre_SampleFinalIdeal m →
    (∀ c : Dev Cert.SampleFinalIdeal.nD,
      m' ((c.tc : Thread Cert.SampleFinalReferenceIdeal.nD Cert.SampleFinalReferenceIdeal.τ).loc Cert.SampleFinalReferenceIdeal.main_arg0) = m ((c.tc : Thread Cert.SampleFinalIdeal.nD Cert.SampleFinalIdeal.τ).loc Cert.SampleFinalIdeal.main_arg0)
      ∧ m' ((c.tc : Thread Cert.SampleFinalReferenceIdeal.nD Cert.SampleFinalReferenceIdeal.τ).loc Cert.SampleFinalReferenceIdeal.main_arg1) = m ((c.tc : Thread Cert.SampleFinalIdeal.nD Cert.SampleFinalIdeal.τ).loc Cert.SampleFinalIdeal.main_arg1)
      ∧ m' ((c.tc : Thread Cert.SampleFinalReferenceIdeal.nD Cert.SampleFinalReferenceIdeal.τ).loc Cert.SampleFinalReferenceIdeal.main_arg2) = m ((c.tc : Thread Cert.SampleFinalIdeal.nD Cert.SampleFinalIdeal.τ).loc Cert.SampleFinalIdeal.main_arg2)
      ∧ m' ((c.tc : Thread Cert.SampleFinalReferenceIdeal.nD Cert.SampleFinalReferenceIdeal.τ).loc Cert.SampleFinalReferenceIdeal.main_arg3) = m ((c.tc : Thread Cert.SampleFinalIdeal.nD Cert.SampleFinalIdeal.τ).loc Cert.SampleFinalIdeal.main_arg3)) →
    ∃ (v0 : (c : Dev Cert.SampleFinalIdeal.nD) → Buf (Elt Ideal) ((c.tc : Thread Cert.SampleFinalIdeal.nD Cert.SampleFinalIdeal.τ).loc Cert.SampleFinalIdeal.main_v5)),
      θ_run (Cert.SampleFinalIdeal.defs (F := Ideal)) (onTc (τ := Cert.SampleFinalIdeal.τ) (Cert.SampleFinalIdeal.main (F := Ideal))) ⟨m, fun _ => 0, g⟩ (fun r => ∀ c : Dev Cert.SampleFinalIdeal.nD,
          r.2.mem ((c.tc : Thread Cert.SampleFinalIdeal.nD Cert.SampleFinalIdeal.τ).loc Cert.SampleFinalIdeal.main_v5) = v0 c
          ∧ r.2.mem ((c.tc : Thread Cert.SampleFinalIdeal.nD Cert.SampleFinalIdeal.τ).loc Cert.SampleFinalIdeal.main_arg0) = m ((c.tc : Thread Cert.SampleFinalIdeal.nD Cert.SampleFinalIdeal.τ).loc Cert.SampleFinalIdeal.main_arg0)
          ∧ r.2.mem ((c.tc : Thread Cert.SampleFinalIdeal.nD Cert.SampleFinalIdeal.τ).loc Cert.SampleFinalIdeal.main_arg1) = m ((c.tc : Thread Cert.SampleFinalIdeal.nD Cert.SampleFinalIdeal.τ).loc Cert.SampleFinalIdeal.main_arg1)
          ∧ r.2.mem ((c.tc : Thread Cert.SampleFinalIdeal.nD Cert.SampleFinalIdeal.τ).loc Cert.SampleFinalIdeal.main_arg2) = m ((c.tc : Thread Cert.SampleFinalIdeal.nD Cert.SampleFinalIdeal.τ).loc Cert.SampleFinalIdeal.main_arg2)
          ∧ r.2.mem ((c.tc : Thread Cert.SampleFinalIdeal.nD Cert.SampleFinalIdeal.τ).loc Cert.SampleFinalIdeal.main_arg3) = m ((c.tc : Thread Cert.SampleFinalIdeal.nD Cert.SampleFinalIdeal.τ).loc Cert.SampleFinalIdeal.main_arg3))
      ∧ θ_run (Cert.SampleFinalReferenceIdeal.defs (F := Ideal)) (onTc (τ := Cert.SampleFinalReferenceIdeal.τ) (Cert.SampleFinalReferenceIdeal.main (F := Ideal))) ⟨m', fun _ => 0, g'⟩ (fun r => ∀ c : Dev Cert.SampleFinalReferenceIdeal.nD,
          r.2.mem ((c.tc : Thread Cert.SampleFinalReferenceIdeal.nD Cert.SampleFinalReferenceIdeal.τ).loc Cert.SampleFinalReferenceIdeal.main_v15) = v0 c
          ∧ r.2.mem ((c.tc : Thread Cert.SampleFinalReferenceIdeal.nD Cert.SampleFinalReferenceIdeal.τ).loc Cert.SampleFinalReferenceIdeal.main_arg0) = m' ((c.tc : Thread Cert.SampleFinalReferenceIdeal.nD Cert.SampleFinalReferenceIdeal.τ).loc Cert.SampleFinalReferenceIdeal.main_arg0)
          ∧ r.2.mem ((c.tc : Thread Cert.SampleFinalReferenceIdeal.nD Cert.SampleFinalReferenceIdeal.τ).loc Cert.SampleFinalReferenceIdeal.main_arg1) = m' ((c.tc : Thread Cert.SampleFinalReferenceIdeal.nD Cert.SampleFinalReferenceIdeal.τ).loc Cert.SampleFinalReferenceIdeal.main_arg1)
          ∧ r.2.mem ((c.tc : Thread Cert.SampleFinalReferenceIdeal.nD Cert.SampleFinalReferenceIdeal.τ).loc Cert.SampleFinalReferenceIdeal.main_arg2) = m' ((c.tc : Thread Cert.SampleFinalReferenceIdeal.nD Cert.SampleFinalReferenceIdeal.τ).loc Cert.SampleFinalReferenceIdeal.main_arg2)
          ∧ r.2.mem ((c.tc : Thread Cert.SampleFinalReferenceIdeal.nD Cert.SampleFinalReferenceIdeal.τ).loc Cert.SampleFinalReferenceIdeal.main_arg3) = m' ((c.tc : Thread Cert.SampleFinalReferenceIdeal.nD Cert.SampleFinalReferenceIdeal.τ).loc Cert.SampleFinalReferenceIdeal.main_arg3))

def preserves_Rows_RowsIdeal : Prop :=
  True

def algebraic_RowsIdeal_RowsReferenceIdeal [hRowsIdeal : Cert.RowsIdeal.Facts] [hRowsReferenceIdeal : Cert.RowsReferenceIdeal.Facts] : Prop :=
  ∀ (m : (ℓ : Loc Cert.RowsIdeal.nD Cert.RowsIdeal.τ Cert.RowsIdeal.sig) → Buf (Elt Ideal) ℓ) (g : Dev Cert.RowsIdeal.nD → PrngReg)
    (m' : (ℓ : Loc Cert.RowsReferenceIdeal.nD Cert.RowsReferenceIdeal.τ Cert.RowsReferenceIdeal.sig) → Buf (Elt Ideal) ℓ) (g' : Dev Cert.RowsReferenceIdeal.nD → PrngReg), Pre_RowsIdeal m →
    (∀ c : Dev Cert.RowsIdeal.nD,
      m' ((c.tc : Thread Cert.RowsReferenceIdeal.nD Cert.RowsReferenceIdeal.τ).loc Cert.RowsReferenceIdeal.main_arg0) = m ((c.tc : Thread Cert.RowsIdeal.nD Cert.RowsIdeal.τ).loc Cert.RowsIdeal.main_arg0)
      ∧ m' ((c.tc : Thread Cert.RowsReferenceIdeal.nD Cert.RowsReferenceIdeal.τ).loc Cert.RowsReferenceIdeal.main_arg1) = m ((c.tc : Thread Cert.RowsIdeal.nD Cert.RowsIdeal.τ).loc Cert.RowsIdeal.main_arg1)) →
    ∃ (v0 : (c : Dev Cert.RowsIdeal.nD) → Buf (Elt Ideal) ((c.tc : Thread Cert.RowsIdeal.nD Cert.RowsIdeal.τ).loc Cert.RowsIdeal.main_v3)),
      θ_run (Cert.RowsIdeal.defs (F := Ideal)) (onTc (τ := Cert.RowsIdeal.τ) (Cert.RowsIdeal.main (F := Ideal))) ⟨m, fun _ => 0, g⟩ (fun r => ∀ c : Dev Cert.RowsIdeal.nD,
          r.2.mem ((c.tc : Thread Cert.RowsIdeal.nD Cert.RowsIdeal.τ).loc Cert.RowsIdeal.main_v3) = v0 c
          ∧ r.2.mem ((c.tc : Thread Cert.RowsIdeal.nD Cert.RowsIdeal.τ).loc Cert.RowsIdeal.main_arg0) = m ((c.tc : Thread Cert.RowsIdeal.nD Cert.RowsIdeal.τ).loc Cert.RowsIdeal.main_arg0)
          ∧ r.2.mem ((c.tc : Thread Cert.RowsIdeal.nD Cert.RowsIdeal.τ).loc Cert.RowsIdeal.main_arg1) = m ((c.tc : Thread Cert.RowsIdeal.nD Cert.RowsIdeal.τ).loc Cert.RowsIdeal.main_arg1))
      ∧ θ_run (Cert.RowsReferenceIdeal.defs (F := Ideal)) (onTc (τ := Cert.RowsReferenceIdeal.τ) (Cert.RowsReferenceIdeal.main (F := Ideal))) ⟨m', fun _ => 0, g'⟩ (fun r => ∀ c : Dev Cert.RowsReferenceIdeal.nD,
          r.2.mem ((c.tc : Thread Cert.RowsReferenceIdeal.nD Cert.RowsReferenceIdeal.τ).loc Cert.RowsReferenceIdeal.main_v6) = v0 c
          ∧ r.2.mem ((c.tc : Thread Cert.RowsReferenceIdeal.nD Cert.RowsReferenceIdeal.τ).loc Cert.RowsReferenceIdeal.main_arg0) = m' ((c.tc : Thread Cert.RowsReferenceIdeal.nD Cert.RowsReferenceIdeal.τ).loc Cert.RowsReferenceIdeal.main_arg0)
          ∧ r.2.mem ((c.tc : Thread Cert.RowsReferenceIdeal.nD Cert.RowsReferenceIdeal.τ).loc Cert.RowsReferenceIdeal.main_arg1) = m' ((c.tc : Thread Cert.RowsReferenceIdeal.nD Cert.RowsReferenceIdeal.τ).loc Cert.RowsReferenceIdeal.main_arg1))

def preserves_EvenRows_EvenRowsIdeal : Prop :=
  True

def algebraic_EvenRowsIdeal_EvenRowsReferenceIdeal [hEvenRowsIdeal : Cert.EvenRowsIdeal.Facts] [hEvenRowsReferenceIdeal : Cert.EvenRowsReferenceIdeal.Facts] : Prop :=
  ∀ (m : (ℓ : Loc Cert.EvenRowsIdeal.nD Cert.EvenRowsIdeal.τ Cert.EvenRowsIdeal.sig) → Buf (Elt Ideal) ℓ) (g : Dev Cert.EvenRowsIdeal.nD → PrngReg)
    (m' : (ℓ : Loc Cert.EvenRowsReferenceIdeal.nD Cert.EvenRowsReferenceIdeal.τ Cert.EvenRowsReferenceIdeal.sig) → Buf (Elt Ideal) ℓ) (g' : Dev Cert.EvenRowsReferenceIdeal.nD → PrngReg), Pre_EvenRowsIdeal m →
    (∀ c : Dev Cert.EvenRowsIdeal.nD,
      m' ((c.tc : Thread Cert.EvenRowsReferenceIdeal.nD Cert.EvenRowsReferenceIdeal.τ).loc Cert.EvenRowsReferenceIdeal.main_arg0) = m ((c.tc : Thread Cert.EvenRowsIdeal.nD Cert.EvenRowsIdeal.τ).loc Cert.EvenRowsIdeal.main_arg0)
      ∧ m' ((c.tc : Thread Cert.EvenRowsReferenceIdeal.nD Cert.EvenRowsReferenceIdeal.τ).loc Cert.EvenRowsReferenceIdeal.main_arg1) = m ((c.tc : Thread Cert.EvenRowsIdeal.nD Cert.EvenRowsIdeal.τ).loc Cert.EvenRowsIdeal.main_arg1)) →
    ∃ (v0 : (c : Dev Cert.EvenRowsIdeal.nD) → Buf (Elt Ideal) ((c.tc : Thread Cert.EvenRowsIdeal.nD Cert.EvenRowsIdeal.τ).loc Cert.EvenRowsIdeal.main_v3)),
      θ_run (Cert.EvenRowsIdeal.defs (F := Ideal)) (onTc (τ := Cert.EvenRowsIdeal.τ) (Cert.EvenRowsIdeal.main (F := Ideal))) ⟨m, fun _ => 0, g⟩ (fun r => ∀ c : Dev Cert.EvenRowsIdeal.nD,
          r.2.mem ((c.tc : Thread Cert.EvenRowsIdeal.nD Cert.EvenRowsIdeal.τ).loc Cert.EvenRowsIdeal.main_v3) = v0 c
          ∧ r.2.mem ((c.tc : Thread Cert.EvenRowsIdeal.nD Cert.EvenRowsIdeal.τ).loc Cert.EvenRowsIdeal.main_arg0) = m ((c.tc : Thread Cert.EvenRowsIdeal.nD Cert.EvenRowsIdeal.τ).loc Cert.EvenRowsIdeal.main_arg0)
          ∧ r.2.mem ((c.tc : Thread Cert.EvenRowsIdeal.nD Cert.EvenRowsIdeal.τ).loc Cert.EvenRowsIdeal.main_arg1) = m ((c.tc : Thread Cert.EvenRowsIdeal.nD Cert.EvenRowsIdeal.τ).loc Cert.EvenRowsIdeal.main_arg1))
      ∧ θ_run (Cert.EvenRowsReferenceIdeal.defs (F := Ideal)) (onTc (τ := Cert.EvenRowsReferenceIdeal.τ) (Cert.EvenRowsReferenceIdeal.main (F := Ideal))) ⟨m', fun _ => 0, g'⟩ (fun r => ∀ c : Dev Cert.EvenRowsReferenceIdeal.nD,
          r.2.mem ((c.tc : Thread Cert.EvenRowsReferenceIdeal.nD Cert.EvenRowsReferenceIdeal.τ).loc Cert.EvenRowsReferenceIdeal.main_v5) = v0 c
          ∧ r.2.mem ((c.tc : Thread Cert.EvenRowsReferenceIdeal.nD Cert.EvenRowsReferenceIdeal.τ).loc Cert.EvenRowsReferenceIdeal.main_arg0) = m' ((c.tc : Thread Cert.EvenRowsReferenceIdeal.nD Cert.EvenRowsReferenceIdeal.τ).loc Cert.EvenRowsReferenceIdeal.main_arg0)
          ∧ r.2.mem ((c.tc : Thread Cert.EvenRowsReferenceIdeal.nD Cert.EvenRowsReferenceIdeal.τ).loc Cert.EvenRowsReferenceIdeal.main_arg1) = m' ((c.tc : Thread Cert.EvenRowsReferenceIdeal.nD Cert.EvenRowsReferenceIdeal.τ).loc Cert.EvenRowsReferenceIdeal.main_arg1))

def preserves_SampleBand_SampleBandIdeal : Prop :=
  True

def algebraic_SampleBandIdeal_SampleBandReferenceIdeal_pre_band_finite [hSampleBandIdeal : Cert.SampleBandIdeal.Facts] [hSampleBandReferenceIdeal : Cert.SampleBandReferenceIdeal.Facts] [hPre_band_finite : Cert.Pre_band_finite.Facts] : Prop :=
  ∀ (m : (ℓ : Loc Cert.SampleBandIdeal.nD Cert.SampleBandIdeal.τ Cert.SampleBandIdeal.sig) → Buf (Elt Ideal) ℓ) (g : Dev Cert.SampleBandIdeal.nD → PrngReg)
    (m' : (ℓ : Loc Cert.SampleBandReferenceIdeal.nD Cert.SampleBandReferenceIdeal.τ Cert.SampleBandReferenceIdeal.sig) → Buf (Elt Ideal) ℓ) (g' : Dev Cert.SampleBandReferenceIdeal.nD → PrngReg), Pre_SampleBandIdeal_band_finite m →
    (∀ c : Dev Cert.SampleBandIdeal.nD,
      m' ((c.tc : Thread Cert.SampleBandReferenceIdeal.nD Cert.SampleBandReferenceIdeal.τ).loc Cert.SampleBandReferenceIdeal.main_arg0) = m ((c.tc : Thread Cert.SampleBandIdeal.nD Cert.SampleBandIdeal.τ).loc Cert.SampleBandIdeal.main_arg0)
      ∧ m' ((c.tc : Thread Cert.SampleBandReferenceIdeal.nD Cert.SampleBandReferenceIdeal.τ).loc Cert.SampleBandReferenceIdeal.main_arg1) = m ((c.tc : Thread Cert.SampleBandIdeal.nD Cert.SampleBandIdeal.τ).loc Cert.SampleBandIdeal.main_arg1)
      ∧ m' ((c.tc : Thread Cert.SampleBandReferenceIdeal.nD Cert.SampleBandReferenceIdeal.τ).loc Cert.SampleBandReferenceIdeal.main_arg2) = m ((c.tc : Thread Cert.SampleBandIdeal.nD Cert.SampleBandIdeal.τ).loc Cert.SampleBandIdeal.main_arg2)
      ∧ m' ((c.tc : Thread Cert.SampleBandReferenceIdeal.nD Cert.SampleBandReferenceIdeal.τ).loc Cert.SampleBandReferenceIdeal.main_arg3) = m ((c.tc : Thread Cert.SampleBandIdeal.nD Cert.SampleBandIdeal.τ).loc Cert.SampleBandIdeal.main_arg3)) →
    ∃ (v0 : (c : Dev Cert.SampleBandIdeal.nD) → Buf (Elt Ideal) ((c.tc : Thread Cert.SampleBandIdeal.nD Cert.SampleBandIdeal.τ).loc Cert.SampleBandIdeal.main_v551)),
      θ_run (Cert.SampleBandIdeal.defs (F := Ideal)) (onTc (τ := Cert.SampleBandIdeal.τ) (Cert.SampleBandIdeal.main (F := Ideal))) ⟨m, fun _ => 0, g⟩ (fun r => ∀ c : Dev Cert.SampleBandIdeal.nD,
          r.2.mem ((c.tc : Thread Cert.SampleBandIdeal.nD Cert.SampleBandIdeal.τ).loc Cert.SampleBandIdeal.main_v551) = v0 c
          ∧ r.2.mem ((c.tc : Thread Cert.SampleBandIdeal.nD Cert.SampleBandIdeal.τ).loc Cert.SampleBandIdeal.main_arg0) = m ((c.tc : Thread Cert.SampleBandIdeal.nD Cert.SampleBandIdeal.τ).loc Cert.SampleBandIdeal.main_arg0)
          ∧ r.2.mem ((c.tc : Thread Cert.SampleBandIdeal.nD Cert.SampleBandIdeal.τ).loc Cert.SampleBandIdeal.main_arg1) = m ((c.tc : Thread Cert.SampleBandIdeal.nD Cert.SampleBandIdeal.τ).loc Cert.SampleBandIdeal.main_arg1)
          ∧ r.2.mem ((c.tc : Thread Cert.SampleBandIdeal.nD Cert.SampleBandIdeal.τ).loc Cert.SampleBandIdeal.main_arg2) = m ((c.tc : Thread Cert.SampleBandIdeal.nD Cert.SampleBandIdeal.τ).loc Cert.SampleBandIdeal.main_arg2)
          ∧ r.2.mem ((c.tc : Thread Cert.SampleBandIdeal.nD Cert.SampleBandIdeal.τ).loc Cert.SampleBandIdeal.main_arg3) = m ((c.tc : Thread Cert.SampleBandIdeal.nD Cert.SampleBandIdeal.τ).loc Cert.SampleBandIdeal.main_arg3))
      ∧ θ_run (Cert.SampleBandReferenceIdeal.defs (F := Ideal)) (onTc (τ := Cert.SampleBandReferenceIdeal.τ) (Cert.SampleBandReferenceIdeal.main (F := Ideal))) ⟨m', fun _ => 0, g'⟩ (fun r => ∀ c : Dev Cert.SampleBandReferenceIdeal.nD,
          r.2.mem ((c.tc : Thread Cert.SampleBandReferenceIdeal.nD Cert.SampleBandReferenceIdeal.τ).loc Cert.SampleBandReferenceIdeal.main_v72) = v0 c
          ∧ r.2.mem ((c.tc : Thread Cert.SampleBandReferenceIdeal.nD Cert.SampleBandReferenceIdeal.τ).loc Cert.SampleBandReferenceIdeal.main_arg0) = m' ((c.tc : Thread Cert.SampleBandReferenceIdeal.nD Cert.SampleBandReferenceIdeal.τ).loc Cert.SampleBandReferenceIdeal.main_arg0)
          ∧ r.2.mem ((c.tc : Thread Cert.SampleBandReferenceIdeal.nD Cert.SampleBandReferenceIdeal.τ).loc Cert.SampleBandReferenceIdeal.main_arg1) = m' ((c.tc : Thread Cert.SampleBandReferenceIdeal.nD Cert.SampleBandReferenceIdeal.τ).loc Cert.SampleBandReferenceIdeal.main_arg1)
          ∧ r.2.mem ((c.tc : Thread Cert.SampleBandReferenceIdeal.nD Cert.SampleBandReferenceIdeal.τ).loc Cert.SampleBandReferenceIdeal.main_arg2) = m' ((c.tc : Thread Cert.SampleBandReferenceIdeal.nD Cert.SampleBandReferenceIdeal.τ).loc Cert.SampleBandReferenceIdeal.main_arg2)
          ∧ r.2.mem ((c.tc : Thread Cert.SampleBandReferenceIdeal.nD Cert.SampleBandReferenceIdeal.τ).loc Cert.SampleBandReferenceIdeal.main_arg3) = m' ((c.tc : Thread Cert.SampleBandReferenceIdeal.nD Cert.SampleBandReferenceIdeal.τ).loc Cert.SampleBandReferenceIdeal.main_arg3))

def Claim : Prop :=
  ∃ (hKernel : Cert.Kernel.Facts) (hKernelIdeal : Cert.KernelIdeal.Facts) (hReferenceIdeal : Cert.ReferenceIdeal.Facts) (hEven : Cert.Even.Facts) (hEvenIdeal : Cert.EvenIdeal.Facts) (hEvenReferenceIdeal : Cert.EvenReferenceIdeal.Facts) (hMiddle : Cert.Middle.Facts) (hMiddleIdeal : Cert.MiddleIdeal.Facts) (hMiddleReferenceIdeal : Cert.MiddleReferenceIdeal.Facts) (hFinal : Cert.Final.Facts) (hFinalIdeal : Cert.FinalIdeal.Facts) (hFinalReferenceIdeal : Cert.FinalReferenceIdeal.Facts) (hSampleEven : Cert.SampleEven.Facts) (hSampleEvenIdeal : Cert.SampleEvenIdeal.Facts) (hSampleEvenReferenceIdeal : Cert.SampleEvenReferenceIdeal.Facts) (hSampleMiddle : Cert.SampleMiddle.Facts) (hSampleMiddleIdeal : Cert.SampleMiddleIdeal.Facts) (hSampleMiddleReferenceIdeal : Cert.SampleMiddleReferenceIdeal.Facts) (hSampleFinal : Cert.SampleFinal.Facts) (hSampleFinalIdeal : Cert.SampleFinalIdeal.Facts) (hSampleFinalReferenceIdeal : Cert.SampleFinalReferenceIdeal.Facts) (hRows : Cert.Rows.Facts) (hRowsIdeal : Cert.RowsIdeal.Facts) (hRowsReferenceIdeal : Cert.RowsReferenceIdeal.Facts) (hEvenRows : Cert.EvenRows.Facts) (hEvenRowsIdeal : Cert.EvenRowsIdeal.Facts) (hEvenRowsReferenceIdeal : Cert.EvenRowsReferenceIdeal.Facts) (hSampleBand : Cert.SampleBand.Facts) (hSampleBandIdeal : Cert.SampleBandIdeal.Facts) (hSampleBandReferenceIdeal : Cert.SampleBandReferenceIdeal.Facts) (hPre_finite_logits : Cert.Pre_finite_logits.Facts) (hPre_band_finite : Cert.Pre_band_finite.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Even (hEven := hEven)
    ∧ quiescent_EvenIdeal (hEvenIdeal := hEvenIdeal)
    ∧ quiescent_EvenReferenceIdeal (hEvenReferenceIdeal := hEvenReferenceIdeal)
    ∧ quiescent_Middle (hMiddle := hMiddle)
    ∧ quiescent_MiddleIdeal (hMiddleIdeal := hMiddleIdeal)
    ∧ quiescent_MiddleReferenceIdeal (hMiddleReferenceIdeal := hMiddleReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_SampleEven (hSampleEven := hSampleEven)
    ∧ quiescent_SampleEvenIdeal (hSampleEvenIdeal := hSampleEvenIdeal)
    ∧ quiescent_SampleEvenReferenceIdeal (hSampleEvenReferenceIdeal := hSampleEvenReferenceIdeal)
    ∧ quiescent_SampleMiddle (hSampleMiddle := hSampleMiddle)
    ∧ quiescent_SampleMiddleIdeal (hSampleMiddleIdeal := hSampleMiddleIdeal)
    ∧ quiescent_SampleMiddleReferenceIdeal (hSampleMiddleReferenceIdeal := hSampleMiddleReferenceIdeal)
    ∧ quiescent_SampleFinal (hSampleFinal := hSampleFinal)
    ∧ quiescent_SampleFinalIdeal (hSampleFinalIdeal := hSampleFinalIdeal)
    ∧ quiescent_SampleFinalReferenceIdeal (hSampleFinalReferenceIdeal := hSampleFinalReferenceIdeal)
    ∧ quiescent_Rows (hRows := hRows)
    ∧ quiescent_RowsIdeal (hRowsIdeal := hRowsIdeal)
    ∧ quiescent_RowsReferenceIdeal (hRowsReferenceIdeal := hRowsReferenceIdeal)
    ∧ quiescent_EvenRows (hEvenRows := hEvenRows)
    ∧ quiescent_EvenRowsIdeal (hEvenRowsIdeal := hEvenRowsIdeal)
    ∧ quiescent_EvenRowsReferenceIdeal (hEvenRowsReferenceIdeal := hEvenRowsReferenceIdeal)
    ∧ quiescent_SampleBand (hSampleBand := hSampleBand)
    ∧ quiescent_SampleBandIdeal (hSampleBandIdeal := hSampleBandIdeal)
    ∧ quiescent_SampleBandIdeal_pre_band_finite (hSampleBandIdeal := hSampleBandIdeal) (hPre_band_finite := hPre_band_finite)
    ∧ quiescent_SampleBandReferenceIdeal (hSampleBandReferenceIdeal := hSampleBandReferenceIdeal)
    ∧ quiescent_SampleBandReferenceIdeal_pre_band_finite (hSampleBandReferenceIdeal := hSampleBandReferenceIdeal) (hPre_band_finite := hPre_band_finite)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Even_EvenIdeal
    ∧ algebraic_EvenIdeal_EvenReferenceIdeal (hEvenIdeal := hEvenIdeal) (hEvenReferenceIdeal := hEvenReferenceIdeal)
    ∧ preserves_Middle_MiddleIdeal
    ∧ algebraic_MiddleIdeal_MiddleReferenceIdeal (hMiddleIdeal := hMiddleIdeal) (hMiddleReferenceIdeal := hMiddleReferenceIdeal)
    ∧ preserves_Final_FinalIdeal
    ∧ algebraic_FinalIdeal_FinalReferenceIdeal (hFinalIdeal := hFinalIdeal) (hFinalReferenceIdeal := hFinalReferenceIdeal)
    ∧ preserves_SampleEven_SampleEvenIdeal
    ∧ algebraic_SampleEvenIdeal_SampleEvenReferenceIdeal (hSampleEvenIdeal := hSampleEvenIdeal) (hSampleEvenReferenceIdeal := hSampleEvenReferenceIdeal)
    ∧ preserves_SampleMiddle_SampleMiddleIdeal
    ∧ algebraic_SampleMiddleIdeal_SampleMiddleReferenceIdeal (hSampleMiddleIdeal := hSampleMiddleIdeal) (hSampleMiddleReferenceIdeal := hSampleMiddleReferenceIdeal)
    ∧ preserves_SampleFinal_SampleFinalIdeal
    ∧ algebraic_SampleFinalIdeal_SampleFinalReferenceIdeal (hSampleFinalIdeal := hSampleFinalIdeal) (hSampleFinalReferenceIdeal := hSampleFinalReferenceIdeal)
    ∧ preserves_Rows_RowsIdeal
    ∧ algebraic_RowsIdeal_RowsReferenceIdeal (hRowsIdeal := hRowsIdeal) (hRowsReferenceIdeal := hRowsReferenceIdeal)
    ∧ preserves_EvenRows_EvenRowsIdeal
    ∧ algebraic_EvenRowsIdeal_EvenRowsReferenceIdeal (hEvenRowsIdeal := hEvenRowsIdeal) (hEvenRowsReferenceIdeal := hEvenRowsReferenceIdeal)
    ∧ preserves_SampleBand_SampleBandIdeal
    ∧ algebraic_SampleBandIdeal_SampleBandReferenceIdeal_pre_band_finite (hSampleBandIdeal := hSampleBandIdeal) (hSampleBandReferenceIdeal := hSampleBandReferenceIdeal) (hPre_band_finite := hPre_band_finite)
-- ==== Pre_band_finite.lean ====
abbrev S128x4096 : Shape := ⟨2, ![128, 4096]⟩
abbrev S9216x8192 : Shape := ⟨2, ![9216, 8192]⟩
abbrev S32x129 : Shape := ⟨2, ![32, 129]⟩
abbrev S9216x4096 : Shape := ⟨2, ![9216, 4096]⟩
abbrev S_ : Shape := ⟨0, ![]⟩

class Facts : Prop where
  slices_S9216x8192_S9216x4096_0_0 : S9216x8192.Slices ![0, 0] S9216x4096
  bitsLt_bf16_f32 : FTy.bits .bf16 < FTy.bits .f32
  bcast_S_S128x4096 : S_.BroadcastsInDim S128x4096 (![] : Fin 0 → Fin S128x4096.rank)
  reducesTo_S128x4096_S_d0_1 : S128x4096.ReducesTo [0, 1] S_
  h_S_ : 0 < S_.numel
  bcast_S_S9216x4096 : S_.BroadcastsInDim S9216x4096 (![] : Fin 0 → Fin S9216x4096.rank)
  reducesTo_S9216x4096_S_d0_1 : S9216x4096.ReducesTo [0, 1] S_
  bcast_S_S32x129 : S_.BroadcastsInDim S32x129 (![] : Fin 0 → Fin S32x129.rank)
  reducesTo_S32x129_S_d0_1 : S32x129.ReducesTo [0, 1] S_

variable [Facts]

def fn {F : FTy → Type} [FloatOps F] (main_arg0 : FVec F S128x4096 .f32) (main_arg1 : FVec F S9216x8192 .bf16) (main_arg2 : FVec F S128x4096 .f32) (main_arg3 : FVec F S32x129 .f32) : IVec S_ 1 :=
  let main_v0 : FVec F S9216x4096 .bf16 := (extractStridedSlice S9216x4096 ![0, 0] · slices_S9216x8192_S9216x4096_0_0) main_arg1
  let main_v1 : FVec F S9216x4096 .f32 := (extf .f32 · bitsLt_bf16_f32) main_v0
  let main_v2 : FVec F S128x4096 .f32 := Host.absf main_arg0
  let main_cst : FVec F S_ .f32 := constant S_ .f32 0x7F800000#32
  let main_v3 : FVec F S128x4096 .f32 := broadcastInDim S128x4096 ![] bcast_S_S128x4096 main_cst
  let main_v4 : IVec S128x4096 1 := cmpf .olt main_v2 main_v3
  let main_c : IVec S_ 1 := constantI S_ 1 1#1
  let main_v5 : IVec S_ 1 := (fun x v => Host.reduce IntOp.andi x v reducesTo_S128x4096_S_d0_1 h_S_) main_v4 main_c
  let main_v6 : FVec F S9216x4096 .f32 := Host.absf main_v1
  let main_cst_0 : FVec F S_ .f32 := constant S_ .f32 0x7F800000#32
  let main_v7 : FVec F S9216x4096 .f32 := broadcastInDim S9216x4096 ![] bcast_S_S9216x4096 main_cst_0
  let main_v8 : IVec S9216x4096 1 := cmpf .olt main_v6 main_v7
  let main_c_1 : IVec S_ 1 := constantI S_ 1 1#1
  let main_v9 : IVec S_ 1 := (fun x v => Host.reduce IntOp.andi x v reducesTo_S9216x4096_S_d0_1 h_S_) main_v8 main_c_1
  let main_v10 : IVec S_ 1 := andi main_v5 main_v9
  let main_v11 : FVec F S32x129 .f32 := Host.absf main_arg3
  let main_cst_2 : FVec F S_ .f32 := constant S_ .f32 0x7F800000#32
  let main_v12 : FVec F S32x129 .f32 := broadcastInDim S32x129 ![] bcast_S_S32x129 main_cst_2
  let main_v13 : IVec S32x129 1 := cmpf .olt main_v11 main_v12
  let main_c_3 : IVec S_ 1 := constantI S_ 1 1#1
  let main_v14 : IVec S_ 1 := (fun x v => Host.reduce IntOp.andi x v reducesTo_S32x129_S_d0_1 h_S_) main_v13 main_c_3
  let main_v15 : IVec S_ 1 := andi main_v10 main_v14
  main_v15
-- ==== Pre_finite_logits.lean ====
abbrev S16384x4096 : Shape := ⟨2, ![16384, 4096]⟩
abbrev S16384x8192 : Shape := ⟨2, ![16384, 8192]⟩
abbrev S32x129 : Shape := ⟨2, ![32, 129]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  slices_S16384x8192_S16384x4096_0_0 : S16384x8192.Slices ![0, 0] S16384x4096
  bcast_S_S32x129 : S_.BroadcastsInDim S32x129 (![] : Fin 0 → Fin S32x129.rank)
  reducesTo_S32x129_S_d0_1 : S32x129.ReducesTo [0, 1] S_

variable [Facts]

def fn {F : FTy → Type} [FloatOps F] (main_arg0 : FVec F S16384x4096 .f32) (main_arg1 : FVec F S16384x8192 .f32) (main_arg2 : FVec F S16384x4096 .f32) (main_arg3 : FVec F S32x129 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x4096 .f32 := (extractStridedSlice S16384x4096 ![0, 0] · slices_S16384x8192_S16384x4096_0_0) main_arg1
  let main_v5 : FVec F S16384x4096 .f32 := Host.absf main_v4
  let main_cst_0 : FVec F S_ .f32 := constant S_ .f32 0x7F800000#32
  let main_v6 : FVec F S16384x4096 .f32 := broadcastInDim S16384x4096 ![] bcast_S_S16384x4096 main_cst_0
  let main_v7 : IVec S16384x4096 1 := cmpf .olt main_v5 main_v6
  let main_c_1 : IVec S_ 1 := constantI S_ 1 1#1
  let main_v8 : IVec S_ 1 := (fun x v => Host.reduce IntOp.andi x v reducesTo_S16384x4096_S_d0_1 h_S_) main_v7 main_c_1
  let main_v9 : IVec S_ 1 := andi main_v3 main_v8
  let main_v10 : FVec F S32x129 .f32 := Host.absf main_arg3
  let main_cst_2 : FVec F S_ .f32 := constant S_ .f32 0x7F800000#32
  let main_v11 : FVec F S32x129 .f32 := broadcastInDim S32x129 ![] bcast_S_S32x129 main_cst_2
  let main_v12 : IVec S32x129 1 := cmpf .olt main_v10 main_v11
  let main_c_3 : IVec S_ 1 := constantI S_ 1 1#1
  let main_v13 : IVec S_ 1 := (fun x v => Host.reduce IntOp.andi x v reducesTo_S32x129_S_d0_1 h_S_) main_v12 main_c_3
  let main_v14 : IVec S_ 1 := andi main_v9 main_v13
  main_v14
-- ==== Kernel.lean ====
abbrev S16384x4096 : Shape := ⟨2, ![16384, 4096]⟩
abbrev S16384x8192 : Shape := ⟨2, ![16384, 8192]⟩
abbrev S32x129 : Shape := ⟨2, ![32, 129]⟩
abbrev S_ : Shape := ⟨0, ![]⟩
abbrev S32x1 : Shape := ⟨2, ![32, 1]⟩
abbrev S32x191 : Shape := ⟨2, ![32, 191]⟩
abbrev S32x63 : Shape := ⟨2, ![32, 63]⟩
abbrev S32x383 : Shape := ⟨2, ![32, 383]⟩
abbrev S32x1x1 : Shape := ⟨3, ![32, 1, 1]⟩
abbrev S32x128x128 : Shape := ⟨3, ![32, 128, 128]⟩
abbrev S32x128 : Shape := ⟨2, ![32, 128]⟩
abbrev S32x1x128 : Shape := ⟨3, ![32, 1, 128]⟩
abbrev S32x16x128 : Shape := ⟨3, ![32, 16, 128]⟩
abbrev S32x1x128x128 : Shape := ⟨4, ![32, 1, 128, 128]⟩
abbrev S32x3x128x128 : Shape := ⟨4, ![32, 3, 128, 128]⟩
abbrev S512x1024 : Shape := ⟨2, ![512, 1024]⟩
abbrev S2048x1024 : Shape := ⟨2, ![2048, 1024]⟩
abbrev S8x3x128x128 : Shape := ⟨4, ![8, 3, 128, 128]⟩
abbrev S128x640 : Shape := ⟨2, ![128, 640]⟩
abbrev S128x128 : Shape := ⟨2, ![128, 128]⟩
abbrev S640x128 : Shape := ⟨2, ![640, 128]⟩
abbrev S1x1x128x128 : Shape := ⟨4, ![1, 1, 128, 128]⟩
abbrev S128 : Shape := ⟨1, ![128]⟩
abbrev S128x1 : Shape := ⟨2, ![128, 1]⟩

abbrev nBuf : Space → Nat
  | .hbm => 560
  | .vmem => 12
  | .smem => 0
  | _ => 0

abbrev hbmTy0_0 (i : Nat) : BufTy := match i % 128 with
  | 0 => ⟨S16384x4096, .f32⟩
  | 1 => ⟨S16384x8192, .f32⟩
  | 2 => ⟨S16384x4096, .f32⟩
  | 3 => ⟨S32x129, .f32⟩
  | 4 => ⟨S_, .f32⟩
  | 5 => ⟨S_, .f32⟩
  | 6 => ⟨S_, .f32⟩
  | 7 => ⟨S_, .f32⟩
  | 8 => ⟨S_, .f32⟩
  | 9 => ⟨S16384x4096, .f32⟩
  | 10 => ⟨S16384x4096, .f32⟩
  | 11 => ⟨S16384x4096, .bf16⟩
  | 12 => ⟨S16384x8192, .bf16⟩
  | 13 => ⟨S_, .f32⟩
  | 14 => ⟨S_, .f32⟩
  | 15 => ⟨S32x129, .f32⟩
  | 16 => ⟨S32x129, .f32⟩
  | 17 => ⟨S32x1, .f32⟩
  | 18 => ⟨S32x1, .f32⟩
  | 19 => ⟨S32x191, .f32⟩
  | 20 => ⟨S32x129, .f32⟩
  | 21 => ⟨S32x63, .f32⟩
  | 22 => ⟨S32x383, .f32⟩
  | 23 => ⟨S32x1x1, .f32⟩
  | 24 => ⟨S32x128x128, .f32⟩
  | 25 => ⟨S32x128, .f32⟩
  | 26 => ⟨S32x128, .f32⟩
  | 27 => ⟨S32x128, .f32⟩
  | 28 => ⟨S32x128, .f32⟩
  | 29 => ⟨S32x128, .f32⟩
  | 30 => ⟨S32x128, .f32⟩
  | 31 => ⟨S32x128, .f32⟩
  | 32 => ⟨S32x128, .f32⟩
  | 33 => ⟨S32x128, .f32⟩
  | 34 => ⟨S32x128, .f32⟩
  | 35 => ⟨S32x128, .f32⟩
  | 36 => ⟨S32x128, .f32⟩
  | 37 => ⟨S32x128, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S32x128, .f32⟩
  | 47 => ⟨S32x128, .f32⟩
  | 48 => ⟨S32x128, .f32⟩
  | 49 => ⟨S32x128, .f32⟩
  | 50 => ⟨S32x128, .f32⟩
  | 51 => ⟨S32x128, .f32⟩
  | 52 => ⟨S32x128, .f32⟩
  | 53 => ⟨S32x128, .f32⟩
  | 54 => ⟨S32x128, .f32⟩
  | 55 => ⟨S32x128, .f32⟩
  | 56 => ⟨S32x128, .f32⟩
  | 57 => ⟨S32x128, .f32⟩
  | 58 => ⟨S32x128, .f32⟩
  | 59 => ⟨S32x128, .f32⟩
  | 60 => ⟨S32x128, .f32⟩
  | 61 => ⟨S32x128, .f32⟩
  | 62 => ⟨S32x128, .f32⟩
  | 63 => ⟨S32x128, .f32⟩
  | 64 => ⟨S32x128, .f32⟩
  | 65 => ⟨S32x128, .f32⟩
  | 66 => ⟨S32x128, .f32⟩
  | 67 => ⟨S32x128, .f32⟩
  | 68 => ⟨S32x128, .f32⟩
  | 69 => ⟨S32x128, .f32⟩
  | 70 => ⟨S32x128, .f32⟩
  | 71 => ⟨S32x128, .f32⟩
  | 72 => ⟨S32x128, .f32⟩
  | 73 => ⟨S32x128, .f32⟩
  | 74 => ⟨S32x128, .f32⟩
  | 75 => ⟨S32x128, .f32⟩
  | 76 => ⟨S32x128, .f32⟩
  | 77 => ⟨S32x128, .f32⟩
  | 78 => ⟨S32x128, .f32⟩
  | 79 => ⟨S32x128, .f32⟩
  | 80 => ⟨S32x128, .f32⟩
  | 81 => ⟨S32x128, .f32⟩
  | 82 => ⟨S32x128, .f32⟩
  | 83 => ⟨S32x128, .f32⟩
  | 84 => ⟨S32x128, .f32⟩
  | 85 => ⟨S32x128, .f32⟩
  | 86 => ⟨S32x128, .f32⟩
  | 87 => ⟨S32x128, .f32⟩
  | 88 => ⟨S32x128, .f32⟩
  | 89 => ⟨S32x128, .f32⟩
  | 90 => ⟨S32x128, .f32⟩
  | 91 => ⟨S32x128, .f32⟩
  | 92 => ⟨S32x128, .f32⟩
  | 93 => ⟨S32x128, .f32⟩
  | 94 => ⟨S32x128, .f32⟩
  | 95 => ⟨S32x128, .f32⟩
  | 96 => ⟨S32x128, .f32⟩
  | 97 => ⟨S32x128, .f32⟩
  | 98 => ⟨S32x128, .f32⟩
  | 99 => ⟨S32x128, .f32⟩
  | 100 => ⟨S32x128, .f32⟩
  | 101 => ⟨S32x128, .f32⟩
  | 102 => ⟨S32x128, .f32⟩
  | 103 => ⟨S32x128, .f32⟩
  | 104 => ⟨S32x128, .f32⟩
  | 105 => ⟨S32x128, .f32⟩
  | 106 => ⟨S32x128, .f32⟩
  | 107 => ⟨S32x128, .f32⟩
  | 108 => ⟨S32x128, .f32⟩
  | 109 => ⟨S32x128, .f32⟩
  | 110 => ⟨S32x128, .f32⟩
  | 111 => ⟨S32x128, .f32⟩
  | 112 => ⟨S32x128, .f32⟩
  | 113 => ⟨S32x128, .f32⟩
  | 114 => ⟨S32x128, .f32⟩
  | 115 => ⟨S32x128, .f32⟩
  | 116 => ⟨S32x128, .f32⟩
  | 117 => ⟨S32x128, .f32⟩
  | 118 => ⟨S32x128, .f32⟩
  | 119 => ⟨S32x128, .f32⟩
  | 120 => ⟨S32x128, .f32⟩
  | 121 => ⟨S32x128, .f32⟩
  | 122 => ⟨S32x128, .f32⟩
  | 123 => ⟨S32x128, .f32⟩
  | 124 => ⟨S32x128, .f32⟩
  | 125 => ⟨S32x128, .f32⟩
  | 126 => ⟨S32x128, .f32⟩
  | 127 => ⟨S32x128, .f32⟩
  | _ => ⟨S16384x4096, .f32⟩

abbrev hbmTy0_1 (i : Nat) : BufTy := match i % 128 with
  | 0 => ⟨S32x128, .f32⟩
  | 1 => ⟨S32x128, .f32⟩
  | 2 => ⟨S32x128, .f32⟩
  | 3 => ⟨S32x128, .f32⟩
  | 4 => ⟨S32x128, .f32⟩
  | 5 => ⟨S32x128, .f32⟩
  | 6 => ⟨S32x128, .f32⟩
  | 7 => ⟨S32x128, .f32⟩
  | 8 => ⟨S32x128, .f32⟩
  | 9 => ⟨S32x128, .f32⟩
  | 10 => ⟨S32x128, .f32⟩
  | 11 => ⟨S32x128, .f32⟩
  | 12 => ⟨S32x128, .f32⟩
  | 13 => ⟨S32x128, .f32⟩
  | 14 => ⟨S32x128, .f32⟩
  | 15 => ⟨S32x128, .f32⟩
  | 16 => ⟨S32x128, .f32⟩
  | 17 => ⟨S32x128, .f32⟩
  | 18 => ⟨S32x128, .f32⟩
  | 19 => ⟨S32x128, .f32⟩
  | 20 => ⟨S32x128, .f32⟩
  | 21 => ⟨S32x128, .f32⟩
  | 22 => ⟨S32x128, .f32⟩
  | 23 => ⟨S32x128, .f32⟩
  | 24 => ⟨S32x128, .f32⟩
  | 25 => ⟨S32x1x128, .f32⟩
  | 26 => ⟨S32x1x128, .f32⟩
  | 27 => ⟨S32x1x128, .f32⟩
  | 28 => ⟨S32x1x128, .f32⟩
  | 29 => ⟨S32x1x128, .f32⟩
  | 30 => ⟨S32x1x128, .f32⟩
  | 31 => ⟨S32x1x128, .f32⟩
  | 32 => ⟨S32x1x128, .f32⟩
  | 33 => ⟨S32x1x128, .f32⟩
  | 34 => ⟨S32x1x128, .f32⟩
  | 35 => ⟨S32x1x128, .f32⟩
  | 36 => ⟨S32x1x128, .f32⟩
  | 37 => ⟨S32x1x128, .f32⟩
  | 38 => ⟨S32x1x128, .f32⟩
  | 39 => ⟨S32x1x128, .f32⟩
  | 40 => ⟨S32x1x128, .f32⟩
  | 41 => ⟨S32x1x128, .f32⟩
  | 42 => ⟨S32x1x128, .f32⟩
  | 43 => ⟨S32x1x128, .f32⟩
  | 44 => ⟨S32x1x128, .f32⟩
  | 45 => ⟨S32x1x128, .f32⟩
  | 46 => ⟨S32x1x128, .f32⟩
  | 47 => ⟨S32x1x128, .f32⟩
  | 48 => ⟨S32x1x128, .f32⟩
  | 49 => ⟨S32x1x128, .f32⟩
  | 50 => ⟨S32x1x128, .f32⟩
  | 51 => ⟨S32x1x128, .f32⟩
  | 52 => ⟨S32x1x128, .f32⟩
  | 53 => ⟨S32x1x128, .f32⟩
  | 54 => ⟨S32x1x128, .f32⟩
  | 55 => ⟨S32x1x128, .f32⟩
  | 56 => ⟨S32x1x128, .f32⟩
  | 57 => ⟨S32x1x128, .f32⟩
  | 58 => ⟨S32x1x128, .f32⟩
  | 59 => ⟨S32x1x128, .f32⟩
  | 60 => ⟨S32x1x128, .f32⟩
  | 61 => ⟨S32x1x128, .f32⟩
  | 62 => ⟨S32x1x128, .f32⟩
  | 63 => ⟨S32x1x128, .f32⟩
  | 64 => ⟨S32x1x128, .f32⟩
  | 65 => ⟨S32x1x128, .f32⟩
  | 66 => ⟨S32x1x128, .f32⟩
  | 67 => ⟨S32x1x128, .f32⟩
  | 68 => ⟨S32x1x128, .f32⟩
  | 69 => ⟨S32x1x128, .f32⟩
  | 70 => ⟨S32x1x128, .f32⟩
  | 71 => ⟨S32x1x128, .f32⟩
  | 72 => ⟨S32x1x128, .f32⟩
  | 73 => ⟨S32x1x128, .f32⟩
  | 74 => ⟨S32x1x128, .f32⟩
  | 75 => ⟨S32x1x128, .f32⟩
  | 76 => ⟨S32x1x128, .f32⟩
  | 77 => ⟨S32x1x128, .f32⟩
  | 78 => ⟨S32x1x128, .f32⟩
  | 79 => ⟨S32x1x128, .f32⟩
  | 80 => ⟨S32x1x128, .f32⟩
  | 81 => ⟨S32x1x128, .f32⟩
  | 82 => ⟨S32x1x128, .f32⟩
  | 83 => ⟨S32x1x128, .f32⟩
  | 84 => ⟨S32x1x128, .f32⟩
  | 85 => ⟨S32x1x128, .f32⟩
  | 86 => ⟨S32x1x128, .f32⟩
  | 87 => ⟨S32x1x128, .f32⟩
  | 88 => ⟨S32x1x128, .f32⟩
  | 89 => ⟨S32x1x128, .f32⟩
  | 90 => ⟨S32x1x128, .f32⟩
  | 91 => ⟨S32x1x128, .f32⟩
  | 92 => ⟨S32x1x128, .f32⟩
  | 93 => ⟨S32x1x128, .f32⟩
  | 94 => ⟨S32x1x128, .f32⟩
  | 95 => ⟨S32x1x128, .f32⟩
  | 96 => ⟨S32x1x128, .f32⟩
  | 97 => ⟨S32x1x128, .f32⟩
  | 98 => ⟨S32x1x128, .f32⟩
  | 99 => ⟨S32x1x128, .f32⟩
  | 100 => ⟨S32x1x128, .f32⟩
  | 101 => ⟨S32x1x128, .f32⟩
  | 102 => ⟨S32x1x128, .f32⟩
  | 103 => ⟨S32x1x128, .f32⟩
  | 104 => ⟨S32x1x128, .f32⟩
  | 105 => ⟨S32x1x128, .f32⟩
  | 106 => ⟨S32x1x128, .f32⟩
  | 107 => ⟨S32x1x128, .f32⟩
  | 108 => ⟨S32x1x128, .f32⟩
  | 109 => ⟨S32x1x128, .f32⟩
  | 110 => ⟨S32x1x128, .f32⟩
  | 111 => ⟨S32x1x128, .f32⟩
  | 112 => ⟨S32x1x128, .f32⟩
  | 113 => ⟨S32x1x128, .f32⟩
  | 114 => ⟨S32x1x128, .f32⟩
  | 115 => ⟨S32x1x128, .f32⟩
  | 116 => ⟨S32x1x128, .f32⟩
  | 117 => ⟨S32x1x128, .f32⟩
  | 118 => ⟨S32x1x128, .f32⟩
  | 119 => ⟨S32x1x128, .f32⟩
  | 120 => ⟨S32x1x128, .f32⟩
  | 121 => ⟨S32x1x128, .f32⟩
  | 122 => ⟨S32x1x128, .f32⟩
  | 123 => ⟨S32x1x128, .f32⟩
  | 124 => ⟨S32x1x128, .f32⟩
  | 125 => ⟨S32x1x128, .f32⟩
  | 126 => ⟨S32x1x128, .f32⟩
  | 127 => ⟨S32x1x128, .f32⟩
  | _ => ⟨S16384x4096, .f32⟩

abbrev hbmTy0_2 (i : Nat) : BufTy := match i % 128 with
  | 0 => ⟨S32x1x128, .f32⟩
  | 1 => ⟨S32x1x128, .f32⟩
  | 2 => ⟨S32x1x128, .f32⟩
  | 3 => ⟨S32x1x128, .f32⟩
  | 4 => ⟨S32x1x128, .f32⟩
  | 5 => ⟨S32x1x128, .f32⟩
  | 6 => ⟨S32x1x128, .f32⟩
  | 7 => ⟨S32x1x128, .f32⟩
  | 8 => ⟨S32x1x128, .f32⟩
  | 9 => ⟨S32x1x128, .f32⟩
  | 10 => ⟨S32x1x128, .f32⟩
  | 11 => ⟨S32x1x128, .f32⟩
  | 12 => ⟨S32x1x128, .f32⟩
  | 13 => ⟨S32x1x128, .f32⟩
  | 14 => ⟨S32x1x128, .f32⟩
  | 15 => ⟨S32x1x128, .f32⟩
  | 16 => ⟨S32x1x128, .f32⟩
  | 17 => ⟨S32x1x128, .f32⟩
  | 18 => ⟨S32x1x128, .f32⟩
  | 19 => ⟨S32x1x128, .f32⟩
  | 20 => ⟨S32x1x128, .f32⟩
  | 21 => ⟨S32x1x128, .f32⟩
  | 22 => ⟨S32x1x128, .f32⟩
  | 23 => ⟨S32x1x128, .f32⟩
  | 24 => ⟨S32x1x128, .f32⟩
  | 25 => ⟨S32x16x128, .f32⟩
  | 26 => ⟨S32x16x128, .f32⟩
  | 27 => ⟨S32x16x128, .f32⟩
  | 28 => ⟨S32x16x128, .f32⟩
  | 29 => ⟨S32x16x128, .f32⟩
  | 30 => ⟨S32x16x128, .f32⟩
  | 31 => ⟨S32x16x128, .f32⟩
  | 32 => ⟨S32x16x128, .f32⟩
  | 33 => ⟨S32x128x128, .f32⟩
  | 34 => ⟨S32x128, .f32⟩
  | 35 => ⟨S32x128, .f32⟩
  | 36 => ⟨S32x128, .f32⟩
  | 37 => ⟨S32x128, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S32x128, .f32⟩
  | 47 => ⟨S32x128, .f32⟩
  | 48 => ⟨S32x128, .f32⟩
  | 49 => ⟨S32x128, .f32⟩
  | 50 => ⟨S32x128, .f32⟩
  | 51 => ⟨S32x128, .f32⟩
  | 52 => ⟨S32x128, .f32⟩
  | 53 => ⟨S32x128, .f32⟩
  | 54 => ⟨S32x128, .f32⟩
  | 55 => ⟨S32x128, .f32⟩
  | 56 => ⟨S32x128, .f32⟩
  | 57 => ⟨S32x128, .f32⟩
  | 58 => ⟨S32x128, .f32⟩
  | 59 => ⟨S32x128, .f32⟩
  | 60 => ⟨S32x128, .f32⟩
  | 61 => ⟨S32x128, .f32⟩
  | 62 => ⟨S32x128, .f32⟩
  | 63 => ⟨S32x128, .f32⟩
  | 64 => ⟨S32x128, .f32⟩
  | 65 => ⟨S32x128, .f32⟩
  | 66 => ⟨S32x128, .f32⟩
  | 67 => ⟨S32x128, .f32⟩
  | 68 => ⟨S32x128, .f32⟩
  | 69 => ⟨S32x128, .f32⟩
  | 70 => ⟨S32x128, .f32⟩
  | 71 => ⟨S32x128, .f32⟩
  | 72 => ⟨S32x128, .f32⟩
  | 73 => ⟨S32x128, .f32⟩
  | 74 => ⟨S32x128, .f32⟩
  | 75 => ⟨S32x128, .f32⟩
  | 76 => ⟨S32x128, .f32⟩
  | 77 => ⟨S32x128, .f32⟩
  | 78 => ⟨S32x128, .f32⟩
  | 79 => ⟨S32x128, .f32⟩
  | 80 => ⟨S32x128, .f32⟩
  | 81 => ⟨S32x128, .f32⟩
  | 82 => ⟨S32x128, .f32⟩
  | 83 => ⟨S32x128, .f32⟩
  | 84 => ⟨S32x128, .f32⟩
  | 85 => ⟨S32x128, .f32⟩
  | 86 => ⟨S32x128, .f32⟩
  | 87 => ⟨S32x128, .f32⟩
  | 88 => ⟨S32x128, .f32⟩
  | 89 => ⟨S32x128, .f32⟩
  | 90 => ⟨S32x128, .f32⟩
  | 91 => ⟨S32x128, .f32⟩
  | 92 => ⟨S32x128, .f32⟩
  | 93 => ⟨S32x128, .f32⟩
  | 94 => ⟨S32x128, .f32⟩
  | 95 => ⟨S32x128, .f32⟩
  | 96 => ⟨S32x128, .f32⟩
  | 97 => ⟨S32x128, .f32⟩
  | 98 => ⟨S32x128, .f32⟩
  | 99 => ⟨S32x128, .f32⟩
  | 100 => ⟨S32x128, .f32⟩
  | 101 => ⟨S32x128, .f32⟩
  | 102 => ⟨S32x128, .f32⟩
  | 103 => ⟨S32x128, .f32⟩
  | 104 => ⟨S32x128, .f32⟩
  | 105 => ⟨S32x128, .f32⟩
  | 106 => ⟨S32x128, .f32⟩
  | 107 => ⟨S32x128, .f32⟩
  | 108 => ⟨S32x128, .f32⟩
  | 109 => ⟨S32x128, .f32⟩
  | 110 => ⟨S32x128, .f32⟩
  | 111 => ⟨S32x128, .f32⟩
  | 112 => ⟨S32x128, .f32⟩
  | 113 => ⟨S32x128, .f32⟩
  | 114 => ⟨S32x128, .f32⟩
  | 115 => ⟨S32x128, .f32⟩
  | 116 => ⟨S32x128, .f32⟩
  | 117 => ⟨S32x128, .f32⟩
  | 118 => ⟨S32x128, .f32⟩
  | 119 => ⟨S32x128, .f32⟩
  | 120 => ⟨S32x128, .f32⟩
  | 121 => ⟨S32x128, .f32⟩
  | 122 => ⟨S32x128, .f32⟩
  | 123 => ⟨S32x128, .f32⟩
  | 124 => ⟨S32x128, .f32⟩
  | 125 => ⟨S32x128, .f32⟩
  | 126 => ⟨S32x128, .f32⟩
  | 127 => ⟨S32x128, .f32⟩
  | _ => ⟨S16384x4096, .f32⟩

abbrev hbmTy0_3 (i : Nat) : BufTy := match i % 128 with
  | 0 => ⟨S32x128, .f32⟩
  | 1 => ⟨S32x128, .f32⟩
  | 2 => ⟨S32x128, .f32⟩
  | 3 => ⟨S32x128, .f32⟩
  | 4 => ⟨S32x128, .f32⟩
  | 5 => ⟨S32x128, .f32⟩
  | 6 => ⟨S32x128, .f32⟩
  | 7 => ⟨S32x128, .f32⟩
  | 8 => ⟨S32x128, .f32⟩
  | 9 => ⟨S32x128, .f32⟩
  | 10 => ⟨S32x128, .f32⟩
  | 11 => ⟨S32x128, .f32⟩
  | 12 => ⟨S32x128, .f32⟩
  | 13 => ⟨S32x128, .f32⟩
  | 14 => ⟨S32x128, .f32⟩
  | 15 => ⟨S32x128, .f32⟩
  | 16 => ⟨S32x128, .f32⟩
  | 17 => ⟨S32x128, .f32⟩
  | 18 => ⟨S32x128, .f32⟩
  | 19 => ⟨S32x128, .f32⟩
  | 20 => ⟨S32x128, .f32⟩
  | 21 => ⟨S32x128, .f32⟩
  | 22 => ⟨S32x128, .f32⟩
  | 23 => ⟨S32x128, .f32⟩
  | 24 => ⟨S32x128, .f32⟩
  | 25 => ⟨S32x128, .f32⟩
  | 26 => ⟨S32x128, .f32⟩
  | 27 => ⟨S32x128, .f32⟩
  | 28 => ⟨S32x128, .f32⟩
  | 29 => ⟨S32x128, .f32⟩
  | 30 => ⟨S32x128, .f32⟩
  | 31 => ⟨S32x128, .f32⟩
  | 32 => ⟨S32x128, .f32⟩
  | 33 => ⟨S32x128, .f32⟩
  | 34 => ⟨S32x1x128, .f32⟩
  | 35 => ⟨S32x1x128, .f32⟩
  | 36 => ⟨S32x1x128, .f32⟩
  | 37 => ⟨S32x1x128, .f32⟩
  | 38 => ⟨S32x1x128, .f32⟩
  | 39 => ⟨S32x1x128, .f32⟩
  | 40 => ⟨S32x1x128, .f32⟩
  | 41 => ⟨S32x1x128, .f32⟩
  | 42 => ⟨S32x1x128, .f32⟩
  | 43 => ⟨S32x1x128, .f32⟩
  | 44 => ⟨S32x1x128, .f32⟩
  | 45 => ⟨S32x1x128, .f32⟩
  | 46 => ⟨S32x1x128, .f32⟩
  | 47 => ⟨S32x1x128, .f32⟩
  | 48 => ⟨S32x1x128, .f32⟩
  | 49 => ⟨S32x1x128, .f32⟩
  | 50 => ⟨S32x1x128, .f32⟩
  | 51 => ⟨S32x1x128, .f32⟩
  | 52 => ⟨S32x1x128, .f32⟩
  | 53 => ⟨S32x1x128, .f32⟩
  | 54 => ⟨S32x1x128, .f32⟩
  | 55 => ⟨S32x1x128, .f32⟩
  | 56 => ⟨S32x1x128, .f32⟩
  | 57 => ⟨S32x1x128, .f32⟩
  | 58 => ⟨S32x1x128, .f32⟩
  | 59 => ⟨S32x1x128, .f32⟩
  | 60 => ⟨S32x1x128, .f32⟩
  | 61 => ⟨S32x1x128, .f32⟩
  | 62 => ⟨S32x1x128, .f32⟩
  | 63 => ⟨S32x1x128, .f32⟩
  | 64 => ⟨S32x1x128, .f32⟩
  | 65 => ⟨S32x1x128, .f32⟩
  | 66 => ⟨S32x1x128, .f32⟩
  | 67 => ⟨S32x1x128, .f32⟩
  | 68 => ⟨S32x1x128, .f32⟩
  | 69 => ⟨S32x1x128, .f32⟩
  | 70 => ⟨S32x1x128, .f32⟩
  | 71 => ⟨S32x1x128, .f32⟩
  | 72 => ⟨S32x1x128, .f32⟩
  | 73 => ⟨S32x1x128, .f32⟩
  | 74 => ⟨S32x1x128, .f32⟩
  | 75 => ⟨S32x1x128, .f32⟩
  | 76 => ⟨S32x1x128, .f32⟩
  | 77 => ⟨S32x1x128, .f32⟩
  | 78 => ⟨S32x1x128, .f32⟩
  | 79 => ⟨S32x1x128, .f32⟩
  | 80 => ⟨S32x1x128, .f32⟩
  | 81 => ⟨S32x1x128, .f32⟩
  | 82 => ⟨S32x1x128, .f32⟩
  | 83 => ⟨S32x1x128, .f32⟩
  | 84 => ⟨S32x1x128, .f32⟩
  | 85 => ⟨S32x1x128, .f32⟩
  | 86 => ⟨S32x1x128, .f32⟩
  | 87 => ⟨S32x1x128, .f32⟩
  | 88 => ⟨S32x1x128, .f32⟩
  | 89 => ⟨S32x1x128, .f32⟩
  | 90 => ⟨S32x1x128, .f32⟩
  | 91 => ⟨S32x1x128, .f32⟩
  | 92 => ⟨S32x1x128, .f32⟩
  | 93 => ⟨S32x1x128, .f32⟩
  | 94 => ⟨S32x1x128, .f32⟩
  | 95 => ⟨S32x1x128, .f32⟩
  | 96 => ⟨S32x1x128, .f32⟩
  | 97 => ⟨S32x1x128, .f32⟩
  | 98 => ⟨S32x1x128, .f32⟩
  | 99 => ⟨S32x1x128, .f32⟩
  | 100 => ⟨S32x1x128, .f32⟩
  | 101 => ⟨S32x1x128, .f32⟩
  | 102 => ⟨S32x1x128, .f32⟩
  | 103 => ⟨S32x1x128, .f32⟩
  | 104 => ⟨S32x1x128, .f32⟩
  | 105 => ⟨S32x1x128, .f32⟩
  | 106 => ⟨S32x1x128, .f32⟩
  | 107 => ⟨S32x1x128, .f32⟩
  | 108 => ⟨S32x1x128, .f32⟩
  | 109 => ⟨S32x1x128, .f32⟩
  | 110 => ⟨S32x1x128, .f32⟩
  | 111 => ⟨S32x1x128, .f32⟩
  | 112 => ⟨S32x1x128, .f32⟩
  | 113 => ⟨S32x1x128, .f32⟩
  | 114 => ⟨S32x1x128, .f32⟩
  | 115 => ⟨S32x1x128, .f32⟩
  | 116 => ⟨S32x1x128, .f32⟩
  | 117 => ⟨S32x1x128, .f32⟩
  | 118 => ⟨S32x1x128, .f32⟩
  | 119 => ⟨S32x1x128, .f32⟩
  | 120 => ⟨S32x1x128, .f32⟩
  | 121 => ⟨S32x1x128, .f32⟩
  | 122 => ⟨S32x1x128, .f32⟩
  | 123 => ⟨S32x1x128, .f32⟩
  | 124 => ⟨S32x1x128, .f32⟩
  | 125 => ⟨S32x1x128, .f32⟩
  | 126 => ⟨S32x1x128, .f32⟩
  | 127 => ⟨S32x1x128, .f32⟩
  | _ => ⟨S16384x4096, .f32⟩

abbrev hbmTy0_4 (i : Nat) : BufTy := match i % 128 with
  | 0 => ⟨S32x1x128, .f32⟩
  | 1 => ⟨S32x1x128, .f32⟩
  | 2 => ⟨S32x1x128, .f32⟩
  | 3 => ⟨S32x1x128, .f32⟩
  | 4 => ⟨S32x1x128, .f32⟩
  | 5 => ⟨S32x1x128, .f32⟩
  | 6 => ⟨S32x1x128, .f32⟩
  | 7 => ⟨S32x1x128, .f32⟩
  | 8 => ⟨S32x1x128, .f32⟩
  | 9 => ⟨S32x1x128, .f32⟩
  | 10 => ⟨S32x1x128, .f32⟩
  | 11 => ⟨S32x1x128, .f32⟩
  | 12 => ⟨S32x1x128, .f32⟩
  | 13 => ⟨S32x1x128, .f32⟩
  | 14 => ⟨S32x1x128, .f32⟩
  | 15 => ⟨S32x1x128, .f32⟩
  | 16 => ⟨S32x1x128, .f32⟩
  | 17 => ⟨S32x1x128, .f32⟩
  | 18 => ⟨S32x1x128, .f32⟩
  | 19 => ⟨S32x1x128, .f32⟩
  | 20 => ⟨S32x1x128, .f32⟩
  | 21 => ⟨S32x1x128, .f32⟩
  | 22 => ⟨S32x1x128, .f32⟩
  | 23 => ⟨S32x1x128, .f32⟩
  | 24 => ⟨S32x1x128, .f32⟩
  | 25 => ⟨S32x1x128, .f32⟩
  | 26 => ⟨S32x1x128, .f32⟩
  | 27 => ⟨S32x1x128, .f32⟩
  | 28 => ⟨S32x1x128, .f32⟩
  | 29 => ⟨S32x1x128, .f32⟩
  | 30 => ⟨S32x1x128, .f32⟩
  | 31 => ⟨S32x1x128, .f32⟩
  | 32 => ⟨S32x1x128, .f32⟩
  | 33 => ⟨S32x1x128, .f32⟩
  | 34 => ⟨S32x16x128, .f32⟩
  | 35 => ⟨S32x16x128, .f32⟩
  | 36 => ⟨S32x16x128, .f32⟩
  | 37 => ⟨S32x16x128, .f32⟩
  | 38 => ⟨S32x16x128, .f32⟩
  | 39 => ⟨S32x16x128, .f32⟩
  | 40 => ⟨S32x16x128, .f32⟩
  | 41 => ⟨S32x16x128, .f32⟩
  | 42 => ⟨S32x128x128, .f32⟩
  | 43 => ⟨S32x1x128x128, .f32⟩
  | 44 => ⟨S32x1x128x128, .f32⟩
  | 45 => ⟨S32x1x128x128, .f32⟩
  | 46 => ⟨S32x3x128x128, .f32⟩
  | 47 => ⟨S16384x4096, .bf16⟩
  | _ => ⟨S16384x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x4096, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x3x128x128, .f32⟩
  | .local _ .vmem, ⟨7, _⟩ => ⟨S8x3x128x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩
abbrev main_v233 : Ref sig .tc := ⟨.hbm, 240, rfl⟩
abbrev main_v234 : Ref sig .tc := ⟨.hbm, 241, rfl⟩
abbrev main_v235 : Ref sig .tc := ⟨.hbm, 242, rfl⟩
abbrev main_v236 : Ref sig .tc := ⟨.hbm, 243, rfl⟩
abbrev main_v237 : Ref sig .tc := ⟨.hbm, 244, rfl⟩
abbrev main_v238 : Ref sig .tc := ⟨.hbm, 245, rfl⟩
abbrev main_v239 : Ref sig .tc := ⟨.hbm, 246, rfl⟩
abbrev main_v240 : Ref sig .tc := ⟨.hbm, 247, rfl⟩
abbrev main_v241 : Ref sig .tc := ⟨.hbm, 248, rfl⟩
abbrev main_v242 : Ref sig .tc := ⟨.hbm, 249, rfl⟩
abbrev main_v243 : Ref sig .tc := ⟨.hbm, 250, rfl⟩
abbrev main_v244 : Ref sig .tc := ⟨.hbm, 251, rfl⟩
abbrev main_v245 : Ref sig .tc := ⟨.hbm, 252, rfl⟩
abbrev main_v246 : Ref sig .tc := ⟨.hbm, 253, rfl⟩
abbrev main_v247 : Ref sig .tc := ⟨.hbm, 254, rfl⟩
abbrev main_v248 : Ref sig .tc := ⟨.hbm, 255, rfl⟩
abbrev main_v249 : Ref sig .tc := ⟨.hbm, 256, rfl⟩
abbrev main_v250 : Ref sig .tc := ⟨.hbm, 257, rfl⟩
abbrev main_v251 : Ref sig .tc := ⟨.hbm, 258, rfl⟩
abbrev main_v252 : Ref sig .tc := ⟨.hbm, 259, rfl⟩
abbrev main_v253 : Ref sig .tc := ⟨.hbm, 260, rfl⟩
abbrev main_v254 : Ref sig .tc := ⟨.hbm, 261, rfl⟩
abbrev main_v255 : Ref sig .tc := ⟨.hbm, 262, rfl⟩
abbrev main_v256 : Ref sig .tc := ⟨.hbm, 263, rfl⟩
abbrev main_v257 : Ref sig .tc := ⟨.hbm, 264, rfl⟩
abbrev main_v258 : Ref sig .tc := ⟨.hbm, 265, rfl⟩
abbrev main_v259 : Ref sig .tc := ⟨.hbm, 266, rfl⟩
abbrev main_v260 : Ref sig .tc := ⟨.hbm, 267, rfl⟩
abbrev main_v261 : Ref sig .tc := ⟨.hbm, 268, rfl⟩
abbrev main_v262 : Ref sig .tc := ⟨.hbm, 269, rfl⟩
abbrev main_v263 : Ref sig .tc := ⟨.hbm, 270, rfl⟩
abbrev main_v264 : Ref sig .tc := ⟨.hbm, 271, rfl⟩
abbrev main_v265 : Ref sig .tc := ⟨.hbm, 272, rfl⟩
abbrev main_v266 : Ref sig .tc := ⟨.hbm, 273, rfl⟩
abbrev main_v267 : Ref sig .tc := ⟨.hbm, 274, rfl⟩
abbrev main_v268 : Ref sig .tc := ⟨.hbm, 275, rfl⟩
abbrev main_v269 : Ref sig .tc := ⟨.hbm, 276, rfl⟩
abbrev main_v270 : Ref sig .tc := ⟨.hbm, 277, rfl⟩
abbrev main_v271 : Ref sig .tc := ⟨.hbm, 278, rfl⟩
abbrev main_v272 : Ref sig .tc := ⟨.hbm, 279, rfl⟩
abbrev main_v273 : Ref sig .tc := ⟨.hbm, 280, rfl⟩
abbrev main_v274 : Ref sig .tc := ⟨.hbm, 281, rfl⟩
abbrev main_v275 : Ref sig .tc := ⟨.hbm, 282, rfl⟩
abbrev main_v276 : Ref sig .tc := ⟨.hbm, 283, rfl⟩
abbrev main_v277 : Ref sig .tc := ⟨.hbm, 284, rfl⟩
abbrev main_v278 : Ref sig .tc := ⟨.hbm, 285, rfl⟩
abbrev main_v279 : Ref sig .tc := ⟨.hbm, 286, rfl⟩
abbrev main_v280 : Ref sig .tc := ⟨.hbm, 287, rfl⟩
abbrev main_v281 : Ref sig .tc := ⟨.hbm, 288, rfl⟩
abbrev main_v282 : Ref sig .tc := ⟨.hbm, 289, rfl⟩
abbrev main_v283 : Ref sig .tc := ⟨.hbm, 290, rfl⟩
abbrev main_v284 : Ref sig .tc := ⟨.hbm, 291, rfl⟩
abbrev main_v285 : Ref sig .tc := ⟨.hbm, 292, rfl⟩
abbrev main_v286 : Ref sig .tc := ⟨.hbm, 293, rfl⟩
abbrev main_v287 : Ref sig .tc := ⟨.hbm, 294, rfl⟩
abbrev main_v288 : Ref sig .tc := ⟨.hbm, 295, rfl⟩
abbrev main_v289 : Ref sig .tc := ⟨.hbm, 296, rfl⟩
abbrev main_v290 : Ref sig .tc := ⟨.hbm, 297, rfl⟩
abbrev main_v291 : Ref sig .tc := ⟨.hbm, 298, rfl⟩
abbrev main_v292 : Ref sig .tc := ⟨.hbm, 299, rfl⟩
abbrev main_v293 : Ref sig .tc := ⟨.hbm, 300, rfl⟩
abbrev main_v294 : Ref sig .tc := ⟨.hbm, 301, rfl⟩
abbrev main_v295 : Ref sig .tc := ⟨.hbm, 302, rfl⟩
abbrev main_v296 : Ref sig .tc := ⟨.hbm, 303, rfl⟩
abbrev main_v297 : Ref sig .tc := ⟨.hbm, 304, rfl⟩
abbrev main_v298 : Ref sig .tc := ⟨.hbm, 305, rfl⟩
abbrev main_v299 : Ref sig .tc := ⟨.hbm, 306, rfl⟩
abbrev main_v300 : Ref sig .tc := ⟨.hbm, 307, rfl⟩
abbrev main_v301 : Ref sig .tc := ⟨.hbm, 308, rfl⟩
abbrev main_v302 : Ref sig .tc := ⟨.hbm, 309, rfl⟩
abbrev main_v303 : Ref sig .tc := ⟨.hbm, 310, rfl⟩
abbrev main_v304 : Ref sig .tc := ⟨.hbm, 311, rfl⟩
abbrev main_v305 : Ref sig .tc := ⟨.hbm, 312, rfl⟩
abbrev main_v306 : Ref sig .tc := ⟨.hbm, 313, rfl⟩
abbrev main_v307 : Ref sig .tc := ⟨.hbm, 314, rfl⟩
abbrev main_v308 : Ref sig .tc := ⟨.hbm, 315, rfl⟩
abbrev main_v309 : Ref sig .tc := ⟨.hbm, 316, rfl⟩
abbrev main_v310 : Ref sig .tc := ⟨.hbm, 317, rfl⟩
abbrev main_v311 : Ref sig .tc := ⟨.hbm, 318, rfl⟩
abbrev main_v312 : Ref sig .tc := ⟨.hbm, 319, rfl⟩
abbrev main_v313 : Ref sig .tc := ⟨.hbm, 320, rfl⟩
abbrev main_v314 : Ref sig .tc := ⟨.hbm, 321, rfl⟩
abbrev main_v315 : Ref sig .tc := ⟨.hbm, 322, rfl⟩
abbrev main_v316 : Ref sig .tc := ⟨.hbm, 323, rfl⟩
abbrev main_v317 : Ref sig .tc := ⟨.hbm, 324, rfl⟩
abbrev main_v318 : Ref sig .tc := ⟨.hbm, 325, rfl⟩
abbrev main_v319 : Ref sig .tc := ⟨.hbm, 326, rfl⟩
abbrev main_v320 : Ref sig .tc := ⟨.hbm, 327, rfl⟩
abbrev main_v321 : Ref sig .tc := ⟨.hbm, 328, rfl⟩
abbrev main_v322 : Ref sig .tc := ⟨.hbm, 329, rfl⟩
abbrev main_v323 : Ref sig .tc := ⟨.hbm, 330, rfl⟩
abbrev main_v324 : Ref sig .tc := ⟨.hbm, 331, rfl⟩
abbrev main_v325 : Ref sig .tc := ⟨.hbm, 332, rfl⟩
abbrev main_v326 : Ref sig .tc := ⟨.hbm, 333, rfl⟩
abbrev main_v327 : Ref sig .tc := ⟨.hbm, 334, rfl⟩
abbrev main_v328 : Ref sig .tc := ⟨.hbm, 335, rfl⟩
abbrev main_v329 : Ref sig .tc := ⟨.hbm, 336, rfl⟩
abbrev main_v330 : Ref sig .tc := ⟨.hbm, 337, rfl⟩
abbrev main_v331 : Ref sig .tc := ⟨.hbm, 338, rfl⟩
abbrev main_v332 : Ref sig .tc := ⟨.hbm, 339, rfl⟩
abbrev main_v333 : Ref sig .tc := ⟨.hbm, 340, rfl⟩
abbrev main_v334 : Ref sig .tc := ⟨.hbm, 341, rfl⟩
abbrev main_v335 : Ref sig .tc := ⟨.hbm, 342, rfl⟩
abbrev main_v336 : Ref sig .tc := ⟨.hbm, 343, rfl⟩
abbrev main_v337 : Ref sig .tc := ⟨.hbm, 344, rfl⟩
abbrev main_v338 : Ref sig .tc := ⟨.hbm, 345, rfl⟩
abbrev main_v339 : Ref sig .tc := ⟨.hbm, 346, rfl⟩
abbrev main_v340 : Ref sig .tc := ⟨.hbm, 347, rfl⟩
abbrev main_v341 : Ref sig .tc := ⟨.hbm, 348, rfl⟩
abbrev main_v342 : Ref sig .tc := ⟨.hbm, 349, rfl⟩
abbrev main_v343 : Ref sig .tc := ⟨.hbm, 350, rfl⟩
abbrev main_v344 : Ref sig .tc := ⟨.hbm, 351, rfl⟩
abbrev main_v345 : Ref sig .tc := ⟨.hbm, 352, rfl⟩
abbrev main_v346 : Ref sig .tc := ⟨.hbm, 353, rfl⟩
abbrev main_v347 : Ref sig .tc := ⟨.hbm, 354, rfl⟩
abbrev main_v348 : Ref sig .tc := ⟨.hbm, 355, rfl⟩
abbrev main_v349 : Ref sig .tc := ⟨.hbm, 356, rfl⟩
abbrev main_v350 : Ref sig .tc := ⟨.hbm, 357, rfl⟩
abbrev main_v351 : Ref sig .tc := ⟨.hbm, 358, rfl⟩
abbrev main_v352 : Ref sig .tc := ⟨.hbm, 359, rfl⟩
abbrev main_v353 : Ref sig .tc := ⟨.hbm, 360, rfl⟩
abbrev main_v354 : Ref sig .tc := ⟨.hbm, 361, rfl⟩
abbrev main_v355 : Ref sig .tc := ⟨.hbm, 362, rfl⟩
abbrev main_v356 : Ref sig .tc := ⟨.hbm, 363, rfl⟩
abbrev main_v357 : Ref sig .tc := ⟨.hbm, 364, rfl⟩
abbrev main_v358 : Ref sig .tc := ⟨.hbm, 365, rfl⟩
abbrev main_v359 : Ref sig .tc := ⟨.hbm, 366, rfl⟩
abbrev main_v360 : Ref sig .tc := ⟨.hbm, 367, rfl⟩
abbrev main_v361 : Ref sig .tc := ⟨.hbm, 368, rfl⟩
abbrev main_v362 : Ref sig .tc := ⟨.hbm, 369, rfl⟩
abbrev main_v363 : Ref sig .tc := ⟨.hbm, 370, rfl⟩
abbrev main_v364 : Ref sig .tc := ⟨.hbm, 371, rfl⟩
abbrev main_v365 : Ref sig .tc := ⟨.hbm, 372, rfl⟩
abbrev main_v366 : Ref sig .tc := ⟨.hbm, 373, rfl⟩
abbrev main_v367 : Ref sig .tc := ⟨.hbm, 374, rfl⟩
abbrev main_v368 : Ref sig .tc := ⟨.hbm, 375, rfl⟩
abbrev main_v369 : Ref sig .tc := ⟨.hbm, 376, rfl⟩
abbrev main_v370 : Ref sig .tc := ⟨.hbm, 377, rfl⟩
abbrev main_v371 : Ref sig .tc := ⟨.hbm, 378, rfl⟩
abbrev main_v372 : Ref sig .tc := ⟨.hbm, 379, rfl⟩
abbrev main_v373 : Ref sig .tc := ⟨.hbm, 380, rfl⟩
abbrev main_v374 : Ref sig .tc := ⟨.hbm, 381, rfl⟩
abbrev main_v375 : Ref sig .tc := ⟨.hbm, 382, rfl⟩
abbrev main_v376 : Ref sig .tc := ⟨.hbm, 383, rfl⟩
abbrev main_v377 : Ref sig .tc := ⟨.hbm, 384, rfl⟩
abbrev main_v378 : Ref sig .tc := ⟨.hbm, 385, rfl⟩
abbrev main_v379 : Ref sig .tc := ⟨.hbm, 386, rfl⟩
abbrev main_v380 : Ref sig .tc := ⟨.hbm, 387, rfl⟩
abbrev main_v381 : Ref sig .tc := ⟨.hbm, 388, rfl⟩
abbrev main_v382 : Ref sig .tc := ⟨.hbm, 389, rfl⟩
abbrev main_v383 : Ref sig .tc := ⟨.hbm, 390, rfl⟩
abbrev main_v384 : Ref sig .tc := ⟨.hbm, 391, rfl⟩
abbrev main_v385 : Ref sig .tc := ⟨.hbm, 392, rfl⟩
abbrev main_v386 : Ref sig .tc := ⟨.hbm, 393, rfl⟩
abbrev main_v387 : Ref sig .tc := ⟨.hbm, 394, rfl⟩
abbrev main_v388 : Ref sig .tc := ⟨.hbm, 395, rfl⟩
abbrev main_v389 : Ref sig .tc := ⟨.hbm, 396, rfl⟩
abbrev main_v390 : Ref sig .tc := ⟨.hbm, 397, rfl⟩
abbrev main_v391 : Ref sig .tc := ⟨.hbm, 398, rfl⟩
abbrev main_v392 : Ref sig .tc := ⟨.hbm, 399, rfl⟩
abbrev main_v393 : Ref sig .tc := ⟨.hbm, 400, rfl⟩
abbrev main_v394 : Ref sig .tc := ⟨.hbm, 401, rfl⟩
abbrev main_v395 : Ref sig .tc := ⟨.hbm, 402, rfl⟩
abbrev main_v396 : Ref sig .tc := ⟨.hbm, 403, rfl⟩
abbrev main_v397 : Ref sig .tc := ⟨.hbm, 404, rfl⟩
abbrev main_v398 : Ref sig .tc := ⟨.hbm, 405, rfl⟩
abbrev main_v399 : Ref sig .tc := ⟨.hbm, 406, rfl⟩
abbrev main_v400 : Ref sig .tc := ⟨.hbm, 407, rfl⟩
abbrev main_v401 : Ref sig .tc := ⟨.hbm, 408, rfl⟩
abbrev main_v402 : Ref sig .tc := ⟨.hbm, 409, rfl⟩
abbrev main_v403 : Ref sig .tc := ⟨.hbm, 410, rfl⟩
abbrev main_v404 : Ref sig .tc := ⟨.hbm, 411, rfl⟩
abbrev main_v405 : Ref sig .tc := ⟨.hbm, 412, rfl⟩
abbrev main_v406 : Ref sig .tc := ⟨.hbm, 413, rfl⟩
abbrev main_v407 : Ref sig .tc := ⟨.hbm, 414, rfl⟩
abbrev main_v408 : Ref sig .tc := ⟨.hbm, 415, rfl⟩
abbrev main_v409 : Ref sig .tc := ⟨.hbm, 416, rfl⟩
abbrev main_v410 : Ref sig .tc := ⟨.hbm, 417, rfl⟩
abbrev main_v411 : Ref sig .tc := ⟨.hbm, 418, rfl⟩
abbrev main_v412 : Ref sig .tc := ⟨.hbm, 419, rfl⟩
abbrev main_v413 : Ref sig .tc := ⟨.hbm, 420, rfl⟩
abbrev main_v414 : Ref sig .tc := ⟨.hbm, 421, rfl⟩
abbrev main_v415 : Ref sig .tc := ⟨.hbm, 422, rfl⟩
abbrev main_v416 : Ref sig .tc := ⟨.hbm, 423, rfl⟩
abbrev main_v417 : Ref sig .tc := ⟨.hbm, 424, rfl⟩
abbrev main_v418 : Ref sig .tc := ⟨.hbm, 425, rfl⟩
abbrev main_v419 : Ref sig .tc := ⟨.hbm, 426, rfl⟩
abbrev main_v420 : Ref sig .tc := ⟨.hbm, 427, rfl⟩
abbrev main_v421 : Ref sig .tc := ⟨.hbm, 428, rfl⟩
abbrev main_v422 : Ref sig .tc := ⟨.hbm, 429, rfl⟩
abbrev main_v423 : Ref sig .tc := ⟨.hbm, 430, rfl⟩
abbrev main_v424 : Ref sig .tc := ⟨.hbm, 431, rfl⟩
abbrev main_v425 : Ref sig .tc := ⟨.hbm, 432, rfl⟩
abbrev main_v426 : Ref sig .tc := ⟨.hbm, 433, rfl⟩
abbrev main_v427 : Ref sig .tc := ⟨.hbm, 434, rfl⟩
abbrev main_v428 : Ref sig .tc := ⟨.hbm, 435, rfl⟩
abbrev main_v429 : Ref sig .tc := ⟨.hbm, 436, rfl⟩
abbrev main_v430 : Ref sig .tc := ⟨.hbm, 437, rfl⟩
abbrev main_v431 : Ref sig .tc := ⟨.hbm, 438, rfl⟩
abbrev main_v432 : Ref sig .tc := ⟨.hbm, 439, rfl⟩
abbrev main_v433 : Ref sig .tc := ⟨.hbm, 440, rfl⟩
abbrev main_v434 : Ref sig .tc := ⟨.hbm, 441, rfl⟩
abbrev main_v435 : Ref sig .tc := ⟨.hbm, 442, rfl⟩
abbrev main_v436 : Ref sig .tc := ⟨.hbm, 443, rfl⟩
abbrev main_v437 : Ref sig .tc := ⟨.hbm, 444, rfl⟩
abbrev main_v438 : Ref sig .tc := ⟨.hbm, 445, rfl⟩
abbrev main_v439 : Ref sig .tc := ⟨.hbm, 446, rfl⟩
abbrev main_v440 : Ref sig .tc := ⟨.hbm, 447, rfl⟩
abbrev main_v441 : Ref sig .tc := ⟨.hbm, 448, rfl⟩
abbrev main_v442 : Ref sig .tc := ⟨.hbm, 449, rfl⟩
abbrev main_v443 : Ref sig .tc := ⟨.hbm, 450, rfl⟩
abbrev main_v444 : Ref sig .tc := ⟨.hbm, 451, rfl⟩
abbrev main_v445 : Ref sig .tc := ⟨.hbm, 452, rfl⟩
abbrev main_v446 : Ref sig .tc := ⟨.hbm, 453, rfl⟩
abbrev main_v447 : Ref sig .tc := ⟨.hbm, 454, rfl⟩
abbrev main_v448 : Ref sig .tc := ⟨.hbm, 455, rfl⟩
abbrev main_v449 : Ref sig .tc := ⟨.hbm, 456, rfl⟩
abbrev main_v450 : Ref sig .tc := ⟨.hbm, 457, rfl⟩
abbrev main_v451 : Ref sig .tc := ⟨.hbm, 458, rfl⟩
abbrev main_v452 : Ref sig .tc := ⟨.hbm, 459, rfl⟩
abbrev main_v453 : Ref sig .tc := ⟨.hbm, 460, rfl⟩
abbrev main_v454 : Ref sig .tc := ⟨.hbm, 461, rfl⟩
abbrev main_v455 : Ref sig .tc := ⟨.hbm, 462, rfl⟩
abbrev main_v456 : Ref sig .tc := ⟨.hbm, 463, rfl⟩
abbrev main_v457 : Ref sig .tc := ⟨.hbm, 464, rfl⟩
abbrev main_v458 : Ref sig .tc := ⟨.hbm, 465, rfl⟩
abbrev main_v459 : Ref sig .tc := ⟨.hbm, 466, rfl⟩
abbrev main_v460 : Ref sig .tc := ⟨.hbm, 467, rfl⟩
abbrev main_v461 : Ref sig .tc := ⟨.hbm, 468, rfl⟩
abbrev main_v462 : Ref sig .tc := ⟨.hbm, 469, rfl⟩
abbrev main_v463 : Ref sig .tc := ⟨.hbm, 470, rfl⟩
abbrev main_v464 : Ref sig .tc := ⟨.hbm, 471, rfl⟩
abbrev main_v465 : Ref sig .tc := ⟨.hbm, 472, rfl⟩
abbrev main_v466 : Ref sig .tc := ⟨.hbm, 473, rfl⟩
abbrev main_v467 : Ref sig .tc := ⟨.hbm, 474, rfl⟩
abbrev main_v468 : Ref sig .tc := ⟨.hbm, 475, rfl⟩
abbrev main_v469 : Ref sig .tc := ⟨.hbm, 476, rfl⟩
abbrev main_v470 : Ref sig .tc := ⟨.hbm, 477, rfl⟩
abbrev main_v471 : Ref sig .tc := ⟨.hbm, 478, rfl⟩
abbrev main_v472 : Ref sig .tc := ⟨.hbm, 479, rfl⟩
abbrev main_v473 : Ref sig .tc := ⟨.hbm, 480, rfl⟩
abbrev main_v474 : Ref sig .tc := ⟨.hbm, 481, rfl⟩
abbrev main_v475 : Ref sig .tc := ⟨.hbm, 482, rfl⟩
abbrev main_v476 : Ref sig .tc := ⟨.hbm, 483, rfl⟩
abbrev main_v477 : Ref sig .tc := ⟨.hbm, 484, rfl⟩
abbrev main_v478 : Ref sig .tc := ⟨.hbm, 485, rfl⟩
abbrev main_v479 : Ref sig .tc := ⟨.hbm, 486, rfl⟩
abbrev main_v480 : Ref sig .tc := ⟨.hbm, 487, rfl⟩
abbrev main_v481 : Ref sig .tc := ⟨.hbm, 488, rfl⟩
abbrev main_v482 : Ref sig .tc := ⟨.hbm, 489, rfl⟩
abbrev main_v483 : Ref sig .tc := ⟨.hbm, 490, rfl⟩
abbrev main_v484 : Ref sig .tc := ⟨.hbm, 491, rfl⟩
abbrev main_v485 : Ref sig .tc := ⟨.hbm, 492, rfl⟩
abbrev main_v486 : Ref sig .tc := ⟨.hbm, 493, rfl⟩
abbrev main_v487 : Ref sig .tc := ⟨.hbm, 494, rfl⟩
abbrev main_v488 : Ref sig .tc := ⟨.hbm, 495, rfl⟩
abbrev main_v489 : Ref sig .tc := ⟨.hbm, 496, rfl⟩
abbrev main_v490 : Ref sig .tc := ⟨.hbm, 497, rfl⟩
abbrev main_v491 : Ref sig .tc := ⟨.hbm, 498, rfl⟩
abbrev main_v492 : Ref sig .tc := ⟨.hbm, 499, rfl⟩
abbrev main_v493 : Ref sig .tc := ⟨.hbm, 500, rfl⟩
abbrev main_v494 : Ref sig .tc := ⟨.hbm, 501, rfl⟩
abbrev main_v495 : Ref sig .tc := ⟨.hbm, 502, rfl⟩
abbrev main_v496 : Ref sig .tc := ⟨.hbm, 503, rfl⟩
abbrev main_v497 : Ref sig .tc := ⟨.hbm, 504, rfl⟩
abbrev main_v498 : Ref sig .tc := ⟨.hbm, 505, rfl⟩
abbrev main_v499 : Ref sig .tc := ⟨.hbm, 506, rfl⟩
abbrev main_v500 : Ref sig .tc := ⟨.hbm, 507, rfl⟩
abbrev main_v501 : Ref sig .tc := ⟨.hbm, 508, rfl⟩
abbrev main_v502 : Ref sig .tc := ⟨.hbm, 509, rfl⟩
abbrev main_v503 : Ref sig .tc := ⟨.hbm, 510, rfl⟩
abbrev main_v504 : Ref sig .tc := ⟨.hbm, 511, rfl⟩
abbrev main_v505 : Ref sig .tc := ⟨.hbm, 512, rfl⟩
abbrev main_v506 : Ref sig .tc := ⟨.hbm, 513, rfl⟩
abbrev main_v507 : Ref sig .tc := ⟨.hbm, 514, rfl⟩
abbrev main_v508 : Ref sig .tc := ⟨.hbm, 515, rfl⟩
abbrev main_v509 : Ref sig .tc := ⟨.hbm, 516, rfl⟩
abbrev main_v510 : Ref sig .tc := ⟨.hbm, 517, rfl⟩
abbrev main_v511 : Ref sig .tc := ⟨.hbm, 518, rfl⟩
abbrev main_v512 : Ref sig .tc := ⟨.hbm, 519, rfl⟩
abbrev main_v513 : Ref sig .tc := ⟨.hbm, 520, rfl⟩
abbrev main_v514 : Ref sig .tc := ⟨.hbm, 521, rfl⟩
abbrev main_v515 : Ref sig .tc := ⟨.hbm, 522, rfl⟩
abbrev main_v516 : Ref sig .tc := ⟨.hbm, 523, rfl⟩
abbrev main_v517 : Ref sig .tc := ⟨.hbm, 524, rfl⟩
abbrev main_v518 : Ref sig .tc := ⟨.hbm, 525, rfl⟩
abbrev main_v519 : Ref sig .tc := ⟨.hbm, 526, rfl⟩
abbrev main_v520 : Ref sig .tc := ⟨.hbm, 527, rfl⟩
abbrev main_v521 : Ref sig .tc := ⟨.hbm, 528, rfl⟩
abbrev main_v522 : Ref sig .tc := ⟨.hbm, 529, rfl⟩
abbrev main_v523 : Ref sig .tc := ⟨.hbm, 530, rfl⟩
abbrev main_v524 : Ref sig .tc := ⟨.hbm, 531, rfl⟩
abbrev main_v525 : Ref sig .tc := ⟨.hbm, 532, rfl⟩
abbrev main_v526 : Ref sig .tc := ⟨.hbm, 533, rfl⟩
abbrev main_v527 : Ref sig .tc := ⟨.hbm, 534, rfl⟩
abbrev main_v528 : Ref sig .tc := ⟨.hbm, 535, rfl⟩
abbrev main_v529 : Ref sig .tc := ⟨.hbm, 536, rfl⟩
abbrev main_v530 : Ref sig .tc := ⟨.hbm, 537, rfl⟩
abbrev main_v531 : Ref sig .tc := ⟨.hbm, 538, rfl⟩
abbrev main_v532 : Ref sig .tc := ⟨.hbm, 539, rfl⟩
abbrev main_v533 : Ref sig .tc := ⟨.hbm, 540, rfl⟩
abbrev main_v534 : Ref sig .tc := ⟨.hbm, 541, rfl⟩
abbrev main_v535 : Ref sig .tc := ⟨.hbm, 542, rfl⟩
abbrev main_v536 : Ref sig .tc := ⟨.hbm, 543, rfl⟩
abbrev main_v537 : Ref sig .tc := ⟨.hbm, 544, rfl⟩
abbrev main_v538 : Ref sig .tc := ⟨.hbm, 545, rfl⟩
abbrev main_v539 : Ref sig .tc := ⟨.hbm, 546, rfl⟩
abbrev main_v540 : Ref sig .tc := ⟨.hbm, 547, rfl⟩
abbrev main_v541 : Ref sig .tc := ⟨.hbm, 548, rfl⟩
abbrev main_v542 : Ref sig .tc := ⟨.hbm, 549, rfl⟩
abbrev main_v543 : Ref sig .tc := ⟨.hbm, 550, rfl⟩
abbrev main_v544 : Ref sig .tc := ⟨.hbm, 551, rfl⟩
abbrev main_v545 : Ref sig .tc := ⟨.hbm, 552, rfl⟩
abbrev main_v546 : Ref sig .tc := ⟨.hbm, 553, rfl⟩
abbrev main_v547 : Ref sig .tc := ⟨.hbm, 554, rfl⟩
abbrev main_v548 : Ref sig .tc := ⟨.hbm, 555, rfl⟩
abbrev main_v549 : Ref sig .tc := ⟨.hbm, 556, rfl⟩
abbrev main_v550 : Ref sig .tc := ⟨.hbm, 557, rfl⟩
abbrev main_v551 : Ref sig .tc := ⟨.hbm, 558, rfl⟩
abbrev main_v552 : Ref sig .tc := ⟨.hbm, 559, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let c0_i32_0 : BitVec 32 := 0#32
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_7 : BitVec 32 := 4#32
  let v22 : BitVec 32 := Scalar.subi v19 c4_i32_7
  let c0_i32_8 : BitVec 32 := 0#32
  let v23 : BitVec 32 := Scalar.maxsi v22 c0_i32_8
  let c128_i32_9 : BitVec 32 := 128#32
  let v24 : BitVec 32 := Scalar.muli v23 c128_i32_9
  v24
def k0_off1 (i : grid0.Coords) (c0_i32_0 : BitVec 32) : Fin 2 → Nat :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_7 : BitVec 32 := 4#32
  let v22 : BitVec 32 := Scalar.subi v19 c4_i32_7
  let c0_i32_8 : BitVec 32 := 0#32
  let v23 : BitVec 32 := Scalar.maxsi v22 c0_i32_8
  let c128_i32_9 : BitVec 32 := 128#32
  let v24 : BitVec 32 := Scalar.muli v23 c128_i32_9
  let v25 : BitVec 32 := v24
  let v46 : Index := Scalar.indexCast v25
  let c0_12 : Index := 0#32
  ![v46.toNat, 0]
def k0_off2 (i : grid0.Coords) (c0_i32_0 : BitVec 32) : Fin 2 → Nat :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_7 : BitVec 32 := 4#32
  let v22 : BitVec 32 := Scalar.subi v19 c4_i32_7
  let c0_i32_8 : BitVec 32 := 0#32
  let v23 : BitVec 32 := Scalar.maxsi v22 c0_i32_8
  let c128_i32_9 : BitVec 32 := 128#32
  let v24 : BitVec 32 := Scalar.muli v23 c128_i32_9
  let v25 : BitVec 32 := v24
  let v52 : Index := Scalar.indexCast v25
  let c128_14 : Index := 128#32
  ![v52.toNat, 128]
def k0_off3 (i : grid0.Coords) (c0_i32_0 : BitVec 32) : Fin 2 → Nat :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_7 : BitVec 32 := 4#32
  let v22 : BitVec 32 := Scalar.subi v19 c4_i32_7
  let c0_i32_8 : BitVec 32 := 0#32
  let v23 : BitVec 32 := Scalar.maxsi v22 c0_i32_8
  let c128_i32_9 : BitVec 32 := 128#32
  let v24 : BitVec 32 := Scalar.muli v23 c128_i32_9
  let v25 : BitVec 32 := v24
  let v58 : Index := Scalar.indexCast v25
  let c256_17 : Index := 256#32
  ![v58.toNat, 256]
def k0_off4 (i : grid0.Coords) (c0_i32_0 : BitVec 32) : Fin 2 → Nat :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_7 : BitVec 32 := 4#32
  let v22 : BitVec 32 := Scalar.subi v19 c4_i32_7
  let c0_i32_8 : BitVec 32 := 0#32
  let v23 : BitVec 32 := Scalar.maxsi v22 c0_i32_8
  let c128_i32_9 : BitVec 32 := 128#32
  let v24 : BitVec 32 := Scalar.muli v23 c128_i32_9
  let v25 : BitVec 32 := v24
  let v64 : Index := Scalar.indexCast v25
  let c384_20 : Index := 384#32
  ![v64.toNat, 384]
def k0_off5 (i : grid0.Coords) (c0_i32_0 : BitVec 32) : Fin 2 → Nat :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_7 : BitVec 32 := 4#32
  let v22 : BitVec 32 := Scalar.subi v19 c4_i32_7
  let c0_i32_8 : BitVec 32 := 0#32
  let v23 : BitVec 32 := Scalar.maxsi v22 c0_i32_8
  let c128_i32_9 : BitVec 32 := 128#32
  let v24 : BitVec 32 := Scalar.muli v23 c128_i32_9
  let v25 : BitVec 32 := v24
  let v70 : Index := Scalar.indexCast v25
  let c512_23 : Index := 512#32
  ![v70.toNat, 512]
def k0_off6 (i : grid0.Coords) (c0_i32_0 : BitVec 32) : Fin 2 → Nat :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_7 : BitVec 32 := 4#32
  let v22 : BitVec 32 := Scalar.subi v19 c4_i32_7
  let c0_i32_8 : BitVec 32 := 0#32
  let v23 : BitVec 32 := Scalar.maxsi v22 c0_i32_8
  let c128_i32_9 : BitVec 32 := 128#32
  let v24 : BitVec 32 := Scalar.muli v23 c128_i32_9
  let v25 : BitVec 32 := v24
  let v76 : Index := Scalar.indexCast v25
  let c640_26 : Index := 640#32
  ![v76.toNat, 640]
def k0_off7 (i : grid0.Coords) (c0_i32_0 : BitVec 32) : Fin 2 → Nat :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_7 : BitVec 32 := 4#32
  let v22 : BitVec 32 := Scalar.subi v19 c4_i32_7
  let c0_i32_8 : BitVec 32 := 0#32
  let v23 : BitVec 32 := Scalar.maxsi v22 c0_i32_8
  let c128_i32_9 : BitVec 32 := 128#32
  let v24 : BitVec 32 := Scalar.muli v23 c128_i32_9
  let v25 : BitVec 32 := v24
  let v82 : Index := Scalar.indexCast v25
  let c768_29 : Index := 768#32
  ![v82.toNat, 768]
def k0_off8 (i : grid0.Coords) (c0_i32_0 : BitVec 32) : Fin 2 → Nat :=
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_7 : BitVec 32 := 4#32
  let v22 : BitVec 32 := Scalar.subi v19 c4_i32_7
  let c0_i32_8 : BitVec 32 := 0#32
  let v23 : BitVec 32 := Scalar.maxsi v22 c0_i32_8
  let c128_i32_9 : BitVec 32 := 128#32
  let v24 : BitVec 32 := Scalar.muli v23 c128_i32_9
  let v25 : BitVec 32 := v24
  let v88 : Index := Scalar.indexCast v25
  let c896_32 : Index := 896#32
  ![v88.toNat, 896]
def k0_off9 (i : grid0.Coords) (c0_i32_34 : BitVec 32) (c0_i32_0 : BitVec 32) : Fin 4 → Nat :=
  let c0_52 : Index := 0#32
  let c2_i32_36 : BitVec 32 := 2#32
  let c0_i32_35 : BitVec 32 := 0#32
  let c4_i32_6 : BitVec 32 := 4#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_6 v20
  let v92 : BitVec 32 := Scalar.addi c0_i32_34 v21
  let c2_i32 : BitVec 32 := 2#32
  let v93 : BitVec 32 := Scalar.subi v92 c2_i32
  let v94 : BitVec 32 := Scalar.maxsi c0_i32_35 v93
  let v95 : BitVec 32 := Scalar.minsi c2_i32_36 v94
  let v112 : Index := Scalar.indexCast v95
  let c0_53 : Index := 0#32
  let c0_54 : Index := 0#32
  ![0, v112.toNat, 0, 0]
def k0_off10 (i : grid0.Coords) (c0_i32_34 : BitVec 32) (c0_i32_0 : BitVec 32) : Fin 4 → Nat :=
  let c1 : Index := 1#32
  let c2_i32_36 : BitVec 32 := 2#32
  let c0_i32_35 : BitVec 32 := 0#32
  let c4_i32_6 : BitVec 32 := 4#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_6 v20
  let v92 : BitVec 32 := Scalar.addi c0_i32_34 v21
  let c2_i32 : BitVec 32 := 2#32
  let v93 : BitVec 32 := Scalar.subi v92 c2_i32
  let v94 : BitVec 32 := Scalar.maxsi c0_i32_35 v93
  let v95 : BitVec 32 := Scalar.minsi c2_i32_36 v94
  let v139 : Index := Scalar.indexCast v95
  let c0_70 : Index := 0#32
  let c0_71 : Index := 0#32
  ![1, v139.toNat, 0, 0]
def k0_off11 (i : grid0.Coords) (c0_i32_34 : BitVec 32) (c0_i32_0 : BitVec 32) : Fin 4 → Nat :=
  let c2 : Index := 2#32
  let c2_i32_36 : BitVec 32 := 2#32
  let c0_i32_35 : BitVec 32 := 0#32
  let c4_i32_6 : BitVec 32 := 4#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_6 v20
  let v92 : BitVec 32 := Scalar.addi c0_i32_34 v21
  let c2_i32 : BitVec 32 := 2#32
  let v93 : BitVec 32 := Scalar.subi v92 c2_i32
  let v94 : BitVec 32 := Scalar.maxsi c0_i32_35 v93
  let v95 : BitVec 32 := Scalar.minsi c2_i32_36 v94
  let v166 : Index := Scalar.indexCast v95
  let c0_87 : Index := 0#32
  let c0_88 : Index := 0#32
  ![2, v166.toNat, 0, 0]
def k0_off12 (i : grid0.Coords) (c0_i32_34 : BitVec 32) (c0_i32_0 : BitVec 32) : Fin 4 → Nat :=
  let c3 : Index := 3#32
  let c2_i32_36 : BitVec 32 := 2#32
  let c0_i32_35 : BitVec 32 := 0#32
  let c4_i32_6 : BitVec 32 := 4#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_6 v20
  let v92 : BitVec 32 := Scalar.addi c0_i32_34 v21
  let c2_i32 : BitVec 32 := 2#32
  let v93 : BitVec 32 := Scalar.subi v92 c2_i32
  let v94 : BitVec 32 := Scalar.maxsi c0_i32_35 v93
  let v95 : BitVec 32 := Scalar.minsi c2_i32_36 v94
  let v193 : Index := Scalar.indexCast v95
  let c0_104 : Index := 0#32
  let c0_105 : Index := 0#32
  ![3, v193.toNat, 0, 0]
def k0_off13 (i : grid0.Coords) (c0_i32_34 : BitVec 32) (c0_i32_0 : BitVec 32) : Fin 4 → Nat :=
  let c4 : Index := 4#32
  let c2_i32_36 : BitVec 32 := 2#32
  let c0_i32_35 : BitVec 32 := 0#32
  let c4_i32_6 : BitVec 32 := 4#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_6 v20
  let v92 : BitVec 32 := Scalar.addi c0_i32_34 v21
  let c2_i32 : BitVec 32 := 2#32
  let v93 : BitVec 32 := Scalar.subi v92 c2_i32
  let v94 : BitVec 32 := Scalar.maxsi c0_i32_35 v93
  let v95 : BitVec 32 := Scalar.minsi c2_i32_36 v94
  let v220 : Index := Scalar.indexCast v95
  let c0_121 : Index := 0#32
  let c0_122 : Index := 0#32
  ![4, v220.toNat, 0, 0]
def k0_off14 (i : grid0.Coords) (c0_i32_34 : BitVec 32) (c0_i32_0 : BitVec 32) : Fin 4 → Nat :=
  let c5 : Index := 5#32
  let c2_i32_36 : BitVec 32 := 2#32
  let c0_i32_35 : BitVec 32 := 0#32
  let c4_i32_6 : BitVec 32 := 4#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_6 v20
  let v92 : BitVec 32 := Scalar.addi c0_i32_34 v21
  let c2_i32 : BitVec 32 := 2#32
  let v93 : BitVec 32 := Scalar.subi v92 c2_i32
  let v94 : BitVec 32 := Scalar.maxsi c0_i32_35 v93
  let v95 : BitVec 32 := Scalar.minsi c2_i32_36 v94
  let v247 : Index := Scalar.indexCast v95
  let c0_138 : Index := 0#32
  let c0_139 : Index := 0#32
  ![5, v247.toNat, 0, 0]
def k0_off15 (i : grid0.Coords) (c0_i32_34 : BitVec 32) (c0_i32_0 : BitVec 32) : Fin 4 → Nat :=
  let c6 : Index := 6#32
  let c2_i32_36 : BitVec 32 := 2#32
  let c0_i32_35 : BitVec 32 := 0#32
  let c4_i32_6 : BitVec 32 := 4#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_6 v20
  let v92 : BitVec 32 := Scalar.addi c0_i32_34 v21
  let c2_i32 : BitVec 32 := 2#32
  let v93 : BitVec 32 := Scalar.subi v92 c2_i32
  let v94 : BitVec 32 := Scalar.maxsi c0_i32_35 v93
  let v95 : BitVec 32 := Scalar.minsi c2_i32_36 v94
  let v274 : Index := Scalar.indexCast v95
  let c0_155 : Index := 0#32
  let c0_156 : Index := 0#32
  ![6, v274.toNat, 0, 0]
def k0_off16 (i : grid0.Coords) (c0_i32_34 : BitVec 32) (c0_i32_0 : BitVec 32) : Fin 4 → Nat :=
  let c7 : Index := 7#32
  let c2_i32_36 : BitVec 32 := 2#32
  let c0_i32_35 : BitVec 32 := 0#32
  let c4_i32_6 : BitVec 32 := 4#32
  let c0_i32 : BitVec 32 := 0#32
  let arg2 : BitVec 32 := BitVec.ofNat 32 (i 2).val
  let c512_i32 : BitVec 32 := 512#32
  let v0 : BitVec 32 := Scalar.muli arg2 c512_i32
  let v1 : BitVec 32 := Scalar.addi c0_i32 v0
  let v2 : BitVec 32 := Scalar.addi v1 c0_i32_0
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c128_i32 : BitVec 32 := 128#32
  let c0_i32_3 : BitVec 32 := 0#32
  let v9 : BitVec 1 := Scalar.cmpi .sgt c128_i32 c0_i32_3
  let v10 : BitVec 32 := Scalar.extui v9
  let c0_i32_4 : BitVec 32 := 0#32
  let v11 : BitVec 1 := Scalar.cmpi .slt c128_i32 c0_i32_4
  let v12 : BitVec 32 := Scalar.extui v11
  let v13 : BitVec 32 := Scalar.subi v10 v12
  let v14 : BitVec 1 := Scalar.cmpi .ne v8 v13
  let v15 : BitVec 32 := Scalar.remsi v2 c128_i32
  let c0_i32_5 : BitVec 32 := 0#32
  let v16 : BitVec 1 := Scalar.cmpi .ne v15 c0_i32_5
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_6 v20
  let v92 : BitVec 32 := Scalar.addi c0_i32_34 v21
  let c2_i32 : BitVec 32 := 2#32
  let v93 : BitVec 32 := Scalar.subi v92 c2_i32
  let v94 : BitVec 32 := Scalar.maxsi c0_i32_35 v93
  let v95 : BitVec 32 := Scalar.minsi c2_i32_36 v94
  let v301 : Index := Scalar.indexCast v95
  let c0_172 : Index := 0#32
  let c0_173 : Index := 0#32
  ![7, v301.toNat, 0, 0]
def k0_mult2 (i : grid0.Coords) : BitVec 32 :=
  let c0_i32_238 : BitVec 32 := 0#32
  let arg2 : BitVec 32 := BitVec.ofNat 32 (i 2).val
  let c512_i32_237 : BitVec 32 := 512#32
  let v424 : BitVec 32 := Scalar.muli arg2 c512_i32_237
  let v425 : BitVec 32 := Scalar.addi c0_i32_238 v424
  let c128_i32_239 : BitVec 32 := 128#32
  let v426 : BitVec 32 := Scalar.addi v425 c128_i32_239
  let c0_i32_241 : BitVec 32 := 0#32
  let v428 : BitVec 1 := Scalar.cmpi .sgt v426 c0_i32_241
  let v429 : BitVec 32 := Scalar.extui v428
  let c0_i32_242 : BitVec 32 := 0#32
  let v430 : BitVec 1 := Scalar.cmpi .slt v426 c0_i32_242
  let v431 : BitVec 32 := Scalar.extui v430
  let v432 : BitVec 32 := Scalar.subi v429 v431
  let c128_i32_240 : BitVec 32 := 128#32
  let c0_i32_243 : BitVec 32 := 0#32
  let v433 : BitVec 1 := Scalar.cmpi .sgt c128_i32_240 c0_i32_243
  let v434 : BitVec 32 := Scalar.extui v433
  let c0_i32_244 : BitVec 32 := 0#32
  let v435 : BitVec 1 := Scalar.cmpi .slt c128_i32_240 c0_i32_244
  let v436 : BitVec 32 := Scalar.extui v435
  let v437 : BitVec 32 := Scalar.subi v434 v436
  let v438 : BitVec 1 := Scalar.cmpi .ne v432 v437
  let v439 : BitVec 32 := Scalar.remsi v426 c128_i32_240
  let c0_i32_245 : BitVec 32 := 0#32
  let v440 : BitVec 1 := Scalar.cmpi .ne v439 c0_i32_245
  let v441 : BitVec 1 := Scalar.andi v438 v440
  let v427 : BitVec 32 := Scalar.divsi v426 c128_i32_240
  let c1_i32_246 : BitVec 32 := 1#32
  let v442 : BitVec 32 := Scalar.subi v427 c1_i32_246
  let v443 : BitVec 32 := Scalar.select v441 v442 v427
  let c4_i32_249 : BitVec 32 := 4#32
  let v446 : BitVec 32 := Scalar.subi v443 c4_i32_249
  let c0_i32_250 : BitVec 32 := 0#32
  let v447 : BitVec 32 := Scalar.maxsi v446 c0_i32_250
  let c128_i32_251 : BitVec 32 := 128#32
  let v448 : BitVec 32 := Scalar.muli v447 c128_i32_251
  v448
def k0_mult3 (i : grid0.Coords) : BitVec 32 :=
  let c0_i32_501 : BitVec 32 := 0#32
  let arg2 : BitVec 32 := BitVec.ofNat 32 (i 2).val
  let c512_i32_500 : BitVec 32 := 512#32
  let v848 : BitVec 32 := Scalar.muli arg2 c512_i32_500
  let v849 : BitVec 32 := Scalar.addi c0_i32_501 v848
  let c256_i32 : BitVec 32 := 256#32
  let v850 : BitVec 32 := Scalar.addi v849 c256_i32
  let c0_i32_503 : BitVec 32 := 0#32
  let v852 : BitVec 1 := Scalar.cmpi .sgt v850 c0_i32_503
  let v853 : BitVec 32 := Scalar.extui v852
  let c0_i32_504 : BitVec 32 := 0#32
  let v854 : BitVec 1 := Scalar.cmpi .slt v850 c0_i32_504
  let v855 : BitVec 32 := Scalar.extui v854
  let v856 : BitVec 32 := Scalar.subi v853 v855
  let c128_i32_502 : BitVec 32 := 128#32
  let c0_i32_505 : BitVec 32 := 0#32
  let v857 : BitVec 1 := Scalar.cmpi .sgt c128_i32_502 c0_i32_505
  let v858 : BitVec 32 := Scalar.extui v857
  let c0_i32_506 : BitVec 32 := 0#32
  let v859 : BitVec 1 := Scalar.cmpi .slt c128_i32_502 c0_i32_506
  let v860 : BitVec 32 := Scalar.extui v859
  let v861 : BitVec 32 := Scalar.subi v858 v860
  let v862 : BitVec 1 := Scalar.cmpi .ne v856 v861
  let v863 : BitVec 32 := Scalar.remsi v850 c128_i32_502
  let c0_i32_507 : BitVec 32 := 0#32
  let v864 : BitVec 1 := Scalar.cmpi .ne v863 c0_i32_507
  let v865 : BitVec 1 := Scalar.andi v862 v864
  let v851 : BitVec 32 := Scalar.divsi v850 c128_i32_502
  let c1_i32_508 : BitVec 32 := 1#32
  let v866 : BitVec 32 := Scalar.subi v851 c1_i32_508
  let v867 : BitVec 32 := Scalar.select v865 v866 v851
  let c4_i32_511 : BitVec 32 := 4#32
  let v870 : BitVec 32 := Scalar.subi v867 c4_i32_511
  let c0_i32_512 : BitVec 32 := 0#32
  let v871 : BitVec 32 := Scalar.maxsi v870 c0_i32_512
  let c128_i32_513 : BitVec 32 := 128#32
  let v872 : BitVec 32 := Scalar.muli v871 c128_i32_513
  v872
def k0_mult4 (i : grid0.Coords) : BitVec 32 :=
  let c0_i32_763 : BitVec 32 := 0#32
  let arg2 : BitVec 32 := BitVec.ofNat 32 (i 2).val
  let c512_i32_762 : BitVec 32 := 512#32
  let v1272 : BitVec 32 := Scalar.muli arg2 c512_i32_762
  let v1273 : BitVec 32 := Scalar.addi c0_i32_763 v1272
  let c384_i32 : BitVec 32 := 384#32
  let v1274 : BitVec 32 := Scalar.addi v1273 c384_i32
  let c0_i32_765 : BitVec 32 := 0#32
  let v1276 : BitVec 1 := Scalar.cmpi .sgt v1274 c0_i32_765
  let v1277 : BitVec 32 := Scalar.extui v1276
  let c0_i32_766 : BitVec 32 := 0#32
  let v1278 : BitVec 1 := Scalar.cmpi .slt v1274 c0_i32_766
  let v1279 : BitVec 32 := Scalar.extui v1278
  let v1280 : BitVec 32 := Scalar.subi v1277 v1279
  let c128_i32_764 : BitVec 32 := 128#32
  let c0_i32_767 : BitVec 32 := 0#32
  let v1281 : BitVec 1 := Scalar.cmpi .sgt c128_i32_764 c0_i32_767
  let v1282 : BitVec 32 := Scalar.extui v1281
  let c0_i32_768 : BitVec 32 := 0#32
  let v1283 : BitVec 1 := Scalar.cmpi .slt c128_i32_764 c0_i32_768
  let v1284 : BitVec 32 := Scalar.extui v1283
  let v1285 : BitVec 32 := Scalar.subi v1282 v1284
  let v1286 : BitVec 1 := Scalar.cmpi .ne v1280 v1285
  let v1287 : BitVec 32 := Scalar.remsi v1274 c128_i32_764
  let c0_i32_769 : BitVec 32 := 0#32
  let v1288 : BitVec 1 := Scalar.cmpi .ne v1287 c0_i32_769
  let v1289 : BitVec 1 := Scalar.andi v1286 v1288
  let v1275 : BitVec 32 := Scalar.divsi v1274 c128_i32_764
  let c1_i32_770 : BitVec 32 := 1#32
  let v1290 : BitVec 32 := Scalar.subi v1275 c1_i32_770
  let v1291 : BitVec 32 := Scalar.select v1289 v1290 v1275
  let c4_i32_773 : BitVec 32 := 4#32
  let v1294 : BitVec 32 := Scalar.subi v1291 c4_i32_773
  let c0_i32_774 : BitVec 32 := 0#32
  let v1295 : BitVec 32 := Scalar.maxsi v1294 c0_i32_774
  let c128_i32_775 : BitVec 32 := 128#32
  let v1296 : BitVec 32 := Scalar.muli v1295 c128_i32_775
  v1296
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x3x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x4096 : Shape := ⟨2, ![16384, 4096]⟩
abbrev S16384x8192 : Shape := ⟨2, ![16384, 8192]⟩
abbrev S32x129 : Shape := ⟨2, ![32, 129]⟩
abbrev S8x2048x32x128 : Shape := ⟨4, ![8, 2048, 32, 128]⟩
abbrev S2048 : Shape := ⟨1, ![2048]⟩
abbrev S8x32x2048x2048 : Shape := ⟨4, ![8, 32, 2048, 2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S32x2048x2048 : Shape := ⟨3, ![32, 2048, 2048]⟩
abbrev S1x32x2048x2048 : Shape := ⟨4, ![1, 32, 2048, 2048]⟩
abbrev S1x1x2048x2048 : Shape := ⟨4, ![1, 1, 2048, 2048]⟩
abbrev S8x32x2048 : Shape := ⟨3, ![8, 32, 2048]⟩
abbrev S8x32x2048x1 : Shape := ⟨4, ![8, 32, 2048, 1]⟩
abbrev S8x32x128x2048 : Shape := ⟨4, ![8, 32, 128, 2048]⟩

abbrev nBuf : Space → Nat
  | .hbm => 132
  | .vmem => 0
  | .smem => 0
  | _ => 0

abbrev hbmTy0_0 (i : Nat) : BufTy := match i % 128 with
  | 0 => ⟨S16384x4096, .f32⟩
  | 1 => ⟨S16384x8192, .f32⟩
  | 2 => ⟨S16384x4096, .f32⟩
  | 3 => ⟨S32x129, .f32⟩
  | 4 => ⟨S8x2048x32x128, .f32⟩
  | 5 => ⟨S16384x4096, .f32⟩
  | 6 => ⟨S8x2048x32x128, .f32⟩
  | 7 => ⟨S16384x4096, .f32⟩
  | 8 => ⟨S8x2048x32x128, .f32⟩
  | 9 => ⟨S2048, .i32⟩
  | 10 => ⟨S2048, .i32⟩
  | 11 => ⟨S8x32x2048x2048, .f32⟩
  | 12 => ⟨S_, .f32⟩
  | 13 => ⟨S_, .f32⟩
  | 14 => ⟨S8x32x2048x2048, .f32⟩
  | 15 => ⟨S8x32x2048x2048, .f32⟩
  | 16 => ⟨S2048x1, .i32⟩
  | 17 => ⟨S_, .i32⟩
  | 18 => ⟨S_, .i32⟩
  | 19 => ⟨S2048x1, .i32⟩
  | 20 => ⟨S2048x1, .i32⟩
  | 21 => ⟨S2048x1, .i32⟩
  | 22 => ⟨S_, .i32⟩
  | 23 => ⟨S2048x1, .i32⟩
  | 24 => ⟨S2048x1, .i1⟩
  | 25 => ⟨S2048x1, .i32⟩
  | 26 => ⟨S2048x1, .i32⟩
  | 27 => ⟨S_, .i32⟩
  | 28 => ⟨S2048x1, .i32⟩
  | 29 => ⟨S2048x1, .i1⟩
  | 30 => ⟨S2048x1, .i1⟩
  | 31 => ⟨S_, .i32⟩
  | 32 => ⟨S2048x1, .i32⟩
  | 33 => ⟨S2048x1, .i32⟩
  | 34 => ⟨S2048x1, .i32⟩
  | 35 => ⟨S1x2048, .i32⟩
  | 36 => ⟨S_, .i32⟩
  | 37 => ⟨S_, .i32⟩
  | 38 => ⟨S1x2048, .i32⟩
  | 39 => ⟨S1x2048, .i32⟩
  | 40 => ⟨S1x2048, .i32⟩
  | 41 => ⟨S_, .i32⟩
  | 42 => ⟨S1x2048, .i32⟩
  | 43 => ⟨S1x2048, .i1⟩
  | 44 => ⟨S1x2048, .i32⟩
  | 45 => ⟨S1x2048, .i32⟩
  | 46 => ⟨S_, .i32⟩
  | 47 => ⟨S1x2048, .i32⟩
  | 48 => ⟨S1x2048, .i1⟩
  | 49 => ⟨S1x2048, .i1⟩
  | 50 => ⟨S_, .i32⟩
  | 51 => ⟨S1x2048, .i32⟩
  | 52 => ⟨S1x2048, .i32⟩
  | 53 => ⟨S1x2048, .i32⟩
  | 54 => ⟨S2048x2048, .i32⟩
  | 55 => ⟨S2048x2048, .i32⟩
  | 56 => ⟨S2048x2048, .i1⟩
  | 57 => ⟨S_, .i32⟩
  | 58 => ⟨S2048x1, .i32⟩
  | 59 => ⟨S2048x1, .i32⟩
  | 60 => ⟨S2048x2048, .i32⟩
  | 61 => ⟨S2048x2048, .i32⟩
  | 62 => ⟨S2048x2048, .i1⟩
  | 63 => ⟨S2048x2048, .i1⟩
  | 64 => ⟨S1x2048, .i32⟩
  | 65 => ⟨S_, .i32⟩
  | 66 => ⟨S1x2048, .i32⟩
  | 67 => ⟨S1x2048, .i1⟩
  | 68 => ⟨S2048x2048, .i1⟩
  | 69 => ⟨S2048x2048, .i1⟩
  | 70 => ⟨S2048x1, .i32⟩
  | 71 => ⟨S1x2048, .i32⟩
  | 72 => ⟨S2048x2048, .i32⟩
  | 73 => ⟨S2048x2048, .i32⟩
  | 74 => ⟨S2048x2048, .i32⟩
  | 75 => ⟨S_, .i32⟩
  | 76 => ⟨S_, .i32⟩
  | 77 => ⟨S_, .i32⟩
  | 78 => ⟨S2048x2048, .i32⟩
  | 79 => ⟨S2048x2048, .i32⟩
  | 80 => ⟨S_, .i32⟩
  | 81 => ⟨S2048x2048, .i32⟩
  | 82 => ⟨S2048x2048, .i32⟩
  | 83 => ⟨S_, .i32⟩
  | 84 => ⟨S2048x2048, .i32⟩
  | 85 => ⟨S2048x2048, .i32⟩
  | 86 => ⟨S_, .i32⟩
  | 87 => ⟨S2048x2048, .i32⟩
  | 88 => ⟨S2048x2048, .i1⟩
  | 89 => ⟨S_, .i32⟩
  | 90 => ⟨S2048x2048, .i32⟩
  | 91 => ⟨S2048x2048, .i32⟩
  | 92 => ⟨S2048x2048, .i32⟩
  | 93 => ⟨S2048x2048x1, .i32⟩
  | 94 => ⟨S32x2048x2048, .f32⟩
  | 95 => ⟨S1x32x2048x2048, .f32⟩
  | 96 => ⟨S8x32x2048x2048, .f32⟩
  | 97 => ⟨S8x32x2048x2048, .f32⟩
  | 98 => ⟨S1x1x2048x2048, .i1⟩
  | 99 => ⟨S_, .f32⟩
  | 100 => ⟨S_, .f32⟩
  | 101 => ⟨S8x32x2048x2048, .i1⟩
  | 102 => ⟨S8x32x2048x2048, .f32⟩
  | 103 => ⟨S8x32x2048x2048, .f32⟩
  | 104 => ⟨S_, .f32⟩
  | 105 => ⟨S8x32x2048, .f32⟩
  | 106 => ⟨S_, .f32⟩
  | 107 => ⟨S8x32x2048, .f32⟩
  | 108 => ⟨S8x32x2048, .f32⟩
  | 109 => ⟨S8x32x2048x1, .f32⟩
  | 110 => ⟨S8x32x2048x2048, .f32⟩
  | 111 => ⟨S8x32x2048x2048, .f32⟩
  | 112 => ⟨S8x32x2048x2048, .f32⟩
  | 113 => ⟨S_, .f32⟩
  | 114 => ⟨S8x32x2048, .f32⟩
  | 115 => ⟨S8x32x2048x1, .f32⟩
  | 116 => ⟨S8x32x2048x2048, .f32⟩
  | 117 => ⟨S8x32x2048x2048, .f32⟩
  | 118 => ⟨S8x32x128x2048, .f32⟩
  | 119 => ⟨S8x2048x32x128, .f32⟩
  | 120 => ⟨S16384x4096, .f32⟩
  | 121 => ⟨S16384x4096, .f32⟩
  | 122 => ⟨S16384x4096, .f32⟩
  | 123 => ⟨S_, .f32⟩
  | 124 => ⟨S16384x4096, .f32⟩
  | 125 => ⟨S16384x4096, .f32⟩
  | 126 => ⟨S_, .f32⟩
  | 127 => ⟨S16384x4096, .f32⟩
  | _ => ⟨S16384x4096, .f32⟩

abbrev hbmTy0_1 (i : Nat) : BufTy := match i % 128 with
  | 0 => ⟨S16384x4096, .f32⟩
  | 1 => ⟨S16384x4096, .f32⟩
  | 2 => ⟨S16384x4096, .f32⟩
  | 3 => ⟨S16384x4096, .bf16⟩
  | _ => ⟨S16384x4096, .f32⟩

abbrev hbmTy (i : Nat) : BufTy := match i / 128 with
  | 0 => hbmTy0_0 i
  | 1 => hbmTy0_1 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v12 : Ref sig .tc := ⟨.hbm, 34, rfl⟩
abbrev main_v13 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_c_1 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_c_2 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_c_3 : Ref sig .tc := ⟨.hbm, 75, rfl⟩
abbrev main_c_4 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v34 : Ref sig .tc := ⟨.hbm, 82, rfl⟩
abbrev main_c_5 : Ref sig .tc := ⟨.hbm, 83, rfl⟩
abbrev main_v35 : Ref sig .tc := ⟨.hbm, 84, rfl⟩
abbrev main_v36 : Ref sig .tc := ⟨.hbm, 85, rfl⟩
abbrev main_c_6 : Ref sig .tc := ⟨.hbm, 86, rfl⟩
abbrev main_v37 : Ref sig .tc := ⟨.hbm, 87, rfl⟩
abbrev main_v38 : Ref sig .tc := ⟨.hbm, 88, rfl⟩
abbrev main_c_7 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_cst_8 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_v48 : Ref sig .tc := ⟨.hbm, 103, rfl⟩
abbrev main_cst_9 : Ref sig .tc := ⟨.hbm, 104, rfl⟩
abbrev main_v49 : Ref sig .tc := ⟨.hbm, 105, rfl⟩
abbrev main_cst_10 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_11 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_call4_v0 : Ref sig .tc := ⟨.hbm, 121, rfl⟩
abbrev main_call4_v1 : Ref sig .tc := ⟨.hbm, 122, rfl⟩
abbrev main_call4_cst : Ref sig .tc := ⟨.hbm, 123, rfl⟩
abbrev main_call4_v2 : Ref sig .tc := ⟨.hbm, 124, rfl⟩
abbrev main_call4_v3 : Ref sig .tc := ⟨.hbm, 125, rfl⟩
abbrev main_call4_cst_0 : Ref sig .tc := ⟨.hbm, 126, rfl⟩
abbrev main_call4_v4 : Ref sig .tc := ⟨.hbm, 127, rfl⟩
abbrev main_call4_v5 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩

abbrev nD : Nat := 1
abbrev τ : Topo := Topo.v7x

variable {F : FTy → Type} [FloatOps F]
-- ==== Even.lean ====
abbrev S8x2048x4096 : Shape := ⟨3, ![8, 2048, 4096]⟩
abbrev S1x4096 : Shape := ⟨2, ![1, 4096]⟩
abbrev S1x4096x17488 : Shape := ⟨3, ![1, 4096, 17488]⟩
abbrev S1x64 : Shape := ⟨2, ![1, 64]⟩
abbrev S4096 : Shape := ⟨1, ![4096]⟩
abbrev S4096x17488 : Shape := ⟨2, ![4096, 17488]⟩
abbrev S64 : Shape := ⟨1, ![64]⟩
abbrev S4096x8192 : Shape := ⟨2, ![4096, 8192]⟩
abbrev S4096x1104 : Shape := ⟨2, ![4096, 1104]⟩
abbrev S_ : Shape := ⟨0, ![]⟩
abbrev S4096x1152 : Shape := ⟨2, ![4096, 1152]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩
abbrev S16384x1152 : Shape := ⟨2, ![16384, 1152]⟩
abbrev S512x1152 : Shape := ⟨2, ![512, 1152]⟩
abbrev S16384x64 : Shape := ⟨2, ![16384, 64]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩

abbrev nBuf : Space → Nat
  | .hbm => 29
  | .vmem => 57
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S1x4096x17488, .f32⟩
  | .hbm, ⟨3, _⟩ => ⟨S1x64, .f32⟩
  | .hbm, ⟨4, _⟩ => ⟨S4096, .f32⟩
  | .hbm, ⟨5, _⟩ => ⟨S4096x17488, .f32⟩
  | .hbm, ⟨6, _⟩ => ⟨S64, .f32⟩
  | .hbm, ⟨7, _⟩ => ⟨S4096x17488, .bf16⟩
  | .hbm, ⟨8, _⟩ => ⟨S4096x8192, .bf16⟩
  | .hbm, ⟨9, _⟩ => ⟨S4096x8192, .bf16⟩
  | .hbm, ⟨10, _⟩ => ⟨S4096x1104, .bf16⟩
  | .hbm, ⟨11, _⟩ => ⟨S_, .i32⟩
  | .hbm, ⟨12, _⟩ => ⟨S_, .bf16⟩
  | .hbm, ⟨13, _⟩ => ⟨S4096x1152, .bf16⟩
  | .hbm, ⟨14, _⟩ => ⟨S16384x4096, .f32⟩
  | .hbm, ⟨15, _⟩ => ⟨S1x4096, .f32⟩
  | .hbm, ⟨16, _⟩ => ⟨S16384x4096, .bf16⟩
  | .hbm, ⟨17, _⟩ => ⟨S16384x2048, .bf16⟩
  | .hbm, ⟨18, _⟩ => ⟨S16384x4096, .f32⟩
  | .hbm, ⟨19, _⟩ => ⟨S16384x4096, .bf16⟩
  | .hbm, ⟨20, _⟩ => ⟨S16384x2048, .f32⟩
  | .hbm, ⟨21, _⟩ => ⟨S16384x1152, .f32⟩
  | .hbm, ⟨22, _⟩ => ⟨S16384x1152, .bf16⟩
  | .hbm, ⟨23, _⟩ => ⟨S16384x2048, .bf16⟩
  | .hbm, ⟨24, _⟩ => ⟨S16384x4096, .f32⟩
  | .hbm, ⟨25, _⟩ => ⟨S16384x4096, .bf16⟩
  | .hbm, ⟨26, _⟩ => ⟨S16384x2048, .f32⟩
  | .hbm, ⟨27, _⟩ => ⟨S1x64, .f32⟩
  | .hbm, ⟨28, _⟩ => ⟨S16384x64, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x4096, .bf16⟩
  | .local _ .vmem, ⟨12, _⟩ => ⟨S1024x4096, .bf16⟩
  | .local _ .vmem, ⟨13, _⟩ => ⟨S4096x1024, .bf16⟩
  | .local _ .vmem, ⟨14, _⟩ => ⟨S4096x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x4096, .bf16⟩
  | .local _ .vmem, ⟨20, _⟩ => ⟨S1024x4096, .bf16⟩
  | .local _ .vmem, ⟨21, _⟩ => ⟨S4096x1024, .bf16⟩
  | .local _ .vmem, ⟨22, _⟩ => ⟨S4096x1024, .bf16⟩
  | .local _ .vmem, ⟨23, _⟩ => ⟨S1024x1024, .f32⟩
  | .local _ .vmem, ⟨24, _⟩ => ⟨S1024x1024, .f32⟩
  | .local _ .vmem, ⟨25, _⟩ => ⟨S512x4096, .bf16⟩
  | .local _ .vmem, ⟨26, _⟩ => ⟨S512x4096, .bf16⟩
  | .local _ .vmem, ⟨27, _⟩ => ⟨S4096x1152, .bf16⟩
  | .local _ .vmem, ⟨28, _⟩ => ⟨S512x1152, .f32⟩
  | .local _ .vmem, ⟨29, _⟩ => ⟨S512x1152, .f32⟩
  | .local _ .vmem, ⟨30, _⟩ => ⟨S512x1152, .bf16⟩
  | .local _ .vmem, ⟨31, _⟩ => ⟨S512x1152, .bf16⟩
  | .local _ .vmem, ⟨32, _⟩ => ⟨S1024x4096, .bf16⟩
  | .local _ .vmem, ⟨33, _⟩ => ⟨S1024x4096, .bf16⟩
  | .local _ .vmem, ⟨34, _⟩ => ⟨S4096x1024, .bf16⟩
  | .local _ .vmem, ⟨35, _⟩ => ⟨S4096x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x4096, .bf16⟩
  | .local _ .vmem, ⟨39, _⟩ => ⟨S1024x4096, .bf16⟩
  | .local _ .vmem, ⟨40, _⟩ => ⟨S4096x1024, .bf16⟩
  | .local _ .vmem, ⟨41, _⟩ => ⟨S4096x1024, .bf16⟩
  | .local _ .vmem, ⟨42, _⟩ => ⟨S1024x1024, .f32⟩
  | .local _ .vmem, ⟨43, _⟩ => ⟨S1024x1024, .f32⟩
  | .local _ .vmem, ⟨44, _⟩ => ⟨S1024x1024, .bf16⟩
  | .local _ .vmem, ⟨45, _⟩ => ⟨S1024x1024, .bf16⟩
  | .local _ .vmem, ⟨46, _⟩ => ⟨S1024x4096, .bf16⟩
  | .local _ .vmem, ⟨47, _⟩ => ⟨S1024x4096, .bf16⟩
  | .local _ .vmem, ⟨48, _⟩ => ⟨S4096x1024, .bf16⟩
  | .local _ .vmem, ⟨49, _⟩ => ⟨S4096x1024, .bf16⟩
  | .local _ .vmem, ⟨50, _⟩ => ⟨S1024x1024, .f32⟩
  | .local _ .vmem, ⟨51, _⟩ => ⟨S1024x1024, .f32⟩
  | .local _ .vmem, ⟨52, _⟩ => ⟨S1024x128, .f32⟩
  | .local _ .vmem, ⟨53, _⟩ => ⟨S1024x128, .f32⟩
  | .local _ .vmem, ⟨54, _⟩ => ⟨S1x64, .f32⟩
  | .local _ .vmem, ⟨55, _⟩ => ⟨S1024x64, .f32⟩
  | .local _ .vmem, ⟨56, _⟩ => ⟨S1024x64, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![16, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![32, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x1152 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x1152 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x1152 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![16, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![16, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![16, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![16], ![false]⟩

def cc8_transform_0 (i : grid8.Coords) : Fin 2 → Nat :=
  let arg0 : BitVec 32 := BitVec.ofNat 32 (i 0).val
  let c8_i32 : BitVec 32 := 8#32
  let c0_i32 : BitVec 32 := 0#32
  ![arg0.toNat, c8_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]
-- ==== EvenIdeal.lean ====
abbrev S8x2048x4096 : Shape := ⟨3, ![8, 2048, 4096]⟩
abbrev S1x4096 : Shape := ⟨2, ![1, 4096]⟩
abbrev S1x4096x17488 : Shape := ⟨3, ![1, 4096, 17488]⟩
abbrev S1x64 : Shape := ⟨2, ![1, 64]⟩
abbrev S4096 : Shape := ⟨1, ![4096]⟩
abbrev S4096x17488 : Shape := ⟨2, ![4096, 17488]⟩
abbrev S64 : Shape := ⟨1, ![64]⟩
abbrev S4096x8192 : Shape := ⟨2, ![4096, 8192]⟩
abbrev S4096x1104 : Shape := ⟨2, ![4096, 1104]⟩
abbrev S_ : Shape := ⟨0, ![]⟩
abbrev S4096x1152 : Shape := ⟨2, ![4096, 1152]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩
abbrev S16384x2048 : Shape := ⟨2, ![16384, 2048]⟩
abbrev S1024x4096 : Shape := ⟨2, ![1024, 4096]⟩
abbrev S4096x1024 : Shape := ⟨2, ![4096, 1024]⟩
abbrev S1024x1024 : Shape := ⟨2, ![1024, 1024]⟩
abbrev S16384x1152 : Shape := ⟨2, ![16384, 1152]⟩
abbrev S512x1152 : Shape := ⟨2, ![512, 1152]⟩
abbrev S16384x64 : Shape := ⟨2, ![16384, 64]⟩
abbrev S1024x128 : Shape := ⟨2, ![1024, 128]⟩
abbrev S1024x64 : Shape := ⟨2, ![1024, 64]⟩
abbrev S1024 : Shape := ⟨1, ![1024]⟩
abbrev S1024x1 : Shape := ⟨2, ![1024, 1]⟩

abbrev nBuf : Space → Nat
  | .hbm => 29
  | .vmem => 57
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S1x4096x17488, .f32⟩
  | .hbm, ⟨3, _⟩ => ⟨S1x64, .f32⟩
  | .hbm, ⟨4, _⟩ => ⟨S4096, .f32⟩
  | .hbm, ⟨5, _⟩ => ⟨S4096x17488, .f32⟩
  | .hbm, ⟨6, _⟩ => ⟨S64, .f32⟩
  | .hbm, ⟨7, _⟩ => ⟨S4096x17488, .bf16⟩
  | .hbm, ⟨8, _⟩ => ⟨S4096x8192, .bf16⟩
  | .hbm, ⟨9, _⟩ => ⟨S4096x8192, .bf16⟩
  | .hbm, ⟨10, _⟩ => ⟨S4096x1104, .bf16⟩
  | .hbm, ⟨11, _⟩ => ⟨S_, .i32⟩
  | .hbm, ⟨12, _⟩ => ⟨S_, .bf16⟩
  | .hbm, ⟨13, _⟩ => ⟨S4096x1152, .bf16⟩
  | .hbm, ⟨14, _⟩ => ⟨S16384x4096, .f32⟩
  | .hbm, ⟨15, _⟩ => ⟨S1x4096, .f32⟩
  | .hbm, ⟨16, _⟩ => ⟨S16384x4096, .bf16⟩
  | .hbm, ⟨17, _⟩ => ⟨S16384x2048, .bf16⟩
  | .hbm, ⟨18, _⟩ => ⟨S16384x4096, .f32⟩
  | .hbm, ⟨19, _⟩ => ⟨S16384x4096, .bf16⟩
  | .hbm, ⟨20, _⟩ => ⟨S16384x2048, .f32⟩
  | .hbm, ⟨21, _⟩ => ⟨S16384x1152, .f32⟩
  | .hbm, ⟨22, _⟩ => ⟨S16384x1152, .bf16⟩
  | .hbm, ⟨23, _⟩ => ⟨S16384x2048, .bf16⟩
  | .hbm, ⟨24, _⟩ => ⟨S16384x4096, .f32⟩
  | .hbm, ⟨25, _⟩ => ⟨S16384x4096, .bf16⟩
  | .hbm, ⟨26, _⟩ => ⟨S16384x2048, .f32⟩
  | .hbm, ⟨27, _⟩ => ⟨S1x64, .f32⟩
  | .hbm, ⟨28, _⟩ => ⟨S16384x64, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x4096, .bf16⟩
  | .local _ .vmem, ⟨12, _⟩ => ⟨S1024x4096, .bf16⟩
  | .local _ .vmem, ⟨13, _⟩ => ⟨S4096x1024, .bf16⟩
  | .local _ .vmem, ⟨14, _⟩ => ⟨S4096x1024, .bf16⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x4096, .bf16⟩
  | .local _ .vmem, ⟨20, _⟩ => ⟨S1024x4096, .bf16⟩
  | .local _ .vmem, ⟨21, _⟩ => ⟨S4096x1024, .bf16⟩
  | .local _ .vmem, ⟨22, _⟩ => ⟨S4096x1024, .bf16⟩
  | .local _ .vmem, ⟨23, _⟩ => ⟨S1024x1024, .f32⟩
  | .local _ .vmem, ⟨24, _⟩ => ⟨S1024x1024, .f32⟩
  | .local _ .vmem, ⟨25, _⟩ => ⟨S512x4096, .bf16⟩
  | .local _ .vmem, ⟨26, _⟩ => ⟨S512x4096, .bf16⟩
  | .local _ .vmem, ⟨27, _⟩ => ⟨S4096x1152, .bf16⟩
  | .local _ .vmem, ⟨28, _⟩ => ⟨S512x1152, .f32⟩
  | .local _ .vmem, ⟨29, _⟩ => ⟨S512x1152, .f32⟩
  | .local _ .vmem, ⟨30, _⟩ => ⟨S512x1152, .bf16⟩
  | .local _ .vmem, ⟨31, _⟩ => ⟨S512x1152, .bf16⟩
  | .local _ .vmem, ⟨32, _⟩ => ⟨S1024x4096, .bf16⟩
  | .local _ .vmem, ⟨33, _⟩ => ⟨S1024x4096, .bf16⟩
  | .local _ .vmem, ⟨34, _⟩ => ⟨S4096x1024, .bf16⟩
  | .local _ .vmem, ⟨35, _⟩ => ⟨S4096x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x4096, .bf16⟩
  | .local _ .vmem, ⟨39, _⟩ => ⟨S1024x4096, .bf16⟩
  | .local _ .vmem, ⟨40, _⟩ => ⟨S4096x1024, .bf16⟩
  | .local _ .vmem, ⟨41, _⟩ => ⟨S4096x1024, .bf16⟩
  | .local _ .vmem, ⟨42, _⟩ => ⟨S1024x1024, .f32⟩
  | .local _ .vmem, ⟨43, _⟩ => ⟨S1024x1024, .f32⟩
  | .local _ .vmem, ⟨44, _⟩ => ⟨S1024x1024, .bf16⟩
  | .local _ .vmem, ⟨45, _⟩ => ⟨S1024x1024, .bf16⟩
  | .local _ .vmem, ⟨46, _⟩ => ⟨S1024x4096, .bf16⟩
  | .local _ .vmem, ⟨47, _⟩ => ⟨S1024x4096, .bf16⟩
  | .local _ .vmem, ⟨48, _⟩ => ⟨S4096x1024, .bf16⟩
  | .local _ .vmem, ⟨49, _⟩ => ⟨S4096x1024, .bf16⟩
  | .local _ .vmem, ⟨50, _⟩ => ⟨S1024x1024, .f32⟩
  | .local _ .vmem, ⟨51, _⟩ => ⟨S1024x1024, .f32⟩
  | .local _ .vmem, ⟨52, _⟩ => ⟨S1024x128, .f32⟩
  | .local _ .vmem, ⟨53, _⟩ => ⟨S1024x128, .f32⟩
  | .local _ .vmem, ⟨54, _⟩ => ⟨S1x64, .f32⟩
  | .local _ .vmem, ⟨55, _⟩ => ⟨S1024x64, .f32⟩
  | .local _ .vmem, ⟨56, _⟩ => ⟨S1024x64, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg1_1 : Ref sig .tc := ⟨.vmem, 49, rfl⟩
abbrev cc7_stg2_0 : Ref sig .tc := ⟨.vmem, 50, rfl⟩
abbrev cc7_stg2_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg2_0 : Ref sig .tc := ⟨.vmem, 55, rfl⟩
abbrev cc8_stg2_1 : Ref sig .tc := ⟨.vmem, 56, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem2_0 : DmaSem sig := 28
abbrev cc4_sem2_1 : DmaSem sig := 29
abbrev cc4_sem3_0 : DmaSem sig := 30
abbrev cc4_sem3_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem1_1 : DmaSem sig := 49
abbrev cc7_sem2_0 : DmaSem sig := 50
abbrev cc7_sem2_1 : DmaSem sig := 51
abbrev cc8_sem0_0 : DmaSem sig := 52
abbrev cc8_sem0_1 : DmaSem sig := 53
abbrev cc8_sem1_0 : DmaSem sig := 54
abbrev cc8_sem2_0 : DmaSem sig := 55
abbrev cc8_sem2_1 : DmaSem sig := 56

abbrev nD : Nat := 1
abbrev τ : Topo := Topo.v7x

variable {F : FTy → Type} [FloatOps F] [Named F]

def κ : String → Option EReal := fun
  | "q_scale" => some ((((Real.sqrt 128) * (Real.log 2))⁻¹ : ℝ) : EReal)
  | _ => none

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![16, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![32, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S4096x1152 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S512x1152 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x1152 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![16, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![16, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S1024x4096 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S1024x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![16, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![16], ![false]⟩

def cc8_transform_0 (i : grid8.Coords) : Fin 2 → Nat :=
  let arg0 : BitVec 32 := BitVec.ofNat 32 (i 0).val
  let c8_i32 : BitVec 32 := 8#32
  let c0_i32 : BitVec 32 := 0#32
  ![arg0.toNat, c8_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S1024x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S1024x64 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]
-- ==== EvenReferenceIdeal.lean ====
abbrev S8x2048x4096 : Shape := ⟨3, ![8, 2048, 4096]⟩
abbrev S1x4096 : Shape := ⟨2, ![1, 4096]⟩
abbrev S1x4096x17488 : Shape := ⟨3, ![1, 4096, 17488]⟩
abbrev S1x64 : Shape := ⟨2, ![1, 64]⟩
abbrev S4096 : Shape := ⟨1, ![4096]⟩
abbrev S_ : Shape := ⟨0, ![]⟩
abbrev S8x2048 : Shape := ⟨2, ![8, 2048]⟩
abbrev S8x2048x1 : Shape := ⟨3, ![8, 2048, 1]⟩
abbrev S1x1x4096 : Shape := ⟨3, ![1, 1, 4096]⟩
abbrev S4096x17488 : Shape := ⟨2, ![4096, 17488]⟩
abbrev S8x2048x17488 : Shape := ⟨3, ![8, 2048, 17488]⟩
abbrev S16384x17488 : Shape := ⟨2, ![16384, 17488]⟩
abbrev S16384x2048 : Shape := ⟨2, ![16384, 2048]⟩
abbrev S16384x1024 : Shape := ⟨2, ![16384, 1024]⟩
abbrev S16384x64 : Shape := ⟨2, ![16384, 64]⟩
abbrev S16384x16 : Shape := ⟨2, ![16384, 16]⟩
abbrev S16384x4096 : Shape := ⟨2, ![16384, 4096]⟩
abbrev S16384x48 : Shape := ⟨2, ![16384, 48]⟩
abbrev S16384x1152 : Shape := ⟨2, ![16384, 1152]⟩
abbrev S64 : Shape := ⟨1, ![64]⟩
abbrev S16384 : Shape := ⟨1, ![16384]⟩
abbrev S16384x1 : Shape := ⟨2, ![16384, 1]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S1x4096, .f32⟩
  | .hbm, ⟨2, _⟩ => ⟨S1x4096x17488, .f32⟩
  | .hbm, ⟨3, _⟩ => ⟨S1x64, .f32⟩
  | .hbm, ⟨4, _⟩ => ⟨S4096, .f32⟩
  | .hbm, ⟨5, _⟩ => ⟨S8x2048x4096, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x4096, .f32⟩
  | .hbm, ⟨17, _⟩ => ⟨S8x2048x4096, .f32⟩
  | .hbm, ⟨18, _⟩ => ⟨S1x1x4096, .f32⟩
  | .hbm, ⟨19, _⟩ => ⟨S8x2048x4096, .f32⟩
  | .hbm, ⟨20, _⟩ => ⟨S8x2048x4096, .f32⟩
  | .hbm, ⟨21, _⟩ => ⟨S4096x17488, .f32⟩
  | .hbm, ⟨22, _⟩ => ⟨S8x2048x17488, .f32⟩
  | .hbm, ⟨23, _⟩ => ⟨S16384x17488, .f32⟩
  | .hbm, ⟨24, _⟩ => ⟨S16384x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x1024, .f32⟩
  | .hbm, ⟨29, _⟩ => ⟨S16384x64, .f32⟩
  | .hbm, ⟨30, _⟩ => ⟨S16384x16, .f32⟩
  | .hbm, ⟨31, _⟩ => ⟨S16384x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384x4096, .f32⟩
  | .hbm, ⟨41, _⟩ => ⟨S16384x4096, .f32⟩
  | .hbm, ⟨42, _⟩ => ⟨S_, .f32⟩
  | .hbm, ⟨43, _⟩ => ⟨S16384x48, .f32⟩
  | .hbm, ⟨44, _⟩ => ⟨S16384x1152, .f32⟩
  | .hbm, ⟨45, _⟩ => ⟨S16384x2048, .f32⟩
  | .hbm, ⟨46, _⟩ => ⟨S16384x2048, .f32⟩
  | .hbm, ⟨47, _⟩ => ⟨S16384x2048, .bf16⟩
  | .hbm, ⟨48, _⟩ => ⟨S16384x4096, .bf16⟩
  | .hbm, ⟨49, _⟩ => ⟨S16384x1152, .bf16⟩
  | .hbm, ⟨50, _⟩ => ⟨S16384x2048, .f32⟩
  | .hbm, ⟨51, _⟩ => ⟨S16384x2048, .f32⟩
  | .hbm, ⟨52, _⟩ => ⟨S16384x2048, .bf16⟩
  | .hbm, ⟨53, _⟩ => ⟨S16384x4096, .bf16⟩
  | .hbm, ⟨54, _⟩ => ⟨S64, .f32⟩
  | .hbm, ⟨55, _⟩ => ⟨S16384x64, .f32⟩
  | .hbm, ⟨56, _⟩ => ⟨S_, .f32⟩
  | .hbm, ⟨57, _⟩ => ⟨S16384, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S16384x1, .f32⟩
  | .hbm, ⟨66, _⟩ => ⟨S16384x64, .f32⟩
  | .hbm, ⟨67, _⟩ => ⟨S16384x64, .f32⟩
  | .hbm, ⟨68, _⟩ => ⟨S1x64, .f32⟩
  | .hbm, ⟨69, _⟩ => ⟨S16384x64, .f32⟩
  | .hbm, ⟨70, _⟩ => ⟨S16384x64, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Middle.lean ====
abbrev S8x2048x4096 : Shape := ⟨3, ![8, 2048, 4096]⟩
abbrev S16384x2048 : Shape := ⟨2, ![16384, 2048]⟩
abbrev S1x4096x4096 : Shape := ⟨3, ![1, 4096, 4096]⟩
abbrev S1x4096 : Shape := ⟨2, ![1, 4096]⟩
abbrev S1x4096x16384 : Shape := ⟨3, ![1, 4096, 16384]⟩
abbrev S4096x4096 : Shape := ⟨2, ![4096, 4096]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S4096x16384 : Shape := ⟨2, ![4096, 16384]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S1024x4096 : Shape := ⟨2, ![1024, 4096]⟩
abbrev S4096x1024 : Shape := ⟨2, ![4096, 1024]⟩
abbrev S16384x8192 : Shape := ⟨2, ![16384, 8192]⟩

abbrev nBuf : Space → Nat
  | .hbm => 23
  | .vmem => 37
  | .smem => 0
  | _ => 0

abbrev bufTy : (tb : Table) → Fin (tcTables nBuf tb) → BufTy
  | .hbm, ⟨0, _⟩ => ⟨S8x2048x4096, .f32⟩
  | .hbm, ⟨1, _⟩ => ⟨S16384x2048, .f32⟩
  | .hbm, ⟨2, _⟩ => ⟨S16384x2048, .f32⟩
  | .hbm, ⟨3, _⟩ => ⟨S1x4096x4096, .f32⟩
  | .hbm, ⟨4, _⟩ => ⟨S1x4096, .f32⟩
  | .hbm, ⟨5, _⟩ => ⟨S1x4096x16384, .f32⟩
  | .hbm, ⟨6, _⟩ => ⟨S4096x4096, .f32⟩
  | .hbm, ⟨7, _⟩ => ⟨S4096x4096, .bf16⟩
  | .hbm, ⟨8, _⟩ => ⟨S16384x2048, .bf16⟩
  | .hbm, ⟨9, _⟩ => ⟨S2048x4096, .bf16⟩
  | .hbm, ⟨10, _⟩ => ⟨S16384x2048, .bf16⟩
  | .hbm, ⟨11, _⟩ => ⟨S2048x4096, .bf16⟩
  | .hbm, ⟨12, _⟩ => ⟨S16384x4096, .f32⟩
  | .hbm, ⟨13, _⟩ => ⟨S16384x4096, .f32⟩
  | .hbm, ⟨14, _⟩ => ⟨S4096x16384, .f32⟩
  | .hbm, ⟨15, _⟩ => ⟨S4096x16384, .bf16⟩
  | .hbm, ⟨16, _⟩ => ⟨S4096, .f32⟩
  | .hbm, ⟨17, _⟩ => ⟨S1x4096, .f32⟩
  | .hbm, ⟨18, _⟩ => ⟨S16384x4096, .bf16⟩
  | .hbm, ⟨19, _⟩ => ⟨S16384x4096, .bf16⟩
  | .hbm, ⟨20, _⟩ => ⟨S16384x8192, .f32⟩
  | .hbm, ⟨21, _⟩ => ⟨S16384x8192, .bf16⟩
  | .hbm, ⟨22, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S512x4096, .f32⟩
  | .local _ .vmem, ⟨13, _⟩ => ⟨S512x4096, .f32⟩
  | .local _ .vmem, ⟨14, _⟩ => ⟨S1x4096, .f32⟩
  | .local _ .vmem, ⟨15, _⟩ => ⟨S512x4096, .bf16⟩
  | .local _ .vmem, ⟨16, _⟩ => ⟨S512x4096, .bf16⟩
  | .local _ .vmem, ⟨17, _⟩ => ⟨S1024x4096, .bf16⟩
  | .local _ .vmem, ⟨18, _⟩ => ⟨S1024x4096, .bf16⟩
  | .local _ .vmem, ⟨19, _⟩ => ⟨S4096x1024, .bf16⟩
  | .local _ .vmem, ⟨20, _⟩ => ⟨S4096x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x4096, .bf16⟩
  | .local _ .vmem, ⟨24, _⟩ => ⟨S1024x4096, .bf16⟩
  | .local _ .vmem, ⟨25, _⟩ => ⟨S4096x1024, .bf16⟩
  | .local _ .vmem, ⟨26, _⟩ => ⟨S4096x1024, .bf16⟩
  | .local _ .vmem, ⟨27, _⟩ => ⟨S1024x1024, .f32⟩
  | .local _ .vmem, ⟨28, _⟩ => ⟨S1024x1024, .f32⟩
  | .local _ .vmem, ⟨29, _⟩ => ⟨S1024x1024, .bf16⟩
  | .local _ .vmem, ⟨30, _⟩ => ⟨S1024x1024, .bf16⟩
  | .local _ .vmem, ⟨31, _⟩ => ⟨S1024x4096, .bf16⟩
  | .local _ .vmem, ⟨32, _⟩ => ⟨S1024x4096, .bf16⟩
  | .local _ .vmem, ⟨33, _⟩ => ⟨S4096x1024, .bf16⟩
  | .local _ .vmem, ⟨34, _⟩ => ⟨S4096x1024, .bf16⟩
  | .local _ .vmem, ⟨35, _⟩ => ⟨S1024x1024, .f32⟩
  | .local _ .vmem, ⟨36, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![16, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== MiddleIdeal.lean ====
abbrev S8x2048x4096 : Shape := ⟨3, ![8, 2048, 4096]⟩
abbrev S16384x2048 : Shape := ⟨2, ![16384, 2048]⟩
abbrev S1x4096x4096 : Shape := ⟨3, ![1, 4096, 4096]⟩
abbrev S1x4096 : Shape := ⟨2, ![1, 4096]⟩
abbrev S1x4096x16384 : Shape := ⟨3, ![1, 4096, 16384]⟩
abbrev S4096x4096 : Shape := ⟨2, ![4096, 4096]⟩
abbrev S2048x4096 : Shape := ⟨2, ![2048, 4096]⟩
abbrev S16384x4096 : Shape := ⟨2, ![16384, 4096]⟩
abbrev S1024x2048 : Shape := ⟨2, ![1024, 2048]⟩
abbrev S2048x1024 : Shape := ⟨2, ![2048, 1024]⟩
abbrev S1024x1024 : Shape := ⟨2, ![1024, 1024]⟩
abbrev S4096x16384 : Shape := ⟨2, ![4096, 16384]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S1024x4096 : Shape := ⟨2, ![1024, 4096]⟩
abbrev S4096x1024 : Shape := ⟨2, ![4096, 1024]⟩
abbrev S16384x8192 : Shape := ⟨2, ![16384, 8192]⟩

abbrev nBuf : Space → Nat
  | .hbm => 23
  | .vmem => 37
  | .smem => 0
  | _ => 0

abbrev bufTy : (tb : Table) → Fin (tcTables nBuf tb) → BufTy
  | .hbm, ⟨0, _⟩ => ⟨S8x2048x4096, .f32⟩
  | .hbm, ⟨1, _⟩ => ⟨S16384x2048, .f32⟩
  | .hbm, ⟨2, _⟩ => ⟨S16384x2048, .f32⟩
  | .hbm, ⟨3, _⟩ => ⟨S1x4096x4096, .f32⟩
  | .hbm, ⟨4, _⟩ => ⟨S1x4096, .f32⟩
  | .hbm, ⟨5, _⟩ => ⟨S1x4096x16384, .f32⟩
  | .hbm, ⟨6, _⟩ => ⟨S4096x4096, .f32⟩
  | .hbm, ⟨7, _⟩ => ⟨S4096x4096, .bf16⟩
  | .hbm, ⟨8, _⟩ => ⟨S16384x2048, .bf16⟩
  | .hbm, ⟨9, _⟩ => ⟨S2048x4096, .bf16⟩
  | .hbm, ⟨10, _⟩ => ⟨S16384x2048, .bf16⟩
  | .hbm, ⟨11, _⟩ => ⟨S2048x4096, .bf16⟩
  | .hbm, ⟨12, _⟩ => ⟨S16384x4096, .f32⟩
  | .hbm, ⟨13, _⟩ => ⟨S16384x4096, .f32⟩
  | .hbm, ⟨14, _⟩ => ⟨S4096x16384, .f32⟩
  | .hbm, ⟨15, _⟩ => ⟨S4096x16384, .bf16⟩
  | .hbm, ⟨16, _⟩ => ⟨S4096, .f32⟩
  | .hbm, ⟨17, _⟩ => ⟨S1x4096, .f32⟩
  | .hbm, ⟨18, _⟩ => ⟨S16384x4096, .bf16⟩
  | .hbm, ⟨19, _⟩ => ⟨S16384x4096, .bf16⟩
  | .hbm, ⟨20, _⟩ => ⟨S16384x8192, .f32⟩
  | .hbm, ⟨21, _⟩ => ⟨S16384x8192, .bf16⟩
  | .hbm, ⟨22, _⟩ => ⟨S16384x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S2048x1024, .bf16⟩
  | .local _ .vmem, ⟨7, _⟩ => ⟨S2048x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S512x4096, .f32⟩
  | .local _ .vmem, ⟨13, _⟩ => ⟨S512x4096, .f32⟩
  | .local _ .vmem, ⟨14, _⟩ => ⟨S1x4096, .f32⟩
  | .local _ .vmem, ⟨15, _⟩ => ⟨S512x4096, .bf16⟩
  | .local _ .vmem, ⟨16, _⟩ => ⟨S512x4096, .bf16⟩
  | .local _ .vmem, ⟨17, _⟩ => ⟨S1024x4096, .bf16⟩
  | .local _ .vmem, ⟨18, _⟩ => ⟨S1024x4096, .bf16⟩
  | .local _ .vmem, ⟨19, _⟩ => ⟨S4096x1024, .bf16⟩
  | .local _ .vmem, ⟨20, _⟩ => ⟨S4096x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x4096, .bf16⟩
  | .local _ .vmem, ⟨24, _⟩ => ⟨S1024x4096, .bf16⟩
  | .local _ .vmem, ⟨25, _⟩ => ⟨S4096x1024, .bf16⟩
  | .local _ .vmem, ⟨26, _⟩ => ⟨S4096x1024, .bf16⟩
  | .local _ .vmem, ⟨27, _⟩ => ⟨S1024x1024, .f32⟩
  | .local _ .vmem, ⟨28, _⟩ => ⟨S1024x1024, .f32⟩
  | .local _ .vmem, ⟨29, _⟩ => ⟨S1024x1024, .bf16⟩
  | .local _ .vmem, ⟨30, _⟩ => ⟨S1024x1024, .bf16⟩
  | .local _ .vmem, ⟨31, _⟩ => ⟨S1024x4096, .bf16⟩
  | .local _ .vmem, ⟨32, _⟩ => ⟨S1024x4096, .bf16⟩
  | .local _ .vmem, ⟨33, _⟩ => ⟨S4096x1024, .bf16⟩
  | .local _ .vmem, ⟨34, _⟩ => ⟨S4096x1024, .bf16⟩
  | .local _ .vmem, ⟨35, _⟩ => ⟨S1024x1024, .f32⟩
  | .local _ .vmem, ⟨36, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36

abbrev nD : Nat := 1
abbrev τ : Topo := Topo.v7x

variable {F : FTy → Type} [FloatOps F] [Named F]

def κ : String → Option EReal := fun
  | "q_scale" => some ((((Real.sqrt 128) * (Real.log 2))⁻¹ : ℝ) : EReal)
  | _ => none

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![16, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x4096 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== MiddleReferenceIdeal.lean ====
abbrev S8x2048x4096 : Shape := ⟨3, ![8, 2048, 4096]⟩
abbrev S16384x2048 : Shape := ⟨2, ![16384, 2048]⟩
abbrev S1x4096x4096 : Shape := ⟨3, ![1, 4096, 4096]⟩
abbrev S1x4096 : Shape := ⟨2, ![1, 4096]⟩
abbrev S1x4096x16384 : Shape := ⟨3, ![1, 4096, 16384]⟩
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S4096x16384 : Shape := ⟨2, ![4096, 16384]⟩
abbrev S16384x16384 : Shape := ⟨2, ![16384, 16384]⟩
abbrev S16384x8192 : Shape := ⟨2, ![16384, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S16384x2048, .f32⟩
  | .hbm, ⟨2, _⟩ => ⟨S16384x2048, .f32⟩
  | .hbm, ⟨3, _⟩ => ⟨S1x4096x4096, .f32⟩
  | .hbm, ⟨4, _⟩ => ⟨S1x4096, .f32⟩
  | .hbm, ⟨5, _⟩ => ⟨S1x4096x16384, .f32⟩
  | .hbm, ⟨6, _⟩ => ⟨S16384x4096, .f32⟩
  | .hbm, ⟨7, _⟩ => ⟨S16384x4096, .f32⟩
  | .hbm, ⟨8, _⟩ => ⟨S4096x4096, .f32⟩
  | .hbm, ⟨9, _⟩ => ⟨S16384x4096, .f32⟩
  | .hbm, ⟨10, _⟩ => ⟨S16384x4096, .f32⟩
  | .hbm, ⟨11, _⟩ => ⟨S4096, .f32⟩
  | .hbm, ⟨12, _⟩ => ⟨S16384x4096, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x4096, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S4096x16384, .f32⟩
  | .hbm, ⟨29, _⟩ => ⟨S16384x16384, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384x4096, .f32⟩
  | .hbm, ⟨41, _⟩ => ⟨S16384x4096, .f32⟩
  | .hbm, ⟨42, _⟩ => ⟨S16384x4096, .bf16⟩
  | .hbm, ⟨43, _⟩ => ⟨S16384x8192, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Final.lean ====
abbrev S16384x4096 : Shape := ⟨2, ![16384, 4096]⟩
abbrev S1x4096x4096 : Shape := ⟨3, ![1, 4096, 4096]⟩
abbrev S4096 : Shape := ⟨1, ![4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S1x4096x4096, .f32⟩
  | .hbm, ⟨3, _⟩ => ⟨S4096, .f32⟩
  | .hbm, ⟨4, _⟩ => ⟨S16384x4096, .bf16⟩
  | .hbm, ⟨5, _⟩ => ⟨S4096x4096, .f32⟩
  | .hbm, ⟨6, _⟩ => ⟨S4096x4096, .bf16⟩
  | .hbm, ⟨7, _⟩ => ⟨S16384x4096, .f32⟩
  | .hbm, ⟨8, _⟩ => ⟨S1x4096, .f32⟩
  | .hbm, ⟨9, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S512x4096, .f32⟩
  | .local _ .vmem, ⟨9, _⟩ => ⟨S512x4096, .f32⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== FinalIdeal.lean ====
abbrev S16384x4096 : Shape := ⟨2, ![16384, 4096]⟩
abbrev S1x4096x4096 : Shape := ⟨3, ![1, 4096, 4096]⟩
abbrev S4096 : Shape := ⟨1, ![4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 10
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S1x4096x4096, .f32⟩
  | .hbm, ⟨3, _⟩ => ⟨S4096, .f32⟩
  | .hbm, ⟨4, _⟩ => ⟨S16384x4096, .bf16⟩
  | .hbm, ⟨5, _⟩ => ⟨S4096x4096, .f32⟩
  | .hbm, ⟨6, _⟩ => ⟨S4096x4096, .bf16⟩
  | .hbm, ⟨7, _⟩ => ⟨S16384x4096, .f32⟩
  | .hbm, ⟨8, _⟩ => ⟨S1x4096, .f32⟩
  | .hbm, ⟨9, _⟩ => ⟨S16384x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S512x4096, .f32⟩
  | .local _ .vmem, ⟨9, _⟩ => ⟨S512x4096, .f32⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== FinalReferenceIdeal.lean ====
abbrev S16384x4096 : Shape := ⟨2, ![16384, 4096]⟩
abbrev S1x4096x4096 : Shape := ⟨3, ![1, 4096, 4096]⟩
abbrev S4096 : Shape := ⟨1, ![4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S1x4096x4096, .f32⟩
  | .hbm, ⟨3, _⟩ => ⟨S4096, .f32⟩
  | .hbm, ⟨4, _⟩ => ⟨S4096x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x4096, .f32⟩
  | .hbm, ⟨19, _⟩ => ⟨S16384x4096, .f32⟩
  | .hbm, ⟨20, _⟩ => ⟨S1x4096, .f32⟩
  | .hbm, ⟨21, _⟩ => ⟨S16384x4096, .f32⟩
  | .hbm, ⟨22, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== SampleEven.lean ====
abbrev S8x16x4096 : Shape := ⟨3, ![8, 16, 4096]⟩
abbrev S1x4096 : Shape := ⟨2, ![1, 4096]⟩
abbrev S1x4096x17488 : Shape := ⟨3, ![1, 4096, 17488]⟩
abbrev S1x64 : Shape := ⟨2, ![1, 64]⟩
abbrev S4096 : Shape := ⟨1, ![4096]⟩
abbrev S4096x17488 : Shape := ⟨2, ![4096, 17488]⟩
abbrev S64 : Shape := ⟨1, ![64]⟩
abbrev S4096x8192 : Shape := ⟨2, ![4096, 8192]⟩
abbrev S4096x1104 : Shape := ⟨2, ![4096, 1104]⟩
abbrev S_ : Shape := ⟨0, ![]⟩
abbrev S4096x1152 : Shape := ⟨2, ![4096, 1152]⟩
abbrev S128x4096 : Shape := ⟨2, ![128, 4096]⟩
abbrev S128 : Shape := ⟨1, ![128]⟩
abbrev S128x1 : Shape := ⟨2, ![128, 1]⟩
abbrev S128x2048 : Shape := ⟨2, ![128, 2048]⟩
abbrev S4096x1024 : Shape := ⟨2, ![4096, 1024]⟩
abbrev S128x1024 : Shape := ⟨2, ![128, 1024]⟩
abbrev S128x1152 : Shape := ⟨2, ![128, 1152]⟩
abbrev S128x64 : Shape := ⟨2, ![128, 64]⟩
abbrev S128x128 : Shape := ⟨2, ![128, 128]⟩

abbrev nBuf : Space → Nat
  | .hbm => 29
  | .vmem => 44
  | .smem => 0
  | _ => 0

abbrev bufTy : (tb : Table) → Fin (tcTables nBuf tb) → BufTy
  | .hbm, ⟨0, _⟩ => ⟨S8x16x4096, .f32⟩
  | .hbm, ⟨1, _⟩ => ⟨S1x4096, .f32⟩
  | .hbm, ⟨2, _⟩ => ⟨S1x4096x17488, .f32⟩
  | .hbm, ⟨3, _⟩ => ⟨S1x64, .f32⟩
  | .hbm, ⟨4, _⟩ => ⟨S4096, .f32⟩
  | .hbm, ⟨5, _⟩ => ⟨S4096x17488, .f32⟩
  | .hbm, ⟨6, _⟩ => ⟨S64, .f32⟩
  | .hbm, ⟨7, _⟩ => ⟨S4096x17488, .bf16⟩
  | .hbm, ⟨8, _⟩ => ⟨S4096x8192, .bf16⟩
  | .hbm, ⟨9, _⟩ => ⟨S4096x8192, .bf16⟩
  | .hbm, ⟨10, _⟩ => ⟨S4096x1104, .bf16⟩
  | .hbm, ⟨11, _⟩ => ⟨S_, .i32⟩
  | .hbm, ⟨12, _⟩ => ⟨S_, .bf16⟩
  | .hbm, ⟨13, _⟩ => ⟨S4096x1152, .bf16⟩
  | .hbm, ⟨14, _⟩ => ⟨S128x4096, .f32⟩
  | .hbm, ⟨15, _⟩ => ⟨S1x4096, .f32⟩
  | .hbm, ⟨16, _⟩ => ⟨S128x4096, .bf16⟩
  | .hbm, ⟨17, _⟩ => ⟨S128x2048, .bf16⟩
  | .hbm, ⟨18, _⟩ => ⟨S128x4096, .f32⟩
  | .hbm, ⟨19, _⟩ => ⟨S128x4096, .bf16⟩
  | .hbm, ⟨20, _⟩ => ⟨S128x2048, .f32⟩
  | .hbm, ⟨21, _⟩ => ⟨S128x1152, .f32⟩
  | .hbm, ⟨22, _⟩ => ⟨S128x1152, .bf16⟩
  | .hbm, ⟨23, _⟩ => ⟨S128x2048, .bf16⟩
  | .hbm, ⟨24, _⟩ => ⟨S128x4096, .f32⟩
  | .hbm, ⟨25, _⟩ => ⟨S128x4096, .bf16⟩
  | .hbm, ⟨26, _⟩ => ⟨S128x2048, .f32⟩
  | .hbm, ⟨27, _⟩ => ⟨S1x64, .f32⟩
  | .hbm, ⟨28, _⟩ => ⟨S128x64, .f32⟩
  | .local _ .vmem, ⟨0, _⟩ => ⟨S128x4096, .f32⟩
  | .local _ .vmem, ⟨1, _⟩ => ⟨S1x4096, .f32⟩
  | .local _ .vmem, ⟨2, _⟩ => ⟨S128x4096, .bf16⟩
  | .local _ .vmem, ⟨3, _⟩ => ⟨S128x4096, .bf16⟩
  | .local _ .vmem, ⟨4, _⟩ => ⟨S4096x1024, .bf16⟩
  | .local _ .vmem, ⟨5, _⟩ => ⟨S4096x1024, .bf16⟩
  | .local _ .vmem, ⟨6, _⟩ => ⟨S128x1024, .bf16⟩
  | .local _ .vmem, ⟨7, _⟩ => ⟨S128x1024, .bf16⟩
  | .local _ .vmem, ⟨8, _⟩ => ⟨S128x4096, .bf16⟩
  | .local _ .vmem, ⟨9, _⟩ => ⟨S4096x1024, .bf16⟩
  | .local _ .vmem, ⟨10, _⟩ => ⟨S4096x1024, .bf16⟩
  | .local _ .vmem, ⟨11, _⟩ => ⟨S128x1024, .f32⟩
  | .local _ .vmem, ⟨12, _⟩ => ⟨S128x1024, .f32⟩
  | .local _ .vmem, ⟨13, _⟩ => ⟨S128x1024, .bf16⟩
  | .local _ .vmem, ⟨14, _⟩ => ⟨S128x1024, .bf16⟩
  | .local _ .vmem, ⟨15, _⟩ => ⟨S128x4096, .bf16⟩
  | .local _ .vmem, ⟨16, _⟩ => ⟨S4096x1024, .bf16⟩
  | .local _ .vmem, ⟨17, _⟩ => ⟨S4096x1024, .bf16⟩
  | .local _ .vmem, ⟨18, _⟩ => ⟨S128x1024, .f32⟩
  | .local _ .vmem, ⟨19, _⟩ => ⟨S128x1024, .f32⟩
  | .local _ .vmem, ⟨20, _⟩ => ⟨S128x4096, .bf16⟩
  | .local _ .vmem, ⟨21, _⟩ => ⟨S4096x1152, .bf16⟩
  | .local _ .vmem, ⟨22, _⟩ => ⟨S128x1152, .f32⟩
  | .local _ .vmem, ⟨23, _⟩ => ⟨S128x1152, .bf16⟩
  | .local _ .vmem, ⟨24, _⟩ => ⟨S128x4096, .bf16⟩
  | .local _ .vmem, ⟨25, _⟩ => ⟨S4096x1024, .bf16⟩
  | .local _ .vmem, ⟨26, _⟩ => ⟨S4096x1024, .bf16⟩
  | .local _ .vmem, ⟨27, _⟩ => ⟨S128x1024, .bf16⟩
  | .local _ .vmem, ⟨28, _⟩ => ⟨S128x1024, .bf16⟩
  | .local _ .vmem, ⟨29, _⟩ => ⟨S128x4096, .bf16⟩
  | .local _ .vmem, ⟨30, _⟩ => ⟨S4096x1024, .bf16⟩
  | .local _ .vmem, ⟨31, _⟩ => ⟨S4096x1024, .bf16⟩
  | .local _ .vmem, ⟨32, _⟩ => ⟨S128x1024, .f32⟩
  | .local _ .vmem, ⟨33, _⟩ => ⟨S128x1024, .f32⟩
  | .local _ .vmem, ⟨34, _⟩ => ⟨S128x1024, .bf16⟩
  | .local _ .vmem, ⟨35, _⟩ => ⟨S128x1024, .bf16⟩
  | .local _ .vmem, ⟨36, _⟩ => ⟨S128x4096, .bf16⟩
  | .local _ .vmem, ⟨37, _⟩ => ⟨S4096x1024, .bf16⟩
  | .local _ .vmem, ⟨38, _⟩ => ⟨S4096x1024, .bf16⟩
  | .local _ .vmem, ⟨39, _⟩ => ⟨S128x1024, .f32⟩
  | .local _ .vmem, ⟨40, _⟩ => ⟨S128x1024, .f32⟩
  | .local _ .vmem, ⟨41, _⟩ => ⟨S128x128, .f32⟩
  | .local _ .vmem, ⟨42, _⟩ => ⟨S1x64, .f32⟩
  | .local _ .vmem, ⟨43, _⟩ => ⟨S128x64, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v13 : Ref sig .tc := ⟨.hbm, 20, rfl⟩
abbrev main_v14_0 : Ref sig .tc := ⟨.hbm, 21, rfl⟩
abbrev main_v14_1 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg2_1 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg2_0 : Ref sig .tc := ⟨.vmem, 22, rfl⟩
abbrev cc4_stg3_0 : Ref sig .tc := ⟨.vmem, 23, rfl⟩
abbrev cc5_stg0_0 : Ref sig .tc := ⟨.vmem, 24, rfl⟩
abbrev cc5_stg1_0 : Ref sig .tc := ⟨.vmem, 25, rfl⟩
abbrev cc5_stg1_1 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc6_stg2_1 : Ref sig .tc := ⟨.vmem, 33, rfl⟩
abbrev cc6_stg3_0 : Ref sig .tc := ⟨.vmem, 34, rfl⟩
abbrev cc6_stg3_1 : Ref sig .tc := ⟨.vmem, 35, rfl⟩
abbrev cc7_stg0_0 : Ref sig .tc := ⟨.vmem, 36, rfl⟩
abbrev cc7_stg1_0 : Ref sig .tc := ⟨.vmem, 37, rfl⟩
abbrev cc7_stg1_1 : Ref sig .tc := ⟨.vmem, 38, rfl⟩
abbrev cc7_stg2_0 : Ref sig .tc := ⟨.vmem, 39, rfl⟩
abbrev cc7_stg2_1 : Ref sig .tc := ⟨.vmem, 40, rfl⟩
abbrev cc8_stg0_0 : Ref sig .tc := ⟨.vmem, 41, rfl⟩
abbrev cc8_stg1_0 : Ref sig .tc := ⟨.vmem, 42, rfl⟩
abbrev cc8_stg2_0 : Ref sig .tc := ⟨.vmem, 43, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem1_0 : DmaSem sig := 9
abbrev cc2_sem1_1 : DmaSem sig := 10
abbrev cc2_sem2_0 : DmaSem sig := 11
abbrev cc2_sem2_1 : DmaSem sig := 12
abbrev cc2_sem3_0 : DmaSem sig := 13
abbrev cc2_sem3_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem1_0 : DmaSem sig := 21
abbrev cc4_sem2_0 : DmaSem sig := 22
abbrev cc4_sem3_0 : DmaSem sig := 23
abbrev cc5_sem0_0 : DmaSem sig := 24
abbrev cc5_sem1_0 : DmaSem sig := 25
abbrev cc5_sem1_1 : DmaSem sig := 26
abbrev cc5_sem2_0 : DmaSem sig := 27
abbrev cc5_sem2_1 : DmaSem sig := 28
abbrev cc6_sem0_0 : DmaSem sig := 29
abbrev cc6_sem1_0 : DmaSem sig := 30
abbrev cc6_sem1_1 : DmaSem sig := 31
abbrev cc6_sem2_0 : DmaSem sig := 32
abbrev cc6_sem2_1 : DmaSem sig := 33
abbrev cc6_sem3_0 : DmaSem sig := 34
abbrev cc6_sem3_1 : DmaSem sig := 35
abbrev cc7_sem0_0 : DmaSem sig := 36
abbrev cc7_sem1_0 : DmaSem sig := 37
abbrev cc7_sem1_1 : DmaSem sig := 38
abbrev cc7_sem2_0 : DmaSem sig := 39
abbrev cc7_sem2_1 : DmaSem sig := 40
abbrev cc8_sem0_0 : DmaSem sig := 41
abbrev cc8_sem1_0 : DmaSem sig := 42
abbrev cc8_sem2_0 : DmaSem sig := 43

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S128x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S128x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S128x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S128x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S128x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S128x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S4096x1152 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S128x1152 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev stage4_3 : Fin 1 → Memref sig .tc .vmem S128x1152 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true, true]

abbrev grid5 : Pipeline.Grid := ⟨2, ![1, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S128x4096 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4096x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S128x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S128x4096 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4096x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S128x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev stage6_3 : Fin 2 → Memref sig .tc .vmem S128x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![1, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  let c0_i32_0 : BitVec 32 := 0#32
  ![c0_i32.toNat, v0.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S128x4096 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S4096x1024 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S128x1024 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨1, ![1], ![false]⟩

def cc8_transform_0 (i : grid8.Coords) : Fin 2 → Nat :=
  let arg0 : BitVec 32 := BitVec.ofNat 32 (i 0).val
  let c8_i32 : BitVec 32 := 8#32
  let c0_i32 : BitVec 32 := 0#32
  ![arg0.toNat, c8_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S128x128 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S128x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![true]
-- ==== SampleEvenIdeal.lean ====
variable {F : FTy → Type} [FloatOps F] [Named F]
def κ : String → Option EReal := fun
  | "q_scale" => some ((((Real.sqrt 128) * (Real.log 2))⁻¹ : ℝ) : EReal)
  | _ => none
-- ==== SampleEvenReferenceIdeal.lean ====
abbrev S8x16x4096 : Shape := ⟨3, ![8, 16, 4096]⟩
abbrev S1x4096 : Shape := ⟨2, ![1, 4096]⟩
abbrev S1x4096x17488 : Shape := ⟨3, ![1, 4096, 17488]⟩
abbrev S1x64 : Shape := ⟨2, ![1, 64]⟩
abbrev S4096 : Shape := ⟨1, ![4096]⟩
abbrev S_ : Shape := ⟨0, ![]⟩
abbrev S8x16 : Shape := ⟨2, ![8, 16]⟩
abbrev S8x16x1 : Shape := ⟨3, ![8, 16, 1]⟩
abbrev S1x1x4096 : Shape := ⟨3, ![1, 1, 4096]⟩
abbrev S4096x17488 : Shape := ⟨2, ![4096, 17488]⟩
abbrev S8x16x17488 : Shape := ⟨3, ![8, 16, 17488]⟩
abbrev S128x17488 : Shape := ⟨2, ![128, 17488]⟩
abbrev S128x2048 : Shape := ⟨2, ![128, 2048]⟩
abbrev S128x1024 : Shape := ⟨2, ![128, 1024]⟩
abbrev S128x64 : Shape := ⟨2, ![128, 64]⟩
abbrev S128x16 : Shape := ⟨2, ![128, 16]⟩
abbrev S128x4096 : Shape := ⟨2, ![128, 4096]⟩
abbrev S128x48 : Shape := ⟨2, ![128, 48]⟩
abbrev S128x1152 : Shape := ⟨2, ![128, 1152]⟩
abbrev S64 : Shape := ⟨1, ![64]⟩
abbrev S128 : Shape := ⟨1, ![128]⟩
abbrev S128x1 : Shape := ⟨2, ![128, 1]⟩

abbrev nBuf : Space → Nat
  | .hbm => 71
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S1x4096, .f32⟩
  | .hbm, ⟨2, _⟩ => ⟨S1x4096x17488, .f32⟩
  | .hbm, ⟨3, _⟩ => ⟨S1x64, .f32⟩
  | .hbm, ⟨4, _⟩ => ⟨S4096, .f32⟩
  | .hbm, ⟨5, _⟩ => ⟨S8x16x4096, .f32⟩
  | .hbm, ⟨6, _⟩ => ⟨S_, .f32⟩
  | .hbm, ⟨7, _⟩ => ⟨S8x16, .f32⟩
  | .hbm, ⟨8, _⟩ => ⟨S8x16x1, .f32⟩
  | .hbm, ⟨9, _⟩ => ⟨S_, .f32⟩
  | .hbm, ⟨10, _⟩ => ⟨S8x16x1, .f32⟩
  | .hbm, ⟨11, _⟩ => ⟨S8x16x1, .f32⟩
  | .hbm, ⟨12, _⟩ => ⟨S_, .f32⟩
  | .hbm, ⟨13, _⟩ => ⟨S8x16x1, .f32⟩
  | .hbm, ⟨14, _⟩ => ⟨S8x16x1, .f32⟩
  | .hbm, ⟨15, _⟩ => ⟨S8x16x1, .f32⟩
  | .hbm, ⟨16, _⟩ => ⟨S8x16x4096, .f32⟩
  | .hbm, ⟨17, _⟩ => ⟨S8x16x4096, .f32⟩
  | .hbm, ⟨18, _⟩ => ⟨S1x1x4096, .f32⟩
  | .hbm, ⟨19, _⟩ => ⟨S8x16x4096, .f32⟩
  | .hbm, ⟨20, _⟩ => ⟨S8x16x4096, .f32⟩
  | .hbm, ⟨21, _⟩ => ⟨S4096x17488, .f32⟩
  | .hbm, ⟨22, _⟩ => ⟨S8x16x17488, .f32⟩
  | .hbm, ⟨23, _⟩ => ⟨S128x17488, .f32⟩
  | .hbm, ⟨24, _⟩ => ⟨S128x2048, .f32⟩
  | .hbm, ⟨25, _⟩ => ⟨S128x2048, .f32⟩
  | .hbm, ⟨26, _⟩ => ⟨S128x2048, .f32⟩
  | .hbm, ⟨27, _⟩ => ⟨S128x2048, .f32⟩
  | .hbm, ⟨28, _⟩ => ⟨S128x1024, .f32⟩
  | .hbm, ⟨29, _⟩ => ⟨S128x64, .f32⟩
  | .hbm, ⟨30, _⟩ => ⟨S128x16, .f32⟩
  | .hbm, ⟨31, _⟩ => ⟨S128x2048, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S128x4096, .f32⟩
  | .hbm, ⟨41, _⟩ => ⟨S128x4096, .f32⟩
  | .hbm, ⟨42, _⟩ => ⟨S_, .f32⟩
  | .hbm, ⟨43, _⟩ => ⟨S128x48, .f32⟩
  | .hbm, ⟨44, _⟩ => ⟨S128x1152, .f32⟩
  | .hbm, ⟨45, _⟩ => ⟨S128x2048, .f32⟩
  | .hbm, ⟨46, _⟩ => ⟨S128x2048, .f32⟩
  | .hbm, ⟨47, _⟩ => ⟨S128x2048, .bf16⟩
  | .hbm, ⟨48, _⟩ => ⟨S128x4096, .bf16⟩
  | .hbm, ⟨49, _⟩ => ⟨S128x1152, .bf16⟩
  | .hbm, ⟨50, _⟩ => ⟨S128x2048, .f32⟩
  | .hbm, ⟨51, _⟩ => ⟨S128x2048, .f32⟩
  | .hbm, ⟨52, _⟩ => ⟨S128x2048, .bf16⟩
  | .hbm, ⟨53, _⟩ => ⟨S128x4096, .bf16⟩
  | .hbm, ⟨54, _⟩ => ⟨S64, .f32⟩
  | .hbm, ⟨55, _⟩ => ⟨S128x64, .f32⟩
  | .hbm, ⟨56, _⟩ => ⟨S_, .f32⟩
  | .hbm, ⟨57, _⟩ => ⟨S128, .f32⟩
  | .hbm, ⟨58, _⟩ => ⟨S128x1, .f32⟩
  | .hbm, ⟨59, _⟩ => ⟨S_, .f32⟩
  | .hbm, ⟨60, _⟩ => ⟨S128x1, .f32⟩
  | .hbm, ⟨61, _⟩ => ⟨S128x1, .f32⟩
  | .hbm, ⟨62, _⟩ => ⟨S_, .f32⟩
  | .hbm, ⟨63, _⟩ => ⟨S128x1, .f32⟩
  | .hbm, ⟨64, _⟩ => ⟨S128x1, .f32⟩
  | .hbm, ⟨65, _⟩ => ⟨S128x1, .f32⟩
  | .hbm, ⟨66, _⟩ => ⟨S128x64, .f32⟩
  | .hbm, ⟨67, _⟩ => ⟨S128x64, .f32⟩
  | .hbm, ⟨68, _⟩ => ⟨S1x64, .f32⟩
  | .hbm, ⟨69, _⟩ => ⟨S128x64, .f32⟩
  | .hbm, ⟨70, _⟩ => ⟨S128x64, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_5 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_cst_7 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== SampleMiddle.lean ====
abbrev S8x16x4096 : Shape := ⟨3, ![8, 16, 4096]⟩
abbrev S128x2048 : Shape := ⟨2, ![128, 2048]⟩
abbrev S1x4096x4096 : Shape := ⟨3, ![1, 4096, 4096]⟩
abbrev S1x4096 : Shape := ⟨2, ![1, 4096]⟩
abbrev S1x4096x16384 : Shape := ⟨3, ![1, 4096, 16384]⟩
abbrev S4096x4096 : Shape := ⟨2, ![4096, 4096]⟩
abbrev S2048x4096 : Shape := ⟨2, ![2048, 4096]⟩
abbrev S128x4096 : Shape := ⟨2, ![128, 4096]⟩
abbrev S2048x1024 : Shape := ⟨2, ![2048, 1024]⟩
abbrev S128x1024 : Shape := ⟨2, ![128, 1024]⟩
abbrev S4096x16384 : Shape := ⟨2, ![4096, 16384]⟩
abbrev S4096 : Shape := ⟨1, ![4096]⟩
abbrev S128 : Shape := ⟨1, ![128]⟩
abbrev S128x1 : Shape := ⟨2, ![128, 1]⟩
abbrev S4096x1024 : Shape := ⟨2, ![4096, 1024]⟩
abbrev S128x8192 : Shape := ⟨2, ![128, 8192]⟩

abbrev nBuf : Space → Nat
  | .hbm => 23
  | .vmem => 30
  | .smem => 0
  | _ => 0

abbrev bufTy : (tb : Table) → Fin (tcTables nBuf tb) → BufTy
  | .hbm, ⟨0, _⟩ => ⟨S8x16x4096, .f32⟩
  | .hbm, ⟨1, _⟩ => ⟨S128x2048, .f32⟩
  | .hbm, ⟨2, _⟩ => ⟨S128x2048, .f32⟩
  | .hbm, ⟨3, _⟩ => ⟨S1x4096x4096, .f32⟩
  | .hbm, ⟨4, _⟩ => ⟨S1x4096, .f32⟩
  | .hbm, ⟨5, _⟩ => ⟨S1x4096x16384, .f32⟩
  | .hbm, ⟨6, _⟩ => ⟨S4096x4096, .f32⟩
  | .hbm, ⟨7, _⟩ => ⟨S4096x4096, .bf16⟩
  | .hbm, ⟨8, _⟩ => ⟨S128x2048, .bf16⟩
  | .hbm, ⟨9, _⟩ => ⟨S2048x4096, .bf16⟩
  | .hbm, ⟨10, _⟩ => ⟨S128x2048, .bf16⟩
  | .hbm, ⟨11, _⟩ => ⟨S2048x4096, .bf16⟩
  | .hbm, ⟨12, _⟩ => ⟨S128x4096, .f32⟩
  | .hbm, ⟨13, _⟩ => ⟨S128x4096, .f32⟩
  | .hbm, ⟨14, _⟩ => ⟨S4096x16384, .f32⟩
  | .hbm, ⟨15, _⟩ => ⟨S4096x16384, .bf16⟩
  | .hbm, ⟨16, _⟩ => ⟨S4096, .f32⟩
  | .hbm, ⟨17, _⟩ => ⟨S1x4096, .f32⟩
  | .hbm, ⟨18, _⟩ => ⟨S128x4096, .bf16⟩
  | .hbm, ⟨19, _⟩ => ⟨S128x4096, .bf16⟩
  | .hbm, ⟨20, _⟩ => ⟨S128x8192, .f32⟩
  | .hbm, ⟨21, _⟩ => ⟨S128x8192, .bf16⟩
  | .hbm, ⟨22, _⟩ => ⟨S128x4096, .f32⟩
  | .local _ .vmem, ⟨0, _⟩ => ⟨S128x2048, .bf16⟩
  | .local _ .vmem, ⟨1, _⟩ => ⟨S2048x1024, .bf16⟩
  | .local _ .vmem, ⟨2, _⟩ => ⟨S2048x1024, .bf16⟩
  | .local _ .vmem, ⟨3, _⟩ => ⟨S128x2048, .bf16⟩
  | .local _ .vmem, ⟨4, _⟩ => ⟨S2048x1024, .bf16⟩
  | .local _ .vmem, ⟨5, _⟩ => ⟨S2048x1024, .bf16⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x4096, .f32⟩
  | .local _ .vmem, ⟨11, _⟩ => ⟨S1x4096, .f32⟩
  | .local _ .vmem, ⟨12, _⟩ => ⟨S128x4096, .bf16⟩
  | .local _ .vmem, ⟨13, _⟩ => ⟨S128x4096, .bf16⟩
  | .local _ .vmem, ⟨14, _⟩ => ⟨S4096x1024, .bf16⟩
  | .local _ .vmem, ⟨15, _⟩ => ⟨S4096x1024, .bf16⟩
  | .local _ .vmem, ⟨16, _⟩ => ⟨S128x1024, .bf16⟩
  | .local _ .vmem, ⟨17, _⟩ => ⟨S128x1024, .bf16⟩
  | .local _ .vmem, ⟨18, _⟩ => ⟨S128x4096, .bf16⟩
  | .local _ .vmem, ⟨19, _⟩ => ⟨S4096x1024, .bf16⟩
  | .local _ .vmem, ⟨20, _⟩ => ⟨S4096x1024, .bf16⟩
  | .local _ .vmem, ⟨21, _⟩ => ⟨S128x1024, .f32⟩
  | .local _ .vmem, ⟨22, _⟩ => ⟨S128x1024, .f32⟩
  | .local _ .vmem, ⟨23, _⟩ => ⟨S128x1024, .bf16⟩
  | .local _ .vmem, ⟨24, _⟩ => ⟨S128x1024, .bf16⟩
  | .local _ .vmem, ⟨25, _⟩ => ⟨S128x4096, .bf16⟩
  | .local _ .vmem, ⟨26, _⟩ => ⟨S4096x1024, .bf16⟩
  | .local _ .vmem, ⟨27, _⟩ => ⟨S4096x1024, .bf16⟩
  | .local _ .vmem, ⟨28, _⟩ => ⟨S128x1024, .f32⟩
  | .local _ .vmem, ⟨29, _⟩ => ⟨S128x1024, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v15 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc2_sem0_0 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc3_sem3_1 : DmaSem sig := 24
abbrev cc4_sem0_0 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]

abbrev grid2 : Pipeline.Grid := ⟨2, ![1, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S128x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4096x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S128x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S128x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S128x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S128x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 4], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![c0_i32.toNat, v0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S128x4096 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4096x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S128x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== SampleMiddleIdeal.lean ====
variable {F : FTy → Type} [FloatOps F] [Named F]
def κ : String → Option EReal := fun
  | "q_scale" => some ((((Real.sqrt 128) * (Real.log 2))⁻¹ : ℝ) : EReal)
  | _ => none
-- ==== SampleMiddleReferenceIdeal.lean ====
abbrev S8x16x4096 : Shape := ⟨3, ![8, 16, 4096]⟩
abbrev S128x2048 : Shape := ⟨2, ![128, 2048]⟩
abbrev S1x4096x4096 : Shape := ⟨3, ![1, 4096, 4096]⟩
abbrev S1x4096 : Shape := ⟨2, ![1, 4096]⟩
abbrev S1x4096x16384 : Shape := ⟨3, ![1, 4096, 16384]⟩
abbrev S128x4096 : Shape := ⟨2, ![128, 4096]⟩
abbrev S4096x4096 : Shape := ⟨2, ![4096, 4096]⟩
abbrev S4096 : Shape := ⟨1, ![4096]⟩
abbrev S_ : Shape := ⟨0, ![]⟩
abbrev S128 : Shape := ⟨1, ![128]⟩
abbrev S128x1 : Shape := ⟨2, ![128, 1]⟩
abbrev S4096x16384 : Shape := ⟨2, ![4096, 16384]⟩
abbrev S128x16384 : Shape := ⟨2, ![128, 16384]⟩
abbrev S128x8192 : Shape := ⟨2, ![128, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S128x2048, .f32⟩
  | .hbm, ⟨2, _⟩ => ⟨S128x2048, .f32⟩
  | .hbm, ⟨3, _⟩ => ⟨S1x4096x4096, .f32⟩
  | .hbm, ⟨4, _⟩ => ⟨S1x4096, .f32⟩
  | .hbm, ⟨5, _⟩ => ⟨S1x4096x16384, .f32⟩
  | .hbm, ⟨6, _⟩ => ⟨S128x4096, .f32⟩
  | .hbm, ⟨7, _⟩ => ⟨S128x4096, .f32⟩
  | .hbm, ⟨8, _⟩ => ⟨S4096x4096, .f32⟩
  | .hbm, ⟨9, _⟩ => ⟨S128x4096, .f32⟩
  | .hbm, ⟨10, _⟩ => ⟨S128x4096, .f32⟩
  | .hbm, ⟨11, _⟩ => ⟨S4096, .f32⟩
  | .hbm, ⟨12, _⟩ => ⟨S128x4096, .f32⟩
  | .hbm, ⟨13, _⟩ => ⟨S_, .f32⟩
  | .hbm, ⟨14, _⟩ => ⟨S128, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S128x1, .f32⟩
  | .hbm, ⟨23, _⟩ => ⟨S128x4096, .f32⟩
  | .hbm, ⟨24, _⟩ => ⟨S128x4096, .f32⟩
  | .hbm, ⟨25, _⟩ => ⟨S1x4096, .f32⟩
  | .hbm, ⟨26, _⟩ => ⟨S128x4096, .f32⟩
  | .hbm, ⟨27, _⟩ => ⟨S128x4096, .f32⟩
  | .hbm, ⟨28, _⟩ => ⟨S4096x16384, .f32⟩
  | .hbm, ⟨29, _⟩ => ⟨S128x16384, .f32⟩
  | .hbm, ⟨30, _⟩ => ⟨S128x4096, .f32⟩
  | .hbm, ⟨31, _⟩ => ⟨S128x4096, .f32⟩
  | .hbm, ⟨32, _⟩ => ⟨S128x4096, .f32⟩
  | .hbm, ⟨33, _⟩ => ⟨S128x4096, .f32⟩
  | .hbm, ⟨34, _⟩ => ⟨S128x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S128x4096, .f32⟩
  | .hbm, ⟨41, _⟩ => ⟨S128x4096, .f32⟩
  | .hbm, ⟨42, _⟩ => ⟨S128x4096, .bf16⟩
  | .hbm, ⟨43, _⟩ => ⟨S128x8192, .bf16⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== SampleFinal.lean ====
abbrev S128x4096 : Shape := ⟨2, ![128, 4096]⟩
abbrev S1x4096x4096 : Shape := ⟨3, ![1, 4096, 4096]⟩
abbrev S4096 : Shape := ⟨1, ![4096]⟩
abbrev S4096x4096 : Shape := ⟨2, ![4096, 4096]⟩
abbrev S4096x1024 : Shape := ⟨2, ![4096, 1024]⟩
abbrev S128x1024 : Shape := ⟨2, ![128, 1024]⟩
abbrev S1x4096 : Shape := ⟨2, ![1, 4096]⟩
abbrev S128 : Shape := ⟨1, ![128]⟩
abbrev S128x1 : Shape := ⟨2, ![128, 1]⟩

abbrev nBuf : Space → Nat
  | .hbm => 10
  | .vmem => 10
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S1x4096x4096, .f32⟩
  | .hbm, ⟨3, _⟩ => ⟨S4096, .f32⟩
  | .hbm, ⟨4, _⟩ => ⟨S128x4096, .bf16⟩
  | .hbm, ⟨5, _⟩ => ⟨S4096x4096, .f32⟩
  | .hbm, ⟨6, _⟩ => ⟨S4096x4096, .bf16⟩
  | .hbm, ⟨7, _⟩ => ⟨S128x4096, .f32⟩
  | .hbm, ⟨8, _⟩ => ⟨S1x4096, .f32⟩
  | .hbm, ⟨9, _⟩ => ⟨S128x4096, .f32⟩
  | .local _ .vmem, ⟨0, _⟩ => ⟨S128x4096, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x4096, .f32⟩
  | .local _ .vmem, ⟨8, _⟩ => ⟨S1x4096, .f32⟩
  | .local _ .vmem, ⟨9, _⟩ => ⟨S128x4096, .f32⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S128x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true]
-- ==== SampleFinalReferenceIdeal.lean ====
abbrev S128x4096 : Shape := ⟨2, ![128, 4096]⟩
abbrev S1x4096x4096 : Shape := ⟨3, ![1, 4096, 4096]⟩
abbrev S4096 : Shape := ⟨1, ![4096]⟩
abbrev S4096x4096 : Shape := ⟨2, ![4096, 4096]⟩
abbrev S_ : Shape := ⟨0, ![]⟩
abbrev S128 : Shape := ⟨1, ![128]⟩
abbrev S128x1 : Shape := ⟨2, ![128, 1]⟩
abbrev S1x4096 : Shape := ⟨2, ![1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S128x4096, .f32⟩
  | .hbm, ⟨1, _⟩ => ⟨S128x4096, .f32⟩
  | .hbm, ⟨2, _⟩ => ⟨S1x4096x4096, .f32⟩
  | .hbm, ⟨3, _⟩ => ⟨S4096, .f32⟩
  | .hbm, ⟨4, _⟩ => ⟨S4096x4096, .f32⟩
  | .hbm, ⟨5, _⟩ => ⟨S128x4096, .f32⟩
  | .hbm, ⟨6, _⟩ => ⟨S128x4096, .f32⟩
  | .hbm, ⟨7, _⟩ => ⟨S128x4096, .f32⟩
  | .hbm, ⟨8, _⟩ => ⟨S_, .f32⟩
  | .hbm, ⟨9, _⟩ => ⟨S128, .f32⟩
  | .hbm, ⟨10, _⟩ => ⟨S128x1, .f32⟩
  | .hbm, ⟨11, _⟩ => ⟨S_, .f32⟩
  | .hbm, ⟨12, _⟩ => ⟨S128x1, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S128x1, .f32⟩
  | .hbm, ⟨18, _⟩ => ⟨S128x4096, .f32⟩
  | .hbm, ⟨19, _⟩ => ⟨S128x4096, .f32⟩
  | .hbm, ⟨20, _⟩ => ⟨S1x4096, .f32⟩
  | .hbm, ⟨21, _⟩ => ⟨S128x4096, .f32⟩
  | .hbm, ⟨22, _⟩ => ⟨S128x4096, .f32⟩
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Rows.lean ====
abbrev S1x8x512x2x32x128 : Shape := ⟨6, ![1, 8, 512, 2, 32, 128]⟩
abbrev S128x8192 : Shape := ⟨2, ![128, 8192]⟩
abbrev S8x512x2x32x128 : Shape := ⟨5, ![8, 512, 2, 32, 128]⟩
abbrev S4096x64x128 : Shape := ⟨3, ![4096, 64, 128]⟩
abbrev S8x16x8192 : Shape := ⟨3, ![8, 16, 8192]⟩
abbrev S8x1152x8192 : Shape := ⟨3, ![8, 1152, 8192]⟩
abbrev S128x64x128 : Shape := ⟨3, ![128, 64, 128]⟩
abbrev S1x16x8192 : Shape := ⟨3, ![1, 16, 8192]⟩
abbrev S1x128x8192 : Shape := ⟨3, ![1, 128, 8192]⟩
abbrev S64x128x128 : Shape := ⟨3, ![64, 128, 128]⟩
abbrev S1x128x128 : Shape := ⟨3, ![1, 128, 128]⟩
abbrev S128x128 : Shape := ⟨2, ![128, 128]⟩
abbrev S16x8192 : Shape := ⟨2, ![16, 8192]⟩
abbrev S112x8192 : Shape := ⟨2, ![112, 8192]⟩
abbrev S1x112x8192 : Shape := ⟨3, ![1, 112, 8192]⟩

abbrev nBuf : Space → Nat
  | .hbm => 6
  | .vmem => 6
  | .smem => 0
  | _ => 0

abbrev bufTy : (tb : Table) → Fin (tcTables nBuf tb) → BufTy
  | .hbm, ⟨0, _⟩ => ⟨S1x8x512x2x32x128, .f32⟩
  | .hbm, ⟨1, _⟩ => ⟨S128x8192, .bf16⟩
  | .hbm, ⟨2, _⟩ => ⟨S8x512x2x32x128, .f32⟩
  | .hbm, ⟨3, _⟩ => ⟨S4096x64x128, .f32⟩
  | .hbm, ⟨4, _⟩ => ⟨S8x16x8192, .bf16⟩
  | .hbm, ⟨5, _⟩ => ⟨S8x1152x8192, .bf16⟩
  | .local _ .vmem, ⟨0, _⟩ => ⟨S128x64x128, .f32⟩
  | .local _ .vmem, ⟨1, _⟩ => ⟨S128x64x128, .f32⟩
  | .local _ .vmem, ⟨2, _⟩ => ⟨S1x16x8192, .bf16⟩
  | .local _ .vmem, ⟨3, _⟩ => ⟨S1x16x8192, .bf16⟩
  | .local _ .vmem, ⟨4, _⟩ => ⟨S1x128x8192, .bf16⟩
  | .local _ .vmem, ⟨5, _⟩ => ⟨S1x128x8192, .bf16⟩
  | _, _ => ⟨S1x8x512x2x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c4_i32 : BitVec 32 := 4#32
  let v0 : BitVec 1 := Scalar.cmpi .slt arg1 c4_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c4_i32_0 : BitVec 32 := 4#32
  let v3 : BitVec 1 := Scalar.cmpi .sge arg1 c4_i32_0
  let c8_i32 : BitVec 32 := 8#32
  let v4 : BitVec 1 := Scalar.cmpi .slt arg1 c8_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg1 : BitVec 32 := BitVec.ofNat 32 (i 1).val
  let c8_i32_2 : BitVec 32 := 8#32
  let v8 : BitVec 1 := Scalar.cmpi .eq arg1 c8_i32_2
  let v9 : BitVec 32 := Scalar.extui v8
  let c0_i32_3 : BitVec 32 := 0#32
  let v10 : BitVec 1 := Scalar.cmpi .ne v9 c0_i32_3
  v10

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.subi arg1 c4_i32_0
  let c0_i32 : BitVec 32 := 0#32
  let c3_i32 : BitVec 32 := 3#32
  let v2 : BitVec 32 := Scalar.maxsi c0_i32 v1
  let v3 : BitVec 32 := Scalar.minsi c3_i32 v2
  let v4 : BitVec 32 := Scalar.addi v0 v3
  let c0_i32_1 : BitVec 32 := 0#32
  let c0_i32_2 : BitVec 32 := 0#32
  let c0_i32_3 : BitVec 32 := 0#32
  ![v4.toNat, c0_i32_1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RowsReferenceIdeal.lean ====
abbrev S1x8x512x2x32x128 : Shape := ⟨6, ![1, 8, 512, 2, 32, 128]⟩
abbrev S128x8192 : Shape := ⟨2, ![128, 8192]⟩
abbrev S8x512x2x32x128 : Shape := ⟨5, ![8, 512, 2, 32, 128]⟩
abbrev S8x512x8192 : Shape := ⟨3, ![8, 512, 8192]⟩
abbrev S8x16x8192 : Shape := ⟨3, ![8, 16, 8192]⟩
abbrev S_ : Shape := ⟨0, ![]⟩
abbrev S8x112x8192 : Shape := ⟨3, ![8, 112, 8192]⟩
abbrev S8x1152x8192 : Shape := ⟨3, ![8, 1152, 8192]⟩

abbrev nBuf : Space → Nat
  | .hbm => 11
  | .vmem => 0
  | .smem => 0
  | _ => 0

abbrev bufTy : (tb : Table) → Fin (tcTables nBuf tb) → BufTy
  | .hbm, ⟨0, _⟩ => ⟨S1x8x512x2x32x128, .f32⟩
  | .hbm, ⟨1, _⟩ => ⟨S128x8192, .bf16⟩
  | .hbm, ⟨2, _⟩ => ⟨S8x512x2x32x128, .f32⟩
  | .hbm, ⟨3, _⟩ => ⟨S8x512x8192, .f32⟩
  | .hbm, ⟨4, _⟩ => ⟨S8x512x8192, .bf16⟩
  | .hbm, ⟨5, _⟩ => ⟨S8x16x8192, .bf16⟩
  | .hbm, ⟨6, _⟩ => ⟨S_, .bf16⟩
  | .hbm, ⟨7, _⟩ => ⟨S8x512x8192, .bf16⟩
  | .hbm, ⟨8, _⟩ => ⟨S_, .bf16⟩
  | .hbm, ⟨9, _⟩ => ⟨S8x112x8192, .bf16⟩
  | .hbm, ⟨10, _⟩ => ⟨S8x1152x8192, .bf16⟩
  | _, _ => ⟨S1x8x512x2x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== EvenRows.lean ====
abbrev S1x8x1024x2x16x128 : Shape := ⟨6, ![1, 8, 1024, 2, 16, 128]⟩
abbrev S128x4096 : Shape := ⟨2, ![128, 4096]⟩
abbrev S8x1024x2x16x128 : Shape := ⟨5, ![8, 1024, 2, 16, 128]⟩
abbrev S8192x32x128 : Shape := ⟨3, ![8192, 32, 128]⟩
abbrev S8x16x4096 : Shape := ⟨3, ![8, 16, 4096]⟩
abbrev S8x1152x4096 : Shape := ⟨3, ![8, 1152, 4096]⟩
abbrev S128x32x128 : Shape := ⟨3, ![128, 32, 128]⟩
abbrev S1x16x4096 : Shape := ⟨3, ![1, 16, 4096]⟩
abbrev S1x128x4096 : Shape := ⟨3, ![1, 128, 4096]⟩
abbrev S32x128x128 : Shape := ⟨3, ![32, 128, 128]⟩
abbrev S1x128x128 : Shape := ⟨3, ![1, 128, 128]⟩
abbrev S128x128 : Shape := ⟨2, ![128, 128]⟩
abbrev S16x4096 : Shape := ⟨2, ![16, 4096]⟩
abbrev S112x4096 : Shape := ⟨2, ![112, 4096]⟩
abbrev S1x112x4096 : Shape := ⟨3, ![1, 112, 4096]⟩

abbrev nBuf : Space → Nat
  | .hbm => 6
  | .vmem => 6
  | .smem => 0
  | _ => 0

abbrev bufTy : (tb : Table) → Fin (tcTables nBuf tb) → BufTy
  | .hbm, ⟨0, _⟩ => ⟨S1x8x1024x2x16x128, .f32⟩
  | .hbm, ⟨1, _⟩ => ⟨S128x4096, .bf16⟩
  | .hbm, ⟨2, _⟩ => ⟨S8x1024x2x16x128, .f32⟩
  | .hbm, ⟨3, _⟩ => ⟨S8192x32x128, .f32⟩
  | .hbm, ⟨4, _⟩ => ⟨S8x16x4096, .bf16⟩
  | .hbm, ⟨5, _⟩ => ⟨S8x1152x4096, .bf16⟩
  | .local _ .vmem, ⟨0, _⟩ => ⟨S128x32x128, .f32⟩
  | .local _ .vmem, ⟨1, _⟩ => ⟨S128x32x128, .f32⟩
  | .local _ .vmem, ⟨2, _⟩ => ⟨S1x16x4096, .bf16⟩
  | .local _ .vmem, ⟨3, _⟩ => ⟨S1x16x4096, .bf16⟩
  | .local _ .vmem, ⟨4, _⟩ => ⟨S1x128x4096, .bf16⟩
  | .local _ .vmem, ⟨5, _⟩ => ⟨S1x128x4096, .bf16⟩
  | _, _ => ⟨S1x8x1024x2x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c0_i32 : BitVec 32 := 0#32
  let v0 : BitVec 1 := Scalar.cmpi .slt arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sge arg1 c0_i32_1
  let c8_i32 : BitVec 32 := 8#32
  let v4 : BitVec 1 := Scalar.cmpi .slt arg1 c8_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c8_i32_3 : BitVec 32 := 8#32
  let v8 : BitVec 1 := Scalar.cmpi .eq arg1 c8_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c0_i32 : BitVec 32 := 0#32
  let v1 : BitVec 32 := Scalar.subi arg1 c0_i32
  let c0_i32_0 : BitVec 32 := 0#32
  let c7_i32 : BitVec 32 := 7#32
  let v2 : BitVec 32 := Scalar.maxsi c0_i32_0 v1
  let v3 : BitVec 32 := Scalar.minsi c7_i32 v2
  let v4 : BitVec 32 := Scalar.addi v0 v3
  let c0_i32_1 : BitVec 32 := 0#32
  let c0_i32_2 : BitVec 32 := 0#32
  let c0_i32_3 : BitVec 32 := 0#32
  ![v4.toNat, c0_i32_1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenRowsReferenceIdeal.lean ====
abbrev S1x8x1024x2x16x128 : Shape := ⟨6, ![1, 8, 1024, 2, 16, 128]⟩
abbrev S128x4096 : Shape := ⟨2, ![128, 4096]⟩
abbrev S8x1024x2x16x128 : Shape := ⟨5, ![8, 1024, 2, 16, 128]⟩
abbrev S8x1024x4096 : Shape := ⟨3, ![8, 1024, 4096]⟩
abbrev S8x16x4096 : Shape := ⟨3, ![8, 16, 4096]⟩
abbrev S_ : Shape := ⟨0, ![]⟩
abbrev S8x112x4096 : Shape := ⟨3, ![8, 112, 4096]⟩
abbrev S8x1152x4096 : Shape := ⟨3, ![8, 1152, 4096]⟩

abbrev nBuf : Space → Nat
  | .hbm => 9
  | .vmem => 0
  | .smem => 0
  | _ => 0

abbrev bufTy : (tb : Table) → Fin (tcTables nBuf tb) → BufTy
  | .hbm, ⟨0, _⟩ => ⟨S1x8x1024x2x16x128, .f32⟩
  | .hbm, ⟨1, _⟩ => ⟨S128x4096, .bf16⟩
  | .hbm, ⟨2, _⟩ => ⟨S8x1024x2x16x128, .f32⟩
  | .hbm, ⟨3, _⟩ => ⟨S8x1024x4096, .f32⟩
  | .hbm, ⟨4, _⟩ => ⟨S8x1024x4096, .bf16⟩
  | .hbm, ⟨5, _⟩ => ⟨S8x16x4096, .bf16⟩
  | .hbm, ⟨6, _⟩ => ⟨S_, .bf16⟩
  | .hbm, ⟨7, _⟩ => ⟨S8x112x4096, .bf16⟩
  | .hbm, ⟨8, _⟩ => ⟨S8x1152x4096, .bf16⟩
  | _, _ => ⟨S1x8x1024x2x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== SampleBand.lean ====
abbrev S128x4096 : Shape := ⟨2, ![128, 4096]⟩
abbrev S9216x8192 : Shape := ⟨2, ![9216, 8192]⟩
abbrev S32x129 : Shape := ⟨2, ![32, 129]⟩
abbrev S_ : Shape := ⟨0, ![]⟩
abbrev S32x1 : Shape := ⟨2, ![32, 1]⟩
abbrev S32x191 : Shape := ⟨2, ![32, 191]⟩
abbrev S32x63 : Shape := ⟨2, ![32, 63]⟩
abbrev S32x383 : Shape := ⟨2, ![32, 383]⟩
abbrev S32x1x1 : Shape := ⟨3, ![32, 1, 1]⟩
abbrev S32x128x128 : Shape := ⟨3, ![32, 128, 128]⟩
abbrev S32x128 : Shape := ⟨2, ![32, 128]⟩
abbrev S32x1x128 : Shape := ⟨3, ![32, 1, 128]⟩
abbrev S32x16x128 : Shape := ⟨3, ![32, 16, 128]⟩
abbrev S32x1x128x128 : Shape := ⟨4, ![32, 1, 128, 128]⟩
abbrev S32x3x128x128 : Shape := ⟨4, ![32, 3, 128, 128]⟩
abbrev S16x1024 : Shape := ⟨2, ![16, 1024]⟩
abbrev S1152x1024 : Shape := ⟨2, ![1152, 1024]⟩
abbrev S8x3x128x128 : Shape := ⟨4, ![8, 3, 128, 128]⟩
abbrev S16x640 : Shape := ⟨2, ![16, 640]⟩
abbrev S16x128 : Shape := ⟨2, ![16, 128]⟩
abbrev S640x128 : Shape := ⟨2, ![640, 128]⟩
abbrev S1x1x16x128 : Shape := ⟨4, ![1, 1, 16, 128]⟩
abbrev S16 : Shape := ⟨1, ![16]⟩
abbrev S16x1 : Shape := ⟨2, ![16, 1]⟩

abbrev nBuf : Space → Nat
  | .hbm => 559
  | .vmem => 12
  | .smem => 0
  | _ => 0

abbrev hbmTy0_0 (i : Nat) : BufTy := match i % 128 with
  | 0 => ⟨S128x4096, .f32⟩
  | 1 => ⟨S9216x8192, .bf16⟩
  | 2 => ⟨S128x4096, .f32⟩
  | 3 => ⟨S32x129, .f32⟩
  | 4 => ⟨S_, .f32⟩
  | 5 => ⟨S_, .f32⟩
  | 6 => ⟨S_, .f32⟩
  | 7 => ⟨S_, .f32⟩
  | 8 => ⟨S_, .f32⟩
  | 9 => ⟨S128x4096, .f32⟩
  | 10 => ⟨S128x4096, .f32⟩
  | 11 => ⟨S128x4096, .bf16⟩
  | 12 => ⟨S_, .f32⟩
  | 13 => ⟨S_, .f32⟩
  | 14 => ⟨S32x129, .f32⟩
  | 15 => ⟨S32x129, .f32⟩
  | 16 => ⟨S32x1, .f32⟩
  | 17 => ⟨S32x1, .f32⟩
  | 18 => ⟨S32x191, .f32⟩
  | 19 => ⟨S32x129, .f32⟩
  | 20 => ⟨S32x63, .f32⟩
  | 21 => ⟨S32x383, .f32⟩
  | 22 => ⟨S32x1x1, .f32⟩
  | 23 => ⟨S32x128x128, .f32⟩
  | 24 => ⟨S32x128, .f32⟩
  | 25 => ⟨S32x128, .f32⟩
  | 26 => ⟨S32x128, .f32⟩
  | 27 => ⟨S32x128, .f32⟩
  | 28 => ⟨S32x128, .f32⟩
  | 29 => ⟨S32x128, .f32⟩
  | 30 => ⟨S32x128, .f32⟩
  | 31 => ⟨S32x128, .f32⟩
  | 32 => ⟨S32x128, .f32⟩
  | 33 => ⟨S32x128, .f32⟩
  | 34 => ⟨S32x128, .f32⟩
  | 35 => ⟨S32x128, .f32⟩
  | 36 => ⟨S32x128, .f32⟩
  | 37 => ⟨S32x128, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S32x128, .f32⟩
  | 47 => ⟨S32x128, .f32⟩
  | 48 => ⟨S32x128, .f32⟩
  | 49 => ⟨S32x128, .f32⟩
  | 50 => ⟨S32x128, .f32⟩
  | 51 => ⟨S32x128, .f32⟩
  | 52 => ⟨S32x128, .f32⟩
  | 53 => ⟨S32x128, .f32⟩
  | 54 => ⟨S32x128, .f32⟩
  | 55 => ⟨S32x128, .f32⟩
  | 56 => ⟨S32x128, .f32⟩
  | 57 => ⟨S32x128, .f32⟩
  | 58 => ⟨S32x128, .f32⟩
  | 59 => ⟨S32x128, .f32⟩
  | 60 => ⟨S32x128, .f32⟩
  | 61 => ⟨S32x128, .f32⟩
  | 62 => ⟨S32x128, .f32⟩
  | 63 => ⟨S32x128, .f32⟩
  | 64 => ⟨S32x128, .f32⟩
  | 65 => ⟨S32x128, .f32⟩
  | 66 => ⟨S32x128, .f32⟩
  | 67 => ⟨S32x128, .f32⟩
  | 68 => ⟨S32x128, .f32⟩
  | 69 => ⟨S32x128, .f32⟩
  | 70 => ⟨S32x128, .f32⟩
  | 71 => ⟨S32x128, .f32⟩
  | 72 => ⟨S32x128, .f32⟩
  | 73 => ⟨S32x128, .f32⟩
  | 74 => ⟨S32x128, .f32⟩
  | 75 => ⟨S32x128, .f32⟩
  | 76 => ⟨S32x128, .f32⟩
  | 77 => ⟨S32x128, .f32⟩
  | 78 => ⟨S32x128, .f32⟩
  | 79 => ⟨S32x128, .f32⟩
  | 80 => ⟨S32x128, .f32⟩
  | 81 => ⟨S32x128, .f32⟩
  | 82 => ⟨S32x128, .f32⟩
  | 83 => ⟨S32x128, .f32⟩
  | 84 => ⟨S32x128, .f32⟩
  | 85 => ⟨S32x128, .f32⟩
  | 86 => ⟨S32x128, .f32⟩
  | 87 => ⟨S32x128, .f32⟩
  | 88 => ⟨S32x128, .f32⟩
  | 89 => ⟨S32x128, .f32⟩
  | 90 => ⟨S32x128, .f32⟩
  | 91 => ⟨S32x128, .f32⟩
  | 92 => ⟨S32x128, .f32⟩
  | 93 => ⟨S32x128, .f32⟩
  | 94 => ⟨S32x128, .f32⟩
  | 95 => ⟨S32x128, .f32⟩
  | 96 => ⟨S32x128, .f32⟩
  | 97 => ⟨S32x128, .f32⟩
  | 98 => ⟨S32x128, .f32⟩
  | 99 => ⟨S32x128, .f32⟩
  | 100 => ⟨S32x128, .f32⟩
  | 101 => ⟨S32x128, .f32⟩
  | 102 => ⟨S32x128, .f32⟩
  | 103 => ⟨S32x128, .f32⟩
  | 104 => ⟨S32x128, .f32⟩
  | 105 => ⟨S32x128, .f32⟩
  | 106 => ⟨S32x128, .f32⟩
  | 107 => ⟨S32x128, .f32⟩
  | 108 => ⟨S32x128, .f32⟩
  | 109 => ⟨S32x128, .f32⟩
  | 110 => ⟨S32x128, .f32⟩
  | 111 => ⟨S32x128, .f32⟩
  | 112 => ⟨S32x128, .f32⟩
  | 113 => ⟨S32x128, .f32⟩
  | 114 => ⟨S32x128, .f32⟩
  | 115 => ⟨S32x128, .f32⟩
  | 116 => ⟨S32x128, .f32⟩
  | 117 => ⟨S32x128, .f32⟩
  | 118 => ⟨S32x128, .f32⟩
  | 119 => ⟨S32x128, .f32⟩
  | 120 => ⟨S32x128, .f32⟩
  | 121 => ⟨S32x128, .f32⟩
  | 122 => ⟨S32x128, .f32⟩
  | 123 => ⟨S32x128, .f32⟩
  | 124 => ⟨S32x128, .f32⟩
  | 125 => ⟨S32x128, .f32⟩
  | 126 => ⟨S32x128, .f32⟩
  | 127 => ⟨S32x128, .f32⟩
  | _ => ⟨S128x4096, .f32⟩

abbrev hbmTy0_1 (i : Nat) : BufTy := match i % 128 with
  | 0 => ⟨S32x128, .f32⟩
  | 1 => ⟨S32x128, .f32⟩
  | 2 => ⟨S32x128, .f32⟩
  | 3 => ⟨S32x128, .f32⟩
  | 4 => ⟨S32x128, .f32⟩
  | 5 => ⟨S32x128, .f32⟩
  | 6 => ⟨S32x128, .f32⟩
  | 7 => ⟨S32x128, .f32⟩
  | 8 => ⟨S32x128, .f32⟩
  | 9 => ⟨S32x128, .f32⟩
  | 10 => ⟨S32x128, .f32⟩
  | 11 => ⟨S32x128, .f32⟩
  | 12 => ⟨S32x128, .f32⟩
  | 13 => ⟨S32x128, .f32⟩
  | 14 => ⟨S32x128, .f32⟩
  | 15 => ⟨S32x128, .f32⟩
  | 16 => ⟨S32x128, .f32⟩
  | 17 => ⟨S32x128, .f32⟩
  | 18 => ⟨S32x128, .f32⟩
  | 19 => ⟨S32x128, .f32⟩
  | 20 => ⟨S32x128, .f32⟩
  | 21 => ⟨S32x128, .f32⟩
  | 22 => ⟨S32x128, .f32⟩
  | 23 => ⟨S32x128, .f32⟩
  | 24 => ⟨S32x1x128, .f32⟩
  | 25 => ⟨S32x1x128, .f32⟩
  | 26 => ⟨S32x1x128, .f32⟩
  | 27 => ⟨S32x1x128, .f32⟩
  | 28 => ⟨S32x1x128, .f32⟩
  | 29 => ⟨S32x1x128, .f32⟩
  | 30 => ⟨S32x1x128, .f32⟩
  | 31 => ⟨S32x1x128, .f32⟩
  | 32 => ⟨S32x1x128, .f32⟩
  | 33 => ⟨S32x1x128, .f32⟩
  | 34 => ⟨S32x1x128, .f32⟩
  | 35 => ⟨S32x1x128, .f32⟩
  | 36 => ⟨S32x1x128, .f32⟩
  | 37 => ⟨S32x1x128, .f32⟩
  | 38 => ⟨S32x1x128, .f32⟩
  | 39 => ⟨S32x1x128, .f32⟩
  | 40 => ⟨S32x1x128, .f32⟩
  | 41 => ⟨S32x1x128, .f32⟩
  | 42 => ⟨S32x1x128, .f32⟩
  | 43 => ⟨S32x1x128, .f32⟩
  | 44 => ⟨S32x1x128, .f32⟩
  | 45 => ⟨S32x1x128, .f32⟩
  | 46 => ⟨S32x1x128, .f32⟩
  | 47 => ⟨S32x1x128, .f32⟩
  | 48 => ⟨S32x1x128, .f32⟩
  | 49 => ⟨S32x1x128, .f32⟩
  | 50 => ⟨S32x1x128, .f32⟩
  | 51 => ⟨S32x1x128, .f32⟩
  | 52 => ⟨S32x1x128, .f32⟩
  | 53 => ⟨S32x1x128, .f32⟩
  | 54 => ⟨S32x1x128, .f32⟩
  | 55 => ⟨S32x1x128, .f32⟩
  | 56 => ⟨S32x1x128, .f32⟩
  | 57 => ⟨S32x1x128, .f32⟩
  | 58 => ⟨S32x1x128, .f32⟩
  | 59 => ⟨S32x1x128, .f32⟩
  | 60 => ⟨S32x1x128, .f32⟩
  | 61 => ⟨S32x1x128, .f32⟩
  | 62 => ⟨S32x1x128, .f32⟩
  | 63 => ⟨S32x1x128, .f32⟩
  | 64 => ⟨S32x1x128, .f32⟩
  | 65 => ⟨S32x1x128, .f32⟩
  | 66 => ⟨S32x1x128, .f32⟩
  | 67 => ⟨S32x1x128, .f32⟩
  | 68 => ⟨S32x1x128, .f32⟩
  | 69 => ⟨S32x1x128, .f32⟩
  | 70 => ⟨S32x1x128, .f32⟩
  | 71 => ⟨S32x1x128, .f32⟩
  | 72 => ⟨S32x1x128, .f32⟩
  | 73 => ⟨S32x1x128, .f32⟩
  | 74 => ⟨S32x1x128, .f32⟩
  | 75 => ⟨S32x1x128, .f32⟩
  | 76 => ⟨S32x1x128, .f32⟩
  | 77 => ⟨S32x1x128, .f32⟩
  | 78 => ⟨S32x1x128, .f32⟩
  | 79 => ⟨S32x1x128, .f32⟩
  | 80 => ⟨S32x1x128, .f32⟩
  | 81 => ⟨S32x1x128, .f32⟩
  | 82 => ⟨S32x1x128, .f32⟩
  | 83 => ⟨S32x1x128, .f32⟩
  | 84 => ⟨S32x1x128, .f32⟩
  | 85 => ⟨S32x1x128, .f32⟩
  | 86 => ⟨S32x1x128, .f32⟩
  | 87 => ⟨S32x1x128, .f32⟩
  | 88 => ⟨S32x1x128, .f32⟩
  | 89 => ⟨S32x1x128, .f32⟩
  | 90 => ⟨S32x1x128, .f32⟩
  | 91 => ⟨S32x1x128, .f32⟩
  | 92 => ⟨S32x1x128, .f32⟩
  | 93 => ⟨S32x1x128, .f32⟩
  | 94 => ⟨S32x1x128, .f32⟩
  | 95 => ⟨S32x1x128, .f32⟩
  | 96 => ⟨S32x1x128, .f32⟩
  | 97 => ⟨S32x1x128, .f32⟩
  | 98 => ⟨S32x1x128, .f32⟩
  | 99 => ⟨S32x1x128, .f32⟩
  | 100 => ⟨S32x1x128, .f32⟩
  | 101 => ⟨S32x1x128, .f32⟩
  | 102 => ⟨S32x1x128, .f32⟩
  | 103 => ⟨S32x1x128, .f32⟩
  | 104 => ⟨S32x1x128, .f32⟩
  | 105 => ⟨S32x1x128, .f32⟩
  | 106 => ⟨S32x1x128, .f32⟩
  | 107 => ⟨S32x1x128, .f32⟩
  | 108 => ⟨S32x1x128, .f32⟩
  | 109 => ⟨S32x1x128, .f32⟩
  | 110 => ⟨S32x1x128, .f32⟩
  | 111 => ⟨S32x1x128, .f32⟩
  | 112 => ⟨S32x1x128, .f32⟩
  | 113 => ⟨S32x1x128, .f32⟩
  | 114 => ⟨S32x1x128, .f32⟩
  | 115 => ⟨S32x1x128, .f32⟩
  | 116 => ⟨S32x1x128, .f32⟩
  | 117 => ⟨S32x1x128, .f32⟩
  | 118 => ⟨S32x1x128, .f32⟩
  | 119 => ⟨S32x1x128, .f32⟩
  | 120 => ⟨S32x1x128, .f32⟩
  | 121 => ⟨S32x1x128, .f32⟩
  | 122 => ⟨S32x1x128, .f32⟩
  | 123 => ⟨S32x1x128, .f32⟩
  | 124 => ⟨S32x1x128, .f32⟩
  | 125 => ⟨S32x1x128, .f32⟩
  | 126 => ⟨S32x1x128, .f32⟩
  | 127 => ⟨S32x1x128, .f32⟩
  | _ => ⟨S128x4096, .f32⟩

abbrev hbmTy0_2 (i : Nat) : BufTy := match i % 128 with
  | 0 => ⟨S32x1x128, .f32⟩
  | 1 => ⟨S32x1x128, .f32⟩
  | 2 => ⟨S32x1x128, .f32⟩
  | 3 => ⟨S32x1x128, .f32⟩
  | 4 => ⟨S32x1x128, .f32⟩
  | 5 => ⟨S32x1x128, .f32⟩
  | 6 => ⟨S32x1x128, .f32⟩
  | 7 => ⟨S32x1x128, .f32⟩
  | 8 => ⟨S32x1x128, .f32⟩
  | 9 => ⟨S32x1x128, .f32⟩
  | 10 => ⟨S32x1x128, .f32⟩
  | 11 => ⟨S32x1x128, .f32⟩
  | 12 => ⟨S32x1x128, .f32⟩
  | 13 => ⟨S32x1x128, .f32⟩
  | 14 => ⟨S32x1x128, .f32⟩
  | 15 => ⟨S32x1x128, .f32⟩
  | 16 => ⟨S32x1x128, .f32⟩
  | 17 => ⟨S32x1x128, .f32⟩
  | 18 => ⟨S32x1x128, .f32⟩
  | 19 => ⟨S32x1x128, .f32⟩
  | 20 => ⟨S32x1x128, .f32⟩
  | 21 => ⟨S32x1x128, .f32⟩
  | 22 => ⟨S32x1x128, .f32⟩
  | 23 => ⟨S32x1x128, .f32⟩
  | 24 => ⟨S32x16x128, .f32⟩
  | 25 => ⟨S32x16x128, .f32⟩
  | 26 => ⟨S32x16x128, .f32⟩
  | 27 => ⟨S32x16x128, .f32⟩
  | 28 => ⟨S32x16x128, .f32⟩
  | 29 => ⟨S32x16x128, .f32⟩
  | 30 => ⟨S32x16x128, .f32⟩
  | 31 => ⟨S32x16x128, .f32⟩
  | 32 => ⟨S32x128x128, .f32⟩
  | 33 => ⟨S32x128, .f32⟩
  | 34 => ⟨S32x128, .f32⟩
  | 35 => ⟨S32x128, .f32⟩
  | 36 => ⟨S32x128, .f32⟩
  | 37 => ⟨S32x128, .f32⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S32x128, .f32⟩
  | 47 => ⟨S32x128, .f32⟩
  | 48 => ⟨S32x128, .f32⟩
  | 49 => ⟨S32x128, .f32⟩
  | 50 => ⟨S32x128, .f32⟩
  | 51 => ⟨S32x128, .f32⟩
  | 52 => ⟨S32x128, .f32⟩
  | 53 => ⟨S32x128, .f32⟩
  | 54 => ⟨S32x128, .f32⟩
  | 55 => ⟨S32x128, .f32⟩
  | 56 => ⟨S32x128, .f32⟩
  | 57 => ⟨S32x128, .f32⟩
  | 58 => ⟨S32x128, .f32⟩
  | 59 => ⟨S32x128, .f32⟩
  | 60 => ⟨S32x128, .f32⟩
  | 61 => ⟨S32x128, .f32⟩
  | 62 => ⟨S32x128, .f32⟩
  | 63 => ⟨S32x128, .f32⟩
  | 64 => ⟨S32x128, .f32⟩
  | 65 => ⟨S32x128, .f32⟩
  | 66 => ⟨S32x128, .f32⟩
  | 67 => ⟨S32x128, .f32⟩
  | 68 => ⟨S32x128, .f32⟩
  | 69 => ⟨S32x128, .f32⟩
  | 70 => ⟨S32x128, .f32⟩
  | 71 => ⟨S32x128, .f32⟩
  | 72 => ⟨S32x128, .f32⟩
  | 73 => ⟨S32x128, .f32⟩
  | 74 => ⟨S32x128, .f32⟩
  | 75 => ⟨S32x128, .f32⟩
  | 76 => ⟨S32x128, .f32⟩
  | 77 => ⟨S32x128, .f32⟩
  | 78 => ⟨S32x128, .f32⟩
  | 79 => ⟨S32x128, .f32⟩
  | 80 => ⟨S32x128, .f32⟩
  | 81 => ⟨S32x128, .f32⟩
  | 82 => ⟨S32x128, .f32⟩
  | 83 => ⟨S32x128, .f32⟩
  | 84 => ⟨S32x128, .f32⟩
  | 85 => ⟨S32x128, .f32⟩
  | 86 => ⟨S32x128, .f32⟩
  | 87 => ⟨S32x128, .f32⟩
  | 88 => ⟨S32x128, .f32⟩
  | 89 => ⟨S32x128, .f32⟩
  | 90 => ⟨S32x128, .f32⟩
  | 91 => ⟨S32x128, .f32⟩
  | 92 => ⟨S32x128, .f32⟩
  | 93 => ⟨S32x128, .f32⟩
  | 94 => ⟨S32x128, .f32⟩
  | 95 => ⟨S32x128, .f32⟩
  | 96 => ⟨S32x128, .f32⟩
  | 97 => ⟨S32x128, .f32⟩
  | 98 => ⟨S32x128, .f32⟩
  | 99 => ⟨S32x128, .f32⟩
  | 100 => ⟨S32x128, .f32⟩
  | 101 => ⟨S32x128, .f32⟩
  | 102 => ⟨S32x128, .f32⟩
  | 103 => ⟨S32x128, .f32⟩
  | 104 => ⟨S32x128, .f32⟩
  | 105 => ⟨S32x128, .f32⟩
  | 106 => ⟨S32x128, .f32⟩
  | 107 => ⟨S32x128, .f32⟩
  | 108 => ⟨S32x128, .f32⟩
  | 109 => ⟨S32x128, .f32⟩
  | 110 => ⟨S32x128, .f32⟩
  | 111 => ⟨S32x128, .f32⟩
  | 112 => ⟨S32x128, .f32⟩
  | 113 => ⟨S32x128, .f32⟩
  | 114 => ⟨S32x128, .f32⟩
  | 115 => ⟨S32x128, .f32⟩
  | 116 => ⟨S32x128, .f32⟩
  | 117 => ⟨S32x128, .f32⟩
  | 118 => ⟨S32x128, .f32⟩
  | 119 => ⟨S32x128, .f32⟩
  | 120 => ⟨S32x128, .f32⟩
  | 121 => ⟨S32x128, .f32⟩
  | 122 => ⟨S32x128, .f32⟩
  | 123 => ⟨S32x128, .f32⟩
  | 124 => ⟨S32x128, .f32⟩
  | 125 => ⟨S32x128, .f32⟩
  | 126 => ⟨S32x128, .f32⟩
  | 127 => ⟨S32x128, .f32⟩
  | _ => ⟨S128x4096, .f32⟩

abbrev hbmTy0_3 (i : Nat) : BufTy := match i % 128 with
  | 0 => ⟨S32x128, .f32⟩
  | 1 => ⟨S32x128, .f32⟩
  | 2 => ⟨S32x128, .f32⟩
  | 3 => ⟨S32x128, .f32⟩
  | 4 => ⟨S32x128, .f32⟩
  | 5 => ⟨S32x128, .f32⟩
  | 6 => ⟨S32x128, .f32⟩
  | 7 => ⟨S32x128, .f32⟩
  | 8 => ⟨S32x128, .f32⟩
  | 9 => ⟨S32x128, .f32⟩
  | 10 => ⟨S32x128, .f32⟩
  | 11 => ⟨S32x128, .f32⟩
  | 12 => ⟨S32x128, .f32⟩
  | 13 => ⟨S32x128, .f32⟩
  | 14 => ⟨S32x128, .f32⟩
  | 15 => ⟨S32x128, .f32⟩
  | 16 => ⟨S32x128, .f32⟩
  | 17 => ⟨S32x128, .f32⟩
  | 18 => ⟨S32x128, .f32⟩
  | 19 => ⟨S32x128, .f32⟩
  | 20 => ⟨S32x128, .f32⟩
  | 21 => ⟨S32x128, .f32⟩
  | 22 => ⟨S32x128, .f32⟩
  | 23 => ⟨S32x128, .f32⟩
  | 24 => ⟨S32x128, .f32⟩
  | 25 => ⟨S32x128, .f32⟩
  | 26 => ⟨S32x128, .f32⟩
  | 27 => ⟨S32x128, .f32⟩
  | 28 => ⟨S32x128, .f32⟩
  | 29 => ⟨S32x128, .f32⟩
  | 30 => ⟨S32x128, .f32⟩
  | 31 => ⟨S32x128, .f32⟩
  | 32 => ⟨S32x128, .f32⟩
  | 33 => ⟨S32x1x128, .f32⟩
  | 34 => ⟨S32x1x128, .f32⟩
  | 35 => ⟨S32x1x128, .f32⟩
  | 36 => ⟨S32x1x128, .f32⟩
  | 37 => ⟨S32x1x128, .f32⟩
  | 38 => ⟨S32x1x128, .f32⟩
  | 39 => ⟨S32x1x128, .f32⟩
  | 40 => ⟨S32x1x128, .f32⟩
  | 41 => ⟨S32x1x128, .f32⟩
  | 42 => ⟨S32x1x128, .f32⟩
  | 43 => ⟨S32x1x128, .f32⟩
  | 44 => ⟨S32x1x128, .f32⟩
  | 45 => ⟨S32x1x128, .f32⟩
  | 46 => ⟨S32x1x128, .f32⟩
  | 47 => ⟨S32x1x128, .f32⟩
  | 48 => ⟨S32x1x128, .f32⟩
  | 49 => ⟨S32x1x128, .f32⟩
  | 50 => ⟨S32x1x128, .f32⟩
  | 51 => ⟨S32x1x128, .f32⟩
  | 52 => ⟨S32x1x128, .f32⟩
  | 53 => ⟨S32x1x128, .f32⟩
  | 54 => ⟨S32x1x128, .f32⟩
  | 55 => ⟨S32x1x128, .f32⟩
  | 56 => ⟨S32x1x128, .f32⟩
  | 57 => ⟨S32x1x128, .f32⟩
  | 58 => ⟨S32x1x128, .f32⟩
  | 59 => ⟨S32x1x128, .f32⟩
  | 60 => ⟨S32x1x128, .f32⟩
  | 61 => ⟨S32x1x128, .f32⟩
  | 62 => ⟨S32x1x128, .f32⟩
  | 63 => ⟨S32x1x128, .f32⟩
  | 64 => ⟨S32x1x128, .f32⟩
  | 65 => ⟨S32x1x128, .f32⟩
  | 66 => ⟨S32x1x128, .f32⟩
  | 67 => ⟨S32x1x128, .f32⟩
  | 68 => ⟨S32x1x128, .f32⟩
  | 69 => ⟨S32x1x128, .f32⟩
  | 70 => ⟨S32x1x128, .f32⟩
  | 71 => ⟨S32x1x128, .f32⟩
  | 72 => ⟨S32x1x128, .f32⟩
  | 73 => ⟨S32x1x128, .f32⟩
  | 74 => ⟨S32x1x128, .f32⟩
  | 75 => ⟨S32x1x128, .f32⟩
  | 76 => ⟨S32x1x128, .f32⟩
  | 77 => ⟨S32x1x128, .f32⟩
  | 78 => ⟨S32x1x128, .f32⟩
  | 79 => ⟨S32x1x128, .f32⟩
  | 80 => ⟨S32x1x128, .f32⟩
  | 81 => ⟨S32x1x128, .f32⟩
  | 82 => ⟨S32x1x128, .f32⟩
  | 83 => ⟨S32x1x128, .f32⟩
  | 84 => ⟨S32x1x128, .f32⟩
  | 85 => ⟨S32x1x128, .f32⟩
  | 86 => ⟨S32x1x128, .f32⟩
  | 87 => ⟨S32x1x128, .f32⟩
  | 88 => ⟨S32x1x128, .f32⟩
  | 89 => ⟨S32x1x128, .f32⟩
  | 90 => ⟨S32x1x128, .f32⟩
  | 91 => ⟨S32x1x128, .f32⟩
  | 92 => ⟨S32x1x128, .f32⟩
  | 93 => ⟨S32x1x128, .f32⟩
  | 94 => ⟨S32x1x128, .f32⟩
  | 95 => ⟨S32x1x128, .f32⟩
  | 96 => ⟨S32x1x128, .f32⟩
  | 97 => ⟨S32x1x128, .f32⟩
  | 98 => ⟨S32x1x128, .f32⟩
  | 99 => ⟨S32x1x128, .f32⟩
  | 100 => ⟨S32x1x128, .f32⟩
  | 101 => ⟨S32x1x128, .f32⟩
  | 102 => ⟨S32x1x128, .f32⟩
  | 103 => ⟨S32x1x128, .f32⟩
  | 104 => ⟨S32x1x128, .f32⟩
  | 105 => ⟨S32x1x128, .f32⟩
  | 106 => ⟨S32x1x128, .f32⟩
  | 107 => ⟨S32x1x128, .f32⟩
  | 108 => ⟨S32x1x128, .f32⟩
  | 109 => ⟨S32x1x128, .f32⟩
  | 110 => ⟨S32x1x128, .f32⟩
  | 111 => ⟨S32x1x128, .f32⟩
  | 112 => ⟨S32x1x128, .f32⟩
  | 113 => ⟨S32x1x128, .f32⟩
  | 114 => ⟨S32x1x128, .f32⟩
  | 115 => ⟨S32x1x128, .f32⟩
  | 116 => ⟨S32x1x128, .f32⟩
  | 117 => ⟨S32x1x128, .f32⟩
  | 118 => ⟨S32x1x128, .f32⟩
  | 119 => ⟨S32x1x128, .f32⟩
  | 120 => ⟨S32x1x128, .f32⟩
  | 121 => ⟨S32x1x128, .f32⟩
  | 122 => ⟨S32x1x128, .f32⟩
  | 123 => ⟨S32x1x128, .f32⟩
  | 124 => ⟨S32x1x128, .f32⟩
  | 125 => ⟨S32x1x128, .f32⟩
  | 126 => ⟨S32x1x128, .f32⟩
  | 127 => ⟨S32x1x128, .f32⟩
  | _ => ⟨S128x4096, .f32⟩

abbrev hbmTy0_4 (i : Nat) : BufTy := match i % 128 with
  | 0 => ⟨S32x1x128, .f32⟩
  | 1 => ⟨S32x1x128, .f32⟩
  | 2 => ⟨S32x1x128, .f32⟩
  | 3 => ⟨S32x1x128, .f32⟩
  | 4 => ⟨S32x1x128, .f32⟩
  | 5 => ⟨S32x1x128, .f32⟩
  | 6 => ⟨S32x1x128, .f32⟩
  | 7 => ⟨S32x1x128, .f32⟩
  | 8 => ⟨S32x1x128, .f32⟩
  | 9 => ⟨S32x1x128, .f32⟩
  | 10 => ⟨S32x1x128, .f32⟩
  | 11 => ⟨S32x1x128, .f32⟩
  | 12 => ⟨S32x1x128, .f32⟩
  | 13 => ⟨S32x1x128, .f32⟩
  | 14 => ⟨S32x1x128, .f32⟩
  | 15 => ⟨S32x1x128, .f32⟩
  | 16 => ⟨S32x1x128, .f32⟩
  | 17 => ⟨S32x1x128, .f32⟩
  | 18 => ⟨S32x1x128, .f32⟩
  | 19 => ⟨S32x1x128, .f32⟩
  | 20 => ⟨S32x1x128, .f32⟩
  | 21 => ⟨S32x1x128, .f32⟩
  | 22 => ⟨S32x1x128, .f32⟩
  | 23 => ⟨S32x1x128, .f32⟩
  | 24 => ⟨S32x1x128, .f32⟩
  | 25 => ⟨S32x1x128, .f32⟩
  | 26 => ⟨S32x1x128, .f32⟩
  | 27 => ⟨S32x1x128, .f32⟩
  | 28 => ⟨S32x1x128, .f32⟩
  | 29 => ⟨S32x1x128, .f32⟩
  | 30 => ⟨S32x1x128, .f32⟩
  | 31 => ⟨S32x1x128, .f32⟩
  | 32 => ⟨S32x1x128, .f32⟩
  | 33 => ⟨S32x16x128, .f32⟩
  | 34 => ⟨S32x16x128, .f32⟩
  | 35 => ⟨S32x16x128, .f32⟩
  | 36 => ⟨S32x16x128, .f32⟩
  | 37 => ⟨S32x16x128, .f32⟩
  | 38 => ⟨S32x16x128, .f32⟩
  | 39 => ⟨S32x16x128, .f32⟩
  | 40 => ⟨S32x16x128, .f32⟩
  | 41 => ⟨S32x128x128, .f32⟩
  | 42 => ⟨S32x1x128x128, .f32⟩
  | 43 => ⟨S32x1x128x128, .f32⟩
  | 44 => ⟨S32x1x128x128, .f32⟩
  | 45 => ⟨S32x3x128x128, .f32⟩
  | 46 => ⟨S128x4096, .bf16⟩
  | _ => ⟨S128x4096, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x4096, .f32⟩

abbrev bufTy : (tb : Table) → Fin (tcTables nBuf tb) → BufTy
  | .hbm, ⟨i, _⟩ => hbmTy i
  | .local _ .vmem, ⟨0, _⟩ => ⟨S16x1024, .bf16⟩
  | .local _ .vmem, ⟨1, _⟩ => ⟨S16x1024, .bf16⟩
  | .local _ .vmem, ⟨2, _⟩ => ⟨S1152x1024, .bf16⟩
  | .local _ .vmem, ⟨3, _⟩ => ⟨S1152x1024, .bf16⟩
  | .local _ .vmem, ⟨4, _⟩ => ⟨S1152x1024, .bf16⟩
  | .local _ .vmem, ⟨5, _⟩ => ⟨S1152x1024, .bf16⟩
  | .local _ .vmem, ⟨6, _⟩ => ⟨S8x3x128x128, .f32⟩
  | .local _ .vmem, ⟨7, _⟩ => ⟨S8x3x128x128, .f32⟩
  | .local _ .vmem, ⟨8, _⟩ => ⟨S16x1024, .f32⟩
  | .local _ .vmem, ⟨9, _⟩ => ⟨S16x1024, .f32⟩
  | .local _ .vmem, ⟨10, _⟩ => ⟨S16x1024, .bf16⟩
  | .local _ .vmem, ⟨11, _⟩ => ⟨S16x1024, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩
abbrev main_v99 : Ref sig .tc := ⟨.hbm, 106, rfl⟩
abbrev main_v100 : Ref sig .tc := ⟨.hbm, 107, rfl⟩
abbrev main_v101 : Ref sig .tc := ⟨.hbm, 108, rfl⟩
abbrev main_v102 : Ref sig .tc := ⟨.hbm, 109, rfl⟩
abbrev main_v103 : Ref sig .tc := ⟨.hbm, 110, rfl⟩
abbrev main_v104 : Ref sig .tc := ⟨.hbm, 111, rfl⟩
abbrev main_v105 : Ref sig .tc := ⟨.hbm, 112, rfl⟩
abbrev main_v106 : Ref sig .tc := ⟨.hbm, 113, rfl⟩
abbrev main_v107 : Ref sig .tc := ⟨.hbm, 114, rfl⟩
abbrev main_v108 : Ref sig .tc := ⟨.hbm, 115, rfl⟩
abbrev main_v109 : Ref sig .tc := ⟨.hbm, 116, rfl⟩
abbrev main_v110 : Ref sig .tc := ⟨.hbm, 117, rfl⟩
abbrev main_v111 : Ref sig .tc := ⟨.hbm, 118, rfl⟩
abbrev main_v112 : Ref sig .tc := ⟨.hbm, 119, rfl⟩
abbrev main_v113 : Ref sig .tc := ⟨.hbm, 120, rfl⟩
abbrev main_v114 : Ref sig .tc := ⟨.hbm, 121, rfl⟩
abbrev main_v115 : Ref sig .tc := ⟨.hbm, 122, rfl⟩
abbrev main_v116 : Ref sig .tc := ⟨.hbm, 123, rfl⟩
abbrev main_v117 : Ref sig .tc := ⟨.hbm, 124, rfl⟩
abbrev main_v118 : Ref sig .tc := ⟨.hbm, 125, rfl⟩
abbrev main_v119 : Ref sig .tc := ⟨.hbm, 126, rfl⟩
abbrev main_v120 : Ref sig .tc := ⟨.hbm, 127, rfl⟩
abbrev main_v121 : Ref sig .tc := ⟨.hbm, 128, rfl⟩
abbrev main_v122 : Ref sig .tc := ⟨.hbm, 129, rfl⟩
abbrev main_v123 : Ref sig .tc := ⟨.hbm, 130, rfl⟩
abbrev main_v124 : Ref sig .tc := ⟨.hbm, 131, rfl⟩
abbrev main_v125 : Ref sig .tc := ⟨.hbm, 132, rfl⟩
abbrev main_v126 : Ref sig .tc := ⟨.hbm, 133, rfl⟩
abbrev main_v127 : Ref sig .tc := ⟨.hbm, 134, rfl⟩
abbrev main_v128 : Ref sig .tc := ⟨.hbm, 135, rfl⟩
abbrev main_v129 : Ref sig .tc := ⟨.hbm, 136, rfl⟩
abbrev main_v130 : Ref sig .tc := ⟨.hbm, 137, rfl⟩
abbrev main_v131 : Ref sig .tc := ⟨.hbm, 138, rfl⟩
abbrev main_v132 : Ref sig .tc := ⟨.hbm, 139, rfl⟩
abbrev main_v133 : Ref sig .tc := ⟨.hbm, 140, rfl⟩
abbrev main_v134 : Ref sig .tc := ⟨.hbm, 141, rfl⟩
abbrev main_v135 : Ref sig .tc := ⟨.hbm, 142, rfl⟩
abbrev main_v136 : Ref sig .tc := ⟨.hbm, 143, rfl⟩
abbrev main_v137 : Ref sig .tc := ⟨.hbm, 144, rfl⟩
abbrev main_v138 : Ref sig .tc := ⟨.hbm, 145, rfl⟩
abbrev main_v139 : Ref sig .tc := ⟨.hbm, 146, rfl⟩
abbrev main_v140 : Ref sig .tc := ⟨.hbm, 147, rfl⟩
abbrev main_v141 : Ref sig .tc := ⟨.hbm, 148, rfl⟩
abbrev main_v142 : Ref sig .tc := ⟨.hbm, 149, rfl⟩
abbrev main_v143 : Ref sig .tc := ⟨.hbm, 150, rfl⟩
abbrev main_v144 : Ref sig .tc := ⟨.hbm, 151, rfl⟩
abbrev main_v145 : Ref sig .tc := ⟨.hbm, 152, rfl⟩
abbrev main_v146 : Ref sig .tc := ⟨.hbm, 153, rfl⟩
abbrev main_v147 : Ref sig .tc := ⟨.hbm, 154, rfl⟩
abbrev main_v148 : Ref sig .tc := ⟨.hbm, 155, rfl⟩
abbrev main_v149 : Ref sig .tc := ⟨.hbm, 156, rfl⟩
abbrev main_v150 : Ref sig .tc := ⟨.hbm, 157, rfl⟩
abbrev main_v151 : Ref sig .tc := ⟨.hbm, 158, rfl⟩
abbrev main_v152 : Ref sig .tc := ⟨.hbm, 159, rfl⟩
abbrev main_v153 : Ref sig .tc := ⟨.hbm, 160, rfl⟩
abbrev main_v154 : Ref sig .tc := ⟨.hbm, 161, rfl⟩
abbrev main_v155 : Ref sig .tc := ⟨.hbm, 162, rfl⟩
abbrev main_v156 : Ref sig .tc := ⟨.hbm, 163, rfl⟩
abbrev main_v157 : Ref sig .tc := ⟨.hbm, 164, rfl⟩
abbrev main_v158 : Ref sig .tc := ⟨.hbm, 165, rfl⟩
abbrev main_v159 : Ref sig .tc := ⟨.hbm, 166, rfl⟩
abbrev main_v160 : Ref sig .tc := ⟨.hbm, 167, rfl⟩
abbrev main_v161 : Ref sig .tc := ⟨.hbm, 168, rfl⟩
abbrev main_v162 : Ref sig .tc := ⟨.hbm, 169, rfl⟩
abbrev main_v163 : Ref sig .tc := ⟨.hbm, 170, rfl⟩
abbrev main_v164 : Ref sig .tc := ⟨.hbm, 171, rfl⟩
abbrev main_v165 : Ref sig .tc := ⟨.hbm, 172, rfl⟩
abbrev main_v166 : Ref sig .tc := ⟨.hbm, 173, rfl⟩
abbrev main_v167 : Ref sig .tc := ⟨.hbm, 174, rfl⟩
abbrev main_v168 : Ref sig .tc := ⟨.hbm, 175, rfl⟩
abbrev main_v169 : Ref sig .tc := ⟨.hbm, 176, rfl⟩
abbrev main_v170 : Ref sig .tc := ⟨.hbm, 177, rfl⟩
abbrev main_v171 : Ref sig .tc := ⟨.hbm, 178, rfl⟩
abbrev main_v172 : Ref sig .tc := ⟨.hbm, 179, rfl⟩
abbrev main_v173 : Ref sig .tc := ⟨.hbm, 180, rfl⟩
abbrev main_v174 : Ref sig .tc := ⟨.hbm, 181, rfl⟩
abbrev main_v175 : Ref sig .tc := ⟨.hbm, 182, rfl⟩
abbrev main_v176 : Ref sig .tc := ⟨.hbm, 183, rfl⟩
abbrev main_v177 : Ref sig .tc := ⟨.hbm, 184, rfl⟩
abbrev main_v178 : Ref sig .tc := ⟨.hbm, 185, rfl⟩
abbrev main_v179 : Ref sig .tc := ⟨.hbm, 186, rfl⟩
abbrev main_v180 : Ref sig .tc := ⟨.hbm, 187, rfl⟩
abbrev main_v181 : Ref sig .tc := ⟨.hbm, 188, rfl⟩
abbrev main_v182 : Ref sig .tc := ⟨.hbm, 189, rfl⟩
abbrev main_v183 : Ref sig .tc := ⟨.hbm, 190, rfl⟩
abbrev main_v184 : Ref sig .tc := ⟨.hbm, 191, rfl⟩
abbrev main_v185 : Ref sig .tc := ⟨.hbm, 192, rfl⟩
abbrev main_v186 : Ref sig .tc := ⟨.hbm, 193, rfl⟩
abbrev main_v187 : Ref sig .tc := ⟨.hbm, 194, rfl⟩
abbrev main_v188 : Ref sig .tc := ⟨.hbm, 195, rfl⟩
abbrev main_v189 : Ref sig .tc := ⟨.hbm, 196, rfl⟩
abbrev main_v190 : Ref sig .tc := ⟨.hbm, 197, rfl⟩
abbrev main_v191 : Ref sig .tc := ⟨.hbm, 198, rfl⟩
abbrev main_v192 : Ref sig .tc := ⟨.hbm, 199, rfl⟩
abbrev main_v193 : Ref sig .tc := ⟨.hbm, 200, rfl⟩
abbrev main_v194 : Ref sig .tc := ⟨.hbm, 201, rfl⟩
abbrev main_v195 : Ref sig .tc := ⟨.hbm, 202, rfl⟩
abbrev main_v196 : Ref sig .tc := ⟨.hbm, 203, rfl⟩
abbrev main_v197 : Ref sig .tc := ⟨.hbm, 204, rfl⟩
abbrev main_v198 : Ref sig .tc := ⟨.hbm, 205, rfl⟩
abbrev main_v199 : Ref sig .tc := ⟨.hbm, 206, rfl⟩
abbrev main_v200 : Ref sig .tc := ⟨.hbm, 207, rfl⟩
abbrev main_v201 : Ref sig .tc := ⟨.hbm, 208, rfl⟩
abbrev main_v202 : Ref sig .tc := ⟨.hbm, 209, rfl⟩
abbrev main_v203 : Ref sig .tc := ⟨.hbm, 210, rfl⟩
abbrev main_v204 : Ref sig .tc := ⟨.hbm, 211, rfl⟩
abbrev main_v205 : Ref sig .tc := ⟨.hbm, 212, rfl⟩
abbrev main_v206 : Ref sig .tc := ⟨.hbm, 213, rfl⟩
abbrev main_v207 : Ref sig .tc := ⟨.hbm, 214, rfl⟩
abbrev main_v208 : Ref sig .tc := ⟨.hbm, 215, rfl⟩
abbrev main_v209 : Ref sig .tc := ⟨.hbm, 216, rfl⟩
abbrev main_v210 : Ref sig .tc := ⟨.hbm, 217, rfl⟩
abbrev main_v211 : Ref sig .tc := ⟨.hbm, 218, rfl⟩
abbrev main_v212 : Ref sig .tc := ⟨.hbm, 219, rfl⟩
abbrev main_v213 : Ref sig .tc := ⟨.hbm, 220, rfl⟩
abbrev main_v214 : Ref sig .tc := ⟨.hbm, 221, rfl⟩
abbrev main_v215 : Ref sig .tc := ⟨.hbm, 222, rfl⟩
abbrev main_v216 : Ref sig .tc := ⟨.hbm, 223, rfl⟩
abbrev main_v217 : Ref sig .tc := ⟨.hbm, 224, rfl⟩
abbrev main_v218 : Ref sig .tc := ⟨.hbm, 225, rfl⟩
abbrev main_v219 : Ref sig .tc := ⟨.hbm, 226, rfl⟩
abbrev main_v220 : Ref sig .tc := ⟨.hbm, 227, rfl⟩
abbrev main_v221 : Ref sig .tc := ⟨.hbm, 228, rfl⟩
abbrev main_v222 : Ref sig .tc := ⟨.hbm, 229, rfl⟩
abbrev main_v223 : Ref sig .tc := ⟨.hbm, 230, rfl⟩
abbrev main_v224 : Ref sig .tc := ⟨.hbm, 231, rfl⟩
abbrev main_v225 : Ref sig .tc := ⟨.hbm, 232, rfl⟩
abbrev main_v226 : Ref sig .tc := ⟨.hbm, 233, rfl⟩
abbrev main_v227 : Ref sig .tc := ⟨.hbm, 234, rfl⟩
abbrev main_v228 : Ref sig .tc := ⟨.hbm, 235, rfl⟩
abbrev main_v229 : Ref sig .tc := ⟨.hbm, 236, rfl⟩
abbrev main_v230 : Ref sig .tc := ⟨.hbm, 237, rfl⟩
abbrev main_v231 : Ref sig .tc := ⟨.hbm, 238, rfl⟩
abbrev main_v232 : Ref sig .tc := ⟨.hbm, 239, rfl⟩
abbrev main_v233 : Ref sig .tc := ⟨.hbm, 240, rfl⟩
abbrev main_v234 : Ref sig .tc := ⟨.hbm, 241, rfl⟩
abbrev main_v235 : Ref sig .tc := ⟨.hbm, 242, rfl⟩
abbrev main_v236 : Ref sig .tc := ⟨.hbm, 243, rfl⟩
abbrev main_v237 : Ref sig .tc := ⟨.hbm, 244, rfl⟩
abbrev main_v238 : Ref sig .tc := ⟨.hbm, 245, rfl⟩
abbrev main_v239 : Ref sig .tc := ⟨.hbm, 246, rfl⟩
abbrev main_v240 : Ref sig .tc := ⟨.hbm, 247, rfl⟩
abbrev main_v241 : Ref sig .tc := ⟨.hbm, 248, rfl⟩
abbrev main_v242 : Ref sig .tc := ⟨.hbm, 249, rfl⟩
abbrev main_v243 : Ref sig .tc := ⟨.hbm, 250, rfl⟩
abbrev main_v244 : Ref sig .tc := ⟨.hbm, 251, rfl⟩
abbrev main_v245 : Ref sig .tc := ⟨.hbm, 252, rfl⟩
abbrev main_v246 : Ref sig .tc := ⟨.hbm, 253, rfl⟩
abbrev main_v247 : Ref sig .tc := ⟨.hbm, 254, rfl⟩
abbrev main_v248 : Ref sig .tc := ⟨.hbm, 255, rfl⟩
abbrev main_v249 : Ref sig .tc := ⟨.hbm, 256, rfl⟩
abbrev main_v250 : Ref sig .tc := ⟨.hbm, 257, rfl⟩
abbrev main_v251 : Ref sig .tc := ⟨.hbm, 258, rfl⟩
abbrev main_v252 : Ref sig .tc := ⟨.hbm, 259, rfl⟩
abbrev main_v253 : Ref sig .tc := ⟨.hbm, 260, rfl⟩
abbrev main_v254 : Ref sig .tc := ⟨.hbm, 261, rfl⟩
abbrev main_v255 : Ref sig .tc := ⟨.hbm, 262, rfl⟩
abbrev main_v256 : Ref sig .tc := ⟨.hbm, 263, rfl⟩
abbrev main_v257 : Ref sig .tc := ⟨.hbm, 264, rfl⟩
abbrev main_v258 : Ref sig .tc := ⟨.hbm, 265, rfl⟩
abbrev main_v259 : Ref sig .tc := ⟨.hbm, 266, rfl⟩
abbrev main_v260 : Ref sig .tc := ⟨.hbm, 267, rfl⟩
abbrev main_v261 : Ref sig .tc := ⟨.hbm, 268, rfl⟩
abbrev main_v262 : Ref sig .tc := ⟨.hbm, 269, rfl⟩
abbrev main_v263 : Ref sig .tc := ⟨.hbm, 270, rfl⟩
abbrev main_v264 : Ref sig .tc := ⟨.hbm, 271, rfl⟩
abbrev main_v265 : Ref sig .tc := ⟨.hbm, 272, rfl⟩
abbrev main_v266 : Ref sig .tc := ⟨.hbm, 273, rfl⟩
abbrev main_v267 : Ref sig .tc := ⟨.hbm, 274, rfl⟩
abbrev main_v268 : Ref sig .tc := ⟨.hbm, 275, rfl⟩
abbrev main_v269 : Ref sig .tc := ⟨.hbm, 276, rfl⟩
abbrev main_v270 : Ref sig .tc := ⟨.hbm, 277, rfl⟩
abbrev main_v271 : Ref sig .tc := ⟨.hbm, 278, rfl⟩
abbrev main_v272 : Ref sig .tc := ⟨.hbm, 279, rfl⟩
abbrev main_v273 : Ref sig .tc := ⟨.hbm, 280, rfl⟩
abbrev main_v274 : Ref sig .tc := ⟨.hbm, 281, rfl⟩
abbrev main_v275 : Ref sig .tc := ⟨.hbm, 282, rfl⟩
abbrev main_v276 : Ref sig .tc := ⟨.hbm, 283, rfl⟩
abbrev main_v277 : Ref sig .tc := ⟨.hbm, 284, rfl⟩
abbrev main_v278 : Ref sig .tc := ⟨.hbm, 285, rfl⟩
abbrev main_v279 : Ref sig .tc := ⟨.hbm, 286, rfl⟩
abbrev main_v280 : Ref sig .tc := ⟨.hbm, 287, rfl⟩
abbrev main_v281 : Ref sig .tc := ⟨.hbm, 288, rfl⟩
abbrev main_v282 : Ref sig .tc := ⟨.hbm, 289, rfl⟩
abbrev main_v283 : Ref sig .tc := ⟨.hbm, 290, rfl⟩
abbrev main_v284 : Ref sig .tc := ⟨.hbm, 291, rfl⟩
abbrev main_v285 : Ref sig .tc := ⟨.hbm, 292, rfl⟩
abbrev main_v286 : Ref sig .tc := ⟨.hbm, 293, rfl⟩
abbrev main_v287 : Ref sig .tc := ⟨.hbm, 294, rfl⟩
abbrev main_v288 : Ref sig .tc := ⟨.hbm, 295, rfl⟩
abbrev main_v289 : Ref sig .tc := ⟨.hbm, 296, rfl⟩
abbrev main_v290 : Ref sig .tc := ⟨.hbm, 297, rfl⟩
abbrev main_v291 : Ref sig .tc := ⟨.hbm, 298, rfl⟩
abbrev main_v292 : Ref sig .tc := ⟨.hbm, 299, rfl⟩
abbrev main_v293 : Ref sig .tc := ⟨.hbm, 300, rfl⟩
abbrev main_v294 : Ref sig .tc := ⟨.hbm, 301, rfl⟩
abbrev main_v295 : Ref sig .tc := ⟨.hbm, 302, rfl⟩
abbrev main_v296 : Ref sig .tc := ⟨.hbm, 303, rfl⟩
abbrev main_v297 : Ref sig .tc := ⟨.hbm, 304, rfl⟩
abbrev main_v298 : Ref sig .tc := ⟨.hbm, 305, rfl⟩
abbrev main_v299 : Ref sig .tc := ⟨.hbm, 306, rfl⟩
abbrev main_v300 : Ref sig .tc := ⟨.hbm, 307, rfl⟩
abbrev main_v301 : Ref sig .tc := ⟨.hbm, 308, rfl⟩
abbrev main_v302 : Ref sig .tc := ⟨.hbm, 309, rfl⟩
abbrev main_v303 : Ref sig .tc := ⟨.hbm, 310, rfl⟩
abbrev main_v304 : Ref sig .tc := ⟨.hbm, 311, rfl⟩
abbrev main_v305 : Ref sig .tc := ⟨.hbm, 312, rfl⟩
abbrev main_v306 : Ref sig .tc := ⟨.hbm, 313, rfl⟩
abbrev main_v307 : Ref sig .tc := ⟨.hbm, 314, rfl⟩
abbrev main_v308 : Ref sig .tc := ⟨.hbm, 315, rfl⟩
abbrev main_v309 : Ref sig .tc := ⟨.hbm, 316, rfl⟩
abbrev main_v310 : Ref sig .tc := ⟨.hbm, 317, rfl⟩
abbrev main_v311 : Ref sig .tc := ⟨.hbm, 318, rfl⟩
abbrev main_v312 : Ref sig .tc := ⟨.hbm, 319, rfl⟩
abbrev main_v313 : Ref sig .tc := ⟨.hbm, 320, rfl⟩
abbrev main_v314 : Ref sig .tc := ⟨.hbm, 321, rfl⟩
abbrev main_v315 : Ref sig .tc := ⟨.hbm, 322, rfl⟩
abbrev main_v316 : Ref sig .tc := ⟨.hbm, 323, rfl⟩
abbrev main_v317 : Ref sig .tc := ⟨.hbm, 324, rfl⟩
abbrev main_v318 : Ref sig .tc := ⟨.hbm, 325, rfl⟩
abbrev main_v319 : Ref sig .tc := ⟨.hbm, 326, rfl⟩
abbrev main_v320 : Ref sig .tc := ⟨.hbm, 327, rfl⟩
abbrev main_v321 : Ref sig .tc := ⟨.hbm, 328, rfl⟩
abbrev main_v322 : Ref sig .tc := ⟨.hbm, 329, rfl⟩
abbrev main_v323 : Ref sig .tc := ⟨.hbm, 330, rfl⟩
abbrev main_v324 : Ref sig .tc := ⟨.hbm, 331, rfl⟩
abbrev main_v325 : Ref sig .tc := ⟨.hbm, 332, rfl⟩
abbrev main_v326 : Ref sig .tc := ⟨.hbm, 333, rfl⟩
abbrev main_v327 : Ref sig .tc := ⟨.hbm, 334, rfl⟩
abbrev main_v328 : Ref sig .tc := ⟨.hbm, 335, rfl⟩
abbrev main_v329 : Ref sig .tc := ⟨.hbm, 336, rfl⟩
abbrev main_v330 : Ref sig .tc := ⟨.hbm, 337, rfl⟩
abbrev main_v331 : Ref sig .tc := ⟨.hbm, 338, rfl⟩
abbrev main_v332 : Ref sig .tc := ⟨.hbm, 339, rfl⟩
abbrev main_v333 : Ref sig .tc := ⟨.hbm, 340, rfl⟩
abbrev main_v334 : Ref sig .tc := ⟨.hbm, 341, rfl⟩
abbrev main_v335 : Ref sig .tc := ⟨.hbm, 342, rfl⟩
abbrev main_v336 : Ref sig .tc := ⟨.hbm, 343, rfl⟩
abbrev main_v337 : Ref sig .tc := ⟨.hbm, 344, rfl⟩
abbrev main_v338 : Ref sig .tc := ⟨.hbm, 345, rfl⟩
abbrev main_v339 : Ref sig .tc := ⟨.hbm, 346, rfl⟩
abbrev main_v340 : Ref sig .tc := ⟨.hbm, 347, rfl⟩
abbrev main_v341 : Ref sig .tc := ⟨.hbm, 348, rfl⟩
abbrev main_v342 : Ref sig .tc := ⟨.hbm, 349, rfl⟩
abbrev main_v343 : Ref sig .tc := ⟨.hbm, 350, rfl⟩
abbrev main_v344 : Ref sig .tc := ⟨.hbm, 351, rfl⟩
abbrev main_v345 : Ref sig .tc := ⟨.hbm, 352, rfl⟩
abbrev main_v346 : Ref sig .tc := ⟨.hbm, 353, rfl⟩
abbrev main_v347 : Ref sig .tc := ⟨.hbm, 354, rfl⟩
abbrev main_v348 : Ref sig .tc := ⟨.hbm, 355, rfl⟩
abbrev main_v349 : Ref sig .tc := ⟨.hbm, 356, rfl⟩
abbrev main_v350 : Ref sig .tc := ⟨.hbm, 357, rfl⟩
abbrev main_v351 : Ref sig .tc := ⟨.hbm, 358, rfl⟩
abbrev main_v352 : Ref sig .tc := ⟨.hbm, 359, rfl⟩
abbrev main_v353 : Ref sig .tc := ⟨.hbm, 360, rfl⟩
abbrev main_v354 : Ref sig .tc := ⟨.hbm, 361, rfl⟩
abbrev main_v355 : Ref sig .tc := ⟨.hbm, 362, rfl⟩
abbrev main_v356 : Ref sig .tc := ⟨.hbm, 363, rfl⟩
abbrev main_v357 : Ref sig .tc := ⟨.hbm, 364, rfl⟩
abbrev main_v358 : Ref sig .tc := ⟨.hbm, 365, rfl⟩
abbrev main_v359 : Ref sig .tc := ⟨.hbm, 366, rfl⟩
abbrev main_v360 : Ref sig .tc := ⟨.hbm, 367, rfl⟩
abbrev main_v361 : Ref sig .tc := ⟨.hbm, 368, rfl⟩
abbrev main_v362 : Ref sig .tc := ⟨.hbm, 369, rfl⟩
abbrev main_v363 : Ref sig .tc := ⟨.hbm, 370, rfl⟩
abbrev main_v364 : Ref sig .tc := ⟨.hbm, 371, rfl⟩
abbrev main_v365 : Ref sig .tc := ⟨.hbm, 372, rfl⟩
abbrev main_v366 : Ref sig .tc := ⟨.hbm, 373, rfl⟩
abbrev main_v367 : Ref sig .tc := ⟨.hbm, 374, rfl⟩
abbrev main_v368 : Ref sig .tc := ⟨.hbm, 375, rfl⟩
abbrev main_v369 : Ref sig .tc := ⟨.hbm, 376, rfl⟩
abbrev main_v370 : Ref sig .tc := ⟨.hbm, 377, rfl⟩
abbrev main_v371 : Ref sig .tc := ⟨.hbm, 378, rfl⟩
abbrev main_v372 : Ref sig .tc := ⟨.hbm, 379, rfl⟩
abbrev main_v373 : Ref sig .tc := ⟨.hbm, 380, rfl⟩
abbrev main_v374 : Ref sig .tc := ⟨.hbm, 381, rfl⟩
abbrev main_v375 : Ref sig .tc := ⟨.hbm, 382, rfl⟩
abbrev main_v376 : Ref sig .tc := ⟨.hbm, 383, rfl⟩
abbrev main_v377 : Ref sig .tc := ⟨.hbm, 384, rfl⟩
abbrev main_v378 : Ref sig .tc := ⟨.hbm, 385, rfl⟩
abbrev main_v379 : Ref sig .tc := ⟨.hbm, 386, rfl⟩
abbrev main_v380 : Ref sig .tc := ⟨.hbm, 387, rfl⟩
abbrev main_v381 : Ref sig .tc := ⟨.hbm, 388, rfl⟩
abbrev main_v382 : Ref sig .tc := ⟨.hbm, 389, rfl⟩
abbrev main_v383 : Ref sig .tc := ⟨.hbm, 390, rfl⟩
abbrev main_v384 : Ref sig .tc := ⟨.hbm, 391, rfl⟩
abbrev main_v385 : Ref sig .tc := ⟨.hbm, 392, rfl⟩
abbrev main_v386 : Ref sig .tc := ⟨.hbm, 393, rfl⟩
abbrev main_v387 : Ref sig .tc := ⟨.hbm, 394, rfl⟩
abbrev main_v388 : Ref sig .tc := ⟨.hbm, 395, rfl⟩
abbrev main_v389 : Ref sig .tc := ⟨.hbm, 396, rfl⟩
abbrev main_v390 : Ref sig .tc := ⟨.hbm, 397, rfl⟩
abbrev main_v391 : Ref sig .tc := ⟨.hbm, 398, rfl⟩
abbrev main_v392 : Ref sig .tc := ⟨.hbm, 399, rfl⟩
abbrev main_v393 : Ref sig .tc := ⟨.hbm, 400, rfl⟩
abbrev main_v394 : Ref sig .tc := ⟨.hbm, 401, rfl⟩
abbrev main_v395 : Ref sig .tc := ⟨.hbm, 402, rfl⟩
abbrev main_v396 : Ref sig .tc := ⟨.hbm, 403, rfl⟩
abbrev main_v397 : Ref sig .tc := ⟨.hbm, 404, rfl⟩
abbrev main_v398 : Ref sig .tc := ⟨.hbm, 405, rfl⟩
abbrev main_v399 : Ref sig .tc := ⟨.hbm, 406, rfl⟩
abbrev main_v400 : Ref sig .tc := ⟨.hbm, 407, rfl⟩
abbrev main_v401 : Ref sig .tc := ⟨.hbm, 408, rfl⟩
abbrev main_v402 : Ref sig .tc := ⟨.hbm, 409, rfl⟩
abbrev main_v403 : Ref sig .tc := ⟨.hbm, 410, rfl⟩
abbrev main_v404 : Ref sig .tc := ⟨.hbm, 411, rfl⟩
abbrev main_v405 : Ref sig .tc := ⟨.hbm, 412, rfl⟩
abbrev main_v406 : Ref sig .tc := ⟨.hbm, 413, rfl⟩
abbrev main_v407 : Ref sig .tc := ⟨.hbm, 414, rfl⟩
abbrev main_v408 : Ref sig .tc := ⟨.hbm, 415, rfl⟩
abbrev main_v409 : Ref sig .tc := ⟨.hbm, 416, rfl⟩
abbrev main_v410 : Ref sig .tc := ⟨.hbm, 417, rfl⟩
abbrev main_v411 : Ref sig .tc := ⟨.hbm, 418, rfl⟩
abbrev main_v412 : Ref sig .tc := ⟨.hbm, 419, rfl⟩
abbrev main_v413 : Ref sig .tc := ⟨.hbm, 420, rfl⟩
abbrev main_v414 : Ref sig .tc := ⟨.hbm, 421, rfl⟩
abbrev main_v415 : Ref sig .tc := ⟨.hbm, 422, rfl⟩
abbrev main_v416 : Ref sig .tc := ⟨.hbm, 423, rfl⟩
abbrev main_v417 : Ref sig .tc := ⟨.hbm, 424, rfl⟩
abbrev main_v418 : Ref sig .tc := ⟨.hbm, 425, rfl⟩
abbrev main_v419 : Ref sig .tc := ⟨.hbm, 426, rfl⟩
abbrev main_v420 : Ref sig .tc := ⟨.hbm, 427, rfl⟩
abbrev main_v421 : Ref sig .tc := ⟨.hbm, 428, rfl⟩
abbrev main_v422 : Ref sig .tc := ⟨.hbm, 429, rfl⟩
abbrev main_v423 : Ref sig .tc := ⟨.hbm, 430, rfl⟩
abbrev main_v424 : Ref sig .tc := ⟨.hbm, 431, rfl⟩
abbrev main_v425 : Ref sig .tc := ⟨.hbm, 432, rfl⟩
abbrev main_v426 : Ref sig .tc := ⟨.hbm, 433, rfl⟩
abbrev main_v427 : Ref sig .tc := ⟨.hbm, 434, rfl⟩
abbrev main_v428 : Ref sig .tc := ⟨.hbm, 435, rfl⟩
abbrev main_v429 : Ref sig .tc := ⟨.hbm, 436, rfl⟩
abbrev main_v430 : Ref sig .tc := ⟨.hbm, 437, rfl⟩
abbrev main_v431 : Ref sig .tc := ⟨.hbm, 438, rfl⟩
abbrev main_v432 : Ref sig .tc := ⟨.hbm, 439, rfl⟩
abbrev main_v433 : Ref sig .tc := ⟨.hbm, 440, rfl⟩
abbrev main_v434 : Ref sig .tc := ⟨.hbm, 441, rfl⟩
abbrev main_v435 : Ref sig .tc := ⟨.hbm, 442, rfl⟩
abbrev main_v436 : Ref sig .tc := ⟨.hbm, 443, rfl⟩
abbrev main_v437 : Ref sig .tc := ⟨.hbm, 444, rfl⟩
abbrev main_v438 : Ref sig .tc := ⟨.hbm, 445, rfl⟩
abbrev main_v439 : Ref sig .tc := ⟨.hbm, 446, rfl⟩
abbrev main_v440 : Ref sig .tc := ⟨.hbm, 447, rfl⟩
abbrev main_v441 : Ref sig .tc := ⟨.hbm, 448, rfl⟩
abbrev main_v442 : Ref sig .tc := ⟨.hbm, 449, rfl⟩
abbrev main_v443 : Ref sig .tc := ⟨.hbm, 450, rfl⟩
abbrev main_v444 : Ref sig .tc := ⟨.hbm, 451, rfl⟩
abbrev main_v445 : Ref sig .tc := ⟨.hbm, 452, rfl⟩
abbrev main_v446 : Ref sig .tc := ⟨.hbm, 453, rfl⟩
abbrev main_v447 : Ref sig .tc := ⟨.hbm, 454, rfl⟩
abbrev main_v448 : Ref sig .tc := ⟨.hbm, 455, rfl⟩
abbrev main_v449 : Ref sig .tc := ⟨.hbm, 456, rfl⟩
abbrev main_v450 : Ref sig .tc := ⟨.hbm, 457, rfl⟩
abbrev main_v451 : Ref sig .tc := ⟨.hbm, 458, rfl⟩
abbrev main_v452 : Ref sig .tc := ⟨.hbm, 459, rfl⟩
abbrev main_v453 : Ref sig .tc := ⟨.hbm, 460, rfl⟩
abbrev main_v454 : Ref sig .tc := ⟨.hbm, 461, rfl⟩
abbrev main_v455 : Ref sig .tc := ⟨.hbm, 462, rfl⟩
abbrev main_v456 : Ref sig .tc := ⟨.hbm, 463, rfl⟩
abbrev main_v457 : Ref sig .tc := ⟨.hbm, 464, rfl⟩
abbrev main_v458 : Ref sig .tc := ⟨.hbm, 465, rfl⟩
abbrev main_v459 : Ref sig .tc := ⟨.hbm, 466, rfl⟩
abbrev main_v460 : Ref sig .tc := ⟨.hbm, 467, rfl⟩
abbrev main_v461 : Ref sig .tc := ⟨.hbm, 468, rfl⟩
abbrev main_v462 : Ref sig .tc := ⟨.hbm, 469, rfl⟩
abbrev main_v463 : Ref sig .tc := ⟨.hbm, 470, rfl⟩
abbrev main_v464 : Ref sig .tc := ⟨.hbm, 471, rfl⟩
abbrev main_v465 : Ref sig .tc := ⟨.hbm, 472, rfl⟩
abbrev main_v466 : Ref sig .tc := ⟨.hbm, 473, rfl⟩
abbrev main_v467 : Ref sig .tc := ⟨.hbm, 474, rfl⟩
abbrev main_v468 : Ref sig .tc := ⟨.hbm, 475, rfl⟩
abbrev main_v469 : Ref sig .tc := ⟨.hbm, 476, rfl⟩
abbrev main_v470 : Ref sig .tc := ⟨.hbm, 477, rfl⟩
abbrev main_v471 : Ref sig .tc := ⟨.hbm, 478, rfl⟩
abbrev main_v472 : Ref sig .tc := ⟨.hbm, 479, rfl⟩
abbrev main_v473 : Ref sig .tc := ⟨.hbm, 480, rfl⟩
abbrev main_v474 : Ref sig .tc := ⟨.hbm, 481, rfl⟩
abbrev main_v475 : Ref sig .tc := ⟨.hbm, 482, rfl⟩
abbrev main_v476 : Ref sig .tc := ⟨.hbm, 483, rfl⟩
abbrev main_v477 : Ref sig .tc := ⟨.hbm, 484, rfl⟩
abbrev main_v478 : Ref sig .tc := ⟨.hbm, 485, rfl⟩
abbrev main_v479 : Ref sig .tc := ⟨.hbm, 486, rfl⟩
abbrev main_v480 : Ref sig .tc := ⟨.hbm, 487, rfl⟩
abbrev main_v481 : Ref sig .tc := ⟨.hbm, 488, rfl⟩
abbrev main_v482 : Ref sig .tc := ⟨.hbm, 489, rfl⟩
abbrev main_v483 : Ref sig .tc := ⟨.hbm, 490, rfl⟩
abbrev main_v484 : Ref sig .tc := ⟨.hbm, 491, rfl⟩
abbrev main_v485 : Ref sig .tc := ⟨.hbm, 492, rfl⟩
abbrev main_v486 : Ref sig .tc := ⟨.hbm, 493, rfl⟩
abbrev main_v487 : Ref sig .tc := ⟨.hbm, 494, rfl⟩
abbrev main_v488 : Ref sig .tc := ⟨.hbm, 495, rfl⟩
abbrev main_v489 : Ref sig .tc := ⟨.hbm, 496, rfl⟩
abbrev main_v490 : Ref sig .tc := ⟨.hbm, 497, rfl⟩
abbrev main_v491 : Ref sig .tc := ⟨.hbm, 498, rfl⟩
abbrev main_v492 : Ref sig .tc := ⟨.hbm, 499, rfl⟩
abbrev main_v493 : Ref sig .tc := ⟨.hbm, 500, rfl⟩
abbrev main_v494 : Ref sig .tc := ⟨.hbm, 501, rfl⟩
abbrev main_v495 : Ref sig .tc := ⟨.hbm, 502, rfl⟩
abbrev main_v496 : Ref sig .tc := ⟨.hbm, 503, rfl⟩
abbrev main_v497 : Ref sig .tc := ⟨.hbm, 504, rfl⟩
abbrev main_v498 : Ref sig .tc := ⟨.hbm, 505, rfl⟩
abbrev main_v499 : Ref sig .tc := ⟨.hbm, 506, rfl⟩
abbrev main_v500 : Ref sig .tc := ⟨.hbm, 507, rfl⟩
abbrev main_v501 : Ref sig .tc := ⟨.hbm, 508, rfl⟩
abbrev main_v502 : Ref sig .tc := ⟨.hbm, 509, rfl⟩
abbrev main_v503 : Ref sig .tc := ⟨.hbm, 510, rfl⟩
abbrev main_v504 : Ref sig .tc := ⟨.hbm, 511, rfl⟩
abbrev main_v505 : Ref sig .tc := ⟨.hbm, 512, rfl⟩
abbrev main_v506 : Ref sig .tc := ⟨.hbm, 513, rfl⟩
abbrev main_v507 : Ref sig .tc := ⟨.hbm, 514, rfl⟩
abbrev main_v508 : Ref sig .tc := ⟨.hbm, 515, rfl⟩
abbrev main_v509 : Ref sig .tc := ⟨.hbm, 516, rfl⟩
abbrev main_v510 : Ref sig .tc := ⟨.hbm, 517, rfl⟩
abbrev main_v511 : Ref sig .tc := ⟨.hbm, 518, rfl⟩
abbrev main_v512 : Ref sig .tc := ⟨.hbm, 519, rfl⟩
abbrev main_v513 : Ref sig .tc := ⟨.hbm, 520, rfl⟩
abbrev main_v514 : Ref sig .tc := ⟨.hbm, 521, rfl⟩
abbrev main_v515 : Ref sig .tc := ⟨.hbm, 522, rfl⟩
abbrev main_v516 : Ref sig .tc := ⟨.hbm, 523, rfl⟩
abbrev main_v517 : Ref sig .tc := ⟨.hbm, 524, rfl⟩
abbrev main_v518 : Ref sig .tc := ⟨.hbm, 525, rfl⟩
abbrev main_v519 : Ref sig .tc := ⟨.hbm, 526, rfl⟩
abbrev main_v520 : Ref sig .tc := ⟨.hbm, 527, rfl⟩
abbrev main_v521 : Ref sig .tc := ⟨.hbm, 528, rfl⟩
abbrev main_v522 : Ref sig .tc := ⟨.hbm, 529, rfl⟩
abbrev main_v523 : Ref sig .tc := ⟨.hbm, 530, rfl⟩
abbrev main_v524 : Ref sig .tc := ⟨.hbm, 531, rfl⟩
abbrev main_v525 : Ref sig .tc := ⟨.hbm, 532, rfl⟩
abbrev main_v526 : Ref sig .tc := ⟨.hbm, 533, rfl⟩
abbrev main_v527 : Ref sig .tc := ⟨.hbm, 534, rfl⟩
abbrev main_v528 : Ref sig .tc := ⟨.hbm, 535, rfl⟩
abbrev main_v529 : Ref sig .tc := ⟨.hbm, 536, rfl⟩
abbrev main_v530 : Ref sig .tc := ⟨.hbm, 537, rfl⟩
abbrev main_v531 : Ref sig .tc := ⟨.hbm, 538, rfl⟩
abbrev main_v532 : Ref sig .tc := ⟨.hbm, 539, rfl⟩
abbrev main_v533 : Ref sig .tc := ⟨.hbm, 540, rfl⟩
abbrev main_v534 : Ref sig .tc := ⟨.hbm, 541, rfl⟩
abbrev main_v535 : Ref sig .tc := ⟨.hbm, 542, rfl⟩
abbrev main_v536 : Ref sig .tc := ⟨.hbm, 543, rfl⟩
abbrev main_v537 : Ref sig .tc := ⟨.hbm, 544, rfl⟩
abbrev main_v538 : Ref sig .tc := ⟨.hbm, 545, rfl⟩
abbrev main_v539 : Ref sig .tc := ⟨.hbm, 546, rfl⟩
abbrev main_v540 : Ref sig .tc := ⟨.hbm, 547, rfl⟩
abbrev main_v541 : Ref sig .tc := ⟨.hbm, 548, rfl⟩
abbrev main_v542 : Ref sig .tc := ⟨.hbm, 549, rfl⟩
abbrev main_v543 : Ref sig .tc := ⟨.hbm, 550, rfl⟩
abbrev main_v544 : Ref sig .tc := ⟨.hbm, 551, rfl⟩
abbrev main_v545 : Ref sig .tc := ⟨.hbm, 552, rfl⟩
abbrev main_v546 : Ref sig .tc := ⟨.hbm, 553, rfl⟩
abbrev main_v547 : Ref sig .tc := ⟨.hbm, 554, rfl⟩
abbrev main_v548 : Ref sig .tc := ⟨.hbm, 555, rfl⟩
abbrev main_v549 : Ref sig .tc := ⟨.hbm, 556, rfl⟩
abbrev main_v550 : Ref sig .tc := ⟨.hbm, 557, rfl⟩
abbrev main_v551 : Ref sig .tc := ⟨.hbm, 558, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 1], ![false, false, false]⟩

def k0_mult1 (i : grid0.Coords) : BitVec 32 :=
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_6 : BitVec 32 := 4#32
  let v22 : BitVec 32 := Scalar.subi v19 c4_i32_6
  let c0_i32_7 : BitVec 32 := 0#32
  let v23 : BitVec 32 := Scalar.maxsi v22 c0_i32_7
  let c128_i32_8 : BitVec 32 := 128#32
  let v24 : BitVec 32 := Scalar.muli v23 c128_i32_8
  v24
def k0_off1 (i : grid0.Coords) : Fin 2 → Nat :=
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_6 : BitVec 32 := 4#32
  let v22 : BitVec 32 := Scalar.subi v19 c4_i32_6
  let c0_i32_7 : BitVec 32 := 0#32
  let v23 : BitVec 32 := Scalar.maxsi v22 c0_i32_7
  let c128_i32_8 : BitVec 32 := 128#32
  let v24 : BitVec 32 := Scalar.muli v23 c128_i32_8
  let v25 : BitVec 32 := v24
  let v46 : Index := Scalar.indexCast v25
  let c0_11 : Index := 0#32
  ![v46.toNat, 0]
def k0_off2 (i : grid0.Coords) : Fin 2 → Nat :=
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_6 : BitVec 32 := 4#32
  let v22 : BitVec 32 := Scalar.subi v19 c4_i32_6
  let c0_i32_7 : BitVec 32 := 0#32
  let v23 : BitVec 32 := Scalar.maxsi v22 c0_i32_7
  let c128_i32_8 : BitVec 32 := 128#32
  let v24 : BitVec 32 := Scalar.muli v23 c128_i32_8
  let v25 : BitVec 32 := v24
  let v51 : Index := Scalar.indexCast v25
  let c128_13 : Index := 128#32
  ![v51.toNat, 128]
def k0_off3 (i : grid0.Coords) : Fin 2 → Nat :=
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_6 : BitVec 32 := 4#32
  let v22 : BitVec 32 := Scalar.subi v19 c4_i32_6
  let c0_i32_7 : BitVec 32 := 0#32
  let v23 : BitVec 32 := Scalar.maxsi v22 c0_i32_7
  let c128_i32_8 : BitVec 32 := 128#32
  let v24 : BitVec 32 := Scalar.muli v23 c128_i32_8
  let v25 : BitVec 32 := v24
  let v56 : Index := Scalar.indexCast v25
  let c256_16 : Index := 256#32
  ![v56.toNat, 256]
def k0_off4 (i : grid0.Coords) : Fin 2 → Nat :=
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_6 : BitVec 32 := 4#32
  let v22 : BitVec 32 := Scalar.subi v19 c4_i32_6
  let c0_i32_7 : BitVec 32 := 0#32
  let v23 : BitVec 32 := Scalar.maxsi v22 c0_i32_7
  let c128_i32_8 : BitVec 32 := 128#32
  let v24 : BitVec 32 := Scalar.muli v23 c128_i32_8
  let v25 : BitVec 32 := v24
  let v61 : Index := Scalar.indexCast v25
  let c384_19 : Index := 384#32
  ![v61.toNat, 384]
def k0_off5 (i : grid0.Coords) : Fin 2 → Nat :=
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_6 : BitVec 32 := 4#32
  let v22 : BitVec 32 := Scalar.subi v19 c4_i32_6
  let c0_i32_7 : BitVec 32 := 0#32
  let v23 : BitVec 32 := Scalar.maxsi v22 c0_i32_7
  let c128_i32_8 : BitVec 32 := 128#32
  let v24 : BitVec 32 := Scalar.muli v23 c128_i32_8
  let v25 : BitVec 32 := v24
  let v66 : Index := Scalar.indexCast v25
  let c512_22 : Index := 512#32
  ![v66.toNat, 512]
def k0_off6 (i : grid0.Coords) : Fin 2 → Nat :=
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_6 : BitVec 32 := 4#32
  let v22 : BitVec 32 := Scalar.subi v19 c4_i32_6
  let c0_i32_7 : BitVec 32 := 0#32
  let v23 : BitVec 32 := Scalar.maxsi v22 c0_i32_7
  let c128_i32_8 : BitVec 32 := 128#32
  let v24 : BitVec 32 := Scalar.muli v23 c128_i32_8
  let v25 : BitVec 32 := v24
  let v71 : Index := Scalar.indexCast v25
  let c640_25 : Index := 640#32
  ![v71.toNat, 640]
def k0_off7 (i : grid0.Coords) : Fin 2 → Nat :=
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_6 : BitVec 32 := 4#32
  let v22 : BitVec 32 := Scalar.subi v19 c4_i32_6
  let c0_i32_7 : BitVec 32 := 0#32
  let v23 : BitVec 32 := Scalar.maxsi v22 c0_i32_7
  let c128_i32_8 : BitVec 32 := 128#32
  let v24 : BitVec 32 := Scalar.muli v23 c128_i32_8
  let v25 : BitVec 32 := v24
  let v76 : Index := Scalar.indexCast v25
  let c768_28 : Index := 768#32
  ![v76.toNat, 768]
def k0_off8 (i : grid0.Coords) : Fin 2 → Nat :=
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32_6 : BitVec 32 := 4#32
  let v22 : BitVec 32 := Scalar.subi v19 c4_i32_6
  let c0_i32_7 : BitVec 32 := 0#32
  let v23 : BitVec 32 := Scalar.maxsi v22 c0_i32_7
  let c128_i32_8 : BitVec 32 := 128#32
  let v24 : BitVec 32 := Scalar.muli v23 c128_i32_8
  let v25 : BitVec 32 := v24
  let v81 : Index := Scalar.indexCast v25
  let c896_31 : Index := 896#32
  ![v81.toNat, 896]
def k0_off9 (i : grid0.Coords) (c0_i32_33 : BitVec 32) : Fin 4 → Nat :=
  let c0_51 : Index := 0#32
  let c2_i32_35 : BitVec 32 := 2#32
  let c0_i32_34 : BitVec 32 := 0#32
  let c4_i32_5 : BitVec 32 := 4#32
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_5 v20
  let v84 : BitVec 32 := Scalar.addi c0_i32_33 v21
  let c2_i32 : BitVec 32 := 2#32
  let v85 : BitVec 32 := Scalar.subi v84 c2_i32
  let v86 : BitVec 32 := Scalar.maxsi c0_i32_34 v85
  let v87 : BitVec 32 := Scalar.minsi c2_i32_35 v86
  let v104 : Index := Scalar.indexCast v87
  let c0_52 : Index := 0#32
  let c0_53 : Index := 0#32
  ![0, v104.toNat, 0, 0]
def k0_off10 (i : grid0.Coords) (c0_i32_33 : BitVec 32) : Fin 4 → Nat :=
  let c1 : Index := 1#32
  let c2_i32_35 : BitVec 32 := 2#32
  let c0_i32_34 : BitVec 32 := 0#32
  let c4_i32_5 : BitVec 32 := 4#32
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_5 v20
  let v84 : BitVec 32 := Scalar.addi c0_i32_33 v21
  let c2_i32 : BitVec 32 := 2#32
  let v85 : BitVec 32 := Scalar.subi v84 c2_i32
  let v86 : BitVec 32 := Scalar.maxsi c0_i32_34 v85
  let v87 : BitVec 32 := Scalar.minsi c2_i32_35 v86
  let v131 : Index := Scalar.indexCast v87
  let c0_69 : Index := 0#32
  let c0_70 : Index := 0#32
  ![1, v131.toNat, 0, 0]
def k0_off11 (i : grid0.Coords) (c0_i32_33 : BitVec 32) : Fin 4 → Nat :=
  let c2 : Index := 2#32
  let c2_i32_35 : BitVec 32 := 2#32
  let c0_i32_34 : BitVec 32 := 0#32
  let c4_i32_5 : BitVec 32 := 4#32
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_5 v20
  let v84 : BitVec 32 := Scalar.addi c0_i32_33 v21
  let c2_i32 : BitVec 32 := 2#32
  let v85 : BitVec 32 := Scalar.subi v84 c2_i32
  let v86 : BitVec 32 := Scalar.maxsi c0_i32_34 v85
  let v87 : BitVec 32 := Scalar.minsi c2_i32_35 v86
  let v158 : Index := Scalar.indexCast v87
  let c0_86 : Index := 0#32
  let c0_87 : Index := 0#32
  ![2, v158.toNat, 0, 0]
def k0_off12 (i : grid0.Coords) (c0_i32_33 : BitVec 32) : Fin 4 → Nat :=
  let c3 : Index := 3#32
  let c2_i32_35 : BitVec 32 := 2#32
  let c0_i32_34 : BitVec 32 := 0#32
  let c4_i32_5 : BitVec 32 := 4#32
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_5 v20
  let v84 : BitVec 32 := Scalar.addi c0_i32_33 v21
  let c2_i32 : BitVec 32 := 2#32
  let v85 : BitVec 32 := Scalar.subi v84 c2_i32
  let v86 : BitVec 32 := Scalar.maxsi c0_i32_34 v85
  let v87 : BitVec 32 := Scalar.minsi c2_i32_35 v86
  let v185 : Index := Scalar.indexCast v87
  let c0_103 : Index := 0#32
  let c0_104 : Index := 0#32
  ![3, v185.toNat, 0, 0]
def k0_off13 (i : grid0.Coords) (c0_i32_33 : BitVec 32) : Fin 4 → Nat :=
  let c4 : Index := 4#32
  let c2_i32_35 : BitVec 32 := 2#32
  let c0_i32_34 : BitVec 32 := 0#32
  let c4_i32_5 : BitVec 32 := 4#32
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_5 v20
  let v84 : BitVec 32 := Scalar.addi c0_i32_33 v21
  let c2_i32 : BitVec 32 := 2#32
  let v85 : BitVec 32 := Scalar.subi v84 c2_i32
  let v86 : BitVec 32 := Scalar.maxsi c0_i32_34 v85
  let v87 : BitVec 32 := Scalar.minsi c2_i32_35 v86
  let v212 : Index := Scalar.indexCast v87
  let c0_120 : Index := 0#32
  let c0_121 : Index := 0#32
  ![4, v212.toNat, 0, 0]
def k0_off14 (i : grid0.Coords) (c0_i32_33 : BitVec 32) : Fin 4 → Nat :=
  let c5 : Index := 5#32
  let c2_i32_35 : BitVec 32 := 2#32
  let c0_i32_34 : BitVec 32 := 0#32
  let c4_i32_5 : BitVec 32 := 4#32
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_5 v20
  let v84 : BitVec 32 := Scalar.addi c0_i32_33 v21
  let c2_i32 : BitVec 32 := 2#32
  let v85 : BitVec 32 := Scalar.subi v84 c2_i32
  let v86 : BitVec 32 := Scalar.maxsi c0_i32_34 v85
  let v87 : BitVec 32 := Scalar.minsi c2_i32_35 v86
  let v239 : Index := Scalar.indexCast v87
  let c0_137 : Index := 0#32
  let c0_138 : Index := 0#32
  ![5, v239.toNat, 0, 0]
def k0_off15 (i : grid0.Coords) (c0_i32_33 : BitVec 32) : Fin 4 → Nat :=
  let c6 : Index := 6#32
  let c2_i32_35 : BitVec 32 := 2#32
  let c0_i32_34 : BitVec 32 := 0#32
  let c4_i32_5 : BitVec 32 := 4#32
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_5 v20
  let v84 : BitVec 32 := Scalar.addi c0_i32_33 v21
  let c2_i32 : BitVec 32 := 2#32
  let v85 : BitVec 32 := Scalar.subi v84 c2_i32
  let v86 : BitVec 32 := Scalar.maxsi c0_i32_34 v85
  let v87 : BitVec 32 := Scalar.minsi c2_i32_35 v86
  let v266 : Index := Scalar.indexCast v87
  let c0_154 : Index := 0#32
  let c0_155 : Index := 0#32
  ![6, v266.toNat, 0, 0]
def k0_off16 (i : grid0.Coords) (c0_i32_33 : BitVec 32) : Fin 4 → Nat :=
  let c7 : Index := 7#32
  let c2_i32_35 : BitVec 32 := 2#32
  let c0_i32_34 : BitVec 32 := 0#32
  let c4_i32_5 : BitVec 32 := 4#32
  let c1024_i32 : BitVec 32 := 1024#32
  let arg2 : BitVec 32 := BitVec.ofNat 32 (i 2).val
  let c16_i32 : BitVec 32 := 16#32
  let v0 : BitVec 32 := Scalar.muli arg2 c16_i32
  let v1 : BitVec 32 := Scalar.addi c1024_i32 v0
  let c0_i32 : BitVec 32 := 0#32
  let v2 : BitVec 32 := Scalar.addi v1 c0_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c128_i32 : BitVec 32 := 128#32
  let c0_i32_2 : BitVec 32 := 0#32
  let v9 : BitVec 1 := Scalar.cmpi .sgt c128_i32 c0_i32_2
  let v10 : BitVec 32 := Scalar.extui v9
  let c0_i32_3 : BitVec 32 := 0#32
  let v11 : BitVec 1 := Scalar.cmpi .slt c128_i32 c0_i32_3
  let v12 : BitVec 32 := Scalar.extui v11
  let v13 : BitVec 32 := Scalar.subi v10 v12
  let v14 : BitVec 1 := Scalar.cmpi .ne v8 v13
  let v15 : BitVec 32 := Scalar.remsi v2 c128_i32
  let c0_i32_4 : BitVec 32 := 0#32
  let v16 : BitVec 1 := Scalar.cmpi .ne v15 c0_i32_4
  let v17 : BitVec 1 := Scalar.andi v14 v16
  let v3 : BitVec 32 := Scalar.divsi v2 c128_i32
  let c1_i32 : BitVec 32 := 1#32
  let v18 : BitVec 32 := Scalar.subi v3 c1_i32
  let v19 : BitVec 32 := Scalar.select v17 v18 v3
  let c4_i32 : BitVec 32 := 4#32
  let v20 : BitVec 32 := Scalar.minsi v19 c4_i32
  let v21 : BitVec 32 := Scalar.subi c4_i32_5 v20
  let v84 : BitVec 32 := Scalar.addi c0_i32_33 v21
  let c2_i32 : BitVec 32 := 2#32
  let v85 : BitVec 32 := Scalar.subi v84 c2_i32
  let v86 : BitVec 32 := Scalar.maxsi c0_i32_34 v85
  let v87 : BitVec 32 := Scalar.minsi c2_i32_35 v86
  let v293 : Index := Scalar.indexCast v87
  let c0_171 : Index := 0#32
  let c0_172 : Index := 0#32
  ![7, v293.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S8x3x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== SampleBandReferenceIdeal.lean ====
abbrev S128x4096 : Shape := ⟨2, ![128, 4096]⟩
abbrev S9216x8192 : Shape := ⟨2, ![9216, 8192]⟩
abbrev S32x129 : Shape := ⟨2, ![32, 129]⟩
abbrev S8x16x32x128 : Shape := ⟨4, ![8, 16, 32, 128]⟩
abbrev S8x1152x2x32x128 : Shape := ⟨5, ![8, 1152, 2, 32, 128]⟩
abbrev S8x528x2x32x128 : Shape := ⟨5, ![8, 528, 2, 32, 128]⟩
abbrev S8x528x1x32x128 : Shape := ⟨5, ![8, 528, 1, 32, 128]⟩
abbrev S8x528x32x128 : Shape := ⟨4, ![8, 528, 32, 128]⟩
abbrev S16 : Shape := ⟨1, ![16]⟩
abbrev S_ : Shape := ⟨0, ![]⟩
abbrev S528 : Shape := ⟨1, ![528]⟩
abbrev S8x32x16x528 : Shape := ⟨4, ![8, 32, 16, 528]⟩
abbrev S16x1 : Shape := ⟨2, ![16, 1]⟩
abbrev S1x528 : Shape := ⟨2, ![1, 528]⟩
abbrev S16x528 : Shape := ⟨2, ![16, 528]⟩
abbrev S16x528x1 : Shape := ⟨3, ![16, 528, 1]⟩
abbrev S32x16x528 : Shape := ⟨3, ![32, 16, 528]⟩
abbrev S1x32x16x528 : Shape := ⟨4, ![1, 32, 16, 528]⟩
abbrev S1x1x16x528 : Shape := ⟨4, ![1, 1, 16, 528]⟩
abbrev S8x32x16 : Shape := ⟨3, ![8, 32, 16]⟩
abbrev S8x32x16x1 : Shape := ⟨4, ![8, 32, 16, 1]⟩
abbrev S8x32x128x16 : Shape := ⟨4, ![8, 32, 128, 16]⟩

abbrev nBuf : Space → Nat
  | .hbm => 141
  | .vmem => 0
  | .smem => 0
  | _ => 0

abbrev hbmTy0_0 (i : Nat) : BufTy := match i % 128 with
  | 0 => ⟨S128x4096, .f32⟩
  | 1 => ⟨S9216x8192, .bf16⟩
  | 2 => ⟨S128x4096, .f32⟩
  | 3 => ⟨S32x129, .f32⟩
  | 4 => ⟨S8x16x32x128, .f32⟩
  | 5 => ⟨S8x1152x2x32x128, .bf16⟩
  | 6 => ⟨S8x528x2x32x128, .bf16⟩
  | 7 => ⟨S8x528x2x32x128, .f32⟩
  | 8 => ⟨S8x528x1x32x128, .f32⟩
  | 9 => ⟨S8x528x32x128, .f32⟩
  | 10 => ⟨S8x528x1x32x128, .f32⟩
  | 11 => ⟨S8x528x32x128, .f32⟩
  | 12 => ⟨S16, .i32⟩
  | 13 => ⟨S_, .i32⟩
  | 14 => ⟨S16, .i32⟩
  | 15 => ⟨S16, .i32⟩
  | 16 => ⟨S528, .i32⟩
  | 17 => ⟨S_, .i32⟩
  | 18 => ⟨S528, .i32⟩
  | 19 => ⟨S528, .i32⟩
  | 20 => ⟨S8x32x16x528, .f32⟩
  | 21 => ⟨S_, .f32⟩
  | 22 => ⟨S_, .f32⟩
  | 23 => ⟨S8x32x16x528, .f32⟩
  | 24 => ⟨S8x32x16x528, .f32⟩
  | 25 => ⟨S16x1, .i32⟩
  | 26 => ⟨S_, .i32⟩
  | 27 => ⟨S_, .i32⟩
  | 28 => ⟨S16x1, .i32⟩
  | 29 => ⟨S16x1, .i32⟩
  | 30 => ⟨S16x1, .i32⟩
  | 31 => ⟨S_, .i32⟩
  | 32 => ⟨S16x1, .i32⟩
  | 33 => ⟨S16x1, .i1⟩
  | 34 => ⟨S16x1, .i32⟩
  | 35 => ⟨S16x1, .i32⟩
  | 36 => ⟨S_, .i32⟩
  | 37 => ⟨S16x1, .i32⟩
  | 38 => ⟨S16x1, .i1⟩
  | 39 => ⟨S16x1, .i1⟩
  | 40 => ⟨S_, .i32⟩
  | 41 => ⟨S16x1, .i32⟩
  | 42 => ⟨S16x1, .i32⟩
  | 43 => ⟨S16x1, .i32⟩
  | 44 => ⟨S1x528, .i32⟩
  | 45 => ⟨S_, .i32⟩
  | 46 => ⟨S_, .i32⟩
  | 47 => ⟨S1x528, .i32⟩
  | 48 => ⟨S1x528, .i32⟩
  | 49 => ⟨S1x528, .i32⟩
  | 50 => ⟨S_, .i32⟩
  | 51 => ⟨S1x528, .i32⟩
  | 52 => ⟨S1x528, .i1⟩
  | 53 => ⟨S1x528, .i32⟩
  | 54 => ⟨S1x528, .i32⟩
  | 55 => ⟨S_, .i32⟩
  | 56 => ⟨S1x528, .i32⟩
  | 57 => ⟨S1x528, .i1⟩
  | 58 => ⟨S1x528, .i1⟩
  | 59 => ⟨S_, .i32⟩
  | 60 => ⟨S1x528, .i32⟩
  | 61 => ⟨S1x528, .i32⟩
  | 62 => ⟨S1x528, .i32⟩
  | 63 => ⟨S16x528, .i32⟩
  | 64 => ⟨S16x528, .i32⟩
  | 65 => ⟨S16x528, .i1⟩
  | 66 => ⟨S_, .i32⟩
  | 67 => ⟨S16x1, .i32⟩
  | 68 => ⟨S16x1, .i32⟩
  | 69 => ⟨S16x528, .i32⟩
  | 70 => ⟨S16x528, .i32⟩
  | 71 => ⟨S16x528, .i1⟩
  | 72 => ⟨S16x528, .i1⟩
  | 73 => ⟨S1x528, .i32⟩
  | 74 => ⟨S_, .i32⟩
  | 75 => ⟨S1x528, .i32⟩
  | 76 => ⟨S1x528, .i1⟩
  | 77 => ⟨S16x528, .i1⟩
  | 78 => ⟨S16x528, .i1⟩
  | 79 => ⟨S16x1, .i32⟩
  | 80 => ⟨S1x528, .i32⟩
  | 81 => ⟨S16x528, .i32⟩
  | 82 => ⟨S16x528, .i32⟩
  | 83 => ⟨S16x528, .i32⟩
  | 84 => ⟨S_, .i32⟩
  | 85 => ⟨S_, .i32⟩
  | 86 => ⟨S_, .i32⟩
  | 87 => ⟨S16x528, .i32⟩
  | 88 => ⟨S16x528, .i32⟩
  | 89 => ⟨S_, .i32⟩
  | 90 => ⟨S16x528, .i32⟩
  | 91 => ⟨S16x528, .i32⟩
  | 92 => ⟨S_, .i32⟩
  | 93 => ⟨S16x528, .i32⟩
  | 94 => ⟨S16x528, .i32⟩
  | 95 => ⟨S_, .i32⟩
  | 96 => ⟨S16x528, .i32⟩
  | 97 => ⟨S16x528, .i1⟩
  | 98 => ⟨S_, .i32⟩
  | 99 => ⟨S16x528, .i32⟩
  | 100 => ⟨S16x528, .i32⟩
  | 101 => ⟨S16x528, .i32⟩
  | 102 => ⟨S16x528x1, .i32⟩
  | 103 => ⟨S32x16x528, .f32⟩
  | 104 => ⟨S1x32x16x528, .f32⟩
  | 105 => ⟨S8x32x16x528, .f32⟩
  | 106 => ⟨S8x32x16x528, .f32⟩
  | 107 => ⟨S1x1x16x528, .i1⟩
  | 108 => ⟨S_, .f32⟩
  | 109 => ⟨S_, .f32⟩
  | 110 => ⟨S8x32x16x528, .i1⟩
  | 111 => ⟨S8x32x16x528, .f32⟩
  | 112 => ⟨S8x32x16x528, .f32⟩
  | 113 => ⟨S_, .f32⟩
  | 114 => ⟨S8x32x16, .f32⟩
  | 115 => ⟨S_, .f32⟩
  | 116 => ⟨S8x32x16, .f32⟩
  | 117 => ⟨S8x32x16, .f32⟩
  | 118 => ⟨S8x32x16x1, .f32⟩
  | 119 => ⟨S8x32x16x528, .f32⟩
  | 120 => ⟨S8x32x16x528, .f32⟩
  | 121 => ⟨S8x32x16x528, .f32⟩
  | 122 => ⟨S_, .f32⟩
  | 123 => ⟨S8x32x16, .f32⟩
  | 124 => ⟨S8x32x16x1, .f32⟩
  | 125 => ⟨S8x32x16x528, .f32⟩
  | 126 => ⟨S8x32x16x528, .f32⟩
  | 127 => ⟨S8x32x128x16, .f32⟩
  | _ => ⟨S128x4096, .f32⟩

abbrev hbmTy0_1 (i : Nat) : BufTy := match i % 128 with
  | 0 => ⟨S8x16x32x128, .f32⟩
  | 1 => ⟨S128x4096, .f32⟩
  | 2 => ⟨S128x4096, .f32⟩
  | 3 => ⟨S128x4096, .f32⟩
  | 4 => ⟨S_, .f32⟩
  | 5 => ⟨S128x4096, .f32⟩
  | 6 => ⟨S128x4096, .f32⟩
  | 7 => ⟨S_, .f32⟩
  | 8 => ⟨S128x4096, .f32⟩
  | 9 => ⟨S128x4096, .f32⟩
  | 10 => ⟨S128x4096, .f32⟩
  | 11 => ⟨S128x4096, .f32⟩
  | 12 => ⟨S128x4096, .bf16⟩
  | _ => ⟨S128x4096, .f32⟩

abbrev hbmTy (i : Nat) : BufTy := match i / 128 with
  | 0 => hbmTy0_0 i
  | 1 => hbmTy0_1 i
  | _ => ⟨S128x4096, .f32⟩

abbrev bufTy : (tb : Table) → Fin (tcTables nBuf tb) → BufTy
  | .hbm, ⟨i, _⟩ => hbmTy i
  | _, _ => ⟨S128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_c : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_0 : Ref sig .tc := ⟨.hbm, 40, rfl⟩
abbrev main_call0_v12 : Ref sig .tc := ⟨.hbm, 41, rfl⟩
abbrev main_call0_v13 : Ref sig .tc := ⟨.hbm, 42, rfl⟩
abbrev main_v19 : Ref sig .tc := ⟨.hbm, 43, rfl⟩
abbrev main_v20 : Ref sig .tc := ⟨.hbm, 44, rfl⟩
abbrev main_c_2 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_c : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_0 : Ref sig .tc := ⟨.hbm, 59, rfl⟩
abbrev main_call1_v12 : Ref sig .tc := ⟨.hbm, 60, rfl⟩
abbrev main_call1_v13 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_c_3 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_c_4 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_c_5 : Ref sig .tc := ⟨.hbm, 84, rfl⟩
abbrev main_c_6 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_v41 : Ref sig .tc := ⟨.hbm, 91, rfl⟩
abbrev main_c_7 : Ref sig .tc := ⟨.hbm, 92, rfl⟩
abbrev main_v42 : Ref sig .tc := ⟨.hbm, 93, rfl⟩
abbrev main_v43 : Ref sig .tc := ⟨.hbm, 94, rfl⟩
abbrev main_c_8 : Ref sig .tc := ⟨.hbm, 95, rfl⟩
abbrev main_v44 : Ref sig .tc := ⟨.hbm, 96, rfl⟩
abbrev main_v45 : Ref sig .tc := ⟨.hbm, 97, rfl⟩
abbrev main_c_9 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_cst_10 : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_v55 : Ref sig .tc := ⟨.hbm, 112, rfl⟩
abbrev main_cst_11 : Ref sig .tc := ⟨.hbm, 113, rfl⟩
abbrev main_v56 : Ref sig .tc := ⟨.hbm, 114, rfl⟩
abbrev main_cst_12 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_13 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_call4_v0 : Ref sig .tc := ⟨.hbm, 130, rfl⟩
abbrev main_call4_v1 : Ref sig .tc := ⟨.hbm, 131, rfl⟩
abbrev main_call4_cst : Ref sig .tc := ⟨.hbm, 132, rfl⟩
abbrev main_call4_v2 : Ref sig .tc := ⟨.hbm, 133, rfl⟩
abbrev main_call4_v3 : Ref sig .tc := ⟨.hbm, 134, rfl⟩
abbrev main_call4_cst_0 : Ref sig .tc := ⟨.hbm, 135, rfl⟩
abbrev main_call4_v4 : Ref sig .tc := ⟨.hbm, 136, rfl⟩
abbrev main_call4_v5 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩

abbrev nD : Nat := 1
abbrev τ : Topo := Topo.v7x

variable {F : FTy → Type} [FloatOps F]
-- ==== Proof.Table.lean ====
module

public import proofs.«01_k».proof.Proof.Gen.KernelIdeal.Value
public import Idealize.ShloMosaic.Lib.Pointwise
public import Idealize.ShloMosaic.Lib.StableHlo.ReadAt
public import Idealize.ShloMosaic.Lib.Pipeline.ValueKit

/-! The table of bias blocks, as the host code builds it, and its entries. -/

@[expose] public section

set_option maxRecDepth 16384

noncomputable section

namespace Cert.Band.Ker

open Idealize.ShloMosaic Idealize.ShloMosaic.TcCoe Idealize.SL.Sem
open Cert.KernelIdeal Cert.KernelIdeal.Gen

/-- The relative bias over log 2. -/
def scaled (rb : FVec Ideal S32x129 .f32) : FVec Ideal S32x129 .f32 :=
  Host.divf rb (broadcastInDim S32x129 ![] bcast_S_S32x129 (Host.log (constant S_ .f32 0x40000000#32)))

/-- The bias by distance, the largest distance first, its two ends repeated. -/
def byDist (rb : FVec Ideal S32x129 .f32) : FVec Ideal S32x383 .f32 :=
  concatenate S32x383 1
    [⟨S32x191, broadcastInDim S32x191 ![0, 1] bcast_S32x1_S32x191_0_1 (extractStridedSlice S32x1 ![0, 128] (scaled rb) slices_S32x129_S32x1_0_128)⟩,
     ⟨S32x129, Host.reverse [1] (scaled rb)⟩,
     ⟨S32x63, broadcastInDim S32x63 ![0, 1] bcast_S32x1_S32x63_0_1 (extractStridedSlice S32x1 ![0, 0] (scaled rb) slices_S32x129_S32x1_0_0)⟩]
    concatenates_S32x191_S32x129_S32x63_S32x383_d1

/-- 128 consecutive distances, as one row of a block. -/
def row (B : FVec Ideal S32x383 .f32) (o : ℕ) (h : o ≤ 255) : FVec Ideal S32x1x128 .f32 :=
  broadcastInDim S32x1x128 ![0, 2] bcast_S32x128_S32x1x128_0_2 (extractStridedSlice S32x128 ![0, o] B
    ⟨rfl, fun a => match a with | ⟨0, _⟩ => (by decide : (0 + 32 ≤ 32)) | ⟨1, _⟩ => by show o + 128 ≤ 383; omega⟩)

/-- Sixteen rows of a block. -/
def rows16 (B : FVec Ideal S32x383 .f32) (o : ℕ) (h : o ≤ 255) : FVec Ideal S32x16x128 .f32 :=
  concatenate S32x16x128 1 [
    ⟨S32x1x128, row B (o - 0) (by omega)⟩,
    ⟨S32x1x128, row B (o - 1) (by omega)⟩,
    ⟨S32x1x128, row B (o - 2) (by omega)⟩,
    ⟨S32x1x128, row B (o - 3) (by omega)⟩,
    ⟨S32x1x128, row B (o - 4) (by omega)⟩,
    ⟨S32x1x128, row B (o - 5) (by omega)⟩,
    ⟨S32x1x128, row B (o - 6) (by omega)⟩,
    ⟨S32x1x128, row B (o - 7) (by omega)⟩,
    ⟨S32x1x128, row B (o - 8) (by omega)⟩,
    ⟨S32x1x128, row B (o - 9) (by omega)⟩,
    ⟨S32x1x128, row B (o - 10) (by omega)⟩,
    ⟨S32x1x128, row B (o - 11) (by omega)⟩,
    ⟨S32x1x128, row B (o - 12) (by omega)⟩,
    ⟨S32x1x128, row B (o - 13) (by omega)⟩,
    ⟨S32x1x128, row B (o - 14) (by omega)⟩,
    ⟨S32x1x128, row B (o - 15) (by omega)⟩]
    concatenates_S32x1x128_S32x1x128_S32x1x128_S32x1x128_S32x1x128_S32x1x128_S32x1x128_S32x1x128_S32x1x128_S32x1x128_S32x1x128_S32x1x128_S32x1x128_S32x1x128_S32x1x128_S32x1x128_S32x16x128_d1

/-- A block of the table: entry `(t, j)` is the distance at `o - t + j`. -/
def window (B : FVec Ideal S32x383 .f32) (o : ℕ) (h : o ≤ 255) : FVec Ideal S32x128x128 .f32 :=
  concatenate S32x128x128 1 [⟨S32x16x128, rows16 B (o - 0) (by omega)⟩, ⟨S32x16x128, rows16 B (o - 16) (by omega)⟩, ⟨S32x16x128, rows16 B (o - 32) (by omega)⟩, ⟨S32x16x128, rows16 B (o - 48) (by omega)⟩, ⟨S32x16x128, rows16 B (o - 64) (by omega)⟩, ⟨S32x16x128, rows16 B (o - 80) (by omega)⟩, ⟨S32x16x128, rows16 B (o - 96) (by omega)⟩, ⟨S32x16x128, rows16 B (o - 112) (by omega)⟩]
    concatenates_S32x16x128_S32x16x128_S32x16x128_S32x16x128_S32x16x128_S32x16x128_S32x16x128_S32x16x128_S32x128x128_d1

theorem scaled_at (rb : FVec Ideal S32x129 .f32) (h : Fin 32) (x : Fin 129) :
    scaled rb (ix2 h x) = Ideal.div (rb (ix2 h x)) (Ideal.log (Ideal.ofBits .f32 1073741824#32)) := by
  pointwise [scaled]

theorem byDist_at (rb : FVec Ideal S32x129 .f32) (h : Fin 32) (x : Fin 383) :
    byDist rb (ix2 h x) = scaled rb (ix2 h ⟨min 128 (319 - x), by omega⟩) := by
  have hx := x.isLt
  pointwise [byDist]
  split_ifs with h1 h2 h3
  · exact congrArg (scaled rb) (congrArg (ix2 h) (Fin.ext (by show 128 = min 128 (319 - (x : ℕ)); omega)))
  · exact absurd (List.mem_singleton.mp h3) (by decide)
  · exact congrArg (scaled rb) (congrArg (ix2 h) (Fin.ext (by show 129 - ((x : ℕ) - 191 + 1) = min 128 (319 - (x : ℕ)); omega)))
  · exact congrArg (scaled rb) (congrArg (ix2 h) (Fin.ext (by show 0 = min 128 (319 - (x : ℕ)); omega)))

theorem row_at (B : FVec Ideal S32x383 .f32) (o : ℕ) (ho : o ≤ 255) (h : Fin 32) (z : Fin 1) (j : Fin 128) :
    row B o ho (ix3 h z j) = B (ix2 h ⟨o + j, by omega⟩) := by
  pointwise [row]

theorem rows16_at (B : FVec Ideal S32x383 .f32) (o : ℕ) (ho : o ≤ 255) (h16 : 15 ≤ o) (h : Fin 32) (t : Fin 16) (j : Fin 128) :
    rows16 B o ho (ix3 h t j) = B (ix2 h ⟨o - t + j, by omega⟩) := by
  fin_cases t <;> pointwise [rows16, row_at]

theorem window_at (B : FVec Ideal S32x383 .f32) (o : ℕ) (ho : o ≤ 255) (h127 : 127 ≤ o) (h : Fin 32) (t j : Fin 128) :
    window B o ho (ix3 h t j) = B (ix2 h ⟨o - t + j, by omega⟩) := by
  have ht := t.isLt
  pointwise [window]
  split_ifs
  all_goals rw [rows16_at _ _ _ (by omega)]
  all_goals refine congrArg B (congrArg (ix2 h) (Fin.ext ?_))
  all_goals dsimp only
  all_goals omega

/-- The table of bias blocks: a block far away, the block before the query's own, the query's own. -/
def table (B : FVec Ideal S32x383 .f32) (rb : FVec Ideal S32x129 .f32) : FVec Ideal S32x3x128x128 .f32 :=
  concatenate S32x3x128x128 1
    [⟨S32x1x128x128, broadcastInDim S32x1x128x128 ![0, 2, 3] bcast_S32x128x128_S32x1x128x128_0_2_3
        (broadcastInDim S32x128x128 ![0, 1, 2] bcast_S32x1x1_S32x128x128_0_1_2 (broadcastInDim S32x1x1 ![0, 1] bcast_S32x1_S32x1x1_0_1
          (extractStridedSlice S32x1 ![0, 128] (scaled rb) slices_S32x129_S32x1_0_128)))⟩,
     ⟨S32x1x128x128, broadcastInDim S32x1x128x128 ![0, 2, 3] bcast_S32x128x128_S32x1x128x128_0_2_3 (window B 127 (by omega))⟩,
     ⟨S32x1x128x128, broadcastInDim S32x1x128x128 ![0, 2, 3] bcast_S32x128x128_S32x1x128x128_0_2_3 (window B 255 (by omega))⟩]
    concatenates_S32x1x128x128_S32x1x128x128_S32x1x128x128_S32x3x128x128_d1

/-- Entry `(t, j)` of block `e`: the bias at the distance `(2 - e) * 128 + t - j`, clipped. -/
theorem table_at (rb : FVec Ideal S32x129 .f32) (h : Fin 32) (e : Fin 3) (t j : Fin 128) :
    table (byDist rb) rb (ix4 h e t j) = Ideal.div (rb (ix2 h ⟨min 128 (64 + (2 - e) * 128 + t - j), by omega⟩)) (Ideal.log (Ideal.ofBits .f32 1073741824#32)) := by
  have ht := t.isLt
  have hj := j.isLt
  rw [← scaled_at]
  fin_cases e
  · pointwise [table]
    refine congrArg (scaled rb) (congrArg (ix2 h) (Fin.ext ?_))
    dsimp only
    omega
  · pointwise [table, window_at _ 127 _ (le_refl _), byDist_at]
    refine congrArg (scaled rb) (congrArg (ix2 h) (Fin.ext ?_))
    dsimp only
    omega
  · pointwise [table, window_at _ 255 _ (by omega), byDist_at]
    refine congrArg (scaled rb) (congrArg (ix2 h) (Fin.ext ?_))
    dsimp only
    omega

end Cert.Band.Ker
-- ==== Proof.Tab.lean ====
module

public import proofs.«01_k».proof.Proof.Table
public import Idealize.ShloMosaic.Lib.Pointwise
public import Idealize.ShloMosaic.Lib.StableHlo.ReadAt
public import Idealize.ShloMosaic.Lib.Pipeline.ValueKit

/-! The arrays the host code hands the kernel: the scaled queries, the keys and values, and the table of bias blocks. -/

@[expose] public section

set_option maxRecDepth 16384

noncomputable section

namespace Cert.Band.Ker

open Idealize.ShloMosaic Idealize.ShloMosaic.TcCoe Idealize.SL.Sem
open Cert.KernelIdeal Cert.KernelIdeal.Gen

set_option maxHeartbeats 4000000 in
private theorem upto274 (m : (ℓ : Loc nD τ sig) → Buf (Elt Ideal) ℓ) (c : Dev nD) :
    StableHlo.upto hostOps0 (fun b => m (c, b)) 285 (Proc.tc.devRef main_v274) = rows16 (byDist (m ((c.tc : Thread nD τ).loc main_arg3))) 127 (by omega) := by
  have h0 : StableHlo.upto hostOps0 (fun b => m (c, b)) 277 (Proc.tc.devRef main_v146) = row (byDist (m ((c.tc : Thread nD τ).loc main_arg3))) 127 (by omega) := by
    after_reads_simp
    rfl
  have h1 : StableHlo.upto hostOps0 (fun b => m (c, b)) 277 (Proc.tc.devRef main_v147) = row (byDist (m ((c.tc : Thread nD τ).loc main_arg3))) 126 (by omega) := by
    after_reads_simp
    rfl
  have h2 : StableHlo.upto hostOps0 (fun b => m (c, b)) 277 (Proc.tc.devRef main_v148) = row (byDist (m ((c.tc : Thread nD τ).loc main_arg3))) 125 (by omega) := by
    after_reads_simp
    rfl
  have h3 : StableHlo.upto hostOps0 (fun b => m (c, b)) 277 (Proc.tc.devRef main_v149) = row (byDist (m ((c.tc : Thread nD τ).loc main_arg3))) 124 (by omega) := by
    after_reads_simp
    rfl
  have h4 : StableHlo.upto hostOps0 (fun b => m (c, b)) 277 (Proc.tc.devRef main_v150) = row (byDist (m ((c.tc : Thread nD τ).loc main_arg3))) 123 (by omega) := by
    after_reads_simp
    rfl
  have h5 : StableHlo.upto hostOps0 (fun b => m (c, b)) 277 (Proc.tc.devRef main_v151) = row (byDist (m ((c.tc : Thread nD τ).loc main_arg3))) 122 (by omega) := by
    after_reads_simp
    rfl
  have h6 : StableHlo.upto hostOps0 (fun b => m (c, b)) 277 (Proc.tc.devRef main_v152) = row (byDist (m ((c.tc : Thread nD τ).loc main_arg3))) 121 (by omega) := by
    after_reads_simp
    rfl
  have h7 : StableHlo.upto hostOps0 (fun b => m (c, b)) 277 (Proc.tc.devRef main_v153) = row (byDist (m ((c.tc : Thread nD τ).loc main_arg3))) 120 (by omega) := by
    after_reads_simp
    rfl
  have h8 : StableHlo.upto hostOps0 (fun b => m (c, b)) 277 (Proc.tc.devRef main_v154) = row (byDist (m ((c.tc : Thread nD τ).loc main_arg3))) 119 (by omega) := by
    after_reads_simp
    rfl
  have h9 : StableHlo.upto hostOps0 (fun b => m (c, b)) 277 (Proc.tc.devRef main_v155) = row (byDist (m ((c.tc : Thread nD τ).loc main_arg3))) 118 (by omega) := by
    after_reads_simp
    rfl
  have h10 : StableHlo.upto hostOps0 (fun b => m (c, b)) 277 (Proc.tc.devRef main_v156) = row (byDist (m ((c.tc : Thread nD τ).loc main_arg3))) 117 (by omega) := by
    after_reads_simp
    rfl
  have h11 : StableHlo.upto hostOps0 (fun b => m (c, b)) 277 (Proc.tc.devRef main_v157) = row (byDist (m ((c.tc : Thread nD τ).loc main_arg3))) 116 (by omega) := by
    after_reads_simp
    rfl
  have h12 : StableHlo.upto hostOps0 (fun b => m (c, b)) 277 (Proc.tc.devRef main_v158) = row (byDist (m ((c.tc : Thread nD τ).loc main_arg3))) 115 (by omega) := by
    after_reads_simp
    rfl
  have h13 : StableHlo.upto hostOps0 (fun b => m (c, b)) 277 (Proc.tc.devRef main_v159) = row (byDist (m ((c.tc : Thread nD τ).loc main_arg3))) 114 (by omega) := by
    after_reads_simp
    rfl
  have h14 : StableHlo.upto hostOps0 (fun b => m (c, b)) 277 (Proc.tc.devRef main_v160) = row (byDist (m ((c.tc : Thread nD τ).loc main_arg3))) 113 (by omega) := by
    after_reads_simp
    rfl
  have h15 : StableHlo.upto hostOps0 (fun b => m (c, b)) 277 (Proc.tc.devRef main_v161) = row (byDist (m ((c.tc : Thread nD τ).loc main_arg3))) 112 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto275 (m : (ℓ : Loc nD τ sig) → Buf (Elt Ideal) ℓ) (c : Dev nD) :
    StableHlo.upto hostOps0 (fun b => m (c, b)) 285 (Proc.tc.devRef main_v275) = rows16 (byDist (m ((c.tc : Thread nD τ).loc main_arg3))) 111 (by omega) := by
  have h0 : StableHlo.upto hostOps0 (fun b => m (c, b)) 278 (Proc.tc.devRef main_v162) = row (byDist (m ((c.tc : Thread nD τ).loc main_arg3))) 111 (by omega) := by
    after_reads_simp
    rfl
  have h1 : StableHlo.upto hostOps0 (fun b => m (c, b)) 278 (Proc.tc.devRef main_v163) = row (byDist (m ((c.tc : Thread nD τ).loc main_arg3))) 110 (by omega) := by
    after_reads_simp
    rfl
  have h2 : StableHlo.upto hostOps0 (fun b => m (c, b)) 278 (Proc.tc.devRef main_v164) = row (byDist (m ((c.tc : Thread nD τ).loc main_arg3))) 109 (by omega) := by
    after_reads_simp
    rfl
  have h3 : StableHlo.upto hostOps0 (fun b => m (c, b)) 278 (Proc.tc.devRef main_v165) = row (byDist (m ((c.tc : Thread nD τ).loc main_arg3))) 108 (by omega) := by
    after_reads_simp
    rfl
  have h4 : StableHlo.upto hostOps0 (fun b => m (c, b)) 278 (Proc.tc.devRef main_v166) = row (byDist (m ((c.tc : Thread nD τ).loc main_arg3))) 107 (by omega) := by
    after_reads_simp
    rfl
  have h5 : StableHlo.upto hostOps0 (fun b => m (c, b)) 278 (Proc.tc.devRef main_v167) = row (byDist (m ((c.tc : Thread nD τ).loc main_arg3))) 106 (by omega) := by
    after_reads_simp
    rfl
  have h6 : StableHlo.upto hostOps0 (fun b => m (c, b)) 278 (Proc.tc.devRef main_v168) = row (byDist (m ((c.tc : Thread nD τ).loc main_arg3))) 105 (by omega) := by
    after_reads_simp
    rfl
  have h7 : StableHlo.upto hostOps0 (fun b => m (c, b)) 278 (Proc.tc.devRef main_v169) = row (byDist (m ((c.tc : Thread nD τ).loc main_arg3))) 104 (by omega) := by
    after_reads_simp
    rfl
  have h8 : StableHlo.upto hostOps0 (fun b => m (c, b)) 278 (Proc.tc.devRef main_v170) = row (byDist (m ((c.tc : Thread nD τ).loc main_arg3))) 103 (by omega) := by
    after_reads_simp
    rfl
  have h9 : StableHlo.upto hostOps0 (fun b => m (c, b)) 278 (Proc.tc.devRef main_v171) = row (byDist (m ((c.tc : Thread nD τ).loc main_arg3))) 102 (by omega) := by
    after_reads_simp
    rfl
  have h10 : StableHlo.upto hostOps0 (fun b => m (c, b)) 278 (Proc.tc.devRef main_v172) = row (byDist (m ((c.tc : Thread nD τ).loc main_arg3))) 101 (by omega) := by
    after_reads_simp
    rfl
  have h11 : StableHlo.upto hostOps0 (fun b => m (c, b)) 278 (Proc.tc.devRef main_v173) = row (byDist (m ((c.tc : Thread nD τ).loc main_arg3))) 100 (by omega) := by
    after_reads_simp
    rfl
  have h12 : StableHlo.upto hostOps0 (fun b => m (c, b)) 278 (Proc.tc.devRef main_v174) = row (byDist (m ((c.tc : Thread nD τ).loc main_arg3))) 99 (by omega) := by
    after_reads_simp
    rfl
  have h13 : StableHlo.upto hostOps0 (fun b => m (c, b)) 278 (Proc.tc.devRef main_v175) = row (byDist (m ((c.tc : Thread nD τ).loc main_arg3))) 98 (by omega) := by
    after_reads_simp
    rfl
  have h14 : StableHlo.upto hostOps0 (fun b => m (c, b)) 278 (Proc.tc.devRef main_v176) = row (byDist (m ((c.tc : Thread nD τ).loc main_arg3))) 97 (by omega) := by
    after_reads_simp
    rfl
  have h15 : StableHlo.upto hostOps0 (fun b => m (c, b)) 278 (Proc.tc.devRef main_v177) = row (byDist (m ((c.tc : Thread nD τ).loc main_arg3))) 96 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto276 (m : (ℓ : Loc nD τ sig) → Buf (Elt Ideal) ℓ) (c : Dev nD) :
    StableHlo.upto hostOps0 (fun b => m (c, b)) 285 (Proc.tc.devRef main_v276) = rows16 (byDist (m ((c.tc : Thread nD τ).loc main_arg3))) 95 (by omega) := by
  have h0 : StableHlo.upto hostOps0 (fun b => m (c, b)) 279 (Proc.tc.devRef main_v178) = row (byDist (m ((c.tc : Thread nD τ).loc main_arg3))) 95 (by omega) := by
    after_reads_simp
    rfl
  have h1 : StableHlo.upto hostOps0 (fun b => m (c, b)) 279 (Proc.tc.devRef main_v179) = row (byDist (m ((c.tc : Thread nD τ).loc main_arg3))) 94 (by omega) := by
    after_reads_simp
    rfl
  have h2 : StableHlo.upto hostOps0 (fun b => m (c, b)) 279 (Proc.tc.devRef main_v180) = row (byDist (m ((c.tc : Thread nD τ).loc main_arg3))) 93 (by omega) := by
    after_reads_simp
    rfl
  have h3 : StableHlo.upto hostOps0 (fun b => m (c, b)) 279 (Proc.tc.devRef main_v181) = row (byDist (m ((c.tc : Thread nD τ).loc main_arg3))) 92 (by omega) := by
    after_reads_simp
    rfl
  have h4 : StableHlo.upto hostOps0 (fun b => m (c, b)) 279 (Proc.tc.devRef main_v182) = row (byDist (m ((c.tc : Thread nD τ).loc main_arg3))) 91 (by omega) := by
    after_reads_simp
    rfl
  have h5 : StableHlo.upto hostOps0 (fun b => m (c, b)) 279 (Proc.tc.devRef main_v183) = row (byDist (m ((c.tc : Thread nD τ).loc main_arg3))) 90 (by omega) := by
    after_reads_simp
    rfl
  have h6 : StableHlo.upto hostOps0 (fun b => m (c, b)) 279 (Proc.tc.devRef main_v184) = row (byDist (m ((c.tc : Thread nD τ).loc main_arg3))) 89 (by omega) := by
    after_reads_simp
    rfl
  have h7 : StableHlo.upto hostOps0 (fun b => m (c, b)) 279 (Proc.tc.devRef main_v185) = row (byDist (m ((c.tc : Thread nD τ).loc main_arg3))) 88 (by omega) := by
    after_reads_simp
    rfl
  have h8 : StableHlo.upto hostOps0 (fun b => m (c, b)) 279 (Proc.tc.devRef main_v186) = row (byDist (m ((c.tc : Thread nD τ).loc main_arg3))) 87 (by omega) := by
    after_reads_simp
    rfl
  have h9 : StableHlo.upto hostOps0 (fun b => m (c, b)) 279 (Proc.tc.devRef main_v187) = row (byDist (m ((c.tc : Thread nD τ).loc main_arg3))) 86 (by omega) := by
    after_reads_simp
    rfl
  have h10 : StableHlo.upto hostOps0 (fun b => m (c, b)) 279 (Proc.tc.devRef main_v188) = row (byDist (m ((c.tc : Thread nD τ).loc main_arg3))) 85 (by omega) := by
    after_reads_simp
    rfl
  have h11 : StableHlo.upto hostOps0 (fun b => m (c, b)) 279 (Proc.tc.devRef main_v189) = row (byDist (m ((c.tc : Thread nD τ).loc main_arg3))) 84 (by omega) := by
    after_reads_simp
    rfl
  have h12 : StableHlo.upto hostOps0 (fun b => m (c, b)) 279 (Proc.tc.devRef main_v190) = row (byDist (m ((c.tc : Thread nD τ).loc main_arg3))) 83 (by omega) := by
    after_reads_simp
    rfl
  have h13 : StableHlo.upto hostOps0 (fun b => m (c, b)) 279 (Proc.tc.devRef main_v191) = row (byDist (m ((c.tc : Thread nD τ).loc main_arg3))) 82 (by omega) := by
    after_reads_simp
    rfl
  have h14 : StableHlo.upto hostOps0 (fun b => m (c, b)) 279 (Proc.tc.devRef main_v192) = row (byDist (m ((c.tc : Thread nD τ).loc main_arg3))) 81 (by omega) := by
    after_reads_simp
    rfl
  have h15 : StableHlo.upto hostOps0 (fun b => m (c, b)) 279 (Proc.tc.devRef main_v193) = row (byDist (m ((c.tc : Thread nD τ).loc main_arg3))) 80 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto277 (m : (ℓ : Loc nD τ sig) → Buf (Elt Ideal) ℓ) (c : Dev nD) :
    StableHlo.upto hostOps0 (fun b => m (c, b)) 285 (Proc.tc.devRef main_v277) = rows16 (byDist (m ((c.tc : Thread nD τ).loc main_arg3))) 79 (by omega) := by
  have h0 : StableHlo.upto hostOps0 (fun b => m (c, b)) 280 (Proc.tc.devRef main_v194) = row (byDist (m ((c.tc : Thread nD τ).loc main_arg3))) 79 (by omega) := by
    after_reads_simp
    rfl
  have h1 : StableHlo.upto hostOps0 (fun b => m (c, b)) 280 (Proc.tc.devRef main_v195) = row (byDist (m ((c.tc : Thread nD τ).loc main_arg3))) 78 (by omega) := by
    after_reads_simp
    rfl
  have h2 : StableHlo.upto hostOps0 (fun b => m (c, b)) 280 (Proc.tc.devRef main_v196) = row (byDist (m ((c.tc : Thread nD τ).loc main_arg3))) 77 (by omega) := by
    after_reads_simp
    rfl
  have h3 : StableHlo.upto hostOps0 (fun b => m (c, b)) 280 (Proc.tc.devRef main_v197) = row (byDist (m ((c.tc : Thread nD τ).loc main_arg3))) 76 (by omega) := by
    after_reads_simp
    rfl
  have h4 : StableHlo.upto hostOps0 (fun b => m (c, b)) 280 (Proc.tc.devRef main_v198) = row (byDist (m ((c.tc : Thread nD τ).loc main_arg3))) 75 (by omega) := by
    after_reads_simp
    rfl
  have h5 : StableHlo.upto hostOps0 (fun b => m (c, b)) 280 (Proc.tc.devRef main_v199) = row (byDist (m ((c.tc : Thread nD τ).loc main_arg3))) 74 (by omega) := by
    after_reads_simp
    rfl
  have h6 : StableHlo.upto hostOps0 (fun b => m (c, b)) 280 (Proc.tc.devRef main_v200) = row (byDist (m ((c.tc : Thread nD τ).loc main_arg3))) 73 (by omega) := by
    after_reads_simp
    rfl
  have h7 : StableHlo.upto hostOps0 (fun b => m (c, b)) 280 (Proc.tc.devRef main_v201) = row (byDist (m ((c.tc : Thread nD τ).loc main_arg3))) 72 (by omega) := by
    after_reads_simp
    rfl
  have h8 : StableHlo.upto hostOps0 (fun b => m (c, b)) 280 (Proc.tc.devRef main_v202) = row (byDist (m ((c.tc : Thread nD τ).loc main_arg3))) 71 (by omega) := by
    after_reads_simp
    rfl
  have h9 : StableHlo.upto hostOps0 (fun b => m (c, b)) 280 (Proc.tc.devRef main_v203) = row (byDist (m ((c.tc : Thread nD τ).loc main_arg3))) 70 (by omega) := by
    after_reads_simp
    rfl
  have h10 : StableHlo.upto hostOps0 (fun b => m (c, b)) 280 (Proc.tc.devRef main_v204) = row (byDist (m ((c.tc : Thread nD τ).loc main_arg3))) 69 (by omega) := by
    after_reads_simp
    rfl
  have h11 : StableHlo.upto hostOps0 (fun b => m (c, b)) 280 (Proc.tc.devRef main_v205) = row (byDist (m ((c.tc : Thread nD τ).loc main_arg3))) 68 (by omega) := by
    after_reads_simp
    rfl
  have h12 : StableHlo.upto hostOps0 (fun b => m (c, b)) 280 (Proc.tc.devRef main_v206) = row (byDist (m ((c.tc : Thread nD τ).loc main_arg3))) 67 (by omega) := by
    after_reads_simp
    rfl
  have h13 : StableHlo.upto hostOps0 (fun b => m (c, b)) 280 (Proc.tc.devRef main_v207) = row (byDist (m ((c.tc : Thread nD τ).loc main_arg3))) 66 (by omega) := by
    after_reads_simp
    rfl
  have h14 : StableHlo.upto hostOps0 (fun b => m (c, b)) 280 (Proc.tc.devRef main_v208) = row (byDist (m ((c.tc : Thread nD τ).loc main_arg3))) 65 (by omega) := by
    after_reads_simp
    rfl
  have h15 : StableHlo.upto hostOps0 (fun b => m (c, b)) 280 (Proc.tc.devRef main_v209) = row (byDist (m ((c.tc : Thread nD τ).loc main_arg3))) 64 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto278 (m : (ℓ : Loc nD τ sig) → Buf (Elt Ideal) ℓ) (c : Dev nD) :
    StableHlo.upto hostOps0 (fun b => m (c, b)) 285 (Proc.tc.devRef main_v278) = rows16 (byDist (m ((c.tc : Thread nD τ).loc main_arg3))) 63 (by omega) := by
  have h0 : StableHlo.upto hostOps0 (fun b => m (c, b)) 281 (Proc.tc.devRef main_v210) = row (byDist (m ((c.tc : Thread nD τ).loc main_arg3))) 63 (by omega) := by
    after_reads_simp
    rfl
  have h1 : StableHlo.upto hostOps0 (fun b => m (c, b)) 281 (Proc.tc.devRef main_v211) = row (byDist (m ((c.tc : Thread nD τ).loc main_arg3))) 62 (by omega) := by
    after_reads_simp
    rfl
  have h2 : StableHlo.upto hostOps0 (fun b => m (c, b)) 281 (Proc.tc.devRef main_v212) = row (byDist (m ((c.tc : Thread nD τ).loc main_arg3))) 61 (by omega) := by
    after_reads_simp
    rfl
  have h3 : StableHlo.upto hostOps0 (fun b => m (c, b)) 281 (Proc.tc.devRef main_v213) = row (byDist (m ((c.tc : Thread nD τ).loc main_arg3))) 60 (by omega) := by
    after_reads_simp
    rfl
  have h4 : StableHlo.upto hostOps0 (fun b => m (c, b)) 281 (Proc.tc.devRef main_v214) = row (byDist (m ((c.tc : Thread nD τ).loc main_arg3))) 59 (by omega) := by
    after_reads_simp
    rfl
  have h5 : StableHlo.upto hostOps0 (fun b => m (c, b)) 281 (Proc.tc.devRef main_v215) = row (byDist (m ((c.tc : Thread nD τ).loc main_arg3))) 58 (by omega) := by
    after_reads_simp
    rfl
  have h6 : StableHlo.upto hostOps0 (fun b => m (c, b)) 281 (Proc.tc.devRef main_v216) = row (byDist (m ((c.tc : Thread nD τ).loc main_arg3))) 57 (by omega) := by
    after_reads_simp
    rfl
  have h7 : StableHlo.upto hostOps0 (fun b => m (c, b)) 281 (Proc.tc.devRef main_v217) = row (byDist (m ((c.tc : Thread nD τ).loc main_arg3))) 56 (by omega) := by
    after_reads_simp
    rfl
  have h8 : StableHlo.upto hostOps0 (fun b => m (c, b)) 281 (Proc.tc.devRef main_v218) = row (byDist (m ((c.tc : Thread nD τ).loc main_arg3))) 55 (by omega) := by
    after_reads_simp
    rfl
  have h9 : StableHlo.upto hostOps0 (fun b => m (c, b)) 281 (Proc.tc.devRef main_v219) = row (byDist (m ((c.tc : Thread nD τ).loc main_arg3))) 54 (by omega) := by
    after_reads_simp
    rfl
  have h10 : StableHlo.upto hostOps0 (fun b => m (c, b)) 281 (Proc.tc.devRef main_v220) = row (byDist (m ((c.tc : Thread nD τ).loc main_arg3))) 53 (by omega) := by
    after_reads_simp
    rfl
  have h11 : StableHlo.upto hostOps0 (fun b => m (c, b)) 281 (Proc.tc.devRef main_v221) = row (byDist (m ((c.tc : Thread nD τ).loc main_arg3))) 52 (by omega) := by
    after_reads_simp
    rfl
  have h12 : StableHlo.upto hostOps0 (fun b => m (c, b)) 281 (Proc.tc.devRef main_v222) = row (byDist (m ((c.tc : Thread nD τ).loc main_arg3))) 51 (by omega) := by
    after_reads_simp
    rfl
  have h13 : StableHlo.upto hostOps0 (fun b => m (c, b)) 281 (Proc.tc.devRef main_v223) = row (byDist (m ((c.tc : Thread nD τ).loc main_arg3))) 50 (by omega) := by
    after_reads_simp
    rfl
  have h14 : StableHlo.upto hostOps0 (fun b => m (c, b)) 281 (Proc.tc.devRef main_v224) = row (byDist (m ((c.tc : Thread nD τ).loc main_arg3))) 49 (by omega) := by
    after_reads_simp
    rfl
  have h15 : StableHlo.upto hostOps0 (fun b => m (c, b)) 281 (Proc.tc.devRef main_v225) = row (byDist (m ((c.tc : Thread nD τ).loc main_arg3))) 48 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto279 (m : (ℓ : Loc nD τ sig) → Buf (Elt Ideal) ℓ) (c : Dev nD) :
    StableHlo.upto hostOps0 (fun b => m (c, b)) 285 (Proc.tc.devRef main_v279) = rows16 (byDist (m ((c.tc : Thread nD τ).loc main_arg3))) 47 (by omega) := by
  have h0 : StableHlo.upto hostOps0 (fun b => m (c, b)) 282 (Proc.tc.devRef main_v226) = row (byDist (m ((c.tc : Thread nD τ).loc main_arg3))) 47 (by omega) := by
    after_reads_simp
    rfl
  have h1 : StableHlo.upto hostOps0 (fun b => m (c, b)) 282 (Proc.tc.devRef main_v227) = row (byDist (m ((c.tc : Thread nD τ).loc main_arg3))) 46 (by omega) := by
    after_reads_simp
    rfl
  have h2 : StableHlo.upto hostOps0 (fun b => m (c, b)) 282 (Proc.tc.devRef main_v228) = row (byDist (m ((c.tc : Thread nD τ).loc main_arg3))) 45 (by omega) := by
    after_reads_simp
    rfl
  have h3 : StableHlo.upto hostOps0 (fun b => m (c, b)) 282 (Proc.tc.devRef main_v229) = row (byDist (m ((c.tc : Thread nD τ).loc main_arg3))) 44 (by omega) := by
    after_reads_simp
    rfl
  have h4 : StableHlo.upto hostOps0 (fun b => m (c, b)) 282 (Proc.tc.devRef main_v230) = row (byDist (m ((c.tc : Thread nD τ).loc main_arg3))) 43 (by omega) := by
    after_reads_simp
    rfl
  have h5 : StableHlo.upto hostOps0 (fun b => m (c, b)) 282 (Proc.tc.devRef main_v231) = row (byDist (m ((c.tc : Thread nD τ).loc main_arg3))) 42 (by omega) := by
    after_reads_simp
    rfl
  have h6 : StableHlo.upto hostOps0 (fun b => m (c, b)) 282 (Proc.tc.devRef main_v232) = row (byDist (m ((c.tc : Thread nD τ).loc main_arg3))) 41 (by omega) := by
    after_reads_simp
    rfl
  have h7 : StableHlo.upto hostOps0 (fun b => m (c, b)) 282 (Proc.tc.devRef main_v233) = row (byDist (m ((c.tc : Thread nD τ).loc main_arg3))) 40 (by omega) := by
    after_reads_simp
    rfl
  have h8 : StableHlo.upto hostOps0 (fun b => m (c, b)) 282 (Proc.tc.devRef main_v234) = row (byDist (m ((c.tc : Thread nD τ).loc main_arg3))) 39 (by omega) := by
    after_reads_simp
    rfl
  have h9 : StableHlo.upto hostOps0 (fun b => m (c, b)) 282 (Proc.tc.devRef main_v235) = row (byDist (m ((c.tc : Thread nD τ).loc main_arg3))) 38 (by omega) := by
    after_reads_simp
    rfl
  have h10 : StableHlo.upto hostOps0 (fun b => m (c, b)) 282 (Proc.tc.devRef main_v236) = row (byDist (m ((c.tc : Thread nD τ).loc main_arg3))) 37 (by omega) := by
    after_reads_simp
    rfl
  have h11 : StableHlo.upto hostOps0 (fun b => m (c, b)) 282 (Proc.tc.devRef main_v237) = row (byDist (m ((c.tc : Thread nD τ).loc main_arg3))) 36 (by omega) := by
    after_reads_simp
    rfl
  have h12 : StableHlo.upto hostOps0 (fun b => m (c, b)) 282 (Proc.tc.devRef main_v238) = row (byDist (m ((c.tc : Thread nD τ).loc main_arg3))) 35 (by omega) := by
    after_reads_simp
    rfl
  have h13 : StableHlo.upto hostOps0 (fun b => m (c, b)) 282 (Proc.tc.devRef main_v239) = row (byDist (m ((c.tc : Thread nD τ).loc main_arg3))) 34 (by omega) := by
    after_reads_simp
    rfl
  have h14 : StableHlo.upto hostOps0 (fun b => m (c, b)) 282 (Proc.tc.devRef main_v240) = row (byDist (m ((c.tc : Thread nD τ).loc main_arg3))) 33 (by omega) := by
    after_reads_simp
    rfl
  have h15 : StableHlo.upto hostOps0 (fun b => m (c, b)) 282 (Proc.tc.devRef main_v241) = row (byDist (m ((c.tc : Thread nD τ).loc main_arg3))) 32 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto280 (m : (ℓ : Loc nD τ sig) → Buf (Elt Ideal) ℓ) (c : Dev nD) :
    StableHlo.upto hostOps0 (fun b => m (c, b)) 285 (Proc.tc.devRef main_v280) = rows16 (byDist (m ((c.tc : Thread nD τ).loc main_arg3))) 31 (by omega) := by
  have h0 : StableHlo.upto hostOps0 (fun b => m (c, b)) 283 (Proc.tc.devRef main_v242) = row (byDist (m ((c.tc : Thread nD τ).loc main_arg3))) 31 (by omega) := by
    after_reads_simp
    rfl
  have h1 : StableHlo.upto hostOps0 (fun b => m (c, b)) 283 (Proc.tc.devRef main_v243) = row (byDist (m ((c.tc : Thread nD τ).loc main_arg3))) 30 (by omega) := by
    after_reads_simp
    rfl
  have h2 : StableHlo.upto hostOps0 (fun b => m (c, b)) 283 (Proc.tc.devRef main_v244) = row (byDist (m ((c.tc : Thread nD τ).loc main_arg3))) 29 (by omega) := by
    after_reads_simp
    rfl
  have h3 : StableHlo.upto hostOps0 (fun b => m (c, b)) 283 (Proc.tc.devRef main_v245) = row (byDist (m ((c.tc : Thread nD τ).loc main_arg3))) 28 (by omega) := by
    after_reads_simp
    rfl
  have h4 : StableHlo.upto hostOps0 (fun b => m (c, b)) 283 (Proc.tc.devRef main_v246) = row (byDist (m ((c.tc : Thread nD τ).loc main_arg3))) 27 (by omega) := by
    after_reads_simp
    rfl
  have h5 : StableHlo.upto hostOps0 (fun b => m (c, b)) 283 (Proc.tc.devRef main_v247) = row (byDist (m ((c.tc : Thread nD τ).loc main_arg3))) 26 (by omega) := by
    after_reads_simp
    rfl
  have h6 : StableHlo.upto hostOps0 (fun b => m (c, b)) 283 (Proc.tc.devRef main_v248) = row (byDist (m ((c.tc : Thread nD τ).loc main_arg3))) 25 (by omega) := by
    after_reads_simp
    rfl
  have h7 : StableHlo.upto hostOps0 (fun b => m (c, b)) 283 (Proc.tc.devRef main_v249) = row (byDist (m ((c.tc : Thread nD τ).loc main_arg3))) 24 (by omega) := by
    after_reads_simp
    rfl
  have h8 : StableHlo.upto hostOps0 (fun b => m (c, b)) 283 (Proc.tc.devRef main_v250) = row (byDist (m ((c.tc : Thread nD τ).loc main_arg3))) 23 (by omega) := by
    after_reads_simp
    rfl
  have h9 : StableHlo.upto hostOps0 (fun b => m (c, b)) 283 (Proc.tc.devRef main_v251) = row (byDist (m ((c.tc : Thread nD τ).loc main_arg3))) 22 (by omega) := by
    after_reads_simp
    rfl
  have h10 : StableHlo.upto hostOps0 (fun b => m (c, b)) 283 (Proc.tc.devRef main_v252) = row (byDist (m ((c.tc : Thread nD τ).loc main_arg3))) 21 (by omega) := by
    after_reads_simp
    rfl
  have h11 : StableHlo.upto hostOps0 (fun b => m (c, b)) 283 (Proc.tc.devRef main_v253) = row (byDist (m ((c.tc : Thread nD τ).loc main_arg3))) 20 (by omega) := by
    after_reads_simp
    rfl
  have h12 : StableHlo.upto hostOps0 (fun b => m (c, b)) 283 (Proc.tc.devRef main_v254) = row (byDist (m ((c.tc : Thread nD τ).loc main_arg3))) 19 (by omega) := by
    after_reads_simp
    rfl
  have h13 : StableHlo.upto hostOps0 (fun b => m (c, b)) 283 (Proc.tc.devRef main_v255) = row (byDist (m ((c.tc : Thread nD τ).loc main_arg3))) 18 (by omega) := by
    after_reads_simp
    rfl
  have h14 : StableHlo.upto hostOps0 (fun b => m (c, b)) 283 (Proc.tc.devRef main_v256) = row (byDist (m ((c.tc : Thread nD τ).loc main_arg3))) 17 (by omega) := by
    after_reads_simp
    rfl
  have h15 : StableHlo.upto hostOps0 (fun b => m (c, b)) 283 (Proc.tc.devRef main_v257) = row (byDist (m ((c.tc : Thread nD τ).loc main_arg3))) 16 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto281 (m : (ℓ : Loc nD τ sig) → Buf (Elt Ideal) ℓ) (c : Dev nD) :
    StableHlo.upto hostOps0 (fun b => m (c, b)) 285 (Proc.tc.devRef main_v281) = rows16 (byDist (m ((c.tc : Thread nD τ).loc main_arg3))) 15 (by omega) := by
  have h0 : StableHlo.upto hostOps0 (fun b => m (c, b)) 284 (Proc.tc.devRef main_v258) = row (byDist (m ((c.tc : Thread nD τ).loc main_arg3))) 15 (by omega) := by
    after_reads_simp
    rfl
  have h1 : StableHlo.upto hostOps0 (fun b => m (c, b)) 284 (Proc.tc.devRef main_v259) = row (byDist (m ((c.tc : Thread nD τ).loc main_arg3))) 14 (by omega) := by
    after_reads_simp
    rfl
  have h2 : StableHlo.upto hostOps0 (fun b => m (c, b)) 284 (Proc.tc.devRef main_v260) = row (byDist (m ((c.tc : Thread nD τ).loc main_arg3))) 13 (by omega) := by
    after_reads_simp
    rfl
  have h3 : StableHlo.upto hostOps0 (fun b => m (c, b)) 284 (Proc.tc.devRef main_v261) = row (byDist (m ((c.tc : Thread nD τ).loc main_arg3))) 12 (by omega) := by
    after_reads_simp
    rfl
  have h4 : StableHlo.upto hostOps0 (fun b => m (c, b)) 284 (Proc.tc.devRef main_v262) = row (byDist (m ((c.tc : Thread nD τ).loc main_arg3))) 11 (by omega) := by
    after_reads_simp
    rfl
  have h5 : StableHlo.upto hostOps0 (fun b => m (c, b)) 284 (Proc.tc.devRef main_v263) = row (byDist (m ((c.tc : Thread nD τ).loc main_arg3))) 10 (by omega) := by
    after_reads_simp
    rfl
  have h6 : StableHlo.upto hostOps0 (fun b => m (c, b)) 284 (Proc.tc.devRef main_v264) = row (byDist (m ((c.tc : Thread nD τ).loc main_arg3))) 9 (by omega) := by
    after_reads_simp
    rfl
  have h7 : StableHlo.upto hostOps0 (fun b => m (c, b)) 284 (Proc.tc.devRef main_v265) = row (byDist (m ((c.tc : Thread nD τ).loc main_arg3))) 8 (by omega) := by
    after_reads_simp
    rfl
  have h8 : StableHlo.upto hostOps0 (fun b => m (c, b)) 284 (Proc.tc.devRef main_v266) = row (byDist (m ((c.tc : Thread nD τ).loc main_arg3))) 7 (by omega) := by
    after_reads_simp
    rfl
  have h9 : StableHlo.upto hostOps0 (fun b => m (c, b)) 284 (Proc.tc.devRef main_v267) = row (byDist (m ((c.tc : Thread nD τ).loc main_arg3))) 6 (by omega) := by
    after_reads_simp
    rfl
  have h10 : StableHlo.upto hostOps0 (fun b => m (c, b)) 284 (Proc.tc.devRef main_v268) = row (byDist (m ((c.tc : Thread nD τ).loc main_arg3))) 5 (by omega) := by
    after_reads_simp
    rfl
  have h11 : StableHlo.upto hostOps0 (fun b => m (c, b)) 284 (Proc.tc.devRef main_v269) = row (byDist (m ((c.tc : Thread nD τ).loc main_arg3))) 4 (by omega) := by
    after_reads_simp
    rfl
  have h12 : StableHlo.upto hostOps0 (fun b => m (c, b)) 284 (Proc.tc.devRef main_v270) = row (byDist (m ((c.tc : Thread nD τ).loc main_arg3))) 3 (by omega) := by
    after_reads_simp
    rfl
  have h13 : StableHlo.upto hostOps0 (fun b => m (c, b)) 284 (Proc.tc.devRef main_v271) = row (byDist (m ((c.tc : Thread nD τ).loc main_arg3))) 2 (by omega) := by
    after_reads_simp
    rfl
  have h14 : StableHlo.upto hostOps0 (fun b => m (c, b)) 284 (Proc.tc.devRef main_v272) = row (byDist (m ((c.tc : Thread nD τ).loc main_arg3))) 1 (by omega) := by
    after_reads_simp
    rfl
  have h15 : StableHlo.upto hostOps0 (fun b => m (c, b)) 284 (Proc.tc.devRef main_v273) = row (byDist (m ((c.tc : Thread nD τ).loc main_arg3))) 0 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto539 (m : (ℓ : Loc nD τ sig) → Buf (Elt Ideal) ℓ) (c : Dev nD) :
    StableHlo.upto hostOps0 (fun b => m (c, b)) 550 (Proc.tc.devRef main_v539) = rows16 (byDist (m ((c.tc : Thread nD τ).loc main_arg3))) 255 (by omega) := by
  have h0 : StableHlo.upto hostOps0 (fun b => m (c, b)) 542 (Proc.tc.devRef main_v411) = row (byDist (m ((c.tc : Thread nD τ).loc main_arg3))) 255 (by omega) := by
    after_reads_simp
    rfl
  have h1 : StableHlo.upto hostOps0 (fun b => m (c, b)) 542 (Proc.tc.devRef main_v412) = row (byDist (m ((c.tc : Thread nD τ).loc main_arg3))) 254 (by omega) := by
    after_reads_simp
    rfl
  have h2 : StableHlo.upto hostOps0 (fun b => m (c, b)) 542 (Proc.tc.devRef main_v413) = row (byDist (m ((c.tc : Thread nD τ).loc main_arg3))) 253 (by omega) := by
    after_reads_simp
    rfl
  have h3 : StableHlo.upto hostOps0 (fun b => m (c, b)) 542 (Proc.tc.devRef main_v414) = row (byDist (m ((c.tc : Thread nD τ).loc main_arg3))) 252 (by omega) := by
    after_reads_simp
    rfl
  have h4 : StableHlo.upto hostOps0 (fun b => m (c, b)) 542 (Proc.tc.devRef main_v415) = row (byDist (m ((c.tc : Thread nD τ).loc main_arg3))) 251 (by omega) := by
    after_reads_simp
    rfl
  have h5 : StableHlo.upto hostOps0 (fun b => m (c, b)) 542 (Proc.tc.devRef main_v416) = row (byDist (m ((c.tc : Thread nD τ).loc main_arg3))) 250 (by omega) := by
    after_reads_simp
    rfl
  have h6 : StableHlo.upto hostOps0 (fun b => m (c, b)) 542 (Proc.tc.devRef main_v417) = row (byDist (m ((c.tc : Thread nD τ).loc main_arg3))) 249 (by omega) := by
    after_reads_simp
    rfl
  have h7 : StableHlo.upto hostOps0 (fun b => m (c, b)) 542 (Proc.tc.devRef main_v418) = row (byDist (m ((c.tc : Thread nD τ).loc main_arg3))) 248 (by omega) := by
    after_reads_simp
    rfl
  have h8 : StableHlo.upto hostOps0 (fun b => m (c, b)) 542 (Proc.tc.devRef main_v419) = row (byDist (m ((c.tc : Thread nD τ).loc main_arg3))) 247 (by omega) := by
    after_reads_simp
    rfl
  have h9 : StableHlo.upto hostOps0 (fun b => m (c, b)) 542 (Proc.tc.devRef main_v420) = row (byDist (m ((c.tc : Thread nD τ).loc main_arg3))) 246 (by omega) := by
    after_reads_simp
    rfl
  have h10 : StableHlo.upto hostOps0 (fun b => m (c, b)) 542 (Proc.tc.devRef main_v421) = row (byDist (m ((c.tc : Thread nD τ).loc main_arg3))) 245 (by omega) := by
    after_reads_simp
    rfl
  have h11 : StableHlo.upto hostOps0 (fun b => m (c, b)) 542 (Proc.tc.devRef main_v422) = row (byDist (m ((c.tc : Thread nD τ).loc main_arg3))) 244 (by omega) := by
    after_reads_simp
    rfl
  have h12 : StableHlo.upto hostOps0 (fun b => m (c, b)) 542 (Proc.tc.devRef main_v423) = row (byDist (m ((c.tc : Thread nD τ).loc main_arg3))) 243 (by omega) := by
    after_reads_simp
    rfl
  have h13 : StableHlo.upto hostOps0 (fun b => m (c, b)) 542 (Proc.tc.devRef main_v424) = row (byDist (m ((c.tc : Thread nD τ).loc main_arg3))) 242 (by omega) := by
    after_reads_simp
    rfl
  have h14 : StableHlo.upto hostOps0 (fun b => m (c, b)) 542 (Proc.tc.devRef main_v425) = row (byDist (m ((c.tc : Thread nD τ).loc main_arg3))) 241 (by omega) := by
    after_reads_simp
    rfl
  have h15 : StableHlo.upto hostOps0 (fun b => m (c, b)) 542 (Proc.tc.devRef main_v426) = row (byDist (m ((c.tc : Thread nD τ).loc main_arg3))) 240 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto540 (m : (ℓ : Loc nD τ sig) → Buf (Elt Ideal) ℓ) (c : Dev nD) :
    StableHlo.upto hostOps0 (fun b => m (c, b)) 550 (Proc.tc.devRef main_v540) = rows16 (byDist (m ((c.tc : Thread nD τ).loc main_arg3))) 239 (by omega) := by
  have h0 : StableHlo.upto hostOps0 (fun b => m (c, b)) 543 (Proc.tc.devRef main_v427) = row (byDist (m ((c.tc : Thread nD τ).loc main_arg3))) 239 (by omega) := by
    after_reads_simp
    rfl
  have h1 : StableHlo.upto hostOps0 (fun b => m (c, b)) 543 (Proc.tc.devRef main_v428) = row (byDist (m ((c.tc : Thread nD τ).loc main_arg3))) 238 (by omega) := by
    after_reads_simp
    rfl
  have h2 : StableHlo.upto hostOps0 (fun b => m (c, b)) 543 (Proc.tc.devRef main_v429) = row (byDist (m ((c.tc : Thread nD τ).loc main_arg3))) 237 (by omega) := by
    after_reads_simp
    rfl
  have h3 : StableHlo.upto hostOps0 (fun b => m (c, b)) 543 (Proc.tc.devRef main_v430) = row (byDist (m ((c.tc : Thread nD τ).loc main_arg3))) 236 (by omega) := by
    after_reads_simp
    rfl
  have h4 : StableHlo.upto hostOps0 (fun b => m (c, b)) 543 (Proc.tc.devRef main_v431) = row (byDist (m ((c.tc : Thread nD τ).loc main_arg3))) 235 (by omega) := by
    after_reads_simp
    rfl
  have h5 : StableHlo.upto hostOps0 (fun b => m (c, b)) 543 (Proc.tc.devRef main_v432) = row (byDist (m ((c.tc : Thread nD τ).loc main_arg3))) 234 (by omega) := by
    after_reads_simp
    rfl
  have h6 : StableHlo.upto hostOps0 (fun b => m (c, b)) 543 (Proc.tc.devRef main_v433) = row (byDist (m ((c.tc : Thread nD τ).loc main_arg3))) 233 (by omega) := by
    after_reads_simp
    rfl
  have h7 : StableHlo.upto hostOps0 (fun b => m (c, b)) 543 (Proc.tc.devRef main_v434) = row (byDist (m ((c.tc : Thread nD τ).loc main_arg3))) 232 (by omega) := by
    after_reads_simp
    rfl
  have h8 : StableHlo.upto hostOps0 (fun b => m (c, b)) 543 (Proc.tc.devRef main_v435) = row (byDist (m ((c.tc : Thread nD τ).loc main_arg3))) 231 (by omega) := by
    after_reads_simp
    rfl
  have h9 : StableHlo.upto hostOps0 (fun b => m (c, b)) 543 (Proc.tc.devRef main_v436) = row (byDist (m ((c.tc : Thread nD τ).loc main_arg3))) 230 (by omega) := by
    after_reads_simp
    rfl
  have h10 : StableHlo.upto hostOps0 (fun b => m (c, b)) 543 (Proc.tc.devRef main_v437) = row (byDist (m ((c.tc : Thread nD τ).loc main_arg3))) 229 (by omega) := by
    after_reads_simp
    rfl
  have h11 : StableHlo.upto hostOps0 (fun b => m (c, b)) 543 (Proc.tc.devRef main_v438) = row (byDist (m ((c.tc : Thread nD τ).loc main_arg3))) 228 (by omega) := by
    after_reads_simp
    rfl
  have h12 : StableHlo.upto hostOps0 (fun b => m (c, b)) 543 (Proc.tc.devRef main_v439) = row (byDist (m ((c.tc : Thread nD τ).loc main_arg3))) 227 (by omega) := by
    after_reads_simp
    rfl
  have h13 : StableHlo.upto hostOps0 (fun b => m (c, b)) 543 (Proc.tc.devRef main_v440) = row (byDist (m ((c.tc : Thread nD τ).loc main_arg3))) 226 (by omega) := by
    after_reads_simp
    rfl
  have h14 : StableHlo.upto hostOps0 (fun b => m (c, b)) 543 (Proc.tc.devRef main_v441) = row (byDist (m ((c.tc : Thread nD τ).loc main_arg3))) 225 (by omega) := by
    after_reads_simp
    rfl
  have h15 : StableHlo.upto hostOps0 (fun b => m (c, b)) 543 (Proc.tc.devRef main_v442) = row (byDist (m ((c.tc : Thread nD τ).loc main_arg3))) 224 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto541 (m : (ℓ : Loc nD τ sig) → Buf (Elt Ideal) ℓ) (c : Dev nD) :
    StableHlo.upto hostOps0 (fun b => m (c, b)) 550 (Proc.tc.devRef main_v541) = rows16 (byDist (m ((c.tc : Thread nD τ).loc main_arg3))) 223 (by omega) := by
  have h0 : StableHlo.upto hostOps0 (fun b => m (c, b)) 544 (Proc.tc.devRef main_v443) = row (byDist (m ((c.tc : Thread nD τ).loc main_arg3))) 223 (by omega) := by
    after_reads_simp
    rfl
  have h1 : StableHlo.upto hostOps0 (fun b => m (c, b)) 544 (Proc.tc.devRef main_v444) = row (byDist (m ((c.tc : Thread nD τ).loc main_arg3))) 222 (by omega) := by
    after_reads_simp
    rfl
  have h2 : StableHlo.upto hostOps0 (fun b => m (c, b)) 544 (Proc.tc.devRef main_v445) = row (byDist (m ((c.tc : Thread nD τ).loc main_arg3))) 221 (by omega) := by
    after_reads_simp
    rfl
  have h3 : StableHlo.upto hostOps0 (fun b => m (c, b)) 544 (Proc.tc.devRef main_v446) = row (byDist (m ((c.tc : Thread nD τ).loc main_arg3))) 220 (by omega) := by
    after_reads_simp
    rfl
  have h4 : StableHlo.upto hostOps0 (fun b => m (c, b)) 544 (Proc.tc.devRef main_v447) = row (byDist (m ((c.tc : Thread nD τ).loc main_arg3))) 219 (by omega) := by
    after_reads_simp
    rfl
  have h5 : StableHlo.upto hostOps0 (fun b => m (c, b)) 544 (Proc.tc.devRef main_v448) = row (byDist (m ((c.tc : Thread nD τ).loc main_arg3))) 218 (by omega) := by
    after_reads_simp
    rfl
  have h6 : StableHlo.upto hostOps0 (fun b => m (c, b)) 544 (Proc.tc.devRef main_v449) = row (byDist (m ((c.tc : Thread nD τ).loc main_arg3))) 217 (by omega) := by
    after_reads_simp
    rfl
  have h7 : StableHlo.upto hostOps0 (fun b => m (c, b)) 544 (Proc.tc.devRef main_v450) = row (byDist (m ((c.tc : Thread nD τ).loc main_arg3))) 216 (by omega) := by
    after_reads_simp
    rfl
  have h8 : StableHlo.upto hostOps0 (fun b => m (c, b)) 544 (Proc.tc.devRef main_v451) = row (byDist (m ((c.tc : Thread nD τ).loc main_arg3))) 215 (by omega) := by
    after_reads_simp
    rfl
  have h9 : StableHlo.upto hostOps0 (fun b => m (c, b)) 544 (Proc.tc.devRef main_v452) = row (byDist (m ((c.tc : Thread nD τ).loc main_arg3))) 214 (by omega) := by
    after_reads_simp
    rfl
  have h10 : StableHlo.upto hostOps0 (fun b => m (c, b)) 544 (Proc.tc.devRef main_v453) = row (byDist (m ((c.tc : Thread nD τ).loc main_arg3))) 213 (by omega) := by
    after_reads_simp
    rfl
  have h11 : StableHlo.upto hostOps0 (fun b => m (c, b)) 544 (Proc.tc.devRef main_v454) = row (byDist (m ((c.tc : Thread nD τ).loc main_arg3))) 212 (by omega) := by
    after_reads_simp
    rfl
  have h12 : StableHlo.upto hostOps0 (fun b => m (c, b)) 544 (Proc.tc.devRef main_v455) = row (byDist (m ((c.tc : Thread nD τ).loc main_arg3))) 211 (by omega) := by
    after_reads_simp
    rfl
  have h13 : StableHlo.upto hostOps0 (fun b => m (c, b)) 544 (Proc.tc.devRef main_v456) = row (byDist (m ((c.tc : Thread nD τ).loc main_arg3))) 210 (by omega) := by
    after_reads_simp
    rfl
  have h14 : StableHlo.upto hostOps0 (fun b => m (c, b)) 544 (Proc.tc.devRef main_v457) = row (byDist (m ((c.tc : Thread nD τ).loc main_arg3))) 209 (by omega) := by
    after_reads_simp
    rfl
  have h15 : StableHlo.upto hostOps0 (fun b => m (c, b)) 544 (Proc.tc.devRef main_v458) = row (byDist (m ((c.tc : Thread nD τ).loc main_arg3))) 208 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto542 (m : (ℓ : Loc nD τ sig) → Buf (Elt Ideal) ℓ) (c : Dev nD) :
    StableHlo.upto hostOps0 (fun b => m (c, b)) 550 (Proc.tc.devRef main_v542) = rows16 (byDist (m ((c.tc : Thread nD τ).loc main_arg3))) 207 (by omega) := by
  have h0 : StableHlo.upto hostOps0 (fun b => m (c, b)) 545 (Proc.tc.devRef main_v459) = row (byDist (m ((c.tc : Thread nD τ).loc main_arg3))) 207 (by omega) := by
    after_reads_simp
    rfl
  have h1 : StableHlo.upto hostOps0 (fun b => m (c, b)) 545 (Proc.tc.devRef main_v460) = row (byDist (m ((c.tc : Thread nD τ).loc main_arg3))) 206 (by omega) := by
    after_reads_simp
    rfl
  have h2 : StableHlo.upto hostOps0 (fun b => m (c, b)) 545 (Proc.tc.devRef main_v461) = row (byDist (m ((c.tc : Thread nD τ).loc main_arg3))) 205 (by omega) := by
    after_reads_simp
    rfl
  have h3 : StableHlo.upto hostOps0 (fun b => m (c, b)) 545 (Proc.tc.devRef main_v462) = row (byDist (m ((c.tc : Thread nD τ).loc main_arg3))) 204 (by omega) := by
    after_reads_simp
    rfl
  have h4 : StableHlo.upto hostOps0 (fun b => m (c, b)) 545 (Proc.tc.devRef main_v463) = row (byDist (m ((c.tc : Thread nD τ).loc main_arg3))) 203 (by omega) := by
    after_reads_simp
    rfl
  have h5 : StableHlo.upto hostOps0 (fun b => m (c, b)) 545 (Proc.tc.devRef main_v464) = row (byDist (m ((c.tc : Thread nD τ).loc main_arg3))) 202 (by omega) := by
    after_reads_simp
    rfl
  have h6 : StableHlo.upto hostOps0 (fun b => m (c, b)) 545 (Proc.tc.devRef main_v465) = row (byDist (m ((c.tc : Thread nD τ).loc main_arg3))) 201 (by omega) := by
    after_reads_simp
    rfl
  have h7 : StableHlo.upto hostOps0 (fun b => m (c, b)) 545 (Proc.tc.devRef main_v466) = row (byDist (m ((c.tc : Thread nD τ).loc main_arg3))) 200 (by omega) := by
    after_reads_simp
    rfl
  have h8 : StableHlo.upto hostOps0 (fun b => m (c, b)) 545 (Proc.tc.devRef main_v467) = row (byDist (m ((c.tc : Thread nD τ).loc main_arg3))) 199 (by omega) := by
    after_reads_simp
    rfl
  have h9 : StableHlo.upto hostOps0 (fun b => m (c, b)) 545 (Proc.tc.devRef main_v468) = row (byDist (m ((c.tc : Thread nD τ).loc main_arg3))) 198 (by omega) := by
    after_reads_simp
    rfl
  have h10 : StableHlo.upto hostOps0 (fun b => m (c, b)) 545 (Proc.tc.devRef main_v469) = row (byDist (m ((c.tc : Thread nD τ).loc main_arg3))) 197 (by omega) := by
    after_reads_simp
    rfl
  have h11 : StableHlo.upto hostOps0 (fun b => m (c, b)) 545 (Proc.tc.devRef main_v470) = row (byDist (m ((c.tc : Thread nD τ).loc main_arg3))) 196 (by omega) := by
    after_reads_simp
    rfl
  have h12 : StableHlo.upto hostOps0 (fun b => m (c, b)) 545 (Proc.tc.devRef main_v471) = row (byDist (m ((c.tc : Thread nD τ).loc main_arg3))) 195 (by omega) := by
    after_reads_simp
    rfl
  have h13 : StableHlo.upto hostOps0 (fun b => m (c, b)) 545 (Proc.tc.devRef main_v472) = row (byDist (m ((c.tc : Thread nD τ).loc main_arg3))) 194 (by omega) := by
    after_reads_simp
    rfl
  have h14 : StableHlo.upto hostOps0 (fun b => m (c, b)) 545 (Proc.tc.devRef main_v473) = row (byDist (m ((c.tc : Thread nD τ).loc main_arg3))) 193 (by omega) := by
    after_reads_simp
    rfl
  have h15 : StableHlo.upto hostOps0 (fun b => m (c, b)) 545 (Proc.tc.devRef main_v474) = row (byDist (m ((c.tc : Thread nD τ).loc main_arg3))) 192 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto543 (m : (ℓ : Loc nD τ sig) → Buf (Elt Ideal) ℓ) (c : Dev nD) :
    StableHlo.upto hostOps0 (fun b => m (c, b)) 550 (Proc.tc.devRef main_v543) = rows16 (byDist (m ((c.tc : Thread nD τ).loc main_arg3))) 191 (by omega) := by
  have h0 : StableHlo.upto hostOps0 (fun b => m (c, b)) 546 (Proc.tc.devRef main_v475) = row (byDist (m ((c.tc : Thread nD τ).loc main_arg3))) 191 (by omega) := by
    after_reads_simp
    rfl
  have h1 : StableHlo.upto hostOps0 (fun b => m (c, b)) 546 (Proc.tc.devRef main_v476) = row (byDist (m ((c.tc : Thread nD τ).loc main_arg3))) 190 (by omega) := by
    after_reads_simp
    rfl
  have h2 : StableHlo.upto hostOps0 (fun b => m (c, b)) 546 (Proc.tc.devRef main_v477) = row (byDist (m ((c.tc : Thread nD τ).loc main_arg3))) 189 (by omega) := by
    after_reads_simp
    rfl
  have h3 : StableHlo.upto hostOps0 (fun b => m (c, b)) 546 (Proc.tc.devRef main_v478) = row (byDist (m ((c.tc : Thread nD τ).loc main_arg3))) 188 (by omega) := by
    after_reads_simp
    rfl
  have h4 : StableHlo.upto hostOps0 (fun b => m (c, b)) 546 (Proc.tc.devRef main_v479) = row (byDist (m ((c.tc : Thread nD τ).loc main_arg3))) 187 (by omega) := by
    after_reads_simp
    rfl
  have h5 : StableHlo.upto hostOps0 (fun b => m (c, b)) 546 (Proc.tc.devRef main_v480) = row (byDist (m ((c.tc : Thread nD τ).loc main_arg3))) 186 (by omega) := by
    after_reads_simp
    rfl
  have h6 : StableHlo.upto hostOps0 (fun b => m (c, b)) 546 (Proc.tc.devRef main_v481) = row (byDist (m ((c.tc : Thread nD τ).loc main_arg3))) 185 (by omega) := by
    after_reads_simp
    rfl
  have h7 : StableHlo.upto hostOps0 (fun b => m (c, b)) 546 (Proc.tc.devRef main_v482) = row (byDist (m ((c.tc : Thread nD τ).loc main_arg3))) 184 (by omega) := by
    after_reads_simp
    rfl
  have h8 : StableHlo.upto hostOps0 (fun b => m (c, b)) 546 (Proc.tc.devRef main_v483) = row (byDist (m ((c.tc : Thread nD τ).loc main_arg3))) 183 (by omega) := by
    after_reads_simp
    rfl
  have h9 : StableHlo.upto hostOps0 (fun b => m (c, b)) 546 (Proc.tc.devRef main_v484) = row (byDist (m ((c.tc : Thread nD τ).loc main_arg3))) 182 (by omega) := by
    after_reads_simp
    rfl
  have h10 : StableHlo.upto hostOps0 (fun b => m (c, b)) 546 (Proc.tc.devRef main_v485) = row (byDist (m ((c.tc : Thread nD τ).loc main_arg3))) 181 (by omega) := by
    after_reads_simp
    rfl
  have h11 : StableHlo.upto hostOps0 (fun b => m (c, b)) 546 (Proc.tc.devRef main_v486) = row (byDist (m ((c.tc : Thread nD τ).loc main_arg3))) 180 (by omega) := by
    after_reads_simp
    rfl
  have h12 : StableHlo.upto hostOps0 (fun b => m (c, b)) 546 (Proc.tc.devRef main_v487) = row (byDist (m ((c.tc : Thread nD τ).loc main_arg3))) 179 (by omega) := by
    after_reads_simp
    rfl
  have h13 : StableHlo.upto hostOps0 (fun b => m (c, b)) 546 (Proc.tc.devRef main_v488) = row (byDist (m ((c.tc : Thread nD τ).loc main_arg3))) 178 (by omega) := by
    after_reads_simp
    rfl
  have h14 : StableHlo.upto hostOps0 (fun b => m (c, b)) 546 (Proc.tc.devRef main_v489) = row (byDist (m ((c.tc : Thread nD τ).loc main_arg3))) 177 (by omega) := by
    after_reads_simp
    rfl
  have h15 : StableHlo.upto hostOps0 (fun b => m (c, b)) 546 (Proc.tc.devRef main_v490) = row (byDist (m ((c.tc : Thread nD τ).loc main_arg3))) 176 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto544 (m : (ℓ : Loc nD τ sig) → Buf (Elt Ideal) ℓ) (c : Dev nD) :
    StableHlo.upto hostOps0 (fun b => m (c, b)) 550 (Proc.tc.devRef main_v544) = rows16 (byDist (m ((c.tc : Thread nD τ).loc main_arg3))) 175 (by omega) := by
  have h0 : StableHlo.upto hostOps0 (fun b => m (c, b)) 547 (Proc.tc.devRef main_v491) = row (byDist (m ((c.tc : Thread nD τ).loc main_arg3))) 175 (by omega) := by
    after_reads_simp
    rfl
  have h1 : StableHlo.upto hostOps0 (fun b => m (c, b)) 547 (Proc.tc.devRef main_v492) = row (byDist (m ((c.tc : Thread nD τ).loc main_arg3))) 174 (by omega) := by
    after_reads_simp
    rfl
  have h2 : StableHlo.upto hostOps0 (fun b => m (c, b)) 547 (Proc.tc.devRef main_v493) = row (byDist (m ((c.tc : Thread nD τ).loc main_arg3))) 173 (by omega) := by
    after_reads_simp
    rfl
  have h3 : StableHlo.upto hostOps0 (fun b => m (c, b)) 547 (Proc.tc.devRef main_v494) = row (byDist (m ((c.tc : Thread nD τ).loc main_arg3))) 172 (by omega) := by
    after_reads_simp
    rfl
  have h4 : StableHlo.upto hostOps0 (fun b => m (c, b)) 547 (Proc.tc.devRef main_v495) = row (byDist (m ((c.tc : Thread nD τ).loc main_arg3))) 171 (by omega) := by
    after_reads_simp
    rfl
  have h5 : StableHlo.upto hostOps0 (fun b => m (c, b)) 547 (Proc.tc.devRef main_v496) = row (byDist (m ((c.tc : Thread nD τ).loc main_arg3))) 170 (by omega) := by
    after_reads_simp
    rfl
  have h6 : StableHlo.upto hostOps0 (fun b => m (c, b)) 547 (Proc.tc.devRef main_v497) = row (byDist (m ((c.tc : Thread nD τ).loc main_arg3))) 169 (by omega) := by
    after_reads_simp
    rfl
  have h7 : StableHlo.upto hostOps0 (fun b => m (c, b)) 547 (Proc.tc.devRef main_v498) = row (byDist (m ((c.tc : Thread nD τ).loc main_arg3))) 168 (by omega) := by
    after_reads_simp
    rfl
  have h8 : StableHlo.upto hostOps0 (fun b => m (c, b)) 547 (Proc.tc.devRef main_v499) = row (byDist (m ((c.tc : Thread nD τ).loc main_arg3))) 167 (by omega) := by
    after_reads_simp
    rfl
  have h9 : StableHlo.upto hostOps0 (fun b => m (c, b)) 547 (Proc.tc.devRef main_v500) = row (byDist (m ((c.tc : Thread nD τ).loc main_arg3))) 166 (by omega) := by
    after_reads_simp
    rfl
  have h10 : StableHlo.upto hostOps0 (fun b => m (c, b)) 547 (Proc.tc.devRef main_v501) = row (byDist (m ((c.tc : Thread nD τ).loc main_arg3))) 165 (by omega) := by
    after_reads_simp
    rfl
  have h11 : StableHlo.upto hostOps0 (fun b => m (c, b)) 547 (Proc.tc.devRef main_v502) = row (byDist (m ((c.tc : Thread nD τ).loc main_arg3))) 164 (by omega) := by
    after_reads_simp
    rfl
  have h12 : StableHlo.upto hostOps0 (fun b => m (c, b)) 547 (Proc.tc.devRef main_v503) = row (byDist (m ((c.tc : Thread nD τ).loc main_arg3))) 163 (by omega) := by
    after_reads_simp
    rfl
  have h13 : StableHlo.upto hostOps0 (fun b => m (c, b)) 547 (Proc.tc.devRef main_v504) = row (byDist (m ((c.tc : Thread nD τ).loc main_arg3))) 162 (by omega) := by
    after_reads_simp
    rfl
  have h14 : StableHlo.upto hostOps0 (fun b => m (c, b)) 547 (Proc.tc.devRef main_v505) = row (byDist (m ((c.tc : Thread nD τ).loc main_arg3))) 161 (by omega) := by
    after_reads_simp
    rfl
  have h15 : StableHlo.upto hostOps0 (fun b => m (c, b)) 547 (Proc.tc.devRef main_v506) = row (byDist (m ((c.tc : Thread nD τ).loc main_arg3))) 160 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto545 (m : (ℓ : Loc nD τ sig) → Buf (Elt Ideal) ℓ) (c : Dev nD) :
    StableHlo.upto hostOps0 (fun b => m (c, b)) 550 (Proc.tc.devRef main_v545) = rows16 (byDist (m ((c.tc : Thread nD τ).loc main_arg3))) 159 (by omega) := by
  have h0 : StableHlo.upto hostOps0 (fun b => m (c, b)) 548 (Proc.tc.devRef main_v507) = row (byDist (m ((c.tc : Thread nD τ).loc main_arg3))) 159 (by omega) := by
    after_reads_simp
    rfl
  have h1 : StableHlo.upto hostOps0 (fun b => m (c, b)) 548 (Proc.tc.devRef main_v508) = row (byDist (m ((c.tc : Thread nD τ).loc main_arg3))) 158 (by omega) := by
    after_reads_simp
    rfl
  have h2 : StableHlo.upto hostOps0 (fun b => m (c, b)) 548 (Proc.tc.devRef main_v509) = row (byDist (m ((c.tc : Thread nD τ).loc main_arg3))) 157 (by omega) := by
    after_reads_simp
    rfl
  have h3 : StableHlo.upto hostOps0 (fun b => m (c, b)) 548 (Proc.tc.devRef main_v510) = row (byDist (m ((c.tc : Thread nD τ).loc main_arg3))) 156 (by omega) := by
    after_reads_simp
    rfl
  have h4 : StableHlo.upto hostOps0 (fun b => m (c, b)) 548 (Proc.tc.devRef main_v511) = row (byDist (m ((c.tc : Thread nD τ).loc main_arg3))) 155 (by omega) := by
    after_reads_simp
    rfl
  have h5 : StableHlo.upto hostOps0 (fun b => m (c, b)) 548 (Proc.tc.devRef main_v512) = row (byDist (m ((c.tc : Thread nD τ).loc main_arg3))) 154 (by omega) := by
    after_reads_simp
    rfl
  have h6 : StableHlo.upto hostOps0 (fun b => m (c, b)) 548 (Proc.tc.devRef main_v513) = row (byDist (m ((c.tc : Thread nD τ).loc main_arg3))) 153 (by omega) := by
    after_reads_simp
    rfl
  have h7 : StableHlo.upto hostOps0 (fun b => m (c, b)) 548 (Proc.tc.devRef main_v514) = row (byDist (m ((c.tc : Thread nD τ).loc main_arg3))) 152 (by omega) := by
    after_reads_simp
    rfl
  have h8 : StableHlo.upto hostOps0 (fun b => m (c, b)) 548 (Proc.tc.devRef main_v515) = row (byDist (m ((c.tc : Thread nD τ).loc main_arg3))) 151 (by omega) := by
    after_reads_simp
    rfl
  have h9 : StableHlo.upto hostOps0 (fun b => m (c, b)) 548 (Proc.tc.devRef main_v516) = row (byDist (m ((c.tc : Thread nD τ).loc main_arg3))) 150 (by omega) := by
    after_reads_simp
    rfl
  have h10 : StableHlo.upto hostOps0 (fun b => m (c, b)) 548 (Proc.tc.devRef main_v517) = row (byDist (m ((c.tc : Thread nD τ).loc main_arg3))) 149 (by omega) := by
    after_reads_simp
    rfl
  have h11 : StableHlo.upto hostOps0 (fun b => m (c, b)) 548 (Proc.tc.devRef main_v518) = row (byDist (m ((c.tc : Thread nD τ).loc main_arg3))) 148 (by omega) := by
    after_reads_simp
    rfl
  have h12 : StableHlo.upto hostOps0 (fun b => m (c, b)) 548 (Proc.tc.devRef main_v519) = row (byDist (m ((c.tc : Thread nD τ).loc main_arg3))) 147 (by omega) := by
    after_reads_simp
    rfl
  have h13 : StableHlo.upto hostOps0 (fun b => m (c, b)) 548 (Proc.tc.devRef main_v520) = row (byDist (m ((c.tc : Thread nD τ).loc main_arg3))) 146 (by omega) := by
    after_reads_simp
    rfl
  have h14 : StableHlo.upto hostOps0 (fun b => m (c, b)) 548 (Proc.tc.devRef main_v521) = row (byDist (m ((c.tc : Thread nD τ).loc main_arg3))) 145 (by omega) := by
    after_reads_simp
    rfl
  have h15 : StableHlo.upto hostOps0 (fun b => m (c, b)) 548 (Proc.tc.devRef main_v522) = row (byDist (m ((c.tc : Thread nD τ).loc main_arg3))) 144 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto546 (m : (ℓ : Loc nD τ sig) → Buf (Elt Ideal) ℓ) (c : Dev nD) :
    StableHlo.upto hostOps0 (fun b => m (c, b)) 550 (Proc.tc.devRef main_v546) = rows16 (byDist (m ((c.tc : Thread nD τ).loc main_arg3))) 143 (by omega) := by
  have h0 : StableHlo.upto hostOps0 (fun b => m (c, b)) 549 (Proc.tc.devRef main_v523) = row (byDist (m ((c.tc : Thread nD τ).loc main_arg3))) 143 (by omega) := by
    after_reads_simp
    rfl
  have h1 : StableHlo.upto hostOps0 (fun b => m (c, b)) 549 (Proc.tc.devRef main_v524) = row (byDist (m ((c.tc : Thread nD τ).loc main_arg3))) 142 (by omega) := by
    after_reads_simp
    rfl
  have h2 : StableHlo.upto hostOps0 (fun b => m (c, b)) 549 (Proc.tc.devRef main_v525) = row (byDist (m ((c.tc : Thread nD τ).loc main_arg3))) 141 (by omega) := by
    after_reads_simp
    rfl
  have h3 : StableHlo.upto hostOps0 (fun b => m (c, b)) 549 (Proc.tc.devRef main_v526) = row (byDist (m ((c.tc : Thread nD τ).loc main_arg3))) 140 (by omega) := by
    after_reads_simp
    rfl
  have h4 : StableHlo.upto hostOps0 (fun b => m (c, b)) 549 (Proc.tc.devRef main_v527) = row (byDist (m ((c.tc : Thread nD τ).loc main_arg3))) 139 (by omega) := by
    after_reads_simp
    rfl
  have h5 : StableHlo.upto hostOps0 (fun b => m (c, b)) 549 (Proc.tc.devRef main_v528) = row (byDist (m ((c.tc : Thread nD τ).loc main_arg3))) 138 (by omega) := by
    after_reads_simp
    rfl
  have h6 : StableHlo.upto hostOps0 (fun b => m (c, b)) 549 (Proc.tc.devRef main_v529) = row (byDist (m ((c.tc : Thread nD τ).loc main_arg3))) 137 (by omega) := by
    after_reads_simp
    rfl
  have h7 : StableHlo.upto hostOps0 (fun b => m (c, b)) 549 (Proc.tc.devRef main_v530) = row (byDist (m ((c.tc : Thread nD τ).loc main_arg3))) 136 (by omega) := by
    after_reads_simp
    rfl
  have h8 : StableHlo.upto hostOps0 (fun b => m (c, b)) 549 (Proc.tc.devRef main_v531) = row (byDist (m ((c.tc : Thread nD τ).loc main_arg3))) 135 (by omega) := by
    after_reads_simp
    rfl
  have h9 : StableHlo.upto hostOps0 (fun b => m (c, b)) 549 (Proc.tc.devRef main_v532) = row (byDist (m ((c.tc : Thread nD τ).loc main_arg3))) 134 (by omega) := by
    after_reads_simp
    rfl
  have h10 : StableHlo.upto hostOps0 (fun b => m (c, b)) 549 (Proc.tc.devRef main_v533) = row (byDist (m ((c.tc : Thread nD τ).loc main_arg3))) 133 (by omega) := by
    after_reads_simp
    rfl
  have h11 : StableHlo.upto hostOps0 (fun b => m (c, b)) 549 (Proc.tc.devRef main_v534) = row (byDist (m ((c.tc : Thread nD τ).loc main_arg3))) 132 (by omega) := by
    after_reads_simp
    rfl
  have h12 : StableHlo.upto hostOps0 (fun b => m (c, b)) 549 (Proc.tc.devRef main_v535) = row (byDist (m ((c.tc : Thread nD τ).loc main_arg3))) 131 (by omega) := by
    after_reads_simp
    rfl
  have h13 : StableHlo.upto hostOps0 (fun b => m (c, b)) 549 (Proc.tc.devRef main_v536) = row (byDist (m ((c.tc : Thread nD τ).loc main_arg3))) 130 (by omega) := by
    after_reads_simp
    rfl
  have h14 : StableHlo.upto hostOps0 (fun b => m (c, b)) 549 (Proc.tc.devRef main_v537) = row (byDist (m ((c.tc : Thread nD τ).loc main_arg3))) 129 (by omega) := by
    after_reads_simp
    rfl
  have h15 : StableHlo.upto hostOps0 (fun b => m (c, b)) 549 (Proc.tc.devRef main_v538) = row (byDist (m ((c.tc : Thread nD τ).loc main_arg3))) 128 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto548 (m : (ℓ : Loc nD τ sig) → Buf (Elt Ideal) ℓ) (c : Dev nD) :
    StableHlo.upto hostOps0 (fun b => m (c, b)) 554 (Proc.tc.devRef main_v548) = broadcastInDim S32x1x128x128 ![0, 2, 3] bcast_S32x128x128_S32x1x128x128_0_2_3
        (broadcastInDim S32x128x128 ![0, 1, 2] bcast_S32x1x1_S32x128x128_0_1_2 (broadcastInDim S32x1x1 ![0, 1] bcast_S32x1_S32x1x1_0_1
          (extractStridedSlice S32x1 ![0, 128] (scaled (m ((c.tc : Thread nD τ).loc main_arg3))) slices_S32x129_S32x1_0_128))) := by
  after_reads_simp
  rfl

set_option maxHeartbeats 4000000 in
private theorem upto549 (m : (ℓ : Loc nD τ sig) → Buf (Elt Ideal) ℓ) (c : Dev nD) :
    StableHlo.upto hostOps0 (fun b => m (c, b)) 554 (Proc.tc.devRef main_v549) = broadcastInDim S32x1x128x128 ![0, 2, 3] bcast_S32x128x128_S32x1x128x128_0_2_3 (window (byDist (m ((c.tc : Thread nD τ).loc main_arg3))) 127 (by omega)) := by
  after_reads_simp
  simp only [Matrix.cons_val]
  rw [upto274, upto275, upto276, upto277, upto278, upto279, upto280, upto281]
  rfl

set_option maxHeartbeats 4000000 in
private theorem upto550 (m : (ℓ : Loc nD τ sig) → Buf (Elt Ideal) ℓ) (c : Dev nD) :
    StableHlo.upto hostOps0 (fun b => m (c, b)) 554 (Proc.tc.devRef main_v550) = broadcastInDim S32x1x128x128 ![0, 2, 3] bcast_S32x128x128_S32x1x128x128_0_2_3 (window (byDist (m ((c.tc : Thread nD τ).loc main_arg3))) 255 (by omega)) := by
  after_reads_simp
  simp only [Matrix.cons_val]
  rw [upto539, upto540, upto541, upto542, upto543, upto544, upto545, upto546]
  rfl

set_option maxHeartbeats 4000000 in
/-- The table handed to the kernel. -/
theorem V_table (m : (ℓ : Loc nD τ sig) → Buf (Elt Ideal) ℓ) (c : Dev nD) :
    V m c main_v551 = table (byDist (m ((c.tc : Thread nD τ).loc main_arg3))) (m ((c.tc : Thread nD τ).loc main_arg3)) := by
  unfold V
  after_reads_simp
  simp only [Matrix.cons_val]
  rw [upto548, upto549, upto550]
  rfl

/-- The queries handed to the kernel. -/
theorem V_q (m : (ℓ : Loc nD τ sig) → Buf (Elt Ideal) ℓ) (c : Dev nD) (r : Fin 16384) (d : Fin 4096) :
    V m c main_v5 (ix2 r d) = Ideal.div (m ((c.tc : Thread nD τ).loc main_arg0) (ix2 r d)) (Ideal.sqrt (Ideal.ofBits .f32 1124073472#32) * Ideal.log (Ideal.ofBits .f32 1073741824#32)) := by
  unfold V
  after_reads_at

/-- The keys and values handed to the kernel. -/
theorem V_kv (m : (ℓ : Loc nD τ sig) → Buf (Elt Ideal) ℓ) (c : Dev nD) (r : Fin 16384) (d : Fin 8192) :
    V m c main_v6 (ix2 r d) = m ((c.tc : Thread nD τ).loc main_arg1) (ix2 r d) := by
  unfold V
  after_reads_at

end Cert.Band.Ker

end
-- ==== Proof.Head.lean ====
module

public import proofs.«01_k».proof.Proof.Gen.KernelIdeal.Value
public import Idealize.ShloMosaic.Lib.Pointwise
public import Idealize.ShloMosaic.Lib.Pipeline.ValueKit

/-! One head of one query tile, as the kernel computes it: the windowed scores, their softmax, the weighted
values and the gate, each read at an index. -/

@[expose] public section

set_option maxRecDepth 16384

noncomputable section

namespace Cert.Band.Ker

open Idealize.ShloMosaic Idealize.ShloMosaic.TcCoe Idealize.SL.Sem
open Cert.KernelIdeal Cert.KernelIdeal.Gen

/-- The five bias squares side by side. -/
def biases (b0 b1 b2 b3 b4 : Vec Ideal S1x1x128x128 .f32) : FVec Ideal S128x640 .f32 :=
  concatenate S128x640 1 [⟨S128x128, shapeCast S128x128 b0 shapeCasts_S1x1x128x128_S128x128⟩,
    ⟨S128x128, shapeCast S128x128 b1 shapeCasts_S1x1x128x128_S128x128⟩, ⟨S128x128, shapeCast S128x128 b2 shapeCasts_S1x1x128x128_S128x128⟩,
    ⟨S128x128, shapeCast S128x128 b3 shapeCasts_S1x1x128x128_S128x128⟩, ⟨S128x128, shapeCast S128x128 b4 shapeCasts_S1x1x128x128_S128x128⟩]
    concatenates_S128x128_S128x128_S128x128_S128x128_S128x128_S128x640_d1

/-- The products of the tile's queries with the window's keys. -/
def qk (q : FVec Ideal S128x128 .bf16) (k : FVec Ideal S640x128 .bf16) : FVec Ideal S128x640 .f32 :=
  matmul dot_S128x128_S640x128_S128x640_1_1_0_0_n_n none (shapeCast S128x128 q shapeCasts_S128x128_S128x128)
    (shapeCast S640x128 k shapeCasts_S640x128_S640x128) (constant S128x640 .f32 0x00000000#32)

/-- The scores: products and biases, the keys outside the band at minus infinity. -/
def score (mask : IVec S128x640 1) (s b : FVec Ideal S128x640 .f32) : FVec Ideal S128x640 .f32 :=
  select mask (addf s b) (broadcast S128x640 (Scalar.ofBits .f32 0xFF800000#32))

/-- The largest score of a row. -/
def top (s : FVec Ideal S128x640 .f32) : FVec Ideal S128 .f32 :=
  multiReduction .maximumf [1] S128 s 0xFF800000#32 reduces_S128x640_S128 (.inl rfl) rfl

/-- The weights before their division by the row's sum. -/
def weight (s : FVec Ideal S128x640 .f32) : FVec Ideal S128x640 .f32 :=
  exp2 (subf s (broadcastTo S128x640 (shapeCast S128x1 (top s) shapeCasts_S128_S128x1) broadcasts_S128x1_S128x640))

/-- The sum of a row's weights. -/
def total (w : FVec Ideal S128x640 .f32) : FVec Ideal S128 .f32 :=
  multiReduction .add [1] S128 w 0x00000000#32 reduces_S128x640_S128 (.inl rfl) rfl

/-- The weighted values. -/
def mix (w : FVec Ideal S128x640 .f32) (v : FVec Ideal S640x128 .bf16) : FVec Ideal S128x128 .f32 :=
  matmul dot_S128x640_S640x128_S128x128_1_0_0_1_n_n none (truncf .bf16 w bitsLt_bf16_f32)
    (shapeCast S640x128 v shapeCasts_S640x128_S640x128) (constant S128x128 .f32 0x00000000#32)

/-- The head's result from its scores: softmax, values, gate. -/
def headOut (s : FVec Ideal S128x640 .f32) (v : FVec Ideal S640x128 .bf16) (g : FVec Ideal S128x128 .f32) : FVec Ideal S128x128 .bf16 :=
  truncf .bf16 (mulf (divf (mix (weight s) v)
    (broadcastTo S128x128 (shapeCast S128x1 (total (weight s)) shapeCasts_S128_S128x1) broadcasts_S128x1_S128x128))
    (mulf g (logistic g))) bitsLt_bf16_f32

theorem biases_at (b0 b1 b2 b3 b4 : Vec Ideal S1x1x128x128 .f32) (i : Fin 128) (r : Fin 5) (j : Fin 128) :
    biases b0 b1 b2 b3 b4 (ix2 i ⟨r * 128 + j, by omega⟩) = (![b0, b1, b2, b3, b4] r) (ix4 0 0 i j) := by
  have hj := j.isLt
  fin_cases r
  · pointwise [biases]
  · pointwise [biases]
  · pointwise [biases]
    rw [dif_neg (by omega), dif_neg (by omega), dif_pos (by omega)]
    exact congrArg b2 (congrArg (ix4 0 0 i) (Fin.ext (by show 256 + (j : ℕ) - 128 - 128 = j; omega)))
  · pointwise [biases]
    rw [dif_neg (by omega), dif_neg (by omega), dif_neg (by omega), dif_pos (by omega)]
    exact congrArg b3 (congrArg (ix4 0 0 i) (Fin.ext (by show 384 + (j : ℕ) - 128 - 128 - 128 = j; omega)))
  · pointwise [biases]
    rw [dif_neg (by omega), dif_neg (by omega), dif_neg (by omega), dif_neg (by omega)]
    exact congrArg b4 (congrArg (ix4 0 0 i) (Fin.ext (by show 512 + (j : ℕ) - 128 - 128 - 128 - 128 = j; omega)))

theorem qk_at (q : FVec Ideal S128x128 .bf16) (k : FVec Ideal S640x128 .bf16) (i : Fin 128) (j : Fin 640) :
    qk q k (ix2 i j) = ∑ x : Fin 128, q (ix2 i x) * k (ix2 j x) := by
  pointwise [qk]

theorem score_at (mask : IVec S128x640 1) (s b : FVec Ideal S128x640 .f32) (i : Fin 128) (j : Fin 640) :
    score mask s b (ix2 i j) = Scalar.select (mask (ix2 i j)) (s (ix2 i j) + b (ix2 i j)) (Ideal.ofBits .f32 4286578688#32) := by
  pointwise [score]

theorem top_at (s : FVec Ideal S128x640 .f32) (i : Fin 128) :
    top s (ix1 i) = Finset.univ.fold max (Ideal.ofBits .f32 4286578688#32) fun j : Fin 640 => s (ix2 i j) := by
  pointwise [top]

theorem weight_at (s : FVec Ideal S128x640 .f32) (i : Fin 128) (j : Fin 640) :
    weight s (ix2 i j) = Ideal.exp2 (s (ix2 i j) - top s (ix1 i)) := by
  pointwise [weight]
  rfl

theorem total_at (w : FVec Ideal S128x640 .f32) (i : Fin 128) :
    total w (ix1 i) = ∑ j : Fin 640, w (ix2 i j) := by
  pointwise [total]

theorem mix_at (w : FVec Ideal S128x640 .f32) (v : FVec Ideal S640x128 .bf16) (i d : Fin 128) :
    mix w v (ix2 i d) = ∑ j : Fin 640, w (ix2 i j) * v (ix2 j d) := by
  pointwise [mix]

theorem headOut_at (s : FVec Ideal S128x640 .f32) (v : FVec Ideal S640x128 .bf16) (g : FVec Ideal S128x128 .f32) (i d : Fin 128) :
    headOut s v g (ix2 i d) = Ideal.div (mix (weight s) v (ix2 i d)) (total (weight s) (ix1 i))
      * (g (ix2 i d) * Ideal.div 1 (1 + Ideal.exp (-g (ix2 i d)))) := by
  pointwise [headOut]
  rfl

end Cert.Band.Ker
-- ==== Proof.Window.lean ====
module

public import proofs.«01_k».proof.Proof.Gen.KernelIdeal.Value
public import Idealize.ShloMosaic.Lib.Pointwise

/-! Where each query tile reads, and which keys of its window it may see. -/

@[expose] public section

set_option maxRecDepth 16384

noncomputable section

namespace Cert.Band.Ker

open Idealize.ShloMosaic Idealize.ShloMosaic.TcCoe Idealize.SL.Sem
open Cert.KernelIdeal Cert.KernelIdeal.Gen

theorem win0 : ∀ (i : grid0.Coords) (u : Fin 4), k0_off1 i (BitVec.ofNat 32 (128 * u.val)) = ![(4 * (i 2).val + u.val - 4) * 128, 0] := by
  decide +kernel

theorem ent0 : ∀ (i : grid0.Coords) (r : Fin 5) (u : Fin 4), k0_off9 i (BitVec.ofNat 32 r.val) (BitVec.ofNat 32 (128 * u.val))
    = ![0, min 2 (r.val + 2 - min (4 * (i 2).val + u.val) 4), 0, 0] := by
  decide +kernel

theorem win1 (i : grid0.Coords) (u : Fin 4) : k0_off2 i (BitVec.ofNat 32 (128 * u.val)) = ![(4 * (i 2).val + u.val - 4) * 128, 128] :=
  (show _ = ![k0_off1 i (BitVec.ofNat 32 (128 * u.val)) 0, 128] from rfl).trans (by rw [win0]; rfl)

theorem ent1 (i : grid0.Coords) (r : Fin 5) (u : Fin 4) : k0_off10 i (BitVec.ofNat 32 r.val) (BitVec.ofNat 32 (128 * u.val))
    = ![1, min 2 (r.val + 2 - min (4 * (i 2).val + u.val) 4), 0, 0] :=
  (show _ = ![1, k0_off9 i (BitVec.ofNat 32 r.val) (BitVec.ofNat 32 (128 * u.val)) 1, 0, 0] from rfl).trans (by rw [ent0]; rfl)

theorem win2 (i : grid0.Coords) (u : Fin 4) : k0_off3 i (BitVec.ofNat 32 (128 * u.val)) = ![(4 * (i 2).val + u.val - 4) * 128, 256] :=
  (show _ = ![k0_off1 i (BitVec.ofNat 32 (128 * u.val)) 0, 256] from rfl).trans (by rw [win0]; rfl)

theorem ent2 (i : grid0.Coords) (r : Fin 5) (u : Fin 4) : k0_off11 i (BitVec.ofNat 32 r.val) (BitVec.ofNat 32 (128 * u.val))
    = ![2, min 2 (r.val + 2 - min (4 * (i 2).val + u.val) 4), 0, 0] :=
  (show _ = ![2, k0_off9 i (BitVec.ofNat 32 r.val) (BitVec.ofNat 32 (128 * u.val)) 1, 0, 0] from rfl).trans (by rw [ent0]; rfl)

theorem win3 (i : grid0.Coords) (u : Fin 4) : k0_off4 i (BitVec.ofNat 32 (128 * u.val)) = ![(4 * (i 2).val + u.val - 4) * 128, 384] :=
  (show _ = ![k0_off1 i (BitVec.ofNat 32 (128 * u.val)) 0, 384] from rfl).trans (by rw [win0]; rfl)

theorem ent3 (i : grid0.Coords) (r : Fin 5) (u : Fin 4) : k0_off12 i (BitVec.ofNat 32 r.val) (BitVec.ofNat 32 (128 * u.val))
    = ![3, min 2 (r.val + 2 - min (4 * (i 2).val + u.val) 4), 0, 0] :=
  (show _ = ![3, k0_off9 i (BitVec.ofNat 32 r.val) (BitVec.ofNat 32 (128 * u.val)) 1, 0, 0] from rfl).trans (by rw [ent0]; rfl)

theorem win4 (i : grid0.Coords) (u : Fin 4) : k0_off5 i (BitVec.ofNat 32 (128 * u.val)) = ![(4 * (i 2).val + u.val - 4) * 128, 512] :=
  (show _ = ![k0_off1 i (BitVec.ofNat 32 (128 * u.val)) 0, 512] from rfl).trans (by rw [win0]; rfl)

theorem ent4 (i : grid0.Coords) (r : Fin 5) (u : Fin 4) : k0_off13 i (BitVec.ofNat 32 r.val) (BitVec.ofNat 32 (128 * u.val))
    = ![4, min 2 (r.val + 2 - min (4 * (i 2).val + u.val) 4), 0, 0] :=
  (show _ = ![4, k0_off9 i (BitVec.ofNat 32 r.val) (BitVec.ofNat 32 (128 * u.val)) 1, 0, 0] from rfl).trans (by rw [ent0]; rfl)

theorem win5 (i : grid0.Coords) (u : Fin 4) : k0_off6 i (BitVec.ofNat 32 (128 * u.val)) = ![(4 * (i 2).val + u.val - 4) * 128, 640] :=
  (show _ = ![k0_off1 i (BitVec.ofNat 32 (128 * u.val)) 0, 640] from rfl).trans (by rw [win0]; rfl)

theorem ent5 (i : grid0.Coords) (r : Fin 5) (u : Fin 4) : k0_off14 i (BitVec.ofNat 32 r.val) (BitVec.ofNat 32 (128 * u.val))
    = ![5, min 2 (r.val + 2 - min (4 * (i 2).val + u.val) 4), 0, 0] :=
  (show _ = ![5, k0_off9 i (BitVec.ofNat 32 r.val) (BitVec.ofNat 32 (128 * u.val)) 1, 0, 0] from rfl).trans (by rw [ent0]; rfl)

theorem win6 (i : grid0.Coords) (u : Fin 4) : k0_off7 i (BitVec.ofNat 32 (128 * u.val)) = ![(4 * (i 2).val + u.val - 4) * 128, 768] :=
  (show _ = ![k0_off1 i (BitVec.ofNat 32 (128 * u.val)) 0, 768] from rfl).trans (by rw [win0]; rfl)

theorem ent6 (i : grid0.Coords) (r : Fin 5) (u : Fin 4) : k0_off15 i (BitVec.ofNat 32 r.val) (BitVec.ofNat 32 (128 * u.val))
    = ![6, min 2 (r.val + 2 - min (4 * (i 2).val + u.val) 4), 0, 0] :=
  (show _ = ![6, k0_off9 i (BitVec.ofNat 32 r.val) (BitVec.ofNat 32 (128 * u.val)) 1, 0, 0] from rfl).trans (by rw [ent0]; rfl)

theorem win7 (i : grid0.Coords) (u : Fin 4) : k0_off8 i (BitVec.ofNat 32 (128 * u.val)) = ![(4 * (i 2).val + u.val - 4) * 128, 896] :=
  (show _ = ![k0_off1 i (BitVec.ofNat 32 (128 * u.val)) 0, 896] from rfl).trans (by rw [win0]; rfl)

theorem ent7 (i : grid0.Coords) (r : Fin 5) (u : Fin 4) : k0_off16 i (BitVec.ofNat 32 r.val) (BitVec.ofNat 32 (128 * u.val))
    = ![7, min 2 (r.val + 2 - min (4 * (i 2).val + u.val) 4), 0, 0] :=
  (show _ = ![7, k0_off9 i (BitVec.ofNat 32 r.val) (BitVec.ofNat 32 (128 * u.val)) 1, 0, 0] from rfl).trans (by rw [ent0]; rfl)

/-- The window's first key, as the kernel computes it. -/
def firstKey (i : grid0.Coords) (o : BitVec 32) : BitVec 32 :=
  let v2 : BitVec 32 := Scalar.addi (Scalar.addi 0#32 (Scalar.muli (BitVec.ofNat 32 (i 2).val) 512#32)) o
  let v3 : BitVec 32 := Scalar.divsi v2 128#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 128#32 0#32)) (Scalar.extui (Scalar.cmpi .slt 128#32 0#32))
  let v17 : BitVec 1 := Scalar.andi (Scalar.cmpi .ne v8 v13) (Scalar.cmpi .ne (Scalar.remsi v2 128#32) 0#32)
  let v19 : BitVec 32 := Scalar.select v17 (Scalar.subi v3 1#32) v3
  Scalar.muli (Scalar.maxsi (Scalar.subi v19 4#32) 0#32) 128#32

/-- The tile's first query, as the kernel computes it. -/
def firstQuery (i : grid0.Coords) (o : BitVec 32) : BitVec 32 :=
  Scalar.addi (Scalar.addi 0#32 (Scalar.muli (BitVec.ofNat 32 (i 2).val) 512#32)) o

/-- The chunk of a query. -/
def chunkQ (i : grid0.Coords) (o : BitVec 32) : IVec S128x640 32 :=
  shrsi (addi (broadcast S128x640 (firstQuery i o)) (iota .tc S128x640 32 [0] iota_S128x640_d0_w32)) (broadcast S128x640 6#32)

/-- The position of a key. -/
def posK (i : grid0.Coords) (o : BitVec 32) : IVec S128x640 32 :=
  addi (broadcast S128x640 (firstKey i o)) (iota .tc S128x640 32 [1] iota_S128x640_d1_w32)

/-- The chunk of a key. -/
def chunkK (i : grid0.Coords) (o : BitVec 32) : IVec S128x640 32 := shrsi (posK i o) (broadcast S128x640 6#32)

/-- The keys a query may see. -/
def mask (i : grid0.Coords) (o : BitVec 32) : IVec S128x640 1 :=
  andi (andi (cmpi .sle (chunkK i o) (chunkQ i o)) (cmpi .sge (chunkK i o) (subi (chunkQ i o) (broadcast S128x640 8#32))))
    (cmpi .slt (posK i o) (broadcast S128x640 2048#32))

private theorem firstKey_eq : ∀ (i : grid0.Coords) (u : Fin 4),
    firstKey i (BitVec.ofNat 32 (128 * u.val)) = BitVec.ofNat 32 ((4 * (i 2).val + u.val - 4) * 128) := by
  decide +kernel

private theorem firstQuery_eq : ∀ (i : grid0.Coords) (u : Fin 4),
    firstQuery i (BitVec.ofNat 32 (128 * u.val)) = BitVec.ofNat 32 ((i 2).val * 512 + 128 * u.val) := by
  decide +kernel

private theorem shift_word (w : ArithUnit) : ∀ x : Fin 2048, IntOp.shrsi w (BitVec.ofNat 32 (x : ℕ)) 6#32 = BitVec.ofNat 32 ((x : ℕ) / 64) := by
  cases w <;> decide +kernel

private theorem inside_word : ∀ x : Fin 2048, IntOp.cmpi .slt (BitVec.ofNat 32 (x : ℕ)) 2048#32 = 1#1 := by decide +kernel

private theorem mask_word : ∀ a b : Fin 32,
    IntOp.andi (IntOp.andi (IntOp.cmpi .sle (BitVec.ofNat 32 (a : ℕ)) (BitVec.ofNat 32 (b : ℕ)))
      (IntOp.cmpi .sge (BitVec.ofNat 32 (a : ℕ)) (IntOp.subi (BitVec.ofNat 32 (b : ℕ)) 8#32))) 1#1
      = BitVec.ofBool (decide ((a : ℕ) ≤ (b : ℕ) ∧ (b : ℕ) ≤ (a : ℕ) + 8)) := by decide +kernel

private theorem add_word (a b : ℕ) : IntOp.addi (BitVec.ofNat 32 a) (BitVec.ofNat 32 b) = BitVec.ofNat 32 (a + b) :=
  (BitVec.ofNat_add a b).symm

/-- A query sees the keys of its own chunk and of the eight before it. -/
theorem mask_at (i : grid0.Coords) (u : Fin 4) (r : Fin 128) (j : Fin 640) :
    mask i (BitVec.ofNat 32 (128 * u.val)) (ix2 r j) = BitVec.ofBool (decide
      (((4 * (i 2).val + u.val - 4) * 128 + j) / 64 ≤ ((i 2).val * 512 + 128 * u.val + r) / 64
        ∧ ((i 2).val * 512 + 128 * u.val + r) / 64 ≤ ((4 * (i 2).val + u.val - 4) * 128 + j) / 64 + 8)) := by
  have hi : (i 2).val < 4 := (i 2).isLt
  have hu := u.isLt
  have hr := r.isLt
  have hj := j.isLt
  pointwise [mask, chunkK, chunkQ, posK]
  rw [firstKey_eq, firstQuery_eq, add_word, add_word, shift_word _ ⟨_, (by omega : (4 * (i 2).val + u.val - 4) * 128 + (j : ℕ) < 2048)⟩,
    shift_word _ ⟨_, (by omega : (i 2).val * 512 + 128 * u.val + (r : ℕ) < 2048)⟩,
    inside_word ⟨_, (by omega : (4 * (i 2).val + u.val - 4) * 128 + (j : ℕ) < 2048)⟩]
  exact mask_word ⟨((4 * (i 2).val + u.val - 4) * 128 + (j : ℕ)) / 64, by omega⟩ ⟨((i 2).val * 512 + 128 * u.val + (r : ℕ)) / 64, by omega⟩

end Cert.Band.Ker
-- ==== Proof.Ref.lean ====
module

public import proofs.«01_k».proof.Proof.Gen.ReferenceIdeal.Run
public import Idealize.ShloMosaic.Lib.Pointwise

/-! The reference's result as one function of the four arguments, in named pieces. -/

@[expose] public section

set_option maxRecDepth 16384

noncomputable section

namespace Cert.Band.Ref

open Idealize.ShloMosaic Idealize.ShloMosaic.TcCoe Idealize.SL.Sem
open Cert.ReferenceIdeal Cert.ReferenceIdeal.Gen

/-- The reference program: the chunk of a key. -/
def kc : IVec S1x2048 32 :=
  select (andi (cmpi .ne (signi (broadcastInDim S1x2048 ![1] bcast_S2048_S1x2048_1 (iotaInDim S2048 32 0))) (broadcastInDim S1x2048 ![] bcast_S_S1x2048 (signi (id (constantI S_ 32 64#32))))) (cmpi .ne (Host.remsi (broadcastInDim S1x2048 ![1] bcast_S2048_S1x2048_1 (iotaInDim S2048 32 0)) (broadcastInDim S1x2048 ![] bcast_S_S1x2048 (id (constantI S_ 32 64#32)))) (broadcastInDim S1x2048 ![] bcast_S_S1x2048 (constantI S_ 32 0#32)))) (subi (Host.divsi (broadcastInDim S1x2048 ![1] bcast_S2048_S1x2048_1 (iotaInDim S2048 32 0)) (broadcastInDim S1x2048 ![] bcast_S_S1x2048 (id (constantI S_ 32 64#32)))) (broadcastInDim S1x2048 ![] bcast_S_S1x2048 (constantI S_ 32 1#32))) (Host.divsi (broadcastInDim S1x2048 ![1] bcast_S2048_S1x2048_1 (iotaInDim S2048 32 0)) (broadcastInDim S1x2048 ![] bcast_S_S1x2048 (id (constantI S_ 32 64#32))))

/-- The reference program: the chunk of a query. -/
def qc : IVec S2048x1 32 :=
  select (andi (cmpi .ne (signi (broadcastInDim S2048x1 ![0] bcast_S2048_S2048x1_0 (iotaInDim S2048 32 0))) (broadcastInDim S2048x1 ![] bcast_S_S2048x1 (signi (id (constantI S_ 32 64#32))))) (cmpi .ne (Host.remsi (broadcastInDim S2048x1 ![0] bcast_S2048_S2048x1_0 (iotaInDim S2048 32 0)) (broadcastInDim S2048x1 ![] bcast_S_S2048x1 (id (constantI S_ 32 64#32)))) (broadcastInDim S2048x1 ![] bcast_S_S2048x1 (constantI S_ 32 0#32)))) (subi (Host.divsi (broadcastInDim S2048x1 ![0] bcast_S2048_S2048x1_0 (iotaInDim S2048 32 0)) (broadcastInDim S2048x1 ![] bcast_S_S2048x1 (id (constantI S_ 32 64#32)))) (broadcastInDim S2048x1 ![] bcast_S_S2048x1 (constantI S_ 32 1#32))) (Host.divsi (broadcastInDim S2048x1 ![0] bcast_S2048_S2048x1_0 (iotaInDim S2048 32 0)) (broadcastInDim S2048x1 ![] bcast_S_S2048x1 (id (constantI S_ 32 64#32))))

/-- The reference program: which keys a query sees. -/
def allowed : IVec S2048x2048 1 :=
  andi (andi (cmpi .sle (broadcastInDim S2048x2048 ![0, 1] bcast_S1x2048_S2048x2048_0_1 kc) (broadcastInDim S2048x2048 ![0, 1] bcast_S2048x1_S2048x2048_0_1 qc)) (cmpi .sge (broadcastInDim S2048x2048 ![0, 1] bcast_S1x2048_S2048x2048_0_1 kc) (broadcastInDim S2048x2048 ![0, 1] bcast_S2048x1_S2048x2048_0_1 (subi qc (broadcastInDim S2048x1 ![] bcast_S_S2048x1 (constantI S_ 32 8#32)))))) (broadcastInDim S2048x2048 ![0, 1] bcast_S1x2048_S2048x2048_0_1 (cmpi .sge (broadcastInDim S1x2048 ![1] bcast_S2048_S1x2048_1 (iotaInDim S2048 32 0)) (broadcastInDim S1x2048 ![] bcast_S_S1x2048 (constantI S_ 32 0#32))))

/-- The reference program: the clipped distance, shifted. -/
def clipped : IVec S2048x2048 32 :=
  addi (minsi (broadcastInDim S2048x2048 ![] bcast_S_S2048x2048 (id (constantI S_ 32 64#32))) (maxsi (broadcastInDim S2048x2048 ![] bcast_S_S2048x2048 (id (constantI S_ 32 4294967232#32))) (subi (broadcastInDim S2048x2048 ![0, 1] bcast_S2048x1_S2048x2048_0_1 (broadcastInDim S2048x1 ![0] bcast_S2048_S2048x1_0 (iotaInDim S2048 32 0))) (broadcastInDim S2048x2048 ![0, 1] bcast_S1x2048_S2048x2048_0_1 (broadcastInDim S1x2048 ![1] bcast_S2048_S1x2048_1 (iotaInDim S2048 32 0)))))) (broadcastInDim S2048x2048 ![] bcast_S_S2048x2048 (constantI S_ 32 64#32))

/-- The reference program: the row of the bias table. -/
def relIdx : IVec S2048x2048 32 :=
  select (cmpi .slt clipped (broadcastInDim S2048x2048 ![] bcast_S_S2048x2048 (constantI S_ 32 0#32))) (addi clipped (broadcastInDim S2048x2048 ![] bcast_S_S2048x2048 (constantI S_ 32 129#32))) clipped

/-- The reference program: the bias, gathered. -/
def biasT (rb : FVec Ideal S32x129 .f32) : FVec Ideal S32x2048x2048 .f32 :=
  Host.gather gather_S32x129_S2048x2048x1_S32x2048x2048_0_1_n_n_1_2_321 rb (broadcastInDim S2048x2048x1 ![0, 1] bcast_S2048x2048_S2048x2048x1_0_1 relIdx)

/-- The reference program: the products of queries and keys. -/
def dots (q : FVec Ideal S16384x4096 .f32) (kv : FVec Ideal S16384x8192 .f32) : FVec Ideal S8x32x2048x2048 .f32 :=
  Host.dotGeneral dot_S8x2048x32x128_S8x2048x32x128_S8x32x2048x2048_3_3_1_1_02_02 none (shapeCast _ q shapeCasts_S16384x4096_S8x2048x32x128) (shapeCast _ (extractStridedSlice S16384x4096 ![0, 0] kv slices_S16384x8192_S16384x4096_0_0) shapeCasts_S16384x4096_S8x2048x32x128)

/-- The reference program: the masked logits. -/
def logits (q : FVec Ideal S16384x4096 .f32) (kv : FVec Ideal S16384x8192 .f32) (rb : FVec Ideal S32x129 .f32) : FVec Ideal S8x32x2048x2048 .f32 :=
  select (broadcastInDim S8x32x2048x2048 ![0, 1, 2, 3] bcast_S1x1x2048x2048_S8x32x2048x2048_0_1_2_3 (broadcastInDim S1x1x2048x2048 ![2, 3] bcast_S2048x2048_S1x1x2048x2048_2_3 allowed)) (addf (Host.divf (dots q kv) (broadcastInDim S8x32x2048x2048 ![] bcast_S_S8x32x2048x2048 (Host.sqrt (constant S_ .f32 0x43000000#32)))) (broadcastInDim S8x32x2048x2048 ![0, 1, 2, 3] bcast_S1x32x2048x2048_S8x32x2048x2048_0_1_2_3 (broadcastInDim S1x32x2048x2048 ![1, 2, 3] bcast_S32x2048x2048_S1x32x2048x2048_1_2_3 (biasT rb)))) (broadcastInDim S8x32x2048x2048 ![] bcast_S_S8x32x2048x2048 (id (constant S_ .f32 0xFF800000#32)))

/-- The reference program: the largest logit of a row. -/
def rowMax (L : FVec Ideal S8x32x2048x2048 .f32) : FVec Ideal S8x32x2048 .f32 :=
  maximumf (broadcastInDim S8x32x2048 ![] bcast_S_S8x32x2048 (constant S_ .f32 0xFF800000#32)) (Host.reduce FloatOps.maximumf L (constant S_ .f32 0xFF800000#32) reducesTo_S8x32x2048x2048_S8x32x2048_d3 h_S_)

/-- The reference program: the exponentials of a row. -/
def weights (L : FVec Ideal S8x32x2048x2048 .f32) : FVec Ideal S8x32x2048x2048 .f32 :=
  Host.exp (subf L (broadcastInDim S8x32x2048x2048 ![0, 1, 2, 3] bcast_S8x32x2048x1_S8x32x2048x2048_0_1_2_3 (broadcastInDim S8x32x2048x1 ![0, 1, 2] bcast_S8x32x2048_S8x32x2048x1_0_1_2 (rowMax L))))

/-- The reference program: their sum. -/
def rowSum (L : FVec Ideal S8x32x2048x2048 .f32) : FVec Ideal S8x32x2048 .f32 :=
  Host.reduceAdd (weights L) (constant S_ .f32 0x00000000#32) reducesTo_S8x32x2048x2048_S8x32x2048_d3 h_S_

/-- The reference program: the weighted values, heads apart. -/
def heads (kv : FVec Ideal S16384x8192 .f32) (L : FVec Ideal S8x32x2048x2048 .f32) : FVec Ideal S8x32x128x2048 .f32 :=
  Host.dotGeneral dot_S8x2048x32x128_S8x32x2048x2048_S8x32x128x2048_1_3_3_2_02_01 none (shapeCast _ (extractStridedSlice S16384x4096 ![0, 4096] kv slices_S16384x8192_S16384x4096_0_4096) shapeCasts_S16384x4096_S8x2048x32x128) (Host.divf (weights L) (broadcastInDim S8x32x2048x2048 ![0, 1, 2, 3] bcast_S8x32x2048x1_S8x32x2048x2048_0_1_2_3 (broadcastInDim S8x32x2048x1 ![0, 1, 2] bcast_S8x32x2048_S8x32x2048x1_0_1_2 (rowSum L))))

/-- The reference program: the whole reference. -/
def REF (q : FVec Ideal S16384x4096 .f32) (kv : FVec Ideal S16384x8192 .f32) (rb : FVec Ideal S32x129 .f32) (gate : FVec Ideal S16384x4096 .f32) : FVec Ideal S16384x4096 .bf16 :=
  truncf .bf16 (mulf (shapeCast _ (transpose S8x2048x32x128 [0, 3, 1, 2] (heads kv (logits q kv rb)) transposes_S8x32x128x2048_S8x2048x32x128_0_3_1_2) shapeCasts_S8x2048x32x128_S16384x4096) (mulf gate (Host.divf (broadcastInDim S16384x4096 ![] bcast_S_S16384x4096 (constant S_ .f32 0x3F800000#32)) (addf (broadcastInDim S16384x4096 ![] bcast_S_S16384x4096 (constant S_ .f32 0x3F800000#32)) (Host.exp (Host.negf gate)))))) bitsLt_bf16_f32

set_option maxHeartbeats 4000000 in
/-- The run's result is that reference of the four arguments. -/
theorem res_eq (m : (ℓ : Loc nD τ sig) → Buf (Elt Ideal) ℓ) (c : Dev nD) :
    Cert.ReferenceIdeal.Value.res_out0 m c = REF (m ((c.tc : Thread nD τ).loc main_arg0)) (m ((c.tc : Thread nD τ).loc main_arg1))
      (m ((c.tc : Thread nD τ).loc main_arg3)) (m ((c.tc : Thread nD τ).loc main_arg2)) := by
  unfold Cert.ReferenceIdeal.Value.res_out0 Cert.ReferenceIdeal.Value.res_main_v65
  rfl

end Cert.Band.Ref

end
-- ==== Proof.RefAt.lean ====
module

public import proofs.«01_k».proof.Proof.Ref
public import Idealize.ShloMosaic.Lib.Pipeline.ValueKit

/-! The reference's result read at an index: the softmax over all keys, its masked logits in closed form. -/

@[expose] public section

set_option maxRecDepth 16384

noncomputable section

namespace Cert.Band.Ref

open Idealize.ShloMosaic Idealize.ShloMosaic.TcCoe Idealize.SL.Sem
open Cert.ReferenceIdeal Cert.ReferenceIdeal.Gen

theorem kc_at (k : Fin 2048) : kc (ix2 0 k) = BitVec.ofNat 32 ((k : ℕ) / 64) := by
  pointwise [kc, id_eq]
  revert k
  decide +kernel

theorem qc_at (k : Fin 2048) : qc (ix2 k 0) = BitVec.ofNat 32 ((k : ℕ) / 64) := by
  pointwise [qc, id_eq]
  revert k
  decide +kernel

private theorem allowed_word : ∀ a b : Fin 32,
    IntOp.andi (IntOp.cmpi .sle (BitVec.ofNat 32 (a : ℕ)) (BitVec.ofNat 32 (b : ℕ)))
      (IntOp.cmpi .sge (BitVec.ofNat 32 (a : ℕ)) (IntOp.subi (BitVec.ofNat 32 (b : ℕ)) 8#32))
      = BitVec.ofBool (decide ((a : ℕ) ≤ (b : ℕ) ∧ (b : ℕ) ≤ (a : ℕ) + 8)) := by decide +kernel

private theorem nonneg_word : ∀ k : Fin 2048, IntOp.cmpi .sge (BitVec.ofNat 32 (k : ℕ)) 0#32 = 1#1 := by decide +kernel

/-- A query sees the keys of its own chunk and of the eight before it. -/
theorem allowed_at (i k : Fin 2048) : allowed (ix2 i k) = BitVec.ofBool (decide ((k : ℕ) / 64 ≤ (i : ℕ) / 64 ∧ (i : ℕ) / 64 ≤ (k : ℕ) / 64 + 8)) := by
  pointwise [allowed, kc_at, qc_at]
  rw [nonneg_word k, allowed_word ⟨(k : ℕ) / 64, by omega⟩ ⟨(i : ℕ) / 64, by omega⟩]
  generalize BitVec.ofBool _ = w
  revert w
  decide

private theorem clip_pos : ∀ d : Fin 2048,
    Scalar.select (IntOp.cmpi .slt (IntOp.addi (IntOp.minsi (64#32) (IntOp.maxsi (4294967232#32) (BitVec.ofNat 32 (d : ℕ)))) 64#32) 0#32)
      (IntOp.addi (IntOp.addi (IntOp.minsi (64#32) (IntOp.maxsi (4294967232#32) (BitVec.ofNat 32 (d : ℕ)))) 64#32) 129#32)
      (IntOp.addi (IntOp.minsi (64#32) (IntOp.maxsi (4294967232#32) (BitVec.ofNat 32 (d : ℕ)))) 64#32)
      = BitVec.ofNat 32 (min 128 ((d : ℕ) + 64)) := by decide +kernel

private theorem clip_neg : ∀ d : Fin 2048,
    Scalar.select (IntOp.cmpi .slt (IntOp.addi (IntOp.minsi (64#32) (IntOp.maxsi (4294967232#32) (0#32 - BitVec.ofNat 32 (d : ℕ)))) 64#32) 0#32)
      (IntOp.addi (IntOp.addi (IntOp.minsi (64#32) (IntOp.maxsi (4294967232#32) (0#32 - BitVec.ofNat 32 (d : ℕ)))) 64#32) 129#32)
      (IntOp.addi (IntOp.minsi (64#32) (IntOp.maxsi (4294967232#32) (0#32 - BitVec.ofNat 32 (d : ℕ)))) 64#32)
      = BitVec.ofNat 32 (64 - (d : ℕ)) := by decide +kernel

/-- The bias row of a query and a key: their distance, clipped to [-64, 64] and shifted to start at 0. -/
theorem relIdx_at (i k : Fin 2048) : relIdx (ix2 i k) = BitVec.ofNat 32 (min 128 ((i : ℕ) + 64 - k)) := by
  pointwise [relIdx, clipped, id_eq]
  rcases Nat.le_total (k : ℕ) (i : ℕ) with h | h
  · have e : IntOp.subi (BitVec.ofNat 32 (i : ℕ)) (BitVec.ofNat 32 (k : ℕ)) = BitVec.ofNat 32 ((i : ℕ) - k) := by
      show BitVec.ofNat 32 (i : ℕ) - BitVec.ofNat 32 (k : ℕ) = _
      apply BitVec.eq_of_toNat_eq
      simp only [BitVec.toNat_sub, BitVec.toNat_ofNat]
      omega
    rw [e, clip_pos ⟨(i : ℕ) - k, by omega⟩]
    congr 1
    show min 128 ((i : ℕ) - k + 64) = _
    omega
  · have e : IntOp.subi (BitVec.ofNat 32 (i : ℕ)) (BitVec.ofNat 32 (k : ℕ)) = 0#32 - BitVec.ofNat 32 ((k : ℕ) - i) := by
      show BitVec.ofNat 32 (i : ℕ) - BitVec.ofNat 32 (k : ℕ) = _
      apply BitVec.eq_of_toNat_eq
      simp only [BitVec.toNat_sub, BitVec.toNat_ofNat]
      omega
    rw [e, clip_neg ⟨(k : ℕ) - i, by omega⟩]
    congr 1
    show 64 - ((k : ℕ) - i) = _
    omega

private theorem toInt_small : ∀ n : Fin 129, (BitVec.ofNat 32 (n : ℕ)).toInt.toNat = n := by decide +kernel

/-- The gathered bias: the table's entry at the clipped distance. -/
theorem biasT_at (rb : FVec Ideal S32x129 .f32) (h : Fin 32) (i k : Fin 2048) :
    biasT rb (ix3 h i k) = rb (ix2 h ⟨min 128 ((i : ℕ) + 64 - k), by omega⟩) := by
  unfold biasT
  generalize hstart : broadcastInDim S2048x2048x1 ![0, 1] bcast_S2048x2048_S2048x2048x1_0_1 relIdx = start
  have hs : start (ix3 i k 0) = BitVec.ofNat 32 (min 128 ((i : ℕ) + 64 - k)) := by
    rw [← hstart]
    pointwise [relIdx_at]
  unfold Host.gather
  congr 1
  funext a
  refine Fin.ext ?_
  show (gather_S32x129_S2048x2048x1_S32x2048x2048_0_1_n_n_1_2_321).start (ix3 h i k) start a
      + (gather_S32x129_S2048x2048x1_S32x2048x2048_0_1_n_n_1_2_321).batchCoord (ix3 h i k) a
      + (gather_S32x129_S2048x2048x1_S32x2048x2048_0_1_n_n_1_2_321).offCoord (ix3 h i k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (List.not_mem_nil)]
    unfold GatherDims.start
    rw [dif_neg (show (0 : Fin 2) ∉ (gather_S32x129_S2048x2048x1_S32x2048x2048_0_1_n_n_1_2_321).startIndexMap from (by decide : (0 : Fin 2) ∉ [(1 : Fin 2)]))]
    simp only [Nat.zero_add, Nat.add_zero]
    rfl
  · rw [GatherDims.batchCoord_eq_zero _ _ _ (List.not_mem_nil),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S32x129_S2048x2048x1_S32x2048x2048_0_1_n_n_1_2_321).startIndexMap from List.mem_singleton.mpr rfl)]
    have hsi : (gather_S32x129_S2048x2048x1_S32x2048x2048_0_1_n_n_1_2_321).siIdx (ix3 h i k)
        ⟨List.idxOf (1 : Fin 2) (gather_S32x129_S2048x2048x1_S32x2048x2048_0_1_n_n_1_2_321).startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [hsi, hs, toInt_small ⟨min 128 ((i : ℕ) + 64 - k), by omega⟩]
    show min (min 128 ((i : ℕ) + 64 - k)) (129 - 1) = min 128 ((i : ℕ) + 64 - k)
    omega

/-- A masked logit of the reference. -/
theorem logits_at (q : FVec Ideal S16384x4096 .f32) (kv : FVec Ideal S16384x8192 .f32) (rb : FVec Ideal S32x129 .f32)
    (b : Fin 8) (h : Fin 32) (i k : Fin 2048) :
    logits q kv rb (ix4 b h i k) = if (k : ℕ) / 64 ≤ (i : ℕ) / 64 ∧ (i : ℕ) / 64 ≤ (k : ℕ) / 64 + 8 then
      Ideal.div (∑ x : Fin 128, q (ix2 ⟨b * 2048 + i, by omega⟩ ⟨h * 128 + x, by omega⟩) * kv (ix2 ⟨b * 2048 + k, by omega⟩ ⟨h * 128 + x, by omega⟩))
        (Ideal.sqrt (Ideal.ofBits .f32 1124073472#32)) + rb (ix2 h ⟨min 128 ((i : ℕ) + 64 - k), by omega⟩)
      else Ideal.ofBits .f32 4286578688#32 := by
  pointwise [logits, dots, allowed_at, biasT_at, id_eq]

private theorem reduce_at (L : FVec Ideal S8x32x2048x2048 .f32) (z : FVec Ideal S_ .f32) (b : Fin 8) (h : Fin 32) (i : Fin 2048) :
    Host.reduce FloatOps.maximumf L z reducesTo_S8x32x2048x2048_S8x32x2048_d3 h_S_ (ix3 b h i)
      = Finset.univ.fold max (z (Shape.Idx.first h_S_)) fun x : Fin 2048 => L (ix4 b h i x) := by
  simp only [pointwise]

private theorem max_at (L : FVec Ideal S8x32x2048x2048 .f32) (z : FVec Ideal S_ .f32) (b : Fin 8) (h : Fin 32) (i : Fin 2048) :
    maximumf (broadcastInDim S8x32x2048 ![] bcast_S_S8x32x2048 z) (Host.reduce FloatOps.maximumf L z reducesTo_S8x32x2048x2048_S8x32x2048_d3 h_S_) (ix3 b h i)
      = max (z ix0) (Finset.univ.fold max (z (Shape.Idx.first h_S_)) fun x : Fin 2048 => L (ix4 b h i x)) := by
  rw [← reduce_at]
  generalize Host.reduce FloatOps.maximumf L z reducesTo_S8x32x2048x2048_S8x32x2048_d3 h_S_ = R
  pointwise

private theorem const_at (i : S_.Idx) : (constant S_ .f32 0xFF800000#32 : FVec Ideal S_ .f32) i = Ideal.ofBits .f32 4286578688#32 := rfl

/-- The largest logit of a row. -/
theorem rowMax_at (L : FVec Ideal S8x32x2048x2048 .f32) (b : Fin 8) (h : Fin 32) (i : Fin 2048) :
    rowMax L (ix3 b h i) = max (Ideal.ofBits .f32 4286578688#32) (Finset.univ.fold max (Ideal.ofBits .f32 4286578688#32) fun x : Fin 2048 => L (ix4 b h i x)) :=
  (max_at L _ b h i).trans (by rw [const_at, const_at])

/-- The exponentials of a row. -/
theorem weights_at (L : FVec Ideal S8x32x2048x2048 .f32) (b : Fin 8) (h : Fin 32) (i k : Fin 2048) :
    weights L (ix4 b h i k) = Ideal.exp (L (ix4 b h i k) - rowMax L (ix3 b h i)) := by
  pointwise [weights]

/-- Their sum. -/
theorem rowSum_at (L : FVec Ideal S8x32x2048x2048 .f32) (b : Fin 8) (h : Fin 32) (i : Fin 2048) :
    rowSum L (ix3 b h i) = ∑ x : Fin 2048, weights L (ix4 b h i x) := by
  pointwise [rowSum]

/-- The weighted values. -/
theorem heads_at (kv : FVec Ideal S16384x8192 .f32) (L : FVec Ideal S8x32x2048x2048 .f32) (b : Fin 8) (h : Fin 32) (d : Fin 128) (i : Fin 2048) :
    heads kv L (ix4 b h d i) = ∑ x : Fin 2048, kv (ix2 ⟨b * 2048 + x, by omega⟩ ⟨4096 + (h * 128 + d), by omega⟩)
      * Ideal.div (weights L (ix4 b h i x)) (rowSum L (ix3 b h i)) := by
  pointwise [heads]

/-- The reference at an index. -/
theorem REF_at (q : FVec Ideal S16384x4096 .f32) (kv : FVec Ideal S16384x8192 .f32) (rb : FVec Ideal S32x129 .f32)
    (gate : FVec Ideal S16384x4096 .f32) (r : Fin 16384) (d : Fin 4096) :
    REF q kv rb gate (ix2 r d) = heads kv (logits q kv rb) (ix4 ⟨r / 2048, by omega⟩ ⟨d / 128, by omega⟩ ⟨d % 128, by omega⟩ ⟨r % 2048, by omega⟩)
      * (gate (ix2 r d) * Ideal.div 1 (1 + Ideal.exp (-gate (ix2 r d)))) := by
  pointwise [REF]

end Cert.Band.Ref

end
-- ==== Proof.Soft.lean ====
module

public import Idealize.ShloMosaic.PureOps.Ideal
public import Idealize.ShloMosaic.PureOps.Ideal.Laws
public import Idealize.ShloMosaic.Lib.Pointwise

/-! The arithmetic of the softmax over the extended reals: a softmax in base two over a window of scaled logits is the
    softmax over all keys when the logits outside the window are the least element. -/

@[expose] public section

noncomputable section

namespace Cert.Band.Soft

open Idealize.ShloMosaic

theorem negInf : Ideal.ofBits .f32 4286578688#32 = ⊥ := by simp [Ideal.ofBits, Ideal.ieee]

theorem log_two : Ideal.log (Ideal.ofBits .f32 1073741824#32) = ((Real.log 2 : ℝ) : EReal) := by
  have h : Ideal.ofBits .f32 1073741824#32 = ((2 : ℝ) : EReal) := by
    simp [Ideal.ofBits, Ideal.ieee]
    rw [← EReal.coe_mul]
    norm_num
  rw [h]
  show (if (2 : ℝ) ≤ 0 then (⊥ : EReal) else ((Real.log 2 : ℝ) : EReal)) = _
  rw [if_neg (by norm_num)]

theorem sqrt_width : Ideal.sqrt (Ideal.ofBits .f32 1124073472#32) = ((Real.sqrt 128 : ℝ) : EReal) := by
  have h : Ideal.ofBits .f32 1124073472#32 = ((128 : ℝ) : EReal) := by
    simp [Ideal.ofBits, Ideal.ieee]
    rw [← EReal.coe_mul]
    norm_num
  rw [h]
  show (if (128 : ℝ) < 0 then (⊥ : EReal) else ((Real.sqrt 128 : ℝ) : EReal)) = _
  rw [if_neg (by norm_num)]

/-- A sum times a nonnegative real, term by term. -/
theorem sum_mul_real {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- The factor between the two programs' logits. -/
def c : ℝ := 1 / Real.log 2

theorem c_pos : 0 < c := one_div_pos.mpr (Real.log_pos (by norm_num))

/-- Scaled queries and a scaled bias give scaled logits. -/
theorem scale_logit (q k : Fin 128 → EReal) (b : EReal) :
    (∑ x, Ideal.div (q x) (Ideal.sqrt (Ideal.ofBits .f32 1124073472#32) * Ideal.log (Ideal.ofBits .f32 1073741824#32)) * k x)
      + Ideal.div b (Ideal.log (Ideal.ofBits .f32 1073741824#32))
      = (Ideal.div (∑ x, q x * k x) (Ideal.sqrt (Ideal.ofBits .f32 1124073472#32)) + b) * (c : EReal) := by
  have hl : Real.log 2 ≠ 0 := (Real.log_pos (by norm_num)).ne'
  have hs : Real.sqrt 128 ≠ 0 := (Real.sqrt_pos.mpr (by norm_num)).ne'
  rw [sqrt_width, log_two, ← EReal.coe_mul, Ideal.div_coe hl, Ideal.div_coe hs,
    EReal.right_distrib_of_nonneg_of_ne_top (EReal.coe_nonneg.mpr c_pos.le) (EReal.coe_ne_top c)]
  congr 1
  rw [mul_assoc, ← EReal.coe_mul, sum_mul_real]
  · refine Finset.sum_congr rfl fun x _ => ?_
    rw [Ideal.div_coe (mul_ne_zero hs hl), mul_assoc, mul_comm _ (k x), ← mul_assoc]
    congr 2
    unfold c
    field_simp
  · exact mul_nonneg (one_div_nonneg.mpr (Real.sqrt_nonneg _)) c_pos.le

/-- A power of two at the scaled exponent. -/
theorem exp2_scaled (x : EReal) : Ideal.exp2 (x * (c : EReal)) = Ideal.exp x := by
  induction x with
  | bot => rw [EReal.bot_mul_coe_of_pos c_pos]; rfl
  | top => rw [EReal.top_mul_coe_of_pos c_pos]; rfl
  | coe r =>
    rw [← EReal.coe_mul]
    show ((Real.rpow 2 (r * c) : ℝ) : EReal) = ((Real.exp r : ℝ) : EReal)
    congr 1
    show (2 : ℝ) ^ (r * c) = Real.exp r
    rw [Real.rpow_def_of_pos (by norm_num)]
    congr 1
    have hl : Real.log 2 ≠ 0 := (Real.log_pos (by norm_num)).ne'
    unfold c
    field_simp

/-- A difference of scaled logits, the subtracted one finite. -/
theorem sub_scaled (x : EReal) (n : ℝ) : x * (c : EReal) - (n : EReal) * (c : EReal) = (x - (n : EReal)) * (c : EReal) := by
  induction x with
  | bot => rw [EReal.bot_sub, EReal.bot_mul_coe_of_pos c_pos, EReal.bot_sub]
  | top => rw [EReal.top_sub_coe, EReal.top_mul_coe_of_pos c_pos, ← EReal.coe_mul, EReal.top_sub_coe]
  | coe r =>
    rw [← EReal.coe_mul, ← EReal.coe_mul, ← EReal.coe_sub, ← EReal.coe_sub, ← EReal.coe_mul]
    congr 1
    ring

/-- A sum over all keys of terms that vanish outside a window is the sum over the window. -/
theorem sum_window (f : Fin 2048 → EReal) (s0 : ℕ) (hs : s0 + 640 ≤ 2048)
    (hout : ∀ k : Fin 2048, ((k : ℕ) < s0 ∨ s0 + 640 ≤ (k : ℕ)) → f k = 0) :
    ∑ k, f k = ∑ j : Fin 640, f ⟨s0 + j, by omega⟩ := by
  classical
  have hinj : Function.Injective (fun j : Fin 640 => (⟨s0 + j, by omega⟩ : Fin 2048)) := fun a b h => by
    have := congrArg Fin.val h
    exact Fin.ext (by simpa using this)
  rw [← Finset.sum_image (f := f) (s := Finset.univ) (g := fun j : Fin 640 => (⟨s0 + j, by omega⟩ : Fin 2048)) (fun a _ b _ h => hinj h)]
  refine (Finset.sum_subset (Finset.subset_univ _) fun k _ hk => hout k ?_).symm
  by_contra hc
  refine hk (Finset.mem_image.mpr ⟨⟨(k : ℕ) - s0, by omega⟩, Finset.mem_univ _, Fin.ext ?_⟩)
  show s0 + ((k : ℕ) - s0) = k
  omega

theorem sup_window (L : Fin 2048 → EReal) (s0 : ℕ) (hs : s0 + 640 ≤ 2048)
    (hout : ∀ k : Fin 2048, ((k : ℕ) < s0 ∨ s0 + 640 ≤ (k : ℕ)) → L k = ⊥) (n : ℝ) (hn : Finset.univ.sup L = (n : EReal)) :
    (Finset.univ.sup fun j : Fin 640 => L ⟨s0 + j, by omega⟩ * (c : EReal)) = (n : EReal) * (c : EReal) := by
  apply le_antisymm
  · refine Finset.sup_le fun j _ => ?_
    rw [← hn]
    exact mul_le_mul_of_nonneg_right (Finset.le_sup (Finset.mem_univ _)) (EReal.coe_nonneg.mpr c_pos.le)
  · obtain ⟨i, -, hi⟩ := Finset.exists_mem_eq_sup (Finset.univ : Finset (Fin 2048)) ⟨0, Finset.mem_univ _⟩ L
    have hL : L i = (n : EReal) := by rw [← hi, hn]
    have hw : ¬((i : ℕ) < s0 ∨ s0 + 640 ≤ (i : ℕ)) := fun h => by
      have := hout i h
      rw [hL] at this
      exact EReal.coe_ne_bot n this
    have he : L i * (c : EReal) = (fun j : Fin 640 => L ⟨s0 + j, by omega⟩ * (c : EReal)) ⟨(i : ℕ) - s0, by omega⟩ := by
      show _ = L ⟨s0 + ((i : ℕ) - s0), _⟩ * (c : EReal)
      congr 2
      exact Fin.ext (show (i : ℕ) = s0 + ((i : ℕ) - s0) by omega)
    rw [← hL, he]
    exact Finset.le_sup (f := fun j : Fin 640 => L ⟨s0 + j, by omega⟩ * (c : EReal)) (Finset.mem_univ _)

/-- The softmax in base two over the window, divided once at the end, is the softmax over all keys. -/
theorem soft (L v : Fin 2048 → EReal) (s0 : ℕ) (hs : s0 + 640 ≤ 2048)
    (hout : ∀ k : Fin 2048, ((k : ℕ) < s0 ∨ s0 + 640 ≤ (k : ℕ)) → L k = ⊥) (htop : ∀ k, L k ≠ ⊤) (k0 : Fin 2048) (hk0 : L k0 ≠ ⊥)
    (T V : Fin 640 → EReal) (hT : ∀ j : Fin 640, T j = L ⟨s0 + j, by omega⟩ * (c : EReal)) (hV : ∀ j : Fin 640, V j = v ⟨s0 + j, by omega⟩) :
    Ideal.div (∑ j, Ideal.exp2 (T j - Finset.univ.fold max ⊥ T) * V j) (∑ j, Ideal.exp2 (T j - Finset.univ.fold max ⊥ T))
      = ∑ k, v k * Ideal.div (Ideal.exp (L k - max ⊥ (Finset.univ.fold max ⊥ L))) (∑ k', Ideal.exp (L k' - max ⊥ (Finset.univ.fold max ⊥ L))) := by
  have hfold : (Finset.univ.fold max ⊥ L) = Finset.univ.sup L := rfl
  obtain rfl : T = fun j : Fin 640 => L ⟨s0 + j, by omega⟩ * (c : EReal) := funext hT
  obtain rfl : V = fun j : Fin 640 => v ⟨s0 + j, by omega⟩ := funext hV
  have hfold' : (Finset.univ.fold max ⊥ fun j : Fin 640 => L ⟨s0 + j, by omega⟩ * (c : EReal)) = Finset.univ.sup fun j : Fin 640 => L ⟨s0 + j, by omega⟩ * (c : EReal) := rfl
  obtain ⟨i, -, hi⟩ := Finset.exists_mem_eq_sup (Finset.univ : Finset (Fin 2048)) ⟨0, Finset.mem_univ _⟩ L
  have hNtop : Finset.univ.sup L ≠ ⊤ := by rw [hi]; exact htop i
  have hNbot : Finset.univ.sup L ≠ ⊥ := fun h => hk0 (le_bot_iff.mp (h ▸ Finset.le_sup (Finset.mem_univ k0)))
  obtain ⟨n, hn⟩ : ∃ n : ℝ, Finset.univ.sup L = (n : EReal) := ⟨_, (EReal.coe_toReal hNtop hNbot).symm⟩
  rw [hfold', sup_window L s0 hs hout n hn, hfold, hn, max_eq_right bot_le]
  have hp : ∀ j : Fin 640, Ideal.exp2 (L ⟨s0 + j, by omega⟩ * (c : EReal) - (n : EReal) * (c : EReal)) = Ideal.exp (L ⟨s0 + j, by omega⟩ - (n : EReal)) := fun j => by
    rw [sub_scaled, exp2_scaled]
  simp only [hp]
  have hzero : ∀ k : Fin 2048, ((k : ℕ) < s0 ∨ s0 + 640 ≤ (k : ℕ)) → Ideal.exp (L k - (n : EReal)) = 0 := fun k hk => by
    rw [hout k hk, EReal.bot_sub]; rfl
  rw [← sum_window (fun k => Ideal.exp (L k - (n : EReal)) * v k) s0 hs (fun k hk => by simp only [hzero k hk, zero_mul]),
    ← sum_window (fun k => Ideal.exp (L k - (n : EReal))) s0 hs hzero]
  have hreal : ∀ k, ∃ r : ℝ, 0 ≤ r ∧ Ideal.exp (L k - (n : EReal)) = (r : EReal) := fun k => by
    have htop' := htop k
    generalize L k = x at htop'
    induction x with
    | bot => exact ⟨0, le_rfl, by rw [EReal.bot_sub]; rfl⟩
    | top => exact absurd rfl htop'
    | coe r => exact ⟨Real.exp (r - n), (Real.exp_pos _).le, rfl⟩
  choose p hp0 hpe using hreal
  have hd : ∑ k, Ideal.exp (L k - (n : EReal)) = ((∑ k, p k : ℝ) : EReal) := by
    simp only [hpe]
    exact (map_sum (⟨⟨Real.toEReal, EReal.coe_zero⟩, EReal.coe_add⟩ : ℝ →+ EReal) p Finset.univ).symm
  have hpi : p i = 1 := by
    have h1 : Ideal.exp (L i - (n : EReal)) = ((1 : ℝ) : EReal) := by
      rw [← hi, hn, ← EReal.coe_sub, sub_self]
      show ((Real.exp 0 : ℝ) : EReal) = _
      rw [Real.exp_zero]
    rw [hpe] at h1
    exact EReal.coe_eq_coe_iff.mp h1
  have hdpos : 0 < ∑ k, p k :=
    lt_of_lt_of_le (by rw [hpi]; exact one_pos) (Finset.single_le_sum (fun k _ => hp0 k) (Finset.mem_univ i))
  rw [hd, Ideal.div_coe hdpos.ne', sum_mul_real _ _ (one_div_nonneg.mpr hdpos.le)]
  refine Finset.sum_congr rfl fun k _ => ?_
  rw [Ideal.div_coe hdpos.ne', mul_comm _ (v k), mul_assoc]

end Cert.Band.Soft

end
-- ==== Proof.Core.lean ====
module

public import proofs.«01_k».proof.Proof.Head
public import proofs.«01_k».proof.Proof.Window
public import proofs.«01_k».proof.Proof.RefAt
public import proofs.«01_k».proof.Proof.Soft

/-! One head of one query tile computes the reference's attention: the statement over arrays. -/

@[expose] public section

set_option maxRecDepth 16384

noncomputable section

namespace Cert.Band.Ker

open Idealize.ShloMosaic Idealize.ShloMosaic.TcCoe Idealize.SL.Sem
open Cert.KernelIdeal Cert.KernelIdeal.Gen

/-- A logit of finite queries, keys and bias is a real number. -/
theorem logit_real (q k : Fin 128 → EReal) (b : EReal) (hq : ∀ x, q x ≠ ⊤ ∧ q x ≠ ⊥) (hk : ∀ x, k x ≠ ⊤ ∧ k x ≠ ⊥) (hb : b ≠ ⊤ ∧ b ≠ ⊥) :
    ∃ z : ℝ, Ideal.div (∑ x, q x * k x) (Ideal.sqrt (Ideal.ofBits .f32 1124073472#32)) + b = (z : EReal) := by
  have hq' : ∀ x, ((q x).toReal : EReal) = q x := fun x => EReal.coe_toReal (hq x).1 (hq x).2
  have hk' : ∀ x, ((k x).toReal : EReal) = k x := fun x => EReal.coe_toReal (hk x).1 (hk x).2
  have hs : ∑ x, q x * k x = ((∑ x, (q x).toReal * (k x).toReal : ℝ) : EReal) := by
    refine (Finset.sum_congr rfl fun x _ => ?_).trans (map_sum (⟨⟨Real.toEReal, EReal.coe_zero⟩, EReal.coe_add⟩ : ℝ →+ EReal) _ _).symm
    show q x * k x = (((q x).toReal * (k x).toReal : ℝ) : EReal)
    rw [EReal.coe_mul, hq', hk']
  have h128 : Real.sqrt 128 ≠ 0 := (Real.sqrt_pos.mpr (by norm_num)).ne'
  rw [hs, Soft.sqrt_width, Ideal.div_coe h128, ← EReal.coe_mul, ← EReal.coe_toReal hb.1 hb.2, ← EReal.coe_add]
  exact ⟨_, rfl⟩

section
variable (Q : FVec Ideal S16384x4096 .f32) (KV : FVec Ideal S16384x8192 .f32) (RB : FVec Ideal S32x129 .f32) (G : FVec Ideal S16384x4096 .f32)

/-- The finite entries: the queries, the keys, the bias. -/
structure Finite : Prop where
  q : ∀ r d, Q (ix2 r d) ≠ ⊤ ∧ Q (ix2 r d) ≠ ⊥
  k : ∀ (r : Fin 16384) (d : Fin 4096), KV (ix2 r ⟨d, by omega⟩) ≠ ⊤ ∧ KV (ix2 r ⟨d, by omega⟩) ≠ ⊥
  b : ∀ h x, RB (ix2 h x) ≠ ⊤ ∧ RB (ix2 h x) ≠ ⊥

variable {Q KV RB G}

theorem logits_real (F : Finite Q KV RB) (b : Fin 8) (h : Fin 32) (i k : Fin 2048) (hik : (k : ℕ) / 64 ≤ (i : ℕ) / 64 ∧ (i : ℕ) / 64 ≤ (k : ℕ) / 64 + 8) :
    ∃ z : ℝ, Ref.logits Q KV RB (ix4 b h i k) = (z : EReal) := by
  rw [Ref.logits_at, if_pos hik]
  exact logit_real (fun x => Q (ix2 ⟨b * 2048 + i, by omega⟩ ⟨h * 128 + x, by omega⟩)) (fun x => KV (ix2 ⟨b * 2048 + k, by omega⟩ ⟨h * 128 + x, by omega⟩)) _
    (fun x => F.q _ _) (fun x => F.k _ ⟨h * 128 + x, by omega⟩) (F.b _ _)

theorem logits_top (F : Finite Q KV RB) (b : Fin 8) (h : Fin 32) (i k : Fin 2048) : Ref.logits Q KV RB (ix4 b h i k) ≠ ⊤ := by
  by_cases hik : (k : ℕ) / 64 ≤ (i : ℕ) / 64 ∧ (i : ℕ) / 64 ≤ (k : ℕ) / 64 + 8
  · obtain ⟨z, hz⟩ := logits_real F b h i k hik
    rw [hz]
    exact EReal.coe_ne_top z
  · rw [Ref.logits_at, if_neg hik, Soft.negInf]
    exact bot_ne_top

theorem logits_own (F : Finite Q KV RB) (b : Fin 8) (h : Fin 32) (i : Fin 2048) : Ref.logits Q KV RB (ix4 b h i i) ≠ ⊥ := by
  obtain ⟨z, hz⟩ := logits_real F b h i i ⟨le_refl _, by omega⟩
  rw [hz]
  exact EReal.coe_ne_bot z

variable (b : Fin 8) (h : Fin 32) (u : Fin 4) (i : grid0.Coords)

theorem coord_lt : (i 2).val < 4 := (i 2).isLt

/-- The position of the tile's row `r`. -/
def pos (r : Fin 128) : Fin 2048 := ⟨(i 2).val * 512 + 128 * u.val + r, by have := coord_lt i; omega⟩

/-- The position of the window's key `j`. -/
def key (j : Fin 640) : Fin 2048 := ⟨(4 * (i 2).val + u.val - 4) * 128 + j, by have := coord_lt i; omega⟩

/-- A score of the kernel is the reference's logit over log 2. -/
theorem score_eq (q : FVec Ideal S128x128 .bf16) (k : FVec Ideal S640x128 .bf16) (b0 b1 b2 b3 b4 : Vec Ideal S1x1x128x128 .f32)
    (hq : ∀ r x : Fin 128, q (ix2 r x) = Ideal.div (Q (ix2 ⟨b * 2048 + pos u i r, by omega⟩ ⟨h * 128 + x, by omega⟩))
      (Ideal.sqrt (Ideal.ofBits .f32 1124073472#32) * Ideal.log (Ideal.ofBits .f32 1073741824#32)))
    (hk : ∀ (j : Fin 640) (x : Fin 128), k (ix2 j x) = KV (ix2 ⟨b * 2048 + key u i j, by omega⟩ ⟨h * 128 + x, by omega⟩))
    (hb : ∀ (r : Fin 5) (t j : Fin 128), (![b0, b1, b2, b3, b4] r) (ix4 0 0 t j) =
      Ideal.div (RB (ix2 h ⟨min 128 (64 + (2 - min 2 (r.val + 2 - min (4 * (i 2).val + u.val) 4)) * 128 + t - j), by omega⟩)) (Ideal.log (Ideal.ofBits .f32 1073741824#32)))
    (r : Fin 128) (j : Fin 640) :
    score (mask i (BitVec.ofNat 32 (128 * u.val))) (qk q k) (biases b0 b1 b2 b3 b4) (ix2 r j)
      = Ref.logits Q KV RB (ix4 b h (pos u i r) (key u i j)) * (Soft.c : EReal) := by
  have hi := coord_lt i
  have hu := u.isLt
  have hr := r.isLt
  have hj := j.isLt
  rw [score_at, mask_at, Ref.logits_at]
  by_cases hik : ((key u i j : Fin 2048) : ℕ) / 64 ≤ ((pos u i r : Fin 2048) : ℕ) / 64 ∧ ((pos u i r : Fin 2048) : ℕ) / 64 ≤ ((key u i j : Fin 2048) : ℕ) / 64 + 8
  · rw [if_pos hik, ← Soft.scale_logit]
    have hw : decide (((4 * (i 2).val + u.val - 4) * 128 + j) / 64 ≤ ((i 2).val * 512 + 128 * u.val + r) / 64
        ∧ ((i 2).val * 512 + 128 * u.val + r) / 64 ≤ ((4 * (i 2).val + u.val - 4) * 128 + (j : ℕ)) / 64 + 8) = true := decide_eq_true hik
    rw [hw]
    show qk q k (ix2 r j) + biases b0 b1 b2 b3 b4 (ix2 r j) = _
    have hjj : j = ⟨(j : ℕ) / 128 * 128 + (j : ℕ) % 128, by omega⟩ := Fin.ext (by show (j : ℕ) = (j : ℕ) / 128 * 128 + (j : ℕ) % 128; omega)
    have hbj : biases b0 b1 b2 b3 b4 (ix2 r j) = Ideal.div (RB (ix2 h ⟨min 128 (((pos u i r : Fin 2048) : ℕ) + 64 - (key u i j : Fin 2048)), by omega⟩)) (Ideal.log (Ideal.ofBits .f32 1073741824#32)) := by
      rw [congrArg (fun z => biases b0 b1 b2 b3 b4 (ix2 r z)) hjj]
      refine (biases_at b0 b1 b2 b3 b4 r ⟨(j : ℕ) / 128, by omega⟩ ⟨(j : ℕ) % 128, by omega⟩).trans ?_
      rw [hb]
      refine congrArg (fun z => Ideal.div (RB (ix2 h z)) _) (Fin.ext ?_)
      have hik' : ((4 * (i 2).val + u.val - 4) * 128 + (j : ℕ)) / 64 ≤ ((i 2).val * 512 + 128 * u.val + r) / 64
        ∧ ((i 2).val * 512 + 128 * u.val + (r : ℕ)) / 64 ≤ ((4 * (i 2).val + u.val - 4) * 128 + (j : ℕ)) / 64 + 8 := hik
      show min 128 (64 + (2 - min 2 ((j : ℕ) / 128 + 2 - min (4 * (i 2).val + u.val) 4)) * 128 + r - (j : ℕ) % 128)
        = min 128 ((i 2).val * 512 + 128 * u.val + r + 64 - ((4 * (i 2).val + u.val - 4) * 128 + j))
      clear hik
      omega
    rw [hbj, qk_at]
    congr 1
    refine Finset.sum_congr rfl fun x _ => ?_
    rw [hq, hk]
  · rw [if_neg hik]
    have hw : decide (((4 * (i 2).val + u.val - 4) * 128 + j) / 64 ≤ ((i 2).val * 512 + 128 * u.val + r) / 64
        ∧ ((i 2).val * 512 + 128 * u.val + r) / 64 ≤ ((4 * (i 2).val + u.val - 4) * 128 + (j : ℕ)) / 64 + 8) = false := decide_eq_false hik
    rw [hw]
    show Ideal.ofBits .f32 4286578688#32 = _
    rw [Soft.negInf, EReal.bot_mul_coe_of_pos Soft.c_pos]

/-- The head's result is the reference's. -/
theorem core (F : Finite Q KV RB)
    (q : FVec Ideal S128x128 .bf16) (k v : FVec Ideal S640x128 .bf16) (b0 b1 b2 b3 b4 : Vec Ideal S1x1x128x128 .f32) (g : FVec Ideal S128x128 .f32)
    (hq : ∀ r x : Fin 128, q (ix2 r x) = Ideal.div (Q (ix2 ⟨b * 2048 + pos u i r, by omega⟩ ⟨h * 128 + x, by omega⟩))
      (Ideal.sqrt (Ideal.ofBits .f32 1124073472#32) * Ideal.log (Ideal.ofBits .f32 1073741824#32)))
    (hk : ∀ (j : Fin 640) (x : Fin 128), k (ix2 j x) = KV (ix2 ⟨b * 2048 + key u i j, by omega⟩ ⟨h * 128 + x, by omega⟩))
    (hv : ∀ (j : Fin 640) (x : Fin 128), v (ix2 j x) = KV (ix2 ⟨b * 2048 + key u i j, by omega⟩ ⟨4096 + (h * 128 + x), by omega⟩))
    (hb : ∀ (r : Fin 5) (t j : Fin 128), (![b0, b1, b2, b3, b4] r) (ix4 0 0 t j) =
      Ideal.div (RB (ix2 h ⟨min 128 (64 + (2 - min 2 (r.val + 2 - min (4 * (i 2).val + u.val) 4)) * 128 + t - j), by omega⟩)) (Ideal.log (Ideal.ofBits .f32 1073741824#32)))
    (hg : ∀ r x : Fin 128, g (ix2 r x) = G (ix2 ⟨b * 2048 + pos u i r, by omega⟩ ⟨h * 128 + x, by omega⟩))
    (r d : Fin 128) :
    headOut (score (mask i (BitVec.ofNat 32 (128 * u.val))) (qk q k) (biases b0 b1 b2 b3 b4)) v g (ix2 r d)
      = Ref.REF Q KV RB G (ix2 ⟨b * 2048 + pos u i r, by omega⟩ ⟨h * 128 + d, by omega⟩) := by
  have hT := score_eq (Q := Q) (KV := KV) (RB := RB) b h u i q k b0 b1 b2 b3 b4 hq hk hb r
  generalize score (mask i (BitVec.ofNat 32 (128 * u.val))) (qk q k) (biases b0 b1 b2 b3 b4) = s at hT ⊢
  have hi := coord_lt i
  have hd : ∀ p : Fin 2048, Ref.REF Q KV RB G (ix2 ⟨b * 2048 + p, by omega⟩ ⟨h * 128 + d, by omega⟩)
      = Ref.heads KV (Ref.logits Q KV RB) (ix4 b h d p) * (G (ix2 ⟨b * 2048 + p, by omega⟩ ⟨h * 128 + d, by omega⟩)
        * Ideal.div 1 (1 + Ideal.exp (-G (ix2 ⟨b * 2048 + p, by omega⟩ ⟨h * 128 + d, by omega⟩)))) := by
    intro p
    rw [Ref.REF_at]
    have e1 : (⟨(b * 2048 + p) / 2048, by omega⟩ : Fin 8) = b := Fin.ext (by show ((b : ℕ) * 2048 + p) / 2048 = b; omega)
    have e2 : (⟨(h * 128 + d) / 128, by omega⟩ : Fin 32) = h := Fin.ext (by show ((h : ℕ) * 128 + d) / 128 = h; omega)
    have e3 : (⟨(h * 128 + d) % 128, by omega⟩ : Fin 128) = d := Fin.ext (by show ((h : ℕ) * 128 + d) % 128 = d; omega)
    have e4 : (⟨(b * 2048 + p) % 2048, by omega⟩ : Fin 2048) = p := Fin.ext (by show ((b : ℕ) * 2048 + p) % 2048 = p; omega)
    rw [e1, e2, e3, e4]
  rw [hd, headOut_at, hg, Ref.heads_at]
  congr 1
  rw [mix_at, total_at]
  simp only [weight_at, top_at, Soft.negInf, Ref.weights_at, Ref.rowSum_at, Ref.rowMax_at]
  refine Soft.soft (fun k => Ref.logits Q KV RB (ix4 b h (pos u i r) k)) (fun k => KV (ix2 ⟨b * 2048 + k, by omega⟩ ⟨4096 + (h * 128 + d), by omega⟩))
    ((4 * (i 2).val + u.val - 4) * 128) (by omega) ?_ (fun k => logits_top F b h _ k) (pos u i r) (logits_own F b h _)
    (fun j => s (ix2 r j)) (fun j => v (ix2 j d)) hT (fun j => hv j d)
  intro k hk'
  have hr := r.isLt
  have hu := u.isLt
  have hkl := k.isLt
  rw [Ref.logits_at, if_neg, Soft.negInf]
  show ¬((k : ℕ) / 64 ≤ ((i 2).val * 512 + 128 * u.val + r) / 64 ∧ ((i 2).val * 512 + 128 * u.val + (r : ℕ)) / 64 ≤ (k : ℕ) / 64 + 8)
  omega

end

end Cert.Band.Ker
-- ==== Proof.Blocks.lean ====
module

public import proofs.«01_k».proof.Proof.Tab
public import proofs.«01_k».proof.Proof.Core

/-! The blocks a grid point reads, entry by entry. Point `t` is batch `t / 16`, head group `t / 4 % 4`, query block `t % 4`. -/

@[expose] public section

set_option maxRecDepth 16384

noncomputable section

namespace Cert.Band.Ker

open Idealize.ShloMosaic Idealize.ShloMosaic.TcCoe Idealize.SL.Sem
open Cert.KernelIdeal Cert.KernelIdeal.Gen

theorem idx : ∀ t : Fin cfg0.N, win0_0.index t = ![t.val / 16 * 4 + t.val % 4, t.val / 4 % 4] ∧ win0_1.index t = ![t.val / 16, t.val / 4 % 4]
    ∧ win0_2.index t = ![t.val / 16, 4 + t.val / 4 % 4] ∧ win0_3.index t = ![t.val / 4 % 4, 0, 0, 0]
    ∧ win0_4.index t = ![t.val / 16 * 4 + t.val % 4, t.val / 4 % 4] ∧ win0_5.index t = ![t.val / 16 * 4 + t.val % 4, t.val / 4 % 4] :=
  (by decide +kernel : ∀ t : Fin grid0.N, _)

theorem coord : ∀ t : Fin cfg0.N, (grid0.coords t 2).val = t.val % 4 :=
  (by decide +kernel : ∀ t : Fin grid0.N, _)

theorem pt_lt (t : Fin cfg0.N) : t.val < 128 := lt_of_lt_of_eq t.isLt N_0

variable (m : (ℓ : Loc nD τ sig) → Buf (Elt Ideal) ℓ) (c : Dev nD) (t : Fin cfg0.N)

theorem q_blk (a : Fin 512) (d : Fin 1024) : iblk m c 0 t (ix2 a d) =
    Ideal.div (m ((c.tc : Thread nD τ).loc main_arg0) (ix2 ⟨t.val / 16 * 2048 + (t.val % 4 * 512 + a), by have := pt_lt t; omega⟩ ⟨t.val / 4 % 4 * 1024 + d, by have := pt_lt t; omega⟩))
      (Ideal.sqrt (Ideal.ofBits .f32 1124073472#32) * Ideal.log (Ideal.ofBits .f32 1073741824#32)) := by
  rw [← V_q]
  blk_point [iblk, idx t]

theorem k_blk (a : Fin 2048) (d : Fin 1024) : iblk m c 1 t (ix2 a d) =
    m ((c.tc : Thread nD τ).loc main_arg1) (ix2 ⟨t.val / 16 * 2048 + a, by have := pt_lt t; omega⟩ ⟨t.val / 4 % 4 * 1024 + d, by have := pt_lt t; omega⟩) := by
  refine Eq.trans ?_ (V_kv m c _ _)
  blk_point [iblk, idx t]

theorem v_blk (a : Fin 2048) (d : Fin 1024) : iblk m c 2 t (ix2 a d) =
    m ((c.tc : Thread nD τ).loc main_arg1) (ix2 ⟨t.val / 16 * 2048 + a, by have := pt_lt t; omega⟩ ⟨4096 + (t.val / 4 % 4 * 1024 + d), by have := pt_lt t; omega⟩) := by
  refine Eq.trans ?_ (V_kv m c _ _)
  blk_point [iblk, idx t]

theorem tab_blk (h : Fin 8) (e : Fin 3) (x y : Fin 128) : iblk m c 3 t (ix4 h e x y) =
    Ideal.div (m ((c.tc : Thread nD τ).loc main_arg3) (ix2 ⟨t.val / 4 % 4 * 8 + h, by have := pt_lt t; omega⟩ ⟨min 128 (64 + (2 - e) * 128 + x - y), by omega⟩))
      (Ideal.log (Ideal.ofBits .f32 1073741824#32)) := by
  rw [← table_at, ← V_table]
  blk_point [iblk, idx t]

theorem g_blk (a : Fin 512) (d : Fin 1024) : iblk m c 4 t (ix2 a d) =
    m ((c.tc : Thread nD τ).loc main_arg2) (ix2 ⟨t.val / 16 * 2048 + (t.val % 4 * 512 + a), by have := pt_lt t; omega⟩ ⟨t.val / 4 % 4 * 1024 + d, by have := pt_lt t; omega⟩) := by
  blk_point [iblk, V, idx t]

end Cert.Band.Ker
-- ==== Proof.Point.lean ====
module

public import proofs.«01_k».proof.Proof.Blocks

/-! What a grid point writes: eight heads of four query tiles. -/

@[expose] public section

set_option maxRecDepth 16384

noncomputable section

namespace Cert.Band.Ker

open Idealize.ShloMosaic Idealize.ShloMosaic.TcCoe Idealize.SL.Sem
open Cert.KernelIdeal Cert.KernelIdeal.Gen

/-- A load of a matrix at an offset. -/
theorem ld2 {α : EltTy} {A B a b : ℕ} (X : (⟨2, ![A, B]⟩ : Shape).Idx → Elt Ideal α) (off : Fin 2 → ℕ)
    (inb : ∀ z, off z + (![a, b] : Fin 2 → ℕ) z ≤ (⟨2, ![A, B]⟩ : Shape).size z) (o p : ℕ) (e : off = ![o, p]) (r : Fin a) (x : Fin b)
    (hr : o + r < A) (hx : p + x < B) :
    X ((Rect.unit (s := ⟨2, ![A, B]⟩) off ![a, b] inb).idx (ix2 r x)) = X (ix2 ⟨o + r, hr⟩ ⟨p + x, hx⟩) := by
  subst e
  refine congrArg X (funext fun z => Fin.ext ?_)
  match z with
  | ⟨0, _⟩ => show o + 1 * (r : ℕ) = o + r; omega
  | ⟨1, _⟩ => show p + 1 * (x : ℕ) = p + x; omega

/-- A load of one square of the table. -/
theorem ld4 {α : EltTy} (X : S8x3x128x128.Idx → Elt Ideal α) (off : Fin 4 → ℕ)
    (inb : ∀ z, off z + (![1, 1, 128, 128] : Fin 4 → ℕ) z ≤ S8x3x128x128.size z) (o p : ℕ) (e : off = ![o, p, 0, 0]) (r x : Fin 128)
    (ho : o < 8) (hp : p < 3) :
    X ((Rect.unit (s := S8x3x128x128) off ![1, 1, 128, 128] inb).idx (ix4 0 0 r x)) = X (ix4 ⟨o, ho⟩ ⟨p, hp⟩ r x) := by
  subst e
  refine congrArg X (funext fun z => Fin.ext ?_)
  match z with
  | ⟨0, _⟩ => rfl
  | ⟨1, _⟩ => rfl
  | ⟨2, _⟩ => show 0 + 1 * (r : ℕ) = r; omega
  | ⟨3, _⟩ => show 0 + 1 * (x : ℕ) = x; omega

variable (m : (ℓ : Loc nD τ sig) → Buf (Elt Ideal) ℓ) (c : Dev nD) (t : Fin cfg0.N)

/-- One head of one tile, in the blocks of its grid point. -/
theorem piece
    (F : Finite (m ((c.tc : Thread nD τ).loc main_arg0)) (m ((c.tc : Thread nD τ).loc main_arg1)) (m ((c.tc : Thread nD τ).loc main_arg3)))
    (u : Fin 4) (g : Fin 8) (q : FVec Ideal S128x128 .bf16) (k v : FVec Ideal S640x128 .bf16) (b0 b1 b2 b3 b4 : Vec Ideal S1x1x128x128 .f32) (w : FVec Ideal S128x128 .f32)
    (hq : ∀ r x : Fin 128, q (ix2 r x) = iblk m c 0 t (ix2 ⟨128 * u + r, by omega⟩ ⟨128 * g + x, by omega⟩))
    (hk : ∀ (j : Fin 640) (x : Fin 128), k (ix2 j x) = iblk m c 1 t (ix2 (key u (grid0.coords t) j) ⟨128 * g + x, by omega⟩))
    (hv : ∀ (j : Fin 640) (x : Fin 128), v (ix2 j x) = iblk m c 2 t (ix2 (key u (grid0.coords t) j) ⟨128 * g + x, by omega⟩))
    (hb0 : ∀ i j : Fin 128, b0 (ix4 0 0 i j) = iblk m c 3 t (ix4 g ⟨min 2 ((0 : Fin 5).val + 2 - min (4 * (grid0.coords t 2).val + u.val) 4), by omega⟩ i j))
    (hb1 : ∀ i j : Fin 128, b1 (ix4 0 0 i j) = iblk m c 3 t (ix4 g ⟨min 2 ((1 : Fin 5).val + 2 - min (4 * (grid0.coords t 2).val + u.val) 4), by omega⟩ i j))
    (hb2 : ∀ i j : Fin 128, b2 (ix4 0 0 i j) = iblk m c 3 t (ix4 g ⟨min 2 ((2 : Fin 5).val + 2 - min (4 * (grid0.coords t 2).val + u.val) 4), by omega⟩ i j))
    (hb3 : ∀ i j : Fin 128, b3 (ix4 0 0 i j) = iblk m c 3 t (ix4 g ⟨min 2 ((3 : Fin 5).val + 2 - min (4 * (grid0.coords t 2).val + u.val) 4), by omega⟩ i j))
    (hb4 : ∀ i j : Fin 128, b4 (ix4 0 0 i j) = iblk m c 3 t (ix4 g ⟨min 2 ((4 : Fin 5).val + 2 - min (4 * (grid0.coords t 2).val + u.val) 4), by omega⟩ i j))
    (hw : ∀ r x : Fin 128, w (ix2 r x) = iblk m c 4 t (ix2 ⟨128 * u + r, by omega⟩ ⟨128 * g + x, by omega⟩))
    (y : S512x1024.Idx) (x : S128x128.Idx) (h0 : (y 0).val = 128 * u + (x 0).val) (h1 : (y 1).val = 128 * g + (x 1).val) :
    headOut (score (mask (grid0.coords t) (BitVec.ofNat 32 (128 * u.val))) (qk q k) (biases b0 b1 b2 b3 b4)) v w x
      = Ref.REF (m ((c.tc : Thread nD τ).loc main_arg0)) (m ((c.tc : Thread nD τ).loc main_arg1)) (m ((c.tc : Thread nD τ).loc main_arg3))
      (m ((c.tc : Thread nD τ).loc main_arg2))
      (ix2 ⟨t.val / 16 * 2048 + (t.val % 4 * 512 + y 0), by have := pt_lt t; have : (y 0).val < 512 := (y 0).isLt; omega⟩
        ⟨t.val / 4 % 4 * 1024 + y 1, by have := pt_lt t; have : (y 1).val < 1024 := (y 1).isLt; omega⟩) := by
  have ht := pt_lt t
  have hi := coord t
  have hpos : ∀ r : Fin 128, ((pos u (grid0.coords t) r : Fin 2048) : ℕ) = t.val % 4 * 512 + (128 * u + r) := by
    intro r
    show (grid0.coords t 2).val * 512 + 128 * u.val + r = _
    rw [hi]
    omega
  have hx : x = ix2 (x 0) (x 1) := by
    funext z
    match z with
    | ⟨0, _⟩ => rfl
    | ⟨1, _⟩ => rfl
  have hx0 : (x 0).val < 128 := (x 0).isLt
  have hx1 : (x 1).val < 128 := (x 1).isLt
  rw [congrArg (headOut (score (mask (grid0.coords t) (BitVec.ofNat 32 (128 * u.val))) (qk q k) (biases b0 b1 b2 b3 b4)) v w) hx]
  refine (core ⟨t.val / 16, by omega⟩ ⟨t.val / 4 % 4 * 8 + g, by omega⟩ u (grid0.coords t) F q k v b0 b1 b2 b3 b4 w
    (G := m ((c.tc : Thread nD τ).loc main_arg2)) ?_ ?_ ?_ ?_ ?_ (x 0) (x 1)).trans ?_
  · intro r d
    rw [hq, q_blk]
    refine congrArg (fun z => Ideal.div (m ((c.tc : Thread nD τ).loc main_arg0) z) _) (congrArg₂ ix2 (Fin.ext ?_) (Fin.ext ?_))
    · show t.val / 16 * 2048 + (t.val % 4 * 512 + (128 * u + r)) = t.val / 16 * 2048 + pos u (grid0.coords t) r
      rw [hpos]
    · show t.val / 4 % 4 * 1024 + (128 * (g : ℕ) + d) = (t.val / 4 % 4 * 8 + g) * 128 + d
      omega
  · intro j d
    rw [hk, k_blk]
    refine congrArg (m ((c.tc : Thread nD τ).loc main_arg1)) (congrArg₂ ix2 rfl (Fin.ext ?_))
    show t.val / 4 % 4 * 1024 + (128 * (g : ℕ) + d) = (t.val / 4 % 4 * 8 + g) * 128 + d
    omega
  · intro j d
    rw [hv, v_blk]
    refine congrArg (m ((c.tc : Thread nD τ).loc main_arg1)) (congrArg₂ ix2 rfl (Fin.ext ?_))
    show 4096 + (t.val / 4 % 4 * 1024 + (128 * (g : ℕ) + d)) = 4096 + ((t.val / 4 % 4 * 8 + g) * 128 + d)
    omega
  · intro r i j
    match r with
    | 0 => exact (hb0 i j).trans (tab_blk m c t _ _ _ _)
    | 1 => exact (hb1 i j).trans (tab_blk m c t _ _ _ _)
    | 2 => exact (hb2 i j).trans (tab_blk m c t _ _ _ _)
    | 3 => exact (hb3 i j).trans (tab_blk m c t _ _ _ _)
    | 4 => exact (hb4 i j).trans (tab_blk m c t _ _ _ _)
  · intro r d
    rw [hw, g_blk]
    refine congrArg (m ((c.tc : Thread nD τ).loc main_arg2)) (congrArg₂ ix2 (Fin.ext ?_) (Fin.ext ?_))
    · show t.val / 16 * 2048 + (t.val % 4 * 512 + (128 * u + r)) = t.val / 16 * 2048 + pos u (grid0.coords t) r
      rw [hpos]
    · show t.val / 4 % 4 * 1024 + (128 * (g : ℕ) + d) = (t.val / 4 % 4 * 8 + g) * 128 + d
      omega
  · refine congrArg (Ref.REF _ _ _ _) (congrArg₂ ix2 (Fin.ext ?_) (Fin.ext ?_))
    · show t.val / 16 * 2048 + pos u (grid0.coords t) (x 0) = t.val / 16 * 2048 + (t.val % 4 * 512 + (y 0).val)
      exact (congrArg (t.val / 16 * 2048 + ·) ((hpos (x 0)).trans (congrArg (t.val % 4 * 512 + ·) h0.symm)))
    · show (t.val / 4 % 4 * 8 + (g : ℕ)) * 128 + (x 1).val = t.val / 4 % 4 * 1024 + (y 1).val
      rw [h1]
      omega

set_option maxHeartbeats 40000000 in
/-- A grid point's block is the reference's. -/
theorem point
    (F : Finite (m ((c.tc : Thread nD τ).loc main_arg0)) (m ((c.tc : Thread nD τ).loc main_arg1)) (m ((c.tc : Thread nD τ).loc main_arg3)))
    (y : S512x1024.Idx) :
    outsAt0 m c t y = Ref.REF (m ((c.tc : Thread nD τ).loc main_arg0)) (m ((c.tc : Thread nD τ).loc main_arg1)) (m ((c.tc : Thread nD τ).loc main_arg3))
      (m ((c.tc : Thread nD τ).loc main_arg2))
      (ix2 ⟨t.val / 16 * 2048 + (t.val % 4 * 512 + y 0), by have := pt_lt t; have : (y 0).val < 512 := (y 0).isLt; omega⟩
        ⟨t.val / 4 % 4 * 1024 + y 1, by have := pt_lt t; have : (y 1).val < 1024 := (y 1).isLt; omega⟩) := by
  unfold outsAt0
  frame_out
  canon_tiles x h
  case piece0 =>
    refine (show _ = headOut (score (mask (grid0.coords t) 384#32) (qk _ _) (biases _ _ _ _ _)) _ _ x from rfl).trans ?_
    refine piece m c t F 3 7 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win7 _ 3) r d (key 3 _ r).isLt (by omega)
    · exact fun r d => ld2 _ _ _ _ _ (win7 _ 3) r d (key 3 _ r).isLt (by omega)
    · exact fun i j => ld4 _ _ _ _ _ (ent7 _ 0 3) i j (by omega) (by omega)
    · exact fun i j => ld4 _ _ _ _ _ (ent7 _ 1 3) i j (by omega) (by omega)
    · exact fun i j => ld4 _ _ _ _ _ (ent7 _ 2 3) i j (by omega) (by omega)
    · exact fun i j => ld4 _ _ _ _ _ (ent7 _ 3 3) i j (by omega) (by omega)
    · exact fun i j => ld4 _ _ _ _ _ (ent7 _ 4 3) i j (by omega) (by omega)
    · exact fun r d => ld2 _ _ _ _ _ rfl r d (by omega) (by omega)
  case piece1 =>
    refine (show _ = headOut (score (mask (grid0.coords t) 384#32) (qk _ _) (biases _ _ _ _ _)) _ _ x from rfl).trans ?_
    refine piece m c t F 3 6 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win6 _ 3) r d (key 3 _ r).isLt (by omega)
    · exact fun r d => ld2 _ _ _ _ _ (win6 _ 3) r d (key 3 _ r).isLt (by omega)
    · exact fun i j => ld4 _ _ _ _ _ (ent6 _ 0 3) i j (by omega) (by omega)
    · exact fun i j => ld4 _ _ _ _ _ (ent6 _ 1 3) i j (by omega) (by omega)
    · exact fun i j => ld4 _ _ _ _ _ (ent6 _ 2 3) i j (by omega) (by omega)
    · exact fun i j => ld4 _ _ _ _ _ (ent6 _ 3 3) i j (by omega) (by omega)
    · exact fun i j => ld4 _ _ _ _ _ (ent6 _ 4 3) i j (by omega) (by omega)
    · exact fun r d => ld2 _ _ _ _ _ rfl r d (by omega) (by omega)
  case piece2 =>
    refine (show _ = headOut (score (mask (grid0.coords t) 384#32) (qk _ _) (biases _ _ _ _ _)) _ _ x from rfl).trans ?_
    refine piece m c t F 3 5 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win5 _ 3) r d (key 3 _ r).isLt (by omega)
    · exact fun r d => ld2 _ _ _ _ _ (win5 _ 3) r d (key 3 _ r).isLt (by omega)
    · exact fun i j => ld4 _ _ _ _ _ (ent5 _ 0 3) i j (by omega) (by omega)
    · exact fun i j => ld4 _ _ _ _ _ (ent5 _ 1 3) i j (by omega) (by omega)
    · exact fun i j => ld4 _ _ _ _ _ (ent5 _ 2 3) i j (by omega) (by omega)
    · exact fun i j => ld4 _ _ _ _ _ (ent5 _ 3 3) i j (by omega) (by omega)
    · exact fun i j => ld4 _ _ _ _ _ (ent5 _ 4 3) i j (by omega) (by omega)
    · exact fun r d => ld2 _ _ _ _ _ rfl r d (by omega) (by omega)
  case piece3 =>
    refine (show _ = headOut (score (mask (grid0.coords t) 384#32) (qk _ _) (biases _ _ _ _ _)) _ _ x from rfl).trans ?_
    refine piece m c t F 3 4 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win4 _ 3) r d (key 3 _ r).isLt (by omega)
    · exact fun r d => ld2 _ _ _ _ _ (win4 _ 3) r d (key 3 _ r).isLt (by omega)
    · exact fun i j => ld4 _ _ _ _ _ (ent4 _ 0 3) i j (by omega) (by omega)
    · exact fun i j => ld4 _ _ _ _ _ (ent4 _ 1 3) i j (by omega) (by omega)
    · exact fun i j => ld4 _ _ _ _ _ (ent4 _ 2 3) i j (by omega) (by omega)
    · exact fun i j => ld4 _ _ _ _ _ (ent4 _ 3 3) i j (by omega) (by omega)
    · exact fun i j => ld4 _ _ _ _ _ (ent4 _ 4 3) i j (by omega) (by omega)
    · exact fun r d => ld2 _ _ _ _ _ rfl r d (by omega) (by omega)
  case piece4 =>
    refine (show _ = headOut (score (mask (grid0.coords t) 384#32) (qk _ _) (biases _ _ _ _ _)) _ _ x from rfl).trans ?_
    refine piece m c t F 3 3 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win3 _ 3) r d (key 3 _ r).isLt (by omega)
    · exact fun r d => ld2 _ _ _ _ _ (win3 _ 3) r d (key 3 _ r).isLt (by omega)
    · exact fun i j => ld4 _ _ _ _ _ (ent3 _ 0 3) i j (by omega) (by omega)
    · exact fun i j => ld4 _ _ _ _ _ (ent3 _ 1 3) i j (by omega) (by omega)
    · exact fun i j => ld4 _ _ _ _ _ (ent3 _ 2 3) i j (by omega) (by omega)
    · exact fun i j => ld4 _ _ _ _ _ (ent3 _ 3 3) i j (by omega) (by omega)
    · exact fun i j => ld4 _ _ _ _ _ (ent3 _ 4 3) i j (by omega) (by omega)
    · exact fun r d => ld2 _ _ _ _ _ rfl r d (by omega) (by omega)
  case piece5 =>
    refine (show _ = headOut (score (mask (grid0.coords t) 384#32) (qk _ _) (biases _ _ _ _ _)) _ _ x from rfl).trans ?_
    refine piece m c t F 3 2 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win2 _ 3) r d (key 3 _ r).isLt (by omega)
    · exact fun r d => ld2 _ _ _ _ _ (win2 _ 3) r d (key 3 _ r).isLt (by omega)
    · exact fun i j => ld4 _ _ _ _ _ (ent2 _ 0 3) i j (by omega) (by omega)
    · exact fun i j => ld4 _ _ _ _ _ (ent2 _ 1 3) i j (by omega) (by omega)
    · exact fun i j => ld4 _ _ _ _ _ (ent2 _ 2 3) i j (by omega) (by omega)
    · exact fun i j => ld4 _ _ _ _ _ (ent2 _ 3 3) i j (by omega) (by omega)
    · exact fun i j => ld4 _ _ _ _ _ (ent2 _ 4 3) i j (by omega) (by omega)
    · exact fun r d => ld2 _ _ _ _ _ rfl r d (by omega) (by omega)
  case piece6 =>
    refine (show _ = headOut (score (mask (grid0.coords t) 384#32) (qk _ _) (biases _ _ _ _ _)) _ _ x from rfl).trans ?_
    refine piece m c t F 3 1 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win1 _ 3) r d (key 3 _ r).isLt (by omega)
    · exact fun r d => ld2 _ _ _ _ _ (win1 _ 3) r d (key 3 _ r).isLt (by omega)
    · exact fun i j => ld4 _ _ _ _ _ (ent1 _ 0 3) i j (by omega) (by omega)
    · exact fun i j => ld4 _ _ _ _ _ (ent1 _ 1 3) i j (by omega) (by omega)
    · exact fun i j => ld4 _ _ _ _ _ (ent1 _ 2 3) i j (by omega) (by omega)
    · exact fun i j => ld4 _ _ _ _ _ (ent1 _ 3 3) i j (by omega) (by omega)
    · exact fun i j => ld4 _ _ _ _ _ (ent1 _ 4 3) i j (by omega) (by omega)
    · exact fun r d => ld2 _ _ _ _ _ rfl r d (by omega) (by omega)
  case piece7 =>
    refine (show _ = headOut (score (mask (grid0.coords t) 384#32) (qk _ _) (biases _ _ _ _ _)) _ _ x from rfl).trans ?_
    refine piece m c t F 3 0 _ _ _ _ _ _ _ _ _ ?_ ?_ ?_ ?_ ?_ ?_ ?_ ?_ ?_ y x h0 (h1.trans (Nat.zero_add _).symm)
    · exact fun r d => ld2 _ _ _ _ _ rfl r d (by omega) (by omega)
    · exact fun r d => ld2 _ _ _ _ _ (win0 _ 3) r d (key 3 _ r).isLt (by omega)
    · exact fun r d => ld2 _ _ _ _ _ (win0 _ 3) r d (key 3 _ r).isLt (by omega)
    · exact fun i j => ld4 _ _ _ _ _ (ent0 _ 0 3) i j (by omega) (by omega)
    · exact fun i j => ld4 _ _ _ _ _ (ent0 _ 1 3) i j (by omega) (by omega)
    · exact fun i j => ld4 _ _ _ _ _ (ent0 _ 2 3) i j (by omega) (by omega)
    · exact fun i j => ld4 _ _ _ _ _ (ent0 _ 3 3) i j (by omega) (by omega)
    · exact fun i j => ld4 _ _ _ _ _ (ent0 _ 4 3) i j (by omega) (by omega)
    · exact fun r d => ld2 _ _ _ _ _ rfl r d (by omega) (by omega)
  case piece8 =>
    refine (show _ = headOut (score (mask (grid0.coords t) 256#32) (qk _ _) (biases _ _ _ _ _)) _ _ x from rfl).trans ?_
    refine piece m c t F 2 7 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win7 _ 2) r d (key 2 _ r).isLt (by omega)
    · exact fun r d => ld2 _ _ _ _ _ (win7 _ 2) r d (key 2 _ r).isLt (by omega)
    · exact fun i j => ld4 _ _ _ _ _ (ent7 _ 0 2) i j (by omega) (by omega)
    · exact fun i j => ld4 _ _ _ _ _ (ent7 _ 1 2) i j (by omega) (by omega)
    · exact fun i j => ld4 _ _ _ _ _ (ent7 _ 2 2) i j (by omega) (by omega)
    · exact fun i j => ld4 _ _ _ _ _ (ent7 _ 3 2) i j (by omega) (by omega)
    · exact fun i j => ld4 _ _ _ _ _ (ent7 _ 4 2) i j (by omega) (by omega)
    · exact fun r d => ld2 _ _ _ _ _ rfl r d (by omega) (by omega)
  case piece9 =>
    refine (show _ = headOut (score (mask (grid0.coords t) 256#32) (qk _ _) (biases _ _ _ _ _)) _ _ x from rfl).trans ?_
    refine piece m c t F 2 6 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win6 _ 2) r d (key 2 _ r).isLt (by omega)
    · exact fun r d => ld2 _ _ _ _ _ (win6 _ 2) r d (key 2 _ r).isLt (by omega)
    · exact fun i j => ld4 _ _ _ _ _ (ent6 _ 0 2) i j (by omega) (by omega)
    · exact fun i j => ld4 _ _ _ _ _ (ent6 _ 1 2) i j (by omega) (by omega)
    · exact fun i j => ld4 _ _ _ _ _ (ent6 _ 2 2) i j (by omega) (by omega)
    · exact fun i j => ld4 _ _ _ _ _ (ent6 _ 3 2) i j (by omega) (by omega)
    · exact fun i j => ld4 _ _ _ _ _ (ent6 _ 4 2) i j (by omega) (by omega)
    · exact fun r d => ld2 _ _ _ _ _ rfl r d (by omega) (by omega)
  case piece10 =>
    refine (show _ = headOut (score (mask (grid0.coords t) 256#32) (qk _ _) (biases _ _ _ _ _)) _ _ x from rfl).trans ?_
    refine piece m c t F 2 5 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win5 _ 2) r d (key 2 _ r).isLt (by omega)
    · exact fun r d => ld2 _ _ _ _ _ (win5 _ 2) r d (key 2 _ r).isLt (by omega)
    · exact fun i j => ld4 _ _ _ _ _ (ent5 _ 0 2) i j (by omega) (by omega)
    · exact fun i j => ld4 _ _ _ _ _ (ent5 _ 1 2) i j (by omega) (by omega)
    · exact fun i j => ld4 _ _ _ _ _ (ent5 _ 2 2) i j (by omega) (by omega)
    · exact fun i j => ld4 _ _ _ _ _ (ent5 _ 3 2) i j (by omega) (by omega)
    · exact fun i j => ld4 _ _ _ _ _ (ent5 _ 4 2) i j (by omega) (by omega)
    · exact fun r d => ld2 _ _ _ _ _ rfl r d (by omega) (by omega)
  case piece11 =>
    refine (show _ = headOut (score (mask (grid0.coords t) 256#32) (qk _ _) (biases _ _ _ _ _)) _ _ x from rfl).trans ?_
    refine piece m c t F 2 4 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win4 _ 2) r d (key 2 _ r).isLt (by omega)
    · exact fun r d => ld2 _ _ _ _ _ (win4 _ 2) r d (key 2 _ r).isLt (by omega)
    · exact fun i j => ld4 _ _ _ _ _ (ent4 _ 0 2) i j (by omega) (by omega)
    · exact fun i j => ld4 _ _ _ _ _ (ent4 _ 1 2) i j (by omega) (by omega)
    · exact fun i j => ld4 _ _ _ _ _ (ent4 _ 2 2) i j (by omega) (by omega)
    · exact fun i j => ld4 _ _ _ _ _ (ent4 _ 3 2) i j (by omega) (by omega)
    · exact fun i j => ld4 _ _ _ _ _ (ent4 _ 4 2) i j (by omega) (by omega)
    · exact fun r d => ld2 _ _ _ _ _ rfl r d (by omega) (by omega)
  case piece12 =>
    refine (show _ = headOut (score (mask (grid0.coords t) 256#32) (qk _ _) (biases _ _ _ _ _)) _ _ x from rfl).trans ?_
    refine piece m c t F 2 3 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win3 _ 2) r d (key 2 _ r).isLt (by omega)
    · exact fun r d => ld2 _ _ _ _ _ (win3 _ 2) r d (key 2 _ r).isLt (by omega)
    · exact fun i j => ld4 _ _ _ _ _ (ent3 _ 0 2) i j (by omega) (by omega)
    · exact fun i j => ld4 _ _ _ _ _ (ent3 _ 1 2) i j (by omega) (by omega)
    · exact fun i j => ld4 _ _ _ _ _ (ent3 _ 2 2) i j (by omega) (by omega)
    · exact fun i j => ld4 _ _ _ _ _ (ent3 _ 3 2) i j (by omega) (by omega)
    · exact fun i j => ld4 _ _ _ _ _ (ent3 _ 4 2) i j (by omega) (by omega)
    · exact fun r d => ld2 _ _ _ _ _ rfl r d (by omega) (by omega)
  case piece13 =>
    refine (show _ = headOut (score (mask (grid0.coords t) 256#32) (qk _ _) (biases _ _ _ _ _)) _ _ x from rfl).trans ?_
    refine piece m c t F 2 2 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win2 _ 2) r d (key 2 _ r).isLt (by omega)
    · exact fun r d => ld2 _ _ _ _ _ (win2 _ 2) r d (key 2 _ r).isLt (by omega)
    · exact fun i j => ld4 _ _ _ _ _ (ent2 _ 0 2) i j (by omega) (by omega)
    · exact fun i j => ld4 _ _ _ _ _ (ent2 _ 1 2) i j (by omega) (by omega)
    · exact fun i j => ld4 _ _ _ _ _ (ent2 _ 2 2) i j (by omega) (by omega)
    · exact fun i j => ld4 _ _ _ _ _ (ent2 _ 3 2) i j (by omega) (by omega)
    · exact fun i j => ld4 _ _ _ _ _ (ent2 _ 4 2) i j (by omega) (by omega)
    · exact fun r d => ld2 _ _ _ _ _ rfl r d (by omega) (by omega)
  case piece14 =>
    refine (show _ = headOut (score (mask (grid0.coords t) 256#32) (qk _ _) (biases _ _ _ _ _)) _ _ x from rfl).trans ?_
    refine piece m c t F 2 1 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win1 _ 2) r d (key 2 _ r).isLt (by omega)
    · exact fun r d => ld2 _ _ _ _ _ (win1 _ 2) r d (key 2 _ r).isLt (by omega)
    · exact fun i j => ld4 _ _ _ _ _ (ent1 _ 0 2) i j (by omega) (by omega)
    · exact fun i j => ld4 _ _ _ _ _ (ent1 _ 1 2) i j (by omega) (by omega)
    · exact fun i j => ld4 _ _ _ _ _ (ent1 _ 2 2) i j (by omega) (by omega)
    · exact fun i j => ld4 _ _ _ _ _ (ent1 _ 3 2) i j (by omega) (by omega)
    · exact fun i j => ld4 _ _ _ _ _ (ent1 _ 4 2) i j (by omega) (by omega)
    · exact fun r d => ld2 _ _ _ _ _ rfl r d (by omega) (by omega)
  case piece15 =>
    refine (show _ = headOut (score (mask (grid0.coords t) 256#32) (qk _ _) (biases _ _ _ _ _)) _ _ x from rfl).trans ?_
    refine piece m c t F 2 0 _ _ _ _ _ _ _ _ _ ?_ ?_ ?_ ?_ ?_ ?_ ?_ ?_ ?_ y x h0 (h1.trans (Nat.zero_add _).symm)
    · exact fun r d => ld2 _ _ _ _ _ rfl r d (by omega) (by omega)
    · exact fun r d => ld2 _ _ _ _ _ (win0 _ 2) r d (key 2 _ r).isLt (by omega)
    · exact fun r d => ld2 _ _ _ _ _ (win0 _ 2) r d (key 2 _ r).isLt (by omega)
    · exact fun i j => ld4 _ _ _ _ _ (ent0 _ 0 2) i j (by omega) (by omega)
    · exact fun i j => ld4 _ _ _ _ _ (ent0 _ 1 2) i j (by omega) (by omega)
    · exact fun i j => ld4 _ _ _ _ _ (ent0 _ 2 2) i j (by omega) (by omega)
    · exact fun i j => ld4 _ _ _ _ _ (ent0 _ 3 2) i j (by omega) (by omega)
    · exact fun i j => ld4 _ _ _ _ _ (ent0 _ 4 2) i j (by omega) (by omega)
    · exact fun r d => ld2 _ _ _ _ _ rfl r d (by omega) (by omega)
  case piece16 =>
    refine (show _ = headOut (score (mask (grid0.coords t) 128#32) (qk _ _) (biases _ _ _ _ _)) _ _ x from rfl).trans ?_
    refine piece m c t F 1 7 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win7 _ 1) r d (key 1 _ r).isLt (by omega)
    · exact fun r d => ld2 _ _ _ _ _ (win7 _ 1) r d (key 1 _ r).isLt (by omega)
    · exact fun i j => ld4 _ _ _ _ _ (ent7 _ 0 1) i j (by omega) (by omega)
    · exact fun i j => ld4 _ _ _ _ _ (ent7 _ 1 1) i j (by omega) (by omega)
    · exact fun i j => ld4 _ _ _ _ _ (ent7 _ 2 1) i j (by omega) (by omega)
    · exact fun i j => ld4 _ _ _ _ _ (ent7 _ 3 1) i j (by omega) (by omega)
    · exact fun i j => ld4 _ _ _ _ _ (ent7 _ 4 1) i j (by omega) (by omega)
    · exact fun r d => ld2 _ _ _ _ _ rfl r d (by omega) (by omega)
  case piece17 =>
    refine (show _ = headOut (score (mask (grid0.coords t) 128#32) (qk _ _) (biases _ _ _ _ _)) _ _ x from rfl).trans ?_
    refine piece m c t F 1 6 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win6 _ 1) r d (key 1 _ r).isLt (by omega)
    · exact fun r d => ld2 _ _ _ _ _ (win6 _ 1) r d (key 1 _ r).isLt (by omega)
    · exact fun i j => ld4 _ _ _ _ _ (ent6 _ 0 1) i j (by omega) (by omega)
    · exact fun i j => ld4 _ _ _ _ _ (ent6 _ 1 1) i j (by omega) (by omega)
    · exact fun i j => ld4 _ _ _ _ _ (ent6 _ 2 1) i j (by omega) (by omega)
    · exact fun i j => ld4 _ _ _ _ _ (ent6 _ 3 1) i j (by omega) (by omega)
    · exact fun i j => ld4 _ _ _ _ _ (ent6 _ 4 1) i j (by omega) (by omega)
    · exact fun r d => ld2 _ _ _ _ _ rfl r d (by omega) (by omega)
  case piece18 =>
    refine (show _ = headOut (score (mask (grid0.coords t) 128#32) (qk _ _) (biases _ _ _ _ _)) _ _ x from rfl).trans ?_
    refine piece m c t F 1 5 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win5 _ 1) r d (key 1 _ r).isLt (by omega)
    · exact fun r d => ld2 _ _ _ _ _ (win5 _ 1) r d (key 1 _ r).isLt (by omega)
    · exact fun i j => ld4 _ _ _ _ _ (ent5 _ 0 1) i j (by omega) (by omega)
    · exact fun i j => ld4 _ _ _ _ _ (ent5 _ 1 1) i j (by omega) (by omega)
    · exact fun i j => ld4 _ _ _ _ _ (ent5 _ 2 1) i j (by omega) (by omega)
    · exact fun i j => ld4 _ _ _ _ _ (ent5 _ 3 1) i j (by omega) (by omega)
    · exact fun i j => ld4 _ _ _ _ _ (ent5 _ 4 1) i j (by omega) (by omega)
    · exact fun r d => ld2 _ _ _ _ _ rfl r d (by omega) (by omega)
  case piece19 =>
    refine (show _ = headOut (score (mask (grid0.coords t) 128#32) (qk _ _) (biases _ _ _ _ _)) _ _ x from rfl).trans ?_
    refine piece m c t F 1 4 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win4 _ 1) r d (key 1 _ r).isLt (by omega)
    · exact fun r d => ld2 _ _ _ _ _ (win4 _ 1) r d (key 1 _ r).isLt (by omega)
    · exact fun i j => ld4 _ _ _ _ _ (ent4 _ 0 1) i j (by omega) (by omega)
    · exact fun i j => ld4 _ _ _ _ _ (ent4 _ 1 1) i j (by omega) (by omega)
    · exact fun i j => ld4 _ _ _ _ _ (ent4 _ 2 1) i j (by omega) (by omega)
    · exact fun i j => ld4 _ _ _ _ _ (ent4 _ 3 1) i j (by omega) (by omega)
    · exact fun i j => ld4 _ _ _ _ _ (ent4 _ 4 1) i j (by omega) (by omega)
    · exact fun r d => ld2 _ _ _ _ _ rfl r d (by omega) (by omega)
  case piece20 =>
    refine (show _ = headOut (score (mask (grid0.coords t) 128#32) (qk _ _) (biases _ _ _ _ _)) _ _ x from rfl).trans ?_
    refine piece m c t F 1 3 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win3 _ 1) r d (key 1 _ r).isLt (by omega)
    · exact fun r d => ld2 _ _ _ _ _ (win3 _ 1) r d (key 1 _ r).isLt (by omega)
    · exact fun i j => ld4 _ _ _ _ _ (ent3 _ 0 1) i j (by omega) (by omega)
    · exact fun i j => ld4 _ _ _ _ _ (ent3 _ 1 1) i j (by omega) (by omega)
    · exact fun i j => ld4 _ _ _ _ _ (ent3 _ 2 1) i j (by omega) (by omega)
    · exact fun i j => ld4 _ _ _ _ _ (ent3 _ 3 1) i j (by omega) (by omega)
    · exact fun i j => ld4 _ _ _ _ _ (ent3 _ 4 1) i j (by omega) (by omega)
    · exact fun r d => ld2 _ _ _ _ _ rfl r d (by omega) (by omega)
  case piece21 =>
    refine (show _ = headOut (score (mask (grid0.coords t) 128#32) (qk _ _) (biases _ _ _ _ _)) _ _ x from rfl).trans ?_
    refine piece m c t F 1 2 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win2 _ 1) r d (key 1 _ r).isLt (by omega)
    · exact fun r d => ld2 _ _ _ _ _ (win2 _ 1) r d (key 1 _ r).isLt (by omega)
    · exact fun i j => ld4 _ _ _ _ _ (ent2 _ 0 1) i j (by omega) (by omega)
    · exact fun i j => ld4 _ _ _ _ _ (ent2 _ 1 1) i j (by omega) (by omega)
    · exact fun i j => ld4 _ _ _ _ _ (ent2 _ 2 1) i j (by omega) (by omega)
    · exact fun i j => ld4 _ _ _ _ _ (ent2 _ 3 1) i j (by omega) (by omega)
    · exact fun i j => ld4 _ _ _ _ _ (ent2 _ 4 1) i j (by omega) (by omega)
    · exact fun r d => ld2 _ _ _ _ _ rfl r d (by omega) (by omega)
  case piece22 =>
    refine (show _ = headOut (score (mask (grid0.coords t) 128#32) (qk _ _) (biases _ _ _ _ _)) _ _ x from rfl).trans ?_
    refine piece m c t F 1 1 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win1 _ 1) r d (key 1 _ r).isLt (by omega)
    · exact fun r d => ld2 _ _ _ _ _ (win1 _ 1) r d (key 1 _ r).isLt (by omega)
    · exact fun i j => ld4 _ _ _ _ _ (ent1 _ 0 1) i j (by omega) (by omega)
    · exact fun i j => ld4 _ _ _ _ _ (ent1 _ 1 1) i j (by omega) (by omega)
    · exact fun i j => ld4 _ _ _ _ _ (ent1 _ 2 1) i j (by omega) (by omega)
    · exact fun i j => ld4 _ _ _ _ _ (ent1 _ 3 1) i j (by omega) (by omega)
    · exact fun i j => ld4 _ _ _ _ _ (ent1 _ 4 1) i j (by omega) (by omega)
    · exact fun r d => ld2 _ _ _ _ _ rfl r d (by omega) (by omega)
  case piece23 =>
    refine (show _ = headOut (score (mask (grid0.coords t) 128#32) (qk _ _) (biases _ _ _ _ _)) _ _ x from rfl).trans ?_
    refine piece m c t F 1 0 _ _ _ _ _ _ _ _ _ ?_ ?_ ?_ ?_ ?_ ?_ ?_ ?_ ?_ y x h0 (h1.trans (Nat.zero_add _).symm)
    · exact fun r d => ld2 _ _ _ _ _ rfl r d (by omega) (by omega)
    · exact fun r d => ld2 _ _ _ _ _ (win0 _ 1) r d (key 1 _ r).isLt (by omega)
    · exact fun r d => ld2 _ _ _ _ _ (win0 _ 1) r d (key 1 _ r).isLt (by omega)
    · exact fun i j => ld4 _ _ _ _ _ (ent0 _ 0 1) i j (by omega) (by omega)
    · exact fun i j => ld4 _ _ _ _ _ (ent0 _ 1 1) i j (by omega) (by omega)
    · exact fun i j => ld4 _ _ _ _ _ (ent0 _ 2 1) i j (by omega) (by omega)
    · exact fun i j => ld4 _ _ _ _ _ (ent0 _ 3 1) i j (by omega) (by omega)
    · exact fun i j => ld4 _ _ _ _ _ (ent0 _ 4 1) i j (by omega) (by omega)
    · exact fun r d => ld2 _ _ _ _ _ rfl r d (by omega) (by omega)
  case piece24 =>
    refine (show _ = headOut (score (mask (grid0.coords t) 0#32) (qk _ _) (biases _ _ _ _ _)) _ _ x from rfl).trans ?_
    refine piece m c t F 0 7 _ _ _ _ _ _ _ _ _ ?_ ?_ ?_ ?_ ?_ ?_ ?_ ?_ ?_ y x (h0.trans (Nat.zero_add _).symm) h1
    · exact fun r d => ld2 _ _ _ _ _ rfl r d (by omega) (by omega)
    · exact fun r d => ld2 _ _ _ _ _ (win7 _ 0) r d (key 0 _ r).isLt (by omega)
    · exact fun r d => ld2 _ _ _ _ _ (win7 _ 0) r d (key 0 _ r).isLt (by omega)
    · exact fun i j => ld4 _ _ _ _ _ (ent7 _ 0 0) i j (by omega) (by omega)
    · exact fun i j => ld4 _ _ _ _ _ (ent7 _ 1 0) i j (by omega) (by omega)
    · exact fun i j => ld4 _ _ _ _ _ (ent7 _ 2 0) i j (by omega) (by omega)
    · exact fun i j => ld4 _ _ _ _ _ (ent7 _ 3 0) i j (by omega) (by omega)
    · exact fun i j => ld4 _ _ _ _ _ (ent7 _ 4 0) i j (by omega) (by omega)
    · exact fun r d => ld2 _ _ _ _ _ rfl r d (by omega) (by omega)
  case piece25 =>
    refine (show _ = headOut (score (mask (grid0.coords t) 0#32) (qk _ _) (biases _ _ _ _ _)) _ _ x from rfl).trans ?_
    refine piece m c t F 0 6 _ _ _ _ _ _ _ _ _ ?_ ?_ ?_ ?_ ?_ ?_ ?_ ?_ ?_ y x (h0.trans (Nat.zero_add _).symm) h1
    · exact fun r d => ld2 _ _ _ _ _ rfl r d (by omega) (by omega)
    · exact fun r d => ld2 _ _ _ _ _ (win6 _ 0) r d (key 0 _ r).isLt (by omega)
    · exact fun r d => ld2 _ _ _ _ _ (win6 _ 0) r d (key 0 _ r).isLt (by omega)
    · exact fun i j => ld4 _ _ _ _ _ (ent6 _ 0 0) i j (by omega) (by omega)
    · exact fun i j => ld4 _ _ _ _ _ (ent6 _ 1 0) i j (by omega) (by omega)
    · exact fun i j => ld4 _ _ _ _ _ (ent6 _ 2 0) i j (by omega) (by omega)
    · exact fun i j => ld4 _ _ _ _ _ (ent6 _ 3 0) i j (by omega) (by omega)
    · exact fun i j => ld4 _ _ _ _ _ (ent6 _ 4 0) i j (by omega) (by omega)
    · exact fun r d => ld2 _ _ _ _ _ rfl r d (by omega) (by omega)
  case piece26 =>
    refine (show _ = headOut (score (mask (grid0.coords t) 0#32) (qk _ _) (biases _ _ _ _ _)) _ _ x from rfl).trans ?_
    refine piece m c t F 0 5 _ _ _ _ _ _ _ _ _ ?_ ?_ ?_ ?_ ?_ ?_ ?_ ?_ ?_ y x (h0.trans (Nat.zero_add _).symm) h1
    · exact fun r d => ld2 _ _ _ _ _ rfl r d (by omega) (by omega)
    · exact fun r d => ld2 _ _ _ _ _ (win5 _ 0) r d (key 0 _ r).isLt (by omega)
    · exact fun r d => ld2 _ _ _ _ _ (win5 _ 0) r d (key 0 _ r).isLt (by omega)
    · exact fun i j => ld4 _ _ _ _ _ (ent5 _ 0 0) i j (by omega) (by omega)
    · exact fun i j => ld4 _ _ _ _ _ (ent5 _ 1 0) i j (by omega) (by omega)
    · exact fun i j => ld4 _ _ _ _ _ (ent5 _ 2 0) i j (by omega) (by omega)
    · exact fun i j => ld4 _ _ _ _ _ (ent5 _ 3 0) i j (by omega) (by omega)
    · exact fun i j => ld4 _ _ _ _ _ (ent5 _ 4 0) i j (by omega) (by omega)
    · exact fun r d => ld2 _ _ _ _ _ rfl r d (by omega) (by omega)
  case piece27 =>
    refine (show _ = headOut (score (mask (grid0.coords t) 0#32) (qk _ _) (biases _ _ _ _ _)) _ _ x from rfl).trans ?_
    refine piece m c t F 0 4 _ _ _ _ _ _ _ _ _ ?_ ?_ ?_ ?_ ?_ ?_ ?_ ?_ ?_ y x (h0.trans (Nat.zero_add _).symm) h1
    · exact fun r d => ld2 _ _ _ _ _ rfl r d (by omega) (by omega)
    · exact fun r d => ld2 _ _ _ _ _ (win4 _ 0) r d (key 0 _ r).isLt (by omega)
    · exact fun r d => ld2 _ _ _ _ _ (win4 _ 0) r d (key 0 _ r).isLt (by omega)
    · exact fun i j => ld4 _ _ _ _ _ (ent4 _ 0 0) i j (by omega) (by omega)
    · exact fun i j => ld4 _ _ _ _ _ (ent4 _ 1 0) i j (by omega) (by omega)
    · exact fun i j => ld4 _ _ _ _ _ (ent4 _ 2 0) i j (by omega) (by omega)
    · exact fun i j => ld4 _ _ _ _ _ (ent4 _ 3 0) i j (by omega) (by omega)
    · exact fun i j => ld4 _ _ _ _ _ (ent4 _ 4 0) i j (by omega) (by omega)
    · exact fun r d => ld2 _ _ _ _ _ rfl r d (by omega) (by omega)
  case piece28 =>
    refine (show _ = headOut (score (mask (grid0.coords t) 0#32) (qk _ _) (biases _ _ _ _ _)) _ _ x from rfl).trans ?_
    refine piece m c t F 0 3 _ _ _ _ _ _ _ _ _ ?_ ?_ ?_ ?_ ?_ ?_ ?_ ?_ ?_ y x (h0.trans (Nat.zero_add _).symm) h1
    · exact fun r d => ld2 _ _ _ _ _ rfl r d (by omega) (by omega)
    · exact fun r d => ld2 _ _ _ _ _ (win3 _ 0) r d (key 0 _ r).isLt (by omega)
    · exact fun r d => ld2 _ _ _ _ _ (win3 _ 0) r d (key 0 _ r).isLt (by omega)
    · exact fun i j => ld4 _ _ _ _ _ (ent3 _ 0 0) i j (by omega) (by omega)
    · exact fun i j => ld4 _ _ _ _ _ (ent3 _ 1 0) i j (by omega) (by omega)
    · exact fun i j => ld4 _ _ _ _ _ (ent3 _ 2 0) i j (by omega) (by omega)
    · exact fun i j => ld4 _ _ _ _ _ (ent3 _ 3 0) i j (by omega) (by omega)
    · exact fun i j => ld4 _ _ _ _ _ (ent3 _ 4 0) i j (by omega) (by omega)
    · exact fun r d => ld2 _ _ _ _ _ rfl r d (by omega) (by omega)
  case piece29 =>
    refine (show _ = headOut (score (mask (grid0.coords t) 0#32) (qk _ _) (biases _ _ _ _ _)) _ _ x from rfl).trans ?_
    refine piece m c t F 0 2 _ _ _ _ _ _ _ _ _ ?_ ?_ ?_ ?_ ?_ ?_ ?_ ?_ ?_ y x (h0.trans (Nat.zero_add _).symm) h1
    · exact fun r d => ld2 _ _ _ _ _ rfl r d (by omega) (by omega)
    · exact fun r d => ld2 _ _ _ _ _ (win2 _ 0) r d (key 0 _ r).isLt (by omega)
    · exact fun r d => ld2 _ _ _ _ _ (win2 _ 0) r d (key 0 _ r).isLt (by omega)
    · exact fun i j => ld4 _ _ _ _ _ (ent2 _ 0 0) i j (by omega) (by omega)
    · exact fun i j => ld4 _ _ _ _ _ (ent2 _ 1 0) i j (by omega) (by omega)
    · exact fun i j => ld4 _ _ _ _ _ (ent2 _ 2 0) i j (by omega) (by omega)
    · exact fun i j => ld4 _ _ _ _ _ (ent2 _ 3 0) i j (by omega) (by omega)
    · exact fun i j => ld4 _ _ _ _ _ (ent2 _ 4 0) i j (by omega) (by omega)
    · exact fun r d => ld2 _ _ _ _ _ rfl r d (by omega) (by omega)
  case piece30 =>
    refine (show _ = headOut (score (mask (grid0.coords t) 0#32) (qk _ _) (biases _ _ _ _ _)) _ _ x from rfl).trans ?_
    refine piece m c t F 0 1 _ _ _ _ _ _ _ _ _ ?_ ?_ ?_ ?_ ?_ ?_ ?_ ?_ ?_ y x (h0.trans (Nat.zero_add _).symm) h1
    · exact fun r d => ld2 _ _ _ _ _ rfl r d (by omega) (by omega)
    · exact fun r d => ld2 _ _ _ _ _ (win1 _ 0) r d (key 0 _ r).isLt (by omega)
    · exact fun r d => ld2 _ _ _ _ _ (win1 _ 0) r d (key 0 _ r).isLt (by omega)
    · exact fun i j => ld4 _ _ _ _ _ (ent1 _ 0 0) i j (by omega) (by omega)
    · exact fun i j => ld4 _ _ _ _ _ (ent1 _ 1 0) i j (by omega) (by omega)
    · exact fun i j => ld4 _ _ _ _ _ (ent1 _ 2 0) i j (by omega) (by omega)
    · exact fun i j => ld4 _ _ _ _ _ (ent1 _ 3 0) i j (by omega) (by omega)
    · exact fun i j => ld4 _ _ _ _ _ (ent1 _ 4 0) i j (by omega) (by omega)
    · exact fun r d => ld2 _ _ _ _ _ rfl r d (by omega) (by omega)
  case piece31 =>
    refine (show _ = headOut (score (mask (grid0.coords t) 0#32) (qk _ _) (biases _ _ _ _ _)) _ _ x from rfl).trans ?_
    refine piece m c t F 0 0 _ _ _ _ _ _ _ _ _ ?_ ?_ ?_ ?_ ?_ ?_ ?_ ?_ ?_ y x (h0.trans (Nat.zero_add _).symm) (h1.trans (Nat.zero_add _).symm)
    · exact fun r d => ld2 _ _ _ _ _ rfl r d (by omega) (by omega)
    · exact fun r d => ld2 _ _ _ _ _ (win0 _ 0) r d (key 0 _ r).isLt (by omega)
    · exact fun r d => ld2 _ _ _ _ _ (win0 _ 0) r d (key 0 _ r).isLt (by omega)
    · exact fun i j => ld4 _ _ _ _ _ (ent0 _ 0 0) i j (by omega) (by omega)
    · exact fun i j => ld4 _ _ _ _ _ (ent0 _ 1 0) i j (by omega) (by omega)
    · exact fun i j => ld4 _ _ _ _ _ (ent0 _ 2 0) i j (by omega) (by omega)
    · exact fun i j => ld4 _ _ _ _ _ (ent0 _ 3 0) i j (by omega) (by omega)
    · exact fun i j => ld4 _ _ _ _ _ (ent0 _ 4 0) i j (by omega) (by omega)
    · exact fun r d => ld2 _ _ _ _ _ rfl r d (by omega) (by omega)

end Cert.Band.Ker
-- ==== Proof.Final.lean ====
module

public import proofs.«01_k».proof.Defs
public import proofs.«01_k».proof.Proof.Point
public import proofs.«01_k».proof.Proof.Ref
public import proofs.«01_k».proof.Proof.Gen.KernelIdeal.Value
public import proofs.«01_k».proof.Proof.Gen.ReferenceIdeal.Run
public import Idealize.ShloMosaic.Lib.ReduceAll

/-! The band attention's array is the reference's, on finite queries, keys and bias. -/

@[expose] public section

set_option maxRecDepth 16384

noncomputable section

namespace Cert.Band

open Idealize.ShloMosaic Idealize.ShloMosaic.TcCoe Idealize.SL.Sem

theorem preFacts : Cert.Pre_finite_logits.Facts where
  bcast_S_S16384x4096 := by decide
  reducesTo_S16384x4096_S_d0_1 := by decide
  h_S_ := by decide
  slices_S16384x8192_S16384x4096_0_0 := by decide
  bcast_S_S32x129 := by decide
  reducesTo_S32x129_S_d0_1 := by decide

theorem inf_word : (FloatOps.ofBits (F := Ideal) .f32 0x7F800000#32 : EReal) = ⊤ := by
  show Ideal.ofBits .f32 0x7F800000#32 = ⊤
  simp [Ideal.ofBits, Ideal.ieee]

/-- An absolute value below infinity: a finite entry. -/
theorem finite_of_olt (x : EReal) (h : Ideal.cmp .olt (max x (-x)) (FloatOps.ofBits (F := Ideal) .f32 0x7F800000#32 : EReal) = 1#1) : x ≠ ⊤ ∧ x ≠ ⊥ := by
  rw [inf_word] at h
  constructor <;> rintro rfl <;> simp [Ideal.cmp] at h

/-- The left half of the keys and values. -/
theorem slice_at (X : FVec Ideal Cert.KernelIdeal.S16384x8192 .f32) (w : (⟨2, ![16384, 8192]⟩ : Shape).Slices ![0, 0] ⟨2, ![16384, 4096]⟩) (r : Fin 16384) (d : Fin 4096) :
    extractStridedSlice ⟨2, ![16384, 4096]⟩ ![0, 0] X w (ix2 r d) = X (ix2 r ⟨d, by omega⟩) := by
  refine congrArg X (funext fun z => Fin.ext ?_)
  match z with
  | ⟨0, _⟩ => exact Nat.zero_add _
  | ⟨1, _⟩ => exact Nat.zero_add _

section
open Cert.KernelIdeal

attribute [local instance] preFacts

variable (m : (ℓ : Loc nD τ sig) → Buf (Elt Ideal) ℓ)

theorem finite_of_pre (P : Cert.Pre_KernelIdeal_finite_logits m) (c : Dev nD) :
    Ker.Finite (m ((c.tc : Thread nD τ).loc main_arg0)) (m ((c.tc : Thread nD τ).loc main_arg1)) (m ((c.tc : Thread nD τ).loc main_arg3)) := by
  have h := congrFun (P c) (fun i => i.elim0)
  unfold Cert.Pre_finite_logits.fn at h
  obtain ⟨h, hb⟩ := IntOp.andi_eq_one.1 h
  obtain ⟨hq, hk⟩ := IntOp.andi_eq_one.1 h
  exact ⟨fun r d => finite_of_olt _ (Host.reduce_andi_all _ _ _ _ _ hq (ix2 r d)),
    fun r d => by
      have h := finite_of_olt _ (Host.reduce_andi_all _ _ _ _ _ hk (ix2 r d))
      exact (slice_at (m ((c.tc : Thread nD τ).loc main_arg1)) Cert.Pre_finite_logits.Facts.slices_S16384x8192_S16384x4096_0_0 r d) ▸ h,
    fun h x => finite_of_olt _ (Host.reduce_andi_all _ _ _ _ _ hb (ix2 h x))⟩

end

section
open Cert.KernelIdeal Cert.KernelIdeal.Gen

variable (m : (ℓ : Loc nD τ sig) → Buf (Elt Ideal) ℓ) (c : Dev nD)

/-- The array after the run. -/
theorem final
    (F : Ker.Finite (m ((c.tc : Thread nD τ).loc main_arg0)) (m ((c.tc : Thread nD τ).loc main_arg1)) (m ((c.tc : Thread nD τ).loc main_arg3))) :
    (dats m 0 c).arrAt 5 cfg0.N = Ref.REF (m ((c.tc : Thread nD τ).loc main_arg0)) (m ((c.tc : Thread nD τ).loc main_arg1))
      (m ((c.tc : Thread nD τ).loc main_arg3)) (m ((c.tc : Thread nD τ).loc main_arg2)) := by
  refine (dats m 0 c).arrAt_eq_of_covers 5 _ (by decide +kernel) fun t _ y => ?_
  blk_simp
  rw [after0_5]
  refine (Ker.point m c t F _).trans (congrArg _ ?_)
  blk_ext [Ker.idx t]

end

/-- The reference's run ends with every counter at zero. -/
theorem frame_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2, sem_eq_zero_of_no_sems (by decide) r.2⟩) (Cert.ReferenceIdeal.Value.run m g)

attribute [local instance] preFacts in
theorem algebraic : Cert.algebraic_KernelIdeal_ReferenceIdeal_pre_finite_logits := by
  intro m g m' g' P hm
  refine ⟨fun c => Ref.REF (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)), ?_, ?_⟩
  · exact (θ_run _ _ _).mono (fun r h c => ⟨(h c).1.trans (final m c (finite_of_pre m P c)), (h c).2⟩) (Cert.KernelIdeal.Value.run_blocks m g)
  · refine (θ_run _ _ _).mono (fun r h c => ⟨(h c).1.trans ?_, (h c).2⟩) (Cert.ReferenceIdeal.Value.run m' g')
    obtain ⟨h0, h1, h2, h3⟩ := hm c
    refine (Ref.res_eq m' c).trans ?_
    rw [h0, h1, h2, h3]

end Cert.Band

end
-- ==== Proof.Mat.lean ====
module

public import Idealize.ShloMosaic.Lib.Pipeline.ValueKit

/-! A matrix product and a root-mean-square norm, entry by entry, at the extended reals. -/

@[expose] public section

noncomputable section

namespace Cert.Mat

open Idealize.ShloMosaic Idealize.ShloMosaic.TcCoe Idealize.SL.Sem

/-- A matrix of extended reals. -/
abbrev M (m n : ℕ) : Type := (⟨2, ![m, n]⟩ : Shape).Idx → EReal

/-- An entry of a product. -/
def mm {m k n : ℕ} (a : M m k) (w : M k n) (r : Fin m) (c : Fin n) : EReal := ∑ x : Fin k, a (ix2 r x) * w (ix2 x c)

/-- An entry of the norm: the mean of squares over `cn` entries. -/
def rms {m n : ℕ} (cn : EReal) (x : M m n) (g : M 1 n) (r : Fin m) (c : Fin n) : EReal :=
  x (ix2 r c) * Ideal.rsqrt (Ideal.div (∑ k : Fin n, x (ix2 r k) * x (ix2 r k)) cn + Ideal.ofBits .f32 0x358637BD#32) * g (ix2 0 c)

theorem mm_congr {m k n m' n' : ℕ} {a : M m k} {w : M k n} {a' : M m' k} {w' : M k n'} {r : Fin m} {c : Fin n} {r' : Fin m'} {c' : Fin n'}
    (ha : ∀ x, a (ix2 r x) = a' (ix2 r' x)) (hw : ∀ x, w (ix2 x c) = w' (ix2 x c')) : mm a w r c = mm a' w' r' c' :=
  Finset.sum_congr rfl fun x _ => by rw [ha, hw]

theorem rms_congr {m n m' : ℕ} {cn : EReal} {x : M m n} {g : M 1 n} {x' : M m' n} {g' : M 1 n} {r : Fin m} {r' : Fin m'} {c : Fin n}
    (hx : ∀ k, x (ix2 r k) = x' (ix2 r' k)) (hg : g (ix2 0 c) = g' (ix2 0 c)) : rms cn x g r c = rms cn x' g' r' c := by
  unfold rms
  rw [hx c, hg]
  simp only [hx]

/-- A read of a whole block. -/
theorem ld_all {α : EltTy} {a b : ℕ} (X : (⟨2, ![a, b]⟩ : Shape).Idx → Elt Ideal α)
    (inb : ∀ z, (![0, 0] : Fin 2 → ℕ) z + (⟨2, ![a, b]⟩ : Shape).size z ≤ (⟨2, ![a, b]⟩ : Shape).size z) :
    View.ld X (Rect.unit (s := ⟨2, ![a, b]⟩) ![0, 0] (⟨2, ![a, b]⟩ : Shape).size inb) = X :=
  View.ld_unit_zero (funext fun z => by match z with | ⟨0, _⟩ => rfl | ⟨1, _⟩ => rfl) inb X

end Cert.Mat

end
-- ==== Proof.EvenVal.lean ====
module

public import proofs.«01_k».proof.Proof.Mat
public import proofs.«01_k».proof.Proof.Gen.EvenIdeal.Frame

/-! The arrays the regions of the even layer's projections leave. -/

@[expose] public section

set_option maxRecDepth 16384

noncomputable section

namespace Cert.EvenV

open Idealize.ShloMosaic Idealize.ShloMosaic.TcCoe Idealize.SL.Sem
open Cert.EvenIdeal Cert.EvenIdeal.Gen Cert.Mat
open Idealize.ShloMosaic.Pipeline (Dat)

variable (V : (c : Dev nD) → (b : Ref sig .tc) → Buf (Elt Ideal) ((c : Thread nD τ).loc b)) (c : Dev nD)

/-! The norm before the even layer. -/

namespace R0

theorem idx : ∀ t : Fin cfg0.N, win0_0.index t = ![t.val, 0]
    ∧ win0_1.index t = ![0, 0]
    ∧ win0_2.index t = ![t.val, 0] :=
  (by decide +kernel : ∀ t : Fin grid0.N, _)

theorem pt (t : Fin cfg0.N) : t.val < 32 := lt_of_lt_of_eq t.isLt N_0

theorem b0 (t : Fin cfg0.N) (a : Fin 512) (d : Fin 4096) : iblk0 V c 0 t (ix2 a d) = V c main_v8 (ix2 ⟨t.val * 512 + a, by have := pt t; omega⟩ d) := by
  blk_point [iblk0, idx t]

theorem b1 (t : Fin cfg0.N) (d : Fin 4096) : iblk0 V c 1 t (ix2 0 d) = V c main_v9 (ix2 0 d) := by
  blk_point [iblk0, idx t]

theorem pay2 (x0 : Vec Ideal S512x4096 .f32) (x1 : Vec Ideal S1x4096 .f32) (r : Fin 512) (d : Fin 4096) :
    k0_pay1 x0 x1 (ix2 r d) = rms (Ideal.ofBits .f32 0x45800000#32) x0 x1 r d := by
  unfold k0_pay1
  pointwise [rms]

/-- The array it leaves. -/
def G2 : M 16384 4096 := fun i => rms (Ideal.ofBits .f32 0x45800000#32) (V c main_v8) (V c main_v9) (i 0) (i 1)

theorem arr2 : (dat0 V c).arrAt 2 cfg0.N = G2 V c := by
  refine (dat0 V c).arrAt_eq_of_covers 2 _ (by decide +kernel) fun t _ y => ?_
  blk_simp
  rw [after0_2]
  unfold out0_2
  canon_tiles x h
  obtain ⟨r, d, rfl⟩ : ∃ (r : Fin 512) (d : Fin 4096), x = ix2 r d := ⟨x 0, x 1, eq_ix2 x⟩
  have e : (win0_2.blk t).view.emb y = ix2 ⟨t.val * 512 + r, by have := pt t; omega⟩ d := by
    blk_ext [idx t, h0, h1]
  rw [e, ld_all, ld_all]
  refine (pay2 _ _ r d).trans ?_
  exact rms_congr (fun x => b0 V c t _ x) (b1 V c t _)

end R0

/-! The scaled queries of the first attention. -/

namespace R1

theorem idx : ∀ t : Fin cfg1.N, win1_0.index t = ![t.val / 2, 0]
    ∧ win1_1.index t = ![0, t.val % 2]
    ∧ win1_2.index t = ![t.val / 2, t.val % 2] :=
  (by decide +kernel : ∀ t : Fin grid1.N, _)

theorem pt (t : Fin cfg1.N) : t.val < 32 := lt_of_lt_of_eq t.isLt N_1

theorem b0 (t : Fin cfg1.N) (a : Fin 1024) (d : Fin 4096) : iblk1 V c 0 t (ix2 a d) = V c main_v10 (ix2 ⟨t.val / 2 * 1024 + a, by have := pt t; omega⟩ d) := by
  blk_point [iblk1, idx t]

theorem b1 (t : Fin cfg1.N) (a : Fin 4096) (d : Fin 1024) : iblk1 V c 1 t (ix2 a d) = V c main_v4 (ix2 a ⟨t.val % 2 * 1024 + d, by have := pt t; omega⟩) := by
  blk_point [iblk1, idx t]

theorem pay2 (x0 : Vec Ideal S1024x4096 .bf16) (x1 : Vec Ideal S4096x1024 .bf16) (r : Fin 1024) (d : Fin 1024) :
    k1_pay1 x0 x1 (ix2 r d) = mm x0 x1 r d * (Named.named (F := Ideal) κ "q_scale" (φ := .f32) 0x3E0293EE#32 : EReal) := by
  unfold k1_pay1
  pointwise [mm]

/-- The array it leaves. -/
def G2 : M 16384 2048 := fun i => mm (V c main_v10) (V c main_v4) (i 0) ⟨0 + (i 1).val, by have : (i 1).val < 2048 := (i 1).isLt; omega⟩ * (Named.named (F := Ideal) κ "q_scale" (φ := .f32) 0x3E0293EE#32 : EReal)

theorem arr2 : (dat1 V c).arrAt 2 cfg1.N = G2 V c := by
  refine (dat1 V c).arrAt_eq_of_covers 2 _ (by decide +kernel) fun t _ y => ?_
  blk_simp
  rw [after1_2]
  unfold out1_2
  canon_tiles x h
  obtain ⟨r, d, rfl⟩ : ∃ (r : Fin 1024) (d : Fin 1024), x = ix2 r d := ⟨x 0, x 1, eq_ix2 x⟩
  have e : (win1_2.blk t).view.emb y = ix2 ⟨t.val / 2 * 1024 + r, by have := pt t; omega⟩ ⟨t.val % 2 * 1024 + d, by have := pt t; omega⟩ := by
    blk_ext [idx t, h0, h1]
  rw [e, ld_all, ld_all]
  refine (pay2 _ _ r d).trans ?_
  exact congrArg (· * (Named.named (F := Ideal) κ "q_scale" (φ := .f32) 0x3E0293EE#32 : EReal)) (mm_congr (fun x => b0 V c t _ x) (fun x => (b1 V c t x _).trans (congrArg (V c main_v4) (congrArg (ix2 x) (Fin.ext (by show (t.val % 2) * 1024 + d.val = 0 + (t.val % 2 * 1024 + d.val); omega))))))

end R1

/-! The keys and values of the first attention. -/

namespace R2

theorem idx : ∀ t : Fin cfg2.N, win2_0.index t = ![t.val / 4, 0]
    ∧ win2_1.index t = ![0, (2 + t.val % 4)]
    ∧ win2_2.index t = ![t.val / 4, t.val % 4]
    ∧ win2_3.index t = ![t.val / 4, t.val % 4] :=
  (by decide +kernel : ∀ t : Fin grid2.N, _)

theorem pt (t : Fin cfg2.N) : t.val < 64 := lt_of_lt_of_eq t.isLt N_2

theorem b0 (t : Fin cfg2.N) (a : Fin 1024) (d : Fin 4096) : iblk2 V c 0 t (ix2 a d) = V c main_v10 (ix2 ⟨t.val / 4 * 1024 + a, by have := pt t; omega⟩ d) := by
  blk_point [iblk2, idx t]

theorem b1 (t : Fin cfg2.N) (a : Fin 4096) (d : Fin 1024) : iblk2 V c 1 t (ix2 a d) = V c main_v4 (ix2 a ⟨(2 + t.val % 4) * 1024 + d, by have := pt t; omega⟩) := by
  blk_point [iblk2, idx t]

theorem pay2 (x0 : Vec Ideal S1024x4096 .bf16) (x1 : Vec Ideal S4096x1024 .bf16) (r : Fin 1024) (d : Fin 1024) :
    k2_pay1 x0 x1 (ix2 r d) = mm x0 x1 r d := by
  unfold k2_pay1
  pointwise [mm]

/-- The array it leaves. -/
def G2 : M 16384 4096 := fun i => mm (V c main_v10) (V c main_v4) (i 0) ⟨2048 + (i 1).val, by have : (i 1).val < 4096 := (i 1).isLt; omega⟩

theorem arr2 : (dat2 V c).arrAt 2 cfg2.N = G2 V c := by
  refine (dat2 V c).arrAt_eq_of_covers 2 _ (by decide +kernel) fun t _ y => ?_
  blk_simp
  rw [after2_2]
  unfold out2_2
  canon_tiles x h
  obtain ⟨r, d, rfl⟩ : ∃ (r : Fin 1024) (d : Fin 1024), x = ix2 r d := ⟨x 0, x 1, eq_ix2 x⟩
  have e : (win2_2.blk t).view.emb y = ix2 ⟨t.val / 4 * 1024 + r, by have := pt t; omega⟩ ⟨t.val % 4 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v4) (congrArg (ix2 x) (Fin.ext (by show (2 + t.val % 4) * 1024 + d.val = 2048 + (t.val % 4 * 1024 + d.val); omega)))))

theorem pay3 (x0 : Vec Ideal S1024x4096 .bf16) (x1 : Vec Ideal S4096x1024 .bf16) (r : Fin 1024) (d : Fin 1024) :
    k2_pay2 x0 x1 (ix2 r d) = mm x0 x1 r d := by
  unfold k2_pay2 k2_pay1
  pointwise [mm]

/-- The array it leaves. -/
def G3 : M 16384 4096 := fun i => mm (V c main_v10) (V c main_v4) (i 0) ⟨2048 + (i 1).val, by have : (i 1).val < 4096 := (i 1).isLt; omega⟩

theorem arr3 : (dat2 V c).arrAt 3 cfg2.N = G3 V c := by
  refine (dat2 V c).arrAt_eq_of_covers 3 _ (by decide +kernel) fun t _ y => ?_
  blk_simp
  rw [after2_3]
  unfold out2_3
  canon_tiles x h
  obtain ⟨r, d, rfl⟩ : ∃ (r : Fin 1024) (d : Fin 1024), x = ix2 r d := ⟨x 0, x 1, eq_ix2 x⟩
  have e : (win2_3.blk t).view.emb y = ix2 ⟨t.val / 4 * 1024 + r, by have := pt t; omega⟩ ⟨t.val % 4 * 1024 + d, by have := pt t; omega⟩ := by
    blk_ext [idx t, h0, h1]
  rw [e, ld_all, ld_all]
  refine (pay3 _ _ r d).trans ?_
  exact mm_congr (fun x => b0 V c t _ x) (fun x => (b1 V c t x _).trans (congrArg (V c main_v4) (congrArg (ix2 x) (Fin.ext (by show (2 + t.val % 4) * 1024 + d.val = 2048 + (t.val % 4 * 1024 + d.val); omega)))))

end R2

/-! The gates of the first attention. -/

namespace R3

theorem idx : ∀ t : Fin cfg3.N, win3_0.index t = ![t.val / 2, 0]
    ∧ win3_1.index t = ![0, (6 + t.val % 2)]
    ∧ win3_2.index t = ![t.val / 2, t.val % 2] :=
  (by decide +kernel : ∀ t : Fin grid3.N, _)

theorem pt (t : Fin cfg3.N) : t.val < 32 := lt_of_lt_of_eq t.isLt N_3

theorem b0 (t : Fin cfg3.N) (a : Fin 1024) (d : Fin 4096) : iblk3 V c 0 t (ix2 a d) = V c main_v10 (ix2 ⟨t.val / 2 * 1024 + a, by have := pt t; omega⟩ d) := by
  blk_point [iblk3, idx t]

theorem b1 (t : Fin cfg3.N) (a : Fin 4096) (d : Fin 1024) : iblk3 V c 1 t (ix2 a d) = V c main_v4 (ix2 a ⟨(6 + t.val % 2) * 1024 + d, by have := pt t; omega⟩) := by
  blk_point [iblk3, idx t]

theorem pay2 (x0 : Vec Ideal S1024x4096 .bf16) (x1 : Vec Ideal S4096x1024 .bf16) (r : Fin 1024) (d : Fin 1024) :
    k3_pay1 x0 x1 (ix2 r d) = mm x0 x1 r d := by
  unfold k3_pay1
  pointwise [mm]

/-- The array it leaves. -/
def G2 : M 16384 2048 := fun i => mm (V c main_v10) (V c main_v4) (i 0) ⟨6144 + (i 1).val, by have : (i 1).val < 2048 := (i 1).isLt; omega⟩

theorem arr2 : (dat3 V c).arrAt 2 cfg3.N = G2 V c := by
  refine (dat3 V c).arrAt_eq_of_covers 2 _ (by decide +kernel) fun t _ y => ?_
  blk_simp
  rw [after3_2]
  unfold out3_2
  canon_tiles x h
  obtain ⟨r, d, rfl⟩ : ∃ (r : Fin 1024) (d : Fin 1024), x = ix2 r d := ⟨x 0, x 1, eq_ix2 x⟩
  have e : (win3_2.blk t).view.emb y = ix2 ⟨t.val / 2 * 1024 + r, by have := pt t; omega⟩ ⟨t.val % 2 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v4) (congrArg (ix2 x) (Fin.ext (by show (6 + t.val % 2) * 1024 + d.val = 6144 + (t.val % 2 * 1024 + d.val); omega)))))

end R3

/-! The indexer columns. -/

namespace R4

theorem idx : ∀ t : Fin cfg4.N, win4_0.index t = ![t.val, 0]
    ∧ win4_1.index t = ![0, 0]
    ∧ win4_2.index t = ![t.val, 0]
    ∧ win4_3.index t = ![t.val, 0] :=
  (by decide +kernel : ∀ t : Fin grid4.N, _)

theorem pt (t : Fin cfg4.N) : t.val < 32 := lt_of_lt_of_eq t.isLt N_4

theorem b0 (t : Fin cfg4.N) (a : Fin 512) (d : Fin 4096) : iblk4 V c 0 t (ix2 a d) = V c main_v10 (ix2 ⟨t.val * 512 + a, by have := pt t; omega⟩ d) := by
  blk_point [iblk4, idx t]

theorem b1 (t : Fin cfg4.N) (a : Fin 4096) (d : Fin 1152) : iblk4 V c 1 t (ix2 a d) = V c main_v7 (ix2 a d) := by
  blk_point [iblk4, idx t]

theorem pay2 (x0 : Vec Ideal S512x4096 .bf16) (x1 : Vec Ideal S4096x1152 .bf16) (r : Fin 512) (d : Fin 1152) :
    k4_pay1 x0 x1 (ix2 r d) = mm x0 x1 r d := by
  unfold k4_pay1
  pointwise [mm]

/-- The array it leaves. -/
def G2 : M 16384 1152 := fun i => mm (V c main_v10) (V c main_v7) (i 0) (i 1)

theorem arr2 : (dat4 V c).arrAt 2 cfg4.N = G2 V c := by
  refine (dat4 V c).arrAt_eq_of_covers 2 _ (by decide +kernel) fun t _ y => ?_
  blk_simp
  rw [after4_2]
  unfold out4_2
  canon_tiles x h
  obtain ⟨r, d, rfl⟩ : ∃ (r : Fin 512) (d : Fin 1152), x = ix2 r d := ⟨x 0, x 1, eq_ix2 x⟩
  have e : (win4_2.blk t).view.emb y = ix2 ⟨t.val * 512 + r, by have := pt t; omega⟩ d := by
    blk_ext [idx t, h0, h1]
  rw [e, ld_all, ld_all]
  refine (pay2 _ _ r d).trans ?_
  exact mm_congr (fun x => b0 V c t _ x) (fun x => (b1 V c t x _))

theorem pay3 (x0 : Vec Ideal S512x4096 .bf16) (x1 : Vec Ideal S4096x1152 .bf16) (r : Fin 512) (d : Fin 1152) :
    k4_pay2 x0 x1 (ix2 r d) = mm x0 x1 r d := by
  unfold k4_pay2 k4_pay1
  pointwise [mm]

/-- The array it leaves. -/
def G3 : M 16384 1152 := fun i => mm (V c main_v10) (V c main_v7) (i 0) (i 1)

theorem arr3 : (dat4 V c).arrAt 3 cfg4.N = G3 V c := by
  refine (dat4 V c).arrAt_eq_of_covers 3 _ (by decide +kernel) fun t _ y => ?_
  blk_simp
  rw [after4_3]
  unfold out4_3
  canon_tiles x h
  obtain ⟨r, d, rfl⟩ : ∃ (r : Fin 512) (d : Fin 1152), x = ix2 r d := ⟨x 0, x 1, eq_ix2 x⟩
  have e : (win4_3.blk t).view.emb y = ix2 ⟨t.val * 512 + r, by have := pt t; omega⟩ d := by
    blk_ext [idx t, h0, h1]
  rw [e, ld_all, ld_all]
  refine (pay3 _ _ r d).trans ?_
  exact mm_congr (fun x => b0 V c t _ x) (fun x => (b1 V c t x _))

end R4

/-! The scaled queries of the second attention. -/

namespace R5

theorem idx : ∀ t : Fin cfg5.N, win5_0.index t = ![t.val / 2, 0]
    ∧ win5_1.index t = ![0, t.val % 2]
    ∧ win5_2.index t = ![t.val / 2, t.val % 2] :=
  (by decide +kernel : ∀ t : Fin grid5.N, _)

theorem pt (t : Fin cfg5.N) : t.val < 32 := lt_of_lt_of_eq t.isLt N_5

theorem b0 (t : Fin cfg5.N) (a : Fin 1024) (d : Fin 4096) : iblk5 V c 0 t (ix2 a d) = V c main_v10 (ix2 ⟨t.val / 2 * 1024 + a, by have := pt t; omega⟩ d) := by
  blk_point [iblk5, idx t]

theorem b1 (t : Fin cfg5.N) (a : Fin 4096) (d : Fin 1024) : iblk5 V c 1 t (ix2 a d) = V c main_v5 (ix2 a ⟨t.val % 2 * 1024 + d, by have := pt t; omega⟩) := by
  blk_point [iblk5, idx t]

theorem pay2 (x0 : Vec Ideal S1024x4096 .bf16) (x1 : Vec Ideal S4096x1024 .bf16) (r : Fin 1024) (d : Fin 1024) :
    k5_pay1 x0 x1 (ix2 r d) = mm x0 x1 r d * (Named.named (F := Ideal) κ "q_scale" (φ := .f32) 0x3E0293EE#32 : EReal) := by
  unfold k5_pay1
  pointwise [mm]

/-- The array it leaves. -/
def G2 : M 16384 2048 := fun i => mm (V c main_v10) (V c main_v5) (i 0) ⟨0 + (i 1).val, by have : (i 1).val < 2048 := (i 1).isLt; omega⟩ * (Named.named (F := Ideal) κ "q_scale" (φ := .f32) 0x3E0293EE#32 : EReal)

theorem arr2 : (dat5 V c).arrAt 2 cfg5.N = G2 V c := by
  refine (dat5 V c).arrAt_eq_of_covers 2 _ (by decide +kernel) fun t _ y => ?_
  blk_simp
  rw [after5_2]
  unfold out5_2
  canon_tiles x h
  obtain ⟨r, d, rfl⟩ : ∃ (r : Fin 1024) (d : Fin 1024), x = ix2 r d := ⟨x 0, x 1, eq_ix2 x⟩
  have e : (win5_2.blk t).view.emb y = ix2 ⟨t.val / 2 * 1024 + r, by have := pt t; omega⟩ ⟨t.val % 2 * 1024 + d, by have := pt t; omega⟩ := by
    blk_ext [idx t, h0, h1]
  rw [e, ld_all, ld_all]
  refine (pay2 _ _ r d).trans ?_
  exact congrArg (· * (Named.named (F := Ideal) κ "q_scale" (φ := .f32) 0x3E0293EE#32 : EReal)) (mm_congr (fun x => b0 V c t _ x) (fun x => (b1 V c t x _).trans (congrArg (V c main_v5) (congrArg (ix2 x) (Fin.ext (by show (t.val % 2) * 1024 + d.val = 0 + (t.val % 2 * 1024 + d.val); omega))))))

end R5

/-! The keys and values of the second attention. -/

namespace R6

theorem idx : ∀ t : Fin cfg6.N, win6_0.index t = ![t.val / 4, 0]
    ∧ win6_1.index t = ![0, (2 + t.val % 4)]
    ∧ win6_2.index t = ![t.val / 4, t.val % 4]
    ∧ win6_3.index t = ![t.val / 4, t.val % 4] :=
  (by decide +kernel : ∀ t : Fin grid6.N, _)

theorem pt (t : Fin cfg6.N) : t.val < 64 := lt_of_lt_of_eq t.isLt N_6

theorem b0 (t : Fin cfg6.N) (a : Fin 1024) (d : Fin 4096) : iblk6 V c 0 t (ix2 a d) = V c main_v10 (ix2 ⟨t.val / 4 * 1024 + a, by have := pt t; omega⟩ d) := by
  blk_point [iblk6, idx t]

theorem b1 (t : Fin cfg6.N) (a : Fin 4096) (d : Fin 1024) : iblk6 V c 1 t (ix2 a d) = V c main_v5 (ix2 a ⟨(2 + t.val % 4) * 1024 + d, by have := pt t; omega⟩) := by
  blk_point [iblk6, idx t]

theorem pay2 (x0 : Vec Ideal S1024x4096 .bf16) (x1 : Vec Ideal S4096x1024 .bf16) (r : Fin 1024) (d : Fin 1024) :
    k6_pay1 x0 x1 (ix2 r d) = mm x0 x1 r d := by
  unfold k6_pay1
  pointwise [mm]

/-- The array it leaves. -/
def G2 : M 16384 4096 := fun i => mm (V c main_v10) (V c main_v5) (i 0) ⟨2048 + (i 1).val, by have : (i 1).val < 4096 := (i 1).isLt; omega⟩

theorem arr2 : (dat6 V c).arrAt 2 cfg6.N = G2 V c := by
  refine (dat6 V c).arrAt_eq_of_covers 2 _ (by decide +kernel) fun t _ y => ?_
  blk_simp
  rw [after6_2]
  unfold out6_2
  canon_tiles x h
  obtain ⟨r, d, rfl⟩ : ∃ (r : Fin 1024) (d : Fin 1024), x = ix2 r d := ⟨x 0, x 1, eq_ix2 x⟩
  have e : (win6_2.blk t).view.emb y = ix2 ⟨t.val / 4 * 1024 + r, by have := pt t; omega⟩ ⟨t.val % 4 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v5) (congrArg (ix2 x) (Fin.ext (by show (2 + t.val % 4) * 1024 + d.val = 2048 + (t.val % 4 * 1024 + d.val); omega)))))

theorem pay3 (x0 : Vec Ideal S1024x4096 .bf16) (x1 : Vec Ideal S4096x1024 .bf16) (r : Fin 1024) (d : Fin 1024) :
    k6_pay2 x0 x1 (ix2 r d) = mm x0 x1 r d := by
  unfold k6_pay2 k6_pay1
  pointwise [mm]

/-- The array it leaves. -/
def G3 : M 16384 4096 := fun i => mm (V c main_v10) (V c main_v5) (i 0) ⟨2048 + (i 1).val, by have : (i 1).val < 4096 := (i 1).isLt; omega⟩

theorem arr3 : (dat6 V c).arrAt 3 cfg6.N = G3 V c := by
  refine (dat6 V c).arrAt_eq_of_covers 3 _ (by decide +kernel) fun t _ y => ?_
  blk_simp
  rw [after6_3]
  unfold out6_3
  canon_tiles x h
  obtain ⟨r, d, rfl⟩ : ∃ (r : Fin 1024) (d : Fin 1024), x = ix2 r d := ⟨x 0, x 1, eq_ix2 x⟩
  have e : (win6_3.blk t).view.emb y = ix2 ⟨t.val / 4 * 1024 + r, by have := pt t; omega⟩ ⟨t.val % 4 * 1024 + d, by have := pt t; omega⟩ := by
    blk_ext [idx t, h0, h1]
  rw [e, ld_all, ld_all]
  refine (pay3 _ _ r d).trans ?_
  exact mm_congr (fun x => b0 V c t _ x) (fun x => (b1 V c t x _).trans (congrArg (V c main_v5) (congrArg (ix2 x) (Fin.ext (by show (2 + t.val % 4) * 1024 + d.val = 2048 + (t.val % 4 * 1024 + d.val); omega)))))

end R6

/-! The gates of the second attention. -/

namespace R7

theorem idx : ∀ t : Fin cfg7.N, win7_0.index t = ![t.val / 2, 0]
    ∧ win7_1.index t = ![0, (6 + t.val % 2)]
    ∧ win7_2.index t = ![t.val / 2, t.val % 2] :=
  (by decide +kernel : ∀ t : Fin grid7.N, _)

theorem pt (t : Fin cfg7.N) : t.val < 32 := lt_of_lt_of_eq t.isLt N_7

theorem b0 (t : Fin cfg7.N) (a : Fin 1024) (d : Fin 4096) : iblk7 V c 0 t (ix2 a d) = V c main_v10 (ix2 ⟨t.val / 2 * 1024 + a, by have := pt t; omega⟩ d) := by
  blk_point [iblk7, idx t]

theorem b1 (t : Fin cfg7.N) (a : Fin 4096) (d : Fin 1024) : iblk7 V c 1 t (ix2 a d) = V c main_v5 (ix2 a ⟨(6 + t.val % 2) * 1024 + d, by have := pt t; omega⟩) := by
  blk_point [iblk7, idx t]

theorem pay2 (x0 : Vec Ideal S1024x4096 .bf16) (x1 : Vec Ideal S4096x1024 .bf16) (r : Fin 1024) (d : Fin 1024) :
    k7_pay1 x0 x1 (ix2 r d) = mm x0 x1 r d := by
  unfold k7_pay1
  pointwise [mm]

/-- The array it leaves. -/
def G2 : M 16384 2048 := fun i => mm (V c main_v10) (V c main_v5) (i 0) ⟨6144 + (i 1).val, by have : (i 1).val < 2048 := (i 1).isLt; omega⟩

theorem arr2 : (dat7 V c).arrAt 2 cfg7.N = G2 V c := by
  refine (dat7 V c).arrAt_eq_of_covers 2 _ (by decide +kernel) fun t _ y => ?_
  blk_simp
  rw [after7_2]
  unfold out7_2
  canon_tiles x h
  obtain ⟨r, d, rfl⟩ : ∃ (r : Fin 1024) (d : Fin 1024), x = ix2 r d := ⟨x 0, x 1, eq_ix2 x⟩
  have e : (win7_2.blk t).view.emb y = ix2 ⟨t.val / 2 * 1024 + r, by have := pt t; omega⟩ ⟨t.val % 2 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v5) (congrArg (ix2 x) (Fin.ext (by show (6 + t.val % 2) * 1024 + d.val = 6144 + (t.val % 2 * 1024 + d.val); omega)))))

end R7

/-! The norm of the indexer keys. -/

namespace R8

theorem idx : ∀ t : Fin cfg8.N, win8_0.index t = ![t.val, 8]
    ∧ win8_1.index t = ![0, 0]
    ∧ win8_2.index t = ![t.val, 0] :=
  (by decide +kernel : ∀ t : Fin grid8.N, _)

theorem pt (t : Fin cfg8.N) : t.val < 16 := lt_of_lt_of_eq t.isLt N_8

theorem b0' (t : Fin cfg8.N) (a : Fin 1024) (d : Fin 128) : iblk8 V c 0 t (ix2 a d) = V c main_v14_0 (ix2 ⟨t.val * 1024 + a, by have := pt t; omega⟩ ⟨8 * 128 + d, by have := pt t; omega⟩) := by
  blk_point [iblk8, idx t]

/-- The first half of the block's columns is what the kernel reads. -/
theorem b0 (t : Fin cfg8.N) (a : Fin 1024) (d : Fin 64) : View.ld (iblk8 V c 0 t) r8_0 (ix2 a d) = V c main_v14_0 (ix2 ⟨t.val * 1024 + a, by have := pt t; omega⟩ ⟨1024 + d, by omega⟩) := by
  refine Eq.trans ?_ (b0' V c t a ⟨d.val, by omega⟩)
  unfold View.ld r8_0
  exact congrArg (iblk8 V c 0 t) (funext fun z => Fin.ext (by match z with | ⟨0, _⟩ => simp | ⟨1, _⟩ => simp))

theorem b1 (t : Fin cfg8.N) (d : Fin 64) : iblk8 V c 1 t (ix2 0 d) = V c main_v18 (ix2 0 d) := by
  blk_point [iblk8, idx t]

theorem pay2 (x0 : Vec Ideal S1024x64 .f32) (x1 : Vec Ideal S1x64 .f32) (r : Fin 1024) (d : Fin 64) :
    k8_pay1 x0 x1 (ix2 r d) = rms (Ideal.ofBits .f32 0x42800000#32) x0 x1 r d := by
  unfold k8_pay1
  pointwise [rms]

/-- The array it leaves. -/
def G2 : M 16384 64 := fun i => rms (Ideal.ofBits .f32 0x42800000#32) (fun j : (⟨2, ![16384, 64]⟩ : Shape).Idx => V c main_v14_0 (ix2 (j 0) ⟨1024 + (j 1).val, by have : (j 1).val < 64 := (j 1).isLt; omega⟩)) (V c main_v18) (i 0) (i 1)

theorem arr2 : (dat8 V c).arrAt 2 cfg8.N = G2 V c := by
  refine (dat8 V c).arrAt_eq_of_covers 2 _ (by decide +kernel) fun t _ y => ?_
  blk_simp
  rw [after8_2]
  unfold out8_2
  canon_tiles x h
  obtain ⟨r, d, rfl⟩ : ∃ (r : Fin 1024) (d : Fin 64), x = ix2 r d := ⟨x 0, x 1, eq_ix2 x⟩
  have e : (win8_2.blk t).view.emb y = ix2 ⟨t.val * 1024 + r, by have := pt t; omega⟩ d := by
    blk_ext [idx t, h0, h1]
  rw [e, ld_all]
  refine (pay2 _ _ r d).trans ?_
  exact rms_congr (fun x => b0 V c t _ x) (b1 V c t _)

end R8

end Cert.EvenV

end
-- ==== Proof.EvenRun.lean ====
module

public import proofs.«01_k».proof.Proof.Gen.EvenIdeal.Frame

/-! The run, with every array it leaves: the launch of the regions in order, read at the end. -/

@[expose] public section

set_option maxRecDepth 16384

noncomputable section

namespace Cert.EvenV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.EvenIdeal Cert.EvenIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates with each of its arrays as the last segment leaves it. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W13 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c b hb => h c _ (mem_uc b hb))

end Cert.EvenV

end
-- ==== Proof.EvenRef.lean ====
module

public import proofs.«01_k».proof.Proof.Mat
public import proofs.«01_k».proof.Proof.Soft
public import proofs.«01_k».proof.Proof.Gen.EvenReferenceIdeal.Run

/-! The reference of the even layer's projections, entry by entry. -/

@[expose] public section

set_option maxRecDepth 16384

noncomputable section

namespace Cert.EvenV

open Idealize.ShloMosaic Idealize.ShloMosaic.TcCoe Idealize.SL.Sem
open Cert.Mat
open Cert.EvenReferenceIdeal Cert.EvenReferenceIdeal.Gen

theorem scN (A : FVec Ideal S8x2048x17488 .f32) (b : Fin 8) (t : Fin 2048) (d : Fin 17488) :
    shapeCast S16384x17488 A shapeCasts_S8x2048x17488_S16384x17488 (ix2 ⟨b * 2048 + t, by omega⟩ d) = A (ix3 b t d) := by
  pointwise
theorem dot3 (a : FVec Ideal S8x2048x4096 .f32) (w : FVec Ideal S4096x17488 .f32) (b : Fin 8) (t : Fin 2048) (d : Fin 17488) :
    Host.dotGeneral (F := Ideal) (φ₁ := .f32) (φ₂ := .f32) dot_S8x2048x4096_S4096x17488_S8x2048x17488_2_0_01_1_n_n none a w (ix3 b t d) = ∑ k : Fin 4096, a (ix3 b t k) * w (ix2 k d) := by
  pointwise
theorem hrms64 (X : FVec Ideal S16384x64 .f32) (g : FVec Ideal S64 .f32) (r : Fin 16384) (d : Fin 64) :
    mulf (mulf X (broadcastInDim S16384x64 ![0, 1] bcast_S16384x1_S16384x64_0_1 (Host.rsqrt (addf (Host.divf (broadcastInDim S16384x1 ![0] bcast_S16384_S16384x1_0 (Host.reduceAdd (mulf X X) (constant S_ .f32 0x00000000#32) reducesTo_S16384x64_S16384_d1 h_S_)) (broadcastInDim S16384x1 ![] bcast_S_S16384x1 (constant S_ .f32 0x42800000#32))) (broadcastInDim S16384x1 ![] bcast_S_S16384x1 (constant S_ .f32 0x358637BD#32)))))) (broadcastInDim S16384x64 ![0, 1] bcast_S1x64_S16384x64_0_1 (broadcastInDim S1x64 ![1] bcast_S64_S1x64_1 g)) (ix2 r d)
      = rms (Ideal.ofBits .f32 0x42800000#32) X (fun j => g (ix1 (j 1))) r d := by
  pointwise [rms]
/-- The index columns: queries, keys, weights and a filling of zeros. -/
theorem ixcat (D : FVec Ideal S16384x17488 .f32) (r : Fin 16384) (d : Fin 1152) :
    concatenate S16384x1152 1 [⟨S16384x1024, extractStridedSlice S16384x1024 ![0, 8192] D slices_S16384x17488_S16384x1024_0_8192⟩, ⟨S16384x64, extractStridedSlice S16384x64 ![0, 9216] D slices_S16384x17488_S16384x64_0_9216⟩, ⟨S16384x16, extractStridedSlice S16384x16 ![0, 9280] D slices_S16384x17488_S16384x16_0_9280⟩, ⟨S16384x48, broadcastInDim S16384x48 ![] bcast_S_S16384x48 (constant (F := Ideal) S_ .f32 0x00000000#32)⟩] concatenates_S16384x1024_S16384x64_S16384x16_S16384x48_S16384x1152_d1 (ix2 r d)
      = if h : d.val < 1104 then D (ix2 r ⟨8192 + d, by omega⟩) else 0 := by
  refine Eq.trans (b := if h : d.val < 1024 then D (ix2 r ⟨8192 + d, by omega⟩) else if h : d.val - 1024 < 64 then D (ix2 r ⟨9216 + (d.val - 1024), by omega⟩)
    else if h : d.val - 1024 - 64 < 16 then D (ix2 r ⟨9280 + (d.val - 1024 - 64), by omega⟩) else 0) (by pointwise) ?_
  split_ifs <;> first
    | rfl
    | (exfalso; omega)
    | exact congrArg D (congrArg (ix2 r) (Fin.ext (by show 9216 + (d.val - 1024) = 8192 + d.val; omega)))
    | exact congrArg D (congrArg (ix2 r) (Fin.ext (by show 9280 + (d.val - 1024 - 64) = 8192 + d.val; omega)))

/-- The reference's normed rows. -/
def RN (a0 : FVec Ideal S8x2048x4096 .f32) (g : FVec Ideal S4096 .f32) : FVec Ideal S8x2048x4096 .f32 :=
  mulf (mulf a0 (broadcastInDim S8x2048x4096 ![0, 1, 2] bcast_S8x2048x1_S8x2048x4096_0_1_2 (Host.rsqrt (addf (Host.divf (broadcastInDim S8x2048x1 ![0, 1] bcast_S8x2048_S8x2048x1_0_1 (Host.reduceAdd (mulf a0 a0) (constant S_ .f32 0x00000000#32) reducesTo_S8x2048x4096_S8x2048_d2 h_S_)) (broadcastInDim S8x2048x1 ![] bcast_S_S8x2048x1 (constant S_ .f32 0x45800000#32))) (broadcastInDim S8x2048x1 ![] bcast_S_S8x2048x1 (constant S_ .f32 0x358637BD#32)))))) (broadcastInDim S8x2048x4096 ![0, 1, 2] bcast_S1x1x4096_S8x2048x4096_0_1_2 (broadcastInDim S1x1x4096 ![2] bcast_S4096_S1x1x4096_2 g))

/-- The reference's whole projection. -/
def RD (a0 : FVec Ideal S8x2048x4096 .f32) (a1 : FVec Ideal S1x4096 .f32) (a2 : FVec Ideal S1x4096x17488 .f32) : FVec Ideal S16384x17488 .f32 :=
  shapeCast _ (Host.dotGeneral dot_S8x2048x4096_S4096x17488_S8x2048x17488_2_0_01_1_n_n none (RN a0 (shapeCast _ a1 shapeCasts_S1x4096_S4096)) (shapeCast _ a2 shapeCasts_S1x4096x17488_S4096x17488)) shapeCasts_S8x2048x17488_S16384x17488

theorem rn (a0 : FVec Ideal S8x2048x4096 .f32) (g : FVec Ideal S4096 .f32) (X : M 16384 4096) (r : Fin 16384) (b : Fin 8) (t : Fin 2048)
    (hX : ∀ k : Fin 4096, a0 (ix3 b t k) = X (ix2 r k)) (k : Fin 4096) :
    RN a0 g (ix3 b t k) = rms (Ideal.ofBits .f32 0x45800000#32) X (fun j => g (ix1 (j 1))) r k := by
  refine Eq.trans (b := a0 (ix3 b t k) * Ideal.rsqrt (Ideal.div (∑ x : Fin 4096, a0 (ix3 b t x) * a0 (ix3 b t x)) (Ideal.ofBits .f32 0x45800000#32) + Ideal.ofBits .f32 0x358637BD#32) * g (ix1 k)) ?_ ?_
  · unfold RN
    pointwise
  · unfold rms
    simp only [hX]
    rfl

/-- Two slices side by side are one slice. -/
theorem slice12a (D : FVec Ideal S16384x17488 .f32) (r : Fin 16384) (d : Fin 4096) :
    concatenate S16384x4096 1 [⟨S16384x2048, extractStridedSlice S16384x2048 ![0, 2048] D slices_S16384x17488_S16384x2048_0_2048⟩, ⟨S16384x2048, extractStridedSlice S16384x2048 ![0, 4096] D slices_S16384x17488_S16384x2048_0_4096⟩] concatenates_S16384x2048_S16384x2048_S16384x4096_d1 (ix2 r d) = D (ix2 r ⟨2048 + d, by omega⟩) := by
  refine Eq.trans (b := if h : d.val < 2048 then D (ix2 r ⟨2048 + d, by omega⟩) else D (ix2 r ⟨4096 + (d.val - 2048), by omega⟩)) (by pointwise) ?_
  split_ifs
  · rfl
  · exact congrArg D (congrArg (ix2 r) (Fin.ext (by show 4096 + (d.val - 2048) = 2048 + d.val; omega)))
/-- Two slices side by side are one slice. -/
theorem slice12b (D : FVec Ideal S16384x17488 .f32) (r : Fin 16384) (d : Fin 4096) :
    concatenate S16384x4096 1 [⟨S16384x2048, extractStridedSlice S16384x2048 ![0, 11344] D slices_S16384x17488_S16384x2048_0_11344⟩, ⟨S16384x2048, extractStridedSlice S16384x2048 ![0, 13392] D slices_S16384x17488_S16384x2048_0_13392⟩] concatenates_S16384x2048_S16384x2048_S16384x4096_d1 (ix2 r d) = D (ix2 r ⟨11344 + d, by omega⟩) := by
  refine Eq.trans (b := if h : d.val < 2048 then D (ix2 r ⟨11344 + d, by omega⟩) else D (ix2 r ⟨13392 + (d.val - 2048), by omega⟩)) (by pointwise) ?_
  split_ifs
  · rfl
  · exact congrArg D (congrArg (ix2 r) (Fin.ext (by show 13392 + (d.val - 2048) = 11344 + d.val; omega)))

theorem s0 (D : FVec Ideal S16384x17488 .f32) (r : Fin 16384) (d : Fin 2048) :
    extractStridedSlice S16384x2048 ![0, 0] D slices_S16384x17488_S16384x2048_0_0 (ix2 r d) = D (ix2 r ⟨0 + d, by omega⟩) := by
  pointwise
theorem s3 (D : FVec Ideal S16384x17488 .f32) (r : Fin 16384) (d : Fin 2048) :
    extractStridedSlice S16384x2048 ![0, 6144] D slices_S16384x17488_S16384x2048_0_6144 (ix2 r d) = D (ix2 r ⟨6144 + d, by omega⟩) := by
  pointwise
theorem s5 (D : FVec Ideal S16384x17488 .f32) (r : Fin 16384) (d : Fin 64) :
    extractStridedSlice S16384x64 ![0, 9216] D slices_S16384x17488_S16384x64_0_9216 (ix2 r d) = D (ix2 r ⟨9216 + d, by omega⟩) := by
  pointwise
theorem s7 (D : FVec Ideal S16384x17488 .f32) (r : Fin 16384) (d : Fin 2048) :
    extractStridedSlice S16384x2048 ![0, 9296] D slices_S16384x17488_S16384x2048_0_9296 (ix2 r d) = D (ix2 r ⟨9296 + d, by omega⟩) := by
  pointwise
theorem s10 (D : FVec Ideal S16384x17488 .f32) (r : Fin 16384) (d : Fin 2048) :
    extractStridedSlice S16384x2048 ![0, 15440] D slices_S16384x17488_S16384x2048_0_15440 (ix2 r d) = D (ix2 r ⟨15440 + d, by omega⟩) := by
  pointwise

theorem hscale (x : FVec Ideal S16384x2048 .f32) (i : S16384x2048.Idx) :
    truncf .bf16 (Host.divf x (broadcastInDim S16384x2048 ![] bcast_S_S16384x2048 (mulf (Host.sqrt (constant S_ .f32 0x43000000#32)) (Host.log (constant S_ .f32 0x40000000#32))))) bitsLt_bf16_f32 i
      = Ideal.div (x i) (Ideal.sqrt (Ideal.ofBits .f32 0x43000000#32) * Ideal.log (Ideal.ofBits .f32 0x40000000#32)) := by
  pointwise

end Cert.EvenV

end
-- ==== Proof.EvenEq.lean ====
module

public import proofs.«01_k».proof.Proof.EvenVal
public import proofs.«01_k».proof.Proof.EvenRun
public import proofs.«01_k».proof.Proof.EvenRef

/-! The even layer's projections: what the regions leave, as functions of the arguments. -/

@[expose] public section

set_option maxRecDepth 16384

noncomputable section

namespace Cert.EvenV

open Idealize.ShloMosaic Idealize.ShloMosaic.TcCoe Idealize.SL.Sem
open Cert.Mat
open Cert.EvenIdeal Cert.EvenIdeal.Gen

/-- The named factor of the queries. -/
theorem factor : (Named.named (F := Ideal) κ "q_scale" (φ := .f32) 0x3E0293EE#32 : EReal) = ((((Real.sqrt 128) * (Real.log 2))⁻¹ : ℝ) : EReal) :=
  IdealRules.named_const.ideal_named_scalar _ _ _ _ rfl

/-- The reference divides the queries by what the kernel multiplies them by the inverse of. -/
theorem scale (x : EReal) : Ideal.div x (Ideal.sqrt (Ideal.ofBits .f32 0x43000000#32) * Ideal.log (Ideal.ofBits .f32 0x40000000#32))
    = x * (Named.named (F := Ideal) κ "q_scale" (φ := .f32) 0x3E0293EE#32 : EReal) := by
  have hl : Real.log 2 ≠ 0 := (Real.log_pos (by norm_num)).ne'
  have hs : Real.sqrt 128 ≠ 0 := (Real.sqrt_pos.mpr (by norm_num)).ne'
  rw [factor]
  refine (congrArg₂ (fun a b => Ideal.div x (a * b)) Band.Soft.sqrt_width Band.Soft.log_two).trans ?_
  show Ideal.div x (((Real.sqrt 128 : ℝ) : EReal) * ((Real.log 2 : ℝ) : EReal)) = _
  rw [← EReal.coe_mul, Ideal.div_coe (mul_ne_zero hs hl), one_div]

/-- Columns of a matrix from one on. -/
def cols {n : ℕ} (o w : ℕ) (h : o + w ≤ n) (D : M 16384 n) : M 16384 w := fun i => D (ix2 (i 0) ⟨o + (i 1).val, by have : (i 1).val < w := (i 1).isLt; omega⟩)

/-- The index columns, filled up with zeros. -/
def ixs (D : M 16384 17488) : M 16384 1152 := fun i => if h : (i 1).val < 1104 then D (ix2 (i 0) ⟨8192 + (i 1).val, by omega⟩) else 0

variable (m : (ℓ : Loc nD τ sig) → Buf (Elt Ideal) ℓ) (ρ : Dev nD → PrngReg) (c : Dev nD)

/-- The rows. -/
def X : M 16384 4096 := (shapeCast S16384x4096 (m (c.tc.loc main_arg0)) shapeCasts_S8x2048x4096_S16384x4096 : FVec Ideal S16384x4096 .f32)
/-- The weight. -/
def W : M 4096 17488 := (shapeCast S4096x17488 (m (c.tc.loc main_arg2)) shapeCasts_S1x4096x17488_S4096x17488 : FVec Ideal S4096x17488 .f32)
/-- The normed rows. -/
def N : M 16384 4096 := fun i => rms (Ideal.ofBits .f32 0x45800000#32) (X m c) (fun j => (shapeCast S4096 (m (c.tc.loc main_arg1)) shapeCasts_S1x4096_S4096 : FVec Ideal S4096 .f32) (ix1 (j 1))) (i 0) (i 1)
/-- The whole projection. -/
def D : M 16384 17488 := fun i => mm (N m c) (W m c) (i 0) (i 1)
/-- The normed index keys. -/
def K : M 16384 64 := fun i => rms (Ideal.ofBits .f32 0x42800000#32) (cols 9216 64 (by omega) (D m c)) (fun j => (shapeCast S64 (m (c.tc.loc main_arg3)) shapeCasts_S1x64_S64 : FVec Ideal S64 .f32) (ix1 (j 1))) (i 0) (i 1)

theorem row (g : FVec Ideal S4096 .f32) (k : Fin 4096) : shapeCast S1x4096 g shapeCasts_S4096_S1x4096 (ix2 0 k) = g (ix1 k) := by
  pointwise
theorem row' (g : FVec Ideal S64 .f32) (k : Fin 64) : shapeCast S1x64 g shapeCasts_S64_S1x64 (ix2 0 k) = g (ix1 k) := by
  pointwise
theorem sa (w : FVec Ideal S4096x17488 .bf16) (x : Fin 4096) (d : Fin 8192) : extractStridedSlice S4096x8192 ![0, 0] w slices_S4096x17488_S4096x8192_0_0 (ix2 x d) = w (ix2 x ⟨d, by omega⟩) := by
  pointwise
theorem sb (w : FVec Ideal S4096x17488 .bf16) (x : Fin 4096) (d : Fin 8192) : extractStridedSlice S4096x8192 ![0, 9296] w slices_S4096x17488_S4096x8192_0_9296 (ix2 x d) = w (ix2 x ⟨9296 + d, by omega⟩) := by
  pointwise
theorem si (w : FVec Ideal S4096x17488 .bf16) (x : Fin 4096) (d : Fin 1152) :
    pad S4096x1152 ![0, 0] ![0, 48] ![0, 0] (extractStridedSlice S4096x1104 ![0, 8192] w slices_S4096x17488_S4096x1104_0_8192) (sitofp (F := Ideal) .bf16 (constantI S_ 32 0#32)) pads_S4096x1104_S4096x1152_000_0480 h_S_ (ix2 x d)
      = if h : d.val < 1104 then w (ix2 x ⟨8192 + d, by omega⟩) else 0 := by
  refine Eq.trans (b := if h : d.val < 1104 then w (ix2 x ⟨8192 + d, by omega⟩) else FloatOps.sitofp (F := Ideal) .bf16 0#32) (by pointwise) ?_
  split_ifs
  · rfl
  · show (((0#32 : BitVec 32).toInt : ℝ) : EReal) = 0
    simp

theorem v8 : V3 m ρ c main_v8 = X m c := by
  refine Eq.trans (b := shapeCast S16384x4096 (W2 m ρ c (Proc.devRef .tc main_arg0)) shapeCasts_S8x2048x4096_S16384x4096) ?_ ?_
  · show StableHlo.after hostOps0_2 (W2 m ρ c) main_v8 = _
    after_results <;> rfl
  · rw [W2_args m ρ c main_arg0 (by decide)]; rfl
theorem v0 : W2 m ρ c (Proc.devRef .tc main_v0) = shapeCast S4096 (m (c.tc.loc main_arg1)) shapeCasts_S1x4096_S4096 := by
  refine (W2_of m ρ c main_v0 (by decide)).trans ?_
  show StableHlo.after hostOps0 (W0 m ρ c) main_v0 = _
  after_results <;> rfl
theorem v9 (k : Fin 4096) : V3 m ρ c main_v9 (ix2 0 k) = (shapeCast S4096 (m (c.tc.loc main_arg1)) shapeCasts_S1x4096_S4096 : FVec Ideal S4096 .f32) (ix1 k) := by
  have e : V3 m ρ c main_v9 = shapeCast S1x4096 (shapeCast S4096 (m (c.tc.loc main_arg1)) shapeCasts_S1x4096_S4096 : FVec Ideal S4096 .f32) shapeCasts_S4096_S1x4096 := by
    refine Eq.trans (b := shapeCast S1x4096 (W2 m ρ c (Proc.devRef .tc main_v0) : FVec Ideal S4096 .f32) shapeCasts_S4096_S1x4096) ?_ ?_
    · show StableHlo.after hostOps0_2 (W2 m ρ c) main_v9 = _
      after_results <;> rfl
    · rw [v0]
  rw [e]
  exact row _ k
theorem v4 : V3 m ρ c main_v4 = extractStridedSlice S4096x8192 ![0, 0] (W m c : FVec Ideal S4096x17488 .bf16) slices_S4096x17488_S4096x8192_0_0 := by
  refine (W3_of m ρ c main_v4 (by decide)).trans ((W2_of m ρ c main_v4 (by decide)).trans ?_)
  show StableHlo.after hostOps0 (W0 m ρ c) main_v4 = _
  after_results <;> rfl
theorem v5 : V3 m ρ c main_v5 = extractStridedSlice S4096x8192 ![0, 9296] (W m c : FVec Ideal S4096x17488 .bf16) slices_S4096x17488_S4096x8192_0_9296 := by
  refine (W3_of m ρ c main_v5 (by decide)).trans ((W2_of m ρ c main_v5 (by decide)).trans ?_)
  show StableHlo.after hostOps0 (W0 m ρ c) main_v5 = _
  after_results <;> rfl
theorem v6 : W1 m ρ c (Proc.devRef .tc main_v6) = extractStridedSlice S4096x1104 ![0, 8192] (W m c : FVec Ideal S4096x17488 .bf16) slices_S4096x17488_S4096x1104_0_8192 := by
  show StableHlo.after hostOps0 (W0 m ρ c) main_v6 = _
  after_results <;> rfl
theorem vc : W1 m ρ c (Proc.devRef .tc main_c) = constantI S_ 32 0#32 := by
  show StableHlo.after hostOps0 (W0 m ρ c) main_c = _
  after_results <;> rfl
theorem v7 : V3 m ρ c main_v7 = pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ := by
  refine (W3_of m ρ c main_v7 (by decide)).trans ?_
  refine Eq.trans (b := pad S4096x1152 ![0, 0] ![0, 48] ![0, 0] (W1 m ρ c (Proc.devRef .tc main_v6) : FVec Ideal S4096x1104 .bf16) (sitofp (F := Ideal) .bf16 (W1 m ρ c (Proc.devRef .tc main_c) : IVec S_ 32)) pads_S4096x1104_S4096x1152_000_0480 h_S_) ?_ ?_
  · show StableHlo.after hostOps0_1 (W1 m ρ c) main_v7 = _
    after_results <;> rfl
  · rw [v6, vc]

theorem n4 : V4 m ρ c main_v10 = N m c := by
  refine (W4_arr m ρ c 2).trans ((R0.arr2 _ c).trans ?_)
  unfold R0.G2 N
  exact funext fun i => rms_congr (fun k => congrFun (v8 m ρ c) _) (v9 m ρ c _)
theorem n5 : V5 m ρ c main_v10 = N m c := (W5_of m ρ c main_v10 (by decide)).trans (n4 m ρ c)
theorem n6 : V6 m ρ c main_v10 = N m c := (W6_of m ρ c main_v10 (by decide)).trans (n5 m ρ c)
theorem n7 : V7 m ρ c main_v10 = N m c := (W7_of m ρ c main_v10 (by decide)).trans (n6 m ρ c)
theorem n8 : V8 m ρ c main_v10 = N m c := (W8_of m ρ c main_v10 (by decide)).trans (n7 m ρ c)
theorem n9 : V9 m ρ c main_v10 = N m c := (W9_of m ρ c main_v10 (by decide)).trans (n8 m ρ c)
theorem n10 : V10 m ρ c main_v10 = N m c := (W10_of m ρ c main_v10 (by decide)).trans (n9 m ρ c)
theorem a4 : V4 m ρ c main_v4 = extractStridedSlice S4096x8192 ![0, 0] (W m c : FVec Ideal S4096x17488 .bf16) slices_S4096x17488_S4096x8192_0_0 := (W4_of m ρ c main_v4 (by decide)).trans (v4 m ρ c)
theorem a5 : V5 m ρ c main_v4 = extractStridedSlice S4096x8192 ![0, 0] (W m c : FVec Ideal S4096x17488 .bf16) slices_S4096x17488_S4096x8192_0_0 := (W5_of m ρ c main_v4 (by decide)).trans (a4 m ρ c)
theorem a6 : V6 m ρ c main_v4 = extractStridedSlice S4096x8192 ![0, 0] (W m c : FVec Ideal S4096x17488 .bf16) slices_S4096x17488_S4096x8192_0_0 := (W6_of m ρ c main_v4 (by decide)).trans (a5 m ρ c)
theorem b4 : V4 m ρ c main_v5 = extractStridedSlice S4096x8192 ![0, 9296] (W m c : FVec Ideal S4096x17488 .bf16) slices_S4096x17488_S4096x8192_0_9296 := (W4_of m ρ c main_v5 (by decide)).trans (v5 m ρ c)
theorem b5 : V5 m ρ c main_v5 = extractStridedSlice S4096x8192 ![0, 9296] (W m c : FVec Ideal S4096x17488 .bf16) slices_S4096x17488_S4096x8192_0_9296 := (W5_of m ρ c main_v5 (by decide)).trans (b4 m ρ c)
theorem b6 : V6 m ρ c main_v5 = extractStridedSlice S4096x8192 ![0, 9296] (W m c : FVec Ideal S4096x17488 .bf16) slices_S4096x17488_S4096x8192_0_9296 := (W6_of m ρ c main_v5 (by decide)).trans (b5 m ρ c)
theorem b7 : V7 m ρ c main_v5 = extractStridedSlice S4096x8192 ![0, 9296] (W m c : FVec Ideal S4096x17488 .bf16) slices_S4096x17488_S4096x8192_0_9296 := (W7_of m ρ c main_v5 (by decide)).trans (b6 m ρ c)
theorem b8 : V8 m ρ c main_v5 = extractStridedSlice S4096x8192 ![0, 9296] (W m c : FVec Ideal S4096x17488 .bf16) slices_S4096x17488_S4096x8192_0_9296 := (W8_of m ρ c main_v5 (by decide)).trans (b7 m ρ c)
theorem b9 : V9 m ρ c main_v5 = extractStridedSlice S4096x8192 ![0, 9296] (W m c : FVec Ideal S4096x17488 .bf16) slices_S4096x17488_S4096x8192_0_9296 := (W9_of m ρ c main_v5 (by decide)).trans (b8 m ρ c)
theorem b10 : V10 m ρ c main_v5 = extractStridedSlice S4096x8192 ![0, 9296] (W m c : FVec Ideal S4096x17488 .bf16) slices_S4096x17488_S4096x8192_0_9296 := (W10_of m ρ c main_v5 (by decide)).trans (b9 m ρ c)
theorem i4 : V4 m ρ c main_v7 = pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ := (W4_of m ρ c main_v7 (by decide)).trans (v7 m ρ c)
theorem i5 : V5 m ρ c main_v7 = pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ := (W5_of m ρ c main_v7 (by decide)).trans (i4 m ρ c)
theorem i6 : V6 m ρ c main_v7 = pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ := (W6_of m ρ c main_v7 (by decide)).trans (i5 m ρ c)
theorem i7 : V7 m ρ c main_v7 = pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ := (W7_of m ρ c main_v7 (by decide)).trans (i6 m ρ c)

/-- The projection by the first columns of the weight, read further on. -/
theorem mmA (o w : ℕ) (h : o + w ≤ 8192) (i : (⟨2, ![16384, w]⟩ : Shape).Idx) (hk : o + (i 1).val < 8192) :
    mm (N m c) (extractStridedSlice S4096x8192 ![0, 0] (W m c : FVec Ideal S4096x17488 .bf16) slices_S4096x17488_S4096x8192_0_0) (i 0) ⟨o + (i 1).val, hk⟩
      = cols o w (by omega) (D m c) i := mm_congr (fun _ => rfl) (fun x => sa _ x _)
/-- The projection by the last columns of the weight, read further on. -/
theorem mmB (o w p : ℕ) (h : o + w ≤ 8192) (hp : p = 9296 + o) (i : (⟨2, ![16384, w]⟩ : Shape).Idx) (hk : o + (i 1).val < 8192) :
    mm (N m c) (extractStridedSlice S4096x8192 ![0, 9296] (W m c : FVec Ideal S4096x17488 .bf16) slices_S4096x17488_S4096x8192_0_9296) (i 0) ⟨o + (i 1).val, hk⟩
      = cols p w (by omega) (D m c) i :=
  mm_congr (fun _ => rfl) (fun x => (sb _ x _).trans (congrArg (W m c) (congrArg (ix2 x) (Fin.ext (by show 9296 + (o + (i 1).val) = p + (i 1).val; omega)))))
/-- The projection by the index columns of the weight. -/
theorem mmI (i : (⟨2, ![16384, 1152]⟩ : Shape).Idx) : mm (N m c) (pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ : FVec Ideal S4096x1152 .bf16) (i 0) (i 1) = ixs (D m c) i := by
  refine Eq.trans (b := ∑ x : Fin 4096, N m c (ix2 (i 0) x) * (if h : (i 1).val < 1104 then W m c (ix2 x ⟨8192 + (i 1).val, by omega⟩) else 0)) ?_ ?_
  · exact Finset.sum_congr rfl fun x _ => congrArg (_ * ·) (si _ x (i 1))
  · unfold ixs
    by_cases h : (i 1).val < 1104
    · simp only [dif_pos h]
      rfl
    · simp only [dif_neg h, mul_zero, Finset.sum_const_zero]

theorem o_v11 : W13 m ρ c (Proc.devRef .tc main_v11) = fun i => cols 0 2048 (by omega) (D m c) i * (Named.named (F := Ideal) κ "q_scale" (φ := .f32) 0x3E0293EE#32 : EReal) := by
  refine (W13_of m ρ c main_v11 (by decide)).trans ((W12_of m ρ c main_v11 (by decide)).trans ((W11_of m ρ c main_v11 (by decide)).trans ((W10_of m ρ c main_v11 (by decide)).trans ((W9_of m ρ c main_v11 (by decide)).trans ((W8_of m ρ c main_v11 (by decide)).trans ((W7_of m ρ c main_v11 (by decide)).trans ((W6_of m ρ c main_v11 (by decide)).trans ((W5_arr m ρ c 2).trans ((R1.arr2 _ c).trans ?_)))))))))
  unfold R1.G2
  rw [n4, a4]
  exact funext fun i => congrArg (· * _) (mmA m c 0 2048 (by omega) i _)
theorem o_v12_0 : W13 m ρ c (Proc.devRef .tc main_v12_0) = cols 2048 4096 (by omega) (D m c) := by
  refine (W13_of m ρ c main_v12_0 (by decide)).trans ((W12_of m ρ c main_v12_0 (by decide)).trans ((W11_of m ρ c main_v12_0 (by decide)).trans ((W10_of m ρ c main_v12_0 (by decide)).trans ((W9_of m ρ c main_v12_0 (by decide)).trans ((W8_of m ρ c main_v12_0 (by decide)).trans ((W7_of m ρ c main_v12_0 (by decide)).trans ((W6_arr m ρ c 2).trans ((R2.arr2 _ c).trans ?_))))))))
  unfold R2.G2
  rw [n5, a5]
  exact funext fun i => mmA m c 2048 4096 (by omega) i _
theorem o_v12_1 : W13 m ρ c (Proc.devRef .tc main_v12_1) = cols 2048 4096 (by omega) (D m c) := by
  refine (W13_of m ρ c main_v12_1 (by decide)).trans ((W12_of m ρ c main_v12_1 (by decide)).trans ((W11_of m ρ c main_v12_1 (by decide)).trans ((W10_of m ρ c main_v12_1 (by decide)).trans ((W9_of m ρ c main_v12_1 (by decide)).trans ((W8_of m ρ c main_v12_1 (by decide)).trans ((W7_of m ρ c main_v12_1 (by decide)).trans ((W6_arr m ρ c 3).trans ((R2.arr3 _ c).trans ?_))))))))
  unfold R2.G3
  rw [n5, a5]
  exact funext fun i => mmA m c 2048 4096 (by omega) i _
theorem o_v13 : W13 m ρ c (Proc.devRef .tc main_v13) = cols 6144 2048 (by omega) (D m c) := by
  refine (W13_of m ρ c main_v13 (by decide)).trans ((W12_of m ρ c main_v13 (by decide)).trans ((W11_of m ρ c main_v13 (by decide)).trans ((W10_of m ρ c main_v13 (by decide)).trans ((W9_of m ρ c main_v13 (by decide)).trans ((W8_of m ρ c main_v13 (by decide)).trans ((W7_arr m ρ c 2).trans ((R3.arr2 _ c).trans ?_)))))))
  unfold R3.G2
  rw [n6, a6]
  exact funext fun i => mmA m c 6144 2048 (by omega) i _
theorem o_v14_0 : W13 m ρ c (Proc.devRef .tc main_v14_0) = ixs (D m c) := by
  refine (W13_of m ρ c main_v14_0 (by decide)).trans ((W12_of m ρ c main_v14_0 (by decide)).trans ((W11_of m ρ c main_v14_0 (by decide)).trans ((W10_of m ρ c main_v14_0 (by decide)).trans ((W9_of m ρ c main_v14_0 (by decide)).trans ((W8_arr m ρ c 2).trans ((R4.arr2 _ c).trans ?_))))))
  unfold R4.G2
  rw [n7, i7]
  exact funext fun i => mmI m c i
theorem o_v14_1 : W13 m ρ c (Proc.devRef .tc main_v14_1) = ixs (D m c) := by
  refine (W13_of m ρ c main_v14_1 (by decide)).trans ((W12_of m ρ c main_v14_1 (by decide)).trans ((W11_of m ρ c main_v14_1 (by decide)).trans ((W10_of m ρ c main_v14_1 (by decide)).trans ((W9_of m ρ c main_v14_1 (by decide)).trans ((W8_arr m ρ c 3).trans ((R4.arr3 _ c).trans ?_))))))
  unfold R4.G3
  rw [n7, i7]
  exact funext fun i => mmI m c i
theorem o_v15 : W13 m ρ c (Proc.devRef .tc main_v15) = fun i => cols 9296 2048 (by omega) (D m c) i * (Named.named (F := Ideal) κ "q_scale" (φ := .f32) 0x3E0293EE#32 : EReal) := by
  refine (W13_of m ρ c main_v15 (by decide)).trans ((W12_of m ρ c main_v15 (by decide)).trans ((W11_of m ρ c main_v15 (by decide)).trans ((W10_of m ρ c main_v15 (by decide)).trans ((W9_arr m ρ c 2).trans ((R5.arr2 _ c).trans ?_)))))
  unfold R5.G2
  rw [n8, b8]
  exact funext fun i => congrArg (· * _) (mmB m c 0 2048 9296 (by omega) (by omega) i _)
theorem o_v16_0 : W13 m ρ c (Proc.devRef .tc main_v16_0) = cols 11344 4096 (by omega) (D m c) := by
  refine (W13_of m ρ c main_v16_0 (by decide)).trans ((W12_of m ρ c main_v16_0 (by decide)).trans ((W11_of m ρ c main_v16_0 (by decide)).trans ((W10_arr m ρ c 2).trans ((R6.arr2 _ c).trans ?_))))
  unfold R6.G2
  rw [n9, b9]
  exact funext fun i => mmB m c 2048 4096 11344 (by omega) (by omega) i _
theorem o_v16_1 : W13 m ρ c (Proc.devRef .tc main_v16_1) = cols 11344 4096 (by omega) (D m c) := by
  refine (W13_of m ρ c main_v16_1 (by decide)).trans ((W12_of m ρ c main_v16_1 (by decide)).trans ((W11_of m ρ c main_v16_1 (by decide)).trans ((W10_arr m ρ c 3).trans ((R6.arr3 _ c).trans ?_))))
  unfold R6.G3
  rw [n9, b9]
  exact funext fun i => mmB m c 2048 4096 11344 (by omega) (by omega) i _
theorem o_v17 : W13 m ρ c (Proc.devRef .tc main_v17) = cols 15440 2048 (by omega) (D m c) := by
  refine (W13_of m ρ c main_v17 (by decide)).trans ((W12_of m ρ c main_v17 (by decide)).trans ((W11_arr m ρ c 2).trans ((R7.arr2 _ c).trans ?_)))
  unfold R7.G2
  rw [n10, b10]
  exact funext fun i => mmB m c 6144 2048 15440 (by omega) (by omega) i _

theorem x14 : W8 m ρ c (Proc.devRef .tc main_v14_0) = ixs (D m c) := by
  refine (W8_arr m ρ c 2).trans ((R4.arr2 _ c).trans ?_)
  unfold R4.G2
  rw [n7, i7]
  exact funext fun i => mmI m c i
theorem y14 : V12 m ρ c main_v14_0 = ixs (D m c) :=
  (W12_of m ρ c main_v14_0 (by decide)).trans ((W11_of m ρ c main_v14_0 (by decide)).trans ((W10_of m ρ c main_v14_0 (by decide)).trans ((W9_of m ρ c main_v14_0 (by decide)).trans (x14 m ρ c))))
theorem z2 : W11 m ρ c (Proc.devRef .tc main_v2) = shapeCast S64 (m (c.tc.loc main_arg3)) shapeCasts_S1x64_S64 := by
  refine (W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans ((W2_of m ρ c main_v2 (by decide)).trans (?_))))))))))
  show StableHlo.after hostOps0 (W0 m ρ c) main_v2 = _
  after_results <;> rfl
theorem v18 (k : Fin 64) : V12 m ρ c main_v18 (ix2 0 k) = (shapeCast S64 (m (c.tc.loc main_arg3)) shapeCasts_S1x64_S64 : FVec Ideal S64 .f32) (ix1 k) := by
  have e : V12 m ρ c main_v18 = shapeCast S1x64 (shapeCast S64 (m (c.tc.loc main_arg3)) shapeCasts_S1x64_S64 : FVec Ideal S64 .f32) shapeCasts_S64_S1x64 := by
    refine Eq.trans (b := shapeCast S1x64 (W11 m ρ c (Proc.devRef .tc main_v2) : FVec Ideal S64 .f32) shapeCasts_S64_S1x64) ?_ ?_
    · show StableHlo.after hostOps8 (W11 m ρ c) main_v18 = _
      after_results <;> rfl
    · rw [z2]
  rw [e]
  exact row' _ k
theorem o_v19 : W13 m ρ c (Proc.devRef .tc main_v19) = K m c := by
  refine (W13_arr m ρ c 2).trans ((R8.arr2 _ c).trans ?_)
  unfold R8.G2 K
  refine funext fun i => rms_congr (fun k => ?_) (v18 m ρ c _)
  refine (congrFun (y14 m ρ c) _).trans ?_
  unfold ixs cols
  refine (dif_pos (by show 1024 + k.val < 1104; omega)).trans ?_
  exact congrArg (D m c) (congrArg (ix2 (i 0)) (Fin.ext (by show 8192 + (1024 + k.val) = 9216 + k.val; omega)))

end Cert.EvenV

end
-- ==== Proof.EvenFin.lean ====
module

public import proofs.«01_k».proof.Defs
public import proofs.«01_k».proof.Proof.EvenEq

/-! The even layer's projections: what the kernels leave is what the reference leaves. -/

@[expose] public section

set_option maxRecDepth 16384

noncomputable section

namespace Cert.EvenV

open Idealize.ShloMosaic Idealize.ShloMosaic.TcCoe Idealize.SL.Sem
open Cert.Mat

section Ref
open Cert.EvenReferenceIdeal Cert.EvenReferenceIdeal.Gen

variable (D : FVec Ideal S16384x17488 .f32)

/-- The reference's keys and values of the first attention. -/
def RKVa : FVec Ideal S16384x4096 .f32 := concatenate S16384x4096 1 [⟨S16384x2048, extractStridedSlice S16384x2048 ![0, 2048] D slices_S16384x17488_S16384x2048_0_2048⟩, ⟨S16384x2048, extractStridedSlice S16384x2048 ![0, 4096] D slices_S16384x17488_S16384x2048_0_4096⟩] concatenates_S16384x2048_S16384x2048_S16384x4096_d1
/-- The reference's keys and values of the second attention. -/
def RKVb : FVec Ideal S16384x4096 .f32 := concatenate S16384x4096 1 [⟨S16384x2048, extractStridedSlice S16384x2048 ![0, 11344] D slices_S16384x17488_S16384x2048_0_11344⟩, ⟨S16384x2048, extractStridedSlice S16384x2048 ![0, 13392] D slices_S16384x17488_S16384x2048_0_13392⟩] concatenates_S16384x2048_S16384x2048_S16384x4096_d1
/-- The reference's scaled queries. -/
def RQ (q : FVec Ideal S16384x2048 .f32) : FVec Ideal S16384x2048 .bf16 := truncf .bf16 (Host.divf q (broadcastInDim S16384x2048 ![] bcast_S_S16384x2048 (mulf (Host.sqrt (constant S_ .f32 0x43000000#32)) (Host.log (constant S_ .f32 0x40000000#32))))) bitsLt_bf16_f32
/-- The reference's index columns. -/
def RI : FVec Ideal S16384x1152 .f32 := concatenate S16384x1152 1 [⟨S16384x1024, extractStridedSlice S16384x1024 ![0, 8192] D slices_S16384x17488_S16384x1024_0_8192⟩, ⟨S16384x64, extractStridedSlice S16384x64 ![0, 9216] D slices_S16384x17488_S16384x64_0_9216⟩, ⟨S16384x16, extractStridedSlice S16384x16 ![0, 9280] D slices_S16384x17488_S16384x16_0_9280⟩, ⟨S16384x48, broadcastInDim S16384x48 ![] bcast_S_S16384x48 (constant (F := Ideal) S_ .f32 0x00000000#32)⟩] concatenates_S16384x1024_S16384x64_S16384x16_S16384x48_S16384x1152_d1
/-- The reference's normed index keys. -/
def RK (X : FVec Ideal S16384x64 .f32) (g : FVec Ideal S64 .f32) : FVec Ideal S16384x64 .f32 := mulf (mulf X (broadcastInDim S16384x64 ![0, 1] bcast_S16384x1_S16384x64_0_1 (Host.rsqrt (addf (Host.divf (broadcastInDim S16384x1 ![0] bcast_S16384_S16384x1_0 (Host.reduceAdd (mulf X X) (constant S_ .f32 0x00000000#32) reducesTo_S16384x64_S16384_d1 h_S_)) (broadcastInDim S16384x1 ![] bcast_S_S16384x1 (constant S_ .f32 0x42800000#32))) (broadcastInDim S16384x1 ![] bcast_S_S16384x1 (constant S_ .f32 0x358637BD#32)))))) (broadcastInDim S16384x64 ![0, 1] bcast_S1x64_S16384x64_0_1 (broadcastInDim S1x64 ![1] bcast_S64_S1x64_1 g))

theorem rkva : RKVa D = cols 2048 4096 (by omega) D := by
  funext i
  obtain ⟨r, d, rfl⟩ : ∃ (r : Fin 16384) (d : Fin 4096), i = ix2 r d := ⟨i 0, i 1, eq_ix2 i⟩
  exact slice12a D r d
theorem rkvb : RKVb D = cols 11344 4096 (by omega) D := by
  funext i
  obtain ⟨r, d, rfl⟩ : ∃ (r : Fin 16384) (d : Fin 4096), i = ix2 r d := ⟨i 0, i 1, eq_ix2 i⟩
  exact slice12b D r d
theorem rga : extractStridedSlice S16384x2048 ![0, 6144] D slices_S16384x17488_S16384x2048_0_6144 = cols 6144 2048 (by omega) D := by
  funext i
  obtain ⟨r, d, rfl⟩ : ∃ (r : Fin 16384) (d : Fin 2048), i = ix2 r d := ⟨i 0, i 1, eq_ix2 i⟩
  exact s3 D r d
theorem rgb : extractStridedSlice S16384x2048 ![0, 15440] D slices_S16384x17488_S16384x2048_0_15440 = cols 15440 2048 (by omega) D := by
  funext i
  obtain ⟨r, d, rfl⟩ : ∃ (r : Fin 16384) (d : Fin 2048), i = ix2 r d := ⟨i 0, i 1, eq_ix2 i⟩
  exact s10 D r d
theorem rk0 : extractStridedSlice S16384x64 ![0, 9216] D slices_S16384x17488_S16384x64_0_9216 = cols 9216 64 (by omega) D := by
  funext i
  obtain ⟨r, d, rfl⟩ : ∃ (r : Fin 16384) (d : Fin 64), i = ix2 r d := ⟨i 0, i 1, eq_ix2 i⟩
  exact s5 D r d
theorem ri : RI D = ixs D := by
  funext i
  obtain ⟨r, d, rfl⟩ : ∃ (r : Fin 16384) (d : Fin 1152), i = ix2 r d := ⟨i 0, i 1, eq_ix2 i⟩
  exact ixcat D r d
theorem rqa : RQ (extractStridedSlice S16384x2048 ![0, 0] D slices_S16384x17488_S16384x2048_0_0) = fun i => cols 0 2048 (by omega) D i * (Named.named (F := Ideal) Cert.EvenIdeal.κ "q_scale" (φ := .f32) 0x3E0293EE#32 : EReal) := by
  funext i
  obtain ⟨r, d, rfl⟩ : ∃ (r : Fin 16384) (d : Fin 2048), i = ix2 r d := ⟨i 0, i 1, eq_ix2 i⟩
  exact (hscale _ _).trans ((scale _).trans (congrArg (· * _) (s0 D r d)))
theorem rqb : RQ (extractStridedSlice S16384x2048 ![0, 9296] D slices_S16384x17488_S16384x2048_0_9296) = fun i => cols 9296 2048 (by omega) D i * (Named.named (F := Ideal) Cert.EvenIdeal.κ "q_scale" (φ := .f32) 0x3E0293EE#32 : EReal) := by
  funext i
  obtain ⟨r, d, rfl⟩ : ∃ (r : Fin 16384) (d : Fin 2048), i = ix2 r d := ⟨i 0, i 1, eq_ix2 i⟩
  exact (hscale _ _).trans ((scale _).trans (congrArg (· * _) (s7 D r d)))
theorem rk (g : FVec Ideal S64 .f32) : RK (extractStridedSlice S16384x64 ![0, 9216] D slices_S16384x17488_S16384x64_0_9216) g
    = fun i => rms (Ideal.ofBits .f32 0x42800000#32) (cols 9216 64 (by omega) D) (fun j => g (ix1 (j 1))) (i 0) (i 1) := by
  rw [rk0]
  funext i
  obtain ⟨r, d, rfl⟩ : ∃ (r : Fin 16384) (d : Fin 64), i = ix2 r d := ⟨i 0, i 1, eq_ix2 i⟩
  exact hrms64 _ g r d

end Ref

theorem frame_ref (m' : (ℓ : Loc Cert.EvenReferenceIdeal.nD Cert.EvenReferenceIdeal.τ Cert.EvenReferenceIdeal.sig) → Buf (Elt Ideal) ℓ) (g' : Dev Cert.EvenReferenceIdeal.nD → PrngReg) :
    θ_run (Cert.EvenReferenceIdeal.defs (F := Ideal)) (onTc (τ := Cert.EvenReferenceIdeal.τ) (Cert.EvenReferenceIdeal.main (F := Ideal))) ⟨m', fun _ => 0, g'⟩ (fun r => (∀ c : Dev Cert.EvenReferenceIdeal.nD,
      r.2.mem ((c.tc : Thread Cert.EvenReferenceIdeal.nD Cert.EvenReferenceIdeal.τ).loc Cert.EvenReferenceIdeal.main_arg0) = m' ((c.tc : Thread Cert.EvenReferenceIdeal.nD Cert.EvenReferenceIdeal.τ).loc Cert.EvenReferenceIdeal.main_arg0)
      ∧ r.2.mem ((c.tc : Thread Cert.EvenReferenceIdeal.nD Cert.EvenReferenceIdeal.τ).loc Cert.EvenReferenceIdeal.main_arg1) = m' ((c.tc : Thread Cert.EvenReferenceIdeal.nD Cert.EvenReferenceIdeal.τ).loc Cert.EvenReferenceIdeal.main_arg1)
      ∧ r.2.mem ((c.tc : Thread Cert.EvenReferenceIdeal.nD Cert.EvenReferenceIdeal.τ).loc Cert.EvenReferenceIdeal.main_arg2) = m' ((c.tc : Thread Cert.EvenReferenceIdeal.nD Cert.EvenReferenceIdeal.τ).loc Cert.EvenReferenceIdeal.main_arg2)
      ∧ r.2.mem ((c.tc : Thread Cert.EvenReferenceIdeal.nD Cert.EvenReferenceIdeal.τ).loc Cert.EvenReferenceIdeal.main_arg3) = m' ((c.tc : Thread Cert.EvenReferenceIdeal.nD Cert.EvenReferenceIdeal.τ).loc Cert.EvenReferenceIdeal.main_arg3))
      ∧ r.2.sem = fun _ => 0) :=
  (θ_run _ _ _).mono (fun r h => ⟨fun c => (h c).2.2.2.2.2.2.2.2.2.2.2, sem_eq_zero_of_no_sems (by decide) r.2⟩) (Cert.EvenReferenceIdeal.Value.run m' g')

open Cert.EvenIdeal Cert.EvenIdeal.Gen

theorem scX (A : FVec Ideal S8x2048x4096 .f32) (b : Fin 8) (t : Fin 2048) (d : Fin 4096) :
    shapeCast S16384x4096 A shapeCasts_S8x2048x4096_S16384x4096 (ix2 ⟨b * 2048 + t, by omega⟩ d) = A (ix3 b t d) := by
  pointwise

theorem rd (m : (ℓ : Loc nD τ sig) → Buf (Elt Ideal) ℓ) (c : Dev nD) : RD (m (c.tc.loc main_arg0)) (m (c.tc.loc main_arg1)) (m (c.tc.loc main_arg2)) = D m c := by
  funext i
  obtain ⟨r, d, rfl⟩ : ∃ (r : Fin 16384) (d : Fin 17488), i = ix2 r d := ⟨i 0, i 1, eq_ix2 i⟩
  obtain ⟨b, t, rfl⟩ : ∃ (b : Fin 8) (t : Fin 2048), r = ⟨b * 2048 + t, by omega⟩ :=
    ⟨⟨r / 2048, by omega⟩, ⟨r % 2048, by omega⟩, Fin.ext (by show r.val = r.val / 2048 * 2048 + r.val % 2048; omega)⟩
  unfold RD
  refine (scN _ b t d).trans ((dot3 _ _ b t d).trans ?_)
  exact Finset.sum_congr rfl fun k _ => congrArg (· * _) (rn _ _ (X m c) _ b t (fun k => (scX _ b t k).symm) k)

theorem algebraic : Cert.algebraic_EvenIdeal_EvenReferenceIdeal (hEvenIdeal := Cert.EvenIdeal.Gen.facts) (hEvenReferenceIdeal := Cert.EvenReferenceIdeal.Gen.facts) := by
  intro m g m' g' _ hm
  refine ⟨fun c => W13 m g c (Proc.devRef .tc main_v11),
    fun c => W13 m g c (Proc.devRef .tc main_v12_0),
    fun c => W13 m g c (Proc.devRef .tc main_v12_1),
    fun c => W13 m g c (Proc.devRef .tc main_v13),
    fun c => W13 m g c (Proc.devRef .tc main_v14_0),
    fun c => W13 m g c (Proc.devRef .tc main_v14_1),
    fun c => W13 m g c (Proc.devRef .tc main_v15),
    fun c => W13 m g c (Proc.devRef .tc main_v16_0),
    fun c => W13 m g c (Proc.devRef .tc main_v16_1),
    fun c => W13 m g c (Proc.devRef .tc main_v17),
    fun c => W13 m g c (Proc.devRef .tc main_v19), ?_, ?_⟩
  · refine (θ_run _ _ _).mono (fun r h c => ⟨h c main_v11 (by decide), h c main_v12_0 (by decide), h c main_v12_1 (by decide), h c main_v13 (by decide), h c main_v14_0 (by decide), h c main_v14_1 (by decide), h c main_v15 (by decide), h c main_v16_0 (by decide), h c main_v16_1 (by decide), h c main_v17 (by decide), h c main_v19 (by decide), ?_⟩) (run m g)
    exact ⟨(h c main_arg0 (by decide)).trans (W13_main_arg0 m g c), (h c main_arg1 (by decide)).trans (W13_main_arg1 m g c),
      (h c main_arg2 (by decide)).trans (W13_main_arg2 m g c), (h c main_arg3 (by decide)).trans (W13_main_arg3 m g c)⟩
  · refine (θ_run _ _ _).mono (fun r h c => ?_) (Cert.EvenReferenceIdeal.Value.run m' g')
    obtain ⟨h0, h1, h2, h3, h4, h5, h6, h7, h8, h9, h10, ha⟩ := h c
    obtain ⟨a0, a1, a2, a3⟩ := hm c
    have d := rd m c
    rw [← a0, ← a1, ← a2] at d
    have k := (rk (D m c) (shapeCast S64 (m (c.tc.loc main_arg3)) shapeCasts_S1x64_S64 : FVec Ideal S64 .f32))
    rw [← a3] at k
    refine ⟨h0.trans ?_, h1.trans ?_, h2.trans ?_, h3.trans ?_, h4.trans ?_, h5.trans ?_, h6.trans ?_, h7.trans ?_, h8.trans ?_, h9.trans ?_, h10.trans ?_, ha⟩
    · refine Eq.trans ?_ (o_v11 m g c).symm
      rw [← d]
      exact rqa _
    · refine Eq.trans ?_ (o_v12_0 m g c).symm
      rw [← d]
      exact rkva _
    · refine Eq.trans ?_ (o_v12_1 m g c).symm
      rw [← d]
      exact rkva _
    · refine Eq.trans ?_ (o_v13 m g c).symm
      rw [← d]
      exact rga _
    · refine Eq.trans ?_ (o_v14_0 m g c).symm
      rw [← d]
      exact ri _
    · refine Eq.trans ?_ (o_v14_1 m g c).symm
      rw [← d]
      exact ri _
    · refine Eq.trans ?_ (o_v15 m g c).symm
      rw [← d]
      exact rqb _
    · refine Eq.trans ?_ (o_v16_0 m g c).symm
      rw [← d]
      exact rkvb _
    · refine Eq.trans ?_ (o_v16_1 m g c).symm
      rw [← d]
      exact rkvb _
    · refine Eq.trans ?_ (o_v17 m g c).symm
      rw [← d]
      exact rgb _
    · refine Eq.trans ?_ (k.trans ?_)
      · rw [← d]
        rfl
      · rw [a3]
        exact (o_v19 m g c).symm

end Cert.EvenV

end
-- ==== Proof.MidVal.lean ====
module

public import proofs.«01_k».proof.Proof.Mat
public import proofs.«01_k».proof.Proof.Gen.MiddleIdeal.Frame

/-! The arrays the regions between the layers leave. -/

@[expose] public section

set_option maxRecDepth 16384

noncomputable section

namespace Cert.Mid

open Idealize.ShloMosaic Idealize.ShloMosaic.TcCoe Idealize.SL.Sem
open Cert.MiddleIdeal Cert.MiddleIdeal.Gen Cert.Mat
open Idealize.ShloMosaic.Pipeline (Dat)

variable (V : (c : Dev nD) → (b : Ref sig .tc) → Buf (Elt Ideal) ((c : Thread nD τ).loc b)) (c : Dev nD)

/-! The output projection of the even layer: the two halves of the weight, the residual added. -/

namespace R0

theorem idx : ∀ t : Fin cfg0.N, win0_0.index t = ![t.val / 4, 0]
    ∧ win0_1.index t = ![0, t.val % 4]
    ∧ win0_2.index t = ![t.val / 4, 0]
    ∧ win0_3.index t = ![0, t.val % 4]
    ∧ win0_4.index t = ![t.val / 4, t.val % 4]
    ∧ win0_5.index t = ![t.val / 4, t.val % 4] :=
  (by decide +kernel : ∀ t : Fin grid0.N, _)

theorem pt (t : Fin cfg0.N) : t.val < 64 := lt_of_lt_of_eq t.isLt N_0

theorem b0 (t : Fin cfg0.N) (a : Fin 1024) (d : Fin 2048) : iblk0 V c 0 t (ix2 a d) = V c main_v2 (ix2 ⟨t.val / 4 * 1024 + a, by have := pt t; omega⟩ d) := by
  blk_point [iblk0, idx t]

theorem b1 (t : Fin cfg0.N) (a : Fin 2048) (d : Fin 1024) : iblk0 V c 1 t (ix2 a d) = V c main_v3 (ix2 a ⟨t.val % 4 * 1024 + d, by have := pt t; omega⟩) := by
  blk_point [iblk0, idx t]

theorem b2 (t : Fin cfg0.N) (a : Fin 1024) (d : Fin 2048) : iblk0 V c 2 t (ix2 a d) = V c main_v4 (ix2 ⟨t.val / 4 * 1024 + a, by have := pt t; omega⟩ d) := by
  blk_point [iblk0, idx t]

theorem b3 (t : Fin cfg0.N) (a : Fin 2048) (d : Fin 1024) : iblk0 V c 3 t (ix2 a d) = V c main_v5 (ix2 a ⟨t.val % 4 * 1024 + d, by have := pt t; omega⟩) := by
  blk_point [iblk0, idx t]

theorem b4 (t : Fin cfg0.N) (a : Fin 1024) (d : Fin 1024) : iblk0 V c 4 t (ix2 a d) = V c main_v6 (ix2 ⟨t.val / 4 * 1024 + a, by have := pt t; omega⟩ ⟨t.val % 4 * 1024 + d, by have := pt t; omega⟩) := by
  blk_point [iblk0, idx t]

theorem pay5 (x0 : Vec Ideal S1024x2048 .bf16) (x1 : Vec Ideal S2048x1024 .bf16) (x2 : Vec Ideal S1024x2048 .bf16) (x3 : Vec Ideal S2048x1024 .bf16) (x4 : Vec Ideal S1024x1024 .f32) (r : Fin 1024) (d : Fin 1024) :
    k0_pay1 x0 x1 x2 x3 x4 (ix2 r d) = mm x0 x1 r d + mm x2 x3 r d + x4 (ix2 r d) := by
  unfold k0_pay1
  pointwise [mm]

/-- The array it leaves. -/
def G5 : M 16384 4096 := fun i => mm (V c main_v2) (V c main_v3) (i 0) (i 1) + mm (V c main_v4) (V c main_v5) (i 0) (i 1) + V c main_v6 i

theorem arr5 : (dat0 V c).arrAt 5 cfg0.N = G5 V c := by
  refine (dat0 V c).arrAt_eq_of_covers 5 _ (by decide +kernel) fun t _ y => ?_
  blk_simp
  rw [after0_5]
  unfold out0_5
  canon_tiles x h
  obtain ⟨r, d, rfl⟩ : ∃ (r : Fin 1024) (d : Fin 1024), x = ix2 r d := ⟨x 0, x 1, eq_ix2 x⟩
  have e : (win0_5.blk t).view.emb y = ix2 ⟨t.val / 4 * 1024 + r, by have := pt t; omega⟩ ⟨t.val % 4 * 1024 + d, by have := pt t; omega⟩ := by
    blk_ext [idx t, h0, h1]
  rw [e, ld_all, ld_all, ld_all, ld_all, ld_all]
  refine (pay5 _ _ _ _ _ r d).trans ?_
  exact congrArg₂ (· + ·) (congrArg₂ (· + ·) (mm_congr (fun x => b0 V c t _ x) (fun x => b1 V c t x _)) (mm_congr (fun x => b2 V c t _ x) (fun x => b3 V c t x _))) (b4 V c t _ _)

end R0

/-! The norm before the odd layer. -/

namespace R1

theorem idx : ∀ t : Fin cfg1.N, win1_0.index t = ![t.val, 0]
    ∧ win1_1.index t = ![0, 0]
    ∧ win1_2.index t = ![t.val, 0] :=
  (by decide +kernel : ∀ t : Fin grid1.N, _)

theorem pt (t : Fin cfg1.N) : t.val < 32 := lt_of_lt_of_eq t.isLt N_1

theorem b0 (t : Fin cfg1.N) (a : Fin 512) (d : Fin 4096) : iblk1 V c 0 t (ix2 a d) = V c main_v7 (ix2 ⟨t.val * 512 + a, by have := pt t; omega⟩ d) := by
  blk_point [iblk1, idx t]

theorem b1 (t : Fin cfg1.N) (d : Fin 4096) : iblk1 V c 1 t (ix2 0 d) = V c main_v11 (ix2 0 d) := by
  blk_point [iblk1, idx t]

theorem pay2 (x0 : Vec Ideal S512x4096 .f32) (x1 : Vec Ideal S1x4096 .f32) (r : Fin 512) (d : Fin 4096) :
    k1_pay1 x0 x1 (ix2 r d) = rms (Ideal.ofBits .f32 0x45800000#32) x0 x1 r d := by
  unfold k1_pay1
  pointwise [rms]

/-- The array it leaves. -/
def G2 : M 16384 4096 := fun i => rms (Ideal.ofBits .f32 0x45800000#32) (V c main_v7) (V c main_v11) (i 0) (i 1)

theorem arr2 : (dat1 V c).arrAt 2 cfg1.N = G2 V c := by
  refine (dat1 V c).arrAt_eq_of_covers 2 _ (by decide +kernel) fun t _ y => ?_
  blk_simp
  rw [after1_2]
  unfold out1_2
  canon_tiles x h
  obtain ⟨r, d, rfl⟩ : ∃ (r : Fin 512) (d : Fin 4096), x = ix2 r d := ⟨x 0, x 1, eq_ix2 x⟩
  have e : (win1_2.blk t).view.emb y = ix2 ⟨t.val * 512 + r, by have := pt t; omega⟩ d := by
    blk_ext [idx t, h0, h1]
  rw [e, ld_all, ld_all]
  refine (pay2 _ _ r d).trans ?_
  exact rms_congr (fun x => b0 V c t _ x) (b1 V c t _)

end R1

/-! The scaled queries. -/

namespace R2

theorem idx : ∀ t : Fin cfg2.N, win2_0.index t = ![t.val / 4, 0]
    ∧ win2_1.index t = ![0, t.val % 4]
    ∧ win2_2.index t = ![t.val / 4, t.val % 4] :=
  (by decide +kernel : ∀ t : Fin grid2.N, _)

theorem pt (t : Fin cfg2.N) : t.val < 64 := lt_of_lt_of_eq t.isLt N_2

theorem b0 (t : Fin cfg2.N) (a : Fin 1024) (d : Fin 4096) : iblk2 V c 0 t (ix2 a d) = V c main_v12 (ix2 ⟨t.val / 4 * 1024 + a, by have := pt t; omega⟩ d) := by
  blk_point [iblk2, idx t]

theorem b1 (t : Fin cfg2.N) (a : Fin 4096) (d : Fin 1024) : iblk2 V c 1 t (ix2 a d) = V c main_v9 (ix2 a ⟨t.val % 4 * 1024 + d, by have := pt t; omega⟩) := by
  blk_point [iblk2, idx t]

theorem pay2 (x0 : Vec Ideal S1024x4096 .bf16) (x1 : Vec Ideal S4096x1024 .bf16) (r : Fin 1024) (d : Fin 1024) :
    k2_pay1 x0 x1 (ix2 r d) = mm x0 x1 r d * (Named.named (F := Ideal) κ "q_scale" (φ := .f32) 0x3E0293EE#32 : EReal) := by
  unfold k2_pay1
  pointwise [mm]

/-- The array it leaves. -/
def G2 : M 16384 4096 := fun i => mm (V c main_v12) (V c main_v9) (i 0) ⟨0 + (i 1).val, by have : (i 1).val < 4096 := (i 1).isLt; omega⟩ * (Named.named (F := Ideal) κ "q_scale" (φ := .f32) 0x3E0293EE#32 : EReal)

theorem arr2 : (dat2 V c).arrAt 2 cfg2.N = G2 V c := by
  refine (dat2 V c).arrAt_eq_of_covers 2 _ (by decide +kernel) fun t _ y => ?_
  blk_simp
  rw [after2_2]
  unfold out2_2
  canon_tiles x h
  obtain ⟨r, d, rfl⟩ : ∃ (r : Fin 1024) (d : Fin 1024), x = ix2 r d := ⟨x 0, x 1, eq_ix2 x⟩
  have e : (win2_2.blk t).view.emb y = ix2 ⟨t.val / 4 * 1024 + r, by have := pt t; omega⟩ ⟨t.val % 4 * 1024 + d, by have := pt t; omega⟩ := by
    blk_ext [idx t, h0, h1]
  rw [e, ld_all, ld_all]
  refine (pay2 _ _ r d).trans ?_
  exact congrArg (· * (Named.named (F := Ideal) κ "q_scale" (φ := .f32) 0x3E0293EE#32 : EReal)) (mm_congr (fun x => b0 V c t _ x) (fun x => (b1 V c t x _).trans (congrArg (V c main_v9) (congrArg (ix2 x) (Fin.ext (by show (t.val % 4) * 1024 + d.val = 0 + (t.val % 4 * 1024 + d.val); omega))))))

end R2

/-! The keys and values. -/

namespace R3

theorem idx : ∀ t : Fin cfg3.N, win3_0.index t = ![t.val / 8, 0]
    ∧ win3_1.index t = ![0, (4 + t.val % 8)]
    ∧ win3_2.index t = ![t.val / 8, t.val % 8]
    ∧ win3_3.index t = ![t.val / 8, t.val % 8] :=
  (by decide +kernel : ∀ t : Fin grid3.N, _)

theorem pt (t : Fin cfg3.N) : t.val < 128 := lt_of_lt_of_eq t.isLt N_3

theorem b0 (t : Fin cfg3.N) (a : Fin 1024) (d : Fin 4096) : iblk3 V c 0 t (ix2 a d) = V c main_v12 (ix2 ⟨t.val / 8 * 1024 + a, by have := pt t; omega⟩ d) := by
  blk_point [iblk3, idx t]

theorem b1 (t : Fin cfg3.N) (a : Fin 4096) (d : Fin 1024) : iblk3 V c 1 t (ix2 a d) = V c main_v9 (ix2 a ⟨(4 + t.val % 8) * 1024 + d, by have := pt t; omega⟩) := by
  blk_point [iblk3, idx t]

theorem pay2 (x0 : Vec Ideal S1024x4096 .bf16) (x1 : Vec Ideal S4096x1024 .bf16) (r : Fin 1024) (d : Fin 1024) :
    k3_pay1 x0 x1 (ix2 r d) = mm x0 x1 r d := by
  unfold k3_pay1
  pointwise [mm]

/-- The array it leaves. -/
def G2 : M 16384 8192 := fun i => mm (V c main_v12) (V c main_v9) (i 0) ⟨4096 + (i 1).val, by have : (i 1).val < 8192 := (i 1).isLt; omega⟩

theorem arr2 : (dat3 V c).arrAt 2 cfg3.N = G2 V c := by
  refine (dat3 V c).arrAt_eq_of_covers 2 _ (by decide +kernel) fun t _ y => ?_
  blk_simp
  rw [after3_2]
  unfold out3_2
  canon_tiles x h
  obtain ⟨r, d, rfl⟩ : ∃ (r : Fin 1024) (d : Fin 1024), x = ix2 r d := ⟨x 0, x 1, eq_ix2 x⟩
  have e : (win3_2.blk t).view.emb y = ix2 ⟨t.val / 8 * 1024 + r, by have := pt t; omega⟩ ⟨t.val % 8 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v9) (congrArg (ix2 x) (Fin.ext (by show (4 + t.val % 8) * 1024 + d.val = 4096 + (t.val % 8 * 1024 + d.val); omega)))))

theorem pay3 (x0 : Vec Ideal S1024x4096 .bf16) (x1 : Vec Ideal S4096x1024 .bf16) (r : Fin 1024) (d : Fin 1024) :
    k3_pay2 x0 x1 (ix2 r d) = mm x0 x1 r d := by
  unfold k3_pay2 k3_pay1
  pointwise [mm]

/-- The array it leaves. -/
def G3 : M 16384 8192 := fun i => mm (V c main_v12) (V c main_v9) (i 0) ⟨4096 + (i 1).val, by have : (i 1).val < 8192 := (i 1).isLt; omega⟩

theorem arr3 : (dat3 V c).arrAt 3 cfg3.N = G3 V c := by
  refine (dat3 V c).arrAt_eq_of_covers 3 _ (by decide +kernel) fun t _ y => ?_
  blk_simp
  rw [after3_3]
  unfold out3_3
  canon_tiles x h
  obtain ⟨r, d, rfl⟩ : ∃ (r : Fin 1024) (d : Fin 1024), x = ix2 r d := ⟨x 0, x 1, eq_ix2 x⟩
  have e : (win3_3.blk t).view.emb y = ix2 ⟨t.val / 8 * 1024 + r, by have := pt t; omega⟩ ⟨t.val % 8 * 1024 + d, by have := pt t; omega⟩ := by
    blk_ext [idx t, h0, h1]
  rw [e, ld_all, ld_all]
  refine (pay3 _ _ r d).trans ?_
  exact mm_congr (fun x => b0 V c t _ x) (fun x => (b1 V c t x _).trans (congrArg (V c main_v9) (congrArg (ix2 x) (Fin.ext (by show (4 + t.val % 8) * 1024 + d.val = 4096 + (t.val % 8 * 1024 + d.val); omega)))))

end R3

/-! The gates. -/

namespace R4

theorem idx : ∀ t : Fin cfg4.N, win4_0.index t = ![t.val / 4, 0]
    ∧ win4_1.index t = ![0, (12 + t.val % 4)]
    ∧ win4_2.index t = ![t.val / 4, t.val % 4] :=
  (by decide +kernel : ∀ t : Fin grid4.N, _)

theorem pt (t : Fin cfg4.N) : t.val < 64 := lt_of_lt_of_eq t.isLt N_4

theorem b0 (t : Fin cfg4.N) (a : Fin 1024) (d : Fin 4096) : iblk4 V c 0 t (ix2 a d) = V c main_v12 (ix2 ⟨t.val / 4 * 1024 + a, by have := pt t; omega⟩ d) := by
  blk_point [iblk4, idx t]

theorem b1 (t : Fin cfg4.N) (a : Fin 4096) (d : Fin 1024) : iblk4 V c 1 t (ix2 a d) = V c main_v9 (ix2 a ⟨(12 + t.val % 4) * 1024 + d, by have := pt t; omega⟩) := by
  blk_point [iblk4, idx t]

theorem pay2 (x0 : Vec Ideal S1024x4096 .bf16) (x1 : Vec Ideal S4096x1024 .bf16) (r : Fin 1024) (d : Fin 1024) :
    k4_pay1 x0 x1 (ix2 r d) = mm x0 x1 r d := by
  unfold k4_pay1
  pointwise [mm]

/-- The array it leaves. -/
def G2 : M 16384 4096 := fun i => mm (V c main_v12) (V c main_v9) (i 0) ⟨12288 + (i 1).val, by have : (i 1).val < 4096 := (i 1).isLt; omega⟩

theorem arr2 : (dat4 V c).arrAt 2 cfg4.N = G2 V c := by
  refine (dat4 V c).arrAt_eq_of_covers 2 _ (by decide +kernel) fun t _ y => ?_
  blk_simp
  rw [after4_2]
  unfold out4_2
  canon_tiles x h
  obtain ⟨r, d, rfl⟩ : ∃ (r : Fin 1024) (d : Fin 1024), x = ix2 r d := ⟨x 0, x 1, eq_ix2 x⟩
  have e : (win4_2.blk t).view.emb y = ix2 ⟨t.val / 4 * 1024 + r, by have := pt t; omega⟩ ⟨t.val % 4 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v9) (congrArg (ix2 x) (Fin.ext (by show (12 + t.val % 4) * 1024 + d.val = 12288 + (t.val % 4 * 1024 + d.val); omega)))))

end R4

end Cert.Mid

end
-- ==== Proof.MidRun.lean ====
module

public import proofs.«01_k».proof.Proof.Gen.MiddleIdeal.Frame

/-! The run, with every array it leaves: the launch of the regions in order, read at the end. -/

@[expose] public section

set_option maxRecDepth 16384

noncomputable section

namespace Cert.Mid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.MiddleIdeal Cert.MiddleIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates with each of its arrays as the last segment leaves it. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W7 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c b hb => h c _ (mem_uc b hb))

end Cert.Mid

end
-- ==== Proof.MidRef.lean ====
module

public import proofs.«01_k».proof.Proof.Mat
public import proofs.«01_k».proof.Proof.Soft
public import proofs.«01_k».proof.Proof.Gen.MiddleReferenceIdeal.Run

/-! The reference between the layers, entry by entry. -/

@[expose] public section

set_option maxRecDepth 16384

noncomputable section

namespace Cert.Mid

open Idealize.ShloMosaic Idealize.ShloMosaic.TcCoe Idealize.SL.Sem
open Cert.Mat
open Cert.MiddleReferenceIdeal Cert.MiddleReferenceIdeal.Gen

/-- A product over 4096 of columns laid side by side is the sum of the two products. -/
theorem mm_halves {n : ℕ} (a : M 16384 4096) (p q : M 16384 2048) (w : M 4096 n) (r : Fin 16384) (d : Fin n)
    (hp : ∀ x : Fin 2048, a (ix2 r ⟨x, by omega⟩) = p (ix2 r x)) (hq : ∀ x : Fin 2048, a (ix2 r ⟨2048 + x, by omega⟩) = q (ix2 r x)) :
    mm a w r d = mm p (fun j : (⟨2, ![2048, n]⟩ : Shape).Idx => w (ix2 ⟨(j 0).val, by have : (j 0).val < 2048 := (j 0).isLt; omega⟩ (j 1))) r d
      + mm q (fun j : (⟨2, ![2048, n]⟩ : Shape).Idx => w (ix2 ⟨2048 + (j 0).val, by have : (j 0).val < 2048 := (j 0).isLt; omega⟩ (j 1))) r d := by
  unfold mm
  refine (Fin.sum_univ_add (a := 2048) (b := 2048) fun x => a (ix2 r x) * w (ix2 x d)).trans ?_
  exact congrArg₂ (· + ·) (Finset.sum_congr rfl fun x _ => congrArg (· * _) (hp x)) (Finset.sum_congr rfl fun x _ => congrArg (· * _) (hq x))

theorem hdot (a : FVec Ideal S16384x4096 .f32) (w : FVec Ideal S4096x4096 .f32) :
    Host.dotGeneral (F := Ideal) (φ₁ := .f32) (φ₂ := .f32) dot_S16384x4096_S4096x4096_S16384x4096_1_0_0_1_n_n none a w = fun i => mm a w (i 0) (i 1) := by
  funext i
  obtain ⟨r, d, rfl⟩ : ∃ (r : Fin 16384) (d : Fin 4096), i = ix2 r d := ⟨i 0, i 1, eq_ix2 i⟩
  pointwise [mm]

theorem hdot' (a : FVec Ideal S16384x4096 .f32) (w : FVec Ideal S4096x16384 .f32) :
    Host.dotGeneral (F := Ideal) (φ₁ := .f32) (φ₂ := .f32) dot_S16384x4096_S4096x16384_S16384x16384_1_0_0_1_n_n none a w = fun i => mm a w (i 0) (i 1) := by
  funext i
  obtain ⟨r, d, rfl⟩ : ∃ (r : Fin 16384) (d : Fin 16384), i = ix2 r d := ⟨i 0, i 1, eq_ix2 i⟩
  pointwise [mm]

theorem hrms (X : FVec Ideal S16384x4096 .f32) (g : FVec Ideal S4096 .f32) :
    mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))
      = fun i => rms (Ideal.ofBits .f32 0x45800000#32) X (fun j => g (ix1 (j 1))) (i 0) (i 1) := by
  funext i
  obtain ⟨r, d, rfl⟩ : ∃ (r : Fin 16384) (d : Fin 4096), i = ix2 r d := ⟨i 0, i 1, eq_ix2 i⟩
  pointwise [rms]

/-- Two halves of columns laid side by side: the left one. -/
theorem catL (p q : FVec Ideal S16384x2048 .f32) (r : Fin 16384) (x : Fin 2048) :
    concatenate S16384x4096 1 [⟨S16384x2048, p⟩, ⟨S16384x2048, q⟩] concatenates_S16384x2048_S16384x2048_S16384x4096_d1 (ix2 r ⟨x, by omega⟩) = p (ix2 r x) := by
  pointwise
/-- Two halves of columns laid side by side: the right one. -/
theorem catR (p q : FVec Ideal S16384x2048 .f32) (r : Fin 16384) (x : Fin 2048) :
    concatenate S16384x4096 1 [⟨S16384x2048, p⟩, ⟨S16384x2048, q⟩] concatenates_S16384x2048_S16384x2048_S16384x4096_d1 (ix2 r ⟨2048 + x, by omega⟩) = q (ix2 r x) := by
  pointwise

theorem slice0 (D : FVec Ideal S16384x16384 .f32) (r : Fin 16384) (d : Fin 4096) :
    extractStridedSlice S16384x4096 ![0, 0] D slices_S16384x16384_S16384x4096_0_0 (ix2 r d) = D (ix2 r ⟨0 + d, by omega⟩) := by
  pointwise
theorem slice3 (D : FVec Ideal S16384x16384 .f32) (r : Fin 16384) (d : Fin 4096) :
    extractStridedSlice S16384x4096 ![0, 12288] D slices_S16384x16384_S16384x4096_0_12288 (ix2 r d) = D (ix2 r ⟨12288 + d, by omega⟩) := by
  pointwise
/-- The two slices of keys and of values side by side are one slice. -/
theorem slice12 (D : FVec Ideal S16384x16384 .f32) (r : Fin 16384) (d : Fin 8192) :
    concatenate S16384x8192 1 [⟨S16384x4096, extractStridedSlice S16384x4096 ![0, 4096] D slices_S16384x16384_S16384x4096_0_4096⟩, ⟨S16384x4096, extractStridedSlice S16384x4096 ![0, 8192] D slices_S16384x16384_S16384x4096_0_8192⟩] concatenates_S16384x4096_S16384x4096_S16384x8192_d1 (ix2 r d) = D (ix2 r ⟨4096 + d, by omega⟩) := by
  by_cases h : d.val < 4096
  · obtain ⟨e, he, rfl⟩ : ∃ (e : Fin 4096) (he : e.val < 8192), d = ⟨e, he⟩ := ⟨⟨d, h⟩, d.isLt, rfl⟩
    pointwise
  · obtain ⟨e, he, rfl⟩ : ∃ (e : Fin 4096) (he : 4096 + e.val < 8192), d = ⟨4096 + e, he⟩ := ⟨⟨d - 4096, by omega⟩, by show 4096 + (d.val - 4096) < 8192; omega, Fin.ext (by show d.val = 4096 + (d.val - 4096); omega)⟩
    refine Eq.trans (b := D (ix2 r ⟨8192 + e, by omega⟩)) (by pointwise) (congrArg D (congrArg (ix2 r) (Fin.ext (by show 8192 + e.val = 4096 + (4096 + e.val); omega))))

theorem hscale (x : FVec Ideal S16384x4096 .f32) (i : S16384x4096.Idx) :
    truncf .bf16 (Host.divf x (broadcastInDim S16384x4096 ![] bcast_S_S16384x4096 (mulf (Host.sqrt (constant S_ .f32 0x43000000#32)) (Host.log (constant S_ .f32 0x40000000#32))))) bitsLt_bf16_f32 i
      = Ideal.div (x i) (Ideal.sqrt (Ideal.ofBits .f32 0x43000000#32) * Ideal.log (Ideal.ofBits .f32 0x40000000#32)) := by
  pointwise

end Cert.Mid

end
-- ==== Proof.MidEq.lean ====
module

public import proofs.«01_k».proof.Proof.MidVal
public import proofs.«01_k».proof.Proof.MidRun
public import proofs.«01_k».proof.Proof.MidRef

/-! Between the layers: what the regions leave, as functions of the arguments. -/

@[expose] public section

set_option maxRecDepth 16384

noncomputable section

namespace Cert.Mid

open Idealize.ShloMosaic Idealize.ShloMosaic.TcCoe Idealize.SL.Sem
open Cert.Mat
open Cert.MiddleIdeal Cert.MiddleIdeal.Gen

/-- The named factor of the queries. -/
theorem factor : (Named.named (F := Ideal) κ "q_scale" (φ := .f32) 0x3E0293EE#32 : EReal) = ((((Real.sqrt 128) * (Real.log 2))⁻¹ : ℝ) : EReal) :=
  IdealRules.named_const.ideal_named_scalar _ _ _ _ rfl

/-- The reference divides the queries by what the kernel multiplies them by the inverse of. -/
theorem scale (x : EReal) : Ideal.div x (Ideal.sqrt (Ideal.ofBits .f32 0x43000000#32) * Ideal.log (Ideal.ofBits .f32 0x40000000#32))
    = x * (Named.named (F := Ideal) κ "q_scale" (φ := .f32) 0x3E0293EE#32 : EReal) := by
  have hl : Real.log 2 ≠ 0 := (Real.log_pos (by norm_num)).ne'
  have hs : Real.sqrt 128 ≠ 0 := (Real.sqrt_pos.mpr (by norm_num)).ne'
  rw [factor]
  refine (congrArg₂ (fun a b => Ideal.div x (a * b)) Band.Soft.sqrt_width Band.Soft.log_two).trans ?_
  show Ideal.div x (((Real.sqrt 128 : ℝ) : EReal) * ((Real.log 2 : ℝ) : EReal)) = _
  rw [← EReal.coe_mul, Ideal.div_coe (mul_ne_zero hs hl), one_div]

variable (m : (ℓ : Loc nD τ sig) → Buf (Elt Ideal) ℓ) (ρ : Dev nD → PrngReg) (c : Dev nD)

/-- The output weight of the even layer. -/
def Wo : M 4096 4096 := shapeCast S4096x4096 (m (c.tc.loc main_arg3)) shapeCasts_S1x4096x4096_S4096x4096
/-- The input weight of the odd layer. -/
def Wi : M 4096 16384 := shapeCast S4096x16384 (m (c.tc.loc main_arg5)) shapeCasts_S1x4096x16384_S4096x16384
/-- The rows between the layers. -/
def X : M 16384 4096 := fun i =>
  mm (m (c.tc.loc main_arg1)) (fun j : (⟨2, ![2048, 4096]⟩ : Shape).Idx => Wo m c (ix2 ⟨(j 0).val, by have : (j 0).val < 2048 := (j 0).isLt; omega⟩ (j 1))) (i 0) (i 1)
  + mm (m (c.tc.loc main_arg2)) (fun j : (⟨2, ![2048, 4096]⟩ : Shape).Idx => Wo m c (ix2 ⟨2048 + (j 0).val, by have : (j 0).val < 2048 := (j 0).isLt; omega⟩ (j 1))) (i 0) (i 1)
  + (shapeCast S16384x4096 (m (c.tc.loc main_arg0)) shapeCasts_S8x2048x4096_S16384x4096 : M 16384 4096) i
/-- The normed rows. -/
def N : M 16384 4096 := fun i => rms (Ideal.ofBits .f32 0x45800000#32) (X m c) (fun j => (shapeCast S4096 (m (c.tc.loc main_arg4)) shapeCasts_S1x4096_S4096 : FVec Ideal S4096 .f32) (ix1 (j 1))) (i 0) (i 1)
/-- The whole input projection. -/
def D : M 16384 16384 := fun i => mm (N m c) (Wi m c) (i 0) (i 1)

theorem top (w : FVec Ideal S4096x4096 .bf16) (x : Fin 2048) (d : Fin 4096) : extractStridedSlice S2048x4096 ![0, 0] w slices_S4096x4096_S2048x4096_0_0 (ix2 x d) = w (ix2 ⟨x, by omega⟩ d) := by
  pointwise
theorem bot (w : FVec Ideal S4096x4096 .bf16) (x : Fin 2048) (d : Fin 4096) : extractStridedSlice S2048x4096 ![2048, 0] w slices_S4096x4096_S2048x4096_2048_0 (ix2 x d) = w (ix2 ⟨2048 + x, by omega⟩ d) := by
  pointwise
theorem row (g : FVec Ideal S4096 .f32) (k : Fin 4096) : shapeCast S1x4096 g shapeCasts_S4096_S1x4096 (ix2 0 k) = g (ix1 k) := by
  pointwise

theorem v2 : V1 m ρ c main_v2 = m (c.tc.loc main_arg1) := by
  show StableHlo.after hostOps0 (W0 m ρ c) main_v2 = _
  after_results <;> rfl
theorem v4 : V1 m ρ c main_v4 = m (c.tc.loc main_arg2) := by
  show StableHlo.after hostOps0 (W0 m ρ c) main_v4 = _
  after_results <;> rfl
theorem v3 : V1 m ρ c main_v3 = extractStridedSlice S2048x4096 ![0, 0] (Wo m c : FVec Ideal S4096x4096 .bf16) slices_S4096x4096_S2048x4096_0_0 := by
  show StableHlo.after hostOps0 (W0 m ρ c) main_v3 = _
  after_results <;> rfl
theorem v5 : V1 m ρ c main_v5 = extractStridedSlice S2048x4096 ![2048, 0] (Wo m c : FVec Ideal S4096x4096 .bf16) slices_S4096x4096_S2048x4096_2048_0 := by
  show StableHlo.after hostOps0 (W0 m ρ c) main_v5 = _
  after_results <;> rfl
theorem v6 : V1 m ρ c main_v6 = shapeCast S16384x4096 (m (c.tc.loc main_arg0)) shapeCasts_S8x2048x4096_S16384x4096 := by
  show StableHlo.after hostOps0 (W0 m ρ c) main_v6 = _
  after_results <;> rfl

theorem w7 : W2 m ρ c (Proc.devRef .tc main_v7) = X m c := by
  refine (W2_arr m ρ c 5).trans ((R0.arr5 _ c).trans ?_)
  unfold R0.G5 X
  rw [v2, v3, v4, v5, v6]
  exact funext fun i => congrArg (· + _) (congrArg₂ (· + ·) (mm_congr (fun _ => rfl) (fun x => top _ x _)) (mm_congr (fun _ => rfl) (fun x => bot _ x _)))

theorem v7 : V3 m ρ c main_v7 = X m c := (W3_of m ρ c main_v7 (by decide)).trans (w7 m ρ c)

theorem v9 : V3 m ρ c main_v9 = Wi m c := by
  refine Eq.trans (b := shapeCast S4096x16384 (W2 m ρ c (Proc.devRef .tc main_arg5)) shapeCasts_S1x4096x16384_S4096x16384) ?_ ?_
  · show StableHlo.after hostOps1 (W2 m ρ c) main_v9 = _
    after_results <;> rfl
  · rw [W2_args m ρ c main_arg5 (by decide)]; rfl

theorem v11 (k : Fin 4096) : V3 m ρ c main_v11 (ix2 0 k) = (shapeCast S4096 (m (c.tc.loc main_arg4)) shapeCasts_S1x4096_S4096 : FVec Ideal S4096 .f32) (ix1 k) := by
  have e : V3 m ρ c main_v11 = shapeCast S1x4096 (shapeCast S4096 (m (c.tc.loc main_arg4)) shapeCasts_S1x4096_S4096 : FVec Ideal S4096 .f32) shapeCasts_S4096_S1x4096 := by
    refine Eq.trans (b := shapeCast S1x4096 (shapeCast S4096 (W2 m ρ c (Proc.devRef .tc main_arg4)) shapeCasts_S1x4096_S4096 : FVec Ideal S4096 .f32) shapeCasts_S4096_S1x4096) ?_ ?_
    · show StableHlo.after hostOps1 (W2 m ρ c) main_v11 = _
      after_results <;> rfl
    · rw [W2_args m ρ c main_arg4 (by decide)]
  rw [e]
  exact row _ k

theorem v12 : W4 m ρ c (Proc.devRef .tc main_v12) = N m c := by
  refine (W4_arr m ρ c 2).trans ((R1.arr2 _ c).trans ?_)
  unfold R1.G2 N
  exact funext fun i => rms_congr (fun k => congrFun (v7 m ρ c) _) (v11 m ρ c _)

theorem n5 : V5 m ρ c main_v12 = N m c := (W5_of m ρ c main_v12 (by decide)).trans (v12 m ρ c)
theorem n6 : V6 m ρ c main_v12 = N m c := (W6_of m ρ c main_v12 (by decide)).trans (n5 m ρ c)
theorem k4 : V4 m ρ c main_v9 = Wi m c := (W4_of m ρ c main_v9 (by decide)).trans (v9 m ρ c)
theorem k5 : V5 m ρ c main_v9 = Wi m c := (W5_of m ρ c main_v9 (by decide)).trans (k4 m ρ c)
theorem k6 : V6 m ρ c main_v9 = Wi m c := (W6_of m ρ c main_v9 (by decide)).trans (k5 m ρ c)

/-- The five results. -/
theorem o7 : W7 m ρ c (Proc.devRef .tc main_v7) = X m c :=
  (W7_of m ρ c main_v7 (by decide)).trans ((W6_of m ρ c main_v7 (by decide)).trans ((W5_of m ρ c main_v7 (by decide)).trans ((W4_of m ρ c main_v7 (by decide)).trans (v7 m ρ c))))
theorem o13 : W7 m ρ c (Proc.devRef .tc main_v13) = fun i => D m c (ix2 (i 0) ⟨0 + (i 1).val, by have : (i 1).val < 4096 := (i 1).isLt; omega⟩) * (Named.named (F := Ideal) κ "q_scale" (φ := .f32) 0x3E0293EE#32 : EReal) := by
  refine (W7_of m ρ c main_v13 (by decide)).trans ((W6_of m ρ c main_v13 (by decide)).trans ((W5_arr m ρ c 2).trans ((R2.arr2 _ c).trans ?_)))
  unfold R2.G2
  rw [show V4 m ρ c main_v12 = _ from v12 m ρ c, k4]
  rfl
theorem o14 : W7 m ρ c (Proc.devRef .tc main_v14_0) = fun i => D m c (ix2 (i 0) ⟨4096 + (i 1).val, by have : (i 1).val < 8192 := (i 1).isLt; omega⟩) := by
  refine (W7_of m ρ c main_v14_0 (by decide)).trans ((W6_arr m ρ c 2).trans ((R3.arr2 _ c).trans ?_))
  unfold R3.G2
  rw [n5, k5]
  rfl
theorem o14' : W7 m ρ c (Proc.devRef .tc main_v14_1) = fun i => D m c (ix2 (i 0) ⟨4096 + (i 1).val, by have : (i 1).val < 8192 := (i 1).isLt; omega⟩) := by
  refine (W7_of m ρ c main_v14_1 (by decide)).trans ((W6_arr m ρ c 3).trans ((R3.arr3 _ c).trans ?_))
  unfold R3.G3
  rw [n5, k5]
  rfl
theorem o15 : W7 m ρ c (Proc.devRef .tc main_v15) = fun i => D m c (ix2 (i 0) ⟨12288 + (i 1).val, by have : (i 1).val < 4096 := (i 1).isLt; omega⟩) := by
  refine (W7_arr m ρ c 2).trans ((R4.arr2 _ c).trans ?_)
  unfold R4.G2
  rw [n6, k6]
  rfl

end Cert.Mid

end
-- ==== Proof.MidFin.lean ====
module

public import proofs.«01_k».proof.Defs
public import proofs.«01_k».proof.Proof.MidEq

/-! Between the layers: what the kernels leave is what the reference leaves. -/

@[expose] public section

set_option maxRecDepth 16384

noncomputable section

namespace Cert.Mid

open Idealize.ShloMosaic Idealize.ShloMosaic.TcCoe Idealize.SL.Sem
open Cert.Mat

section Ref
open Cert.MiddleReferenceIdeal Cert.MiddleReferenceIdeal.Gen

/-- The reference's rows between the layers. -/
def RX (a0 : FVec Ideal S8x2048x4096 .f32) (a1 a2 : FVec Ideal S16384x2048 .f32) (a3 : FVec Ideal S1x4096x4096 .f32) : FVec Ideal S16384x4096 .f32 :=
  addf (shapeCast _ a0 shapeCasts_S8x2048x4096_S16384x4096) (Host.dotGeneral dot_S16384x4096_S4096x4096_S16384x4096_1_0_0_1_n_n none (concatenate S16384x4096 1 [⟨S16384x2048, a1⟩, ⟨S16384x2048, a2⟩] concatenates_S16384x2048_S16384x2048_S16384x4096_d1) (shapeCast _ a3 shapeCasts_S1x4096x4096_S4096x4096))
/-- The reference's normed rows. -/
def RN (X : FVec Ideal S16384x4096 .f32) (g : FVec Ideal S4096 .f32) : FVec Ideal S16384x4096 .f32 :=
  mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))
/-- The reference's whole input projection. -/
def RD (a0 : FVec Ideal S8x2048x4096 .f32) (a1 a2 : FVec Ideal S16384x2048 .f32) (a3 : FVec Ideal S1x4096x4096 .f32) (a4 : FVec Ideal S1x4096 .f32) (a5 : FVec Ideal S1x4096x16384 .f32) : FVec Ideal S16384x16384 .f32 :=
  Host.dotGeneral dot_S16384x4096_S4096x16384_S16384x16384_1_0_0_1_n_n none (RN (RX a0 a1 a2 a3) (shapeCast _ a4 shapeCasts_S1x4096_S4096)) (shapeCast _ a5 shapeCasts_S1x4096x16384_S4096x16384)
/-- The reference's keys and values. -/
def RKV (D : FVec Ideal S16384x16384 .f32) : FVec Ideal S16384x8192 .f32 :=
  concatenate S16384x8192 1 [⟨S16384x4096, extractStridedSlice S16384x4096 ![0, 4096] D slices_S16384x16384_S16384x4096_0_4096⟩, ⟨S16384x4096, extractStridedSlice S16384x4096 ![0, 8192] D slices_S16384x16384_S16384x4096_0_8192⟩] concatenates_S16384x4096_S16384x4096_S16384x8192_d1
/-- The reference's queries. -/
def RQ (D : FVec Ideal S16384x16384 .f32) : FVec Ideal S16384x4096 .bf16 :=
  truncf .bf16 (Host.divf (extractStridedSlice S16384x4096 ![0, 0] D slices_S16384x16384_S16384x4096_0_0) (broadcastInDim S16384x4096 ![] bcast_S_S16384x4096 (mulf (Host.sqrt (constant S_ .f32 0x43000000#32)) (Host.log (constant S_ .f32 0x40000000#32))))) bitsLt_bf16_f32

theorem rkv (D : FVec Ideal S16384x16384 .f32) : RKV D = fun i => D (ix2 (i 0) ⟨4096 + (i 1).val, by have : (i 1).val < 8192 := (i 1).isLt; omega⟩) := by
  funext i
  obtain ⟨r, d, rfl⟩ : ∃ (r : Fin 16384) (d : Fin 8192), i = ix2 r d := ⟨i 0, i 1, eq_ix2 i⟩
  exact slice12 D r d
theorem rq (D : FVec Ideal S16384x16384 .f32) : RQ D = fun i => D (ix2 (i 0) ⟨0 + (i 1).val, by have : (i 1).val < 4096 := (i 1).isLt; omega⟩) * (Named.named (F := Ideal) Cert.MiddleIdeal.κ "q_scale" (φ := .f32) 0x3E0293EE#32 : EReal) := by
  funext i
  obtain ⟨r, d, rfl⟩ : ∃ (r : Fin 16384) (d : Fin 4096), i = ix2 r d := ⟨i 0, i 1, eq_ix2 i⟩
  refine (hscale _ _).trans ((scale _).trans ?_)
  exact congrArg (· * _) (slice0 D r d)
theorem rg (D : FVec Ideal S16384x16384 .f32) : extractStridedSlice S16384x4096 ![0, 12288] D slices_S16384x16384_S16384x4096_0_12288 = fun i => D (ix2 (i 0) ⟨12288 + (i 1).val, by have : (i 1).val < 4096 := (i 1).isLt; omega⟩) := by
  funext i
  obtain ⟨r, d, rfl⟩ : ∃ (r : Fin 16384) (d : Fin 4096), i = ix2 r d := ⟨i 0, i 1, eq_ix2 i⟩
  exact slice3 D r d
end Ref

theorem frame_ref (m' : (ℓ : Loc Cert.MiddleReferenceIdeal.nD Cert.MiddleReferenceIdeal.τ Cert.MiddleReferenceIdeal.sig) → Buf (Elt Ideal) ℓ) (g' : Dev Cert.MiddleReferenceIdeal.nD → PrngReg) :
    θ_run (Cert.MiddleReferenceIdeal.defs (F := Ideal)) (onTc (τ := Cert.MiddleReferenceIdeal.τ) (Cert.MiddleReferenceIdeal.main (F := Ideal))) ⟨m', fun _ => 0, g'⟩ (fun r => (∀ c : Dev Cert.MiddleReferenceIdeal.nD,
      r.2.mem ((c.tc : Thread Cert.MiddleReferenceIdeal.nD Cert.MiddleReferenceIdeal.τ).loc Cert.MiddleReferenceIdeal.main_arg0) = m' ((c.tc : Thread Cert.MiddleReferenceIdeal.nD Cert.MiddleReferenceIdeal.τ).loc Cert.MiddleReferenceIdeal.main_arg0)
      ∧ r.2.mem ((c.tc : Thread Cert.MiddleReferenceIdeal.nD Cert.MiddleReferenceIdeal.τ).loc Cert.MiddleReferenceIdeal.main_arg1) = m' ((c.tc : Thread Cert.MiddleReferenceIdeal.nD Cert.MiddleReferenceIdeal.τ).loc Cert.MiddleReferenceIdeal.main_arg1)
      ∧ r.2.mem ((c.tc : Thread Cert.MiddleReferenceIdeal.nD Cert.MiddleReferenceIdeal.τ).loc Cert.MiddleReferenceIdeal.main_arg2) = m' ((c.tc : Thread Cert.MiddleReferenceIdeal.nD Cert.MiddleReferenceIdeal.τ).loc Cert.MiddleReferenceIdeal.main_arg2)
      ∧ r.2.mem ((c.tc : Thread Cert.MiddleReferenceIdeal.nD Cert.MiddleReferenceIdeal.τ).loc Cert.MiddleReferenceIdeal.main_arg3) = m' ((c.tc : Thread Cert.MiddleReferenceIdeal.nD Cert.MiddleReferenceIdeal.τ).loc Cert.MiddleReferenceIdeal.main_arg3)
      ∧ r.2.mem ((c.tc : Thread Cert.MiddleReferenceIdeal.nD Cert.MiddleReferenceIdeal.τ).loc Cert.MiddleReferenceIdeal.main_arg4) = m' ((c.tc : Thread Cert.MiddleReferenceIdeal.nD Cert.MiddleReferenceIdeal.τ).loc Cert.MiddleReferenceIdeal.main_arg4)
      ∧ r.2.mem ((c.tc : Thread Cert.MiddleReferenceIdeal.nD Cert.MiddleReferenceIdeal.τ).loc Cert.MiddleReferenceIdeal.main_arg5) = m' ((c.tc : Thread Cert.MiddleReferenceIdeal.nD Cert.MiddleReferenceIdeal.τ).loc Cert.MiddleReferenceIdeal.main_arg5))
      ∧ r.2.sem = fun _ => 0) :=
  (θ_run _ _ _).mono (fun r h => ⟨fun c => (h c).2.2.2.2.2, sem_eq_zero_of_no_sems (by decide) r.2⟩) (Cert.MiddleReferenceIdeal.Value.run m' g')

open Cert.MiddleIdeal Cert.MiddleIdeal.Gen

theorem rx (m : (ℓ : Loc nD τ sig) → Buf (Elt Ideal) ℓ) (c : Dev nD) : RX (m (c.tc.loc main_arg0)) (m (c.tc.loc main_arg1)) (m (c.tc.loc main_arg2)) (m (c.tc.loc main_arg3)) = X m c := by
  funext i
  obtain ⟨r, d, rfl⟩ : ∃ (r : Fin 16384) (d : Fin 4096), i = ix2 r d := ⟨i 0, i 1, eq_ix2 i⟩
  unfold RX X
  rw [hdot]
  exact (add_comm _ _).trans (congrArg (· + _) (mm_halves _ _ _ _ r d (catL _ _ r) (catR _ _ r)))
theorem rd (m : (ℓ : Loc nD τ sig) → Buf (Elt Ideal) ℓ) (c : Dev nD) :
    RD (m (c.tc.loc main_arg0)) (m (c.tc.loc main_arg1)) (m (c.tc.loc main_arg2)) (m (c.tc.loc main_arg3)) (m (c.tc.loc main_arg4)) (m (c.tc.loc main_arg5)) = D m c := by
  unfold RD RN
  rw [rx, hrms, hdot']
  rfl

theorem algebraic : Cert.algebraic_MiddleIdeal_MiddleReferenceIdeal (hMiddleIdeal := Cert.MiddleIdeal.Gen.facts) (hMiddleReferenceIdeal := Cert.MiddleReferenceIdeal.Gen.facts) := by
  intro m g m' g' _ hm
  refine ⟨fun c => W7 m g c (Proc.devRef .tc main_v7), fun c => W7 m g c (Proc.devRef .tc main_v13), fun c => W7 m g c (Proc.devRef .tc main_v14_0),
    fun c => W7 m g c (Proc.devRef .tc main_v14_1), fun c => W7 m g c (Proc.devRef .tc main_v15), ?_, ?_⟩
  · refine (θ_run _ _ _).mono (fun r h c => ⟨h c main_v7 (by decide), h c main_v13 (by decide), h c main_v14_0 (by decide), h c main_v14_1 (by decide), h c main_v15 (by decide), ?_⟩) (run m g)
    exact ⟨(h c main_arg0 (by decide)).trans (W7_main_arg0 m g c), (h c main_arg1 (by decide)).trans (W7_main_arg1 m g c),
      (h c main_arg2 (by decide)).trans (W7_main_arg2 m g c), (h c main_arg3 (by decide)).trans (W7_main_arg3 m g c),
      (h c main_arg4 (by decide)).trans (W7_main_arg4 m g c), (h c main_arg5 (by decide)).trans (W7_main_arg5 m g c)⟩
  · refine (θ_run _ _ _).mono (fun r h c => ?_) (Cert.MiddleReferenceIdeal.Value.run m' g')
    obtain ⟨h0, h1, h2, h3, h4, ha⟩ := h c
    obtain ⟨a0, a1, a2, a3, a4, a5⟩ := hm c
    have d := rd m c
    rw [← a0, ← a1, ← a2, ← a3, ← a4, ← a5] at d
    have x := rx m c
    rw [← a0, ← a1, ← a2, ← a3] at x
    refine ⟨h0.trans (Eq.trans x (o7 m g c).symm), h1.trans ?_, h2.trans ?_, h3.trans ?_, h4.trans ?_, ha⟩
    · exact (rq _).trans ((congrArg (fun (D : M 16384 16384) => (fun i => D (ix2 (i 0) ⟨0 + (i 1).val, by have : (i 1).val < 4096 := (i 1).isLt; omega⟩) * _ : M 16384 4096)) d).trans (o13 m g c).symm)
    · exact (rkv _).trans ((congrArg (fun (D : M 16384 16384) => (fun i => D (ix2 (i 0) ⟨4096 + (i 1).val, by have : (i 1).val < 8192 := (i 1).isLt; omega⟩) : M 16384 8192)) d).trans (o14 m g c).symm)
    · exact (rkv _).trans ((congrArg (fun (D : M 16384 16384) => (fun i => D (ix2 (i 0) ⟨4096 + (i 1).val, by have : (i 1).val < 8192 := (i 1).isLt; omega⟩) : M 16384 8192)) d).trans (o14' m g c).symm)
    · exact (rg _).trans ((congrArg (fun (D : M 16384 16384) => (fun i => D (ix2 (i 0) ⟨12288 + (i 1).val, by have : (i 1).val < 4096 := (i 1).isLt; omega⟩) : M 16384 4096)) d).trans (o15 m g c).symm)

end Cert.Mid

end
-- ==== Proof.FinVal.lean ====
module

public import proofs.«01_k».proof.Proof.Mat
public import proofs.«01_k».proof.Proof.Gen.FinalIdeal.Frame

/-! The arrays the regions of the last projection leave. -/

@[expose] public section

set_option maxRecDepth 16384

noncomputable section

namespace Cert.Fin

open Idealize.ShloMosaic Idealize.ShloMosaic.TcCoe Idealize.SL.Sem
open Cert.FinalIdeal Cert.FinalIdeal.Gen Cert.Mat
open Idealize.ShloMosaic.Pipeline (Dat)

variable (V : (c : Dev nD) → (b : Ref sig .tc) → Buf (Elt Ideal) ((c : Thread nD τ).loc b)) (c : Dev nD)

/-! The output projection of the odd layer, its residual added. -/

namespace R0

theorem idx : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

theorem pt (t : Fin cfg0.N) : t.val < 64 := lt_of_lt_of_eq t.isLt N_0

theorem b0 (t : Fin cfg0.N) (a : Fin 1024) (d : Fin 4096) : iblk0 V c 0 t (ix2 a d) = V c main_v0 (ix2 ⟨t.val / 4 * 1024 + a, by have := pt t; omega⟩ d) := by
  blk_point [iblk0, idx t]

theorem b1 (t : Fin cfg0.N) (a : Fin 4096) (d : Fin 1024) : iblk0 V c 1 t (ix2 a d) = V c main_v2 (ix2 a ⟨t.val % 4 * 1024 + d, by have := pt t; omega⟩) := by
  blk_point [iblk0, idx t]

theorem b2 (t : Fin cfg0.N) (a : Fin 1024) (d : Fin 1024) : iblk0 V c 2 t (ix2 a d) = V c main_arg0 (ix2 ⟨t.val / 4 * 1024 + a, by have := pt t; omega⟩ ⟨t.val % 4 * 1024 + d, by have := pt t; omega⟩) := by
  blk_point [iblk0, idx t]

theorem pay3 (x0 : Vec Ideal S1024x4096 .bf16) (x1 : Vec Ideal S4096x1024 .bf16) (x2 : Vec Ideal S1024x1024 .f32) (r : Fin 1024) (d : Fin 1024) :
    k0_pay1 x0 x1 x2 (ix2 r d) = mm x0 x1 r d + x2 (ix2 r d) := by
  unfold k0_pay1
  pointwise [mm]

/-- The array it leaves. -/
def G3 : M 16384 4096 := fun i => mm (V c main_v0) (V c main_v2) (i 0) (i 1) + V c main_arg0 i

theorem arr3 : (dat0 V c).arrAt 3 cfg0.N = G3 V c := by
  refine (dat0 V c).arrAt_eq_of_covers 3 _ (by decide +kernel) fun t _ y => ?_
  blk_simp
  rw [after0_3]
  unfold out0_3
  canon_tiles x h
  obtain ⟨r, d, rfl⟩ : ∃ (r : Fin 1024) (d : Fin 1024), x = ix2 r d := ⟨x 0, x 1, eq_ix2 x⟩
  have e : (win0_3.blk t).view.emb y = ix2 ⟨t.val / 4 * 1024 + r, by have := pt t; omega⟩ ⟨t.val % 4 * 1024 + d, by have := pt t; omega⟩ := by
    blk_ext [idx t, h0, h1]
  rw [e, ld_all, ld_all, ld_all]
  refine (pay3 _ _ _ r d).trans ?_
  exact congrArg₂ (· + ·) (mm_congr (fun x => b0 V c t _ x) (fun x => (b1 V c t x _))) (b2 V c t _ _)

end R0

/-! The last norm. -/

namespace R1

theorem idx : ∀ t : Fin cfg1.N, win1_0.index t = ![t.val, 0]
    ∧ win1_1.index t = ![0, 0]
    ∧ win1_2.index t = ![t.val, 0] :=
  (by decide +kernel : ∀ t : Fin grid1.N, _)

theorem pt (t : Fin cfg1.N) : t.val < 32 := lt_of_lt_of_eq t.isLt N_1

theorem b0 (t : Fin cfg1.N) (a : Fin 512) (d : Fin 4096) : iblk1 V c 0 t (ix2 a d) = V c main_v3 (ix2 ⟨t.val * 512 + a, by have := pt t; omega⟩ d) := by
  blk_point [iblk1, idx t]

theorem b1 (t : Fin cfg1.N) (d : Fin 4096) : iblk1 V c 1 t (ix2 0 d) = V c main_v4 (ix2 0 d) := by
  blk_point [iblk1, idx t]

theorem pay2 (x0 : Vec Ideal S512x4096 .f32) (x1 : Vec Ideal S1x4096 .f32) (r : Fin 512) (d : Fin 4096) :
    k1_pay1 x0 x1 (ix2 r d) = rms (Ideal.ofBits .f32 0x45800000#32) x0 x1 r d := by
  unfold k1_pay1
  pointwise [rms]

/-- The array it leaves. -/
def G2 : M 16384 4096 := fun i => rms (Ideal.ofBits .f32 0x45800000#32) (V c main_v3) (V c main_v4) (i 0) (i 1)

theorem arr2 : (dat1 V c).arrAt 2 cfg1.N = G2 V c := by
  refine (dat1 V c).arrAt_eq_of_covers 2 _ (by decide +kernel) fun t _ y => ?_
  blk_simp
  rw [after1_2]
  unfold out1_2
  canon_tiles x h
  obtain ⟨r, d, rfl⟩ : ∃ (r : Fin 512) (d : Fin 4096), x = ix2 r d := ⟨x 0, x 1, eq_ix2 x⟩
  have e : (win1_2.blk t).view.emb y = ix2 ⟨t.val * 512 + r, by have := pt t; omega⟩ d := by
    blk_ext [idx t, h0, h1]
  rw [e, ld_all, ld_all]
  refine (pay2 _ _ r d).trans ?_
  exact rms_congr (fun x => b0 V c t _ x) (b1 V c t _)

end R1

end Cert.Fin

end
-- ==== Proof.FinRun.lean ====
module

public import proofs.«01_k».proof.Proof.Gen.FinalIdeal.Frame

/-! The run, with every array it leaves: the launch of the regions in order, read at the end. -/

@[expose] public section

set_option maxRecDepth 16384

noncomputable section

namespace Cert.Fin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FinalIdeal Cert.FinalIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates with each of its arrays as the last segment leaves it. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c b hb => h c _ (mem_uc b hb))

end Cert.Fin

end
-- ==== Proof.FinEq.lean ====
module

public import proofs.«01_k».proof.Defs
public import proofs.«01_k».proof.Proof.FinVal
public import proofs.«01_k».proof.Proof.FinRun
public import proofs.«01_k».proof.Proof.Gen.FinalReferenceIdeal.Run

/-! The last projection: what the kernel leaves is what the reference leaves. -/

@[expose] public section

set_option maxRecDepth 16384

noncomputable section

namespace Cert.Fin

open Idealize.ShloMosaic Idealize.ShloMosaic.TcCoe Idealize.SL.Sem
open Cert.Mat

section Ref
open Cert.FinalReferenceIdeal Cert.FinalReferenceIdeal.Gen

theorem hdot (a : Vec Ideal S16384x4096 .f32) (w : Vec Ideal S4096x4096 .f32) :
    Host.dotGeneral (F := Ideal) (φ₁ := .f32) (φ₂ := .f32) dot_S16384x4096_S4096x4096_S16384x4096_1_0_0_1_n_n none a w = fun i => mm a w (i 0) (i 1) := by
  funext i
  obtain ⟨r, d, rfl⟩ : ∃ (r : Fin 16384) (d : Fin 4096), i = ix2 r d := ⟨i 0, i 1, eq_ix2 i⟩
  pointwise [mm]

theorem hrms (X : FVec Ideal S16384x4096 .f32) (g : FVec Ideal S4096 .f32) :
    mulf (mulf X (broadcastInDim S16384x4096 ![0, 1] bcast_S16384x1_S16384x4096_0_1 (Host.rsqrt (addf (Host.divf (broadcastInDim S16384x1 ![0] bcast_S16384_S16384x1_0 (Host.reduceAdd (mulf X X) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 g))
      = fun i => rms (Ideal.ofBits .f32 0x45800000#32) X (fun j => g (ix1 (j 1))) (i 0) (i 1) := by
  funext i
  obtain ⟨r, d, rfl⟩ : ∃ (r : Fin 16384) (d : Fin 4096), i = ix2 r d := ⟨i 0, i 1, eq_ix2 i⟩
  pointwise [rms]

end Ref

open Cert.FinalIdeal Cert.FinalIdeal.Gen

variable (m : (ℓ : Loc nD τ sig) → Buf (Elt Ideal) ℓ) (ρ : Dev nD → PrngReg) (c : Dev nD)

/-- The rows before the last norm. -/
def X : M 16384 4096 := fun i => mm (m (c.tc.loc main_arg1)) (shapeCast S4096x4096 (m (c.tc.loc main_arg2)) shapeCasts_S1x4096x4096_S4096x4096) (i 0) (i 1) + m (c.tc.loc main_arg0) i

theorem v0 : V1 m ρ c main_v0 = m (c.tc.loc main_arg1) := by
  show StableHlo.after hostOps0 (W0 m ρ c) main_v0 = _
  after_results <;> rfl
theorem v2 : V1 m ρ c main_v2 = shapeCast S4096x4096 (m (c.tc.loc main_arg2)) shapeCasts_S1x4096x4096_S4096x4096 := by
  show StableHlo.after hostOps0 (W0 m ρ c) main_v2 = _
  after_results <;> rfl
theorem v3 : V3 m ρ c main_v3 = X m c := by
  refine (W3_of m ρ c main_v3 (by decide)).trans ((W2_arr m ρ c 3).trans ((R0.arr3 _ c).trans ?_))
  unfold R0.G3 X
  rw [v0, v2]
  exact funext fun i => congrArg (_ + ·) (congrFun (W1_args m ρ c main_arg0 (by decide)) i)
theorem row (g : Vec Ideal S4096 .f32) (k : Fin 4096) : shapeCast S1x4096 g shapeCasts_S4096_S1x4096 (ix2 0 k) = g (ix1 k) := by
  pointwise
theorem v4 (k : Fin 4096) : V3 m ρ c main_v4 (ix2 0 k) = m (c.tc.loc main_arg3) (ix1 k) := by
  have e : V3 m ρ c main_v4 = shapeCast S1x4096 (m (c.tc.loc main_arg3)) shapeCasts_S4096_S1x4096 := by
    refine Eq.trans (b := shapeCast S1x4096 (W2 m ρ c (Proc.devRef .tc main_arg3)) shapeCasts_S4096_S1x4096) ?_ ?_
    · show StableHlo.after hostOps1 (W2 m ρ c) main_v4 = _
      after_results <;> rfl
    · rw [W2_args m ρ c main_arg3 (by decide)]
  rw [e]
  exact row _ k
theorem v5 : W4 m ρ c (Proc.devRef .tc main_v5) = fun i => rms (Ideal.ofBits .f32 0x45800000#32) (X m c) (fun j => m (c.tc.loc main_arg3) (ix1 (j 1))) (i 0) (i 1) := by
  refine (W4_arr m ρ c 2).trans ((R1.arr2 _ c).trans ?_)
  unfold R1.G2
  exact funext fun i => rms_congr (fun k => congrFun (v3 m ρ c) _) (v4 m ρ c _)

open Cert.FinalReferenceIdeal in
theorem frame_ref (m' : (ℓ : Loc Cert.FinalReferenceIdeal.nD Cert.FinalReferenceIdeal.τ Cert.FinalReferenceIdeal.sig) → Buf (Elt Ideal) ℓ) (g' : Dev Cert.FinalReferenceIdeal.nD → PrngReg) :
    θ_run (Cert.FinalReferenceIdeal.defs (F := Ideal)) (onTc (τ := Cert.FinalReferenceIdeal.τ) (Cert.FinalReferenceIdeal.main (F := Ideal))) ⟨m', fun _ => 0, g'⟩ (fun r => (∀ c : Dev Cert.FinalReferenceIdeal.nD,
      r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3))
      ∧ r.2.sem = fun _ => 0) :=
  (θ_run _ _ _).mono (fun r h => ⟨fun c => (h c).2, sem_eq_zero_of_no_sems (by decide) r.2⟩) (Cert.FinalReferenceIdeal.Value.run m' g')

theorem algebraic : Cert.algebraic_FinalIdeal_FinalReferenceIdeal (hFinalIdeal := Cert.FinalIdeal.Gen.facts) (hFinalReferenceIdeal := Cert.FinalReferenceIdeal.Gen.facts) := by
  intro m g m' g' _ hm
  refine ⟨fun c => W4 m g c (Proc.devRef .tc main_v5), ?_, ?_⟩
  · refine (θ_run _ _ _).mono (fun r h c => ⟨h c main_v5 (by decide), ?_⟩) (run m g)
    exact ⟨(h c main_arg0 (by decide)).trans (W4_main_arg0 m g c), (h c main_arg1 (by decide)).trans (W4_main_arg1 m g c),
      (h c main_arg2 (by decide)).trans (W4_main_arg2 m g c), (h c main_arg3 (by decide)).trans (W4_main_arg3 m g c)⟩
  · refine (θ_run _ _ _).mono (fun r h c => ⟨(h c).1.trans ?_, (h c).2⟩) (Cert.FinalReferenceIdeal.Value.run m' g')
    obtain ⟨a0, a1, a2, a3⟩ := hm c
    refine (hrms _ _).trans ((v5 m g c).trans ?_).symm
    rw [a3, a0, a1, a2, hdot]
    refine funext fun i => rms_congr (fun k => ?_) rfl
    exact add_comm _ _

end Cert.Fin

end
-- ==== Proof.SEvenVal.lean ====
module

public import proofs.«01_k».proof.Proof.Mat
public import proofs.«01_k».proof.Proof.Gen.SampleEvenIdeal.Frame

/-! For the sample: the arrays the regions of the even layer's projections leave. -/

@[expose] public section

set_option maxRecDepth 16384

noncomputable section

namespace Cert.SEven

open Idealize.ShloMosaic Idealize.ShloMosaic.TcCoe Idealize.SL.Sem
open Cert.SampleEvenIdeal Cert.SampleEvenIdeal.Gen Cert.Mat
open Idealize.ShloMosaic.Pipeline (Dat)

variable (V : (c : Dev nD) → (b : Ref sig .tc) → Buf (Elt Ideal) ((c : Thread nD τ).loc b)) (c : Dev nD)

/-! The norm before the even layer. -/

namespace R0

theorem idx : ∀ t : Fin cfg0.N, win0_0.index t = ![t.val, 0]
    ∧ win0_1.index t = ![0, 0]
    ∧ win0_2.index t = ![t.val, 0] :=
  (by decide +kernel : ∀ t : Fin grid0.N, _)

theorem pt (t : Fin cfg0.N) : t.val < 1 := lt_of_lt_of_eq t.isLt N_0

theorem b0 (t : Fin cfg0.N) (a : Fin 128) (d : Fin 4096) : iblk0 V c 0 t (ix2 a d) = V c main_v8 (ix2 ⟨t.val * 128 + a, by have := pt t; omega⟩ d) := by
  blk_point [iblk0, idx t]

theorem b1 (t : Fin cfg0.N) (d : Fin 4096) : iblk0 V c 1 t (ix2 0 d) = V c main_v9 (ix2 0 d) := by
  blk_point [iblk0, idx t]

theorem pay2 (x0 : Vec Ideal S128x4096 .f32) (x1 : Vec Ideal S1x4096 .f32) (r : Fin 128) (d : Fin 4096) :
    k0_pay1 x0 x1 (ix2 r d) = rms (Ideal.ofBits .f32 0x45800000#32) x0 x1 r d := by
  unfold k0_pay1
  pointwise [rms]

/-- The array it leaves. -/
def G2 : M 128 4096 := fun i => rms (Ideal.ofBits .f32 0x45800000#32) (V c main_v8) (V c main_v9) (i 0) (i 1)

theorem arr2 : (dat0 V c).arrAt 2 cfg0.N = G2 V c := by
  refine (dat0 V c).arrAt_eq_of_covers 2 _ (by decide +kernel) fun t _ y => ?_
  blk_simp
  rw [after0_2]
  unfold out0_2
  canon_tiles x h
  obtain ⟨r, d, rfl⟩ : ∃ (r : Fin 128) (d : Fin 4096), x = ix2 r d := ⟨x 0, x 1, eq_ix2 x⟩
  have e : (win0_2.blk t).view.emb y = ix2 ⟨t.val * 128 + r, by have := pt t; omega⟩ d := by
    blk_ext [idx t, h0, h1]
  rw [e, ld_all, ld_all]
  refine (pay2 _ _ r d).trans ?_
  exact rms_congr (fun x => b0 V c t _ x) (b1 V c t _)

end R0

/-! The scaled queries of the first attention. -/

namespace R1

theorem idx : ∀ t : Fin cfg1.N, win1_0.index t = ![t.val / 2, 0]
    ∧ win1_1.index t = ![0, t.val % 2]
    ∧ win1_2.index t = ![t.val / 2, t.val % 2] :=
  (by decide +kernel : ∀ t : Fin grid1.N, _)

theorem pt (t : Fin cfg1.N) : t.val < 2 := lt_of_lt_of_eq t.isLt N_1

theorem b0 (t : Fin cfg1.N) (a : Fin 128) (d : Fin 4096) : iblk1 V c 0 t (ix2 a d) = V c main_v10 (ix2 ⟨t.val / 2 * 128 + a, by have := pt t; omega⟩ d) := by
  blk_point [iblk1, idx t]

theorem b1 (t : Fin cfg1.N) (a : Fin 4096) (d : Fin 1024) : iblk1 V c 1 t (ix2 a d) = V c main_v4 (ix2 a ⟨t.val % 2 * 1024 + d, by have := pt t; omega⟩) := by
  blk_point [iblk1, idx t]

theorem pay2 (x0 : Vec Ideal S128x4096 .bf16) (x1 : Vec Ideal S4096x1024 .bf16) (r : Fin 128) (d : Fin 1024) :
    k1_pay1 x0 x1 (ix2 r d) = mm x0 x1 r d * (Named.named (F := Ideal) κ "q_scale" (φ := .f32) 0x3E0293EE#32 : EReal) := by
  unfold k1_pay1
  pointwise [mm]

/-- The array it leaves. -/
def G2 : M 128 2048 := fun i => mm (V c main_v10) (V c main_v4) (i 0) ⟨0 + (i 1).val, by have : (i 1).val < 2048 := (i 1).isLt; omega⟩ * (Named.named (F := Ideal) κ "q_scale" (φ := .f32) 0x3E0293EE#32 : EReal)

theorem arr2 : (dat1 V c).arrAt 2 cfg1.N = G2 V c := by
  refine (dat1 V c).arrAt_eq_of_covers 2 _ (by decide +kernel) fun t _ y => ?_
  blk_simp
  rw [after1_2]
  unfold out1_2
  canon_tiles x h
  obtain ⟨r, d, rfl⟩ : ∃ (r : Fin 128) (d : Fin 1024), x = ix2 r d := ⟨x 0, x 1, eq_ix2 x⟩
  have e : (win1_2.blk t).view.emb y = ix2 ⟨t.val / 2 * 128 + r, by have := pt t; omega⟩ ⟨t.val % 2 * 1024 + d, by have := pt t; omega⟩ := by
    blk_ext [idx t, h0, h1]
  rw [e, ld_all, ld_all]
  refine (pay2 _ _ r d).trans ?_
  exact congrArg (· * (Named.named (F := Ideal) κ "q_scale" (φ := .f32) 0x3E0293EE#32 : EReal)) (mm_congr (fun x => b0 V c t _ x) (fun x => (b1 V c t x _).trans (congrArg (V c main_v4) (congrArg (ix2 x) (Fin.ext (by show (t.val % 2) * 1024 + d.val = 0 + (t.val % 2 * 1024 + d.val); omega))))))

end R1

/-! The keys and values of the first attention. -/

namespace R2

theorem idx : ∀ t : Fin cfg2.N, win2_0.index t = ![t.val / 4, 0]
    ∧ win2_1.index t = ![0, (2 + t.val % 4)]
    ∧ win2_2.index t = ![t.val / 4, t.val % 4]
    ∧ win2_3.index t = ![t.val / 4, t.val % 4] :=
  (by decide +kernel : ∀ t : Fin grid2.N, _)

theorem pt (t : Fin cfg2.N) : t.val < 4 := lt_of_lt_of_eq t.isLt N_2

theorem b0 (t : Fin cfg2.N) (a : Fin 128) (d : Fin 4096) : iblk2 V c 0 t (ix2 a d) = V c main_v10 (ix2 ⟨t.val / 4 * 128 + a, by have := pt t; omega⟩ d) := by
  blk_point [iblk2, idx t]

theorem b1 (t : Fin cfg2.N) (a : Fin 4096) (d : Fin 1024) : iblk2 V c 1 t (ix2 a d) = V c main_v4 (ix2 a ⟨(2 + t.val % 4) * 1024 + d, by have := pt t; omega⟩) := by
  blk_point [iblk2, idx t]

theorem pay2 (x0 : Vec Ideal S128x4096 .bf16) (x1 : Vec Ideal S4096x1024 .bf16) (r : Fin 128) (d : Fin 1024) :
    k2_pay1 x0 x1 (ix2 r d) = mm x0 x1 r d := by
  unfold k2_pay1
  pointwise [mm]

/-- The array it leaves. -/
def G2 : M 128 4096 := fun i => mm (V c main_v10) (V c main_v4) (i 0) ⟨2048 + (i 1).val, by have : (i 1).val < 4096 := (i 1).isLt; omega⟩

theorem arr2 : (dat2 V c).arrAt 2 cfg2.N = G2 V c := by
  refine (dat2 V c).arrAt_eq_of_covers 2 _ (by decide +kernel) fun t _ y => ?_
  blk_simp
  rw [after2_2]
  unfold out2_2
  canon_tiles x h
  obtain ⟨r, d, rfl⟩ : ∃ (r : Fin 128) (d : Fin 1024), x = ix2 r d := ⟨x 0, x 1, eq_ix2 x⟩
  have e : (win2_2.blk t).view.emb y = ix2 ⟨t.val / 4 * 128 + r, by have := pt t; omega⟩ ⟨t.val % 4 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v4) (congrArg (ix2 x) (Fin.ext (by show (2 + t.val % 4) * 1024 + d.val = 2048 + (t.val % 4 * 1024 + d.val); omega)))))

theorem pay3 (x0 : Vec Ideal S128x4096 .bf16) (x1 : Vec Ideal S4096x1024 .bf16) (r : Fin 128) (d : Fin 1024) :
    k2_pay2 x0 x1 (ix2 r d) = mm x0 x1 r d := by
  unfold k2_pay2 k2_pay1
  pointwise [mm]

/-- The array it leaves. -/
def G3 : M 128 4096 := fun i => mm (V c main_v10) (V c main_v4) (i 0) ⟨2048 + (i 1).val, by have : (i 1).val < 4096 := (i 1).isLt; omega⟩

theorem arr3 : (dat2 V c).arrAt 3 cfg2.N = G3 V c := by
  refine (dat2 V c).arrAt_eq_of_covers 3 _ (by decide +kernel) fun t _ y => ?_
  blk_simp
  rw [after2_3]
  unfold out2_3
  canon_tiles x h
  obtain ⟨r, d, rfl⟩ : ∃ (r : Fin 128) (d : Fin 1024), x = ix2 r d := ⟨x 0, x 1, eq_ix2 x⟩
  have e : (win2_3.blk t).view.emb y = ix2 ⟨t.val / 4 * 128 + r, by have := pt t; omega⟩ ⟨t.val % 4 * 1024 + d, by have := pt t; omega⟩ := by
    blk_ext [idx t, h0, h1]
  rw [e, ld_all, ld_all]
  refine (pay3 _ _ r d).trans ?_
  exact mm_congr (fun x => b0 V c t _ x) (fun x => (b1 V c t x _).trans (congrArg (V c main_v4) (congrArg (ix2 x) (Fin.ext (by show (2 + t.val % 4) * 1024 + d.val = 2048 + (t.val % 4 * 1024 + d.val); omega)))))

end R2

/-! The gates of the first attention. -/

namespace R3

theorem idx : ∀ t : Fin cfg3.N, win3_0.index t = ![t.val / 2, 0]
    ∧ win3_1.index t = ![0, (6 + t.val % 2)]
    ∧ win3_2.index t = ![t.val / 2, t.val % 2] :=
  (by decide +kernel : ∀ t : Fin grid3.N, _)

theorem pt (t : Fin cfg3.N) : t.val < 2 := lt_of_lt_of_eq t.isLt N_3

theorem b0 (t : Fin cfg3.N) (a : Fin 128) (d : Fin 4096) : iblk3 V c 0 t (ix2 a d) = V c main_v10 (ix2 ⟨t.val / 2 * 128 + a, by have := pt t; omega⟩ d) := by
  blk_point [iblk3, idx t]

theorem b1 (t : Fin cfg3.N) (a : Fin 4096) (d : Fin 1024) : iblk3 V c 1 t (ix2 a d) = V c main_v4 (ix2 a ⟨(6 + t.val % 2) * 1024 + d, by have := pt t; omega⟩) := by
  blk_point [iblk3, idx t]

theorem pay2 (x0 : Vec Ideal S128x4096 .bf16) (x1 : Vec Ideal S4096x1024 .bf16) (r : Fin 128) (d : Fin 1024) :
    k3_pay1 x0 x1 (ix2 r d) = mm x0 x1 r d := by
  unfold k3_pay1
  pointwise [mm]

/-- The array it leaves. -/
def G2 : M 128 2048 := fun i => mm (V c main_v10) (V c main_v4) (i 0) ⟨6144 + (i 1).val, by have : (i 1).val < 2048 := (i 1).isLt; omega⟩

theorem arr2 : (dat3 V c).arrAt 2 cfg3.N = G2 V c := by
  refine (dat3 V c).arrAt_eq_of_covers 2 _ (by decide +kernel) fun t _ y => ?_
  blk_simp
  rw [after3_2]
  unfold out3_2
  canon_tiles x h
  obtain ⟨r, d, rfl⟩ : ∃ (r : Fin 128) (d : Fin 1024), x = ix2 r d := ⟨x 0, x 1, eq_ix2 x⟩
  have e : (win3_2.blk t).view.emb y = ix2 ⟨t.val / 2 * 128 + r, by have := pt t; omega⟩ ⟨t.val % 2 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v4) (congrArg (ix2 x) (Fin.ext (by show (6 + t.val % 2) * 1024 + d.val = 6144 + (t.val % 2 * 1024 + d.val); omega)))))

end R3

/-! The indexer columns. -/

namespace R4

theorem idx : ∀ t : Fin cfg4.N, win4_0.index t = ![t.val, 0]
    ∧ win4_1.index t = ![0, 0]
    ∧ win4_2.index t = ![t.val, 0]
    ∧ win4_3.index t = ![t.val, 0] :=
  (by decide +kernel : ∀ t : Fin grid4.N, _)

theorem pt (t : Fin cfg4.N) : t.val < 1 := lt_of_lt_of_eq t.isLt N_4

theorem b0 (t : Fin cfg4.N) (a : Fin 128) (d : Fin 4096) : iblk4 V c 0 t (ix2 a d) = V c main_v10 (ix2 ⟨t.val * 128 + a, by have := pt t; omega⟩ d) := by
  blk_point [iblk4, idx t]

theorem b1 (t : Fin cfg4.N) (a : Fin 4096) (d : Fin 1152) : iblk4 V c 1 t (ix2 a d) = V c main_v7 (ix2 a d) := by
  blk_point [iblk4, idx t]

theorem pay2 (x0 : Vec Ideal S128x4096 .bf16) (x1 : Vec Ideal S4096x1152 .bf16) (r : Fin 128) (d : Fin 1152) :
    k4_pay1 x0 x1 (ix2 r d) = mm x0 x1 r d := by
  unfold k4_pay1
  pointwise [mm]

/-- The array it leaves. -/
def G2 : M 128 1152 := fun i => mm (V c main_v10) (V c main_v7) (i 0) (i 1)

theorem arr2 : (dat4 V c).arrAt 2 cfg4.N = G2 V c := by
  refine (dat4 V c).arrAt_eq_of_covers 2 _ (by decide +kernel) fun t _ y => ?_
  blk_simp
  rw [after4_2]
  unfold out4_2
  canon_tiles x h
  obtain ⟨r, d, rfl⟩ : ∃ (r : Fin 128) (d : Fin 1152), x = ix2 r d := ⟨x 0, x 1, eq_ix2 x⟩
  have e : (win4_2.blk t).view.emb y = ix2 ⟨t.val * 128 + r, by have := pt t; omega⟩ d := by
    blk_ext [idx t, h0, h1]
  rw [e, ld_all, ld_all]
  refine (pay2 _ _ r d).trans ?_
  exact mm_congr (fun x => b0 V c t _ x) (fun x => (b1 V c t x _))

theorem pay3 (x0 : Vec Ideal S128x4096 .bf16) (x1 : Vec Ideal S4096x1152 .bf16) (r : Fin 128) (d : Fin 1152) :
    k4_pay2 x0 x1 (ix2 r d) = mm x0 x1 r d := by
  unfold k4_pay2 k4_pay1
  pointwise [mm]

/-- The array it leaves. -/
def G3 : M 128 1152 := fun i => mm (V c main_v10) (V c main_v7) (i 0) (i 1)

theorem arr3 : (dat4 V c).arrAt 3 cfg4.N = G3 V c := by
  refine (dat4 V c).arrAt_eq_of_covers 3 _ (by decide +kernel) fun t _ y => ?_
  blk_simp
  rw [after4_3]
  unfold out4_3
  canon_tiles x h
  obtain ⟨r, d, rfl⟩ : ∃ (r : Fin 128) (d : Fin 1152), x = ix2 r d := ⟨x 0, x 1, eq_ix2 x⟩
  have e : (win4_3.blk t).view.emb y = ix2 ⟨t.val * 128 + r, by have := pt t; omega⟩ d := by
    blk_ext [idx t, h0, h1]
  rw [e, ld_all, ld_all]
  refine (pay3 _ _ r d).trans ?_
  exact mm_congr (fun x => b0 V c t _ x) (fun x => (b1 V c t x _))

end R4

/-! The scaled queries of the second attention. -/

namespace R5

theorem idx : ∀ t : Fin cfg5.N, win5_0.index t = ![t.val / 2, 0]
    ∧ win5_1.index t = ![0, t.val % 2]
    ∧ win5_2.index t = ![t.val / 2, t.val % 2] :=
  (by decide +kernel : ∀ t : Fin grid5.N, _)

theorem pt (t : Fin cfg5.N) : t.val < 2 := lt_of_lt_of_eq t.isLt N_5

theorem b0 (t : Fin cfg5.N) (a : Fin 128) (d : Fin 4096) : iblk5 V c 0 t (ix2 a d) = V c main_v10 (ix2 ⟨t.val / 2 * 128 + a, by have := pt t; omega⟩ d) := by
  blk_point [iblk5, idx t]

theorem b1 (t : Fin cfg5.N) (a : Fin 4096) (d : Fin 1024) : iblk5 V c 1 t (ix2 a d) = V c main_v5 (ix2 a ⟨t.val % 2 * 1024 + d, by have := pt t; omega⟩) := by
  blk_point [iblk5, idx t]

theorem pay2 (x0 : Vec Ideal S128x4096 .bf16) (x1 : Vec Ideal S4096x1024 .bf16) (r : Fin 128) (d : Fin 1024) :
    k5_pay1 x0 x1 (ix2 r d) = mm x0 x1 r d * (Named.named (F := Ideal) κ "q_scale" (φ := .f32) 0x3E0293EE#32 : EReal) := by
  unfold k5_pay1
  pointwise [mm]

/-- The array it leaves. -/
def G2 : M 128 2048 := fun i => mm (V c main_v10) (V c main_v5) (i 0) ⟨0 + (i 1).val, by have : (i 1).val < 2048 := (i 1).isLt; omega⟩ * (Named.named (F := Ideal) κ "q_scale" (φ := .f32) 0x3E0293EE#32 : EReal)

theorem arr2 : (dat5 V c).arrAt 2 cfg5.N = G2 V c := by
  refine (dat5 V c).arrAt_eq_of_covers 2 _ (by decide +kernel) fun t _ y => ?_
  blk_simp
  rw [after5_2]
  unfold out5_2
  canon_tiles x h
  obtain ⟨r, d, rfl⟩ : ∃ (r : Fin 128) (d : Fin 1024), x = ix2 r d := ⟨x 0, x 1, eq_ix2 x⟩
  have e : (win5_2.blk t).view.emb y = ix2 ⟨t.val / 2 * 128 + r, by have := pt t; omega⟩ ⟨t.val % 2 * 1024 + d, by have := pt t; omega⟩ := by
    blk_ext [idx t, h0, h1]
  rw [e, ld_all, ld_all]
  refine (pay2 _ _ r d).trans ?_
  exact congrArg (· * (Named.named (F := Ideal) κ "q_scale" (φ := .f32) 0x3E0293EE#32 : EReal)) (mm_congr (fun x => b0 V c t _ x) (fun x => (b1 V c t x _).trans (congrArg (V c main_v5) (congrArg (ix2 x) (Fin.ext (by show (t.val % 2) * 1024 + d.val = 0 + (t.val % 2 * 1024 + d.val); omega))))))

end R5

/-! The keys and values of the second attention. -/

namespace R6

theorem idx : ∀ t : Fin cfg6.N, win6_0.index t = ![t.val / 4, 0]
    ∧ win6_1.index t = ![0, (2 + t.val % 4)]
    ∧ win6_2.index t = ![t.val / 4, t.val % 4]
    ∧ win6_3.index t = ![t.val / 4, t.val % 4] :=
  (by decide +kernel : ∀ t : Fin grid6.N, _)

theorem pt (t : Fin cfg6.N) : t.val < 4 := lt_of_lt_of_eq t.isLt N_6

theorem b0 (t : Fin cfg6.N) (a : Fin 128) (d : Fin 4096) : iblk6 V c 0 t (ix2 a d) = V c main_v10 (ix2 ⟨t.val / 4 * 128 + a, by have := pt t; omega⟩ d) := by
  blk_point [iblk6, idx t]

theorem b1 (t : Fin cfg6.N) (a : Fin 4096) (d : Fin 1024) : iblk6 V c 1 t (ix2 a d) = V c main_v5 (ix2 a ⟨(2 + t.val % 4) * 1024 + d, by have := pt t; omega⟩) := by
  blk_point [iblk6, idx t]

theorem pay2 (x0 : Vec Ideal S128x4096 .bf16) (x1 : Vec Ideal S4096x1024 .bf16) (r : Fin 128) (d : Fin 1024) :
    k6_pay1 x0 x1 (ix2 r d) = mm x0 x1 r d := by
  unfold k6_pay1
  pointwise [mm]

/-- The array it leaves. -/
def G2 : M 128 4096 := fun i => mm (V c main_v10) (V c main_v5) (i 0) ⟨2048 + (i 1).val, by have : (i 1).val < 4096 := (i 1).isLt; omega⟩

theorem arr2 : (dat6 V c).arrAt 2 cfg6.N = G2 V c := by
  refine (dat6 V c).arrAt_eq_of_covers 2 _ (by decide +kernel) fun t _ y => ?_
  blk_simp
  rw [after6_2]
  unfold out6_2
  canon_tiles x h
  obtain ⟨r, d, rfl⟩ : ∃ (r : Fin 128) (d : Fin 1024), x = ix2 r d := ⟨x 0, x 1, eq_ix2 x⟩
  have e : (win6_2.blk t).view.emb y = ix2 ⟨t.val / 4 * 128 + r, by have := pt t; omega⟩ ⟨t.val % 4 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v5) (congrArg (ix2 x) (Fin.ext (by show (2 + t.val % 4) * 1024 + d.val = 2048 + (t.val % 4 * 1024 + d.val); omega)))))

theorem pay3 (x0 : Vec Ideal S128x4096 .bf16) (x1 : Vec Ideal S4096x1024 .bf16) (r : Fin 128) (d : Fin 1024) :
    k6_pay2 x0 x1 (ix2 r d) = mm x0 x1 r d := by
  unfold k6_pay2 k6_pay1
  pointwise [mm]

/-- The array it leaves. -/
def G3 : M 128 4096 := fun i => mm (V c main_v10) (V c main_v5) (i 0) ⟨2048 + (i 1).val, by have : (i 1).val < 4096 := (i 1).isLt; omega⟩

theorem arr3 : (dat6 V c).arrAt 3 cfg6.N = G3 V c := by
  refine (dat6 V c).arrAt_eq_of_covers 3 _ (by decide +kernel) fun t _ y => ?_
  blk_simp
  rw [after6_3]
  unfold out6_3
  canon_tiles x h
  obtain ⟨r, d, rfl⟩ : ∃ (r : Fin 128) (d : Fin 1024), x = ix2 r d := ⟨x 0, x 1, eq_ix2 x⟩
  have e : (win6_3.blk t).view.emb y = ix2 ⟨t.val / 4 * 128 + r, by have := pt t; omega⟩ ⟨t.val % 4 * 1024 + d, by have := pt t; omega⟩ := by
    blk_ext [idx t, h0, h1]
  rw [e, ld_all, ld_all]
  refine (pay3 _ _ r d).trans ?_
  exact mm_congr (fun x => b0 V c t _ x) (fun x => (b1 V c t x _).trans (congrArg (V c main_v5) (congrArg (ix2 x) (Fin.ext (by show (2 + t.val % 4) * 1024 + d.val = 2048 + (t.val % 4 * 1024 + d.val); omega)))))

end R6

/-! The gates of the second attention. -/

namespace R7

theorem idx : ∀ t : Fin cfg7.N, win7_0.index t = ![t.val / 2, 0]
    ∧ win7_1.index t = ![0, (6 + t.val % 2)]
    ∧ win7_2.index t = ![t.val / 2, t.val % 2] :=
  (by decide +kernel : ∀ t : Fin grid7.N, _)

theorem pt (t : Fin cfg7.N) : t.val < 2 := lt_of_lt_of_eq t.isLt N_7

theorem b0 (t : Fin cfg7.N) (a : Fin 128) (d : Fin 4096) : iblk7 V c 0 t (ix2 a d) = V c main_v10 (ix2 ⟨t.val / 2 * 128 + a, by have := pt t; omega⟩ d) := by
  blk_point [iblk7, idx t]

theorem b1 (t : Fin cfg7.N) (a : Fin 4096) (d : Fin 1024) : iblk7 V c 1 t (ix2 a d) = V c main_v5 (ix2 a ⟨(6 + t.val % 2) * 1024 + d, by have := pt t; omega⟩) := by
  blk_point [iblk7, idx t]

theorem pay2 (x0 : Vec Ideal S128x4096 .bf16) (x1 : Vec Ideal S4096x1024 .bf16) (r : Fin 128) (d : Fin 1024) :
    k7_pay1 x0 x1 (ix2 r d) = mm x0 x1 r d := by
  unfold k7_pay1
  pointwise [mm]

/-- The array it leaves. -/
def G2 : M 128 2048 := fun i => mm (V c main_v10) (V c main_v5) (i 0) ⟨6144 + (i 1).val, by have : (i 1).val < 2048 := (i 1).isLt; omega⟩

theorem arr2 : (dat7 V c).arrAt 2 cfg7.N = G2 V c := by
  refine (dat7 V c).arrAt_eq_of_covers 2 _ (by decide +kernel) fun t _ y => ?_
  blk_simp
  rw [after7_2]
  unfold out7_2
  canon_tiles x h
  obtain ⟨r, d, rfl⟩ : ∃ (r : Fin 128) (d : Fin 1024), x = ix2 r d := ⟨x 0, x 1, eq_ix2 x⟩
  have e : (win7_2.blk t).view.emb y = ix2 ⟨t.val / 2 * 128 + r, by have := pt t; omega⟩ ⟨t.val % 2 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v5) (congrArg (ix2 x) (Fin.ext (by show (6 + t.val % 2) * 1024 + d.val = 6144 + (t.val % 2 * 1024 + d.val); omega)))))

end R7

/-! The norm of the indexer keys. -/

namespace R8

theorem idx : ∀ t : Fin cfg8.N, win8_0.index t = ![t.val, 8]
    ∧ win8_1.index t = ![0, 0]
    ∧ win8_2.index t = ![t.val, 0] :=
  (by decide +kernel : ∀ t : Fin grid8.N, _)

theorem pt (t : Fin cfg8.N) : t.val < 1 := lt_of_lt_of_eq t.isLt N_8

theorem b0' (t : Fin cfg8.N) (a : Fin 128) (d : Fin 128) : iblk8 V c 0 t (ix2 a d) = V c main_v14_0 (ix2 ⟨t.val * 128 + a, by have := pt t; omega⟩ ⟨8 * 128 + d, by have := pt t; omega⟩) := by
  blk_point [iblk8, idx t]

/-- The first half of the block's columns is what the kernel reads. -/
theorem b0 (t : Fin cfg8.N) (a : Fin 128) (d : Fin 64) : View.ld (iblk8 V c 0 t) r8_0 (ix2 a d) = V c main_v14_0 (ix2 ⟨t.val * 128 + a, by have := pt t; omega⟩ ⟨1024 + d, by omega⟩) := by
  refine Eq.trans ?_ (b0' V c t a ⟨d.val, by omega⟩)
  unfold View.ld r8_0
  exact congrArg (iblk8 V c 0 t) (funext fun z => Fin.ext (by match z with | ⟨0, _⟩ => simp | ⟨1, _⟩ => simp))

theorem b1 (t : Fin cfg8.N) (d : Fin 64) : iblk8 V c 1 t (ix2 0 d) = V c main_v18 (ix2 0 d) := by
  blk_point [iblk8, idx t]

theorem pay2 (x0 : Vec Ideal S128x64 .f32) (x1 : Vec Ideal S1x64 .f32) (r : Fin 128) (d : Fin 64) :
    k8_pay1 x0 x1 (ix2 r d) = rms (Ideal.ofBits .f32 0x42800000#32) x0 x1 r d := by
  unfold k8_pay1
  pointwise [rms]

/-- The array it leaves. -/
def G2 : M 128 64 := fun i => rms (Ideal.ofBits .f32 0x42800000#32) (fun j : (⟨2, ![128, 64]⟩ : Shape).Idx => V c main_v14_0 (ix2 (j 0) ⟨1024 + (j 1).val, by have : (j 1).val < 64 := (j 1).isLt; omega⟩)) (V c main_v18) (i 0) (i 1)

theorem arr2 : (dat8 V c).arrAt 2 cfg8.N = G2 V c := by
  refine (dat8 V c).arrAt_eq_of_covers 2 _ (by decide +kernel) fun t _ y => ?_
  blk_simp
  rw [after8_2]
  unfold out8_2
  canon_tiles x h
  obtain ⟨r, d, rfl⟩ : ∃ (r : Fin 128) (d : Fin 64), x = ix2 r d := ⟨x 0, x 1, eq_ix2 x⟩
  have e : (win8_2.blk t).view.emb y = ix2 ⟨t.val * 128 + r, by have := pt t; omega⟩ d := by
    blk_ext [idx t, h0, h1]
  rw [e, ld_all]
  refine (pay2 _ _ r d).trans ?_
  exact rms_congr (fun x => b0 V c t _ x) (b1 V c t _)

end R8

end Cert.SEven

end
-- ==== Proof.SEvenRun.lean ====
module

public import proofs.«01_k».proof.Proof.Gen.SampleEvenIdeal.Frame

/-! The run, with every array it leaves: the launch of the regions in order, read at the end. -/

@[expose] public section

set_option maxRecDepth 16384

noncomputable section

namespace Cert.SEven

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SampleEvenIdeal Cert.SampleEvenIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates with each of its arrays as the last segment leaves it. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W13 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h _ c b hb => h c _ (mem_uc b hb))

end Cert.SEven

end
-- ==== Proof.SEvenRef.lean ====
module

public import proofs.«01_k».proof.Proof.Mat
public import proofs.«01_k».proof.Proof.Soft
public import proofs.«01_k».proof.Proof.Gen.SampleEvenReferenceIdeal.Run

/-! For the sample: the reference of the even layer's projections, entry by entry. -/

@[expose] public section

set_option maxRecDepth 16384

noncomputable section

namespace Cert.SEven

open Idealize.ShloMosaic Idealize.ShloMosaic.TcCoe Idealize.SL.Sem
open Cert.Mat
open Cert.SampleEvenReferenceIdeal Cert.SampleEvenReferenceIdeal.Gen

theorem scN (A : FVec Ideal S8x16x17488 .f32) (b : Fin 8) (t : Fin 16) (d : Fin 17488) :
    shapeCast S128x17488 A shapeCasts_S8x16x17488_S128x17488 (ix2 ⟨b * 16 + t, by omega⟩ d) = A (ix3 b t d) := by
  pointwise
theorem dot3 (a : FVec Ideal S8x16x4096 .f32) (w : FVec Ideal S4096x17488 .f32) (b : Fin 8) (t : Fin 16) (d : Fin 17488) :
    Host.dotGeneral (F := Ideal) (φ₁ := .f32) (φ₂ := .f32) dot_S8x16x4096_S4096x17488_S8x16x17488_2_0_01_1_n_n none a w (ix3 b t d) = ∑ k : Fin 4096, a (ix3 b t k) * w (ix2 k d) := by
  pointwise
theorem hrms64 (X : FVec Ideal S128x64 .f32) (g : FVec Ideal S64 .f32) (r : Fin 128) (d : Fin 64) :
    mulf (mulf X (broadcastInDim S128x64 ![0, 1] bcast_S128x1_S128x64_0_1 (Host.rsqrt (addf (Host.divf (broadcastInDim S128x1 ![0] bcast_S128_S128x1_0 (Host.reduceAdd (mulf X X) (constant S_ .f32 0x00000000#32) reducesTo_S128x64_S128_d1 h_S_)) (broadcastInDim S128x1 ![] bcast_S_S128x1 (constant S_ .f32 0x42800000#32))) (broadcastInDim S128x1 ![] bcast_S_S128x1 (constant S_ .f32 0x358637BD#32)))))) (broadcastInDim S128x64 ![0, 1] bcast_S1x64_S128x64_0_1 (broadcastInDim S1x64 ![1] bcast_S64_S1x64_1 g)) (ix2 r d)
      = rms (Ideal.ofBits .f32 0x42800000#32) X (fun j => g (ix1 (j 1))) r d := by
  pointwise [rms]
/-- The index columns: queries, keys, weights and a filling of zeros. -/
theorem ixcat (D : FVec Ideal S128x17488 .f32) (r : Fin 128) (d : Fin 1152) :
    concatenate S128x1152 1 [⟨S128x1024, extractStridedSlice S128x1024 ![0, 8192] D slices_S128x17488_S128x1024_0_8192⟩, ⟨S128x64, extractStridedSlice S128x64 ![0, 9216] D slices_S128x17488_S128x64_0_9216⟩, ⟨S128x16, extractStridedSlice S128x16 ![0, 9280] D slices_S128x17488_S128x16_0_9280⟩, ⟨S128x48, broadcastInDim S128x48 ![] bcast_S_S128x48 (constant (F := Ideal) S_ .f32 0x00000000#32)⟩] concatenates_S128x1024_S128x64_S128x16_S128x48_S128x1152_d1 (ix2 r d)
      = if h : d.val < 1104 then D (ix2 r ⟨8192 + d, by omega⟩) else 0 := by
  refine Eq.trans (b := if h : d.val < 1024 then D (ix2 r ⟨8192 + d, by omega⟩) else if h : d.val - 1024 < 64 then D (ix2 r ⟨9216 + (d.val - 1024), by omega⟩)
    else if h : d.val - 1024 - 64 < 16 then D (ix2 r ⟨9280 + (d.val - 1024 - 64), by omega⟩) else 0) (by pointwise) ?_
  split_ifs <;> first
    | rfl
    | (exfalso; omega)
    | exact congrArg D (congrArg (ix2 r) (Fin.ext (by show 9216 + (d.val - 1024) = 8192 + d.val; omega)))
    | exact congrArg D (congrArg (ix2 r) (Fin.ext (by show 9280 + (d.val - 1024 - 64) = 8192 + d.val; omega)))

/-- The reference's normed rows. -/
def RN (a0 : FVec Ideal S8x16x4096 .f32) (g : FVec Ideal S4096 .f32) : FVec Ideal S8x16x4096 .f32 :=
  mulf (mulf a0 (broadcastInDim S8x16x4096 ![0, 1, 2] bcast_S8x16x1_S8x16x4096_0_1_2 (Host.rsqrt (addf (Host.divf (broadcastInDim S8x16x1 ![0, 1] bcast_S8x16_S8x16x1_0_1 (Host.reduceAdd (mulf a0 a0) (constant S_ .f32 0x00000000#32) reducesTo_S8x16x4096_S8x16_d2 h_S_)) (broadcastInDim S8x16x1 ![] bcast_S_S8x16x1 (constant S_ .f32 0x45800000#32))) (broadcastInDim S8x16x1 ![] bcast_S_S8x16x1 (constant S_ .f32 0x358637BD#32)))))) (broadcastInDim S8x16x4096 ![0, 1, 2] bcast_S1x1x4096_S8x16x4096_0_1_2 (broadcastInDim S1x1x4096 ![2] bcast_S4096_S1x1x4096_2 g))

/-- The reference's whole projection. -/
def RD (a0 : FVec Ideal S8x16x4096 .f32) (a1 : FVec Ideal S1x4096 .f32) (a2 : FVec Ideal S1x4096x17488 .f32) : FVec Ideal S128x17488 .f32 :=
  shapeCast _ (Host.dotGeneral dot_S8x16x4096_S4096x17488_S8x16x17488_2_0_01_1_n_n none (RN a0 (shapeCast _ a1 shapeCasts_S1x4096_S4096)) (shapeCast _ a2 shapeCasts_S1x4096x17488_S4096x17488)) shapeCasts_S8x16x17488_S128x17488

theorem rn (a0 : FVec Ideal S8x16x4096 .f32) (g : FVec Ideal S4096 .f32) (X : M 128 4096) (r : Fin 128) (b : Fin 8) (t : Fin 16)
    (hX : ∀ k : Fin 4096, a0 (ix3 b t k) = X (ix2 r k)) (k : Fin 4096) :
    RN a0 g (ix3 b t k) = rms (Ideal.ofBits .f32 0x45800000#32) X (fun j => g (ix1 (j 1))) r k := by
  refine Eq.trans (b := a0 (ix3 b t k) * Ideal.rsqrt (Ideal.div (∑ x : Fin 4096, a0 (ix3 b t x) * a0 (ix3 b t x)) (Ideal.ofBits .f32 0x45800000#32) + Ideal.ofBits .f32 0x358637BD#32) * g (ix1 k)) ?_ ?_
  · unfold RN
    pointwise
  · unfold rms
    simp only [hX]
    rfl

/-- Two slices side by side are one slice. -/
theorem slice12a (D : FVec Ideal S128x17488 .f32) (r : Fin 128) (d : Fin 4096) :
    concatenate S128x4096 1 [⟨S128x2048, extractStridedSlice S128x2048 ![0, 2048] D slices_S128x17488_S128x2048_0_2048⟩, ⟨S128x2048, extractStridedSlice S128x2048 ![0, 4096] D slices_S128x17488_S128x2048_0_4096⟩] concatenates_S128x2048_S128x2048_S128x4096_d1 (ix2 r d) = D (ix2 r ⟨2048 + d, by omega⟩) := by
  refine Eq.trans (b := if h : d.val < 2048 then D (ix2 r ⟨2048 + d, by omega⟩) else D (ix2 r ⟨4096 + (d.val - 2048), by omega⟩)) (by pointwise) ?_
  split_ifs
  · rfl
  · exact congrArg D (congrArg (ix2 r) (Fin.ext (by show 4096 + (d.val - 2048) = 2048 + d.val; omega)))
/-- Two slices side by side are one slice. -/
theorem slice12b (D : FVec Ideal S128x17488 .f32) (r : Fin 128) (d : Fin 4096) :
    concatenate S128x4096 1 [⟨S128x2048, extractStridedSlice S128x2048 ![0, 11344] D slices_S128x17488_S128x2048_0_11344⟩, ⟨S128x2048, extractStridedSlice S128x2048 ![0, 13392] D slices_S128x17488_S128x2048_0_13392⟩] concatenates_S128x2048_S128x2048_S128x4096_d1 (ix2 r d) = D (ix2 r ⟨11344 + d, by omega⟩) := by
  refine Eq.trans (b := if h : d.val < 2048 then D (ix2 r ⟨11344 + d, by omega⟩) else D (ix2 r ⟨13392 + (d.val - 2048), by omega⟩)) (by pointwise) ?_
  split_ifs
  · rfl
  · exact congrArg D (congrArg (ix2 r) (Fin.ext (by show 13392 + (d.val - 2048) = 11344 + d.val; omega)))

theorem s0 (D : FVec Ideal S128x17488 .f32) (r : Fin 128) (d : Fin 2048) :
    extractStridedSlice S128x2048 ![0, 0] D slices_S128x17488_S128x2048_0_0 (ix2 r d) = D (ix2 r ⟨0 + d, by omega⟩) := by
  pointwise
theorem s3 (D : FVec Ideal S128x17488 .f32) (r : Fin 128) (d : Fin 2048) :
    extractStridedSlice S128x2048 ![0, 6144] D slices_S128x17488_S128x2048_0_6144 (ix2 r d) = D (ix2 r ⟨6144 + d, by omega⟩) := by
  pointwise
theorem s5 (D : FVec Ideal S128x17488 .f32) (r : Fin 128) (d : Fin 64) :
    extractStridedSlice S128x64 ![0, 9216] D slices_S128x17488_S128x64_0_9216 (ix2 r d) = D (ix2 r ⟨9216 + d, by omega⟩) := by
  pointwise
theorem s7 (D : FVec Ideal S128x17488 .f32) (r : Fin 128) (d : Fin 2048) :
    extractStridedSlice S128x2048 ![0, 9296] D slices_S128x17488_S128x2048_0_9296 (ix2 r d) = D (ix2 r ⟨9296 + d, by omega⟩) := by
  pointwise
theorem s10 (D : FVec Ideal S128x17488 .f32) (r : Fin 128) (d : Fin 2048) :
    extractStridedSlice S128x2048 ![0, 15440] D slices_S128x17488_S128x2048_0_15440 (ix2 r d) = D (ix2 r ⟨15440 + d, by omega⟩) := by
  pointwise

theorem hscale (x : FVec Ideal S128x2048 .f32) (i : S128x2048.Idx) :
    truncf .bf16 (Host.divf x (broadcastInDim S128x2048 ![] bcast_S_S128x2048 (mulf (Host.sqrt (constant S_ .f32 0x43000000#32)) (Host.log (constant S_ .f32 0x40000000#32))))) bitsLt_bf16_f32 i
      = Ideal.div (x i) (Ideal.sqrt (Ideal.ofBits .f32 0x43000000#32) * Ideal.log (Ideal.ofBits .f32 0x40000000#32)) := by
  pointwise

end Cert.SEven

end
-- ==== Proof.SEvenEq.lean ====
module

public import proofs.«01_k».proof.Proof.SEvenVal
public import proofs.«01_k».proof.Proof.SEvenRun
public import proofs.«01_k».proof.Proof.SEvenRef

/-! For the sample: the even layer's projections: what the regions leave, as functions of the arguments. -/

@[expose] public section

set_option maxRecDepth 16384

noncomputable section

namespace Cert.SEven

open Idealize.ShloMosaic Idealize.ShloMosaic.TcCoe Idealize.SL.Sem
open Cert.Mat
open Cert.SampleEvenIdeal Cert.SampleEvenIdeal.Gen

/-- The named factor of the queries. -/
theorem factor : (Named.named (F := Ideal) κ "q_scale" (φ := .f32) 0x3E0293EE#32 : EReal) = ((((Real.sqrt 128) * (Real.log 2))⁻¹ : ℝ) : EReal) :=
  IdealRules.named_const.ideal_named_scalar _ _ _ _ rfl

/-- The reference divides the queries by what the kernel multiplies them by the inverse of. -/
theorem scale (x : EReal) : Ideal.div x (Ideal.sqrt (Ideal.ofBits .f32 0x43000000#32) * Ideal.log (Ideal.ofBits .f32 0x40000000#32))
    = x * (Named.named (F := Ideal) κ "q_scale" (φ := .f32) 0x3E0293EE#32 : EReal) := by
  have hl : Real.log 2 ≠ 0 := (Real.log_pos (by norm_num)).ne'
  have hs : Real.sqrt 128 ≠ 0 := (Real.sqrt_pos.mpr (by norm_num)).ne'
  rw [factor]
  refine (congrArg₂ (fun a b => Ideal.div x (a * b)) Band.Soft.sqrt_width Band.Soft.log_two).trans ?_
  show Ideal.div x (((Real.sqrt 128 : ℝ) : EReal) * ((Real.log 2 : ℝ) : EReal)) = _
  rw [← EReal.coe_mul, Ideal.div_coe (mul_ne_zero hs hl), one_div]

/-- Columns of a matrix from one on. -/
def cols {n : ℕ} (o w : ℕ) (h : o + w ≤ n) (D : M 128 n) : M 128 w := fun i => D (ix2 (i 0) ⟨o + (i 1).val, by have : (i 1).val < w := (i 1).isLt; omega⟩)

/-- The index columns, filled up with zeros. -/
def ixs (D : M 128 17488) : M 128 1152 := fun i => if h : (i 1).val < 1104 then D (ix2 (i 0) ⟨8192 + (i 1).val, by omega⟩) else 0

variable (m : (ℓ : Loc nD τ sig) → Buf (Elt Ideal) ℓ) (ρ : Dev nD → PrngReg) (c : Dev nD)

/-- The rows. -/
def X : M 128 4096 := (shapeCast S128x4096 (m (c.tc.loc main_arg0)) shapeCasts_S8x16x4096_S128x4096 : FVec Ideal S128x4096 .f32)
/-- The weight. -/
def W : M 4096 17488 := (shapeCast S4096x17488 (m (c.tc.loc main_arg2)) shapeCasts_S1x4096x17488_S4096x17488 : FVec Ideal S4096x17488 .f32)
/-- The normed rows. -/
def N : M 128 4096 := fun i => rms (Ideal.ofBits .f32 0x45800000#32) (X m c) (fun j => (shapeCast S4096 (m (c.tc.loc main_arg1)) shapeCasts_S1x4096_S4096 : FVec Ideal S4096 .f32) (ix1 (j 1))) (i 0) (i 1)
/-- The whole projection. -/
def D : M 128 17488 := fun i => mm (N m c) (W m c) (i 0) (i 1)
/-- The normed index keys. -/
def K : M 128 64 := fun i => rms (Ideal.ofBits .f32 0x42800000#32) (cols 9216 64 (by omega) (D m c)) (fun j => (shapeCast S64 (m (c.tc.loc main_arg3)) shapeCasts_S1x64_S64 : FVec Ideal S64 .f32) (ix1 (j 1))) (i 0) (i 1)

theorem row (g : FVec Ideal S4096 .f32) (k : Fin 4096) : shapeCast S1x4096 g shapeCasts_S4096_S1x4096 (ix2 0 k) = g (ix1 k) := by
  pointwise
theorem row' (g : FVec Ideal S64 .f32) (k : Fin 64) : shapeCast S1x64 g shapeCasts_S64_S1x64 (ix2 0 k) = g (ix1 k) := by
  pointwise
theorem sa (w : FVec Ideal S4096x17488 .bf16) (x : Fin 4096) (d : Fin 8192) : extractStridedSlice S4096x8192 ![0, 0] w slices_S4096x17488_S4096x8192_0_0 (ix2 x d) = w (ix2 x ⟨d, by omega⟩) := by
  pointwise
theorem sb (w : FVec Ideal S4096x17488 .bf16) (x : Fin 4096) (d : Fin 8192) : extractStridedSlice S4096x8192 ![0, 9296] w slices_S4096x17488_S4096x8192_0_9296 (ix2 x d) = w (ix2 x ⟨9296 + d, by omega⟩) := by
  pointwise
theorem si (w : FVec Ideal S4096x17488 .bf16) (x : Fin 4096) (d : Fin 1152) :
    pad S4096x1152 ![0, 0] ![0, 48] ![0, 0] (extractStridedSlice S4096x1104 ![0, 8192] w slices_S4096x17488_S4096x1104_0_8192) (sitofp (F := Ideal) .bf16 (constantI S_ 32 0#32)) pads_S4096x1104_S4096x1152_000_0480 h_S_ (ix2 x d)
      = if h : d.val < 1104 then w (ix2 x ⟨8192 + d, by omega⟩) else 0 := by
  refine Eq.trans (b := if h : d.val < 1104 then w (ix2 x ⟨8192 + d, by omega⟩) else FloatOps.sitofp (F := Ideal) .bf16 0#32) (by pointwise) ?_
  split_ifs
  · rfl
  · show (((0#32 : BitVec 32).toInt : ℝ) : EReal) = 0
    simp

theorem v8 : V3 m ρ c main_v8 = X m c := by
  refine Eq.trans (b := shapeCast S128x4096 (W2 m ρ c (Proc.devRef .tc main_arg0)) shapeCasts_S8x16x4096_S128x4096) ?_ ?_
  · show StableHlo.after hostOps0_2 (W2 m ρ c) main_v8 = _
    after_results <;> rfl
  · rw [W2_args m ρ c main_arg0 (by decide)]; rfl
theorem v0 : W2 m ρ c (Proc.devRef .tc main_v0) = shapeCast S4096 (m (c.tc.loc main_arg1)) shapeCasts_S1x4096_S4096 := by
  refine (W2_of m ρ c main_v0 (by decide)).trans ?_
  show StableHlo.after hostOps0 (W0 m ρ c) main_v0 = _
  after_results <;> rfl
theorem v9 (k : Fin 4096) : V3 m ρ c main_v9 (ix2 0 k) = (shapeCast S4096 (m (c.tc.loc main_arg1)) shapeCasts_S1x4096_S4096 : FVec Ideal S4096 .f32) (ix1 k) := by
  have e : V3 m ρ c main_v9 = shapeCast S1x4096 (shapeCast S4096 (m (c.tc.loc main_arg1)) shapeCasts_S1x4096_S4096 : FVec Ideal S4096 .f32) shapeCasts_S4096_S1x4096 := by
    refine Eq.trans (b := shapeCast S1x4096 (W2 m ρ c (Proc.devRef .tc main_v0) : FVec Ideal S4096 .f32) shapeCasts_S4096_S1x4096) ?_ ?_
    · show StableHlo.after hostOps0_2 (W2 m ρ c) main_v9 = _
      after_results <;> rfl
    · rw [v0]
  rw [e]
  exact row _ k
theorem v4 : V3 m ρ c main_v4 = extractStridedSlice S4096x8192 ![0, 0] (W m c : FVec Ideal S4096x17488 .bf16) slices_S4096x17488_S4096x8192_0_0 := by
  refine (W3_of m ρ c main_v4 (by decide)).trans ((W2_of m ρ c main_v4 (by decide)).trans ?_)
  show StableHlo.after hostOps0 (W0 m ρ c) main_v4 = _
  after_results <;> rfl
theorem v5 : V3 m ρ c main_v5 = extractStridedSlice S4096x8192 ![0, 9296] (W m c : FVec Ideal S4096x17488 .bf16) slices_S4096x17488_S4096x8192_0_9296 := by
  refine (W3_of m ρ c main_v5 (by decide)).trans ((W2_of m ρ c main_v5 (by decide)).trans ?_)
  show StableHlo.after hostOps0 (W0 m ρ c) main_v5 = _
  after_results <;> rfl
theorem v6 : W1 m ρ c (Proc.devRef .tc main_v6) = extractStridedSlice S4096x1104 ![0, 8192] (W m c : FVec Ideal S4096x17488 .bf16) slices_S4096x17488_S4096x1104_0_8192 := by
  show StableHlo.after hostOps0 (W0 m ρ c) main_v6 = _
  after_results <;> rfl
theorem vc : W1 m ρ c (Proc.devRef .tc main_c) = constantI S_ 32 0#32 := by
  show StableHlo.after hostOps0 (W0 m ρ c) main_c = _
  after_results <;> rfl
theorem v7 : V3 m ρ c main_v7 = pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ := by
  refine (W3_of m ρ c main_v7 (by decide)).trans ?_
  refine Eq.trans (b := pad S4096x1152 ![0, 0] ![0, 48] ![0, 0] (W1 m ρ c (Proc.devRef .tc main_v6) : FVec Ideal S4096x1104 .bf16) (sitofp (F := Ideal) .bf16 (W1 m ρ c (Proc.devRef .tc main_c) : IVec S_ 32)) pads_S4096x1104_S4096x1152_000_0480 h_S_) ?_ ?_
  · show StableHlo.after hostOps0_1 (W1 m ρ c) main_v7 = _
    after_results <;> rfl
  · rw [v6, vc]

theorem n4 : V4 m ρ c main_v10 = N m c := by
  refine (W4_arr m ρ c 2).trans ((R0.arr2 _ c).trans ?_)
  unfold R0.G2 N
  exact funext fun i => rms_congr (fun k => congrFun (v8 m ρ c) _) (v9 m ρ c _)
theorem n5 : V5 m ρ c main_v10 = N m c := (W5_of m ρ c main_v10 (by decide)).trans (n4 m ρ c)
theorem n6 : V6 m ρ c main_v10 = N m c := (W6_of m ρ c main_v10 (by decide)).trans (n5 m ρ c)
theorem n7 : V7 m ρ c main_v10 = N m c := (W7_of m ρ c main_v10 (by decide)).trans (n6 m ρ c)
theorem n8 : V8 m ρ c main_v10 = N m c := (W8_of m ρ c main_v10 (by decide)).trans (n7 m ρ c)
theorem n9 : V9 m ρ c main_v10 = N m c := (W9_of m ρ c main_v10 (by decide)).trans (n8 m ρ c)
theorem n10 : V10 m ρ c main_v10 = N m c := (W10_of m ρ c main_v10 (by decide)).trans (n9 m ρ c)
theorem a4 : V4 m ρ c main_v4 = extractStridedSlice S4096x8192 ![0, 0] (W m c : FVec Ideal S4096x17488 .bf16) slices_S4096x17488_S4096x8192_0_0 := (W4_of m ρ c main_v4 (by decide)).trans (v4 m ρ c)
theorem a5 : V5 m ρ c main_v4 = extractStridedSlice S4096x8192 ![0, 0] (W m c : FVec Ideal S4096x17488 .bf16) slices_S4096x17488_S4096x8192_0_0 := (W5_of m ρ c main_v4 (by decide)).trans (a4 m ρ c)
theorem a6 : V6 m ρ c main_v4 = extractStridedSlice S4096x8192 ![0, 0] (W m c : FVec Ideal S4096x17488 .bf16) slices_S4096x17488_S4096x8192_0_0 := (W6_of m ρ c main_v4 (by decide)).trans (a5 m ρ c)
theorem b4 : V4 m ρ c main_v5 = extractStridedSlice S4096x8192 ![0, 9296] (W m c : FVec Ideal S4096x17488 .bf16) slices_S4096x17488_S4096x8192_0_9296 := (W4_of m ρ c main_v5 (by decide)).trans (v5 m ρ c)
theorem b5 : V5 m ρ c main_v5 = extractStridedSlice S4096x8192 ![0, 9296] (W m c : FVec Ideal S4096x17488 .bf16) slices_S4096x17488_S4096x8192_0_9296 := (W5_of m ρ c main_v5 (by decide)).trans (b4 m ρ c)
theorem b6 : V6 m ρ c main_v5 = extractStridedSlice S4096x8192 ![0, 9296] (W m c : FVec Ideal S4096x17488 .bf16) slices_S4096x17488_S4096x8192_0_9296 := (W6_of m ρ c main_v5 (by decide)).trans (b5 m ρ c)
theorem b7 : V7 m ρ c main_v5 = extractStridedSlice S4096x8192 ![0, 9296] (W m c : FVec Ideal S4096x17488 .bf16) slices_S4096x17488_S4096x8192_0_9296 := (W7_of m ρ c main_v5 (by decide)).trans (b6 m ρ c)
theorem b8 : V8 m ρ c main_v5 = extractStridedSlice S4096x8192 ![0, 9296] (W m c : FVec Ideal S4096x17488 .bf16) slices_S4096x17488_S4096x8192_0_9296 := (W8_of m ρ c main_v5 (by decide)).trans (b7 m ρ c)
theorem b9 : V9 m ρ c main_v5 = extractStridedSlice S4096x8192 ![0, 9296] (W m c : FVec Ideal S4096x17488 .bf16) slices_S4096x17488_S4096x8192_0_9296 := (W9_of m ρ c main_v5 (by decide)).trans (b8 m ρ c)
theorem b10 : V10 m ρ c main_v5 = extractStridedSlice S4096x8192 ![0, 9296] (W m c : FVec Ideal S4096x17488 .bf16) slices_S4096x17488_S4096x8192_0_9296 := (W10_of m ρ c main_v5 (by decide)).trans (b9 m ρ c)
theorem i4 : V4 m ρ c main_v7 = pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ := (W4_of m ρ c main_v7 (by decide)).trans (v7 m ρ c)
theorem i5 : V5 m ρ c main_v7 = pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ := (W5_of m ρ c main_v7 (by decide)).trans (i4 m ρ c)
theorem i6 : V6 m ρ c main_v7 = pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ := (W6_of m ρ c main_v7 (by decide)).trans (i5 m ρ c)
theorem i7 : V7 m ρ c main_v7 = pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ := (W7_of m ρ c main_v7 (by decide)).trans (i6 m ρ c)

/-- The projection by the first columns of the weight, read further on. -/
theorem mmA (o w : ℕ) (h : o + w ≤ 8192) (i : (⟨2, ![128, w]⟩ : Shape).Idx) (hk : o + (i 1).val < 8192) :
    mm (N m c) (extractStridedSlice S4096x8192 ![0, 0] (W m c : FVec Ideal S4096x17488 .bf16) slices_S4096x17488_S4096x8192_0_0) (i 0) ⟨o + (i 1).val, hk⟩
      = cols o w (by omega) (D m c) i := mm_congr (fun _ => rfl) (fun x => sa _ x _)
/-- The projection by the last columns of the weight, read further on. -/
theorem mmB (o w p : ℕ) (h : o + w ≤ 8192) (hp : p = 9296 + o) (i : (⟨2, ![128, w]⟩ : Shape).Idx) (hk : o + (i 1).val < 8192) :
    mm (N m c) (extractStridedSlice S4096x8192 ![0, 9296] (W m c : FVec Ideal S4096x17488 .bf16) slices_S4096x17488_S4096x8192_0_9296) (i 0) ⟨o + (i 1).val, hk⟩
      = cols p w (by omega) (D m c) i :=
  mm_congr (fun _ => rfl) (fun x => (sb _ x _).trans (congrArg (W m c) (congrArg (ix2 x) (Fin.ext (by show 9296 + (o + (i 1).val) = p + (i 1).val; omega)))))
/-- The projection by the index columns of the weight. -/
theorem mmI (i : (⟨2, ![128, 1152]⟩ : Shape).Idx) : mm (N m c) (pad S4096x1152 ![0, 0] ![0, 48] ![0, 0] (extractStridedSlice S4096x1104 ![0, 8192] (W m c : FVec Ideal S4096x17488 .bf16) slices_S4096x17488_S4096x1104_0_8192) (sitofp (F := Ideal) .bf16 (constantI S_ 32 0#32)) pads_S4096x1104_S4096x1152_000_0480 h_S_ : FVec Ideal S4096x1152 .bf16) (i 0) (i 1) = ixs (D m c) i := by
  refine Eq.trans (b := ∑ x : Fin 4096, N m c (ix2 (i 0) x) * (if h : (i 1).val < 1104 then W m c (ix2 x ⟨8192 + (i 1).val, by omega⟩) else 0)) ?_ ?_
  · exact Finset.sum_congr rfl fun x _ => congrArg (_ * ·) (si _ x (i 1))
  · unfold ixs
    by_cases h : (i 1).val < 1104
    · simp only [dif_pos h]
      rfl
    · simp only [dif_neg h, mul_zero, Finset.sum_const_zero]

theorem o_v11 : W13 m ρ c (Proc.devRef .tc main_v11) = fun i => cols 0 2048 (by omega) (D m c) i * (Named.named (F := Ideal) κ "q_scale" (φ := .f32) 0x3E0293EE#32 : EReal) := by
  refine (W13_of m ρ c main_v11 (by decide)).trans ((W12_of m ρ c main_v11 (by decide)).trans ((W11_of m ρ c main_v11 (by decide)).trans ((W10_of m ρ c main_v11 (by decide)).trans ((W9_of m ρ c main_v11 (by decide)).trans ((W8_of m ρ c main_v11 (by decide)).trans ((W7_of m ρ c main_v11 (by decide)).trans ((W6_of m ρ c main_v11 (by decide)).trans ((W5_arr m ρ c 2).trans ((R1.arr2 _ c).trans ?_)))))))))
  unfold R1.G2
  rw [n4, a4]
  exact funext fun i => congrArg (· * _) (mmA m c 0 2048 (by omega) i _)
theorem o_v12_0 : W13 m ρ c (Proc.devRef .tc main_v12_0) = cols 2048 4096 (by omega) (D m c) := by
  refine (W13_of m ρ c main_v12_0 (by decide)).trans ((W12_of m ρ c main_v12_0 (by decide)).trans ((W11_of m ρ c main_v12_0 (by decide)).trans ((W10_of m ρ c main_v12_0 (by decide)).trans ((W9_of m ρ c main_v12_0 (by decide)).trans ((W8_of m ρ c main_v12_0 (by decide)).trans ((W7_of m ρ c main_v12_0 (by decide)).trans ((W6_arr m ρ c 2).trans ((R2.arr2 _ c).trans ?_))))))))
  unfold R2.G2
  rw [n5, a5]
  exact funext fun i => mmA m c 2048 4096 (by omega) i _
theorem o_v12_1 : W13 m ρ c (Proc.devRef .tc main_v12_1) = cols 2048 4096 (by omega) (D m c) := by
  refine (W13_of m ρ c main_v12_1 (by decide)).trans ((W12_of m ρ c main_v12_1 (by decide)).trans ((W11_of m ρ c main_v12_1 (by decide)).trans ((W10_of m ρ c main_v12_1 (by decide)).trans ((W9_of m ρ c main_v12_1 (by decide)).trans ((W8_of m ρ c main_v12_1 (by decide)).trans ((W7_of m ρ c main_v12_1 (by decide)).trans ((W6_arr m ρ c 3).trans ((R2.arr3 _ c).trans ?_))))))))
  unfold R2.G3
  rw [n5, a5]
  exact funext fun i => mmA m c 2048 4096 (by omega) i _
theorem o_v13 : W13 m ρ c (Proc.devRef .tc main_v13) = cols 6144 2048 (by omega) (D m c) := by
  refine (W13_of m ρ c main_v13 (by decide)).trans ((W12_of m ρ c main_v13 (by decide)).trans ((W11_of m ρ c main_v13 (by decide)).trans ((W10_of m ρ c main_v13 (by decide)).trans ((W9_of m ρ c main_v13 (by decide)).trans ((W8_of m ρ c main_v13 (by decide)).trans ((W7_arr m ρ c 2).trans ((R3.arr2 _ c).trans ?_)))))))
  unfold R3.G2
  rw [n6, a6]
  exact funext fun i => mmA m c 6144 2048 (by omega) i _
theorem o_v14_0 : W13 m ρ c (Proc.devRef .tc main_v14_0) = ixs (D m c) := by
  refine (W13_of m ρ c main_v14_0 (by decide)).trans ((W12_of m ρ c main_v14_0 (by decide)).trans ((W11_of m ρ c main_v14_0 (by decide)).trans ((W10_of m ρ c main_v14_0 (by decide)).trans ((W9_of m ρ c main_v14_0 (by decide)).trans ((W8_arr m ρ c 2).trans ((R4.arr2 _ c).trans ?_))))))
  unfold R4.G2
  rw [n7, i7]
  exact funext fun i => mmI m c i
theorem o_v14_1 : W13 m ρ c (Proc.devRef .tc main_v14_1) = ixs (D m c) := by
  refine (W13_of m ρ c main_v14_1 (by decide)).trans ((W12_of m ρ c main_v14_1 (by decide)).trans ((W11_of m ρ c main_v14_1 (by decide)).trans ((W10_of m ρ c main_v14_1 (by decide)).trans ((W9_of m ρ c main_v14_1 (by decide)).trans ((W8_arr m ρ c 3).trans ((R4.arr3 _ c).trans ?_))))))
  unfold R4.G3
  rw [n7, i7]
  exact funext fun i => mmI m c i
theorem o_v15 : W13 m ρ c (Proc.devRef .tc main_v15) = fun i => cols 9296 2048 (by omega) (D m c) i * (Named.named (F := Ideal) κ "q_scale" (φ := .f32) 0x3E0293EE#32 : EReal) := by
  refine (W13_of m ρ c main_v15 (by decide)).trans ((W12_of m ρ c main_v15 (by decide)).trans ((W11_of m ρ c main_v15 (by decide)).trans ((W10_of m ρ c main_v15 (by decide)).trans ((W9_arr m ρ c 2).trans ((R5.arr2 _ c).trans ?_)))))
  unfold R5.G2
  rw [n8, b8]
  exact funext fun i => congrArg (· * _) (mmB m c 0 2048 9296 (by omega) (by omega) i _)
theorem o_v16_0 : W13 m ρ c (Proc.devRef .tc main_v16_0) = cols 11344 4096 (by omega) (D m c) := by
  refine (W13_of m ρ c main_v16_0 (by decide)).trans ((W12_of m ρ c main_v16_0 (by decide)).trans ((W11_of m ρ c main_v16_0 (by decide)).trans ((W10_arr m ρ c 2).trans ((R6.arr2 _ c).trans ?_))))
  unfold R6.G2
  rw [n9, b9]
  exact funext fun i => mmB m c 2048 4096 11344 (by omega) (by omega) i _
theorem o_v16_1 : W13 m ρ c (Proc.devRef .tc main_v16_1) = cols 11344 4096 (by omega) (D m c) := by
  refine (W13_of m ρ c main_v16_1 (by decide)).trans ((W12_of m ρ c main_v16_1 (by decide)).trans ((W11_of m ρ c main_v16_1 (by decide)).trans ((W10_arr m ρ c 3).trans ((R6.arr3 _ c).trans ?_))))
  unfold R6.G3
  rw [n9, b9]
  exact funext fun i => mmB m c 2048 4096 11344 (by omega) (by omega) i _
theorem o_v17 : W13 m ρ c (Proc.devRef .tc main_v17) = cols 15440 2048 (by omega) (D m c) := by
  refine (W13_of m ρ c main_v17 (by decide)).trans ((W12_of m ρ c main_v17 (by decide)).trans ((W11_arr m ρ c 2).trans ((R7.arr2 _ c).trans ?_)))
  unfold R7.G2
  rw [n10, b10]
  exact funext fun i => mmB m c 6144 2048 15440 (by omega) (by omega) i _

theorem x14 : W8 m ρ c (Proc.devRef .tc main_v14_0) = ixs (D m c) := by
  refine (W8_arr m ρ c 2).trans ((R4.arr2 _ c).trans ?_)
  unfold R4.G2
  rw [n7, i7]
  exact funext fun i => mmI m c i
theorem y14 : V12 m ρ c main_v14_0 = ixs (D m c) :=
  (W12_of m ρ c main_v14_0 (by decide)).trans ((W11_of m ρ c main_v14_0 (by decide)).trans ((W10_of m ρ c main_v14_0 (by decide)).trans ((W9_of m ρ c main_v14_0 (by decide)).trans (x14 m ρ c))))
theorem z2 : W11 m ρ c (Proc.devRef .tc main_v2) = shapeCast S64 (m (c.tc.loc main_arg3)) shapeCasts_S1x64_S64 := by
  refine (W11_of m ρ c main_v2 (by decide)).trans ((W10_of m ρ c main_v2 (by decide)).trans ((W9_of m ρ c main_v2 (by decide)).trans ((W8_of m ρ c main_v2 (by decide)).trans ((W7_of m ρ c main_v2 (by decide)).trans ((W6_of m ρ c main_v2 (by decide)).trans ((W5_of m ρ c main_v2 (by decide)).trans ((W4_of m ρ c main_v2 (by decide)).trans ((W3_of m ρ c main_v2 (by decide)).trans ((W2_of m ρ c main_v2 (by decide)).trans (?_))))))))))
  show StableHlo.after hostOps0 (W0 m ρ c) main_v2 = _
  after_results <;> rfl
theorem v18 (k : Fin 64) : V12 m ρ c main_v18 (ix2 0 k) = (shapeCast S64 (m (c.tc.loc main_arg3)) shapeCasts_S1x64_S64 : FVec Ideal S64 .f32) (ix1 k) := by
  have e : V12 m ρ c main_v18 = shapeCast S1x64 (shapeCast S64 (m (c.tc.loc main_arg3)) shapeCasts_S1x64_S64 : FVec Ideal S64 .f32) shapeCasts_S64_S1x64 := by
    refine Eq.trans (b := shapeCast S1x64 (W11 m ρ c (Proc.devRef .tc main_v2) : FVec Ideal S64 .f32) shapeCasts_S64_S1x64) ?_ ?_
    · show StableHlo.after hostOps8 (W11 m ρ c) main_v18 = _
      after_results <;> rfl
    · rw [z2]
  rw [e]
  exact row' _ k
theorem o_v19 : W13 m ρ c (Proc.devRef .tc main_v19) = K m c := by
  refine (W13_arr m ρ c 2).trans ((R8.arr2 _ c).trans ?_)
  unfold R8.G2 K
  refine funext fun i => rms_congr (fun k => ?_) (v18 m ρ c _)
  refine (congrFun (y14 m ρ c) _).trans ?_
  unfold ixs cols
  refine (dif_pos (by show 1024 + k.val < 1104; omega)).trans ?_
  exact congrArg (D m c) (congrArg (ix2 (i 0)) (Fin.ext (by show 8192 + (1024 + k.val) = 9216 + k.val; omega)))

end Cert.SEven

end
-- ==== Proof.SEvenFin.lean ====
module

public import proofs.«01_k».proof.Defs
public import proofs.«01_k».proof.Proof.SEvenEq

/-! For the sample: the even layer's projections: what the kernels leave is what the reference leaves. -/

@[expose] public section

set_option maxRecDepth 16384

noncomputable section

namespace Cert.SEven

open Idealize.ShloMosaic Idealize.ShloMosaic.TcCoe Idealize.SL.Sem
open Cert.Mat

section Ref
open Cert.SampleEvenReferenceIdeal Cert.SampleEvenReferenceIdeal.Gen

variable (D : FVec Ideal S128x17488 .f32)

/-- The reference's keys and values of the first attention. -/
def RKVa : FVec Ideal S128x4096 .f32 := concatenate S128x4096 1 [⟨S128x2048, extractStridedSlice S128x2048 ![0, 2048] D slices_S128x17488_S128x2048_0_2048⟩, ⟨S128x2048, extractStridedSlice S128x2048 ![0, 4096] D slices_S128x17488_S128x2048_0_4096⟩] concatenates_S128x2048_S128x2048_S128x4096_d1
/-- The reference's keys and values of the second attention. -/
def RKVb : FVec Ideal S128x4096 .f32 := concatenate S128x4096 1 [⟨S128x2048, extractStridedSlice S128x2048 ![0, 11344] D slices_S128x17488_S128x2048_0_11344⟩, ⟨S128x2048, extractStridedSlice S128x2048 ![0, 13392] D slices_S128x17488_S128x2048_0_13392⟩] concatenates_S128x2048_S128x2048_S128x4096_d1
/-- The reference's scaled queries. -/
def RQ (q : FVec Ideal S128x2048 .f32) : FVec Ideal S128x2048 .bf16 := truncf .bf16 (Host.divf q (broadcastInDim S128x2048 ![] bcast_S_S128x2048 (mulf (Host.sqrt (constant S_ .f32 0x43000000#32)) (Host.log (constant S_ .f32 0x40000000#32))))) bitsLt_bf16_f32
/-- The reference's index columns. -/
def RI : FVec Ideal S128x1152 .f32 := concatenate S128x1152 1 [⟨S128x1024, extractStridedSlice S128x1024 ![0, 8192] D slices_S128x17488_S128x1024_0_8192⟩, ⟨S128x64, extractStridedSlice S128x64 ![0, 9216] D slices_S128x17488_S128x64_0_9216⟩, ⟨S128x16, extractStridedSlice S128x16 ![0, 9280] D slices_S128x17488_S128x16_0_9280⟩, ⟨S128x48, broadcastInDim S128x48 ![] bcast_S_S128x48 (constant (F := Ideal) S_ .f32 0x00000000#32)⟩] concatenates_S128x1024_S128x64_S128x16_S128x48_S128x1152_d1
/-- The reference's normed index keys. -/
def RK (X : FVec Ideal S128x64 .f32) (g : FVec Ideal S64 .f32) : FVec Ideal S128x64 .f32 := mulf (mulf X (broadcastInDim S128x64 ![0, 1] bcast_S128x1_S128x64_0_1 (Host.rsqrt (addf (Host.divf (broadcastInDim S128x1 ![0] bcast_S128_S128x1_0 (Host.reduceAdd (mulf X X) (constant S_ .f32 0x00000000#32) reducesTo_S128x64_S128_d1 h_S_)) (broadcastInDim S128x1 ![] bcast_S_S128x1 (constant S_ .f32 0x42800000#32))) (broadcastInDim S128x1 ![] bcast_S_S128x1 (constant S_ .f32 0x358637BD#32)))))) (broadcastInDim S128x64 ![0, 1] bcast_S1x64_S128x64_0_1 (broadcastInDim S1x64 ![1] bcast_S64_S1x64_1 g))

theorem rkva : RKVa D = cols 2048 4096 (by omega) D := by
  funext i
  obtain ⟨r, d, rfl⟩ : ∃ (r : Fin 128) (d : Fin 4096), i = ix2 r d := ⟨i 0, i 1, eq_ix2 i⟩
  exact slice12a D r d
theorem rkvb : RKVb D = cols 11344 4096 (by omega) D := by
  funext i
  obtain ⟨r, d, rfl⟩ : ∃ (r : Fin 128) (d : Fin 4096), i = ix2 r d := ⟨i 0, i 1, eq_ix2 i⟩
  exact slice12b D r d
theorem rga : extractStridedSlice S128x2048 ![0, 6144] D slices_S128x17488_S128x2048_0_6144 = cols 6144 2048 (by omega) D := by
  funext i
  obtain ⟨r, d, rfl⟩ : ∃ (r : Fin 128) (d : Fin 2048), i = ix2 r d := ⟨i 0, i 1, eq_ix2 i⟩
  exact s3 D r d
theorem rgb : extractStridedSlice S128x2048 ![0, 15440] D slices_S128x17488_S128x2048_0_15440 = cols 15440 2048 (by omega) D := by
  funext i
  obtain ⟨r, d, rfl⟩ : ∃ (r : Fin 128) (d : Fin 2048), i = ix2 r d := ⟨i 0, i 1, eq_ix2 i⟩
  exact s10 D r d
theorem rk0 : extractStridedSlice S128x64 ![0, 9216] D slices_S128x17488_S128x64_0_9216 = cols 9216 64 (by omega) D := by
  funext i
  obtain ⟨r, d, rfl⟩ : ∃ (r : Fin 128) (d : Fin 64), i = ix2 r d := ⟨i 0, i 1, eq_ix2 i⟩
  exact s5 D r d
theorem ri : RI D = ixs D := by
  funext i
  obtain ⟨r, d, rfl⟩ : ∃ (r : Fin 128) (d : Fin 1152), i = ix2 r d := ⟨i 0, i 1, eq_ix2 i⟩
  exact ixcat D r d
theorem rqa : RQ (extractStridedSlice S128x2048 ![0, 0] D slices_S128x17488_S128x2048_0_0) = fun i => cols 0 2048 (by omega) D i * (Named.named (F := Ideal) Cert.SampleEvenIdeal.κ "q_scale" (φ := .f32) 0x3E0293EE#32 : EReal) := by
  funext i
  obtain ⟨r, d, rfl⟩ : ∃ (r : Fin 128) (d : Fin 2048), i = ix2 r d := ⟨i 0, i 1, eq_ix2 i⟩
  exact (hscale _ _).trans ((scale _).trans (congrArg (· * _) (s0 D r d)))
theorem rqb : RQ (extractStridedSlice S128x2048 ![0, 9296] D slices_S128x17488_S128x2048_0_9296) = fun i => cols 9296 2048 (by omega) D i * (Named.named (F := Ideal) Cert.SampleEvenIdeal.κ "q_scale" (φ := .f32) 0x3E0293EE#32 : EReal) := by
  funext i
  obtain ⟨r, d, rfl⟩ : ∃ (r : Fin 128) (d : Fin 2048), i = ix2 r d := ⟨i 0, i 1, eq_ix2 i⟩
  exact (hscale _ _).trans ((scale _).trans (congrArg (· * _) (s7 D r d)))
theorem rk (g : FVec Ideal S64 .f32) : RK (extractStridedSlice S128x64 ![0, 9216] D slices_S128x17488_S128x64_0_9216) g
    = fun i => rms (Ideal.ofBits .f32 0x42800000#32) (cols 9216 64 (by omega) D) (fun j => g (ix1 (j 1))) (i 0) (i 1) := by
  rw [rk0]
  funext i
  obtain ⟨r, d, rfl⟩ : ∃ (r : Fin 128) (d : Fin 64), i = ix2 r d := ⟨i 0, i 1, eq_ix2 i⟩
  exact hrms64 _ g r d

end Ref

theorem frame_ref (m' : (ℓ : Loc Cert.SampleEvenReferenceIdeal.nD Cert.SampleEvenReferenceIdeal.τ Cert.SampleEvenReferenceIdeal.sig) → Buf (Elt Ideal) ℓ) (g' : Dev Cert.SampleEvenReferenceIdeal.nD → PrngReg) :
    θ_run (Cert.SampleEvenReferenceIdeal.defs (F := Ideal)) (onTc (τ := Cert.SampleEvenReferenceIdeal.τ) (Cert.SampleEvenReferenceIdeal.main (F := Ideal))) ⟨m', fun _ => 0, g'⟩ (fun r => (∀ c : Dev Cert.SampleEvenReferenceIdeal.nD,
      r.2.mem ((c.tc : Thread Cert.SampleEvenReferenceIdeal.nD Cert.SampleEvenReferenceIdeal.τ).loc Cert.SampleEvenReferenceIdeal.main_arg0) = m' ((c.tc : Thread Cert.SampleEvenReferenceIdeal.nD Cert.SampleEvenReferenceIdeal.τ).loc Cert.SampleEvenReferenceIdeal.main_arg0)
      ∧ r.2.mem ((c.tc : Thread Cert.SampleEvenReferenceIdeal.nD Cert.SampleEvenReferenceIdeal.τ).loc Cert.SampleEvenReferenceIdeal.main_arg1) = m' ((c.tc : Thread Cert.SampleEvenReferenceIdeal.nD Cert.SampleEvenReferenceIdeal.τ).loc Cert.SampleEvenReferenceIdeal.main_arg1)
      ∧ r.2.mem ((c.tc : Thread Cert.SampleEvenReferenceIdeal.nD Cert.SampleEvenReferenceIdeal.τ).loc Cert.SampleEvenReferenceIdeal.main_arg2) = m' ((c.tc : Thread Cert.SampleEvenReferenceIdeal.nD Cert.SampleEvenReferenceIdeal.τ).loc Cert.SampleEvenReferenceIdeal.main_arg2)
      ∧ r.2.mem ((c.tc : Thread Cert.SampleEvenReferenceIdeal.nD Cert.SampleEvenReferenceIdeal.τ).loc Cert.SampleEvenReferenceIdeal.main_arg3) = m' ((c.tc : Thread Cert.SampleEvenReferenceIdeal.nD Cert.SampleEvenReferenceIdeal.τ).loc Cert.SampleEvenReferenceIdeal.main_arg3))
      ∧ r.2.sem = fun _ => 0) :=
  (θ_run _ _ _).mono (fun r h => ⟨fun c => (h c).2.2.2.2.2.2.2.2.2.2.2, sem_eq_zero_of_no_sems (by decide) r.2⟩) (Cert.SampleEvenReferenceIdeal.Value.run m' g')

open Cert.SampleEvenIdeal Cert.SampleEvenIdeal.Gen

theorem scX (A : FVec Ideal S8x16x4096 .f32) (b : Fin 8) (t : Fin 16) (d : Fin 4096) :
    shapeCast S128x4096 A shapeCasts_S8x16x4096_S128x4096 (ix2 ⟨b * 16 + t, by omega⟩ d) = A (ix3 b t d) := by
  pointwise

theorem rd (m : (ℓ : Loc nD τ sig) → Buf (Elt Ideal) ℓ) (c : Dev nD) : RD (m (c.tc.loc main_arg0)) (m (c.tc.loc main_arg1)) (m (c.tc.loc main_arg2)) = D m c := by
  funext i
  obtain ⟨r, d, rfl⟩ : ∃ (r : Fin 128) (d : Fin 17488), i = ix2 r d := ⟨i 0, i 1, eq_ix2 i⟩
  obtain ⟨b, t, rfl⟩ : ∃ (b : Fin 8) (t : Fin 16), r = ⟨b * 16 + t, by omega⟩ :=
    ⟨⟨r / 16, by omega⟩, ⟨r % 16, by omega⟩, Fin.ext (by show r.val = r.val / 16 * 16 + r.val % 16; omega)⟩
  unfold RD
  refine (scN _ b t d).trans ((dot3 _ _ b t d).trans ?_)
  exact Finset.sum_congr rfl fun k _ => congrArg (· * _) (rn _ _ (X m c) _ b t (fun k => (scX _ b t k).symm) k)

theorem algebraic : Cert.algebraic_SampleEvenIdeal_SampleEvenReferenceIdeal (hSampleEvenIdeal := Cert.SampleEvenIdeal.Gen.facts) (hSampleEvenReferenceIdeal := Cert.SampleEvenReferenceIdeal.Gen.facts) := by
  intro m g m' g' _ hm
  refine ⟨fun c => W13 m g c (Proc.devRef .tc main_v11),
    fun c => W13 m g c (Proc.devRef .tc main_v12_0),
    fun c => W13 m g c (Proc.devRef .tc main_v12_1),
    fun c => W13 m g c (Proc.devRef .tc main_v13),
    fun c => W13 m g c (Proc.devRef .tc main_v14_0),
    fun c => W13 m g c (Proc.devRef .tc main_v14_1),
    fun c => W13 m g c (Proc.devRef .tc main_v15),
    fun c => W13 m g c (Proc.devRef .tc main_v16_0),
    fun c => W13 m g c (Proc.devRef .tc main_v16_1),
    fun c => W13 m g c (Proc.devRef .tc main_v17),
    fun c => W13 m g c (Proc.devRef .tc main_v19), ?_, ?_⟩
  · refine (θ_run _ _ _).mono (fun r h c => ⟨h c main_v11 (by decide), h c main_v12_0 (by decide), h c main_v12_1 (by decide), h c main_v13 (by decide), h c main_v14_0 (by decide), h c main_v14_1 (by decide), h c main_v15 (by decide), h c main_v16_0 (by decide), h c main_v16_1 (by decide), h c main_v17 (by decide), h c main_v19 (by decide), ?_⟩) (run m g)
    exact ⟨(h c main_arg0 (by decide)).trans (W13_main_arg0 m g c), (h c main_arg1 (by decide)).trans (W13_main_arg1 m g c),
      (h c main_arg2 (by decide)).trans (W13_main_arg2 m g c), (h c main_arg3 (by decide)).trans (W13_main_arg3 m g c)⟩
  · refine (θ_run _ _ _).mono (fun r h c => ?_) (Cert.SampleEvenReferenceIdeal.Value.run m' g')
    obtain ⟨h0, h1, h2, h3, h4, h5, h6, h7, h8, h9, h10, ha⟩ := h c
    obtain ⟨a0, a1, a2, a3⟩ := hm c
    have d := rd m c
    rw [← a0, ← a1, ← a2] at d
    have k := (rk (D m c) (shapeCast S64 (m (c.tc.loc main_arg3)) shapeCasts_S1x64_S64 : FVec Ideal S64 .f32))
    rw [← a3] at k
    refine ⟨h0.trans ?_, h1.trans ?_, h2.trans ?_, h3.trans ?_, h4.trans ?_, h5.trans ?_, h6.trans ?_, h7.trans ?_, h8.trans ?_, h9.trans ?_, h10.trans ?_, ha⟩
    · refine Eq.trans ?_ (o_v11 m g c).symm
      rw [← d]
      exact rqa _
    · refine Eq.trans ?_ (o_v12_0 m g c).symm
      rw [← d]
      exact rkva _
    · refine Eq.trans ?_ (o_v12_1 m g c).symm
      rw [← d]
      exact rkva _
    · refine Eq.trans ?_ (o_v13 m g c).symm
      rw [← d]
      exact rga _
    · refine Eq.trans ?_ (o_v14_0 m g c).symm
      rw [← d]
      exact ri _
    · refine Eq.trans ?_ (o_v14_1 m g c).symm
      rw [← d]
      exact ri _
    · refine Eq.trans ?_ (o_v15 m g c).symm
      rw [← d]
      exact rqb _
    · refine Eq.trans ?_ (o_v16_0 m g c).symm
      rw [← d]
      exact rkvb _
    · refine Eq.trans ?_ (o_v16_1 m g c).symm
      rw [← d]
      exact rkvb _
    · refine Eq.trans ?_ (o_v17 m g c).symm
      rw [← d]
      exact rgb _
    · refine Eq.trans ?_ (k.trans ?_)
      · rw [← d]
        rfl
      · rw [a3]
        exact (o_v19 m g c).symm

end Cert.SEven

end
-- ==== Proof.SMidVal.lean ====
module

public import proofs.«01_k».proof.Proof.Mat
public import proofs.«01_k».proof.Proof.Gen.SampleMiddleIdeal.Frame

/-! For the sample: the arrays the regions between the layers leave. -/

@[expose] public section

set_option maxRecDepth 16384

noncomputable section

namespace Cert.SMid

open Idealize.ShloMosaic Idealize.ShloMosaic.TcCoe Idealize.SL.Sem
open Cert.SampleMiddleIdeal Cert.SampleMiddleIdeal.Gen Cert.Mat
open Idealize.ShloMosaic.Pipeline (Dat)

variable (V : (c : Dev nD) → (b : Ref sig .tc) → Buf (Elt Ideal) ((c : Thread nD τ).loc b)) (c : Dev nD)

/-! The output projection of the even layer: the two halves of the weight, the residual added. -/

namespace R0

theorem idx : ∀ t : Fin cfg0.N, win0_0.index t = ![t.val / 4, 0]
    ∧ win0_1.index t = ![0, t.val % 4]
    ∧ win0_2.index t = ![t.val / 4, 0]
    ∧ win0_3.index t = ![0, t.val % 4]
    ∧ win0_4.index t = ![t.val / 4, t.val % 4]
    ∧ win0_5.index t = ![t.val / 4, t.val % 4] :=
  (by decide +kernel : ∀ t : Fin grid0.N, _)

theorem pt (t : Fin cfg0.N) : t.val < 4 := lt_of_lt_of_eq t.isLt N_0

theorem b0 (t : Fin cfg0.N) (a : Fin 128) (d : Fin 2048) : iblk0 V c 0 t (ix2 a d) = V c main_v2 (ix2 ⟨t.val / 4 * 128 + a, by have := pt t; omega⟩ d) := by
  blk_point [iblk0, idx t]

theorem b1 (t : Fin cfg0.N) (a : Fin 2048) (d : Fin 1024) : iblk0 V c 1 t (ix2 a d) = V c main_v3 (ix2 a ⟨t.val % 4 * 1024 + d, by have := pt t; omega⟩) := by
  blk_point [iblk0, idx t]

theorem b2 (t : Fin cfg0.N) (a : Fin 128) (d : Fin 2048) : iblk0 V c 2 t (ix2 a d) = V c main_v4 (ix2 ⟨t.val / 4 * 128 + a, by have := pt t; omega⟩ d) := by
  blk_point [iblk0, idx t]

theorem b3 (t : Fin cfg0.N) (a : Fin 2048) (d : Fin 1024) : iblk0 V c 3 t (ix2 a d) = V c main_v5 (ix2 a ⟨t.val % 4 * 1024 + d, by have := pt t; omega⟩) := by
  blk_point [iblk0, idx t]

theorem b4 (t : Fin cfg0.N) (a : Fin 128) (d : Fin 1024) : iblk0 V c 4 t (ix2 a d) = V c main_v6 (ix2 ⟨t.val / 4 * 128 + a, by have := pt t; omega⟩ ⟨t.val % 4 * 1024 + d, by have := pt t; omega⟩) := by
  blk_point [iblk0, idx t]

theorem pay5 (x0 : Vec Ideal S128x2048 .bf16) (x1 : Vec Ideal S2048x1024 .bf16) (x2 : Vec Ideal S128x2048 .bf16) (x3 : Vec Ideal S2048x1024 .bf16) (x4 : Vec Ideal S128x1024 .f32) (r : Fin 128) (d : Fin 1024) :
    k0_pay1 x0 x1 x2 x3 x4 (ix2 r d) = mm x0 x1 r d + mm x2 x3 r d + x4 (ix2 r d) := by
  unfold k0_pay1
  pointwise [mm]

/-- The array it leaves. -/
def G5 : M 128 4096 := fun i => mm (V c main_v2) (V c main_v3) (i 0) (i 1) + mm (V c main_v4) (V c main_v5) (i 0) (i 1) + V c main_v6 i

theorem arr5 : (dat0 V c).arrAt 5 cfg0.N = G5 V c := by
  refine (dat0 V c).arrAt_eq_of_covers 5 _ (by decide +kernel) fun t _ y => ?_
  blk_simp
  rw [after0_5]
  unfold out0_5
  canon_tiles x h
  obtain ⟨r, d, rfl⟩ : ∃ (r : Fin 128) (d : Fin 1024), x = ix2 r d := ⟨x 0, x 1, eq_ix2 x⟩
  have e : (win0_5.blk t).view.emb y = ix2 ⟨t.val / 4 * 128 + r, by have := pt t; omega⟩ ⟨t.val % 4 * 1024 + d, by have := pt t; omega⟩ := by
    blk_ext [idx t, h0, h1]
  rw [e, ld_all, ld_all, ld_all, ld_all, ld_all]
  refine (pay5 _ _ _ _ _ r d).trans ?_
  exact congrArg₂ (· + ·) (congrArg₂ (· + ·) (mm_congr (fun x => b0 V c t _ x) (fun x => b1 V c t x _)) (mm_congr (fun x => b2 V c t _ x) (fun x => b3 V c t x _))) (b4 V c t _ _)

end R0

/-! The norm before the odd layer. -/

namespace R1

theorem idx : ∀ t : Fin cfg1.N, win1_0.index t = ![t.val, 0]
    ∧ win1_1.index t = ![0, 0]
    ∧ win1_2.index t = ![t.val, 0] :=
  (by decide +kernel : ∀ t : Fin grid1.N, _)

theorem pt (t : Fin cfg1.N) : t.val < 1 := lt_of_lt_of_eq t.isLt N_1

theorem b0 (t : Fin cfg1.N) (a : Fin 128) (d : Fin 4096) : iblk1 V c 0 t (ix2 a d) = V c main_v7 (ix2 ⟨t.val * 128 + a, by have := pt t; omega⟩ d) := by
  blk_point [iblk1, idx t]

theorem b1 (t : Fin cfg1.N) (d : Fin 4096) : iblk1 V c 1 t (ix2 0 d) = V c main_v11 (ix2 0 d) := by
  blk_point [iblk1, idx t]

theorem pay2 (x0 : Vec Ideal S128x4096 .f32) (x1 : Vec Ideal S1x4096 .f32) (r : Fin 128) (d : Fin 4096) :
    k1_pay1 x0 x1 (ix2 r d) = rms (Ideal.ofBits .f32 0x45800000#32) x0 x1 r d := by
  unfold k1_pay1
  pointwise [rms]

/-- The array it leaves. -/
def G2 : M 128 4096 := fun i => rms (Ideal.ofBits .f32 0x45800000#32) (V c main_v7) (V c main_v11) (i 0) (i 1)

theorem arr2 : (dat1 V c).arrAt 2 cfg1.N = G2 V c := by
  refine (dat1 V c).arrAt_eq_of_covers 2 _ (by decide +kernel) fun t _ y => ?_
  blk_simp
  rw [after1_2]
  unfold out1_2
  canon_tiles x h
  obtain ⟨r, d, rfl⟩ : ∃ (r : Fin 128) (d : Fin 4096), x = ix2 r d := ⟨x 0, x 1, eq_ix2 x⟩
  have e : (win1_2.blk t).view.emb y = ix2 ⟨t.val * 128 + r, by have := pt t; omega⟩ d := by
    blk_ext [idx t, h0, h1]
  rw [e, ld_all, ld_all]
  refine (pay2 _ _ r d).trans ?_
  exact rms_congr (fun x => b0 V c t _ x) (b1 V c t _)

end R1

/-! The scaled queries. -/

namespace R2

theorem idx : ∀ t : Fin cfg2.N, win2_0.index t = ![t.val / 4, 0]
    ∧ win2_1.index t = ![0, t.val % 4]
    ∧ win2_2.index t = ![t.val / 4, t.val % 4] :=
  (by decide +kernel : ∀ t : Fin grid2.N, _)

theorem pt (t : Fin cfg2.N) : t.val < 4 := lt_of_lt_of_eq t.isLt N_2

theorem b0 (t : Fin cfg2.N) (a : Fin 128) (d : Fin 4096) : iblk2 V c 0 t (ix2 a d) = V c main_v12 (ix2 ⟨t.val / 4 * 128 + a, by have := pt t; omega⟩ d) := by
  blk_point [iblk2, idx t]

theorem b1 (t : Fin cfg2.N) (a : Fin 4096) (d : Fin 1024) : iblk2 V c 1 t (ix2 a d) = V c main_v9 (ix2 a ⟨t.val % 4 * 1024 + d, by have := pt t; omega⟩) := by
  blk_point [iblk2, idx t]

theorem pay2 (x0 : Vec Ideal S128x4096 .bf16) (x1 : Vec Ideal S4096x1024 .bf16) (r : Fin 128) (d : Fin 1024) :
    k2_pay1 x0 x1 (ix2 r d) = mm x0 x1 r d * (Named.named (F := Ideal) κ "q_scale" (φ := .f32) 0x3E0293EE#32 : EReal) := by
  unfold k2_pay1
  pointwise [mm]

/-- The array it leaves. -/
def G2 : M 128 4096 := fun i => mm (V c main_v12) (V c main_v9) (i 0) ⟨0 + (i 1).val, by have : (i 1).val < 4096 := (i 1).isLt; omega⟩ * (Named.named (F := Ideal) κ "q_scale" (φ := .f32) 0x3E0293EE#32 : EReal)

theorem arr2 : (dat2 V c).arrAt 2 cfg2.N = G2 V c := by
  refine (dat2 V c).arrAt_eq_of_covers 2 _ (by decide +kernel) fun t _ y => ?_
  blk_simp
  rw [after2_2]
  unfold out2_2
  canon_tiles x h
  obtain ⟨r, d, rfl⟩ : ∃ (r : Fin 128) (d : Fin 1024), x = ix2 r d := ⟨x 0, x 1, eq_ix2 x⟩
  have e : (win2_2.blk t).view.emb y = ix2 ⟨t.val / 4 * 128 + r, by have := pt t; omega⟩ ⟨t.val % 4 * 1024 + d, by have := pt t; omega⟩ := by
    blk_ext [idx t, h0, h1]
  rw [e, ld_all, ld_all]
  refine (pay2 _ _ r d).trans ?_
  exact congrArg (· * (Named.named (F := Ideal) κ "q_scale" (φ := .f32) 0x3E0293EE#32 : EReal)) (mm_congr (fun x => b0 V c t _ x) (fun x => (b1 V c t x _).trans (congrArg (V c main_v9) (congrArg (ix2 x) (Fin.ext (by show (t.val % 4) * 1024 + d.val = 0 + (t.val % 4 * 1024 + d.val); omega))))))

end R2

/-! The keys and values. -/

namespace R3

theorem idx : ∀ t : Fin cfg3.N, win3_0.index t = ![t.val / 8, 0]
    ∧ win3_1.index t = ![0, (4 + t.val % 8)]
    ∧ win3_2.index t = ![t.val / 8, t.val % 8]
    ∧ win3_3.index t = ![t.val / 8, t.val % 8] :=
  (by decide +kernel : ∀ t : Fin grid3.N, _)

theorem pt (t : Fin cfg3.N) : t.val < 8 := lt_of_lt_of_eq t.isLt N_3

theorem b0 (t : Fin cfg3.N) (a : Fin 128) (d : Fin 4096) : iblk3 V c 0 t (ix2 a d) = V c main_v12 (ix2 ⟨t.val / 8 * 128 + a, by have := pt t; omega⟩ d) := by
  blk_point [iblk3, idx t]

theorem b1 (t : Fin cfg3.N) (a : Fin 4096) (d : Fin 1024) : iblk3 V c 1 t (ix2 a d) = V c main_v9 (ix2 a ⟨(4 + t.val % 8) * 1024 + d, by have := pt t; omega⟩) := by
  blk_point [iblk3, idx t]

theorem pay2 (x0 : Vec Ideal S128x4096 .bf16) (x1 : Vec Ideal S4096x1024 .bf16) (r : Fin 128) (d : Fin 1024) :
    k3_pay1 x0 x1 (ix2 r d) = mm x0 x1 r d := by
  unfold k3_pay1
  pointwise [mm]

/-- The array it leaves. -/
def G2 : M 128 8192 := fun i => mm (V c main_v12) (V c main_v9) (i 0) ⟨4096 + (i 1).val, by have : (i 1).val < 8192 := (i 1).isLt; omega⟩

theorem arr2 : (dat3 V c).arrAt 2 cfg3.N = G2 V c := by
  refine (dat3 V c).arrAt_eq_of_covers 2 _ (by decide +kernel) fun t _ y => ?_
  blk_simp
  rw [after3_2]
  unfold out3_2
  canon_tiles x h
  obtain ⟨r, d, rfl⟩ : ∃ (r : Fin 128) (d : Fin 1024), x = ix2 r d := ⟨x 0, x 1, eq_ix2 x⟩
  have e : (win3_2.blk t).view.emb y = ix2 ⟨t.val / 8 * 128 + r, by have := pt t; omega⟩ ⟨t.val % 8 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v9) (congrArg (ix2 x) (Fin.ext (by show (4 + t.val % 8) * 1024 + d.val = 4096 + (t.val % 8 * 1024 + d.val); omega)))))

theorem pay3 (x0 : Vec Ideal S128x4096 .bf16) (x1 : Vec Ideal S4096x1024 .bf16) (r : Fin 128) (d : Fin 1024) :
    k3_pay2 x0 x1 (ix2 r d) = mm x0 x1 r d := by
  unfold k3_pay2 k3_pay1
  pointwise [mm]

/-- The array it leaves. -/
def G3 : M 128 8192 := fun i => mm (V c main_v12) (V c main_v9) (i 0) ⟨4096 + (i 1).val, by have : (i 1).val < 8192 := (i 1).isLt; omega⟩

theorem arr3 : (dat3 V c).arrAt 3 cfg3.N = G3 V c := by
  refine (dat3 V c).arrAt_eq_of_covers 3 _ (by decide +kernel) fun t _ y => ?_
  blk_simp
  rw [after3_3]
  unfold out3_3
  canon_tiles x h
  obtain ⟨r, d, rfl⟩ : ∃ (r : Fin 128) (d : Fin 1024), x = ix2 r d := ⟨x 0, x 1, eq_ix2 x⟩
  have e : (win3_3.blk t).view.emb y = ix2 ⟨t.val / 8 * 128 + r, by have := pt t; omega⟩ ⟨t.val % 8 * 1024 + d, by have := pt t; omega⟩ := by
    blk_ext [idx t, h0, h1]
  rw [e, ld_all, ld_all]
  refine (pay3 _ _ r d).trans ?_
  exact mm_congr (fun x => b0 V c t _ x) (fun x => (b1 V c t x _).trans (congrArg (V c main_v9) (congrArg (ix2 x) (Fin.ext (by show (4 + t.val % 8) * 1024 + d.val = 4096 + (t.val % 8 * 1024 + d.val); omega)))))

end R3

/-! The gates. -/

namespace R4

theorem idx : ∀ t : Fin cfg4.N, win4_0.index t = ![t.val / 4, 0]
    ∧ win4_1.index t = ![0, (12 + t.val % 4)]
    ∧ win4_2.index t = ![t.val / 4, t.val % 4] :=
  (by decide +kernel : ∀ t : Fin grid4.N, _)

theorem pt (t : Fin cfg4.N) : t.val < 4 := lt_of_lt_of_eq t.isLt N_4

theorem b0 (t : Fin cfg4.N) (a : Fin 128) (d : Fin 4096) : iblk4 V c 0 t (ix2 a d) = V c main_v12 (ix2 ⟨t.val / 4 * 128 + a, by have := pt t; omega⟩ d) := by
  blk_point [iblk4, idx t]

theorem b1 (t : Fin cfg4.N) (a : Fin 4096) (d : Fin 1024) : iblk4 V c 1 t (ix2 a d) = V c main_v9 (ix2 a ⟨(12 + t.val % 4) * 1024 + d, by have := pt t; omega⟩) := by
  blk_point [iblk4, idx t]

theorem pay2 (x0 : Vec Ideal S128x4096 .bf16) (x1 : Vec Ideal S4096x1024 .bf16) (r : Fin 128) (d : Fin 1024) :
    k4_pay1 x0 x1 (ix2 r d) = mm x0 x1 r d := by
  unfold k4_pay1
  pointwise [mm]

/-- The array it leaves. -/
def G2 : M 128 4096 := fun i => mm (V c main_v12) (V c main_v9) (i 0) ⟨12288 + (i 1).val, by have : (i 1).val < 4096 := (i 1).isLt; omega⟩

theorem arr2 : (dat4 V c).arrAt 2 cfg4.N = G2 V c := by
  refine (dat4 V c).arrAt_eq_of_covers 2 _ (by decide +kernel) fun t _ y => ?_
  blk_simp
  rw [after4_2]
  unfold out4_2
  canon_tiles x h
  obtain ⟨r, d, rfl⟩ : ∃ (r : Fin 128) (d : Fin 1024), x = ix2 r d := ⟨x 0, x 1, eq_ix2 x⟩
  have e : (win4_2.blk t).view.emb y = ix2 ⟨t.val / 4 * 128 + r, by have := pt t; omega⟩ ⟨t.val % 4 * 1024 + d, by have := pt t; omega⟩ := by
    blk_ext [idx t, h0, h1]
  rw [e, ld_all, ld_all]
  refine (pay2 _ _ r d).trans ?_
  exact mm_congr (fun x => b0 V c t _ x) (fun x => (b1 V c t x _).trans (congrArg (V c main_v9) (congrArg (ix2 x) (Fin.ext (by show (12 + t.val % 4) * 1024 + d.val = 12288 + (t.val % 4 * 1024 + d.val); omega)))))

end R4

end Cert.SMid

end
-- ==== Proof.SMidRun.lean ====
module

public import proofs.«01_k».proof.Proof.Gen.SampleMiddleIdeal.Frame

/-! The run, with every array it leaves: the launch of the regions in order, read at the end. -/

@[expose] public section

set_option maxRecDepth 16384

noncomputable section

namespace Cert.SMid

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SampleMiddleIdeal Cert.SampleMiddleIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates with each of its arrays as the last segment leaves it. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W7 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ c b hb => h c _ (mem_uc b hb))

end Cert.SMid

end
-- ==== Proof.SMidRef.lean ====
module

public import proofs.«01_k».proof.Proof.Mat
public import proofs.«01_k».proof.Proof.Soft
public import proofs.«01_k».proof.Proof.Gen.SampleMiddleReferenceIdeal.Run

/-! For the sample: the reference between the layers, entry by entry. -/

@[expose] public section

set_option maxRecDepth 16384

noncomputable section

namespace Cert.SMid

open Idealize.ShloMosaic Idealize.ShloMosaic.TcCoe Idealize.SL.Sem
open Cert.Mat
open Cert.SampleMiddleReferenceIdeal Cert.SampleMiddleReferenceIdeal.Gen

/-- A product over 4096 of columns laid side by side is the sum of the two products. -/
theorem mm_halves {n : ℕ} (a : M 128 4096) (p q : M 128 2048) (w : M 4096 n) (r : Fin 128) (d : Fin n)
    (hp : ∀ x : Fin 2048, a (ix2 r ⟨x, by omega⟩) = p (ix2 r x)) (hq : ∀ x : Fin 2048, a (ix2 r ⟨2048 + x, by omega⟩) = q (ix2 r x)) :
    mm a w r d = mm p (fun j : (⟨2, ![2048, n]⟩ : Shape).Idx => w (ix2 ⟨(j 0).val, by have : (j 0).val < 2048 := (j 0).isLt; omega⟩ (j 1))) r d
      + mm q (fun j : (⟨2, ![2048, n]⟩ : Shape).Idx => w (ix2 ⟨2048 + (j 0).val, by have : (j 0).val < 2048 := (j 0).isLt; omega⟩ (j 1))) r d := by
  unfold mm
  refine (Fin.sum_univ_add (a := 2048) (b := 2048) fun x => a (ix2 r x) * w (ix2 x d)).trans ?_
  exact congrArg₂ (· + ·) (Finset.sum_congr rfl fun x _ => congrArg (· * _) (hp x)) (Finset.sum_congr rfl fun x _ => congrArg (· * _) (hq x))

theorem hdot (a : FVec Ideal S128x4096 .f32) (w : FVec Ideal S4096x4096 .f32) :
    Host.dotGeneral (F := Ideal) (φ₁ := .f32) (φ₂ := .f32) dot_S128x4096_S4096x4096_S128x4096_1_0_0_1_n_n none a w = fun i => mm a w (i 0) (i 1) := by
  funext i
  obtain ⟨r, d, rfl⟩ : ∃ (r : Fin 128) (d : Fin 4096), i = ix2 r d := ⟨i 0, i 1, eq_ix2 i⟩
  pointwise [mm]

theorem hdot' (a : FVec Ideal S128x4096 .f32) (w : FVec Ideal S4096x16384 .f32) :
    Host.dotGeneral (F := Ideal) (φ₁ := .f32) (φ₂ := .f32) dot_S128x4096_S4096x16384_S128x16384_1_0_0_1_n_n none a w = fun i => mm a w (i 0) (i 1) := by
  funext i
  obtain ⟨r, d, rfl⟩ : ∃ (r : Fin 128) (d : Fin 16384), i = ix2 r d := ⟨i 0, i 1, eq_ix2 i⟩
  pointwise [mm]

theorem hrms (X : FVec Ideal S128x4096 .f32) (g : FVec Ideal S4096 .f32) :
    mulf (mulf X (broadcastInDim S128x4096 ![0, 1] bcast_S128x1_S128x4096_0_1 (Host.rsqrt (addf (Host.divf (broadcastInDim S128x1 ![0] bcast_S128_S128x1_0 (Host.reduceAdd (mulf X X) (constant S_ .f32 0x00000000#32) reducesTo_S128x4096_S128_d1 h_S_)) (broadcastInDim S128x1 ![] bcast_S_S128x1 (constant S_ .f32 0x45800000#32))) (broadcastInDim S128x1 ![] bcast_S_S128x1 (constant S_ .f32 0x358637BD#32)))))) (broadcastInDim S128x4096 ![0, 1] bcast_S1x4096_S128x4096_0_1 (broadcastInDim S1x4096 ![1] bcast_S4096_S1x4096_1 g))
      = fun i => rms (Ideal.ofBits .f32 0x45800000#32) X (fun j => g (ix1 (j 1))) (i 0) (i 1) := by
  funext i
  obtain ⟨r, d, rfl⟩ : ∃ (r : Fin 128) (d : Fin 4096), i = ix2 r d := ⟨i 0, i 1, eq_ix2 i⟩
  pointwise [rms]

/-- Two halves of columns laid side by side: the left one. -/
theorem catL (p q : FVec Ideal S128x2048 .f32) (r : Fin 128) (x : Fin 2048) :
    concatenate S128x4096 1 [⟨S128x2048, p⟩, ⟨S128x2048, q⟩] concatenates_S128x2048_S128x2048_S128x4096_d1 (ix2 r ⟨x, by omega⟩) = p (ix2 r x) := by
  pointwise
/-- Two halves of columns laid side by side: the right one. -/
theorem catR (p q : FVec Ideal S128x2048 .f32) (r : Fin 128) (x : Fin 2048) :
    concatenate S128x4096 1 [⟨S128x2048, p⟩, ⟨S128x2048, q⟩] concatenates_S128x2048_S128x2048_S128x4096_d1 (ix2 r ⟨2048 + x, by omega⟩) = q (ix2 r x) := by
  pointwise

theorem slice0 (D : FVec Ideal S128x16384 .f32) (r : Fin 128) (d : Fin 4096) :
    extractStridedSlice S128x4096 ![0, 0] D slices_S128x16384_S128x4096_0_0 (ix2 r d) = D (ix2 r ⟨0 + d, by omega⟩) := by
  pointwise
theorem slice3 (D : FVec Ideal S128x16384 .f32) (r : Fin 128) (d : Fin 4096) :
    extractStridedSlice S128x4096 ![0, 12288] D slices_S128x16384_S128x4096_0_12288 (ix2 r d) = D (ix2 r ⟨12288 + d, by omega⟩) := by
  pointwise
/-- The two slices of keys and of values side by side are one slice. -/
theorem slice12 (D : FVec Ideal S128x16384 .f32) (r : Fin 128) (d : Fin 8192) :
    concatenate S128x8192 1 [⟨S128x4096, extractStridedSlice S128x4096 ![0, 4096] D slices_S128x16384_S128x4096_0_4096⟩, ⟨S128x4096, extractStridedSlice S128x4096 ![0, 8192] D slices_S128x16384_S128x4096_0_8192⟩] concatenates_S128x4096_S128x4096_S128x8192_d1 (ix2 r d) = D (ix2 r ⟨4096 + d, by omega⟩) := by
  by_cases h : d.val < 4096
  · obtain ⟨e, he, rfl⟩ : ∃ (e : Fin 4096) (he : e.val < 8192), d = ⟨e, he⟩ := ⟨⟨d, h⟩, d.isLt, rfl⟩
    pointwise
  · obtain ⟨e, he, rfl⟩ : ∃ (e : Fin 4096) (he : 4096 + e.val < 8192), d = ⟨4096 + e, he⟩ := ⟨⟨d - 4096, by omega⟩, by show 4096 + (d.val - 4096) < 8192; omega, Fin.ext (by show d.val = 4096 + (d.val - 4096); omega)⟩
    refine Eq.trans (b := D (ix2 r ⟨8192 + e, by omega⟩)) (by pointwise) (congrArg D (congrArg (ix2 r) (Fin.ext (by show 8192 + e.val = 4096 + (4096 + e.val); omega))))

theorem hscale (x : FVec Ideal S128x4096 .f32) (i : S128x4096.Idx) :
    truncf .bf16 (Host.divf x (broadcastInDim S128x4096 ![] bcast_S_S128x4096 (mulf (Host.sqrt (constant S_ .f32 0x43000000#32)) (Host.log (constant S_ .f32 0x40000000#32))))) bitsLt_bf16_f32 i
      = Ideal.div (x i) (Ideal.sqrt (Ideal.ofBits .f32 0x43000000#32) * Ideal.log (Ideal.ofBits .f32 0x40000000#32)) := by
  pointwise

end Cert.SMid

end
-- ==== Proof.SMidEq.lean ====
module

public import proofs.«01_k».proof.Proof.SMidVal
public import proofs.«01_k».proof.Proof.SMidRun
public import proofs.«01_k».proof.Proof.SMidRef

/-! For the sample: between the layers: what the regions leave, as functions of the arguments. -/

@[expose] public section

set_option maxRecDepth 16384

noncomputable section

namespace Cert.SMid

open Idealize.ShloMosaic Idealize.ShloMosaic.TcCoe Idealize.SL.Sem
open Cert.Mat
open Cert.SampleMiddleIdeal Cert.SampleMiddleIdeal.Gen

/-- The named factor of the queries. -/
theorem factor : (Named.named (F := Ideal) κ "q_scale" (φ := .f32) 0x3E0293EE#32 : EReal) = ((((Real.sqrt 128) * (Real.log 2))⁻¹ : ℝ) : EReal) :=
  IdealRules.named_const.ideal_named_scalar _ _ _ _ rfl

/-- The reference divides the queries by what the kernel multiplies them by the inverse of. -/
theorem scale (x : EReal) : Ideal.div x (Ideal.sqrt (Ideal.ofBits .f32 0x43000000#32) * Ideal.log (Ideal.ofBits .f32 0x40000000#32))
    = x * (Named.named (F := Ideal) κ "q_scale" (φ := .f32) 0x3E0293EE#32 : EReal) := by
  have hl : Real.log 2 ≠ 0 := (Real.log_pos (by norm_num)).ne'
  have hs : Real.sqrt 128 ≠ 0 := (Real.sqrt_pos.mpr (by norm_num)).ne'
  rw [factor]
  refine (congrArg₂ (fun a b => Ideal.div x (a * b)) Band.Soft.sqrt_width Band.Soft.log_two).trans ?_
  show Ideal.div x (((Real.sqrt 128 : ℝ) : EReal) * ((Real.log 2 : ℝ) : EReal)) = _
  rw [← EReal.coe_mul, Ideal.div_coe (mul_ne_zero hs hl), one_div]

variable (m : (ℓ : Loc nD τ sig) → Buf (Elt Ideal) ℓ) (ρ : Dev nD → PrngReg) (c : Dev nD)

/-- The output weight of the even layer. -/
def Wo : M 4096 4096 := shapeCast S4096x4096 (m (c.tc.loc main_arg3)) shapeCasts_S1x4096x4096_S4096x4096
/-- The input weight of the odd layer. -/
def Wi : M 4096 16384 := shapeCast S4096x16384 (m (c.tc.loc main_arg5)) shapeCasts_S1x4096x16384_S4096x16384
/-- The rows between the layers. -/
def X : M 128 4096 := fun i =>
  mm (m (c.tc.loc main_arg1)) (fun j : (⟨2, ![2048, 4096]⟩ : Shape).Idx => Wo m c (ix2 ⟨(j 0).val, by have : (j 0).val < 2048 := (j 0).isLt; omega⟩ (j 1))) (i 0) (i 1)
  + mm (m (c.tc.loc main_arg2)) (fun j : (⟨2, ![2048, 4096]⟩ : Shape).Idx => Wo m c (ix2 ⟨2048 + (j 0).val, by have : (j 0).val < 2048 := (j 0).isLt; omega⟩ (j 1))) (i 0) (i 1)
  + (shapeCast S128x4096 (m (c.tc.loc main_arg0)) shapeCasts_S8x16x4096_S128x4096 : M 128 4096) i
/-- The normed rows. -/
def N : M 128 4096 := fun i => rms (Ideal.ofBits .f32 0x45800000#32) (X m c) (fun j => (shapeCast S4096 (m (c.tc.loc main_arg4)) shapeCasts_S1x4096_S4096 : FVec Ideal S4096 .f32) (ix1 (j 1))) (i 0) (i 1)
/-- The whole input projection. -/
def D : M 128 16384 := fun i => mm (N m c) (Wi m c) (i 0) (i 1)

theorem top (w : FVec Ideal S4096x4096 .bf16) (x : Fin 2048) (d : Fin 4096) : extractStridedSlice S2048x4096 ![0, 0] w slices_S4096x4096_S2048x4096_0_0 (ix2 x d) = w (ix2 ⟨x, by omega⟩ d) := by
  pointwise
theorem bot (w : FVec Ideal S4096x4096 .bf16) (x : Fin 2048) (d : Fin 4096) : extractStridedSlice S2048x4096 ![2048, 0] w slices_S4096x4096_S2048x4096_2048_0 (ix2 x d) = w (ix2 ⟨2048 + x, by omega⟩ d) := by
  pointwise
theorem row (g : FVec Ideal S4096 .f32) (k : Fin 4096) : shapeCast S1x4096 g shapeCasts_S4096_S1x4096 (ix2 0 k) = g (ix1 k) := by
  pointwise

theorem v2 : V1 m ρ c main_v2 = m (c.tc.loc main_arg1) := by
  show StableHlo.after hostOps0 (W0 m ρ c) main_v2 = _
  after_results <;> rfl
theorem v4 : V1 m ρ c main_v4 = m (c.tc.loc main_arg2) := by
  show StableHlo.after hostOps0 (W0 m ρ c) main_v4 = _
  after_results <;> rfl
theorem v3 : V1 m ρ c main_v3 = extractStridedSlice S2048x4096 ![0, 0] (Wo m c : FVec Ideal S4096x4096 .bf16) slices_S4096x4096_S2048x4096_0_0 := by
  show StableHlo.after hostOps0 (W0 m ρ c) main_v3 = _
  after_results <;> rfl
theorem v5 : V1 m ρ c main_v5 = extractStridedSlice S2048x4096 ![2048, 0] (Wo m c : FVec Ideal S4096x4096 .bf16) slices_S4096x4096_S2048x4096_2048_0 := by
  show StableHlo.after hostOps0 (W0 m ρ c) main_v5 = _
  after_results <;> rfl
theorem v6 : V1 m ρ c main_v6 = shapeCast S128x4096 (m (c.tc.loc main_arg0)) shapeCasts_S8x16x4096_S128x4096 := by
  show StableHlo.after hostOps0 (W0 m ρ c) main_v6 = _
  after_results <;> rfl

theorem w7 : W2 m ρ c (Proc.devRef .tc main_v7) = X m c := by
  refine (W2_arr m ρ c 5).trans ((R0.arr5 _ c).trans ?_)
  unfold R0.G5 X
  rw [v2, v3, v4, v5, v6]
  exact funext fun i => congrArg (· + _) (congrArg₂ (· + ·) (mm_congr (fun _ => rfl) (fun x => top _ x _)) (mm_congr (fun _ => rfl) (fun x => bot _ x _)))

theorem v7 : V3 m ρ c main_v7 = X m c := (W3_of m ρ c main_v7 (by decide)).trans (w7 m ρ c)

theorem v9 : V3 m ρ c main_v9 = Wi m c := by
  refine Eq.trans (b := shapeCast S4096x16384 (W2 m ρ c (Proc.devRef .tc main_arg5)) shapeCasts_S1x4096x16384_S4096x16384) ?_ ?_
  · show StableHlo.after hostOps1 (W2 m ρ c) main_v9 = _
    after_results <;> rfl
  · rw [W2_args m ρ c main_arg5 (by decide)]; rfl

theorem v11 (k : Fin 4096) : V3 m ρ c main_v11 (ix2 0 k) = (shapeCast S4096 (m (c.tc.loc main_arg4)) shapeCasts_S1x4096_S4096 : FVec Ideal S4096 .f32) (ix1 k) := by
  have e : V3 m ρ c main_v11 = shapeCast S1x4096 (shapeCast S4096 (m (c.tc.loc main_arg4)) shapeCasts_S1x4096_S4096 : FVec Ideal S4096 .f32) shapeCasts_S4096_S1x4096 := by
    refine Eq.trans (b := shapeCast S1x4096 (shapeCast S4096 (W2 m ρ c (Proc.devRef .tc main_arg4)) shapeCasts_S1x4096_S4096 : FVec Ideal S4096 .f32) shapeCasts_S4096_S1x4096) ?_ ?_
    · show StableHlo.after hostOps1 (W2 m ρ c) main_v11 = _
      after_results <;> rfl
    · rw [W2_args m ρ c main_arg4 (by decide)]
  rw [e]
  exact row _ k

theorem v12 : W4 m ρ c (Proc.devRef .tc main_v12) = N m c := by
  refine (W4_arr m ρ c 2).trans ((R1.arr2 _ c).trans ?_)
  unfold R1.G2 N
  exact funext fun i => rms_congr (fun k => congrFun (v7 m ρ c) _) (v11 m ρ c _)

theorem n5 : V5 m ρ c main_v12 = N m c := (W5_of m ρ c main_v12 (by decide)).trans (v12 m ρ c)
theorem n6 : V6 m ρ c main_v12 = N m c := (W6_of m ρ c main_v12 (by decide)).trans (n5 m ρ c)
theorem k4 : V4 m ρ c main_v9 = Wi m c := (W4_of m ρ c main_v9 (by decide)).trans (v9 m ρ c)
theorem k5 : V5 m ρ c main_v9 = Wi m c := (W5_of m ρ c main_v9 (by decide)).trans (k4 m ρ c)
theorem k6 : V6 m ρ c main_v9 = Wi m c := (W6_of m ρ c main_v9 (by decide)).trans (k5 m ρ c)

/-- The five results. -/
theorem o7 : W7 m ρ c (Proc.devRef .tc main_v7) = X m c :=
  (W7_of m ρ c main_v7 (by decide)).trans ((W6_of m ρ c main_v7 (by decide)).trans ((W5_of m ρ c main_v7 (by decide)).trans ((W4_of m ρ c main_v7 (by decide)).trans (v7 m ρ c))))
theorem o13 : W7 m ρ c (Proc.devRef .tc main_v13) = fun i => D m c (ix2 (i 0) ⟨0 + (i 1).val, by have : (i 1).val < 4096 := (i 1).isLt; omega⟩) * (Named.named (F := Ideal) κ "q_scale" (φ := .f32) 0x3E0293EE#32 : EReal) := by
  refine (W7_of m ρ c main_v13 (by decide)).trans ((W6_of m ρ c main_v13 (by decide)).trans ((W5_arr m ρ c 2).trans ((R2.arr2 _ c).trans ?_)))
  unfold R2.G2
  rw [show V4 m ρ c main_v12 = _ from v12 m ρ c, k4]
  rfl
theorem o14 : W7 m ρ c (Proc.devRef .tc main_v14_0) = fun i => D m c (ix2 (i 0) ⟨4096 + (i 1).val, by have : (i 1).val < 8192 := (i 1).isLt; omega⟩) := by
  refine (W7_of m ρ c main_v14_0 (by decide)).trans ((W6_arr m ρ c 2).trans ((R3.arr2 _ c).trans ?_))
  unfold R3.G2
  rw [n5, k5]
  rfl
theorem o14' : W7 m ρ c (Proc.devRef .tc main_v14_1) = fun i => D m c (ix2 (i 0) ⟨4096 + (i 1).val, by have : (i 1).val < 8192 := (i 1).isLt; omega⟩) := by
  refine (W7_of m ρ c main_v14_1 (by decide)).trans ((W6_arr m ρ c 3).trans ((R3.arr3 _ c).trans ?_))
  unfold R3.G3
  rw [n5, k5]
  rfl
theorem o15 : W7 m ρ c (Proc.devRef .tc main_v15) = fun i => D m c (ix2 (i 0) ⟨12288 + (i 1).val, by have : (i 1).val < 4096 := (i 1).isLt; omega⟩) := by
  refine (W7_arr m ρ c 2).trans ((R4.arr2 _ c).trans ?_)
  unfold R4.G2
  rw [n6, k6]
  rfl

end Cert.SMid

end
-- ==== Proof.SMidFin.lean ====
module

public import proofs.«01_k».proof.Defs
public import proofs.«01_k».proof.Proof.SMidEq

/-! For the sample: between the layers: what the kernels leave is what the reference leaves. -/

@[expose] public section

set_option maxRecDepth 16384

noncomputable section

namespace Cert.SMid

open Idealize.ShloMosaic Idealize.ShloMosaic.TcCoe Idealize.SL.Sem
open Cert.Mat

section Ref
open Cert.SampleMiddleReferenceIdeal Cert.SampleMiddleReferenceIdeal.Gen

/-- The reference's rows between the layers. -/
def RX (a0 : FVec Ideal S8x16x4096 .f32) (a1 a2 : FVec Ideal S128x2048 .f32) (a3 : FVec Ideal S1x4096x4096 .f32) : FVec Ideal S128x4096 .f32 :=
  addf (shapeCast _ a0 shapeCasts_S8x16x4096_S128x4096) (Host.dotGeneral dot_S128x4096_S4096x4096_S128x4096_1_0_0_1_n_n none (concatenate S128x4096 1 [⟨S128x2048, a1⟩, ⟨S128x2048, a2⟩] concatenates_S128x2048_S128x2048_S128x4096_d1) (shapeCast _ a3 shapeCasts_S1x4096x4096_S4096x4096))
/-- The reference's normed rows. -/
def RN (X : FVec Ideal S128x4096 .f32) (g : FVec Ideal S4096 .f32) : FVec Ideal S128x4096 .f32 :=
  mulf (mulf X (broadcastInDim S128x4096 ![0, 1] bcast_S128x1_S128x4096_0_1 (Host.rsqrt (addf (Host.divf (broadcastInDim S128x1 ![0] bcast_S128_S128x1_0 (Host.reduceAdd (mulf X X) (constant S_ .f32 0x00000000#32) reducesTo_S128x4096_S128_d1 h_S_)) (broadcastInDim S128x1 ![] bcast_S_S128x1 (constant S_ .f32 0x45800000#32))) (broadcastInDim S128x1 ![] bcast_S_S128x1 (constant S_ .f32 0x358637BD#32)))))) (broadcastInDim S128x4096 ![0, 1] bcast_S1x4096_S128x4096_0_1 (broadcastInDim S1x4096 ![1] bcast_S4096_S1x4096_1 g))
/-- The reference's whole input projection. -/
def RD (a0 : FVec Ideal S8x16x4096 .f32) (a1 a2 : FVec Ideal S128x2048 .f32) (a3 : FVec Ideal S1x4096x4096 .f32) (a4 : FVec Ideal S1x4096 .f32) (a5 : FVec Ideal S1x4096x16384 .f32) : FVec Ideal S128x16384 .f32 :=
  Host.dotGeneral dot_S128x4096_S4096x16384_S128x16384_1_0_0_1_n_n none (RN (RX a0 a1 a2 a3) (shapeCast _ a4 shapeCasts_S1x4096_S4096)) (shapeCast _ a5 shapeCasts_S1x4096x16384_S4096x16384)
/-- The reference's keys and values. -/
def RKV (D : FVec Ideal S128x16384 .f32) : FVec Ideal S128x8192 .f32 :=
  concatenate S128x8192 1 [⟨S128x4096, extractStridedSlice S128x4096 ![0, 4096] D slices_S128x16384_S128x4096_0_4096⟩, ⟨S128x4096, extractStridedSlice S128x4096 ![0, 8192] D slices_S128x16384_S128x4096_0_8192⟩] concatenates_S128x4096_S128x4096_S128x8192_d1
/-- The reference's queries. -/
def RQ (D : FVec Ideal S128x16384 .f32) : FVec Ideal S128x4096 .bf16 :=
  truncf .bf16 (Host.divf (extractStridedSlice S128x4096 ![0, 0] D slices_S128x16384_S128x4096_0_0) (broadcastInDim S128x4096 ![] bcast_S_S128x4096 (mulf (Host.sqrt (constant S_ .f32 0x43000000#32)) (Host.log (constant S_ .f32 0x40000000#32))))) bitsLt_bf16_f32

theorem rkv (D : FVec Ideal S128x16384 .f32) : RKV D = fun i => D (ix2 (i 0) ⟨4096 + (i 1).val, by have : (i 1).val < 8192 := (i 1).isLt; omega⟩) := by
  funext i
  obtain ⟨r, d, rfl⟩ : ∃ (r : Fin 128) (d : Fin 8192), i = ix2 r d := ⟨i 0, i 1, eq_ix2 i⟩
  exact slice12 D r d
theorem rq (D : FVec Ideal S128x16384 .f32) : RQ D = fun i => D (ix2 (i 0) ⟨0 + (i 1).val, by have : (i 1).val < 4096 := (i 1).isLt; omega⟩) * (Named.named (F := Ideal) Cert.SampleMiddleIdeal.κ "q_scale" (φ := .f32) 0x3E0293EE#32 : EReal) := by
  funext i
  obtain ⟨r, d, rfl⟩ : ∃ (r : Fin 128) (d : Fin 4096), i = ix2 r d := ⟨i 0, i 1, eq_ix2 i⟩
  refine (hscale _ _).trans ((scale _).trans ?_)
  exact congrArg (· * _) (slice0 D r d)
theorem rg (D : FVec Ideal S128x16384 .f32) : extractStridedSlice S128x4096 ![0, 12288] D slices_S128x16384_S128x4096_0_12288 = fun i => D (ix2 (i 0) ⟨12288 + (i 1).val, by have : (i 1).val < 4096 := (i 1).isLt; omega⟩) := by
  funext i
  obtain ⟨r, d, rfl⟩ : ∃ (r : Fin 128) (d : Fin 4096), i = ix2 r d := ⟨i 0, i 1, eq_ix2 i⟩
  exact slice3 D r d
end Ref

theorem frame_ref (m' : (ℓ : Loc Cert.SampleMiddleReferenceIdeal.nD Cert.SampleMiddleReferenceIdeal.τ Cert.SampleMiddleReferenceIdeal.sig) → Buf (Elt Ideal) ℓ) (g' : Dev Cert.SampleMiddleReferenceIdeal.nD → PrngReg) :
    θ_run (Cert.SampleMiddleReferenceIdeal.defs (F := Ideal)) (onTc (τ := Cert.SampleMiddleReferenceIdeal.τ) (Cert.SampleMiddleReferenceIdeal.main (F := Ideal))) ⟨m', fun _ => 0, g'⟩ (fun r => (∀ c : Dev Cert.SampleMiddleReferenceIdeal.nD,
      r.2.mem ((c.tc : Thread Cert.SampleMiddleReferenceIdeal.nD Cert.SampleMiddleReferenceIdeal.τ).loc Cert.SampleMiddleReferenceIdeal.main_arg0) = m' ((c.tc : Thread Cert.SampleMiddleReferenceIdeal.nD Cert.SampleMiddleReferenceIdeal.τ).loc Cert.SampleMiddleReferenceIdeal.main_arg0)
      ∧ r.2.mem ((c.tc : Thread Cert.SampleMiddleReferenceIdeal.nD Cert.SampleMiddleReferenceIdeal.τ).loc Cert.SampleMiddleReferenceIdeal.main_arg1) = m' ((c.tc : Thread Cert.SampleMiddleReferenceIdeal.nD Cert.SampleMiddleReferenceIdeal.τ).loc Cert.SampleMiddleReferenceIdeal.main_arg1)
      ∧ r.2.mem ((c.tc : Thread Cert.SampleMiddleReferenceIdeal.nD Cert.SampleMiddleReferenceIdeal.τ).loc Cert.SampleMiddleReferenceIdeal.main_arg2) = m' ((c.tc : Thread Cert.SampleMiddleReferenceIdeal.nD Cert.SampleMiddleReferenceIdeal.τ).loc Cert.SampleMiddleReferenceIdeal.main_arg2)
      ∧ r.2.mem ((c.tc : Thread Cert.SampleMiddleReferenceIdeal.nD Cert.SampleMiddleReferenceIdeal.τ).loc Cert.SampleMiddleReferenceIdeal.main_arg3) = m' ((c.tc : Thread Cert.SampleMiddleReferenceIdeal.nD Cert.SampleMiddleReferenceIdeal.τ).loc Cert.SampleMiddleReferenceIdeal.main_arg3)
      ∧ r.2.mem ((c.tc : Thread Cert.SampleMiddleReferenceIdeal.nD Cert.SampleMiddleReferenceIdeal.τ).loc Cert.SampleMiddleReferenceIdeal.main_arg4) = m' ((c.tc : Thread Cert.SampleMiddleReferenceIdeal.nD Cert.SampleMiddleReferenceIdeal.τ).loc Cert.SampleMiddleReferenceIdeal.main_arg4)
      ∧ r.2.mem ((c.tc : Thread Cert.SampleMiddleReferenceIdeal.nD Cert.SampleMiddleReferenceIdeal.τ).loc Cert.SampleMiddleReferenceIdeal.main_arg5) = m' ((c.tc : Thread Cert.SampleMiddleReferenceIdeal.nD Cert.SampleMiddleReferenceIdeal.τ).loc Cert.SampleMiddleReferenceIdeal.main_arg5))
      ∧ r.2.sem = fun _ => 0) :=
  (θ_run _ _ _).mono (fun r h => ⟨fun c => (h c).2.2.2.2.2, sem_eq_zero_of_no_sems (by decide) r.2⟩) (Cert.SampleMiddleReferenceIdeal.Value.run m' g')

open Cert.SampleMiddleIdeal Cert.SampleMiddleIdeal.Gen

theorem rx (m : (ℓ : Loc nD τ sig) → Buf (Elt Ideal) ℓ) (c : Dev nD) : RX (m (c.tc.loc main_arg0)) (m (c.tc.loc main_arg1)) (m (c.tc.loc main_arg2)) (m (c.tc.loc main_arg3)) = X m c := by
  funext i
  obtain ⟨r, d, rfl⟩ : ∃ (r : Fin 128) (d : Fin 4096), i = ix2 r d := ⟨i 0, i 1, eq_ix2 i⟩
  unfold RX X
  rw [hdot]
  exact (add_comm _ _).trans (congrArg (· + _) (mm_halves _ _ _ _ r d (catL _ _ r) (catR _ _ r)))
theorem rd (m : (ℓ : Loc nD τ sig) → Buf (Elt Ideal) ℓ) (c : Dev nD) :
    RD (m (c.tc.loc main_arg0)) (m (c.tc.loc main_arg1)) (m (c.tc.loc main_arg2)) (m (c.tc.loc main_arg3)) (m (c.tc.loc main_arg4)) (m (c.tc.loc main_arg5)) = D m c := by
  unfold RD RN
  rw [rx, hrms, hdot']
  rfl

theorem algebraic : Cert.algebraic_SampleMiddleIdeal_SampleMiddleReferenceIdeal (hSampleMiddleIdeal := Cert.SampleMiddleIdeal.Gen.facts) (hSampleMiddleReferenceIdeal := Cert.SampleMiddleReferenceIdeal.Gen.facts) := by
  intro m g m' g' _ hm
  refine ⟨fun c => W7 m g c (Proc.devRef .tc main_v7), fun c => W7 m g c (Proc.devRef .tc main_v13), fun c => W7 m g c (Proc.devRef .tc main_v14_0),
    fun c => W7 m g c (Proc.devRef .tc main_v14_1), fun c => W7 m g c (Proc.devRef .tc main_v15), ?_, ?_⟩
  · refine (θ_run _ _ _).mono (fun r h c => ⟨h c main_v7 (by decide), h c main_v13 (by decide), h c main_v14_0 (by decide), h c main_v14_1 (by decide), h c main_v15 (by decide), ?_⟩) (run m g)
    exact ⟨(h c main_arg0 (by decide)).trans (W7_main_arg0 m g c), (h c main_arg1 (by decide)).trans (W7_main_arg1 m g c),
      (h c main_arg2 (by decide)).trans (W7_main_arg2 m g c), (h c main_arg3 (by decide)).trans (W7_main_arg3 m g c),
      (h c main_arg4 (by decide)).trans (W7_main_arg4 m g c), (h c main_arg5 (by decide)).trans (W7_main_arg5 m g c)⟩
  · refine (θ_run _ _ _).mono (fun r h c => ?_) (Cert.SampleMiddleReferenceIdeal.Value.run m' g')
    obtain ⟨h0, h1, h2, h3, h4, ha⟩ := h c
    obtain ⟨a0, a1, a2, a3, a4, a5⟩ := hm c
    have d := rd m c
    rw [← a0, ← a1, ← a2, ← a3, ← a4, ← a5] at d
    have x := rx m c
    rw [← a0, ← a1, ← a2, ← a3] at x
    refine ⟨h0.trans (Eq.trans x (o7 m g c).symm), h1.trans ?_, h2.trans ?_, h3.trans ?_, h4.trans ?_, ha⟩
    · exact (rq _).trans ((congrArg (fun (D : M 128 16384) => (fun i => D (ix2 (i 0) ⟨0 + (i 1).val, by have : (i 1).val < 4096 := (i 1).isLt; omega⟩) * _ : M 128 4096)) d).trans (o13 m g c).symm)
    · exact (rkv _).trans ((congrArg (fun (D : M 128 16384) => (fun i => D (ix2 (i 0) ⟨4096 + (i 1).val, by have : (i 1).val < 8192 := (i 1).isLt; omega⟩) : M 128 8192)) d).trans (o14 m g c).symm)
    · exact (rkv _).trans ((congrArg (fun (D : M 128 16384) => (fun i => D (ix2 (i 0) ⟨4096 + (i 1).val, by have : (i 1).val < 8192 := (i 1).isLt; omega⟩) : M 128 8192)) d).trans (o14' m g c).symm)
    · exact (rg _).trans ((congrArg (fun (D : M 128 16384) => (fun i => D (ix2 (i 0) ⟨12288 + (i 1).val, by have : (i 1).val < 4096 := (i 1).isLt; omega⟩) : M 128 4096)) d).trans (o15 m g c).symm)

end Cert.SMid

end
-- ==== Proof.SFinVal.lean ====
module

public import proofs.«01_k».proof.Proof.Mat
public import proofs.«01_k».proof.Proof.Gen.SampleFinalIdeal.Frame

/-! For the sample: the arrays the regions of the last projection leave. -/

@[expose] public section

set_option maxRecDepth 16384

noncomputable section

namespace Cert.SFin

open Idealize.ShloMosaic Idealize.ShloMosaic.TcCoe Idealize.SL.Sem
open Cert.SampleFinalIdeal Cert.SampleFinalIdeal.Gen Cert.Mat
open Idealize.ShloMosaic.Pipeline (Dat)

variable (V : (c : Dev nD) → (b : Ref sig .tc) → Buf (Elt Ideal) ((c : Thread nD τ).loc b)) (c : Dev nD)

/-! The output projection of the odd layer, its residual added. -/

namespace R0

theorem idx : ∀ t : Fin cfg0.N, win0_0.index t = ![t.val / 4, 0]
    ∧ win0_1.index t = ![0, t.val % 4]
    ∧ win0_2.index t = ![t.val / 4, t.val % 4]
    ∧ win0_3.index t = ![t.val / 4, t.val % 4] :=
  (by decide +kernel : ∀ t : Fin grid0.N, _)

theorem pt (t : Fin cfg0.N) : t.val < 4 := lt_of_lt_of_eq t.isLt N_0

theorem b0 (t : Fin cfg0.N) (a : Fin 128) (d : Fin 4096) : iblk0 V c 0 t (ix2 a d) = V c main_v0 (ix2 ⟨t.val / 4 * 128 + a, by have := pt t; omega⟩ d) := by
  blk_point [iblk0, idx t]

theorem b1 (t : Fin cfg0.N) (a : Fin 4096) (d : Fin 1024) : iblk0 V c 1 t (ix2 a d) = V c main_v2 (ix2 a ⟨t.val % 4 * 1024 + d, by have := pt t; omega⟩) := by
  blk_point [iblk0, idx t]

theorem b2 (t : Fin cfg0.N) (a : Fin 128) (d : Fin 1024) : iblk0 V c 2 t (ix2 a d) = V c main_arg0 (ix2 ⟨t.val / 4 * 128 + a, by have := pt t; omega⟩ ⟨t.val % 4 * 1024 + d, by have := pt t; omega⟩) := by
  blk_point [iblk0, idx t]

theorem pay3 (x0 : Vec Ideal S128x4096 .bf16) (x1 : Vec Ideal S4096x1024 .bf16) (x2 : Vec Ideal S128x1024 .f32) (r : Fin 128) (d : Fin 1024) :
    k0_pay1 x0 x1 x2 (ix2 r d) = mm x0 x1 r d + x2 (ix2 r d) := by
  unfold k0_pay1
  pointwise [mm]

/-- The array it leaves. -/
def G3 : M 128 4096 := fun i => mm (V c main_v0) (V c main_v2) (i 0) (i 1) + V c main_arg0 i

theorem arr3 : (dat0 V c).arrAt 3 cfg0.N = G3 V c := by
  refine (dat0 V c).arrAt_eq_of_covers 3 _ (by decide +kernel) fun t _ y => ?_
  blk_simp
  rw [after0_3]
  unfold out0_3
  canon_tiles x h
  obtain ⟨r, d, rfl⟩ : ∃ (r : Fin 128) (d : Fin 1024), x = ix2 r d := ⟨x 0, x 1, eq_ix2 x⟩
  have e : (win0_3.blk t).view.emb y = ix2 ⟨t.val / 4 * 128 + r, by have := pt t; omega⟩ ⟨t.val % 4 * 1024 + d, by have := pt t; omega⟩ := by
    blk_ext [idx t, h0, h1]
  rw [e, ld_all, ld_all, ld_all]
  refine (pay3 _ _ _ r d).trans ?_
  exact congrArg₂ (· + ·) (mm_congr (fun x => b0 V c t _ x) (fun x => (b1 V c t x _))) (b2 V c t _ _)

end R0

/-! The last norm. -/

namespace R1

theorem idx : ∀ t : Fin cfg1.N, win1_0.index t = ![t.val, 0]
    ∧ win1_1.index t = ![0, 0]
    ∧ win1_2.index t = ![t.val, 0] :=
  (by decide +kernel : ∀ t : Fin grid1.N, _)

theorem pt (t : Fin cfg1.N) : t.val < 1 := lt_of_lt_of_eq t.isLt N_1

theorem b0 (t : Fin cfg1.N) (a : Fin 128) (d : Fin 4096) : iblk1 V c 0 t (ix2 a d) = V c main_v3 (ix2 ⟨t.val * 128 + a, by have := pt t; omega⟩ d) := by
  blk_point [iblk1, idx t]

theorem b1 (t : Fin cfg1.N) (d : Fin 4096) : iblk1 V c 1 t (ix2 0 d) = V c main_v4 (ix2 0 d) := by
  blk_point [iblk1, idx t]

theorem pay2 (x0 : Vec Ideal S128x4096 .f32) (x1 : Vec Ideal S1x4096 .f32) (r : Fin 128) (d : Fin 4096) :
    k1_pay1 x0 x1 (ix2 r d) = rms (Ideal.ofBits .f32 0x45800000#32) x0 x1 r d := by
  unfold k1_pay1
  pointwise [rms]

/-- The array it leaves. -/
def G2 : M 128 4096 := fun i => rms (Ideal.ofBits .f32 0x45800000#32) (V c main_v3) (V c main_v4) (i 0) (i 1)

theorem arr2 : (dat1 V c).arrAt 2 cfg1.N = G2 V c := by
  refine (dat1 V c).arrAt_eq_of_covers 2 _ (by decide +kernel) fun t _ y => ?_
  blk_simp
  rw [after1_2]
  unfold out1_2
  canon_tiles x h
  obtain ⟨r, d, rfl⟩ : ∃ (r : Fin 128) (d : Fin 4096), x = ix2 r d := ⟨x 0, x 1, eq_ix2 x⟩
  have e : (win1_2.blk t).view.emb y = ix2 ⟨t.val * 128 + r, by have := pt t; omega⟩ d := by
    blk_ext [idx t, h0, h1]
  rw [e, ld_all, ld_all]
  refine (pay2 _ _ r d).trans ?_
  exact rms_congr (fun x => b0 V c t _ x) (b1 V c t _)

end R1

end Cert.SFin

end
-- ==== Proof.SFinRun.lean ====
module

public import proofs.«01_k».proof.Proof.Gen.SampleFinalIdeal.Frame

/-! The run, with every array it leaves: the launch of the regions in order, read at the end. -/

@[expose] public section

set_option maxRecDepth 16384

noncomputable section

namespace Cert.SFin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SampleFinalIdeal Cert.SampleFinalIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates with each of its arrays as the last segment leaves it. -/
theorem run : θ_run defs (onTc (τ := τ) (main (F := F))) ⟨m, fun _ => 0, ρ⟩ (fun r => ∀ (c : Dev nD) (b : Ref sig .tc),
      ¬ (Proc.devRef .tc b : DevRef τ sig).isScoped → r.2.mem ((c.tc : Thread nD τ).loc b) = W4 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c b hb => h c _ (mem_uc b hb))

end Cert.SFin

end
-- ==== Proof.SFinEq.lean ====
module

public import proofs.«01_k».proof.Defs
public import proofs.«01_k».proof.Proof.SFinVal
public import proofs.«01_k».proof.Proof.SFinRun
public import proofs.«01_k».proof.Proof.Gen.SampleFinalReferenceIdeal.Run

/-! For the sample: the last projection: what the kernel leaves is what the reference leaves. -/

@[expose] public section

set_option maxRecDepth 16384

noncomputable section

namespace Cert.SFin

open Idealize.ShloMosaic Idealize.ShloMosaic.TcCoe Idealize.SL.Sem
open Cert.Mat

section Ref
open Cert.SampleFinalReferenceIdeal Cert.SampleFinalReferenceIdeal.Gen

theorem hdot (a : Vec Ideal S128x4096 .f32) (w : Vec Ideal S4096x4096 .f32) :
    Host.dotGeneral (F := Ideal) (φ₁ := .f32) (φ₂ := .f32) dot_S128x4096_S4096x4096_S128x4096_1_0_0_1_n_n none a w = fun i => mm a w (i 0) (i 1) := by
  funext i
  obtain ⟨r, d, rfl⟩ : ∃ (r : Fin 128) (d : Fin 4096), i = ix2 r d := ⟨i 0, i 1, eq_ix2 i⟩
  pointwise [mm]

theorem hrms (X : FVec Ideal S128x4096 .f32) (g : FVec Ideal S4096 .f32) :
    mulf (mulf X (broadcastInDim S128x4096 ![0, 1] bcast_S128x1_S128x4096_0_1 (Host.rsqrt (addf (Host.divf (broadcastInDim S128x1 ![0] bcast_S128_S128x1_0 (Host.reduceAdd (mulf X X) (constant S_ .f32 0x00000000#32) reducesTo_S128x4096_S128_d1 h_S_)) (broadcastInDim S128x1 ![] bcast_S_S128x1 (constant S_ .f32 0x45800000#32))) (broadcastInDim S128x1 ![] bcast_S_S128x1 (constant S_ .f32 0x358637BD#32)))))) (broadcastInDim S128x4096 ![0, 1] bcast_S1x4096_S128x4096_0_1 (broadcastInDim S1x4096 ![1] bcast_S4096_S1x4096_1 g))
      = fun i => rms (Ideal.ofBits .f32 0x45800000#32) X (fun j => g (ix1 (j 1))) (i 0) (i 1) := by
  funext i
  obtain ⟨r, d, rfl⟩ : ∃ (r : Fin 128) (d : Fin 4096), i = ix2 r d := ⟨i 0, i 1, eq_ix2 i⟩
  pointwise [rms]

end Ref

open Cert.SampleFinalIdeal Cert.SampleFinalIdeal.Gen

variable (m : (ℓ : Loc nD τ sig) → Buf (Elt Ideal) ℓ) (ρ : Dev nD → PrngReg) (c : Dev nD)

/-- The rows before the last norm. -/
def X : M 128 4096 := fun i => mm (m (c.tc.loc main_arg1)) (shapeCast S4096x4096 (m (c.tc.loc main_arg2)) shapeCasts_S1x4096x4096_S4096x4096) (i 0) (i 1) + m (c.tc.loc main_arg0) i

theorem v0 : V1 m ρ c main_v0 = m (c.tc.loc main_arg1) := by
  show StableHlo.after hostOps0 (W0 m ρ c) main_v0 = _
  after_results <;> rfl
theorem v2 : V1 m ρ c main_v2 = shapeCast S4096x4096 (m (c.tc.loc main_arg2)) shapeCasts_S1x4096x4096_S4096x4096 := by
  show StableHlo.after hostOps0 (W0 m ρ c) main_v2 = _
  after_results <;> rfl
theorem v3 : V3 m ρ c main_v3 = X m c := by
  refine (W3_of m ρ c main_v3 (by decide)).trans ((W2_arr m ρ c 3).trans ((R0.arr3 _ c).trans ?_))
  unfold R0.G3 X
  rw [v0, v2]
  exact funext fun i => congrArg (_ + ·) (congrFun (W1_args m ρ c main_arg0 (by decide)) i)
theorem row (g : Vec Ideal S4096 .f32) (k : Fin 4096) : shapeCast S1x4096 g shapeCasts_S4096_S1x4096 (ix2 0 k) = g (ix1 k) := by
  pointwise
theorem v4 (k : Fin 4096) : V3 m ρ c main_v4 (ix2 0 k) = m (c.tc.loc main_arg3) (ix1 k) := by
  have e : V3 m ρ c main_v4 = shapeCast S1x4096 (m (c.tc.loc main_arg3)) shapeCasts_S4096_S1x4096 := by
    refine Eq.trans (b := shapeCast S1x4096 (W2 m ρ c (Proc.devRef .tc main_arg3)) shapeCasts_S4096_S1x4096) ?_ ?_
    · show StableHlo.after hostOps1 (W2 m ρ c) main_v4 = _
      after_results <;> rfl
    · rw [W2_args m ρ c main_arg3 (by decide)]
  rw [e]
  exact row _ k
theorem v5 : W4 m ρ c (Proc.devRef .tc main_v5) = fun i => rms (Ideal.ofBits .f32 0x45800000#32) (X m c) (fun j => m (c.tc.loc main_arg3) (ix1 (j 1))) (i 0) (i 1) := by
  refine (W4_arr m ρ c 2).trans ((R1.arr2 _ c).trans ?_)
  unfold R1.G2
  exact funext fun i => rms_congr (fun k => congrFun (v3 m ρ c) _) (v4 m ρ c _)

open Cert.SampleFinalReferenceIdeal in
theorem frame_ref (m' : (ℓ : Loc Cert.SampleFinalReferenceIdeal.nD Cert.SampleFinalReferenceIdeal.τ Cert.SampleFinalReferenceIdeal.sig) → Buf (Elt Ideal) ℓ) (g' : Dev Cert.SampleFinalReferenceIdeal.nD → PrngReg) :
    θ_run (Cert.SampleFinalReferenceIdeal.defs (F := Ideal)) (onTc (τ := Cert.SampleFinalReferenceIdeal.τ) (Cert.SampleFinalReferenceIdeal.main (F := Ideal))) ⟨m', fun _ => 0, g'⟩ (fun r => (∀ c : Dev Cert.SampleFinalReferenceIdeal.nD,
      r.2.mem ((c.tc : Thread Cert.SampleFinalReferenceIdeal.nD Cert.SampleFinalReferenceIdeal.τ).loc Cert.SampleFinalReferenceIdeal.main_arg0) = m' ((c.tc : Thread Cert.SampleFinalReferenceIdeal.nD Cert.SampleFinalReferenceIdeal.τ).loc Cert.SampleFinalReferenceIdeal.main_arg0)
      ∧ r.2.mem ((c.tc : Thread Cert.SampleFinalReferenceIdeal.nD Cert.SampleFinalReferenceIdeal.τ).loc Cert.SampleFinalReferenceIdeal.main_arg1) = m' ((c.tc : Thread Cert.SampleFinalReferenceIdeal.nD Cert.SampleFinalReferenceIdeal.τ).loc Cert.SampleFinalReferenceIdeal.main_arg1)
      ∧ r.2.mem ((c.tc : Thread Cert.SampleFinalReferenceIdeal.nD Cert.SampleFinalReferenceIdeal.τ).loc Cert.SampleFinalReferenceIdeal.main_arg2) = m' ((c.tc : Thread Cert.SampleFinalReferenceIdeal.nD Cert.SampleFinalReferenceIdeal.τ).loc Cert.SampleFinalReferenceIdeal.main_arg2)
      ∧ r.2.mem ((c.tc : Thread Cert.SampleFinalReferenceIdeal.nD Cert.SampleFinalReferenceIdeal.τ).loc Cert.SampleFinalReferenceIdeal.main_arg3) = m' ((c.tc : Thread Cert.SampleFinalReferenceIdeal.nD Cert.SampleFinalReferenceIdeal.τ).loc Cert.SampleFinalReferenceIdeal.main_arg3))
      ∧ r.2.sem = fun _ => 0) :=
  (θ_run _ _ _).mono (fun r h => ⟨fun c => (h c).2, sem_eq_zero_of_no_sems (by decide) r.2⟩) (Cert.SampleFinalReferenceIdeal.Value.run m' g')

theorem algebraic : Cert.algebraic_SampleFinalIdeal_SampleFinalReferenceIdeal (hSampleFinalIdeal := Cert.SampleFinalIdeal.Gen.facts) (hSampleFinalReferenceIdeal := Cert.SampleFinalReferenceIdeal.Gen.facts) := by
  intro m g m' g' _ hm
  refine ⟨fun c => W4 m g c (Proc.devRef .tc main_v5), ?_, ?_⟩
  · refine (θ_run _ _ _).mono (fun r h c => ⟨h c main_v5 (by decide), ?_⟩) (run m g)
    exact ⟨(h c main_arg0 (by decide)).trans (W4_main_arg0 m g c), (h c main_arg1 (by decide)).trans (W4_main_arg1 m g c),
      (h c main_arg2 (by decide)).trans (W4_main_arg2 m g c), (h c main_arg3 (by decide)).trans (W4_main_arg3 m g c)⟩
  · refine (θ_run _ _ _).mono (fun r h c => ⟨(h c).1.trans ?_, (h c).2⟩) (Cert.SampleFinalReferenceIdeal.Value.run m' g')
    obtain ⟨a0, a1, a2, a3⟩ := hm c
    refine (hrms _ _).trans ((v5 m g c).trans ?_).symm
    rw [a3, a0, a1, a2, hdot]
    refine funext fun i => rms_congr (fun k => ?_) rfl
    exact add_comm _ _

end Cert.SFin

end
-- ==== Proof.RowsVal.lean ====
module

public import proofs.«01_k».proof.Proof.Gen.RowsIdeal.Value
public import proofs.«01_k».proof.Proof.Mat

/-! The packing of the cached keys and values: what every grid point writes. -/

@[expose] public section

set_option maxRecDepth 16384

noncomputable section

namespace Cert.Rws

open Idealize.ShloMosaic Idealize.ShloMosaic.TcCoe Idealize.SL.Sem
open Cert.RowsIdeal Cert.RowsIdeal.Gen

theorem idx : ∀ t : Fin cfg0.N, win0_0.index t = ![t.val / 9 * 4 + min (t.val % 9 - 4) 3, 0, 0]
    ∧ win0_1.index t = ![t.val / 9, 0, 0]
    ∧ win0_2.index t = ![t.val / 9, t.val % 9, 0] :=
  (by decide +kernel : ∀ t : Fin grid0.N, _)

theorem pt (t : Fin cfg0.N) : t.val < 72 := lt_of_lt_of_eq t.isLt N_0

variable (m : (ℓ : Loc nD τ sig) → Buf (Elt Ideal) ℓ) (c : Dev nD)

theorem b0 (t : Fin cfg0.N) (h : 4 ≤ t.val % 9 ∧ t.val % 9 ≤ 7) (a : Fin 128) (s : Fin 64) (d : Fin 128) :
    iblk m c 0 t (ix3 a s d) = V m c main_v1 (ix3 ⟨(t.val / 9 * 4 + (t.val % 9 - 4)) * 128 + a, by have := pt t; omega⟩ s d) := by
  have e : min (t.val % 9 - 4) 3 = t.val % 9 - 4 := by omega
  blk_point [iblk, idx t, e]

theorem b1 (t : Fin cfg0.N) (a : Fin 16) (d : Fin 8192) :
    iblk m c 1 t (ix3 0 a d) = V m c main_v2 (ix3 ⟨t.val / 9, by have := pt t; omega⟩ a d) := by
  blk_point [iblk, idx t]

/-- Zero, as the program writes it. -/
def Z : EReal := Ideal.ofBits .bf16 0x0000#16

/-- A packed row's entry, of the cache's rows `X` and the new rows `N`. -/
def G (X : Vec Ideal S4096x64x128 .f32) (N : Vec Ideal S8x16x8192 .bf16) (b : Fin 8) (p : Fin 1152) (w : Fin 8192) : EReal :=
  if p.val < 512 then Z
  else if h : p.val < 1024 then X (ix3 ⟨b.val * 512 + (p.val - 512), by omega⟩ ⟨w.val / 128, by omega⟩ ⟨w.val % 128, by omega⟩)
  else if h' : p.val < 1040 then N (ix3 b ⟨p.val - 1024, by omega⟩ w)
  else Z

theorem pA (x : S1x128x8192.Idx) : k0_pay1 (F := Ideal) x = Z := rfl

theorem pC0 (v : Vec Ideal S1x16x8192 .bf16) (a : Fin 16) (d : Fin 8192) : k0_pay7 v (ix3 0 a d) = v (ix3 0 a d) := by
  pointwise [k0_pay7]

theorem pC1 (x : S1x112x8192.Idx) : k0_pay8 (F := Ideal) x = Z := rfl

/-- A slice of the transposed block, its first axis a unit. -/
theorem pB (k : ℕ) (h : S64x128x128.Slices ![k, 0, 0] S1x128x128) (x0 : Vec Ideal S128x64x128 .f32) (hk : k < 64) (a : Fin 128) (d : Fin 128) :
    shapeCast S1x128x128 (truncf (F := Ideal) .bf16 (shapeCast S128x128 (extractStridedSlice S1x128x128 ![k, 0, 0] (k0_pay9 x0) h) shapeCasts_S1x128x128_S128x128) bitsLt_bf16_f32) shapeCasts_S128x128_S1x128x128 (ix3 0 a d)
      = x0 (ix3 a ⟨k, hk⟩ d) := by
  pointwise [k0_pay9]

theorem ld3 {α : EltTy} {a b e : ℕ} (X : (⟨3, ![a, b, e]⟩ : Shape).Idx → Elt Ideal α)
    (inb : ∀ z, (![0, 0, 0] : Fin 3 → ℕ) z + (⟨3, ![a, b, e]⟩ : Shape).size z ≤ (⟨3, ![a, b, e]⟩ : Shape).size z) :
    View.ld X (Rect.unit (s := ⟨3, ![a, b, e]⟩) ![0, 0, 0] (⟨3, ![a, b, e]⟩ : Shape).size inb) = X :=
  View.ld_unit_zero (funext fun z => by match z with | ⟨0, _⟩ => rfl | ⟨1, _⟩ => rfl | ⟨2, _⟩ => rfl) inb X

theorem pB' (k : ℕ) (h : S64x128x128.Slices ![k, 0, 0] S1x128x128) (x0 : Vec Ideal S128x64x128 .f32) (hk : k < 64) (x : S1x128x128.Idx) (y : S1x128x8192.Idx)
    (h1 : (y 1).val = (x 1).val) (h2 : (y 2).val = k * 128 + (x 2).val) :
    shapeCast S1x128x128 (truncf (F := Ideal) .bf16 (shapeCast S128x128 (extractStridedSlice S1x128x128 ![k, 0, 0] (k0_pay9 x0) h) shapeCasts_S1x128x128_S128x128) bitsLt_bf16_f32) shapeCasts_S128x128_S1x128x128 x
      = x0 (ix3 (y 1) ⟨(y 2).val / 128, by have : (y 2).val < 8192 := (y 2).isLt; omega⟩ ⟨(y 2).val % 128, by omega⟩) := by
  have hx : x = ix3 0 (x 1) (x 2) := by
    funext z
    match z with
    | ⟨0, _⟩ => exact Fin.ext (by have : (x 0).val < 1 := (x 0).isLt; show (x 0).val = 0; omega)
    | ⟨1, _⟩ => rfl
    | ⟨2, _⟩ => rfl
  have hx2 : (x 2).val < 128 := (x 2).isLt
  refine (congrArg _ hx).trans ((pB k h x0 hk (x 1) (x 2)).trans (congrArg x0 ?_))
  funext z
  match z with
  | ⟨0, _⟩ => exact Fin.ext h1.symm
  | ⟨1, _⟩ => exact Fin.ext (by show k = (y 2).val / 128; omega)
  | ⟨2, _⟩ => exact Fin.ext (by show (x 2).val = (y 2).val % 128; omega)

theorem outA (t : Fin cfg0.N) (h0 : t.val % 9 ≤ 3) (y : S1x128x8192.Idx) : outsAt0 m c t.val t.isLt y = Z := by
  rw [outsAt0_A m c t h0 (by omega) (by omega)]
  unfold out0_A_2
  frame_out
  exact pA y

theorem outC (t : Fin cfg0.N) (h0 : t.val % 9 = 8) (y : S1x128x8192.Idx) :
    outsAt0 m c t.val t.isLt y = if h : (y 1).val < 16 then iblk m c 1 t (ix3 0 ⟨(y 1).val, h⟩ (y 2)) else Z := by
  rw [outsAt0_C m c t (by omega) (by omega) h0]
  unfold out0_C_2
  frame_out
  canon_tiles x h using (View.cover_of_tiledBy _ ![1, 16, 8192] (by sl_kernel_rfl) y)
  case piece0 =>
    rw [dif_neg (show ¬ (y 1).val < 16 by omega)]
    exact pC1 x
  case piece1 =>
    have hy : (y 1).val < 16 := by omega
    have hx : x = ix3 0 ⟨(y 1).val, hy⟩ (y 2) := by
      funext z
      match z with
      | ⟨0, _⟩ => exact Fin.ext (by show (x 0).val = 0; omega)
      | ⟨1, _⟩ => exact Fin.ext h1.symm
      | ⟨2, _⟩ => exact Fin.ext h2.symm
    rw [dif_pos hy]
    exact (congrArg _ hx).trans (pC0 _ _ _)

set_option maxHeartbeats 40000000 in
theorem outB (t : Fin cfg0.N) (h : 4 ≤ t.val % 9 ∧ t.val % 9 ≤ 7) (y : S1x128x8192.Idx) :
    outsAt0 m c t.val t.isLt y
      = iblk m c 0 t (ix3 (y 1) ⟨(y 2).val / 128, by have : (y 2).val < 8192 := (y 2).isLt; omega⟩ ⟨(y 2).val % 128, by omega⟩) := by
  rw [outsAt0_B m c t (by omega) h (by omega)]
  unfold out0_B_2
  frame_out
  canon_tiles x h
  case piece0 => exact pB' 63 slices_S64x128x128_o63_0_0_S1x128x128 _ (by decide) x y h1 (by omega)
  case piece1 => exact pB' 62 slices_S64x128x128_o62_0_0_S1x128x128 _ (by decide) x y h1 (by omega)
  case piece2 => exact pB' 61 slices_S64x128x128_o61_0_0_S1x128x128 _ (by decide) x y h1 (by omega)
  case piece3 => exact pB' 60 slices_S64x128x128_o60_0_0_S1x128x128 _ (by decide) x y h1 (by omega)
  case piece4 => exact pB' 59 slices_S64x128x128_o59_0_0_S1x128x128 _ (by decide) x y h1 (by omega)
  case piece5 => exact pB' 58 slices_S64x128x128_o58_0_0_S1x128x128 _ (by decide) x y h1 (by omega)
  case piece6 => exact pB' 57 slices_S64x128x128_o57_0_0_S1x128x128 _ (by decide) x y h1 (by omega)
  case piece7 => exact pB' 56 slices_S64x128x128_o56_0_0_S1x128x128 _ (by decide) x y h1 (by omega)
  case piece8 => exact pB' 55 slices_S64x128x128_o55_0_0_S1x128x128 _ (by decide) x y h1 (by omega)
  case piece9 => exact pB' 54 slices_S64x128x128_o54_0_0_S1x128x128 _ (by decide) x y h1 (by omega)
  case piece10 => exact pB' 53 slices_S64x128x128_o53_0_0_S1x128x128 _ (by decide) x y h1 (by omega)
  case piece11 => exact pB' 52 slices_S64x128x128_o52_0_0_S1x128x128 _ (by decide) x y h1 (by omega)
  case piece12 => exact pB' 51 slices_S64x128x128_o51_0_0_S1x128x128 _ (by decide) x y h1 (by omega)
  case piece13 => exact pB' 50 slices_S64x128x128_o50_0_0_S1x128x128 _ (by decide) x y h1 (by omega)
  case piece14 => exact pB' 49 slices_S64x128x128_o49_0_0_S1x128x128 _ (by decide) x y h1 (by omega)
  case piece15 => exact pB' 48 slices_S64x128x128_o48_0_0_S1x128x128 _ (by decide) x y h1 (by omega)
  case piece16 => exact pB' 47 slices_S64x128x128_o47_0_0_S1x128x128 _ (by decide) x y h1 (by omega)
  case piece17 => exact pB' 46 slices_S64x128x128_o46_0_0_S1x128x128 _ (by decide) x y h1 (by omega)
  case piece18 => exact pB' 45 slices_S64x128x128_o45_0_0_S1x128x128 _ (by decide) x y h1 (by omega)
  case piece19 => exact pB' 44 slices_S64x128x128_o44_0_0_S1x128x128 _ (by decide) x y h1 (by omega)
  case piece20 => exact pB' 43 slices_S64x128x128_o43_0_0_S1x128x128 _ (by decide) x y h1 (by omega)
  case piece21 => exact pB' 42 slices_S64x128x128_o42_0_0_S1x128x128 _ (by decide) x y h1 (by omega)
  case piece22 => exact pB' 41 slices_S64x128x128_o41_0_0_S1x128x128 _ (by decide) x y h1 (by omega)
  case piece23 => exact pB' 40 slices_S64x128x128_o40_0_0_S1x128x128 _ (by decide) x y h1 (by omega)
  case piece24 => exact pB' 39 slices_S64x128x128_o39_0_0_S1x128x128 _ (by decide) x y h1 (by omega)
  case piece25 => exact pB' 38 slices_S64x128x128_o38_0_0_S1x128x128 _ (by decide) x y h1 (by omega)
  case piece26 => exact pB' 37 slices_S64x128x128_o37_0_0_S1x128x128 _ (by decide) x y h1 (by omega)
  case piece27 => exact pB' 36 slices_S64x128x128_o36_0_0_S1x128x128 _ (by decide) x y h1 (by omega)
  case piece28 => exact pB' 35 slices_S64x128x128_o35_0_0_S1x128x128 _ (by decide) x y h1 (by omega)
  case piece29 => exact pB' 34 slices_S64x128x128_o34_0_0_S1x128x128 _ (by decide) x y h1 (by omega)
  case piece30 => exact pB' 33 slices_S64x128x128_o33_0_0_S1x128x128 _ (by decide) x y h1 (by omega)
  case piece31 => exact pB' 32 slices_S64x128x128_o32_0_0_S1x128x128 _ (by decide) x y h1 (by omega)
  case piece32 => exact pB' 31 slices_S64x128x128_o31_0_0_S1x128x128 _ (by decide) x y h1 (by omega)
  case piece33 => exact pB' 30 slices_S64x128x128_o30_0_0_S1x128x128 _ (by decide) x y h1 (by omega)
  case piece34 => exact pB' 29 slices_S64x128x128_o29_0_0_S1x128x128 _ (by decide) x y h1 (by omega)
  case piece35 => exact pB' 28 slices_S64x128x128_o28_0_0_S1x128x128 _ (by decide) x y h1 (by omega)
  case piece36 => exact pB' 27 slices_S64x128x128_o27_0_0_S1x128x128 _ (by decide) x y h1 (by omega)
  case piece37 => exact pB' 26 slices_S64x128x128_o26_0_0_S1x128x128 _ (by decide) x y h1 (by omega)
  case piece38 => exact pB' 25 slices_S64x128x128_o25_0_0_S1x128x128 _ (by decide) x y h1 (by omega)
  case piece39 => exact pB' 24 slices_S64x128x128_o24_0_0_S1x128x128 _ (by decide) x y h1 (by omega)
  case piece40 => exact pB' 23 slices_S64x128x128_o23_0_0_S1x128x128 _ (by decide) x y h1 (by omega)
  case piece41 => exact pB' 22 slices_S64x128x128_o22_0_0_S1x128x128 _ (by decide) x y h1 (by omega)
  case piece42 => exact pB' 21 slices_S64x128x128_o21_0_0_S1x128x128 _ (by decide) x y h1 (by omega)
  case piece43 => exact pB' 20 slices_S64x128x128_o20_0_0_S1x128x128 _ (by decide) x y h1 (by omega)
  case piece44 => exact pB' 19 slices_S64x128x128_o19_0_0_S1x128x128 _ (by decide) x y h1 (by omega)
  case piece45 => exact pB' 18 slices_S64x128x128_o18_0_0_S1x128x128 _ (by decide) x y h1 (by omega)
  case piece46 => exact pB' 17 slices_S64x128x128_o17_0_0_S1x128x128 _ (by decide) x y h1 (by omega)
  case piece47 => exact pB' 16 slices_S64x128x128_o16_0_0_S1x128x128 _ (by decide) x y h1 (by omega)
  case piece48 => exact pB' 15 slices_S64x128x128_o15_0_0_S1x128x128 _ (by decide) x y h1 (by omega)
  case piece49 => exact pB' 14 slices_S64x128x128_o14_0_0_S1x128x128 _ (by decide) x y h1 (by omega)
  case piece50 => exact pB' 13 slices_S64x128x128_o13_0_0_S1x128x128 _ (by decide) x y h1 (by omega)
  case piece51 => exact pB' 12 slices_S64x128x128_o12_0_0_S1x128x128 _ (by decide) x y h1 (by omega)
  case piece52 => exact pB' 11 slices_S64x128x128_o11_0_0_S1x128x128 _ (by decide) x y h1 (by omega)
  case piece53 => exact pB' 10 slices_S64x128x128_o10_0_0_S1x128x128 _ (by decide) x y h1 (by omega)
  case piece54 => exact pB' 9 slices_S64x128x128_o9_0_0_S1x128x128 _ (by decide) x y h1 (by omega)
  case piece55 => exact pB' 8 slices_S64x128x128_o8_0_0_S1x128x128 _ (by decide) x y h1 (by omega)
  case piece56 => exact pB' 7 slices_S64x128x128_o7_0_0_S1x128x128 _ (by decide) x y h1 (by omega)
  case piece57 => exact pB' 6 slices_S64x128x128_o6_0_0_S1x128x128 _ (by decide) x y h1 (by omega)
  case piece58 => exact pB' 5 slices_S64x128x128_o5_0_0_S1x128x128 _ (by decide) x y h1 (by omega)
  case piece59 => exact pB' 4 slices_S64x128x128_o4_0_0_S1x128x128 _ (by decide) x y h1 (by omega)
  case piece60 => exact pB' 3 slices_S64x128x128_o3_0_0_S1x128x128 _ (by decide) x y h1 (by omega)
  case piece61 => exact pB' 2 slices_S64x128x128_o2_0_0_S1x128x128 _ (by decide) x y h1 (by omega)
  case piece62 => exact pB' 1 slices_S64x128x128_o1_0_0_S1x128x128 _ (by decide) x y h1 (by omega)
  case piece63 => exact pB' 0 slices_S64x128x128_o0_0_0_S1x128x128 _ (by decide) x y h1 (by omega)

end Cert.Rws

end
-- ==== Proof.RowsEq.lean ====
module

public import proofs.«01_k».proof.Defs
public import proofs.«01_k».proof.Proof.RowsVal
public import proofs.«01_k».proof.Proof.Gen.RowsReferenceIdeal.Run

/-! The packing of the cached keys and values: the packed array is the reference's. -/

@[expose] public section

set_option maxRecDepth 16384

noncomputable section

namespace Cert.Rws

open Idealize.ShloMosaic Idealize.ShloMosaic.TcCoe Idealize.SL.Sem

section
open Cert.RowsIdeal Cert.RowsIdeal.Gen

variable (m : (ℓ : Loc nD τ sig) → Buf (Elt Ideal) ℓ) (c : Dev nD)

/-- A grid point's block is the packed rows'. -/
theorem point (t : Fin cfg0.N) (y : S1x128x8192.Idx) :
    outsAt0 m c t.val t.isLt y = G (V m c main_v1) (V m c main_v2) ⟨t.val / 9, by have := pt t; omega⟩
      ⟨t.val % 9 * 128 + (y 1).val, by have : (y 1).val < 128 := (y 1).isLt; omega⟩ (y 2) := by
  have ht := pt t
  have hy : (y 1).val < 128 := (y 1).isLt
  unfold G
  by_cases h0 : t.val % 9 ≤ 3
  · rw [outA m c t h0, if_pos (by show t.val % 9 * 128 + (y 1).val < 512; omega)]
  rw [if_neg (by show ¬ t.val % 9 * 128 + (y 1).val < 512; omega)]
  by_cases h1 : t.val % 9 ≤ 7
  · rw [outB m c t (by omega), dif_pos (by show t.val % 9 * 128 + (y 1).val < 1024; omega)]
    refine (b0 m c t (by omega) (y 1) _ _).trans (congrArg (V m c main_v1) (congrArg (fun a => ix3 a _ _) (Fin.ext ?_)))
    show (t.val / 9 * 4 + (t.val % 9 - 4)) * 128 + (y 1).val = t.val / 9 * 512 + (t.val % 9 * 128 + (y 1).val - 512)
    omega
  rw [dif_neg (by show ¬ t.val % 9 * 128 + (y 1).val < 1024; omega), outC m c t (by omega)]
  by_cases h2 : (y 1).val < 16
  · rw [dif_pos h2, dif_pos (by show t.val % 9 * 128 + (y 1).val < 1040; omega)]
    refine (b1 m c t ⟨(y 1).val, h2⟩ (y 2)).trans (congrArg (V m c main_v2) (congrArg (fun a => ix3 _ a _) (Fin.ext ?_)))
    show (y 1).val = t.val % 9 * 128 + (y 1).val - 1024
    omega
  · rw [dif_neg h2, dif_neg (by show ¬ t.val % 9 * 128 + (y 1).val < 1040; omega)]

/-- The packed rows. -/
def Gi (X : Vec Ideal S4096x64x128 .f32) (N : Vec Ideal S8x16x8192 .bf16) : Vec Ideal S8x1152x8192 .bf16 := fun i => G X N (i 0) (i 1) (i 2)

/-- The array after the run. -/
theorem final : (dats m 0 c).arrAt 2 cfg0.N = Gi (V m c main_v1) (V m c main_v2) := by
  refine (dats m 0 c).arrAt_eq_of_covers 2 _ (by decide +kernel) fun t _ y => ?_
  blk_simp
  rw [after0_2]
  have hy : (y 1).val < 128 := (y 1).isLt
  refine (point m c t _).trans (congrArg (Gi (V m c main_v1) (V m c main_v2)) (?_ : ix3 ⟨t.val / 9, by have := pt t; omega⟩ ⟨t.val % 9 * 128 + (y 1).val, by omega⟩ (y 2) = _))
  blk_ext [idx t]

theorem v1 : V m c main_v1 = shapeCast S4096x64x128 (shapeCast S8x512x2x32x128 (m (c.tc.loc main_arg0)) shapeCasts_S1x8x512x2x32x128_S8x512x2x32x128) shapeCasts_S8x512x2x32x128_S4096x64x128 := by
  show StableHlo.after hostOps0 _ main_v1 = _
  after_results <;> rfl
theorem v2 : V m c main_v2 = shapeCast S8x16x8192 (m (c.tc.loc main_arg1)) shapeCasts_S128x8192_S8x16x8192 := by
  show StableHlo.after hostOps0 _ main_v2 = _
  after_results <;> rfl

end

section Ref
open Cert.RowsReferenceIdeal Cert.RowsReferenceIdeal.Gen

variable (z : Vec Ideal S8x512x8192 .bf16) (a : Vec Ideal S8x512x8192 .bf16) (n : Vec Ideal S8x16x8192 .bf16) (z' : Vec Ideal S8x112x8192 .bf16)

/-- The rows of the reference. -/
def cat : Vec Ideal S8x1152x8192 .bf16 :=
  concatenate S8x1152x8192 1 [⟨S8x512x8192, z⟩, ⟨S8x512x8192, a⟩, ⟨S8x16x8192, n⟩, ⟨S8x112x8192, z'⟩] concatenates_S8x512x8192_S8x512x8192_S8x16x8192_S8x112x8192_S8x1152x8192_d1

theorem cat0 (b : Fin 8) (p : Fin 512) (w : Fin 8192) : cat z a n z' (ix3 b ⟨p, by omega⟩ w) = z (ix3 b p w) := by
  pointwise [cat]
theorem cat1 (b : Fin 8) (p : Fin 512) (w : Fin 8192) : cat z a n z' (ix3 b ⟨512 + p, by omega⟩ w) = a (ix3 b p w) := by
  pointwise [cat]
theorem cat2 (b : Fin 8) (p : Fin 16) (w : Fin 8192) : cat z a n z' (ix3 b ⟨1024 + p, by omega⟩ w) = n (ix3 b p w) := by
  pointwise [cat]
  rw [dif_neg (show ¬ 1024 + p.val < 512 by omega), dif_neg (show ¬ 1024 + p.val - 512 < 512 by omega), dif_pos (show 1024 + p.val - 512 - 512 < 16 by omega)]
  exact congrArg n (congrArg (fun a => ix3 b a w) (Fin.ext (show 1024 + p.val - 512 - 512 = p.val by omega)))
theorem cat3 (b : Fin 8) (p : Fin 112) (w : Fin 8192) : cat z a n z' (ix3 b ⟨1040 + p, by omega⟩ w) = z' (ix3 b p w) := by
  pointwise [cat]
  rw [dif_neg (show ¬ 1040 + p.val < 512 by omega), dif_neg (show ¬ 1040 + p.val - 512 < 512 by omega), dif_neg (show ¬ 1040 + p.val - 512 - 512 < 16 by omega)]
  exact congrArg z' (congrArg (fun a => ix3 b a w) (Fin.ext (show 1040 + p.val - 512 - 512 - 16 = p.val by omega)))

theorem cast (h : S8x512x8192.ShapeCasts Cert.RowsIdeal.S4096x64x128) (x : Vec Ideal S8x512x8192 .f32) (b : Fin 8) (p : Fin 512) (w : Fin 8192) :
    shapeCast Cert.RowsIdeal.S4096x64x128 x h (ix3 ⟨b * 512 + p, by omega⟩ ⟨w / 128, by omega⟩ ⟨w % 128, by omega⟩) = x (ix3 b p w) := by
  pointwise

/-- The cached rows in the two arrangements. -/
theorem cast' (x : Vec Ideal S8x512x2x32x128 .f32) (h : S8x512x2x32x128.ShapeCasts Cert.RowsIdeal.S4096x64x128) (b : Fin 8) (p : Fin 512) (w : Fin 8192) :
    shapeCast Cert.RowsIdeal.S4096x64x128 x h (ix3 ⟨b * 512 + p, by omega⟩ ⟨w / 128, by omega⟩ ⟨w % 128, by omega⟩)
      = shapeCast S8x512x8192 x shapeCasts_S8x512x2x32x128_S8x512x8192 (ix3 b p w) := by
  refine Eq.trans (congrFun ?_ _) (cast (by decide) (shapeCast S8x512x8192 x shapeCasts_S8x512x2x32x128_S8x512x8192) b p w)
  exact (shapeCast_comp x shapeCasts_S8x512x2x32x128_S8x512x8192 (by decide)).symm

/-- The packed rows are the reference's. -/
theorem ref (x : Vec Ideal S8x512x2x32x128 .f32) (h : S8x512x2x32x128.ShapeCasts Cert.RowsIdeal.S4096x64x128) :
    cat (broadcastInDim (α := Elt Ideal .bf16) S8x512x8192 ![] bcast_S_S8x512x8192 (constant (F := Ideal) S_ .bf16 0x0000#16 : Vec Ideal S_ .bf16))
      (truncf (F := Ideal) .bf16 (shapeCast S8x512x8192 x shapeCasts_S8x512x2x32x128_S8x512x8192) bitsLt_bf16_f32) n
      (broadcastInDim (α := Elt Ideal .bf16) S8x112x8192 ![] bcast_S_S8x112x8192 (constant (F := Ideal) S_ .bf16 0x0000#16 : Vec Ideal S_ .bf16))
      = Gi (shapeCast Cert.RowsIdeal.S4096x64x128 x h) n := by
  funext i
  obtain ⟨b, p, w, rfl⟩ : ∃ (b : Fin 8) (p : Fin 1152) (w : Fin 8192), i = ix3 b p w := ⟨i 0, i 1, i 2, eq_ix3 i⟩
  show _ = G _ _ b p w
  unfold G
  by_cases h0 : p.val < 512
  · rw [if_pos h0]
    exact cat0 _ _ n _ b ⟨p.val, h0⟩ w
  rw [if_neg h0]
  by_cases h1 : p.val < 1024
  · rw [dif_pos h1]
    refine Eq.trans ?_ (cast' x h b ⟨p.val - 512, by omega⟩ w).symm
    refine Eq.trans (congrArg _ (congrArg (fun a => ix3 b a w) (Fin.ext ?_))) (cat1 _ _ n _ b ⟨p.val - 512, by omega⟩ w)
    show p.val = 512 + (p.val - 512)
    omega
  rw [dif_neg h1]
  by_cases h2 : p.val < 1040
  · rw [dif_pos h2]
    refine Eq.trans (congrArg _ (congrArg (fun a => ix3 b a w) (Fin.ext ?_))) (cat2 _ _ n _ b ⟨p.val - 1024, by omega⟩ w)
    show p.val = 1024 + (p.val - 1024)
    omega
  · rw [dif_neg h2]
    refine Eq.trans (congrArg _ (congrArg (fun a => ix3 b a w) (Fin.ext ?_))) (cat3 _ _ n _ b ⟨p.val - 1040, by omega⟩ w)
    show p.val = 1040 + (p.val - 1040)
    omega

end Ref

open Cert.RowsReferenceIdeal in
theorem frame_ref (m' : (ℓ : Loc nD τ sig) → Buf (Elt Ideal) ℓ) (g' : Dev nD → PrngReg) :
    θ_run (defs (F := Ideal)) (onTc (τ := τ) (main (F := Ideal))) ⟨m', fun _ => 0, g'⟩ (fun r => (∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1))
      ∧ r.2.sem = fun _ => 0) :=
  (θ_run _ _ _).mono (fun r h => ⟨fun c => (h c).2, sem_eq_zero_of_no_sems (by decide) r.2⟩) (Cert.RowsReferenceIdeal.Value.run m' g')

theorem algebraic : Cert.algebraic_RowsIdeal_RowsReferenceIdeal (hRowsIdeal := Cert.RowsIdeal.Gen.facts) (hRowsReferenceIdeal := Cert.RowsReferenceIdeal.Gen.facts) := by
  intro m g m' g' _ hm
  refine ⟨fun c => Gi (Cert.RowsIdeal.Gen.V m c Cert.RowsIdeal.main_v1) (Cert.RowsIdeal.Gen.V m c Cert.RowsIdeal.main_v2), ?_, ?_⟩
  · exact (θ_run _ _ _).mono (fun r h c => ⟨(h c).1.trans (final m c), (h c).2⟩) (Cert.RowsIdeal.Value.run_blocks m g)
  · refine (θ_run _ _ _).mono (fun r h c => ⟨(h c).1.trans ?_, (h c).2⟩) (Cert.RowsReferenceIdeal.Value.run m' g')
    obtain ⟨a0, a1⟩ := hm c
    show _ = Gi (Cert.RowsIdeal.Gen.V m c Cert.RowsIdeal.main_v1) (Cert.RowsIdeal.Gen.V m c Cert.RowsIdeal.main_v2)
    rw [v1, v2]
    refine Eq.trans ?_ (ref _ _ _)
    rw [a0, a1]
    rfl

end Cert.Rws

end
-- ==== Proof.EvenRowsVal.lean ====
module

public import proofs.«01_k».proof.Proof.Gen.EvenRowsIdeal.Value
public import proofs.«01_k».proof.Proof.Mat

/-! The packing of the cached keys and values: what every grid point writes. -/

@[expose] public section

set_option maxRecDepth 16384

noncomputable section

namespace Cert.ERws

open Idealize.ShloMosaic Idealize.ShloMosaic.TcCoe Idealize.SL.Sem
open Cert.EvenRowsIdeal Cert.EvenRowsIdeal.Gen

theorem idx : ∀ t : Fin cfg0.N, win0_0.index t = ![t.val / 9 * 8 + min (t.val % 9) 7, 0, 0]
    ∧ win0_1.index t = ![t.val / 9, 0, 0]
    ∧ win0_2.index t = ![t.val / 9, t.val % 9, 0] :=
  (by decide +kernel : ∀ t : Fin grid0.N, _)

theorem pt (t : Fin cfg0.N) : t.val < 72 := lt_of_lt_of_eq t.isLt N_0

variable (m : (ℓ : Loc nD τ sig) → Buf (Elt Ideal) ℓ) (c : Dev nD)

theorem b0 (t : Fin cfg0.N) (h : t.val % 9 ≤ 7) (a : Fin 128) (s : Fin 32) (d : Fin 128) :
    iblk m c 0 t (ix3 a s d) = V m c main_v1 (ix3 ⟨(t.val / 9 * 8 + t.val % 9) * 128 + a, by have := pt t; omega⟩ s d) := by
  have e : min (t.val % 9) 7 = t.val % 9 := by omega
  blk_point [iblk, idx t, e]

theorem b1 (t : Fin cfg0.N) (a : Fin 16) (d : Fin 4096) :
    iblk m c 1 t (ix3 0 a d) = V m c main_v2 (ix3 ⟨t.val / 9, by have := pt t; omega⟩ a d) := by
  blk_point [iblk, idx t]

/-- Zero, as the program writes it. -/
def Z : EReal := Ideal.ofBits .bf16 0x0000#16

/-- A packed row's entry, of the cache's rows `X` and the new rows `N`. -/
def G (X : Vec Ideal S8192x32x128 .f32) (N : Vec Ideal S8x16x4096 .bf16) (b : Fin 8) (p : Fin 1152) (w : Fin 4096) : EReal :=
  if h : p.val < 1024 then X (ix3 ⟨b.val * 1024 + p.val, by omega⟩ ⟨w.val / 128, by omega⟩ ⟨w.val % 128, by omega⟩)
  else if h' : p.val < 1040 then N (ix3 b ⟨p.val - 1024, by omega⟩ w)
  else Z

theorem pC0 (v : Vec Ideal S1x16x4096 .bf16) (a : Fin 16) (d : Fin 4096) : k0_pay5 v (ix3 0 a d) = v (ix3 0 a d) := by
  pointwise [k0_pay5]

theorem pC1 (x : S1x112x4096.Idx) : k0_pay6 (F := Ideal) x = Z := rfl

/-- A slice of the transposed block, its first axis a unit. -/
theorem pB (k : ℕ) (h : S32x128x128.Slices ![k, 0, 0] S1x128x128) (x0 : Vec Ideal S128x32x128 .f32) (hk : k < 32) (a : Fin 128) (d : Fin 128) :
    shapeCast S1x128x128 (truncf (F := Ideal) .bf16 (shapeCast S128x128 (extractStridedSlice S1x128x128 ![k, 0, 0] (k0_pay7 x0) h) shapeCasts_S1x128x128_S128x128) bitsLt_bf16_f32) shapeCasts_S128x128_S1x128x128 (ix3 0 a d)
      = x0 (ix3 a ⟨k, hk⟩ d) := by
  pointwise [k0_pay7]

theorem pB' (k : ℕ) (h : S32x128x128.Slices ![k, 0, 0] S1x128x128) (x0 : Vec Ideal S128x32x128 .f32) (hk : k < 32) (x : S1x128x128.Idx) (y : S1x128x4096.Idx)
    (h1 : (y 1).val = (x 1).val) (h2 : (y 2).val = k * 128 + (x 2).val) :
    shapeCast S1x128x128 (truncf (F := Ideal) .bf16 (shapeCast S128x128 (extractStridedSlice S1x128x128 ![k, 0, 0] (k0_pay7 x0) h) shapeCasts_S1x128x128_S128x128) bitsLt_bf16_f32) shapeCasts_S128x128_S1x128x128 x
      = x0 (ix3 (y 1) ⟨(y 2).val / 128, by have : (y 2).val < 4096 := (y 2).isLt; omega⟩ ⟨(y 2).val % 128, by omega⟩) := by
  have hx : x = ix3 0 (x 1) (x 2) := by
    funext z
    match z with
    | ⟨0, _⟩ => exact Fin.ext (by have : (x 0).val < 1 := (x 0).isLt; show (x 0).val = 0; omega)
    | ⟨1, _⟩ => rfl
    | ⟨2, _⟩ => rfl
  have hx2 : (x 2).val < 128 := (x 2).isLt
  refine (congrArg _ hx).trans ((pB k h x0 hk (x 1) (x 2)).trans (congrArg x0 ?_))
  funext z
  match z with
  | ⟨0, _⟩ => exact Fin.ext h1.symm
  | ⟨1, _⟩ => exact Fin.ext (by show k = (y 2).val / 128; omega)
  | ⟨2, _⟩ => exact Fin.ext (by show (x 2).val = (y 2).val % 128; omega)

theorem outC (t : Fin cfg0.N) (h0 : t.val % 9 = 8) (y : S1x128x4096.Idx) :
    outsAt0 m c t.val t.isLt y = if h : (y 1).val < 16 then iblk m c 1 t (ix3 0 ⟨(y 1).val, h⟩ (y 2)) else Z := by
  rw [outsAt0_B m c t (by omega) h0]
  unfold out0_B_2
  frame_out
  canon_tiles x h using (View.cover_of_tiledBy _ ![1, 16, 4096] (by sl_kernel_rfl) y)
  case piece0 =>
    rw [dif_neg (show ¬ (y 1).val < 16 by omega)]
    exact pC1 x
  case piece1 =>
    have hy : (y 1).val < 16 := by omega
    have hx : x = ix3 0 ⟨(y 1).val, hy⟩ (y 2) := by
      funext z
      match z with
      | ⟨0, _⟩ => exact Fin.ext (by show (x 0).val = 0; omega)
      | ⟨1, _⟩ => exact Fin.ext h1.symm
      | ⟨2, _⟩ => exact Fin.ext h2.symm
    rw [dif_pos hy]
    exact (congrArg _ hx).trans (pC0 _ _ _)

set_option maxHeartbeats 40000000 in
theorem outB (t : Fin cfg0.N) (h : t.val % 9 ≤ 7) (y : S1x128x4096.Idx) :
    outsAt0 m c t.val t.isLt y
      = iblk m c 0 t (ix3 (y 1) ⟨(y 2).val / 128, by have : (y 2).val < 4096 := (y 2).isLt; omega⟩ ⟨(y 2).val % 128, by omega⟩) := by
  rw [outsAt0_A m c t h (by omega)]
  unfold out0_A_2
  frame_out
  canon_tiles x h
  case piece0 => exact pB' 31 slices_S32x128x128_o31_0_0_S1x128x128 _ (by decide) x y h1 (by omega)
  case piece1 => exact pB' 30 slices_S32x128x128_o30_0_0_S1x128x128 _ (by decide) x y h1 (by omega)
  case piece2 => exact pB' 29 slices_S32x128x128_o29_0_0_S1x128x128 _ (by decide) x y h1 (by omega)
  case piece3 => exact pB' 28 slices_S32x128x128_o28_0_0_S1x128x128 _ (by decide) x y h1 (by omega)
  case piece4 => exact pB' 27 slices_S32x128x128_o27_0_0_S1x128x128 _ (by decide) x y h1 (by omega)
  case piece5 => exact pB' 26 slices_S32x128x128_o26_0_0_S1x128x128 _ (by decide) x y h1 (by omega)
  case piece6 => exact pB' 25 slices_S32x128x128_o25_0_0_S1x128x128 _ (by decide) x y h1 (by omega)
  case piece7 => exact pB' 24 slices_S32x128x128_o24_0_0_S1x128x128 _ (by decide) x y h1 (by omega)
  case piece8 => exact pB' 23 slices_S32x128x128_o23_0_0_S1x128x128 _ (by decide) x y h1 (by omega)
  case piece9 => exact pB' 22 slices_S32x128x128_o22_0_0_S1x128x128 _ (by decide) x y h1 (by omega)
  case piece10 => exact pB' 21 slices_S32x128x128_o21_0_0_S1x128x128 _ (by decide) x y h1 (by omega)
  case piece11 => exact pB' 20 slices_S32x128x128_o20_0_0_S1x128x128 _ (by decide) x y h1 (by omega)
  case piece12 => exact pB' 19 slices_S32x128x128_o19_0_0_S1x128x128 _ (by decide) x y h1 (by omega)
  case piece13 => exact pB' 18 slices_S32x128x128_o18_0_0_S1x128x128 _ (by decide) x y h1 (by omega)
  case piece14 => exact pB' 17 slices_S32x128x128_o17_0_0_S1x128x128 _ (by decide) x y h1 (by omega)
  case piece15 => exact pB' 16 slices_S32x128x128_o16_0_0_S1x128x128 _ (by decide) x y h1 (by omega)
  case piece16 => exact pB' 15 slices_S32x128x128_o15_0_0_S1x128x128 _ (by decide) x y h1 (by omega)
  case piece17 => exact pB' 14 slices_S32x128x128_o14_0_0_S1x128x128 _ (by decide) x y h1 (by omega)
  case piece18 => exact pB' 13 slices_S32x128x128_o13_0_0_S1x128x128 _ (by decide) x y h1 (by omega)
  case piece19 => exact pB' 12 slices_S32x128x128_o12_0_0_S1x128x128 _ (by decide) x y h1 (by omega)
  case piece20 => exact pB' 11 slices_S32x128x128_o11_0_0_S1x128x128 _ (by decide) x y h1 (by omega)
  case piece21 => exact pB' 10 slices_S32x128x128_o10_0_0_S1x128x128 _ (by decide) x y h1 (by omega)
  case piece22 => exact pB' 9 slices_S32x128x128_o9_0_0_S1x128x128 _ (by decide) x y h1 (by omega)
  case piece23 => exact pB' 8 slices_S32x128x128_o8_0_0_S1x128x128 _ (by decide) x y h1 (by omega)
  case piece24 => exact pB' 7 slices_S32x128x128_o7_0_0_S1x128x128 _ (by decide) x y h1 (by omega)
  case piece25 => exact pB' 6 slices_S32x128x128_o6_0_0_S1x128x128 _ (by decide) x y h1 (by omega)
  case piece26 => exact pB' 5 slices_S32x128x128_o5_0_0_S1x128x128 _ (by decide) x y h1 (by omega)
  case piece27 => exact pB' 4 slices_S32x128x128_o4_0_0_S1x128x128 _ (by decide) x y h1 (by omega)
  case piece28 => exact pB' 3 slices_S32x128x128_o3_0_0_S1x128x128 _ (by decide) x y h1 (by omega)
  case piece29 => exact pB' 2 slices_S32x128x128_o2_0_0_S1x128x128 _ (by decide) x y h1 (by omega)
  case piece30 => exact pB' 1 slices_S32x128x128_o1_0_0_S1x128x128 _ (by decide) x y h1 (by omega)
  case piece31 => exact pB' 0 slices_S32x128x128_o0_0_0_S1x128x128 _ (by decide) x y h1 (by omega)

end Cert.ERws

end
-- ==== Proof.EvenRowsEq.lean ====
module

public import proofs.«01_k».proof.Defs
public import proofs.«01_k».proof.Proof.EvenRowsVal
public import proofs.«01_k».proof.Proof.Gen.EvenRowsReferenceIdeal.Run

/-! The packing of the cached keys and values: the packed array is the reference's. -/

@[expose] public section

set_option maxRecDepth 16384

noncomputable section

namespace Cert.ERws

open Idealize.ShloMosaic Idealize.ShloMosaic.TcCoe Idealize.SL.Sem

section
open Cert.EvenRowsIdeal Cert.EvenRowsIdeal.Gen

variable (m : (ℓ : Loc nD τ sig) → Buf (Elt Ideal) ℓ) (c : Dev nD)

/-- A grid point's block is the packed rows'. -/
theorem point (t : Fin cfg0.N) (y : S1x128x4096.Idx) :
    outsAt0 m c t.val t.isLt y = G (V m c main_v1) (V m c main_v2) ⟨t.val / 9, by have := pt t; omega⟩
      ⟨t.val % 9 * 128 + (y 1).val, by have : (y 1).val < 128 := (y 1).isLt; omega⟩ (y 2) := by
  have ht := pt t
  have hy : (y 1).val < 128 := (y 1).isLt
  unfold G
  by_cases h1 : t.val % 9 ≤ 7
  · rw [outB m c t h1, dif_pos (by show t.val % 9 * 128 + (y 1).val < 1024; omega)]
    refine (b0 m c t h1 (y 1) _ _).trans (congrArg (V m c main_v1) (congrArg (fun a => ix3 a _ _) (Fin.ext ?_)))
    show (t.val / 9 * 8 + t.val % 9) * 128 + (y 1).val = t.val / 9 * 1024 + (t.val % 9 * 128 + (y 1).val)
    omega
  rw [dif_neg (by show ¬ t.val % 9 * 128 + (y 1).val < 1024; omega), outC m c t (by omega)]
  by_cases h2 : (y 1).val < 16
  · rw [dif_pos h2, dif_pos (by show t.val % 9 * 128 + (y 1).val < 1040; omega)]
    refine (b1 m c t ⟨(y 1).val, h2⟩ (y 2)).trans (congrArg (V m c main_v2) (congrArg (fun a => ix3 _ a _) (Fin.ext ?_)))
    show (y 1).val = t.val % 9 * 128 + (y 1).val - 1024
    omega
  · rw [dif_neg h2, dif_neg (by show ¬ t.val % 9 * 128 + (y 1).val < 1040; omega)]

/-- The packed rows. -/
def Gi (X : Vec Ideal S8192x32x128 .f32) (N : Vec Ideal S8x16x4096 .bf16) : Vec Ideal S8x1152x4096 .bf16 := fun i => G X N (i 0) (i 1) (i 2)

/-- The array after the run. -/
theorem final : (dats m 0 c).arrAt 2 cfg0.N = Gi (V m c main_v1) (V m c main_v2) := by
  refine (dats m 0 c).arrAt_eq_of_covers 2 _ (by decide +kernel) fun t _ y => ?_
  blk_simp
  rw [after0_2]
  have hy : (y 1).val < 128 := (y 1).isLt
  refine (point m c t _).trans (congrArg (Gi (V m c main_v1) (V m c main_v2)) (?_ : ix3 ⟨t.val / 9, by have := pt t; omega⟩ ⟨t.val % 9 * 128 + (y 1).val, by omega⟩ (y 2) = _))
  blk_ext [idx t]

theorem v1 : V m c main_v1 = shapeCast S8192x32x128 (shapeCast S8x1024x2x16x128 (m (c.tc.loc main_arg0)) shapeCasts_S1x8x1024x2x16x128_S8x1024x2x16x128) shapeCasts_S8x1024x2x16x128_S8192x32x128 := by
  show StableHlo.after hostOps0 _ main_v1 = _
  after_results <;> rfl
theorem v2 : V m c main_v2 = shapeCast S8x16x4096 (m (c.tc.loc main_arg1)) shapeCasts_S128x4096_S8x16x4096 := by
  show StableHlo.after hostOps0 _ main_v2 = _
  after_results <;> rfl

end

section Ref
open Cert.EvenRowsReferenceIdeal Cert.EvenRowsReferenceIdeal.Gen

variable (a : Vec Ideal S8x1024x4096 .bf16) (n : Vec Ideal S8x16x4096 .bf16) (z' : Vec Ideal S8x112x4096 .bf16)

/-- The rows of the reference. -/
def cat : Vec Ideal S8x1152x4096 .bf16 :=
  concatenate S8x1152x4096 1 [⟨S8x1024x4096, a⟩, ⟨S8x16x4096, n⟩, ⟨S8x112x4096, z'⟩] concatenates_S8x1024x4096_S8x16x4096_S8x112x4096_S8x1152x4096_d1

theorem cat1 (b : Fin 8) (p : Fin 1024) (w : Fin 4096) : cat a n z' (ix3 b ⟨p, by omega⟩ w) = a (ix3 b p w) := by
  pointwise [cat]
theorem cat2 (b : Fin 8) (p : Fin 16) (w : Fin 4096) : cat a n z' (ix3 b ⟨1024 + p, by omega⟩ w) = n (ix3 b p w) := by
  pointwise [cat]
theorem cat3 (b : Fin 8) (p : Fin 112) (w : Fin 4096) : cat a n z' (ix3 b ⟨1040 + p, by omega⟩ w) = z' (ix3 b p w) := by
  pointwise [cat]
  rw [dif_neg (show ¬ 1040 + p.val < 1024 by omega), dif_neg (show ¬ 1040 + p.val - 1024 < 16 by omega)]
  exact congrArg z' (congrArg (fun a => ix3 b a w) (Fin.ext (show 1040 + p.val - 1024 - 16 = p.val by omega)))

theorem cast (h : S8x1024x4096.ShapeCasts Cert.EvenRowsIdeal.S8192x32x128) (x : Vec Ideal S8x1024x4096 .f32) (b : Fin 8) (p : Fin 1024) (w : Fin 4096) :
    shapeCast Cert.EvenRowsIdeal.S8192x32x128 x h (ix3 ⟨b * 1024 + p, by omega⟩ ⟨w / 128, by omega⟩ ⟨w % 128, by omega⟩) = x (ix3 b p w) := by
  pointwise

/-- The cached rows in the two arrangements. -/
theorem cast' (x : Vec Ideal S8x1024x2x16x128 .f32) (h : S8x1024x2x16x128.ShapeCasts Cert.EvenRowsIdeal.S8192x32x128) (b : Fin 8) (p : Fin 1024) (w : Fin 4096) :
    shapeCast Cert.EvenRowsIdeal.S8192x32x128 x h (ix3 ⟨b * 1024 + p, by omega⟩ ⟨w / 128, by omega⟩ ⟨w % 128, by omega⟩)
      = shapeCast S8x1024x4096 x shapeCasts_S8x1024x2x16x128_S8x1024x4096 (ix3 b p w) := by
  refine Eq.trans (congrFun ?_ _) (cast (by decide) (shapeCast S8x1024x4096 x shapeCasts_S8x1024x2x16x128_S8x1024x4096) b p w)
  exact (shapeCast_comp x shapeCasts_S8x1024x2x16x128_S8x1024x4096 (by decide)).symm

/-- The packed rows are the reference's. -/
theorem ref (x : Vec Ideal S8x1024x2x16x128 .f32) (h : S8x1024x2x16x128.ShapeCasts Cert.EvenRowsIdeal.S8192x32x128) :
    cat (truncf (F := Ideal) .bf16 (shapeCast S8x1024x4096 x shapeCasts_S8x1024x2x16x128_S8x1024x4096) bitsLt_bf16_f32) n
      (broadcastInDim (α := Elt Ideal .bf16) S8x112x4096 ![] bcast_S_S8x112x4096 (constant (F := Ideal) S_ .bf16 0x0000#16 : Vec Ideal S_ .bf16))
      = Gi (shapeCast Cert.EvenRowsIdeal.S8192x32x128 x h) n := by
  funext i
  obtain ⟨b, p, w, rfl⟩ : ∃ (b : Fin 8) (p : Fin 1152) (w : Fin 4096), i = ix3 b p w := ⟨i 0, i 1, i 2, eq_ix3 i⟩
  show _ = G _ _ b p w
  unfold G
  by_cases h1 : p.val < 1024
  · rw [dif_pos h1]
    refine Eq.trans ?_ (cast' x h b ⟨p.val, h1⟩ w).symm
    exact cat1 _ n _ b ⟨p.val, h1⟩ w
  rw [dif_neg h1]
  by_cases h2 : p.val < 1040
  · rw [dif_pos h2]
    refine Eq.trans (congrArg _ (congrArg (fun a => ix3 b a w) (Fin.ext ?_))) (cat2 _ n _ b ⟨p.val - 1024, by omega⟩ w)
    show p.val = 1024 + (p.val - 1024)
    omega
  · rw [dif_neg h2]
    refine Eq.trans (congrArg _ (congrArg (fun a => ix3 b a w) (Fin.ext ?_))) (cat3 _ n _ b ⟨p.val - 1040, by omega⟩ w)
    show p.val = 1040 + (p.val - 1040)
    omega

end Ref

open Cert.EvenRowsReferenceIdeal in
theorem frame_ref (m' : (ℓ : Loc nD τ sig) → Buf (Elt Ideal) ℓ) (g' : Dev nD → PrngReg) :
    θ_run (defs (F := Ideal)) (onTc (τ := τ) (main (F := Ideal))) ⟨m', fun _ => 0, g'⟩ (fun r => (∀ c : Dev nD,
      r.2.mem ((c.tc : Thread nD τ).loc main_arg0) = m' ((c.tc : Thread nD τ).loc main_arg0)
      ∧ r.2.mem ((c.tc : Thread nD τ).loc main_arg1) = m' ((c.tc : Thread nD τ).loc main_arg1))
      ∧ r.2.sem = fun _ => 0) :=
  (θ_run _ _ _).mono (fun r h => ⟨fun c => (h c).2, sem_eq_zero_of_no_sems (by decide) r.2⟩) (Cert.EvenRowsReferenceIdeal.Value.run m' g')

theorem algebraic : Cert.algebraic_EvenRowsIdeal_EvenRowsReferenceIdeal (hEvenRowsIdeal := Cert.EvenRowsIdeal.Gen.facts) (hEvenRowsReferenceIdeal := Cert.EvenRowsReferenceIdeal.Gen.facts) := by
  intro m g m' g' _ hm
  refine ⟨fun c => Gi (Cert.EvenRowsIdeal.Gen.V m c Cert.EvenRowsIdeal.main_v1) (Cert.EvenRowsIdeal.Gen.V m c Cert.EvenRowsIdeal.main_v2), ?_, ?_⟩
  · exact (θ_run _ _ _).mono (fun r h c => ⟨(h c).1.trans (final m c), (h c).2⟩) (Cert.EvenRowsIdeal.Value.run_blocks m g)
  · refine (θ_run _ _ _).mono (fun r h c => ⟨(h c).1.trans ?_, (h c).2⟩) (Cert.EvenRowsReferenceIdeal.Value.run m' g')
    obtain ⟨a0, a1⟩ := hm c
    show _ = Gi (Cert.EvenRowsIdeal.Gen.V m c Cert.EvenRowsIdeal.main_v1) (Cert.EvenRowsIdeal.Gen.V m c Cert.EvenRowsIdeal.main_v2)
    rw [v1, v2]
    refine Eq.trans ?_ (ref _ _ _)
    rw [a0, a1]
    rfl

end Cert.ERws

end
-- ==== Proof.SBandTab.lean ====
module

public import proofs.«01_k».proof.Proof.Table
public import proofs.«01_k».proof.Proof.Gen.SampleBandIdeal.Value
public import Idealize.ShloMosaic.Lib.Pointwise
public import Idealize.ShloMosaic.Lib.StableHlo.ReadAt
public import Idealize.ShloMosaic.Lib.Pipeline.ValueKit

/-! The arrays the host code hands the sample's kernel: the scaled queries and the table of bias blocks. -/

@[expose] public section

set_option maxRecDepth 16384

noncomputable section

namespace Cert.SBand.Ker

open Idealize.ShloMosaic Idealize.ShloMosaic.TcCoe Idealize.SL.Sem
open Cert.SampleBandIdeal Cert.SampleBandIdeal.Gen
open Cert.Band.Ker (row rows16 byDist scaled window table)

set_option maxHeartbeats 4000000 in
private theorem upto274 (m : (ℓ : Loc nD τ sig) → Buf (Elt Ideal) ℓ) (c : Dev nD) :
    StableHlo.upto hostOps0 (fun b => m (c, b)) 284 (Proc.tc.devRef main_v273) = rows16 (byDist (m ((c.tc : Thread nD τ).loc main_arg3))) 127 (by omega) := by
  have h0 : StableHlo.upto hostOps0 (fun b => m (c, b)) 276 (Proc.tc.devRef main_v145) = row (byDist (m ((c.tc : Thread nD τ).loc main_arg3))) 127 (by omega) := by
    after_reads_simp
    rfl
  have h1 : StableHlo.upto hostOps0 (fun b => m (c, b)) 276 (Proc.tc.devRef main_v146) = row (byDist (m ((c.tc : Thread nD τ).loc main_arg3))) 126 (by omega) := by
    after_reads_simp
    rfl
  have h2 : StableHlo.upto hostOps0 (fun b => m (c, b)) 276 (Proc.tc.devRef main_v147) = row (byDist (m ((c.tc : Thread nD τ).loc main_arg3))) 125 (by omega) := by
    after_reads_simp
    rfl
  have h3 : StableHlo.upto hostOps0 (fun b => m (c, b)) 276 (Proc.tc.devRef main_v148) = row (byDist (m ((c.tc : Thread nD τ).loc main_arg3))) 124 (by omega) := by
    after_reads_simp
    rfl
  have h4 : StableHlo.upto hostOps0 (fun b => m (c, b)) 276 (Proc.tc.devRef main_v149) = row (byDist (m ((c.tc : Thread nD τ).loc main_arg3))) 123 (by omega) := by
    after_reads_simp
    rfl
  have h5 : StableHlo.upto hostOps0 (fun b => m (c, b)) 276 (Proc.tc.devRef main_v150) = row (byDist (m ((c.tc : Thread nD τ).loc main_arg3))) 122 (by omega) := by
    after_reads_simp
    rfl
  have h6 : StableHlo.upto hostOps0 (fun b => m (c, b)) 276 (Proc.tc.devRef main_v151) = row (byDist (m ((c.tc : Thread nD τ).loc main_arg3))) 121 (by omega) := by
    after_reads_simp
    rfl
  have h7 : StableHlo.upto hostOps0 (fun b => m (c, b)) 276 (Proc.tc.devRef main_v152) = row (byDist (m ((c.tc : Thread nD τ).loc main_arg3))) 120 (by omega) := by
    after_reads_simp
    rfl
  have h8 : StableHlo.upto hostOps0 (fun b => m (c, b)) 276 (Proc.tc.devRef main_v153) = row (byDist (m ((c.tc : Thread nD τ).loc main_arg3))) 119 (by omega) := by
    after_reads_simp
    rfl
  have h9 : StableHlo.upto hostOps0 (fun b => m (c, b)) 276 (Proc.tc.devRef main_v154) = row (byDist (m ((c.tc : Thread nD τ).loc main_arg3))) 118 (by omega) := by
    after_reads_simp
    rfl
  have h10 : StableHlo.upto hostOps0 (fun b => m (c, b)) 276 (Proc.tc.devRef main_v155) = row (byDist (m ((c.tc : Thread nD τ).loc main_arg3))) 117 (by omega) := by
    after_reads_simp
    rfl
  have h11 : StableHlo.upto hostOps0 (fun b => m (c, b)) 276 (Proc.tc.devRef main_v156) = row (byDist (m ((c.tc : Thread nD τ).loc main_arg3))) 116 (by omega) := by
    after_reads_simp
    rfl
  have h12 : StableHlo.upto hostOps0 (fun b => m (c, b)) 276 (Proc.tc.devRef main_v157) = row (byDist (m ((c.tc : Thread nD τ).loc main_arg3))) 115 (by omega) := by
    after_reads_simp
    rfl
  have h13 : StableHlo.upto hostOps0 (fun b => m (c, b)) 276 (Proc.tc.devRef main_v158) = row (byDist (m ((c.tc : Thread nD τ).loc main_arg3))) 114 (by omega) := by
    after_reads_simp
    rfl
  have h14 : StableHlo.upto hostOps0 (fun b => m (c, b)) 276 (Proc.tc.devRef main_v159) = row (byDist (m ((c.tc : Thread nD τ).loc main_arg3))) 113 (by omega) := by
    after_reads_simp
    rfl
  have h15 : StableHlo.upto hostOps0 (fun b => m (c, b)) 276 (Proc.tc.devRef main_v160) = row (byDist (m ((c.tc : Thread nD τ).loc main_arg3))) 112 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto275 (m : (ℓ : Loc nD τ sig) → Buf (Elt Ideal) ℓ) (c : Dev nD) :
    StableHlo.upto hostOps0 (fun b => m (c, b)) 284 (Proc.tc.devRef main_v274) = rows16 (byDist (m ((c.tc : Thread nD τ).loc main_arg3))) 111 (by omega) := by
  have h0 : StableHlo.upto hostOps0 (fun b => m (c, b)) 277 (Proc.tc.devRef main_v161) = row (byDist (m ((c.tc : Thread nD τ).loc main_arg3))) 111 (by omega) := by
    after_reads_simp
    rfl
  have h1 : StableHlo.upto hostOps0 (fun b => m (c, b)) 277 (Proc.tc.devRef main_v162) = row (byDist (m ((c.tc : Thread nD τ).loc main_arg3))) 110 (by omega) := by
    after_reads_simp
    rfl
  have h2 : StableHlo.upto hostOps0 (fun b => m (c, b)) 277 (Proc.tc.devRef main_v163) = row (byDist (m ((c.tc : Thread nD τ).loc main_arg3))) 109 (by omega) := by
    after_reads_simp
    rfl
  have h3 : StableHlo.upto hostOps0 (fun b => m (c, b)) 277 (Proc.tc.devRef main_v164) = row (byDist (m ((c.tc : Thread nD τ).loc main_arg3))) 108 (by omega) := by
    after_reads_simp
    rfl
  have h4 : StableHlo.upto hostOps0 (fun b => m (c, b)) 277 (Proc.tc.devRef main_v165) = row (byDist (m ((c.tc : Thread nD τ).loc main_arg3))) 107 (by omega) := by
    after_reads_simp
    rfl
  have h5 : StableHlo.upto hostOps0 (fun b => m (c, b)) 277 (Proc.tc.devRef main_v166) = row (byDist (m ((c.tc : Thread nD τ).loc main_arg3))) 106 (by omega) := by
    after_reads_simp
    rfl
  have h6 : StableHlo.upto hostOps0 (fun b => m (c, b)) 277 (Proc.tc.devRef main_v167) = row (byDist (m ((c.tc : Thread nD τ).loc main_arg3))) 105 (by omega) := by
    after_reads_simp
    rfl
  have h7 : StableHlo.upto hostOps0 (fun b => m (c, b)) 277 (Proc.tc.devRef main_v168) = row (byDist (m ((c.tc : Thread nD τ).loc main_arg3))) 104 (by omega) := by
    after_reads_simp
    rfl
  have h8 : StableHlo.upto hostOps0 (fun b => m (c, b)) 277 (Proc.tc.devRef main_v169) = row (byDist (m ((c.tc : Thread nD τ).loc main_arg3))) 103 (by omega) := by
    after_reads_simp
    rfl
  have h9 : StableHlo.upto hostOps0 (fun b => m (c, b)) 277 (Proc.tc.devRef main_v170) = row (byDist (m ((c.tc : Thread nD τ).loc main_arg3))) 102 (by omega) := by
    after_reads_simp
    rfl
  have h10 : StableHlo.upto hostOps0 (fun b => m (c, b)) 277 (Proc.tc.devRef main_v171) = row (byDist (m ((c.tc : Thread nD τ).loc main_arg3))) 101 (by omega) := by
    after_reads_simp
    rfl
  have h11 : StableHlo.upto hostOps0 (fun b => m (c, b)) 277 (Proc.tc.devRef main_v172) = row (byDist (m ((c.tc : Thread nD τ).loc main_arg3))) 100 (by omega) := by
    after_reads_simp
    rfl
  have h12 : StableHlo.upto hostOps0 (fun b => m (c, b)) 277 (Proc.tc.devRef main_v173) = row (byDist (m ((c.tc : Thread nD τ).loc main_arg3))) 99 (by omega) := by
    after_reads_simp
    rfl
  have h13 : StableHlo.upto hostOps0 (fun b => m (c, b)) 277 (Proc.tc.devRef main_v174) = row (byDist (m ((c.tc : Thread nD τ).loc main_arg3))) 98 (by omega) := by
    after_reads_simp
    rfl
  have h14 : StableHlo.upto hostOps0 (fun b => m (c, b)) 277 (Proc.tc.devRef main_v175) = row (byDist (m ((c.tc : Thread nD τ).loc main_arg3))) 97 (by omega) := by
    after_reads_simp
    rfl
  have h15 : StableHlo.upto hostOps0 (fun b => m (c, b)) 277 (Proc.tc.devRef main_v176) = row (byDist (m ((c.tc : Thread nD τ).loc main_arg3))) 96 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto276 (m : (ℓ : Loc nD τ sig) → Buf (Elt Ideal) ℓ) (c : Dev nD) :
    StableHlo.upto hostOps0 (fun b => m (c, b)) 284 (Proc.tc.devRef main_v275) = rows16 (byDist (m ((c.tc : Thread nD τ).loc main_arg3))) 95 (by omega) := by
  have h0 : StableHlo.upto hostOps0 (fun b => m (c, b)) 278 (Proc.tc.devRef main_v177) = row (byDist (m ((c.tc : Thread nD τ).loc main_arg3))) 95 (by omega) := by
    after_reads_simp
    rfl
  have h1 : StableHlo.upto hostOps0 (fun b => m (c, b)) 278 (Proc.tc.devRef main_v178) = row (byDist (m ((c.tc : Thread nD τ).loc main_arg3))) 94 (by omega) := by
    after_reads_simp
    rfl
  have h2 : StableHlo.upto hostOps0 (fun b => m (c, b)) 278 (Proc.tc.devRef main_v179) = row (byDist (m ((c.tc : Thread nD τ).loc main_arg3))) 93 (by omega) := by
    after_reads_simp
    rfl
  have h3 : StableHlo.upto hostOps0 (fun b => m (c, b)) 278 (Proc.tc.devRef main_v180) = row (byDist (m ((c.tc : Thread nD τ).loc main_arg3))) 92 (by omega) := by
    after_reads_simp
    rfl
  have h4 : StableHlo.upto hostOps0 (fun b => m (c, b)) 278 (Proc.tc.devRef main_v181) = row (byDist (m ((c.tc : Thread nD τ).loc main_arg3))) 91 (by omega) := by
    after_reads_simp
    rfl
  have h5 : StableHlo.upto hostOps0 (fun b => m (c, b)) 278 (Proc.tc.devRef main_v182) = row (byDist (m ((c.tc : Thread nD τ).loc main_arg3))) 90 (by omega) := by
    after_reads_simp
    rfl
  have h6 : StableHlo.upto hostOps0 (fun b => m (c, b)) 278 (Proc.tc.devRef main_v183) = row (byDist (m ((c.tc : Thread nD τ).loc main_arg3))) 89 (by omega) := by
    after_reads_simp
    rfl
  have h7 : StableHlo.upto hostOps0 (fun b => m (c, b)) 278 (Proc.tc.devRef main_v184) = row (byDist (m ((c.tc : Thread nD τ).loc main_arg3))) 88 (by omega) := by
    after_reads_simp
    rfl
  have h8 : StableHlo.upto hostOps0 (fun b => m (c, b)) 278 (Proc.tc.devRef main_v185) = row (byDist (m ((c.tc : Thread nD τ).loc main_arg3))) 87 (by omega) := by
    after_reads_simp
    rfl
  have h9 : StableHlo.upto hostOps0 (fun b => m (c, b)) 278 (Proc.tc.devRef main_v186) = row (byDist (m ((c.tc : Thread nD τ).loc main_arg3))) 86 (by omega) := by
    after_reads_simp
    rfl
  have h10 : StableHlo.upto hostOps0 (fun b => m (c, b)) 278 (Proc.tc.devRef main_v187) = row (byDist (m ((c.tc : Thread nD τ).loc main_arg3))) 85 (by omega) := by
    after_reads_simp
    rfl
  have h11 : StableHlo.upto hostOps0 (fun b => m (c, b)) 278 (Proc.tc.devRef main_v188) = row (byDist (m ((c.tc : Thread nD τ).loc main_arg3))) 84 (by omega) := by
    after_reads_simp
    rfl
  have h12 : StableHlo.upto hostOps0 (fun b => m (c, b)) 278 (Proc.tc.devRef main_v189) = row (byDist (m ((c.tc : Thread nD τ).loc main_arg3))) 83 (by omega) := by
    after_reads_simp
    rfl
  have h13 : StableHlo.upto hostOps0 (fun b => m (c, b)) 278 (Proc.tc.devRef main_v190) = row (byDist (m ((c.tc : Thread nD τ).loc main_arg3))) 82 (by omega) := by
    after_reads_simp
    rfl
  have h14 : StableHlo.upto hostOps0 (fun b => m (c, b)) 278 (Proc.tc.devRef main_v191) = row (byDist (m ((c.tc : Thread nD τ).loc main_arg3))) 81 (by omega) := by
    after_reads_simp
    rfl
  have h15 : StableHlo.upto hostOps0 (fun b => m (c, b)) 278 (Proc.tc.devRef main_v192) = row (byDist (m ((c.tc : Thread nD τ).loc main_arg3))) 80 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto277 (m : (ℓ : Loc nD τ sig) → Buf (Elt Ideal) ℓ) (c : Dev nD) :
    StableHlo.upto hostOps0 (fun b => m (c, b)) 284 (Proc.tc.devRef main_v276) = rows16 (byDist (m ((c.tc : Thread nD τ).loc main_arg3))) 79 (by omega) := by
  have h0 : StableHlo.upto hostOps0 (fun b => m (c, b)) 279 (Proc.tc.devRef main_v193) = row (byDist (m ((c.tc : Thread nD τ).loc main_arg3))) 79 (by omega) := by
    after_reads_simp
    rfl
  have h1 : StableHlo.upto hostOps0 (fun b => m (c, b)) 279 (Proc.tc.devRef main_v194) = row (byDist (m ((c.tc : Thread nD τ).loc main_arg3))) 78 (by omega) := by
    after_reads_simp
    rfl
  have h2 : StableHlo.upto hostOps0 (fun b => m (c, b)) 279 (Proc.tc.devRef main_v195) = row (byDist (m ((c.tc : Thread nD τ).loc main_arg3))) 77 (by omega) := by
    after_reads_simp
    rfl
  have h3 : StableHlo.upto hostOps0 (fun b => m (c, b)) 279 (Proc.tc.devRef main_v196) = row (byDist (m ((c.tc : Thread nD τ).loc main_arg3))) 76 (by omega) := by
    after_reads_simp
    rfl
  have h4 : StableHlo.upto hostOps0 (fun b => m (c, b)) 279 (Proc.tc.devRef main_v197) = row (byDist (m ((c.tc : Thread nD τ).loc main_arg3))) 75 (by omega) := by
    after_reads_simp
    rfl
  have h5 : StableHlo.upto hostOps0 (fun b => m (c, b)) 279 (Proc.tc.devRef main_v198) = row (byDist (m ((c.tc : Thread nD τ).loc main_arg3))) 74 (by omega) := by
    after_reads_simp
    rfl
  have h6 : StableHlo.upto hostOps0 (fun b => m (c, b)) 279 (Proc.tc.devRef main_v199) = row (byDist (m ((c.tc : Thread nD τ).loc main_arg3))) 73 (by omega) := by
    after_reads_simp
    rfl
  have h7 : StableHlo.upto hostOps0 (fun b => m (c, b)) 279 (Proc.tc.devRef main_v200) = row (byDist (m ((c.tc : Thread nD τ).loc main_arg3))) 72 (by omega) := by
    after_reads_simp
    rfl
  have h8 : StableHlo.upto hostOps0 (fun b => m (c, b)) 279 (Proc.tc.devRef main_v201) = row (byDist (m ((c.tc : Thread nD τ).loc main_arg3))) 71 (by omega) := by
    after_reads_simp
    rfl
  have h9 : StableHlo.upto hostOps0 (fun b => m (c, b)) 279 (Proc.tc.devRef main_v202) = row (byDist (m ((c.tc : Thread nD τ).loc main_arg3))) 70 (by omega) := by
    after_reads_simp
    rfl
  have h10 : StableHlo.upto hostOps0 (fun b => m (c, b)) 279 (Proc.tc.devRef main_v203) = row (byDist (m ((c.tc : Thread nD τ).loc main_arg3))) 69 (by omega) := by
    after_reads_simp
    rfl
  have h11 : StableHlo.upto hostOps0 (fun b => m (c, b)) 279 (Proc.tc.devRef main_v204) = row (byDist (m ((c.tc : Thread nD τ).loc main_arg3))) 68 (by omega) := by
    after_reads_simp
    rfl
  have h12 : StableHlo.upto hostOps0 (fun b => m (c, b)) 279 (Proc.tc.devRef main_v205) = row (byDist (m ((c.tc : Thread nD τ).loc main_arg3))) 67 (by omega) := by
    after_reads_simp
    rfl
  have h13 : StableHlo.upto hostOps0 (fun b => m (c, b)) 279 (Proc.tc.devRef main_v206) = row (byDist (m ((c.tc : Thread nD τ).loc main_arg3))) 66 (by omega) := by
    after_reads_simp
    rfl
  have h14 : StableHlo.upto hostOps0 (fun b => m (c, b)) 279 (Proc.tc.devRef main_v207) = row (byDist (m ((c.tc : Thread nD τ).loc main_arg3))) 65 (by omega) := by
    after_reads_simp
    rfl
  have h15 : StableHlo.upto hostOps0 (fun b => m (c, b)) 279 (Proc.tc.devRef main_v208) = row (byDist (m ((c.tc : Thread nD τ).loc main_arg3))) 64 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto278 (m : (ℓ : Loc nD τ sig) → Buf (Elt Ideal) ℓ) (c : Dev nD) :
    StableHlo.upto hostOps0 (fun b => m (c, b)) 284 (Proc.tc.devRef main_v277) = rows16 (byDist (m ((c.tc : Thread nD τ).loc main_arg3))) 63 (by omega) := by
  have h0 : StableHlo.upto hostOps0 (fun b => m (c, b)) 280 (Proc.tc.devRef main_v209) = row (byDist (m ((c.tc : Thread nD τ).loc main_arg3))) 63 (by omega) := by
    after_reads_simp
    rfl
  have h1 : StableHlo.upto hostOps0 (fun b => m (c, b)) 280 (Proc.tc.devRef main_v210) = row (byDist (m ((c.tc : Thread nD τ).loc main_arg3))) 62 (by omega) := by
    after_reads_simp
    rfl
  have h2 : StableHlo.upto hostOps0 (fun b => m (c, b)) 280 (Proc.tc.devRef main_v211) = row (byDist (m ((c.tc : Thread nD τ).loc main_arg3))) 61 (by omega) := by
    after_reads_simp
    rfl
  have h3 : StableHlo.upto hostOps0 (fun b => m (c, b)) 280 (Proc.tc.devRef main_v212) = row (byDist (m ((c.tc : Thread nD τ).loc main_arg3))) 60 (by omega) := by
    after_reads_simp
    rfl
  have h4 : StableHlo.upto hostOps0 (fun b => m (c, b)) 280 (Proc.tc.devRef main_v213) = row (byDist (m ((c.tc : Thread nD τ).loc main_arg3))) 59 (by omega) := by
    after_reads_simp
    rfl
  have h5 : StableHlo.upto hostOps0 (fun b => m (c, b)) 280 (Proc.tc.devRef main_v214) = row (byDist (m ((c.tc : Thread nD τ).loc main_arg3))) 58 (by omega) := by
    after_reads_simp
    rfl
  have h6 : StableHlo.upto hostOps0 (fun b => m (c, b)) 280 (Proc.tc.devRef main_v215) = row (byDist (m ((c.tc : Thread nD τ).loc main_arg3))) 57 (by omega) := by
    after_reads_simp
    rfl
  have h7 : StableHlo.upto hostOps0 (fun b => m (c, b)) 280 (Proc.tc.devRef main_v216) = row (byDist (m ((c.tc : Thread nD τ).loc main_arg3))) 56 (by omega) := by
    after_reads_simp
    rfl
  have h8 : StableHlo.upto hostOps0 (fun b => m (c, b)) 280 (Proc.tc.devRef main_v217) = row (byDist (m ((c.tc : Thread nD τ).loc main_arg3))) 55 (by omega) := by
    after_reads_simp
    rfl
  have h9 : StableHlo.upto hostOps0 (fun b => m (c, b)) 280 (Proc.tc.devRef main_v218) = row (byDist (m ((c.tc : Thread nD τ).loc main_arg3))) 54 (by omega) := by
    after_reads_simp
    rfl
  have h10 : StableHlo.upto hostOps0 (fun b => m (c, b)) 280 (Proc.tc.devRef main_v219) = row (byDist (m ((c.tc : Thread nD τ).loc main_arg3))) 53 (by omega) := by
    after_reads_simp
    rfl
  have h11 : StableHlo.upto hostOps0 (fun b => m (c, b)) 280 (Proc.tc.devRef main_v220) = row (byDist (m ((c.tc : Thread nD τ).loc main_arg3))) 52 (by omega) := by
    after_reads_simp
    rfl
  have h12 : StableHlo.upto hostOps0 (fun b => m (c, b)) 280 (Proc.tc.devRef main_v221) = row (byDist (m ((c.tc : Thread nD τ).loc main_arg3))) 51 (by omega) := by
    after_reads_simp
    rfl
  have h13 : StableHlo.upto hostOps0 (fun b => m (c, b)) 280 (Proc.tc.devRef main_v222) = row (byDist (m ((c.tc : Thread nD τ).loc main_arg3))) 50 (by omega) := by
    after_reads_simp
    rfl
  have h14 : StableHlo.upto hostOps0 (fun b => m (c, b)) 280 (Proc.tc.devRef main_v223) = row (byDist (m ((c.tc : Thread nD τ).loc main_arg3))) 49 (by omega) := by
    after_reads_simp
    rfl
  have h15 : StableHlo.upto hostOps0 (fun b => m (c, b)) 280 (Proc.tc.devRef main_v224) = row (byDist (m ((c.tc : Thread nD τ).loc main_arg3))) 48 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto279 (m : (ℓ : Loc nD τ sig) → Buf (Elt Ideal) ℓ) (c : Dev nD) :
    StableHlo.upto hostOps0 (fun b => m (c, b)) 284 (Proc.tc.devRef main_v278) = rows16 (byDist (m ((c.tc : Thread nD τ).loc main_arg3))) 47 (by omega) := by
  have h0 : StableHlo.upto hostOps0 (fun b => m (c, b)) 281 (Proc.tc.devRef main_v225) = row (byDist (m ((c.tc : Thread nD τ).loc main_arg3))) 47 (by omega) := by
    after_reads_simp
    rfl
  have h1 : StableHlo.upto hostOps0 (fun b => m (c, b)) 281 (Proc.tc.devRef main_v226) = row (byDist (m ((c.tc : Thread nD τ).loc main_arg3))) 46 (by omega) := by
    after_reads_simp
    rfl
  have h2 : StableHlo.upto hostOps0 (fun b => m (c, b)) 281 (Proc.tc.devRef main_v227) = row (byDist (m ((c.tc : Thread nD τ).loc main_arg3))) 45 (by omega) := by
    after_reads_simp
    rfl
  have h3 : StableHlo.upto hostOps0 (fun b => m (c, b)) 281 (Proc.tc.devRef main_v228) = row (byDist (m ((c.tc : Thread nD τ).loc main_arg3))) 44 (by omega) := by
    after_reads_simp
    rfl
  have h4 : StableHlo.upto hostOps0 (fun b => m (c, b)) 281 (Proc.tc.devRef main_v229) = row (byDist (m ((c.tc : Thread nD τ).loc main_arg3))) 43 (by omega) := by
    after_reads_simp
    rfl
  have h5 : StableHlo.upto hostOps0 (fun b => m (c, b)) 281 (Proc.tc.devRef main_v230) = row (byDist (m ((c.tc : Thread nD τ).loc main_arg3))) 42 (by omega) := by
    after_reads_simp
    rfl
  have h6 : StableHlo.upto hostOps0 (fun b => m (c, b)) 281 (Proc.tc.devRef main_v231) = row (byDist (m ((c.tc : Thread nD τ).loc main_arg3))) 41 (by omega) := by
    after_reads_simp
    rfl
  have h7 : StableHlo.upto hostOps0 (fun b => m (c, b)) 281 (Proc.tc.devRef main_v232) = row (byDist (m ((c.tc : Thread nD τ).loc main_arg3))) 40 (by omega) := by
    after_reads_simp
    rfl
  have h8 : StableHlo.upto hostOps0 (fun b => m (c, b)) 281 (Proc.tc.devRef main_v233) = row (byDist (m ((c.tc : Thread nD τ).loc main_arg3))) 39 (by omega) := by
    after_reads_simp
    rfl
  have h9 : StableHlo.upto hostOps0 (fun b => m (c, b)) 281 (Proc.tc.devRef main_v234) = row (byDist (m ((c.tc : Thread nD τ).loc main_arg3))) 38 (by omega) := by
    after_reads_simp
    rfl
  have h10 : StableHlo.upto hostOps0 (fun b => m (c, b)) 281 (Proc.tc.devRef main_v235) = row (byDist (m ((c.tc : Thread nD τ).loc main_arg3))) 37 (by omega) := by
    after_reads_simp
    rfl
  have h11 : StableHlo.upto hostOps0 (fun b => m (c, b)) 281 (Proc.tc.devRef main_v236) = row (byDist (m ((c.tc : Thread nD τ).loc main_arg3))) 36 (by omega) := by
    after_reads_simp
    rfl
  have h12 : StableHlo.upto hostOps0 (fun b => m (c, b)) 281 (Proc.tc.devRef main_v237) = row (byDist (m ((c.tc : Thread nD τ).loc main_arg3))) 35 (by omega) := by
    after_reads_simp
    rfl
  have h13 : StableHlo.upto hostOps0 (fun b => m (c, b)) 281 (Proc.tc.devRef main_v238) = row (byDist (m ((c.tc : Thread nD τ).loc main_arg3))) 34 (by omega) := by
    after_reads_simp
    rfl
  have h14 : StableHlo.upto hostOps0 (fun b => m (c, b)) 281 (Proc.tc.devRef main_v239) = row (byDist (m ((c.tc : Thread nD τ).loc main_arg3))) 33 (by omega) := by
    after_reads_simp
    rfl
  have h15 : StableHlo.upto hostOps0 (fun b => m (c, b)) 281 (Proc.tc.devRef main_v240) = row (byDist (m ((c.tc : Thread nD τ).loc main_arg3))) 32 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto280 (m : (ℓ : Loc nD τ sig) → Buf (Elt Ideal) ℓ) (c : Dev nD) :
    StableHlo.upto hostOps0 (fun b => m (c, b)) 284 (Proc.tc.devRef main_v279) = rows16 (byDist (m ((c.tc : Thread nD τ).loc main_arg3))) 31 (by omega) := by
  have h0 : StableHlo.upto hostOps0 (fun b => m (c, b)) 282 (Proc.tc.devRef main_v241) = row (byDist (m ((c.tc : Thread nD τ).loc main_arg3))) 31 (by omega) := by
    after_reads_simp
    rfl
  have h1 : StableHlo.upto hostOps0 (fun b => m (c, b)) 282 (Proc.tc.devRef main_v242) = row (byDist (m ((c.tc : Thread nD τ).loc main_arg3))) 30 (by omega) := by
    after_reads_simp
    rfl
  have h2 : StableHlo.upto hostOps0 (fun b => m (c, b)) 282 (Proc.tc.devRef main_v243) = row (byDist (m ((c.tc : Thread nD τ).loc main_arg3))) 29 (by omega) := by
    after_reads_simp
    rfl
  have h3 : StableHlo.upto hostOps0 (fun b => m (c, b)) 282 (Proc.tc.devRef main_v244) = row (byDist (m ((c.tc : Thread nD τ).loc main_arg3))) 28 (by omega) := by
    after_reads_simp
    rfl
  have h4 : StableHlo.upto hostOps0 (fun b => m (c, b)) 282 (Proc.tc.devRef main_v245) = row (byDist (m ((c.tc : Thread nD τ).loc main_arg3))) 27 (by omega) := by
    after_reads_simp
    rfl
  have h5 : StableHlo.upto hostOps0 (fun b => m (c, b)) 282 (Proc.tc.devRef main_v246) = row (byDist (m ((c.tc : Thread nD τ).loc main_arg3))) 26 (by omega) := by
    after_reads_simp
    rfl
  have h6 : StableHlo.upto hostOps0 (fun b => m (c, b)) 282 (Proc.tc.devRef main_v247) = row (byDist (m ((c.tc : Thread nD τ).loc main_arg3))) 25 (by omega) := by
    after_reads_simp
    rfl
  have h7 : StableHlo.upto hostOps0 (fun b => m (c, b)) 282 (Proc.tc.devRef main_v248) = row (byDist (m ((c.tc : Thread nD τ).loc main_arg3))) 24 (by omega) := by
    after_reads_simp
    rfl
  have h8 : StableHlo.upto hostOps0 (fun b => m (c, b)) 282 (Proc.tc.devRef main_v249) = row (byDist (m ((c.tc : Thread nD τ).loc main_arg3))) 23 (by omega) := by
    after_reads_simp
    rfl
  have h9 : StableHlo.upto hostOps0 (fun b => m (c, b)) 282 (Proc.tc.devRef main_v250) = row (byDist (m ((c.tc : Thread nD τ).loc main_arg3))) 22 (by omega) := by
    after_reads_simp
    rfl
  have h10 : StableHlo.upto hostOps0 (fun b => m (c, b)) 282 (Proc.tc.devRef main_v251) = row (byDist (m ((c.tc : Thread nD τ).loc main_arg3))) 21 (by omega) := by
    after_reads_simp
    rfl
  have h11 : StableHlo.upto hostOps0 (fun b => m (c, b)) 282 (Proc.tc.devRef main_v252) = row (byDist (m ((c.tc : Thread nD τ).loc main_arg3))) 20 (by omega) := by
    after_reads_simp
    rfl
  have h12 : StableHlo.upto hostOps0 (fun b => m (c, b)) 282 (Proc.tc.devRef main_v253) = row (byDist (m ((c.tc : Thread nD τ).loc main_arg3))) 19 (by omega) := by
    after_reads_simp
    rfl
  have h13 : StableHlo.upto hostOps0 (fun b => m (c, b)) 282 (Proc.tc.devRef main_v254) = row (byDist (m ((c.tc : Thread nD τ).loc main_arg3))) 18 (by omega) := by
    after_reads_simp
    rfl
  have h14 : StableHlo.upto hostOps0 (fun b => m (c, b)) 282 (Proc.tc.devRef main_v255) = row (byDist (m ((c.tc : Thread nD τ).loc main_arg3))) 17 (by omega) := by
    after_reads_simp
    rfl
  have h15 : StableHlo.upto hostOps0 (fun b => m (c, b)) 282 (Proc.tc.devRef main_v256) = row (byDist (m ((c.tc : Thread nD τ).loc main_arg3))) 16 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto281 (m : (ℓ : Loc nD τ sig) → Buf (Elt Ideal) ℓ) (c : Dev nD) :
    StableHlo.upto hostOps0 (fun b => m (c, b)) 284 (Proc.tc.devRef main_v280) = rows16 (byDist (m ((c.tc : Thread nD τ).loc main_arg3))) 15 (by omega) := by
  have h0 : StableHlo.upto hostOps0 (fun b => m (c, b)) 283 (Proc.tc.devRef main_v257) = row (byDist (m ((c.tc : Thread nD τ).loc main_arg3))) 15 (by omega) := by
    after_reads_simp
    rfl
  have h1 : StableHlo.upto hostOps0 (fun b => m (c, b)) 283 (Proc.tc.devRef main_v258) = row (byDist (m ((c.tc : Thread nD τ).loc main_arg3))) 14 (by omega) := by
    after_reads_simp
    rfl
  have h2 : StableHlo.upto hostOps0 (fun b => m (c, b)) 283 (Proc.tc.devRef main_v259) = row (byDist (m ((c.tc : Thread nD τ).loc main_arg3))) 13 (by omega) := by
    after_reads_simp
    rfl
  have h3 : StableHlo.upto hostOps0 (fun b => m (c, b)) 283 (Proc.tc.devRef main_v260) = row (byDist (m ((c.tc : Thread nD τ).loc main_arg3))) 12 (by omega) := by
    after_reads_simp
    rfl
  have h4 : StableHlo.upto hostOps0 (fun b => m (c, b)) 283 (Proc.tc.devRef main_v261) = row (byDist (m ((c.tc : Thread nD τ).loc main_arg3))) 11 (by omega) := by
    after_reads_simp
    rfl
  have h5 : StableHlo.upto hostOps0 (fun b => m (c, b)) 283 (Proc.tc.devRef main_v262) = row (byDist (m ((c.tc : Thread nD τ).loc main_arg3))) 10 (by omega) := by
    after_reads_simp
    rfl
  have h6 : StableHlo.upto hostOps0 (fun b => m (c, b)) 283 (Proc.tc.devRef main_v263) = row (byDist (m ((c.tc : Thread nD τ).loc main_arg3))) 9 (by omega) := by
    after_reads_simp
    rfl
  have h7 : StableHlo.upto hostOps0 (fun b => m (c, b)) 283 (Proc.tc.devRef main_v264) = row (byDist (m ((c.tc : Thread nD τ).loc main_arg3))) 8 (by omega) := by
    after_reads_simp
    rfl
  have h8 : StableHlo.upto hostOps0 (fun b => m (c, b)) 283 (Proc.tc.devRef main_v265) = row (byDist (m ((c.tc : Thread nD τ).loc main_arg3))) 7 (by omega) := by
    after_reads_simp
    rfl
  have h9 : StableHlo.upto hostOps0 (fun b => m (c, b)) 283 (Proc.tc.devRef main_v266) = row (byDist (m ((c.tc : Thread nD τ).loc main_arg3))) 6 (by omega) := by
    after_reads_simp
    rfl
  have h10 : StableHlo.upto hostOps0 (fun b => m (c, b)) 283 (Proc.tc.devRef main_v267) = row (byDist (m ((c.tc : Thread nD τ).loc main_arg3))) 5 (by omega) := by
    after_reads_simp
    rfl
  have h11 : StableHlo.upto hostOps0 (fun b => m (c, b)) 283 (Proc.tc.devRef main_v268) = row (byDist (m ((c.tc : Thread nD τ).loc main_arg3))) 4 (by omega) := by
    after_reads_simp
    rfl
  have h12 : StableHlo.upto hostOps0 (fun b => m (c, b)) 283 (Proc.tc.devRef main_v269) = row (byDist (m ((c.tc : Thread nD τ).loc main_arg3))) 3 (by omega) := by
    after_reads_simp
    rfl
  have h13 : StableHlo.upto hostOps0 (fun b => m (c, b)) 283 (Proc.tc.devRef main_v270) = row (byDist (m ((c.tc : Thread nD τ).loc main_arg3))) 2 (by omega) := by
    after_reads_simp
    rfl
  have h14 : StableHlo.upto hostOps0 (fun b => m (c, b)) 283 (Proc.tc.devRef main_v271) = row (byDist (m ((c.tc : Thread nD τ).loc main_arg3))) 1 (by omega) := by
    after_reads_simp
    rfl
  have h15 : StableHlo.upto hostOps0 (fun b => m (c, b)) 283 (Proc.tc.devRef main_v272) = row (byDist (m ((c.tc : Thread nD τ).loc main_arg3))) 0 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto539 (m : (ℓ : Loc nD τ sig) → Buf (Elt Ideal) ℓ) (c : Dev nD) :
    StableHlo.upto hostOps0 (fun b => m (c, b)) 549 (Proc.tc.devRef main_v538) = rows16 (byDist (m ((c.tc : Thread nD τ).loc main_arg3))) 255 (by omega) := by
  have h0 : StableHlo.upto hostOps0 (fun b => m (c, b)) 541 (Proc.tc.devRef main_v410) = row (byDist (m ((c.tc : Thread nD τ).loc main_arg3))) 255 (by omega) := by
    after_reads_simp
    rfl
  have h1 : StableHlo.upto hostOps0 (fun b => m (c, b)) 541 (Proc.tc.devRef main_v411) = row (byDist (m ((c.tc : Thread nD τ).loc main_arg3))) 254 (by omega) := by
    after_reads_simp
    rfl
  have h2 : StableHlo.upto hostOps0 (fun b => m (c, b)) 541 (Proc.tc.devRef main_v412) = row (byDist (m ((c.tc : Thread nD τ).loc main_arg3))) 253 (by omega) := by
    after_reads_simp
    rfl
  have h3 : StableHlo.upto hostOps0 (fun b => m (c, b)) 541 (Proc.tc.devRef main_v413) = row (byDist (m ((c.tc : Thread nD τ).loc main_arg3))) 252 (by omega) := by
    after_reads_simp
    rfl
  have h4 : StableHlo.upto hostOps0 (fun b => m (c, b)) 541 (Proc.tc.devRef main_v414) = row (byDist (m ((c.tc : Thread nD τ).loc main_arg3))) 251 (by omega) := by
    after_reads_simp
    rfl
  have h5 : StableHlo.upto hostOps0 (fun b => m (c, b)) 541 (Proc.tc.devRef main_v415) = row (byDist (m ((c.tc : Thread nD τ).loc main_arg3))) 250 (by omega) := by
    after_reads_simp
    rfl
  have h6 : StableHlo.upto hostOps0 (fun b => m (c, b)) 541 (Proc.tc.devRef main_v416) = row (byDist (m ((c.tc : Thread nD τ).loc main_arg3))) 249 (by omega) := by
    after_reads_simp
    rfl
  have h7 : StableHlo.upto hostOps0 (fun b => m (c, b)) 541 (Proc.tc.devRef main_v417) = row (byDist (m ((c.tc : Thread nD τ).loc main_arg3))) 248 (by omega) := by
    after_reads_simp
    rfl
  have h8 : StableHlo.upto hostOps0 (fun b => m (c, b)) 541 (Proc.tc.devRef main_v418) = row (byDist (m ((c.tc : Thread nD τ).loc main_arg3))) 247 (by omega) := by
    after_reads_simp
    rfl
  have h9 : StableHlo.upto hostOps0 (fun b => m (c, b)) 541 (Proc.tc.devRef main_v419) = row (byDist (m ((c.tc : Thread nD τ).loc main_arg3))) 246 (by omega) := by
    after_reads_simp
    rfl
  have h10 : StableHlo.upto hostOps0 (fun b => m (c, b)) 541 (Proc.tc.devRef main_v420) = row (byDist (m ((c.tc : Thread nD τ).loc main_arg3))) 245 (by omega) := by
    after_reads_simp
    rfl
  have h11 : StableHlo.upto hostOps0 (fun b => m (c, b)) 541 (Proc.tc.devRef main_v421) = row (byDist (m ((c.tc : Thread nD τ).loc main_arg3))) 244 (by omega) := by
    after_reads_simp
    rfl
  have h12 : StableHlo.upto hostOps0 (fun b => m (c, b)) 541 (Proc.tc.devRef main_v422) = row (byDist (m ((c.tc : Thread nD τ).loc main_arg3))) 243 (by omega) := by
    after_reads_simp
    rfl
  have h13 : StableHlo.upto hostOps0 (fun b => m (c, b)) 541 (Proc.tc.devRef main_v423) = row (byDist (m ((c.tc : Thread nD τ).loc main_arg3))) 242 (by omega) := by
    after_reads_simp
    rfl
  have h14 : StableHlo.upto hostOps0 (fun b => m (c, b)) 541 (Proc.tc.devRef main_v424) = row (byDist (m ((c.tc : Thread nD τ).loc main_arg3))) 241 (by omega) := by
    after_reads_simp
    rfl
  have h15 : StableHlo.upto hostOps0 (fun b => m (c, b)) 541 (Proc.tc.devRef main_v425) = row (byDist (m ((c.tc : Thread nD τ).loc main_arg3))) 240 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto540 (m : (ℓ : Loc nD τ sig) → Buf (Elt Ideal) ℓ) (c : Dev nD) :
    StableHlo.upto hostOps0 (fun b => m (c, b)) 549 (Proc.tc.devRef main_v539) = rows16 (byDist (m ((c.tc : Thread nD τ).loc main_arg3))) 239 (by omega) := by
  have h0 : StableHlo.upto hostOps0 (fun b => m (c, b)) 542 (Proc.tc.devRef main_v426) = row (byDist (m ((c.tc : Thread nD τ).loc main_arg3))) 239 (by omega) := by
    after_reads_simp
    rfl
  have h1 : StableHlo.upto hostOps0 (fun b => m (c, b)) 542 (Proc.tc.devRef main_v427) = row (byDist (m ((c.tc : Thread nD τ).loc main_arg3))) 238 (by omega) := by
    after_reads_simp
    rfl
  have h2 : StableHlo.upto hostOps0 (fun b => m (c, b)) 542 (Proc.tc.devRef main_v428) = row (byDist (m ((c.tc : Thread nD τ).loc main_arg3))) 237 (by omega) := by
    after_reads_simp
    rfl
  have h3 : StableHlo.upto hostOps0 (fun b => m (c, b)) 542 (Proc.tc.devRef main_v429) = row (byDist (m ((c.tc : Thread nD τ).loc main_arg3))) 236 (by omega) := by
    after_reads_simp
    rfl
  have h4 : StableHlo.upto hostOps0 (fun b => m (c, b)) 542 (Proc.tc.devRef main_v430) = row (byDist (m ((c.tc : Thread nD τ).loc main_arg3))) 235 (by omega) := by
    after_reads_simp
    rfl
  have h5 : StableHlo.upto hostOps0 (fun b => m (c, b)) 542 (Proc.tc.devRef main_v431) = row (byDist (m ((c.tc : Thread nD τ).loc main_arg3))) 234 (by omega) := by
    after_reads_simp
    rfl
  have h6 : StableHlo.upto hostOps0 (fun b => m (c, b)) 542 (Proc.tc.devRef main_v432) = row (byDist (m ((c.tc : Thread nD τ).loc main_arg3))) 233 (by omega) := by
    after_reads_simp
    rfl
  have h7 : StableHlo.upto hostOps0 (fun b => m (c, b)) 542 (Proc.tc.devRef main_v433) = row (byDist (m ((c.tc : Thread nD τ).loc main_arg3))) 232 (by omega) := by
    after_reads_simp
    rfl
  have h8 : StableHlo.upto hostOps0 (fun b => m (c, b)) 542 (Proc.tc.devRef main_v434) = row (byDist (m ((c.tc : Thread nD τ).loc main_arg3))) 231 (by omega) := by
    after_reads_simp
    rfl
  have h9 : StableHlo.upto hostOps0 (fun b => m (c, b)) 542 (Proc.tc.devRef main_v435) = row (byDist (m ((c.tc : Thread nD τ).loc main_arg3))) 230 (by omega) := by
    after_reads_simp
    rfl
  have h10 : StableHlo.upto hostOps0 (fun b => m (c, b)) 542 (Proc.tc.devRef main_v436) = row (byDist (m ((c.tc : Thread nD τ).loc main_arg3))) 229 (by omega) := by
    after_reads_simp
    rfl
  have h11 : StableHlo.upto hostOps0 (fun b => m (c, b)) 542 (Proc.tc.devRef main_v437) = row (byDist (m ((c.tc : Thread nD τ).loc main_arg3))) 228 (by omega) := by
    after_reads_simp
    rfl
  have h12 : StableHlo.upto hostOps0 (fun b => m (c, b)) 542 (Proc.tc.devRef main_v438) = row (byDist (m ((c.tc : Thread nD τ).loc main_arg3))) 227 (by omega) := by
    after_reads_simp
    rfl
  have h13 : StableHlo.upto hostOps0 (fun b => m (c, b)) 542 (Proc.tc.devRef main_v439) = row (byDist (m ((c.tc : Thread nD τ).loc main_arg3))) 226 (by omega) := by
    after_reads_simp
    rfl
  have h14 : StableHlo.upto hostOps0 (fun b => m (c, b)) 542 (Proc.tc.devRef main_v440) = row (byDist (m ((c.tc : Thread nD τ).loc main_arg3))) 225 (by omega) := by
    after_reads_simp
    rfl
  have h15 : StableHlo.upto hostOps0 (fun b => m (c, b)) 542 (Proc.tc.devRef main_v441) = row (byDist (m ((c.tc : Thread nD τ).loc main_arg3))) 224 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto541 (m : (ℓ : Loc nD τ sig) → Buf (Elt Ideal) ℓ) (c : Dev nD) :
    StableHlo.upto hostOps0 (fun b => m (c, b)) 549 (Proc.tc.devRef main_v540) = rows16 (byDist (m ((c.tc : Thread nD τ).loc main_arg3))) 223 (by omega) := by
  have h0 : StableHlo.upto hostOps0 (fun b => m (c, b)) 543 (Proc.tc.devRef main_v442) = row (byDist (m ((c.tc : Thread nD τ).loc main_arg3))) 223 (by omega) := by
    after_reads_simp
    rfl
  have h1 : StableHlo.upto hostOps0 (fun b => m (c, b)) 543 (Proc.tc.devRef main_v443) = row (byDist (m ((c.tc : Thread nD τ).loc main_arg3))) 222 (by omega) := by
    after_reads_simp
    rfl
  have h2 : StableHlo.upto hostOps0 (fun b => m (c, b)) 543 (Proc.tc.devRef main_v444) = row (byDist (m ((c.tc : Thread nD τ).loc main_arg3))) 221 (by omega) := by
    after_reads_simp
    rfl
  have h3 : StableHlo.upto hostOps0 (fun b => m (c, b)) 543 (Proc.tc.devRef main_v445) = row (byDist (m ((c.tc : Thread nD τ).loc main_arg3))) 220 (by omega) := by
    after_reads_simp
    rfl
  have h4 : StableHlo.upto hostOps0 (fun b => m (c, b)) 543 (Proc.tc.devRef main_v446) = row (byDist (m ((c.tc : Thread nD τ).loc main_arg3))) 219 (by omega) := by
    after_reads_simp
    rfl
  have h5 : StableHlo.upto hostOps0 (fun b => m (c, b)) 543 (Proc.tc.devRef main_v447) = row (byDist (m ((c.tc : Thread nD τ).loc main_arg3))) 218 (by omega) := by
    after_reads_simp
    rfl
  have h6 : StableHlo.upto hostOps0 (fun b => m (c, b)) 543 (Proc.tc.devRef main_v448) = row (byDist (m ((c.tc : Thread nD τ).loc main_arg3))) 217 (by omega) := by
    after_reads_simp
    rfl
  have h7 : StableHlo.upto hostOps0 (fun b => m (c, b)) 543 (Proc.tc.devRef main_v449) = row (byDist (m ((c.tc : Thread nD τ).loc main_arg3))) 216 (by omega) := by
    after_reads_simp
    rfl
  have h8 : StableHlo.upto hostOps0 (fun b => m (c, b)) 543 (Proc.tc.devRef main_v450) = row (byDist (m ((c.tc : Thread nD τ).loc main_arg3))) 215 (by omega) := by
    after_reads_simp
    rfl
  have h9 : StableHlo.upto hostOps0 (fun b => m (c, b)) 543 (Proc.tc.devRef main_v451) = row (byDist (m ((c.tc : Thread nD τ).loc main_arg3))) 214 (by omega) := by
    after_reads_simp
    rfl
  have h10 : StableHlo.upto hostOps0 (fun b => m (c, b)) 543 (Proc.tc.devRef main_v452) = row (byDist (m ((c.tc : Thread nD τ).loc main_arg3))) 213 (by omega) := by
    after_reads_simp
    rfl
  have h11 : StableHlo.upto hostOps0 (fun b => m (c, b)) 543 (Proc.tc.devRef main_v453) = row (byDist (m ((c.tc : Thread nD τ).loc main_arg3))) 212 (by omega) := by
    after_reads_simp
    rfl
  have h12 : StableHlo.upto hostOps0 (fun b => m (c, b)) 543 (Proc.tc.devRef main_v454) = row (byDist (m ((c.tc : Thread nD τ).loc main_arg3))) 211 (by omega) := by
    after_reads_simp
    rfl
  have h13 : StableHlo.upto hostOps0 (fun b => m (c, b)) 543 (Proc.tc.devRef main_v455) = row (byDist (m ((c.tc : Thread nD τ).loc main_arg3))) 210 (by omega) := by
    after_reads_simp
    rfl
  have h14 : StableHlo.upto hostOps0 (fun b => m (c, b)) 543 (Proc.tc.devRef main_v456) = row (byDist (m ((c.tc : Thread nD τ).loc main_arg3))) 209 (by omega) := by
    after_reads_simp
    rfl
  have h15 : StableHlo.upto hostOps0 (fun b => m (c, b)) 543 (Proc.tc.devRef main_v457) = row (byDist (m ((c.tc : Thread nD τ).loc main_arg3))) 208 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto542 (m : (ℓ : Loc nD τ sig) → Buf (Elt Ideal) ℓ) (c : Dev nD) :
    StableHlo.upto hostOps0 (fun b => m (c, b)) 549 (Proc.tc.devRef main_v541) = rows16 (byDist (m ((c.tc : Thread nD τ).loc main_arg3))) 207 (by omega) := by
  have h0 : StableHlo.upto hostOps0 (fun b => m (c, b)) 544 (Proc.tc.devRef main_v458) = row (byDist (m ((c.tc : Thread nD τ).loc main_arg3))) 207 (by omega) := by
    after_reads_simp
    rfl
  have h1 : StableHlo.upto hostOps0 (fun b => m (c, b)) 544 (Proc.tc.devRef main_v459) = row (byDist (m ((c.tc : Thread nD τ).loc main_arg3))) 206 (by omega) := by
    after_reads_simp
    rfl
  have h2 : StableHlo.upto hostOps0 (fun b => m (c, b)) 544 (Proc.tc.devRef main_v460) = row (byDist (m ((c.tc : Thread nD τ).loc main_arg3))) 205 (by omega) := by
    after_reads_simp
    rfl
  have h3 : StableHlo.upto hostOps0 (fun b => m (c, b)) 544 (Proc.tc.devRef main_v461) = row (byDist (m ((c.tc : Thread nD τ).loc main_arg3))) 204 (by omega) := by
    after_reads_simp
    rfl
  have h4 : StableHlo.upto hostOps0 (fun b => m (c, b)) 544 (Proc.tc.devRef main_v462) = row (byDist (m ((c.tc : Thread nD τ).loc main_arg3))) 203 (by omega) := by
    after_reads_simp
    rfl
  have h5 : StableHlo.upto hostOps0 (fun b => m (c, b)) 544 (Proc.tc.devRef main_v463) = row (byDist (m ((c.tc : Thread nD τ).loc main_arg3))) 202 (by omega) := by
    after_reads_simp
    rfl
  have h6 : StableHlo.upto hostOps0 (fun b => m (c, b)) 544 (Proc.tc.devRef main_v464) = row (byDist (m ((c.tc : Thread nD τ).loc main_arg3))) 201 (by omega) := by
    after_reads_simp
    rfl
  have h7 : StableHlo.upto hostOps0 (fun b => m (c, b)) 544 (Proc.tc.devRef main_v465) = row (byDist (m ((c.tc : Thread nD τ).loc main_arg3))) 200 (by omega) := by
    after_reads_simp
    rfl
  have h8 : StableHlo.upto hostOps0 (fun b => m (c, b)) 544 (Proc.tc.devRef main_v466) = row (byDist (m ((c.tc : Thread nD τ).loc main_arg3))) 199 (by omega) := by
    after_reads_simp
    rfl
  have h9 : StableHlo.upto hostOps0 (fun b => m (c, b)) 544 (Proc.tc.devRef main_v467) = row (byDist (m ((c.tc : Thread nD τ).loc main_arg3))) 198 (by omega) := by
    after_reads_simp
    rfl
  have h10 : StableHlo.upto hostOps0 (fun b => m (c, b)) 544 (Proc.tc.devRef main_v468) = row (byDist (m ((c.tc : Thread nD τ).loc main_arg3))) 197 (by omega) := by
    after_reads_simp
    rfl
  have h11 : StableHlo.upto hostOps0 (fun b => m (c, b)) 544 (Proc.tc.devRef main_v469) = row (byDist (m ((c.tc : Thread nD τ).loc main_arg3))) 196 (by omega) := by
    after_reads_simp
    rfl
  have h12 : StableHlo.upto hostOps0 (fun b => m (c, b)) 544 (Proc.tc.devRef main_v470) = row (byDist (m ((c.tc : Thread nD τ).loc main_arg3))) 195 (by omega) := by
    after_reads_simp
    rfl
  have h13 : StableHlo.upto hostOps0 (fun b => m (c, b)) 544 (Proc.tc.devRef main_v471) = row (byDist (m ((c.tc : Thread nD τ).loc main_arg3))) 194 (by omega) := by
    after_reads_simp
    rfl
  have h14 : StableHlo.upto hostOps0 (fun b => m (c, b)) 544 (Proc.tc.devRef main_v472) = row (byDist (m ((c.tc : Thread nD τ).loc main_arg3))) 193 (by omega) := by
    after_reads_simp
    rfl
  have h15 : StableHlo.upto hostOps0 (fun b => m (c, b)) 544 (Proc.tc.devRef main_v473) = row (byDist (m ((c.tc : Thread nD τ).loc main_arg3))) 192 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto543 (m : (ℓ : Loc nD τ sig) → Buf (Elt Ideal) ℓ) (c : Dev nD) :
    StableHlo.upto hostOps0 (fun b => m (c, b)) 549 (Proc.tc.devRef main_v542) = rows16 (byDist (m ((c.tc : Thread nD τ).loc main_arg3))) 191 (by omega) := by
  have h0 : StableHlo.upto hostOps0 (fun b => m (c, b)) 545 (Proc.tc.devRef main_v474) = row (byDist (m ((c.tc : Thread nD τ).loc main_arg3))) 191 (by omega) := by
    after_reads_simp
    rfl
  have h1 : StableHlo.upto hostOps0 (fun b => m (c, b)) 545 (Proc.tc.devRef main_v475) = row (byDist (m ((c.tc : Thread nD τ).loc main_arg3))) 190 (by omega) := by
    after_reads_simp
    rfl
  have h2 : StableHlo.upto hostOps0 (fun b => m (c, b)) 545 (Proc.tc.devRef main_v476) = row (byDist (m ((c.tc : Thread nD τ).loc main_arg3))) 189 (by omega) := by
    after_reads_simp
    rfl
  have h3 : StableHlo.upto hostOps0 (fun b => m (c, b)) 545 (Proc.tc.devRef main_v477) = row (byDist (m ((c.tc : Thread nD τ).loc main_arg3))) 188 (by omega) := by
    after_reads_simp
    rfl
  have h4 : StableHlo.upto hostOps0 (fun b => m (c, b)) 545 (Proc.tc.devRef main_v478) = row (byDist (m ((c.tc : Thread nD τ).loc main_arg3))) 187 (by omega) := by
    after_reads_simp
    rfl
  have h5 : StableHlo.upto hostOps0 (fun b => m (c, b)) 545 (Proc.tc.devRef main_v479) = row (byDist (m ((c.tc : Thread nD τ).loc main_arg3))) 186 (by omega) := by
    after_reads_simp
    rfl
  have h6 : StableHlo.upto hostOps0 (fun b => m (c, b)) 545 (Proc.tc.devRef main_v480) = row (byDist (m ((c.tc : Thread nD τ).loc main_arg3))) 185 (by omega) := by
    after_reads_simp
    rfl
  have h7 : StableHlo.upto hostOps0 (fun b => m (c, b)) 545 (Proc.tc.devRef main_v481) = row (byDist (m ((c.tc : Thread nD τ).loc main_arg3))) 184 (by omega) := by
    after_reads_simp
    rfl
  have h8 : StableHlo.upto hostOps0 (fun b => m (c, b)) 545 (Proc.tc.devRef main_v482) = row (byDist (m ((c.tc : Thread nD τ).loc main_arg3))) 183 (by omega) := by
    after_reads_simp
    rfl
  have h9 : StableHlo.upto hostOps0 (fun b => m (c, b)) 545 (Proc.tc.devRef main_v483) = row (byDist (m ((c.tc : Thread nD τ).loc main_arg3))) 182 (by omega) := by
    after_reads_simp
    rfl
  have h10 : StableHlo.upto hostOps0 (fun b => m (c, b)) 545 (Proc.tc.devRef main_v484) = row (byDist (m ((c.tc : Thread nD τ).loc main_arg3))) 181 (by omega) := by
    after_reads_simp
    rfl
  have h11 : StableHlo.upto hostOps0 (fun b => m (c, b)) 545 (Proc.tc.devRef main_v485) = row (byDist (m ((c.tc : Thread nD τ).loc main_arg3))) 180 (by omega) := by
    after_reads_simp
    rfl
  have h12 : StableHlo.upto hostOps0 (fun b => m (c, b)) 545 (Proc.tc.devRef main_v486) = row (byDist (m ((c.tc : Thread nD τ).loc main_arg3))) 179 (by omega) := by
    after_reads_simp
    rfl
  have h13 : StableHlo.upto hostOps0 (fun b => m (c, b)) 545 (Proc.tc.devRef main_v487) = row (byDist (m ((c.tc : Thread nD τ).loc main_arg3))) 178 (by omega) := by
    after_reads_simp
    rfl
  have h14 : StableHlo.upto hostOps0 (fun b => m (c, b)) 545 (Proc.tc.devRef main_v488) = row (byDist (m ((c.tc : Thread nD τ).loc main_arg3))) 177 (by omega) := by
    after_reads_simp
    rfl
  have h15 : StableHlo.upto hostOps0 (fun b => m (c, b)) 545 (Proc.tc.devRef main_v489) = row (byDist (m ((c.tc : Thread nD τ).loc main_arg3))) 176 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto544 (m : (ℓ : Loc nD τ sig) → Buf (Elt Ideal) ℓ) (c : Dev nD) :
    StableHlo.upto hostOps0 (fun b => m (c, b)) 549 (Proc.tc.devRef main_v543) = rows16 (byDist (m ((c.tc : Thread nD τ).loc main_arg3))) 175 (by omega) := by
  have h0 : StableHlo.upto hostOps0 (fun b => m (c, b)) 546 (Proc.tc.devRef main_v490) = row (byDist (m ((c.tc : Thread nD τ).loc main_arg3))) 175 (by omega) := by
    after_reads_simp
    rfl
  have h1 : StableHlo.upto hostOps0 (fun b => m (c, b)) 546 (Proc.tc.devRef main_v491) = row (byDist (m ((c.tc : Thread nD τ).loc main_arg3))) 174 (by omega) := by
    after_reads_simp
    rfl
  have h2 : StableHlo.upto hostOps0 (fun b => m (c, b)) 546 (Proc.tc.devRef main_v492) = row (byDist (m ((c.tc : Thread nD τ).loc main_arg3))) 173 (by omega) := by
    after_reads_simp
    rfl
  have h3 : StableHlo.upto hostOps0 (fun b => m (c, b)) 546 (Proc.tc.devRef main_v493) = row (byDist (m ((c.tc : Thread nD τ).loc main_arg3))) 172 (by omega) := by
    after_reads_simp
    rfl
  have h4 : StableHlo.upto hostOps0 (fun b => m (c, b)) 546 (Proc.tc.devRef main_v494) = row (byDist (m ((c.tc : Thread nD τ).loc main_arg3))) 171 (by omega) := by
    after_reads_simp
    rfl
  have h5 : StableHlo.upto hostOps0 (fun b => m (c, b)) 546 (Proc.tc.devRef main_v495) = row (byDist (m ((c.tc : Thread nD τ).loc main_arg3))) 170 (by omega) := by
    after_reads_simp
    rfl
  have h6 : StableHlo.upto hostOps0 (fun b => m (c, b)) 546 (Proc.tc.devRef main_v496) = row (byDist (m ((c.tc : Thread nD τ).loc main_arg3))) 169 (by omega) := by
    after_reads_simp
    rfl
  have h7 : StableHlo.upto hostOps0 (fun b => m (c, b)) 546 (Proc.tc.devRef main_v497) = row (byDist (m ((c.tc : Thread nD τ).loc main_arg3))) 168 (by omega) := by
    after_reads_simp
    rfl
  have h8 : StableHlo.upto hostOps0 (fun b => m (c, b)) 546 (Proc.tc.devRef main_v498) = row (byDist (m ((c.tc : Thread nD τ).loc main_arg3))) 167 (by omega) := by
    after_reads_simp
    rfl
  have h9 : StableHlo.upto hostOps0 (fun b => m (c, b)) 546 (Proc.tc.devRef main_v499) = row (byDist (m ((c.tc : Thread nD τ).loc main_arg3))) 166 (by omega) := by
    after_reads_simp
    rfl
  have h10 : StableHlo.upto hostOps0 (fun b => m (c, b)) 546 (Proc.tc.devRef main_v500) = row (byDist (m ((c.tc : Thread nD τ).loc main_arg3))) 165 (by omega) := by
    after_reads_simp
    rfl
  have h11 : StableHlo.upto hostOps0 (fun b => m (c, b)) 546 (Proc.tc.devRef main_v501) = row (byDist (m ((c.tc : Thread nD τ).loc main_arg3))) 164 (by omega) := by
    after_reads_simp
    rfl
  have h12 : StableHlo.upto hostOps0 (fun b => m (c, b)) 546 (Proc.tc.devRef main_v502) = row (byDist (m ((c.tc : Thread nD τ).loc main_arg3))) 163 (by omega) := by
    after_reads_simp
    rfl
  have h13 : StableHlo.upto hostOps0 (fun b => m (c, b)) 546 (Proc.tc.devRef main_v503) = row (byDist (m ((c.tc : Thread nD τ).loc main_arg3))) 162 (by omega) := by
    after_reads_simp
    rfl
  have h14 : StableHlo.upto hostOps0 (fun b => m (c, b)) 546 (Proc.tc.devRef main_v504) = row (byDist (m ((c.tc : Thread nD τ).loc main_arg3))) 161 (by omega) := by
    after_reads_simp
    rfl
  have h15 : StableHlo.upto hostOps0 (fun b => m (c, b)) 546 (Proc.tc.devRef main_v505) = row (byDist (m ((c.tc : Thread nD τ).loc main_arg3))) 160 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto545 (m : (ℓ : Loc nD τ sig) → Buf (Elt Ideal) ℓ) (c : Dev nD) :
    StableHlo.upto hostOps0 (fun b => m (c, b)) 549 (Proc.tc.devRef main_v544) = rows16 (byDist (m ((c.tc : Thread nD τ).loc main_arg3))) 159 (by omega) := by
  have h0 : StableHlo.upto hostOps0 (fun b => m (c, b)) 547 (Proc.tc.devRef main_v506) = row (byDist (m ((c.tc : Thread nD τ).loc main_arg3))) 159 (by omega) := by
    after_reads_simp
    rfl
  have h1 : StableHlo.upto hostOps0 (fun b => m (c, b)) 547 (Proc.tc.devRef main_v507) = row (byDist (m ((c.tc : Thread nD τ).loc main_arg3))) 158 (by omega) := by
    after_reads_simp
    rfl
  have h2 : StableHlo.upto hostOps0 (fun b => m (c, b)) 547 (Proc.tc.devRef main_v508) = row (byDist (m ((c.tc : Thread nD τ).loc main_arg3))) 157 (by omega) := by
    after_reads_simp
    rfl
  have h3 : StableHlo.upto hostOps0 (fun b => m (c, b)) 547 (Proc.tc.devRef main_v509) = row (byDist (m ((c.tc : Thread nD τ).loc main_arg3))) 156 (by omega) := by
    after_reads_simp
    rfl
  have h4 : StableHlo.upto hostOps0 (fun b => m (c, b)) 547 (Proc.tc.devRef main_v510) = row (byDist (m ((c.tc : Thread nD τ).loc main_arg3))) 155 (by omega) := by
    after_reads_simp
    rfl
  have h5 : StableHlo.upto hostOps0 (fun b => m (c, b)) 547 (Proc.tc.devRef main_v511) = row (byDist (m ((c.tc : Thread nD τ).loc main_arg3))) 154 (by omega) := by
    after_reads_simp
    rfl
  have h6 : StableHlo.upto hostOps0 (fun b => m (c, b)) 547 (Proc.tc.devRef main_v512) = row (byDist (m ((c.tc : Thread nD τ).loc main_arg3))) 153 (by omega) := by
    after_reads_simp
    rfl
  have h7 : StableHlo.upto hostOps0 (fun b => m (c, b)) 547 (Proc.tc.devRef main_v513) = row (byDist (m ((c.tc : Thread nD τ).loc main_arg3))) 152 (by omega) := by
    after_reads_simp
    rfl
  have h8 : StableHlo.upto hostOps0 (fun b => m (c, b)) 547 (Proc.tc.devRef main_v514) = row (byDist (m ((c.tc : Thread nD τ).loc main_arg3))) 151 (by omega) := by
    after_reads_simp
    rfl
  have h9 : StableHlo.upto hostOps0 (fun b => m (c, b)) 547 (Proc.tc.devRef main_v515) = row (byDist (m ((c.tc : Thread nD τ).loc main_arg3))) 150 (by omega) := by
    after_reads_simp
    rfl
  have h10 : StableHlo.upto hostOps0 (fun b => m (c, b)) 547 (Proc.tc.devRef main_v516) = row (byDist (m ((c.tc : Thread nD τ).loc main_arg3))) 149 (by omega) := by
    after_reads_simp
    rfl
  have h11 : StableHlo.upto hostOps0 (fun b => m (c, b)) 547 (Proc.tc.devRef main_v517) = row (byDist (m ((c.tc : Thread nD τ).loc main_arg3))) 148 (by omega) := by
    after_reads_simp
    rfl
  have h12 : StableHlo.upto hostOps0 (fun b => m (c, b)) 547 (Proc.tc.devRef main_v518) = row (byDist (m ((c.tc : Thread nD τ).loc main_arg3))) 147 (by omega) := by
    after_reads_simp
    rfl
  have h13 : StableHlo.upto hostOps0 (fun b => m (c, b)) 547 (Proc.tc.devRef main_v519) = row (byDist (m ((c.tc : Thread nD τ).loc main_arg3))) 146 (by omega) := by
    after_reads_simp
    rfl
  have h14 : StableHlo.upto hostOps0 (fun b => m (c, b)) 547 (Proc.tc.devRef main_v520) = row (byDist (m ((c.tc : Thread nD τ).loc main_arg3))) 145 (by omega) := by
    after_reads_simp
    rfl
  have h15 : StableHlo.upto hostOps0 (fun b => m (c, b)) 547 (Proc.tc.devRef main_v521) = row (byDist (m ((c.tc : Thread nD τ).loc main_arg3))) 144 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto546 (m : (ℓ : Loc nD τ sig) → Buf (Elt Ideal) ℓ) (c : Dev nD) :
    StableHlo.upto hostOps0 (fun b => m (c, b)) 549 (Proc.tc.devRef main_v545) = rows16 (byDist (m ((c.tc : Thread nD τ).loc main_arg3))) 143 (by omega) := by
  have h0 : StableHlo.upto hostOps0 (fun b => m (c, b)) 548 (Proc.tc.devRef main_v522) = row (byDist (m ((c.tc : Thread nD τ).loc main_arg3))) 143 (by omega) := by
    after_reads_simp
    rfl
  have h1 : StableHlo.upto hostOps0 (fun b => m (c, b)) 548 (Proc.tc.devRef main_v523) = row (byDist (m ((c.tc : Thread nD τ).loc main_arg3))) 142 (by omega) := by
    after_reads_simp
    rfl
  have h2 : StableHlo.upto hostOps0 (fun b => m (c, b)) 548 (Proc.tc.devRef main_v524) = row (byDist (m ((c.tc : Thread nD τ).loc main_arg3))) 141 (by omega) := by
    after_reads_simp
    rfl
  have h3 : StableHlo.upto hostOps0 (fun b => m (c, b)) 548 (Proc.tc.devRef main_v525) = row (byDist (m ((c.tc : Thread nD τ).loc main_arg3))) 140 (by omega) := by
    after_reads_simp
    rfl
  have h4 : StableHlo.upto hostOps0 (fun b => m (c, b)) 548 (Proc.tc.devRef main_v526) = row (byDist (m ((c.tc : Thread nD τ).loc main_arg3))) 139 (by omega) := by
    after_reads_simp
    rfl
  have h5 : StableHlo.upto hostOps0 (fun b => m (c, b)) 548 (Proc.tc.devRef main_v527) = row (byDist (m ((c.tc : Thread nD τ).loc main_arg3))) 138 (by omega) := by
    after_reads_simp
    rfl
  have h6 : StableHlo.upto hostOps0 (fun b => m (c, b)) 548 (Proc.tc.devRef main_v528) = row (byDist (m ((c.tc : Thread nD τ).loc main_arg3))) 137 (by omega) := by
    after_reads_simp
    rfl
  have h7 : StableHlo.upto hostOps0 (fun b => m (c, b)) 548 (Proc.tc.devRef main_v529) = row (byDist (m ((c.tc : Thread nD τ).loc main_arg3))) 136 (by omega) := by
    after_reads_simp
    rfl
  have h8 : StableHlo.upto hostOps0 (fun b => m (c, b)) 548 (Proc.tc.devRef main_v530) = row (byDist (m ((c.tc : Thread nD τ).loc main_arg3))) 135 (by omega) := by
    after_reads_simp
    rfl
  have h9 : StableHlo.upto hostOps0 (fun b => m (c, b)) 548 (Proc.tc.devRef main_v531) = row (byDist (m ((c.tc : Thread nD τ).loc main_arg3))) 134 (by omega) := by
    after_reads_simp
    rfl
  have h10 : StableHlo.upto hostOps0 (fun b => m (c, b)) 548 (Proc.tc.devRef main_v532) = row (byDist (m ((c.tc : Thread nD τ).loc main_arg3))) 133 (by omega) := by
    after_reads_simp
    rfl
  have h11 : StableHlo.upto hostOps0 (fun b => m (c, b)) 548 (Proc.tc.devRef main_v533) = row (byDist (m ((c.tc : Thread nD τ).loc main_arg3))) 132 (by omega) := by
    after_reads_simp
    rfl
  have h12 : StableHlo.upto hostOps0 (fun b => m (c, b)) 548 (Proc.tc.devRef main_v534) = row (byDist (m ((c.tc : Thread nD τ).loc main_arg3))) 131 (by omega) := by
    after_reads_simp
    rfl
  have h13 : StableHlo.upto hostOps0 (fun b => m (c, b)) 548 (Proc.tc.devRef main_v535) = row (byDist (m ((c.tc : Thread nD τ).loc main_arg3))) 130 (by omega) := by
    after_reads_simp
    rfl
  have h14 : StableHlo.upto hostOps0 (fun b => m (c, b)) 548 (Proc.tc.devRef main_v536) = row (byDist (m ((c.tc : Thread nD τ).loc main_arg3))) 129 (by omega) := by
    after_reads_simp
    rfl
  have h15 : StableHlo.upto hostOps0 (fun b => m (c, b)) 548 (Proc.tc.devRef main_v537) = row (byDist (m ((c.tc : Thread nD τ).loc main_arg3))) 128 (by omega) := by
    after_reads_simp
    rfl
  after_reads_simp
  simp only [Matrix.cons_val]
  rw [h0, h1, h2, h3, h4, h5, h6, h7, h8, h9, h10, h11, h12, h13, h14, h15]
  rfl

set_option maxHeartbeats 4000000 in
private theorem upto548 (m : (ℓ : Loc nD τ sig) → Buf (Elt Ideal) ℓ) (c : Dev nD) :
    StableHlo.upto hostOps0 (fun b => m (c, b)) 553 (Proc.tc.devRef main_v547) = broadcastInDim S32x1x128x128 ![0, 2, 3] bcast_S32x128x128_S32x1x128x128_0_2_3
        (broadcastInDim S32x128x128 ![0, 1, 2] bcast_S32x1x1_S32x128x128_0_1_2 (broadcastInDim S32x1x1 ![0, 1] bcast_S32x1_S32x1x1_0_1
          (extractStridedSlice S32x1 ![0, 128] (scaled (m ((c.tc : Thread nD τ).loc main_arg3))) slices_S32x129_S32x1_0_128))) := by
  after_reads_simp
  rfl

set_option maxHeartbeats 4000000 in
private theorem upto549 (m : (ℓ : Loc nD τ sig) → Buf (Elt Ideal) ℓ) (c : Dev nD) :
    StableHlo.upto hostOps0 (fun b => m (c, b)) 553 (Proc.tc.devRef main_v548) = broadcastInDim S32x1x128x128 ![0, 2, 3] bcast_S32x128x128_S32x1x128x128_0_2_3 (window (byDist (m ((c.tc : Thread nD τ).loc main_arg3))) 127 (by omega)) := by
  after_reads_simp
  simp only [Matrix.cons_val]
  rw [upto274, upto275, upto276, upto277, upto278, upto279, upto280, upto281]
  rfl

set_option maxHeartbeats 4000000 in
private theorem upto550 (m : (ℓ : Loc nD τ sig) → Buf (Elt Ideal) ℓ) (c : Dev nD) :
    StableHlo.upto hostOps0 (fun b => m (c, b)) 553 (Proc.tc.devRef main_v549) = broadcastInDim S32x1x128x128 ![0, 2, 3] bcast_S32x128x128_S32x1x128x128_0_2_3 (window (byDist (m ((c.tc : Thread nD τ).loc main_arg3))) 255 (by omega)) := by
  after_reads_simp
  simp only [Matrix.cons_val]
  rw [upto539, upto540, upto541, upto542, upto543, upto544, upto545, upto546]
  rfl

set_option maxHeartbeats 4000000 in
/-- The table handed to the kernel. -/
theorem V_table (m : (ℓ : Loc nD τ sig) → Buf (Elt Ideal) ℓ) (c : Dev nD) :
    V m c main_v550 = table (byDist (m ((c.tc : Thread nD τ).loc main_arg3))) (m ((c.tc : Thread nD τ).loc main_arg3)) := by
  unfold V
  after_reads_simp
  simp only [Matrix.cons_val]
  rw [upto548, upto549, upto550]
  rfl

/-- The queries handed to the kernel. -/
theorem V_q (m : (ℓ : Loc nD τ sig) → Buf (Elt Ideal) ℓ) (c : Dev nD) (r : Fin 128) (d : Fin 4096) :
    V m c main_v5 (ix2 r d) = Ideal.div (m ((c.tc : Thread nD τ).loc main_arg0) (ix2 r d)) (Ideal.sqrt (Ideal.ofBits .f32 1124073472#32) * Ideal.log (Ideal.ofBits .f32 1073741824#32)) := by
  unfold V
  after_reads_at

end Cert.SBand.Ker

end
-- ==== Proof.SBandHead.lean ====
module

public import proofs.«01_k».proof.Proof.Gen.SampleBandIdeal.Value
public import Idealize.ShloMosaic.Lib.Pointwise
public import Idealize.ShloMosaic.Lib.Pipeline.ValueKit

/-! One head of one query tile, as the kernel computes it: the windowed scores, their softmax, the weighted
values and the gate, each read at an index. -/

@[expose] public section

set_option maxRecDepth 16384

noncomputable section

namespace Cert.SBand.Ker

open Idealize.ShloMosaic Idealize.ShloMosaic.TcCoe Idealize.SL.Sem
open Cert.SampleBandIdeal Cert.SampleBandIdeal.Gen

/-- The five bias squares side by side. -/
def biases (b0 b1 b2 b3 b4 : Vec Ideal S1x1x16x128 .f32) : FVec Ideal S16x640 .f32 :=
  concatenate S16x640 1 [⟨S16x128, shapeCast S16x128 b0 shapeCasts_S1x1x16x128_S16x128⟩,
    ⟨S16x128, shapeCast S16x128 b1 shapeCasts_S1x1x16x128_S16x128⟩, ⟨S16x128, shapeCast S16x128 b2 shapeCasts_S1x1x16x128_S16x128⟩,
    ⟨S16x128, shapeCast S16x128 b3 shapeCasts_S1x1x16x128_S16x128⟩, ⟨S16x128, shapeCast S16x128 b4 shapeCasts_S1x1x16x128_S16x128⟩]
    concatenates_S16x128_S16x128_S16x128_S16x128_S16x128_S16x640_d1

/-- The products of the tile's queries with the window's keys. -/
def qk (q : FVec Ideal S16x128 .bf16) (k : FVec Ideal S640x128 .bf16) : FVec Ideal S16x640 .f32 :=
  matmul dot_S16x128_S640x128_S16x640_1_1_0_0_n_n none (shapeCast S16x128 q shapeCasts_S16x128_S16x128)
    k (constant S16x640 .f32 0x00000000#32)

/-- The scores: products and biases, the keys outside the band at minus infinity. -/
def score (mask : IVec S16x640 1) (s b : FVec Ideal S16x640 .f32) : FVec Ideal S16x640 .f32 :=
  select mask (addf s b) (broadcast S16x640 (Scalar.ofBits .f32 0xFF800000#32))

/-- The largest score of a row. -/
def top (s : FVec Ideal S16x640 .f32) : FVec Ideal S16 .f32 :=
  multiReduction .maximumf [1] S16 s 0xFF800000#32 reduces_S16x640_S16 (.inl rfl) rfl

/-- The weights before their division by the row's sum. -/
def weight (s : FVec Ideal S16x640 .f32) : FVec Ideal S16x640 .f32 :=
  exp2 (subf s (broadcastTo S16x640 (shapeCast S16x1 (top s) shapeCasts_S16_S16x1) broadcasts_S16x1_S16x640))

/-- The sum of a row's weights. -/
def total (w : FVec Ideal S16x640 .f32) : FVec Ideal S16 .f32 :=
  multiReduction .add [1] S16 w 0x00000000#32 reduces_S16x640_S16 (.inl rfl) rfl

/-- The weighted values. -/
def mix (w : FVec Ideal S16x640 .f32) (v : FVec Ideal S640x128 .bf16) : FVec Ideal S16x128 .f32 :=
  matmul dot_S16x640_S640x128_S16x128_1_0_0_1_n_n none (truncf .bf16 w bitsLt_bf16_f32)
    v (constant S16x128 .f32 0x00000000#32)

/-- The head's result from its scores: softmax, values, gate. -/
def headOut (s : FVec Ideal S16x640 .f32) (v : FVec Ideal S640x128 .bf16) (g : FVec Ideal S16x128 .f32) : FVec Ideal S16x128 .bf16 :=
  truncf .bf16 (mulf (divf (mix (weight s) v)
    (broadcastTo S16x128 (shapeCast S16x1 (total (weight s)) shapeCasts_S16_S16x1) broadcasts_S16x1_S16x128))
    (mulf g (logistic g))) bitsLt_bf16_f32

theorem biases_at (b0 b1 b2 b3 b4 : Vec Ideal S1x1x16x128 .f32) (i : Fin 16) (r : Fin 5) (j : Fin 128) :
    biases b0 b1 b2 b3 b4 (ix2 i ⟨r * 128 + j, by omega⟩) = (![b0, b1, b2, b3, b4] r) (ix4 0 0 i j) := by
  have hj := j.isLt
  fin_cases r
  · pointwise [biases]
  · pointwise [biases]
  · pointwise [biases]
    rw [dif_neg (by omega), dif_neg (by omega), dif_pos (by omega)]
    exact congrArg b2 (congrArg (ix4 0 0 i) (Fin.ext (by show 256 + (j : ℕ) - 128 - 128 = j; omega)))
  · pointwise [biases]
    rw [dif_neg (by omega), dif_neg (by omega), dif_neg (by omega), dif_pos (by omega)]
    exact congrArg b3 (congrArg (ix4 0 0 i) (Fin.ext (by show 384 + (j : ℕ) - 128 - 128 - 128 = j; omega)))
  · pointwise [biases]
    rw [dif_neg (by omega), dif_neg (by omega), dif_neg (by omega), dif_neg (by omega)]
    exact congrArg b4 (congrArg (ix4 0 0 i) (Fin.ext (by show 512 + (j : ℕ) - 128 - 128 - 128 - 128 = j; omega)))

theorem qk_at (q : FVec Ideal S16x128 .bf16) (k : FVec Ideal S640x128 .bf16) (i : Fin 16) (j : Fin 640) :
    qk q k (ix2 i j) = ∑ x : Fin 128, q (ix2 i x) * k (ix2 j x) := by
  pointwise [qk]

theorem score_at (mask : IVec S16x640 1) (s b : FVec Ideal S16x640 .f32) (i : Fin 16) (j : Fin 640) :
    score mask s b (ix2 i j) = Scalar.select (mask (ix2 i j)) (s (ix2 i j) + b (ix2 i j)) (Ideal.ofBits .f32 4286578688#32) := by
  pointwise [score]

theorem top_at (s : FVec Ideal S16x640 .f32) (i : Fin 16) :
    top s (ix1 i) = Finset.univ.fold max (Ideal.ofBits .f32 4286578688#32) fun j : Fin 640 => s (ix2 i j) := by
  pointwise [top]

theorem weight_at (s : FVec Ideal S16x640 .f32) (i : Fin 16) (j : Fin 640) :
    weight s (ix2 i j) = Ideal.exp2 (s (ix2 i j) - top s (ix1 i)) := by
  pointwise [weight]
  rfl

theorem total_at (w : FVec Ideal S16x640 .f32) (i : Fin 16) :
    total w (ix1 i) = ∑ j : Fin 640, w (ix2 i j) := by
  pointwise [total]

theorem mix_at (w : FVec Ideal S16x640 .f32) (v : FVec Ideal S640x128 .bf16) (i : Fin 16) (d : Fin 128) :
    mix w v (ix2 i d) = ∑ j : Fin 640, w (ix2 i j) * v (ix2 j d) := by
  pointwise [mix]

theorem headOut_at (s : FVec Ideal S16x640 .f32) (v : FVec Ideal S640x128 .bf16) (g : FVec Ideal S16x128 .f32) (i : Fin 16) (d : Fin 128) :
    headOut s v g (ix2 i d) = Ideal.div (mix (weight s) v (ix2 i d)) (total (weight s) (ix1 i))
      * (g (ix2 i d) * Ideal.div 1 (1 + Ideal.exp (-g (ix2 i d)))) := by
  pointwise [headOut]
  rfl

end Cert.SBand.Ker
-- ==== Proof.SBandWindow.lean ====
module

public import proofs.«01_k».proof.Proof.Gen.SampleBandIdeal.Value
public import Idealize.ShloMosaic.Lib.Pointwise

/-! Where the sample's query tile reads, and which keys of its window it may see. -/

@[expose] public section

set_option maxRecDepth 16384

noncomputable section

namespace Cert.SBand.Ker

open Idealize.ShloMosaic Idealize.ShloMosaic.TcCoe Idealize.SL.Sem
open Cert.SampleBandIdeal Cert.SampleBandIdeal.Gen

theorem win0 : ∀ i : grid0.Coords, k0_off1 i = ![512, 0] := by
  decide +kernel

theorem ent0 : ∀ (i : grid0.Coords) (r : Fin 5), k0_off9 i (BitVec.ofNat 32 r.val) = ![0, min 2 (r.val - 2), 0, 0] := by
  decide +kernel

theorem win1 (i : grid0.Coords) : k0_off2 i = ![512, 128] :=
  (show _ = ![k0_off1 i 0, 128] from rfl).trans (by rw [win0]; rfl)

theorem ent1 (i : grid0.Coords) (r : Fin 5) : k0_off10 i (BitVec.ofNat 32 r.val) = ![1, min 2 (r.val - 2), 0, 0] :=
  (show _ = ![1, k0_off9 i (BitVec.ofNat 32 r.val) 1, 0, 0] from rfl).trans (by rw [ent0]; rfl)

theorem win2 (i : grid0.Coords) : k0_off3 i = ![512, 256] :=
  (show _ = ![k0_off1 i 0, 256] from rfl).trans (by rw [win0]; rfl)

theorem ent2 (i : grid0.Coords) (r : Fin 5) : k0_off11 i (BitVec.ofNat 32 r.val) = ![2, min 2 (r.val - 2), 0, 0] :=
  (show _ = ![2, k0_off9 i (BitVec.ofNat 32 r.val) 1, 0, 0] from rfl).trans (by rw [ent0]; rfl)

theorem win3 (i : grid0.Coords) : k0_off4 i = ![512, 384] :=
  (show _ = ![k0_off1 i 0, 384] from rfl).trans (by rw [win0]; rfl)

theorem ent3 (i : grid0.Coords) (r : Fin 5) : k0_off12 i (BitVec.ofNat 32 r.val) = ![3, min 2 (r.val - 2), 0, 0] :=
  (show _ = ![3, k0_off9 i (BitVec.ofNat 32 r.val) 1, 0, 0] from rfl).trans (by rw [ent0]; rfl)

theorem win4 (i : grid0.Coords) : k0_off5 i = ![512, 512] :=
  (show _ = ![k0_off1 i 0, 512] from rfl).trans (by rw [win0]; rfl)

theorem ent4 (i : grid0.Coords) (r : Fin 5) : k0_off13 i (BitVec.ofNat 32 r.val) = ![4, min 2 (r.val - 2), 0, 0] :=
  (show _ = ![4, k0_off9 i (BitVec.ofNat 32 r.val) 1, 0, 0] from rfl).trans (by rw [ent0]; rfl)

theorem win5 (i : grid0.Coords) : k0_off6 i = ![512, 640] :=
  (show _ = ![k0_off1 i 0, 640] from rfl).trans (by rw [win0]; rfl)

theorem ent5 (i : grid0.Coords) (r : Fin 5) : k0_off14 i (BitVec.ofNat 32 r.val) = ![5, min 2 (r.val - 2), 0, 0] :=
  (show _ = ![5, k0_off9 i (BitVec.ofNat 32 r.val) 1, 0, 0] from rfl).trans (by rw [ent0]; rfl)

theorem win6 (i : grid0.Coords) : k0_off7 i = ![512, 768] :=
  (show _ = ![k0_off1 i 0, 768] from rfl).trans (by rw [win0]; rfl)

theorem ent6 (i : grid0.Coords) (r : Fin 5) : k0_off15 i (BitVec.ofNat 32 r.val) = ![6, min 2 (r.val - 2), 0, 0] :=
  (show _ = ![6, k0_off9 i (BitVec.ofNat 32 r.val) 1, 0, 0] from rfl).trans (by rw [ent0]; rfl)

theorem win7 (i : grid0.Coords) : k0_off8 i = ![512, 896] :=
  (show _ = ![k0_off1 i 0, 896] from rfl).trans (by rw [win0]; rfl)

theorem ent7 (i : grid0.Coords) (r : Fin 5) : k0_off16 i (BitVec.ofNat 32 r.val) = ![7, min 2 (r.val - 2), 0, 0] :=
  (show _ = ![7, k0_off9 i (BitVec.ofNat 32 r.val) 1, 0, 0] from rfl).trans (by rw [ent0]; rfl)

/-- The tile's first query, as the kernel computes it. -/
def firstQuery (i : grid0.Coords) : BitVec 32 :=
  Scalar.addi (Scalar.addi 1024#32 (Scalar.muli (BitVec.ofNat 32 (i 2).val) 16#32)) 0#32

/-- The window's first key, as the kernel computes it. -/
def firstKey (i : grid0.Coords) : BitVec 32 :=
  let v2 : BitVec 32 := firstQuery i
  let v3 : BitVec 32 := Scalar.divsi v2 128#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 128#32 0#32)) (Scalar.extui (Scalar.cmpi .slt 128#32 0#32))
  let v17 : BitVec 1 := Scalar.andi (Scalar.cmpi .ne v8 v13) (Scalar.cmpi .ne (Scalar.remsi v2 128#32) 0#32)
  let v19 : BitVec 32 := Scalar.select v17 (Scalar.subi v3 1#32) v3
  Scalar.muli (Scalar.maxsi (Scalar.subi v19 4#32) 0#32) 128#32

/-- The chunk of a query. -/
def chunkQ (i : grid0.Coords) : IVec S16x640 32 :=
  shrsi (addi (broadcast S16x640 (firstQuery i)) (iota .tc S16x640 32 [0] iota_S16x640_d0_w32)) (broadcast S16x640 6#32)

/-- The position of a key. -/
def posK (i : grid0.Coords) : IVec S16x640 32 :=
  addi (broadcast S16x640 (firstKey i)) (iota .tc S16x640 32 [1] iota_S16x640_d1_w32)

/-- The chunk of a key. -/
def chunkK (i : grid0.Coords) : IVec S16x640 32 := shrsi (posK i) (broadcast S16x640 6#32)

/-- The keys a query may see. -/
def mask (i : grid0.Coords) : IVec S16x640 1 :=
  andi (andi (cmpi .sle (chunkK i) (chunkQ i)) (cmpi .sge (chunkK i) (subi (chunkQ i) (broadcast S16x640 8#32))))
    (cmpi .slt (posK i) (broadcast S16x640 1040#32))

private theorem firstKey_eq : ∀ i : grid0.Coords, firstKey i = 512#32 := by decide +kernel

private theorem firstQuery_eq : ∀ i : grid0.Coords, firstQuery i = 1024#32 := by decide +kernel

private theorem mask_word (w : ArithUnit) : ∀ (r : Fin 16) (j : Fin 640),
    IntOp.andi (IntOp.andi
      (IntOp.cmpi .sle (IntOp.shrsi w (IntOp.addi 512#32 (BitVec.ofNat 32 (j : ℕ))) 6#32) (IntOp.shrsi w (IntOp.addi 1024#32 (BitVec.ofNat 32 (r : ℕ))) 6#32))
      (IntOp.cmpi .sge (IntOp.shrsi w (IntOp.addi 512#32 (BitVec.ofNat 32 (j : ℕ))) 6#32) (IntOp.subi (IntOp.shrsi w (IntOp.addi 1024#32 (BitVec.ofNat 32 (r : ℕ))) 6#32) 8#32)))
      (IntOp.cmpi .slt (IntOp.addi 512#32 (BitVec.ofNat 32 (j : ℕ))) 1040#32)
      = BitVec.ofBool (decide ((j : ℕ) < 528)) := by
  cases w <;> decide +kernel

/-- A query sees every key up to the last new one. -/
theorem mask_at (i : grid0.Coords) (r : Fin 16) (j : Fin 640) : mask i (ix2 r j) = BitVec.ofBool (decide ((j : ℕ) < 528)) := by
  pointwise [mask, chunkK, chunkQ, posK]
  rw [firstKey_eq, firstQuery_eq]
  exact mask_word _ r j

end Cert.SBand.Ker
-- ==== Proof.SBandRef.lean ====
module

public import proofs.«01_k».proof.Proof.Gen.SampleBandReferenceIdeal.Run
public import Idealize.ShloMosaic.Lib.Pointwise

/-! The reference's result as one function of the four arguments, in named pieces. -/

@[expose] public section

set_option maxRecDepth 16384

noncomputable section

namespace Cert.SBand.Ref

open Idealize.ShloMosaic Idealize.ShloMosaic.TcCoe Idealize.SL.Sem
open Cert.SampleBandReferenceIdeal Cert.SampleBandReferenceIdeal.Gen

/-- The reference program: the chunk of a key. -/
def kc : IVec S1x528 32 :=
  select (andi (cmpi .ne (signi (broadcastInDim S1x528 ![1] bcast_S528_S1x528_1 (addi (broadcastInDim S528 ![] bcast_S_S528 (constantI S_ 32 512#32)) (iotaInDim S528 32 0)))) (broadcastInDim S1x528 ![] bcast_S_S1x528 (signi (id (constantI S_ 32 64#32))))) (cmpi .ne (Host.remsi (broadcastInDim S1x528 ![1] bcast_S528_S1x528_1 (addi (broadcastInDim S528 ![] bcast_S_S528 (constantI S_ 32 512#32)) (iotaInDim S528 32 0))) (broadcastInDim S1x528 ![] bcast_S_S1x528 (id (constantI S_ 32 64#32)))) (broadcastInDim S1x528 ![] bcast_S_S1x528 (constantI S_ 32 0#32)))) (subi (Host.divsi (broadcastInDim S1x528 ![1] bcast_S528_S1x528_1 (addi (broadcastInDim S528 ![] bcast_S_S528 (constantI S_ 32 512#32)) (iotaInDim S528 32 0))) (broadcastInDim S1x528 ![] bcast_S_S1x528 (id (constantI S_ 32 64#32)))) (broadcastInDim S1x528 ![] bcast_S_S1x528 (constantI S_ 32 1#32))) (Host.divsi (broadcastInDim S1x528 ![1] bcast_S528_S1x528_1 (addi (broadcastInDim S528 ![] bcast_S_S528 (constantI S_ 32 512#32)) (iotaInDim S528 32 0))) (broadcastInDim S1x528 ![] bcast_S_S1x528 (id (constantI S_ 32 64#32))))

/-- The reference program: the chunk of a query. -/
def qc : IVec S16x1 32 :=
  select (andi (cmpi .ne (signi (broadcastInDim S16x1 ![0] bcast_S16_S16x1_0 (addi (broadcastInDim S16 ![] bcast_S_S16 (constantI S_ 32 1024#32)) (iotaInDim S16 32 0)))) (broadcastInDim S16x1 ![] bcast_S_S16x1 (signi (id (constantI S_ 32 64#32))))) (cmpi .ne (Host.remsi (broadcastInDim S16x1 ![0] bcast_S16_S16x1_0 (addi (broadcastInDim S16 ![] bcast_S_S16 (constantI S_ 32 1024#32)) (iotaInDim S16 32 0))) (broadcastInDim S16x1 ![] bcast_S_S16x1 (id (constantI S_ 32 64#32)))) (broadcastInDim S16x1 ![] bcast_S_S16x1 (constantI S_ 32 0#32)))) (subi (Host.divsi (broadcastInDim S16x1 ![0] bcast_S16_S16x1_0 (addi (broadcastInDim S16 ![] bcast_S_S16 (constantI S_ 32 1024#32)) (iotaInDim S16 32 0))) (broadcastInDim S16x1 ![] bcast_S_S16x1 (id (constantI S_ 32 64#32)))) (broadcastInDim S16x1 ![] bcast_S_S16x1 (constantI S_ 32 1#32))) (Host.divsi (broadcastInDim S16x1 ![0] bcast_S16_S16x1_0 (addi (broadcastInDim S16 ![] bcast_S_S16 (constantI S_ 32 1024#32)) (iotaInDim S16 32 0))) (broadcastInDim S16x1 ![] bcast_S_S16x1 (id (constantI S_ 32 64#32))))

/-- The reference program: which keys a query sees. -/
def allowed : IVec S16x528 1 :=
  andi (andi (cmpi .sle (broadcastInDim S16x528 ![0, 1] bcast_S1x528_S16x528_0_1 kc) (broadcastInDim S16x528 ![0, 1] bcast_S16x1_S16x528_0_1 qc)) (cmpi .sge (broadcastInDim S16x528 ![0, 1] bcast_S1x528_S16x528_0_1 kc) (broadcastInDim S16x528 ![0, 1] bcast_S16x1_S16x528_0_1 (subi qc (broadcastInDim S16x1 ![] bcast_S_S16x1 (constantI S_ 32 8#32)))))) (broadcastInDim S16x528 ![0, 1] bcast_S1x528_S16x528_0_1 (cmpi .sge (broadcastInDim S1x528 ![1] bcast_S528_S1x528_1 (addi (broadcastInDim S528 ![] bcast_S_S528 (constantI S_ 32 512#32)) (iotaInDim S528 32 0))) (broadcastInDim S1x528 ![] bcast_S_S1x528 (constantI S_ 32 0#32))))

/-- The reference program: the clipped distance, shifted. -/
def clipped : IVec S16x528 32 :=
  addi (minsi (broadcastInDim S16x528 ![] bcast_S_S16x528 (id (constantI S_ 32 64#32))) (maxsi (broadcastInDim S16x528 ![] bcast_S_S16x528 (id (constantI S_ 32 4294967232#32))) (subi (broadcastInDim S16x528 ![0, 1] bcast_S16x1_S16x528_0_1 (broadcastInDim S16x1 ![0] bcast_S16_S16x1_0 (addi (broadcastInDim S16 ![] bcast_S_S16 (constantI S_ 32 1024#32)) (iotaInDim S16 32 0)))) (broadcastInDim S16x528 ![0, 1] bcast_S1x528_S16x528_0_1 (broadcastInDim S1x528 ![1] bcast_S528_S1x528_1 (addi (broadcastInDim S528 ![] bcast_S_S528 (constantI S_ 32 512#32)) (iotaInDim S528 32 0))))))) (broadcastInDim S16x528 ![] bcast_S_S16x528 (constantI S_ 32 64#32))

/-- The reference program: the row of the bias table. -/
def relIdx : IVec S16x528 32 :=
  select (cmpi .slt clipped (broadcastInDim S16x528 ![] bcast_S_S16x528 (constantI S_ 32 0#32))) (addi clipped (broadcastInDim S16x528 ![] bcast_S_S16x528 (constantI S_ 32 129#32))) clipped

/-- The reference program: the bias, gathered. -/
def biasT (rb : FVec Ideal S32x129 .f32) : FVec Ideal S32x16x528 .f32 :=
  Host.gather gather_S32x129_S16x528x1_S32x16x528_0_1_n_n_1_2_321 rb (broadcastInDim S16x528x1 ![0, 1] bcast_S16x528_S16x528x1_0_1 relIdx)

/-- The reference program: the keys and values of the queries' window. -/
def keys (kv : FVec Ideal S9216x8192 .bf16) : FVec Ideal S8x528x2x32x128 .f32 :=
  extf .f32 (extractStridedSlice S8x528x2x32x128 ![0, 512, 0, 0, 0] (shapeCast _ kv shapeCasts_S9216x8192_S8x1152x2x32x128) slices_S8x1152x2x32x128_S8x528x2x32x128_0_512_0_0_0) bitsLt_bf16_f32

/-- The reference program: the products of queries and keys. -/
def dots (q : FVec Ideal S128x4096 .f32) (kv : FVec Ideal S9216x8192 .bf16) : FVec Ideal S8x32x16x528 .f32 :=
  Host.dotGeneral dot_S8x16x32x128_S8x528x32x128_S8x32x16x528_3_3_1_1_02_02 none (shapeCast _ q shapeCasts_S128x4096_S8x16x32x128) (shapeCast _ (extractStridedSlice S8x528x1x32x128 ![0, 0, 0, 0, 0] (keys kv) slices_S8x528x2x32x128_S8x528x1x32x128_0_0_0_0_0) shapeCasts_S8x528x1x32x128_S8x528x32x128)

/-- The reference program: the masked logits. -/
def logits (q : FVec Ideal S128x4096 .f32) (kv : FVec Ideal S9216x8192 .bf16) (rb : FVec Ideal S32x129 .f32) : FVec Ideal S8x32x16x528 .f32 :=
  select (broadcastInDim S8x32x16x528 ![0, 1, 2, 3] bcast_S1x1x16x528_S8x32x16x528_0_1_2_3 (broadcastInDim S1x1x16x528 ![2, 3] bcast_S16x528_S1x1x16x528_2_3 allowed)) (addf (Host.divf (dots q kv) (broadcastInDim S8x32x16x528 ![] bcast_S_S8x32x16x528 (Host.sqrt (constant S_ .f32 0x43000000#32)))) (broadcastInDim S8x32x16x528 ![0, 1, 2, 3] bcast_S1x32x16x528_S8x32x16x528_0_1_2_3 (broadcastInDim S1x32x16x528 ![1, 2, 3] bcast_S32x16x528_S1x32x16x528_1_2_3 (biasT rb)))) (broadcastInDim S8x32x16x528 ![] bcast_S_S8x32x16x528 (id (constant S_ .f32 0xFF800000#32)))

/-- The reference program: the largest logit of a row. -/
def rowMax (L : FVec Ideal S8x32x16x528 .f32) : FVec Ideal S8x32x16 .f32 :=
  maximumf (broadcastInDim S8x32x16 ![] bcast_S_S8x32x16 (constant S_ .f32 0xFF800000#32)) (Host.reduce FloatOps.maximumf L (constant S_ .f32 0xFF800000#32) reducesTo_S8x32x16x528_S8x32x16_d3 h_S_)

/-- The reference program: the exponentials of a row. -/
def weights (L : FVec Ideal S8x32x16x528 .f32) : FVec Ideal S8x32x16x528 .f32 :=
  Host.exp (subf L (broadcastInDim S8x32x16x528 ![0, 1, 2, 3] bcast_S8x32x16x1_S8x32x16x528_0_1_2_3 (broadcastInDim S8x32x16x1 ![0, 1, 2] bcast_S8x32x16_S8x32x16x1_0_1_2 (rowMax L))))

/-- The reference program: their sum. -/
def rowSum (L : FVec Ideal S8x32x16x528 .f32) : FVec Ideal S8x32x16 .f32 :=
  Host.reduceAdd (weights L) (constant S_ .f32 0x00000000#32) reducesTo_S8x32x16x528_S8x32x16_d3 h_S_

/-- The reference program: the weighted values, heads apart. -/
def heads (kv : FVec Ideal S9216x8192 .bf16) (L : FVec Ideal S8x32x16x528 .f32) : FVec Ideal S8x32x128x16 .f32 :=
  Host.dotGeneral dot_S8x528x32x128_S8x32x16x528_S8x32x128x16_1_3_3_2_02_01 none (shapeCast _ (extractStridedSlice S8x528x1x32x128 ![0, 0, 1, 0, 0] (keys kv) slices_S8x528x2x32x128_S8x528x1x32x128_0_0_1_0_0) shapeCasts_S8x528x1x32x128_S8x528x32x128) (Host.divf (weights L) (broadcastInDim S8x32x16x528 ![0, 1, 2, 3] bcast_S8x32x16x1_S8x32x16x528_0_1_2_3 (broadcastInDim S8x32x16x1 ![0, 1, 2] bcast_S8x32x16_S8x32x16x1_0_1_2 (rowSum L))))

/-- The reference program: the whole reference. -/
def REF (q : FVec Ideal S128x4096 .f32) (kv : FVec Ideal S9216x8192 .bf16) (rb : FVec Ideal S32x129 .f32) (gate : FVec Ideal S128x4096 .f32) : FVec Ideal S128x4096 .bf16 :=
  truncf .bf16 (mulf (shapeCast _ (transpose S8x16x32x128 [0, 3, 1, 2] (heads kv (logits q kv rb)) transposes_S8x32x128x16_S8x16x32x128_0_3_1_2) shapeCasts_S8x16x32x128_S128x4096) (mulf gate (Host.divf (broadcastInDim S128x4096 ![] bcast_S_S128x4096 (constant S_ .f32 0x3F800000#32)) (addf (broadcastInDim S128x4096 ![] bcast_S_S128x4096 (constant S_ .f32 0x3F800000#32)) (Host.exp (Host.negf gate)))))) bitsLt_bf16_f32

set_option maxHeartbeats 4000000 in
/-- The run's result is that reference of the four arguments. -/
theorem res_eq (m : (ℓ : Loc nD τ sig) → Buf (Elt Ideal) ℓ) (c : Dev nD) :
    Cert.SampleBandReferenceIdeal.Value.res_out0 m c = REF (m ((c.tc : Thread nD τ).loc main_arg0)) (m ((c.tc : Thread nD τ).loc main_arg1))
      (m ((c.tc : Thread nD τ).loc main_arg3)) (m ((c.tc : Thread nD τ).loc main_arg2)) := by
  unfold Cert.SampleBandReferenceIdeal.Value.res_out0 Cert.SampleBandReferenceIdeal.Value.res_main_v72
  rfl

end Cert.SBand.Ref

end
-- ==== Proof.SBandRefAt.lean ====
module

public import proofs.«01_k».proof.Proof.SBandRef
public import Idealize.ShloMosaic.Lib.Pipeline.ValueKit

/-! The reference's result read at an index: the softmax over all keys, its masked logits in closed form. -/

@[expose] public section

set_option maxRecDepth 16384

noncomputable section

namespace Cert.SBand.Ref

open Idealize.ShloMosaic Idealize.ShloMosaic.TcCoe Idealize.SL.Sem
open Cert.SampleBandReferenceIdeal Cert.SampleBandReferenceIdeal.Gen

theorem kc_at (k : Fin 528) : kc (ix2 0 k) = BitVec.ofNat 32 ((512 + (k : ℕ)) / 64) := by
  pointwise [kc, id_eq]
  revert k
  decide +kernel

theorem qc_at (i : Fin 16) : qc (ix2 i 0) = 16#32 := by
  pointwise [qc, id_eq]
  revert i
  decide +kernel

/-- Every query of the sample sees every key of its window. -/
theorem allowed_at (i : Fin 16) (k : Fin 528) : allowed (ix2 i k) = 1#1 := by
  pointwise [allowed, kc_at, qc_at]
  revert k
  decide +kernel

/-- The bias row of a query and a key: their distance, clipped to [-64, 64] and shifted to start at 0. -/
theorem relIdx_at (i : Fin 16) (k : Fin 528) : relIdx (ix2 i k) = BitVec.ofNat 32 (min 128 (576 + (i : ℕ) - k)) := by
  pointwise [relIdx, clipped, id_eq]
  revert i k
  decide +kernel

private theorem toInt_small : ∀ n : Fin 129, (BitVec.ofNat 32 (n : ℕ)).toInt.toNat = n := by decide +kernel

/-- The gathered bias: the table's entry at the clipped distance. -/
theorem biasT_at (rb : FVec Ideal S32x129 .f32) (h : Fin 32) (i : Fin 16) (k : Fin 528) :
    biasT rb (ix3 h i k) = rb (ix2 h ⟨min 128 (576 + (i : ℕ) - k), by omega⟩) := by
  unfold biasT
  generalize hstart : broadcastInDim S16x528x1 ![0, 1] bcast_S16x528_S16x528x1_0_1 relIdx = start
  have hs : start (ix3 i k 0) = BitVec.ofNat 32 (min 128 (576 + (i : ℕ) - k)) := by
    rw [← hstart]
    pointwise [relIdx_at]
  unfold Host.gather
  congr 1
  funext a
  refine Fin.ext ?_
  show (gather_S32x129_S16x528x1_S32x16x528_0_1_n_n_1_2_321).start (ix3 h i k) start a
      + (gather_S32x129_S16x528x1_S32x16x528_0_1_n_n_1_2_321).batchCoord (ix3 h i k) a
      + (gather_S32x129_S16x528x1_S32x16x528_0_1_n_n_1_2_321).offCoord (ix3 h i k) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (List.not_mem_nil)]
    unfold GatherDims.start
    rw [dif_neg (show (0 : Fin 2) ∉ (gather_S32x129_S16x528x1_S32x16x528_0_1_n_n_1_2_321).startIndexMap from (by decide : (0 : Fin 2) ∉ [(1 : Fin 2)]))]
    simp only [Nat.zero_add, Nat.add_zero]
    rfl
  · rw [GatherDims.batchCoord_eq_zero _ _ _ (List.not_mem_nil),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S32x129_S16x528x1_S32x16x528_0_1_n_n_1_2_321).startIndexMap from List.mem_singleton.mpr rfl)]
    have hsi : (gather_S32x129_S16x528x1_S32x16x528_0_1_n_n_1_2_321).siIdx (ix3 h i k)
        ⟨List.idxOf (1 : Fin 2) (gather_S32x129_S16x528x1_S32x16x528_0_1_n_n_1_2_321).startIndexMap,
        List.idxOf_lt_length_iff.2 (List.mem_singleton.mpr rfl)⟩ = ix3 i k 0 := by
      funext b; refine Fin.ext ?_
      match b with
      | ⟨0, _⟩ => rfl
      | ⟨1, _⟩ => rfl
      | ⟨2, _⟩ => rfl
    rw [hsi, hs, toInt_small ⟨min 128 (576 + (i : ℕ) - k), by omega⟩]
    show min (min 128 (576 + (i : ℕ) - k)) (129 - 1) = min 128 (576 + (i : ℕ) - k)
    omega

/-- A masked logit of the reference. -/
theorem logits_at (q : FVec Ideal S128x4096 .f32) (kv : FVec Ideal S9216x8192 .bf16) (rb : FVec Ideal S32x129 .f32)
    (b : Fin 8) (h : Fin 32) (i : Fin 16) (k : Fin 528) :
    logits q kv rb (ix4 b h i k) =
      Ideal.div (∑ x : Fin 128, q (ix2 ⟨b * 16 + i, by omega⟩ ⟨h * 128 + x, by omega⟩) * kv (ix2 ⟨b * 1152 + (512 + k), by omega⟩ ⟨h * 128 + x, by omega⟩))
        (Ideal.sqrt (Ideal.ofBits .f32 1124073472#32)) + rb (ix2 h ⟨min 128 (576 + (i : ℕ) - k), by omega⟩) := by
  pointwise [logits, dots, keys, allowed_at, biasT_at, id_eq]

private theorem reduce_at (L : FVec Ideal S8x32x16x528 .f32) (z : FVec Ideal S_ .f32) (b : Fin 8) (h : Fin 32) (i : Fin 16) :
    Host.reduce FloatOps.maximumf L z reducesTo_S8x32x16x528_S8x32x16_d3 h_S_ (ix3 b h i)
      = Finset.univ.fold max (z (Shape.Idx.first h_S_)) fun x : Fin 528 => L (ix4 b h i x) := by
  simp only [pointwise]

private theorem max_at (L : FVec Ideal S8x32x16x528 .f32) (z : FVec Ideal S_ .f32) (b : Fin 8) (h : Fin 32) (i : Fin 16) :
    maximumf (broadcastInDim S8x32x16 ![] bcast_S_S8x32x16 z) (Host.reduce FloatOps.maximumf L z reducesTo_S8x32x16x528_S8x32x16_d3 h_S_) (ix3 b h i)
      = max (z ix0) (Finset.univ.fold max (z (Shape.Idx.first h_S_)) fun x : Fin 528 => L (ix4 b h i x)) := by
  rw [← reduce_at]
  generalize Host.reduce FloatOps.maximumf L z reducesTo_S8x32x16x528_S8x32x16_d3 h_S_ = R
  pointwise

private theorem const_at (i : S_.Idx) : (constant S_ .f32 0xFF800000#32 : FVec Ideal S_ .f32) i = Ideal.ofBits .f32 4286578688#32 := rfl

/-- The largest logit of a row. -/
theorem rowMax_at (L : FVec Ideal S8x32x16x528 .f32) (b : Fin 8) (h : Fin 32) (i : Fin 16) :
    rowMax L (ix3 b h i) = max (Ideal.ofBits .f32 4286578688#32) (Finset.univ.fold max (Ideal.ofBits .f32 4286578688#32) fun x : Fin 528 => L (ix4 b h i x)) :=
  (max_at L _ b h i).trans (by rw [const_at, const_at])

/-- The exponentials of a row. -/
theorem weights_at (L : FVec Ideal S8x32x16x528 .f32) (b : Fin 8) (h : Fin 32) (i : Fin 16) (k : Fin 528) :
    weights L (ix4 b h i k) = Ideal.exp (L (ix4 b h i k) - rowMax L (ix3 b h i)) := by
  pointwise [weights]

/-- Their sum. -/
theorem rowSum_at (L : FVec Ideal S8x32x16x528 .f32) (b : Fin 8) (h : Fin 32) (i : Fin 16) :
    rowSum L (ix3 b h i) = ∑ x : Fin 528, weights L (ix4 b h i x) := by
  pointwise [rowSum]

/-- The weighted values. -/
theorem heads_at (kv : FVec Ideal S9216x8192 .bf16) (L : FVec Ideal S8x32x16x528 .f32) (b : Fin 8) (h : Fin 32) (d : Fin 128) (i : Fin 16) :
    heads kv L (ix4 b h d i) = ∑ x : Fin 528, kv (ix2 ⟨b * 1152 + (512 + x), by omega⟩ ⟨4096 + (h * 128 + d), by omega⟩)
      * Ideal.div (weights L (ix4 b h i x)) (rowSum L (ix3 b h i)) := by
  pointwise [heads, keys]
  exact Finset.sum_congr rfl fun x _ => congrArg (fun z => kv (ix2 _ z) * _) (Fin.ext (Nat.add_assoc _ _ _))

/-- The reference at an index. -/
theorem REF_at (q : FVec Ideal S128x4096 .f32) (kv : FVec Ideal S9216x8192 .bf16) (rb : FVec Ideal S32x129 .f32)
    (gate : FVec Ideal S128x4096 .f32) (r : Fin 128) (d : Fin 4096) :
    REF q kv rb gate (ix2 r d) = heads kv (logits q kv rb) (ix4 ⟨r / 16, by omega⟩ ⟨d / 128, by omega⟩ ⟨d % 128, by omega⟩ ⟨r % 16, by omega⟩)
      * (gate (ix2 r d) * Ideal.div 1 (1 + Ideal.exp (-gate (ix2 r d)))) := by
  pointwise [REF]

end Cert.SBand.Ref

end
-- ==== Proof.SBandSoft.lean ====
module

public import proofs.«01_k».proof.Proof.Soft

/-! The softmax in base two over a window whose last keys are masked, and the softmax over the keys before them. -/

@[expose] public section

noncomputable section

namespace Cert.SBand.Soft

open Idealize.ShloMosaic
open Cert.Band.Soft (c)

/-- A sum of terms that vanish from key 528 on. -/
theorem sum_first (f : Fin 2048 → EReal) (hout : ∀ k : Fin 2048, 528 ≤ (k : ℕ) → f k = 0) :
    ∑ k, f k = ∑ j : Fin 528, f ⟨j, by omega⟩ := by
  classical
  have hinj : Function.Injective (fun j : Fin 528 => (⟨j, by omega⟩ : Fin 2048)) := fun a b h => by
    have := congrArg Fin.val h
    exact Fin.ext (by simpa using this)
  rw [← Finset.sum_image (f := f) (s := Finset.univ) (g := fun j : Fin 528 => (⟨j, by omega⟩ : Fin 2048)) (fun a _ b _ h => hinj h)]
  refine (Finset.sum_subset (Finset.subset_univ _) fun k _ hk => hout k ?_).symm
  by_contra hc
  exact hk (Finset.mem_image.mpr ⟨⟨(k : ℕ), by omega⟩, Finset.mem_univ _, rfl⟩)

/-- `f` on the first 528 keys, `z` after them. -/
def ext (f : Fin 528 → EReal) (z : EReal) (k : Fin 2048) : EReal := if h : (k : ℕ) < 528 then f ⟨k, h⟩ else z

theorem ext_lt (f : Fin 528 → EReal) (z : EReal) (j : Fin 528) : ext f z ⟨j, by omega⟩ = f j := dif_pos j.isLt

theorem ext_ge (f : Fin 528 → EReal) (z : EReal) (k : Fin 2048) (h : 528 ≤ (k : ℕ)) : ext f z k = z := dif_neg (by omega)

theorem fold_ext (L : Fin 528 → EReal) : Finset.univ.fold max ⊥ (ext L ⊥) = Finset.univ.fold max ⊥ L := by
  show Finset.univ.sup (ext L ⊥) = Finset.univ.sup L
  apply le_antisymm
  · refine Finset.sup_le fun k _ => ?_
    by_cases h : (k : ℕ) < 528
    · rw [show ext L ⊥ k = L ⟨k, h⟩ from dif_pos h]
      exact Finset.le_sup (Finset.mem_univ _)
    · rw [ext_ge L ⊥ k (by omega)]
      exact bot_le
  · refine Finset.sup_le fun j _ => ?_
    rw [← ext_lt L ⊥ j]
    exact Finset.le_sup (Finset.mem_univ _)

theorem soft (L v : Fin 528 → EReal) (htop : ∀ k, L k ≠ ⊤) (k0 : Fin 528) (hk0 : L k0 ≠ ⊥)
    (T V : Fin 640 → EReal) (hT : ∀ j : Fin 640, T j = if h : (j : ℕ) < 528 then L ⟨j, h⟩ * (c : EReal) else ⊥)
    (hV : ∀ (j : Fin 640) (h : (j : ℕ) < 528), V j = v ⟨j, h⟩) :
    Ideal.div (∑ j, Ideal.exp2 (T j - Finset.univ.fold max ⊥ T) * V j) (∑ j, Ideal.exp2 (T j - Finset.univ.fold max ⊥ T))
      = ∑ k, v k * Ideal.div (Ideal.exp (L k - max ⊥ (Finset.univ.fold max ⊥ L))) (∑ k', Ideal.exp (L k' - max ⊥ (Finset.univ.fold max ⊥ L))) := by
  have hv : ∀ j, Ideal.exp2 (T j - Finset.univ.fold max ⊥ T) * V j = Ideal.exp2 (T j - Finset.univ.fold max ⊥ T) * ext v 0 ⟨0 + j, by omega⟩ := by
    intro j
    generalize Finset.univ.fold max ⊥ T = M
    by_cases h : (j : ℕ) < 528
    · rw [hV j h]
      congr 1
      exact ((dif_pos (by show 0 + (j : ℕ) < 528; omega)).trans (congrArg v (Fin.ext (Nat.zero_add _)))).symm
    · rw [hT j, dif_neg h, EReal.bot_sub]
      have e : Ideal.exp2 ⊥ = 0 := rfl
      rw [e, zero_mul, zero_mul]
  rw [Finset.sum_congr rfl fun j _ => hv j]
  refine (Cert.Band.Soft.soft (ext L ⊥) (ext v 0) 0 (by omega) ?_ ?_ ⟨k0, by omega⟩ ?_ T (fun j => ext v 0 ⟨0 + j, by omega⟩) ?_ fun _ => rfl).trans ?_
  · exact fun k hk => ext_ge L ⊥ k (by omega)
  · intro k
    by_cases h : (k : ℕ) < 528
    · rw [show ext L ⊥ k = L ⟨k, h⟩ from dif_pos h]
      exact htop _
    · rw [ext_ge L ⊥ k (by omega)]
      exact bot_ne_top
  · rw [ext_lt]
    exact hk0
  · intro j
    rw [hT j]
    by_cases h : (j : ℕ) < 528
    · rw [dif_pos h]
      congr 1
      exact ((dif_pos (by show 0 + (j : ℕ) < 528; omega)).trans (congrArg L (Fin.ext (Nat.zero_add _)))).symm
    · rw [dif_neg h, ext_ge L ⊥ ⟨0 + j, by omega⟩ (by show 528 ≤ 0 + (j : ℕ); omega), EReal.bot_mul_coe_of_pos Cert.Band.Soft.c_pos]
  · rw [fold_ext]
    rw [sum_first _ fun k hk => by rw [ext_ge v 0 k hk, zero_mul]]
    rw [sum_first (fun k => Ideal.exp (ext L ⊥ k - max ⊥ (Finset.univ.fold max ⊥ L))) fun k hk => by
      show Ideal.exp (ext L ⊥ k - _) = 0
      rw [ext_ge L ⊥ k hk, EReal.bot_sub]; rfl]
    simp only [ext_lt]

end Cert.SBand.Soft

end
-- ==== Proof.SBandCore.lean ====
module

public import proofs.«01_k».proof.Proof.SBandHead
public import proofs.«01_k».proof.Proof.SBandWindow
public import proofs.«01_k».proof.Proof.SBandRefAt
public import proofs.«01_k».proof.Proof.SBandSoft
public import proofs.«01_k».proof.Proof.Core

/-! One head of the sample: the kernel's arithmetic on its window is the reference's. -/

@[expose] public section

set_option maxRecDepth 16384

noncomputable section

namespace Cert.SBand.Ker

open Idealize.ShloMosaic Idealize.ShloMosaic.TcCoe Idealize.SL.Sem
open Cert.SampleBandIdeal Cert.SampleBandIdeal.Gen
open Cert.Band.Soft (c negInf scale_logit c_pos)

section
variable (Q : FVec Ideal S128x4096 .f32) (KV : FVec Ideal S9216x8192 .bf16) (RB : FVec Ideal S32x129 .f32) (G : FVec Ideal S128x4096 .f32)

/-- The finite entries: the queries, the keys, the bias. -/
structure Finite : Prop where
  q : ∀ (r : Fin 128) (d : Fin 4096), Q (ix2 r d) ≠ (⊤ : EReal) ∧ Q (ix2 r d) ≠ (⊥ : EReal)
  k : ∀ (r : Fin 9216) (d : Fin 4096), KV (ix2 r ⟨d, by omega⟩) ≠ (⊤ : EReal) ∧ KV (ix2 r ⟨d, by omega⟩) ≠ (⊥ : EReal)
  b : ∀ (h : Fin 32) (x : Fin 129), RB (ix2 h x) ≠ (⊤ : EReal) ∧ RB (ix2 h x) ≠ (⊥ : EReal)

variable {Q KV RB G}

theorem logits_real (F : Finite Q KV RB) (b : Fin 8) (h : Fin 32) (i : Fin 16) (k : Fin 528) :
    ∃ z : ℝ, Ref.logits Q KV RB (ix4 b h i k) = (z : EReal) := by
  rw [Ref.logits_at]
  exact Cert.Band.Ker.logit_real (fun x => Q (ix2 ⟨b * 16 + i, by omega⟩ ⟨h * 128 + x, by omega⟩)) (fun x => KV (ix2 ⟨b * 1152 + (512 + k), by omega⟩ ⟨h * 128 + x, by omega⟩)) _
    (fun x => F.q _ _) (fun x => F.k _ ⟨h * 128 + x, by omega⟩) (F.b _ _)

variable (b : Fin 8) (h : Fin 32) (i : grid0.Coords)

/-- A score of the kernel is the reference's logit over log 2. -/
theorem score_eq (q : FVec Ideal S16x128 .bf16) (k : FVec Ideal S640x128 .bf16) (b0 b1 b2 b3 b4 : Vec Ideal S1x1x16x128 .f32)
    (hq : ∀ (r : Fin 16) (x : Fin 128), q (ix2 r x) = Ideal.div (Q (ix2 ⟨b * 16 + r, by omega⟩ ⟨h * 128 + x, by omega⟩))
      (Ideal.sqrt (Ideal.ofBits .f32 1124073472#32) * Ideal.log (Ideal.ofBits .f32 1073741824#32)))
    (hk : ∀ (j : Fin 640) (x : Fin 128), k (ix2 j x) = KV (ix2 ⟨b * 1152 + (512 + j), by omega⟩ ⟨h * 128 + x, by omega⟩))
    (hb : ∀ (r : Fin 5) (t : Fin 16) (j : Fin 128), (![b0, b1, b2, b3, b4] r) (ix4 0 0 t j) =
      Ideal.div (RB (ix2 h ⟨min 128 (64 + (2 - min 2 (r.val - 2)) * 128 + t - j), by omega⟩)) (Ideal.log (Ideal.ofBits .f32 1073741824#32)))
    (r : Fin 16) (j : Fin 640) :
    score (mask i) (qk q k) (biases b0 b1 b2 b3 b4) (ix2 r j)
      = if hj : (j : ℕ) < 528 then Ref.logits Q KV RB (ix4 b h r ⟨j, hj⟩) * (c : EReal) else ⊥ := by
  have hr := r.isLt
  have hj := j.isLt
  rw [score_at, mask_at]
  by_cases hik : (j : ℕ) < 528
  · rw [dif_pos hik, decide_eq_true hik, Ref.logits_at, ← scale_logit]
    show qk q k (ix2 r j) + biases b0 b1 b2 b3 b4 (ix2 r j) = _
    have hjj : j = ⟨(j : ℕ) / 128 * 128 + (j : ℕ) % 128, by omega⟩ := Fin.ext (by show (j : ℕ) = (j : ℕ) / 128 * 128 + (j : ℕ) % 128; omega)
    have hbj : biases b0 b1 b2 b3 b4 (ix2 r j) = Ideal.div (RB (ix2 h ⟨min 128 (576 + (r : ℕ) - j), by omega⟩)) (Ideal.log (Ideal.ofBits .f32 1073741824#32)) := by
      rw [congrArg (fun z => biases b0 b1 b2 b3 b4 (ix2 r z)) hjj]
      refine (biases_at b0 b1 b2 b3 b4 r ⟨(j : ℕ) / 128, by omega⟩ ⟨(j : ℕ) % 128, by omega⟩).trans ?_
      rw [hb]
      refine congrArg (fun z => Ideal.div (RB (ix2 h z)) _) (Fin.ext ?_)
      show min 128 (64 + (2 - min 2 ((j : ℕ) / 128 - 2)) * 128 + r - (j : ℕ) % 128) = min 128 (576 + (r : ℕ) - j)
      omega
    rw [hbj, qk_at]
    congr 1
    refine Finset.sum_congr rfl fun x _ => ?_
    rw [hq, hk]
  · rw [dif_neg hik, decide_eq_false hik]
    show Ideal.ofBits .f32 4286578688#32 = _
    rw [negInf]

/-- The head's result is the reference's. -/
theorem core (F : Finite Q KV RB)
    (q : FVec Ideal S16x128 .bf16) (k v : FVec Ideal S640x128 .bf16) (b0 b1 b2 b3 b4 : Vec Ideal S1x1x16x128 .f32) (g : FVec Ideal S16x128 .f32)
    (hq : ∀ (r : Fin 16) (x : Fin 128), q (ix2 r x) = Ideal.div (Q (ix2 ⟨b * 16 + r, by omega⟩ ⟨h * 128 + x, by omega⟩))
      (Ideal.sqrt (Ideal.ofBits .f32 1124073472#32) * Ideal.log (Ideal.ofBits .f32 1073741824#32)))
    (hk : ∀ (j : Fin 640) (x : Fin 128), k (ix2 j x) = KV (ix2 ⟨b * 1152 + (512 + j), by omega⟩ ⟨h * 128 + x, by omega⟩))
    (hv : ∀ (j : Fin 640) (x : Fin 128), v (ix2 j x) = KV (ix2 ⟨b * 1152 + (512 + j), by omega⟩ ⟨4096 + (h * 128 + x), by omega⟩))
    (hb : ∀ (r : Fin 5) (t : Fin 16) (j : Fin 128), (![b0, b1, b2, b3, b4] r) (ix4 0 0 t j) =
      Ideal.div (RB (ix2 h ⟨min 128 (64 + (2 - min 2 (r.val - 2)) * 128 + t - j), by omega⟩)) (Ideal.log (Ideal.ofBits .f32 1073741824#32)))
    (hg : ∀ (r : Fin 16) (x : Fin 128), g (ix2 r x) = G (ix2 ⟨b * 16 + r, by omega⟩ ⟨h * 128 + x, by omega⟩))
    (r : Fin 16) (d : Fin 128) :
    headOut (score (mask i) (qk q k) (biases b0 b1 b2 b3 b4)) v g (ix2 r d)
      = Ref.REF Q KV RB G (ix2 ⟨b * 16 + r, by omega⟩ ⟨h * 128 + d, by omega⟩) := by
  have hT := score_eq (Q := Q) (KV := KV) (RB := RB) b h i q k b0 b1 b2 b3 b4 hq hk hb r
  generalize score (mask i) (qk q k) (biases b0 b1 b2 b3 b4) = s at hT ⊢
  have hd : Ref.REF Q KV RB G (ix2 ⟨b * 16 + r, by omega⟩ ⟨h * 128 + d, by omega⟩)
      = Ref.heads KV (Ref.logits Q KV RB) (ix4 b h d r) * (G (ix2 ⟨b * 16 + r, by omega⟩ ⟨h * 128 + d, by omega⟩)
        * Ideal.div 1 (1 + Ideal.exp (-G (ix2 ⟨b * 16 + r, by omega⟩ ⟨h * 128 + d, by omega⟩)))) := by
    rw [Ref.REF_at]
    have e1 : (⟨(b * 16 + r) / 16, by omega⟩ : Fin 8) = b := Fin.ext (by show ((b : ℕ) * 16 + r) / 16 = b; omega)
    have e2 : (⟨(h * 128 + d) / 128, by omega⟩ : Fin 32) = h := Fin.ext (by show ((h : ℕ) * 128 + d) / 128 = h; omega)
    have e3 : (⟨(h * 128 + d) % 128, by omega⟩ : Fin 128) = d := Fin.ext (by show ((h : ℕ) * 128 + d) % 128 = d; omega)
    have e4 : (⟨(b * 16 + r) % 16, by omega⟩ : Fin 16) = r := Fin.ext (by show ((b : ℕ) * 16 + r) % 16 = r; omega)
    rw [e1, e2, e3, e4]
  rw [hd, headOut_at, hg, Ref.heads_at]
  congr 1
  rw [mix_at, total_at]
  simp only [weight_at, top_at, negInf, Ref.weights_at, Ref.rowSum_at, Ref.rowMax_at]
  refine Soft.soft (fun k => Ref.logits Q KV RB (ix4 b h r k)) (fun k => KV (ix2 ⟨b * 1152 + (512 + k), by omega⟩ ⟨4096 + (h * 128 + d), by omega⟩))
    (fun k => ?_) ⟨0, by omega⟩ ?_ (fun j => s (ix2 r j)) (fun j => v (ix2 j d)) hT (fun j _ => hv j d)
  · obtain ⟨z, hz⟩ := logits_real F b h r k
    rw [hz]
    exact EReal.coe_ne_top z
  · obtain ⟨z, hz⟩ := logits_real F b h r ⟨0, by omega⟩
    rw [hz]
    exact EReal.coe_ne_bot z

end

end Cert.SBand.Ker
-- ==== Proof.SBandBlocks.lean ====
module

public import proofs.«01_k».proof.Proof.SBandTab
public import proofs.«01_k».proof.Proof.SBandCore

/-! The blocks a grid point reads, in the arrays the sample's band attention is given. -/

@[expose] public section

set_option maxRecDepth 16384

noncomputable section

namespace Cert.SBand.Ker

open Idealize.ShloMosaic Idealize.ShloMosaic.TcCoe Idealize.SL.Sem
open Cert.SampleBandIdeal Cert.SampleBandIdeal.Gen

theorem idx : ∀ t : Fin cfg0.N, win0_0.index t = ![t.val / 4, t.val % 4] ∧ win0_1.index t = ![t.val / 4, t.val % 4]
    ∧ win0_2.index t = ![t.val / 4, 4 + t.val % 4] ∧ win0_3.index t = ![t.val % 4, 0, 0, 0]
    ∧ win0_4.index t = ![t.val / 4, t.val % 4] ∧ win0_5.index t = ![t.val / 4, t.val % 4] :=
  (by decide +kernel : ∀ t : Fin grid0.N, _)

theorem pt_lt (t : Fin cfg0.N) : t.val < 32 := lt_of_lt_of_eq t.isLt N_0

variable (m : (ℓ : Loc nD τ sig) → Buf (Elt Ideal) ℓ) (c : Dev nD) (t : Fin cfg0.N)

theorem q_blk (a : Fin 16) (d : Fin 1024) : iblk m c 0 t (ix2 a d) =
    Ideal.div (m ((c.tc : Thread nD τ).loc main_arg0) (ix2 ⟨t.val / 4 * 16 + a, by have := pt_lt t; omega⟩ ⟨t.val % 4 * 1024 + d, by omega⟩))
      (Ideal.sqrt (Ideal.ofBits .f32 1124073472#32) * Ideal.log (Ideal.ofBits .f32 1073741824#32)) := by
  rw [← V_q]
  blk_point [iblk, idx t]

theorem k_blk (a : Fin 1152) (d : Fin 1024) : iblk m c 1 t (ix2 a d) =
    m ((c.tc : Thread nD τ).loc main_arg1) (ix2 ⟨t.val / 4 * 1152 + a, by have := pt_lt t; omega⟩ ⟨t.val % 4 * 1024 + d, by omega⟩) := by
  blk_point [iblk, V, idx t]

theorem v_blk (a : Fin 1152) (d : Fin 1024) : iblk m c 2 t (ix2 a d) =
    m ((c.tc : Thread nD τ).loc main_arg1) (ix2 ⟨t.val / 4 * 1152 + a, by have := pt_lt t; omega⟩ ⟨4096 + (t.val % 4 * 1024 + d), by omega⟩) := by
  blk_point [iblk, V, idx t]

theorem tab_blk (h : Fin 8) (e : Fin 3) (x y : Fin 128) : iblk m c 3 t (ix4 h e x y) =
    Ideal.div (m ((c.tc : Thread nD τ).loc main_arg3) (ix2 ⟨t.val % 4 * 8 + h, by omega⟩ ⟨min 128 (64 + (2 - e) * 128 + x - y), by omega⟩))
      (Ideal.log (Ideal.ofBits .f32 1073741824#32)) := by
  rw [← Cert.Band.Ker.table_at, ← V_table]
  blk_point [iblk, idx t]

theorem g_blk (a : Fin 16) (d : Fin 1024) : iblk m c 4 t (ix2 a d) =
    m ((c.tc : Thread nD τ).loc main_arg2) (ix2 ⟨t.val / 4 * 16 + a, by have := pt_lt t; omega⟩ ⟨t.val % 4 * 1024 + d, by omega⟩) := by
  blk_point [iblk, V, idx t]

end Cert.SBand.Ker
-- ==== Proof.SBandPoint.lean ====
module

public import proofs.«01_k».proof.Proof.SBandBlocks
public import proofs.«01_k».proof.Proof.Point

/-! What a grid point of the sample's band attention writes: eight heads of one query tile. -/

@[expose] public section

set_option maxRecDepth 16384

noncomputable section

namespace Cert.SBand.Ker

open Idealize.ShloMosaic Idealize.ShloMosaic.TcCoe Idealize.SL.Sem
open Cert.SampleBandIdeal Cert.SampleBandIdeal.Gen
open Cert.Band.Ker (ld2)

/-- A load of the first rows of one square of the table. -/
theorem ld4 {α : EltTy} (X : S8x3x128x128.Idx → Elt Ideal α) (off : Fin 4 → ℕ)
    (inb : ∀ z, off z + (![1, 1, 16, 128] : Fin 4 → ℕ) z ≤ S8x3x128x128.size z) (o p : ℕ) (e : off = ![o, p, 0, 0]) (r : Fin 16) (x : Fin 128)
    (ho : o < 8) (hp : p < 3) :
    X ((Rect.unit (s := S8x3x128x128) off ![1, 1, 16, 128] inb).idx (ix4 0 0 r x)) = X (ix4 ⟨o, ho⟩ ⟨p, hp⟩ ⟨r, by omega⟩ x) := by
  subst e
  refine congrArg X (funext fun z => Fin.ext ?_)
  match z with
  | ⟨0, _⟩ => rfl
  | ⟨1, _⟩ => rfl
  | ⟨2, _⟩ => show 0 + 1 * (r : ℕ) = r; omega
  | ⟨3, _⟩ => show 0 + 1 * (x : ℕ) = x; omega

variable (m : (ℓ : Loc nD τ sig) → Buf (Elt Ideal) ℓ) (c : Dev nD) (t : Fin cfg0.N)

/-- One head, in the blocks of its grid point. -/
theorem piece
    (F : Finite (m ((c.tc : Thread nD τ).loc main_arg0)) (m ((c.tc : Thread nD τ).loc main_arg1)) (m ((c.tc : Thread nD τ).loc main_arg3)))
    (g : Fin 8) (q : FVec Ideal S16x128 .bf16) (k v : FVec Ideal S640x128 .bf16) (b0 b1 b2 b3 b4 : Vec Ideal S1x1x16x128 .f32) (w : FVec Ideal S16x128 .f32)
    (hq : ∀ (r : Fin 16) (x : Fin 128), q (ix2 r x) = iblk m c 0 t (ix2 ⟨0 + r, by omega⟩ ⟨128 * g + x, by omega⟩))
    (hk : ∀ (j : Fin 640) (x : Fin 128), k (ix2 j x) = iblk m c 1 t (ix2 ⟨512 + j, by omega⟩ ⟨128 * g + x, by omega⟩))
    (hv : ∀ (j : Fin 640) (x : Fin 128), v (ix2 j x) = iblk m c 2 t (ix2 ⟨512 + j, by omega⟩ ⟨128 * g + x, by omega⟩))
    (hb0 : ∀ (i : Fin 16) (j : Fin 128), b0 (ix4 0 0 i j) = iblk m c 3 t (ix4 g ⟨min 2 ((0 : Fin 5).val - 2), by omega⟩ ⟨i, by omega⟩ j))
    (hb1 : ∀ (i : Fin 16) (j : Fin 128), b1 (ix4 0 0 i j) = iblk m c 3 t (ix4 g ⟨min 2 ((1 : Fin 5).val - 2), by omega⟩ ⟨i, by omega⟩ j))
    (hb2 : ∀ (i : Fin 16) (j : Fin 128), b2 (ix4 0 0 i j) = iblk m c 3 t (ix4 g ⟨min 2 ((2 : Fin 5).val - 2), by omega⟩ ⟨i, by omega⟩ j))
    (hb3 : ∀ (i : Fin 16) (j : Fin 128), b3 (ix4 0 0 i j) = iblk m c 3 t (ix4 g ⟨min 2 ((3 : Fin 5).val - 2), by omega⟩ ⟨i, by omega⟩ j))
    (hb4 : ∀ (i : Fin 16) (j : Fin 128), b4 (ix4 0 0 i j) = iblk m c 3 t (ix4 g ⟨min 2 ((4 : Fin 5).val - 2), by omega⟩ ⟨i, by omega⟩ j))
    (hw : ∀ (r : Fin 16) (x : Fin 128), w (ix2 r x) = iblk m c 4 t (ix2 ⟨0 + r, by omega⟩ ⟨128 * g + x, by omega⟩))
    (y : S16x1024.Idx) (x : S16x128.Idx) (h0 : (y 0).val = (x 0).val) (h1 : (y 1).val = 128 * g + (x 1).val) :
    headOut (score (mask (grid0.coords t)) (qk q k) (biases b0 b1 b2 b3 b4)) v w x
      = Ref.REF (m ((c.tc : Thread nD τ).loc main_arg0)) (m ((c.tc : Thread nD τ).loc main_arg1)) (m ((c.tc : Thread nD τ).loc main_arg3))
      (m ((c.tc : Thread nD τ).loc main_arg2))
      (ix2 ⟨t.val / 4 * 16 + y 0, by have := pt_lt t; have : (y 0).val < 16 := (y 0).isLt; omega⟩
        ⟨t.val % 4 * 1024 + y 1, by have : (y 1).val < 1024 := (y 1).isLt; omega⟩) := by
  have ht := pt_lt t
  have hx : x = ix2 (x 0) (x 1) := by
    funext z
    match z with
    | ⟨0, _⟩ => rfl
    | ⟨1, _⟩ => rfl
  have hx0 : (x 0).val < 16 := (x 0).isLt
  have hx1 : (x 1).val < 128 := (x 1).isLt
  rw [congrArg (headOut (score (mask (grid0.coords t)) (qk q k) (biases b0 b1 b2 b3 b4)) v w) hx]
  refine (core ⟨t.val / 4, by omega⟩ ⟨t.val % 4 * 8 + g, by omega⟩ (grid0.coords t) F q k v b0 b1 b2 b3 b4 w
    (G := m ((c.tc : Thread nD τ).loc main_arg2)) ?_ ?_ ?_ ?_ ?_ (x 0) (x 1)).trans ?_
  · intro r d
    rw [hq, q_blk]
    refine congrArg (fun z => Ideal.div (m ((c.tc : Thread nD τ).loc main_arg0) z) _) (congrArg₂ ix2 (Fin.ext ?_) (Fin.ext ?_))
    · show t.val / 4 * 16 + (0 + (r : ℕ)) = t.val / 4 * 16 + r
      omega
    · show t.val % 4 * 1024 + (128 * (g : ℕ) + d) = (t.val % 4 * 8 + g) * 128 + d
      omega
  · intro j d
    rw [hk, k_blk]
    refine congrArg (m ((c.tc : Thread nD τ).loc main_arg1)) (congrArg₂ ix2 rfl (Fin.ext ?_))
    show t.val % 4 * 1024 + (128 * (g : ℕ) + d) = (t.val % 4 * 8 + g) * 128 + d
    omega
  · intro j d
    rw [hv, v_blk]
    refine congrArg (m ((c.tc : Thread nD τ).loc main_arg1)) (congrArg₂ ix2 rfl (Fin.ext ?_))
    show 4096 + (t.val % 4 * 1024 + (128 * (g : ℕ) + d)) = 4096 + ((t.val % 4 * 8 + g) * 128 + d)
    omega
  · intro r i j
    match r with
    | 0 => exact (hb0 i j).trans (tab_blk m c t _ _ _ _)
    | 1 => exact (hb1 i j).trans (tab_blk m c t _ _ _ _)
    | 2 => exact (hb2 i j).trans (tab_blk m c t _ _ _ _)
    | 3 => exact (hb3 i j).trans (tab_blk m c t _ _ _ _)
    | 4 => exact (hb4 i j).trans (tab_blk m c t _ _ _ _)
  · intro r d
    rw [hw, g_blk]
    refine congrArg (m ((c.tc : Thread nD τ).loc main_arg2)) (congrArg₂ ix2 (Fin.ext ?_) (Fin.ext ?_))
    · show t.val / 4 * 16 + (0 + (r : ℕ)) = t.val / 4 * 16 + r
      omega
    · show t.val % 4 * 1024 + (128 * (g : ℕ) + d) = (t.val % 4 * 8 + g) * 128 + d
      omega
  · refine congrArg (Ref.REF _ _ _ _) (congrArg₂ ix2 (Fin.ext ?_) (Fin.ext ?_))
    · show t.val / 4 * 16 + (x 0).val = t.val / 4 * 16 + (y 0).val
      rw [h0]
    · show (t.val % 4 * 8 + (g : ℕ)) * 128 + (x 1).val = t.val % 4 * 1024 + (y 1).val
      rw [h1]
      omega

set_option maxHeartbeats 40000000 in
/-- A grid point's block is the reference's. -/
theorem point
    (F : Finite (m ((c.tc : Thread nD τ).loc main_arg0)) (m ((c.tc : Thread nD τ).loc main_arg1)) (m ((c.tc : Thread nD τ).loc main_arg3)))
    (y : S16x1024.Idx) :
    outsAt0 m c t y = Ref.REF (m ((c.tc : Thread nD τ).loc main_arg0)) (m ((c.tc : Thread nD τ).loc main_arg1)) (m ((c.tc : Thread nD τ).loc main_arg3))
      (m ((c.tc : Thread nD τ).loc main_arg2))
      (ix2 ⟨t.val / 4 * 16 + y 0, by have := pt_lt t; have : (y 0).val < 16 := (y 0).isLt; omega⟩
        ⟨t.val % 4 * 1024 + y 1, by have : (y 1).val < 1024 := (y 1).isLt; omega⟩) := by
  unfold outsAt0
  frame_out
  canon_tiles x h
  case piece0 =>
    refine (show _ = headOut (score (mask (grid0.coords t)) (qk _ _) (biases _ _ _ _ _)) _ _ x from rfl).trans ?_
    refine piece m c t F 7 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win7 _) r d (by omega) (by omega)
    · exact fun r d => ld2 _ _ _ _ _ (win7 _) r d (by omega) (by omega)
    · exact fun i j => ld4 _ _ _ _ _ (ent7 _ 0) i j (by omega) (by omega)
    · exact fun i j => ld4 _ _ _ _ _ (ent7 _ 1) i j (by omega) (by omega)
    · exact fun i j => ld4 _ _ _ _ _ (ent7 _ 2) i j (by omega) (by omega)
    · exact fun i j => ld4 _ _ _ _ _ (ent7 _ 3) i j (by omega) (by omega)
    · exact fun i j => ld4 _ _ _ _ _ (ent7 _ 4) i j (by omega) (by omega)
    · exact fun r d => ld2 _ _ _ _ _ rfl r d (by omega) (by omega)
  case piece1 =>
    refine (show _ = headOut (score (mask (grid0.coords t)) (qk _ _) (biases _ _ _ _ _)) _ _ x from rfl).trans ?_
    refine piece m c t F 6 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win6 _) r d (by omega) (by omega)
    · exact fun r d => ld2 _ _ _ _ _ (win6 _) r d (by omega) (by omega)
    · exact fun i j => ld4 _ _ _ _ _ (ent6 _ 0) i j (by omega) (by omega)
    · exact fun i j => ld4 _ _ _ _ _ (ent6 _ 1) i j (by omega) (by omega)
    · exact fun i j => ld4 _ _ _ _ _ (ent6 _ 2) i j (by omega) (by omega)
    · exact fun i j => ld4 _ _ _ _ _ (ent6 _ 3) i j (by omega) (by omega)
    · exact fun i j => ld4 _ _ _ _ _ (ent6 _ 4) i j (by omega) (by omega)
    · exact fun r d => ld2 _ _ _ _ _ rfl r d (by omega) (by omega)
  case piece2 =>
    refine (show _ = headOut (score (mask (grid0.coords t)) (qk _ _) (biases _ _ _ _ _)) _ _ x from rfl).trans ?_
    refine piece m c t F 5 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win5 _) r d (by omega) (by omega)
    · exact fun r d => ld2 _ _ _ _ _ (win5 _) r d (by omega) (by omega)
    · exact fun i j => ld4 _ _ _ _ _ (ent5 _ 0) i j (by omega) (by omega)
    · exact fun i j => ld4 _ _ _ _ _ (ent5 _ 1) i j (by omega) (by omega)
    · exact fun i j => ld4 _ _ _ _ _ (ent5 _ 2) i j (by omega) (by omega)
    · exact fun i j => ld4 _ _ _ _ _ (ent5 _ 3) i j (by omega) (by omega)
    · exact fun i j => ld4 _ _ _ _ _ (ent5 _ 4) i j (by omega) (by omega)
    · exact fun r d => ld2 _ _ _ _ _ rfl r d (by omega) (by omega)
  case piece3 =>
    refine (show _ = headOut (score (mask (grid0.coords t)) (qk _ _) (biases _ _ _ _ _)) _ _ x from rfl).trans ?_
    refine piece m c t F 4 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win4 _) r d (by omega) (by omega)
    · exact fun r d => ld2 _ _ _ _ _ (win4 _) r d (by omega) (by omega)
    · exact fun i j => ld4 _ _ _ _ _ (ent4 _ 0) i j (by omega) (by omega)
    · exact fun i j => ld4 _ _ _ _ _ (ent4 _ 1) i j (by omega) (by omega)
    · exact fun i j => ld4 _ _ _ _ _ (ent4 _ 2) i j (by omega) (by omega)
    · exact fun i j => ld4 _ _ _ _ _ (ent4 _ 3) i j (by omega) (by omega)
    · exact fun i j => ld4 _ _ _ _ _ (ent4 _ 4) i j (by omega) (by omega)
    · exact fun r d => ld2 _ _ _ _ _ rfl r d (by omega) (by omega)
  case piece4 =>
    refine (show _ = headOut (score (mask (grid0.coords t)) (qk _ _) (biases _ _ _ _ _)) _ _ x from rfl).trans ?_
    refine piece m c t F 3 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win3 _) r d (by omega) (by omega)
    · exact fun r d => ld2 _ _ _ _ _ (win3 _) r d (by omega) (by omega)
    · exact fun i j => ld4 _ _ _ _ _ (ent3 _ 0) i j (by omega) (by omega)
    · exact fun i j => ld4 _ _ _ _ _ (ent3 _ 1) i j (by omega) (by omega)
    · exact fun i j => ld4 _ _ _ _ _ (ent3 _ 2) i j (by omega) (by omega)
    · exact fun i j => ld4 _ _ _ _ _ (ent3 _ 3) i j (by omega) (by omega)
    · exact fun i j => ld4 _ _ _ _ _ (ent3 _ 4) i j (by omega) (by omega)
    · exact fun r d => ld2 _ _ _ _ _ rfl r d (by omega) (by omega)
  case piece5 =>
    refine (show _ = headOut (score (mask (grid0.coords t)) (qk _ _) (biases _ _ _ _ _)) _ _ x from rfl).trans ?_
    refine piece m c t F 2 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win2 _) r d (by omega) (by omega)
    · exact fun r d => ld2 _ _ _ _ _ (win2 _) r d (by omega) (by omega)
    · exact fun i j => ld4 _ _ _ _ _ (ent2 _ 0) i j (by omega) (by omega)
    · exact fun i j => ld4 _ _ _ _ _ (ent2 _ 1) i j (by omega) (by omega)
    · exact fun i j => ld4 _ _ _ _ _ (ent2 _ 2) i j (by omega) (by omega)
    · exact fun i j => ld4 _ _ _ _ _ (ent2 _ 3) i j (by omega) (by omega)
    · exact fun i j => ld4 _ _ _ _ _ (ent2 _ 4) i j (by omega) (by omega)
    · exact fun r d => ld2 _ _ _ _ _ rfl r d (by omega) (by omega)
  case piece6 =>
    refine (show _ = headOut (score (mask (grid0.coords t)) (qk _ _) (biases _ _ _ _ _)) _ _ x from rfl).trans ?_
    refine piece m c t F 1 _ _ _ _ _ _ _ _ _ ?_ ?_ ?_ ?_ ?_ ?_ ?_ ?_ ?_ y x h0 h1
    · exact fun r d => ld2 _ _ _ _ _ rfl r d (by omega) (by omega)
    · exact fun r d => ld2 _ _ _ _ _ (win1 _) r d (by omega) (by omega)
    · exact fun r d => ld2 _ _ _ _ _ (win1 _) r d (by omega) (by omega)
    · exact fun i j => ld4 _ _ _ _ _ (ent1 _ 0) i j (by omega) (by omega)
    · exact fun i j => ld4 _ _ _ _ _ (ent1 _ 1) i j (by omega) (by omega)
    · exact fun i j => ld4 _ _ _ _ _ (ent1 _ 2) i j (by omega) (by omega)
    · exact fun i j => ld4 _ _ _ _ _ (ent1 _ 3) i j (by omega) (by omega)
    · exact fun i j => ld4 _ _ _ _ _ (ent1 _ 4) i j (by omega) (by omega)
    · exact fun r d => ld2 _ _ _ _ _ rfl r d (by omega) (by omega)
  case piece7 =>
    refine (show _ = headOut (score (mask (grid0.coords t)) (qk _ _) (biases _ _ _ _ _)) _ _ x from rfl).trans ?_
    refine piece m c t F 0 _ _ _ _ _ _ _ _ _ ?_ ?_ ?_ ?_ ?_ ?_ ?_ ?_ ?_ y x h0 (h1.trans (Nat.zero_add _).symm)
    · exact fun r d => ld2 _ _ _ _ _ rfl r d (by omega) (by omega)
    · exact fun r d => ld2 _ _ _ _ _ (win0 _) r d (by omega) (by omega)
    · exact fun r d => ld2 _ _ _ _ _ (win0 _) r d (by omega) (by omega)
    · exact fun i j => ld4 _ _ _ _ _ (ent0 _ 0) i j (by omega) (by omega)
    · exact fun i j => ld4 _ _ _ _ _ (ent0 _ 1) i j (by omega) (by omega)
    · exact fun i j => ld4 _ _ _ _ _ (ent0 _ 2) i j (by omega) (by omega)
    · exact fun i j => ld4 _ _ _ _ _ (ent0 _ 3) i j (by omega) (by omega)
    · exact fun i j => ld4 _ _ _ _ _ (ent0 _ 4) i j (by omega) (by omega)
    · exact fun r d => ld2 _ _ _ _ _ rfl r d (by omega) (by omega)

end Cert.SBand.Ker
-- ==== Proof.SBandFinal.lean ====
module

public import proofs.«01_k».proof.Defs
public import proofs.«01_k».proof.Proof.SBandPoint
public import proofs.«01_k».proof.Proof.SBandRef
public import proofs.«01_k».proof.Proof.Final
public import proofs.«01_k».proof.Proof.Gen.SampleBandIdeal.Value
public import proofs.«01_k».proof.Proof.Gen.SampleBandReferenceIdeal.Run
public import Idealize.ShloMosaic.Lib.ReduceAll

/-! The sample's band attention's array is the reference's, on finite queries, keys and bias. -/

@[expose] public section

set_option maxRecDepth 16384

noncomputable section

namespace Cert.SBand

open Idealize.ShloMosaic Idealize.ShloMosaic.TcCoe Idealize.SL.Sem

theorem preFacts : Cert.Pre_band_finite.Facts where
  slices_S9216x8192_S9216x4096_0_0 := by decide
  bitsLt_bf16_f32 := by decide
  bcast_S_S128x4096 := by decide
  reducesTo_S128x4096_S_d0_1 := by decide
  h_S_ := by decide
  bcast_S_S9216x4096 := by decide
  reducesTo_S9216x4096_S_d0_1 := by decide
  bcast_S_S32x129 := by decide
  reducesTo_S32x129_S_d0_1 := by decide

/-- The left half of the keys and values. -/
theorem slice_at (X : FVec Ideal Cert.SampleBandIdeal.S9216x8192 .bf16) (w : (⟨2, ![9216, 8192]⟩ : Shape).Slices ![0, 0] ⟨2, ![9216, 4096]⟩) (r : Fin 9216) (d : Fin 4096) :
    extractStridedSlice ⟨2, ![9216, 4096]⟩ ![0, 0] X w (ix2 r d) = X (ix2 r ⟨d, by omega⟩) := by
  refine congrArg X (funext fun z => Fin.ext ?_)
  match z with
  | ⟨0, _⟩ => exact Nat.zero_add _
  | ⟨1, _⟩ => exact Nat.zero_add _

section
open Cert.SampleBandIdeal

attribute [local instance] preFacts

variable (m : (ℓ : Loc nD τ sig) → Buf (Elt Ideal) ℓ)

theorem finite_of_pre (P : Cert.Pre_SampleBandIdeal_band_finite m) (c : Dev nD) :
    Ker.Finite (m ((c.tc : Thread nD τ).loc main_arg0)) (m ((c.tc : Thread nD τ).loc main_arg1)) (m ((c.tc : Thread nD τ).loc main_arg3)) := by
  have h := congrFun (P c) (fun i => i.elim0)
  unfold Cert.Pre_band_finite.fn at h
  obtain ⟨h, hb⟩ := IntOp.andi_eq_one.1 h
  obtain ⟨hq, hk⟩ := IntOp.andi_eq_one.1 h
  exact ⟨fun r d => Cert.Band.finite_of_olt _ (Host.reduce_andi_all _ _ _ _ _ hq (ix2 r d)),
    fun r d => by
      have h := Cert.Band.finite_of_olt _ (Host.reduce_andi_all _ _ _ _ _ hk (ix2 r d))
      exact (slice_at (m ((c.tc : Thread nD τ).loc main_arg1)) Cert.Pre_band_finite.Facts.slices_S9216x8192_S9216x4096_0_0 r d) ▸ h,
    fun h x => Cert.Band.finite_of_olt _ (Host.reduce_andi_all _ _ _ _ _ hb (ix2 h x))⟩

end

section
open Cert.SampleBandIdeal Cert.SampleBandIdeal.Gen

variable (m : (ℓ : Loc nD τ sig) → Buf (Elt Ideal) ℓ) (c : Dev nD)

/-- The array after the run. -/
theorem final
    (F : Ker.Finite (m ((c.tc : Thread nD τ).loc main_arg0)) (m ((c.tc : Thread nD τ).loc main_arg1)) (m ((c.tc : Thread nD τ).loc main_arg3))) :
    (dats m 0 c).arrAt 5 cfg0.N = Ref.REF (m ((c.tc : Thread nD τ).loc main_arg0)) (m ((c.tc : Thread nD τ).loc main_arg1))
      (m ((c.tc : Thread nD τ).loc main_arg3)) (m ((c.tc : Thread nD τ).loc main_arg2)) := by
  refine (dats m 0 c).arrAt_eq_of_covers 5 _ (by decide +kernel) fun t _ y => ?_
  blk_simp
  rw [after0_5]
  refine (Ker.point m c t F _).trans (congrArg _ ?_)
  blk_ext [Ker.idx t]

end

/-- The reference's run ends with every counter at zero. -/
theorem frame_ref (m : (ℓ : Loc Cert.SampleBandReferenceIdeal.nD Cert.SampleBandReferenceIdeal.τ Cert.SampleBandReferenceIdeal.sig) → Buf (Elt Ideal) ℓ) (g : Dev Cert.SampleBandReferenceIdeal.nD → PrngReg) :
    θ_run (Cert.SampleBandReferenceIdeal.defs (F := Ideal)) (onTc (τ := Cert.SampleBandReferenceIdeal.τ) (Cert.SampleBandReferenceIdeal.main (F := Ideal))) ⟨m, fun _ => 0, g⟩ (fun r => (∀ c : Dev Cert.SampleBandReferenceIdeal.nD,
      r.2.mem ((c.tc : Thread Cert.SampleBandReferenceIdeal.nD Cert.SampleBandReferenceIdeal.τ).loc Cert.SampleBandReferenceIdeal.main_arg0) = m ((c.tc : Thread Cert.SampleBandReferenceIdeal.nD Cert.SampleBandReferenceIdeal.τ).loc Cert.SampleBandReferenceIdeal.main_arg0)
      ∧ r.2.mem ((c.tc : Thread Cert.SampleBandReferenceIdeal.nD Cert.SampleBandReferenceIdeal.τ).loc Cert.SampleBandReferenceIdeal.main_arg1) = m ((c.tc : Thread Cert.SampleBandReferenceIdeal.nD Cert.SampleBandReferenceIdeal.τ).loc Cert.SampleBandReferenceIdeal.main_arg1)
      ∧ r.2.mem ((c.tc : Thread Cert.SampleBandReferenceIdeal.nD Cert.SampleBandReferenceIdeal.τ).loc Cert.SampleBandReferenceIdeal.main_arg2) = m ((c.tc : Thread Cert.SampleBandReferenceIdeal.nD Cert.SampleBandReferenceIdeal.τ).loc Cert.SampleBandReferenceIdeal.main_arg2)
      ∧ r.2.mem ((c.tc : Thread Cert.SampleBandReferenceIdeal.nD Cert.SampleBandReferenceIdeal.τ).loc Cert.SampleBandReferenceIdeal.main_arg3) = m ((c.tc : Thread Cert.SampleBandReferenceIdeal.nD Cert.SampleBandReferenceIdeal.τ).loc Cert.SampleBandReferenceIdeal.main_arg3))
      ∧ r.2.sem = fun _ => 0) :=
  (θ_run _ _ _).mono (fun r h => ⟨fun c => (h c).2, sem_eq_zero_of_no_sems (by decide) r.2⟩) (Cert.SampleBandReferenceIdeal.Value.run m g)

attribute [local instance] preFacts in
theorem algebraic : Cert.algebraic_SampleBandIdeal_SampleBandReferenceIdeal_pre_band_finite := by
  intro m g m' g' P hm
  refine ⟨fun c => Ref.REF (m ((c.tc : Thread Cert.SampleBandIdeal.nD Cert.SampleBandIdeal.τ).loc Cert.SampleBandIdeal.main_arg0))
      (m ((c.tc : Thread Cert.SampleBandIdeal.nD Cert.SampleBandIdeal.τ).loc Cert.SampleBandIdeal.main_arg1))
      (m ((c.tc : Thread Cert.SampleBandIdeal.nD Cert.SampleBandIdeal.τ).loc Cert.SampleBandIdeal.main_arg3))
      (m ((c.tc : Thread Cert.SampleBandIdeal.nD Cert.SampleBandIdeal.τ).loc Cert.SampleBandIdeal.main_arg2)), ?_, ?_⟩
  · exact (θ_run _ _ _).mono (fun r h c => ⟨(h c).1.trans (final m c (finite_of_pre m P c)), (h c).2⟩) (Cert.SampleBandIdeal.Value.run_blocks m g)
  · refine (θ_run _ _ _).mono (fun r h c => ⟨(h c).1.trans ?_, (h c).2⟩) (Cert.SampleBandReferenceIdeal.Value.run m' g')
    obtain ⟨h0, h1, h2, h3⟩ := hm c
    refine (Ref.res_eq m' c).trans ?_
    rw [h0, h1, h2, h3]

end Cert.SBand

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Final
public import proofs.«01_k».proof.Proof.EvenFin
public import proofs.«01_k».proof.Proof.MidFin
public import proofs.«01_k».proof.Proof.FinEq
public import proofs.«01_k».proof.Proof.SEvenFin
public import proofs.«01_k».proof.Proof.SMidFin
public import proofs.«01_k».proof.Proof.SFinEq
public import proofs.«01_k».proof.Proof.RowsEq
public import proofs.«01_k».proof.Proof.EvenRowsEq
public import proofs.«01_k».proof.Proof.SBandFinal
public import proofs.«01_k».proof.Proof.Gen.Even
public import proofs.«01_k».proof.Proof.Gen.Even.Frame
public import proofs.«01_k».proof.Proof.Gen.EvenIdeal
public import proofs.«01_k».proof.Proof.Gen.EvenIdeal.Frame
public import proofs.«01_k».proof.Proof.Gen.EvenReferenceIdeal
public import proofs.«01_k».proof.Proof.Gen.EvenReferenceIdeal.Run
public import proofs.«01_k».proof.Proof.Gen.Middle
public import proofs.«01_k».proof.Proof.Gen.MiddleIdeal
public import proofs.«01_k».proof.Proof.Gen.Middle.Frame
public import proofs.«01_k».proof.Proof.Gen.MiddleIdeal.Frame
public import proofs.«01_k».proof.Proof.Gen.MiddleReferenceIdeal
public import proofs.«01_k».proof.Proof.Gen.MiddleReferenceIdeal.Run
public import proofs.«01_k».proof.Proof.Gen.Final
public import proofs.«01_k».proof.Proof.Gen.FinalIdeal
public import proofs.«01_k».proof.Proof.Gen.Final.Frame
public import proofs.«01_k».proof.Proof.Gen.FinalIdeal.Frame
public import proofs.«01_k».proof.Proof.Gen.FinalReferenceIdeal
public import proofs.«01_k».proof.Proof.Gen.FinalReferenceIdeal.Run
public import proofs.«01_k».proof.Proof.Gen.SampleEven
public import proofs.«01_k».proof.Proof.Gen.SampleEven.Frame
public import proofs.«01_k».proof.Proof.Gen.SampleEvenIdeal
public import proofs.«01_k».proof.Proof.Gen.SampleEvenIdeal.Frame
public import proofs.«01_k».proof.Proof.Gen.SampleEvenReferenceIdeal
public import proofs.«01_k».proof.Proof.Gen.SampleEvenReferenceIdeal.Run
public import proofs.«01_k».proof.Proof.Gen.SampleMiddle
public import proofs.«01_k».proof.Proof.Gen.SampleMiddleIdeal
public import proofs.«01_k».proof.Proof.Gen.SampleMiddle.Frame
public import proofs.«01_k».proof.Proof.Gen.SampleMiddleIdeal.Frame
public import proofs.«01_k».proof.Proof.Gen.SampleMiddleReferenceIdeal
public import proofs.«01_k».proof.Proof.Gen.SampleMiddleReferenceIdeal.Run
public import proofs.«01_k».proof.Proof.Gen.SampleFinal
public import proofs.«01_k».proof.Proof.Gen.SampleFinalIdeal
public import proofs.«01_k».proof.Proof.Gen.SampleFinal.Frame
public import proofs.«01_k».proof.Proof.Gen.SampleFinalIdeal.Frame
public import proofs.«01_k».proof.Proof.Gen.SampleFinalReferenceIdeal
public import proofs.«01_k».proof.Proof.Gen.SampleFinalReferenceIdeal.Run
public import proofs.«01_k».proof.Proof.Gen.Rows
public import proofs.«01_k».proof.Proof.Gen.Rows.Frame
public import proofs.«01_k».proof.Proof.Gen.RowsIdeal
public import proofs.«01_k».proof.Proof.Gen.RowsIdeal.Frame
public import proofs.«01_k».proof.Proof.Gen.RowsIdeal.Value
public import proofs.«01_k».proof.Proof.Gen.RowsReferenceIdeal
public import proofs.«01_k».proof.Proof.Gen.RowsReferenceIdeal.Run
public import proofs.«01_k».proof.Proof.Gen.EvenRows
public import proofs.«01_k».proof.Proof.Gen.EvenRows.Frame
public import proofs.«01_k».proof.Proof.Gen.EvenRowsIdeal
public import proofs.«01_k».proof.Proof.Gen.EvenRowsIdeal.Frame
public import proofs.«01_k».proof.Proof.Gen.EvenRowsIdeal.Value
public import proofs.«01_k».proof.Proof.Gen.EvenRowsReferenceIdeal
public import proofs.«01_k».proof.Proof.Gen.EvenRowsReferenceIdeal.Run
public import proofs.«01_k».proof.Proof.Gen.SampleBand
public import proofs.«01_k».proof.Proof.Gen.SampleBand.Frame
public import proofs.«01_k».proof.Proof.Gen.SampleBandIdeal
public import proofs.«01_k».proof.Proof.Gen.SampleBandIdeal.Frame
public import proofs.«01_k».proof.Proof.Gen.SampleBandIdeal.Value
public import proofs.«01_k».proof.Proof.Gen.SampleBandReferenceIdeal
public import proofs.«01_k».proof.Proof.Gen.SampleBandReferenceIdeal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Even.Gen.facts, Cert.EvenIdeal.Gen.facts, Cert.EvenReferenceIdeal.Gen.facts,
    Cert.Middle.Gen.facts, Cert.MiddleIdeal.Gen.facts, Cert.MiddleReferenceIdeal.Gen.facts,
    Cert.Final.Gen.facts, Cert.FinalIdeal.Gen.facts, Cert.FinalReferenceIdeal.Gen.facts,
    Cert.SampleEven.Gen.facts, Cert.SampleEvenIdeal.Gen.facts, Cert.SampleEvenReferenceIdeal.Gen.facts,
    Cert.SampleMiddle.Gen.facts, Cert.SampleMiddleIdeal.Gen.facts, Cert.SampleMiddleReferenceIdeal.Gen.facts,
    Cert.SampleFinal.Gen.facts, Cert.SampleFinalIdeal.Gen.facts, Cert.SampleFinalReferenceIdeal.Gen.facts,
    Cert.Rows.Gen.facts, Cert.RowsIdeal.Gen.facts, Cert.RowsReferenceIdeal.Gen.facts,
    Cert.EvenRows.Gen.facts, Cert.EvenRowsIdeal.Gen.facts, Cert.EvenRowsReferenceIdeal.Gen.facts,
    Cert.SampleBand.Gen.facts, Cert.SampleBandIdeal.Gen.facts, Cert.SampleBandReferenceIdeal.Gen.facts,
    Cert.Band.preFacts, Cert.SBand.preFacts,
    fun m g _ => Cert.Kernel.Gen.frame m g, fun m g _ => Cert.KernelIdeal.Gen.frame m g, fun m g _ => Cert.KernelIdeal.Gen.frame m g,
    fun m g _ => Cert.Band.frame_ref m g, fun m g _ => Cert.Band.frame_ref m g,
    fun m g _ => Cert.Even.Gen.frame m g, fun m g _ => Cert.EvenIdeal.Gen.frame m g, fun m g _ => Cert.EvenV.frame_ref m g,
    fun m g _ => Cert.Middle.Gen.frame m g, fun m g _ => Cert.MiddleIdeal.Gen.frame m g, fun m g _ => Cert.Mid.frame_ref m g,
    fun m g _ => Cert.Final.Gen.frame m g, fun m g _ => Cert.FinalIdeal.Gen.frame m g, fun m g _ => Cert.Fin.frame_ref m g,
    fun m g _ => Cert.SampleEven.Gen.frame m g, fun m g _ => Cert.SampleEvenIdeal.Gen.frame m g, fun m g _ => Cert.SEven.frame_ref m g,
    fun m g _ => Cert.SampleMiddle.Gen.frame m g, fun m g _ => Cert.SampleMiddleIdeal.Gen.frame m g, fun m g _ => Cert.SMid.frame_ref m g,
    fun m g _ => Cert.SampleFinal.Gen.frame m g, fun m g _ => Cert.SampleFinalIdeal.Gen.frame m g, fun m g _ => Cert.SFin.frame_ref m g,
    fun m g _ => Cert.Rows.Gen.frame m g, fun m g _ => Cert.RowsIdeal.Gen.frame m g, fun m g _ => Cert.Rws.frame_ref m g,
    fun m g _ => Cert.EvenRows.Gen.frame m g, fun m g _ => Cert.EvenRowsIdeal.Gen.frame m g, fun m g _ => Cert.ERws.frame_ref m g,
    fun m g _ => Cert.SampleBand.Gen.frame m g, fun m g _ => Cert.SampleBandIdeal.Gen.frame m g, fun m g _ => Cert.SampleBandIdeal.Gen.frame m g,
    fun m g _ => Cert.SBand.frame_ref m g, fun m g _ => Cert.SBand.frame_ref m g,
    trivial, Cert.Band.algebraic,
    IdealRules.named_const.statement Cert.EvenIdeal.κ "q_scale" .f32 0x3E0293EE#32 ((((Real.sqrt 128) * (Real.log 2))⁻¹ : ℝ) : EReal) rfl,
    Cert.EvenV.algebraic,
    IdealRules.named_const.statement Cert.MiddleIdeal.κ "q_scale" .f32 0x3E0293EE#32 ((((Real.sqrt 128) * (Real.log 2))⁻¹ : ℝ) : EReal) rfl,
    Cert.Mid.algebraic,
    trivial,
    Cert.Fin.algebraic,
    IdealRules.named_const.statement Cert.SampleEvenIdeal.κ "q_scale" .f32 0x3E0293EE#32 ((((Real.sqrt 128) * (Real.log 2))⁻¹ : ℝ) : EReal) rfl,
    Cert.SEven.algebraic,
    IdealRules.named_const.statement Cert.SampleMiddleIdeal.κ "q_scale" .f32 0x3E0293EE#32 ((((Real.sqrt 128) * (Real.log 2))⁻¹ : ℝ) : EReal) rfl,
    Cert.SMid.algebraic,
    trivial,
    Cert.SFin.algebraic,
    trivial,
    Cert.Rws.algebraic,
    trivial,
    Cert.ERws.algebraic,
    trivial,
    Cert.SBand.algebraic⟩

end Cert.Proof

end
